-- ==== Defs.lean ====
def Pre_Mixer (m : (ℓ : Loc Cert.Mixer.nD Cert.Mixer.τ Cert.Mixer.sig) → Buf (Elt Bits) ℓ) : Prop :=
  True

def Pre_MixerIdeal (m : (ℓ : Loc Cert.MixerIdeal.nD Cert.MixerIdeal.τ Cert.MixerIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_InBwd (m : (ℓ : Loc Cert.InBwd.nD Cert.InBwd.τ Cert.InBwd.sig) → Buf (Elt Bits) ℓ) : Prop :=
  True

def Pre_InBwdIdeal (m : (ℓ : Loc Cert.InBwdIdeal.nD Cert.InBwdIdeal.τ Cert.InBwdIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_DwUp (m : (ℓ : Loc Cert.DwUp.nD Cert.DwUp.τ Cert.DwUp.sig) → Buf (Elt Bits) ℓ) : Prop :=
  True

def Pre_DwUpIdeal (m : (ℓ : Loc Cert.DwUpIdeal.nD Cert.DwUpIdeal.τ Cert.DwUpIdeal.sig) → Buf (Elt Ideal) ℓ) : Prop :=
  True

def Pre_DwUpRefIdeal (m : (ℓ : Loc Cert.DwUpRefIdeal.nD Cert.DwUpRefIdeal.τ Cert.DwUpRefIdeal.sig) → Buf (Elt Ideal) ℓ) : Prop :=
  True

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DwDownRefIdeal (m : (ℓ : Loc Cert.DwDownRefIdeal.nD Cert.DwDownRefIdeal.τ Cert.DwDownRefIdeal.sig) → Buf (Elt Ideal) ℓ) : Prop :=
  True

def Pre_AdaFwd (m : (ℓ : Loc Cert.AdaFwd.nD Cert.AdaFwd.τ Cert.AdaFwd.sig) → Buf (Elt Bits) ℓ) : Prop :=
  True

def Pre_AdaFwdIdeal (m : (ℓ : Loc Cert.AdaFwdIdeal.nD Cert.AdaFwdIdeal.τ Cert.AdaFwdIdeal.sig) → Buf (Elt Ideal) ℓ) : Prop :=
  True

def Pre_AdaFwdRefIdeal (m : (ℓ : Loc Cert.AdaFwdRefIdeal.nD Cert.AdaFwdRefIdeal.τ Cert.AdaFwdRefIdeal.sig) → Buf (Elt Ideal) ℓ) : Prop :=
  True

def Pre_AdaBwd (m : (ℓ : Loc Cert.AdaBwd.nD Cert.AdaBwd.τ Cert.AdaBwd.sig) → Buf (Elt Bits) ℓ) : Prop :=
  True

def Pre_AdaBwdIdeal (m : (ℓ : Loc Cert.AdaBwdIdeal.nD Cert.AdaBwdIdeal.τ Cert.AdaBwdIdeal.sig) → Buf (Elt Ideal) ℓ) : Prop :=
  True

def Pre_AdaBwdRefIdeal (m : (ℓ : Loc Cert.AdaBwdRefIdeal.nD Cert.AdaBwdRefIdeal.τ Cert.AdaBwdRefIdeal.sig) → Buf (Elt Ideal) ℓ) : Prop :=
  True

def Pre_AdamPool (m : (ℓ : Loc Cert.AdamPool.nD Cert.AdamPool.τ Cert.AdamPool.sig) → Buf (Elt Bits) ℓ) : Prop :=
  True

def Pre_AdamPoolIdeal (m : (ℓ : Loc Cert.AdamPoolIdeal.nD Cert.AdamPoolIdeal.τ Cert.AdamPoolIdeal.sig) → Buf (Elt Ideal) ℓ) : Prop :=
  True

def Pre_AdamPoolRefIdeal (m : (ℓ : Loc Cert.AdamPoolRefIdeal.nD Cert.AdamPoolRefIdeal.τ Cert.AdamPoolRefIdeal.sig) → Buf (Elt Ideal) ℓ) : Prop :=
  True

def Pre_AdamConv (m : (ℓ : Loc Cert.AdamConv.nD Cert.AdamConv.τ Cert.AdamConv.sig) → Buf (Elt Bits) ℓ) : Prop :=
  True

def Pre_AdamConvIdeal (m : (ℓ : Loc Cert.AdamConvIdeal.nD Cert.AdamConvIdeal.τ Cert.AdamConvIdeal.sig) → Buf (Elt Ideal) ℓ) : Prop :=
  True

def Pre_AdamConvRefIdeal (m : (ℓ : Loc Cert.AdamConvRefIdeal.nD Cert.AdamConvRefIdeal.τ Cert.AdamConvRefIdeal.sig) → Buf (Elt Ideal) ℓ) : Prop :=
  True

def Pre_AdamOut [hPre_on_mesh : Cert.Pre_on_mesh.Facts] (m : (ℓ : Loc Cert.AdamOut.nD Cert.AdamOut.τ Cert.AdamOut.sig) → Buf (Elt Bits) ℓ) : Prop :=
  ∀ c : Dev Cert.AdamOut.nD,
    (Cert.Pre_on_mesh.fn (F := Bits) (m ((c.tc : Thread Cert.AdamOut.nD Cert.AdamOut.τ).loc Cert.AdamOut.main_arg0)) (m ((c.tc : Thread Cert.AdamOut.nD Cert.AdamOut.τ).loc Cert.AdamOut.main_arg1)) (m ((c.tc : Thread Cert.AdamOut.nD Cert.AdamOut.τ).loc Cert.AdamOut.main_arg2)) (m ((c.tc : Thread Cert.AdamOut.nD Cert.AdamOut.τ).loc Cert.AdamOut.main_arg3)) (m ((c.tc : Thread Cert.AdamOut.nD Cert.AdamOut.τ).loc Cert.AdamOut.main_arg4)) (m ((c.tc : Thread Cert.AdamOut.nD Cert.AdamOut.τ).loc Cert.AdamOut.main_arg5))) = (fun _ => 1#1)

def Pre_AdamOutIdeal [hPre_on_mesh : Cert.Pre_on_mesh.Facts] (m : (ℓ : Loc Cert.AdamOutIdeal.nD Cert.AdamOutIdeal.τ Cert.AdamOutIdeal.sig) → Buf (Elt Ideal) ℓ) : Prop :=
  ∀ c : Dev Cert.AdamOutIdeal.nD,
    (Cert.Pre_on_mesh.fn (F := Ideal) (m ((c.tc : Thread Cert.AdamOutIdeal.nD Cert.AdamOutIdeal.τ).loc Cert.AdamOutIdeal.main_arg0)) (m ((c.tc : Thread Cert.AdamOutIdeal.nD Cert.AdamOutIdeal.τ).loc Cert.AdamOutIdeal.main_arg1)) (m ((c.tc : Thread Cert.AdamOutIdeal.nD Cert.AdamOutIdeal.τ).loc Cert.AdamOutIdeal.main_arg2)) (m ((c.tc : Thread Cert.AdamOutIdeal.nD Cert.AdamOutIdeal.τ).loc Cert.AdamOutIdeal.main_arg3)) (m ((c.tc : Thread Cert.AdamOutIdeal.nD Cert.AdamOutIdeal.τ).loc Cert.AdamOutIdeal.main_arg4)) (m ((c.tc : Thread Cert.AdamOutIdeal.nD Cert.AdamOutIdeal.τ).loc Cert.AdamOutIdeal.main_arg5))) = (fun _ => 1#1)

def Pre_AdamOutRefIdeal (m : (ℓ : Loc Cert.AdamOutRefIdeal.nD Cert.AdamOutRefIdeal.τ Cert.AdamOutRefIdeal.sig) → Buf (Elt Ideal) ℓ) : Prop :=
  True

def Pre_AdamOutRefIdeal_on_mesh [hPre_on_mesh : Cert.Pre_on_mesh.Facts] (m : (ℓ : Loc Cert.AdamOutRefIdeal.nD Cert.AdamOutRefIdeal.τ Cert.AdamOutRefIdeal.sig) → Buf (Elt Ideal) ℓ) : Prop :=
  ∀ c : Dev Cert.AdamOutRefIdeal.nD,
    (Cert.Pre_on_mesh.fn (F := Ideal) (m ((c.tc : Thread Cert.AdamOutRefIdeal.nD Cert.AdamOutRefIdeal.τ).loc Cert.AdamOutRefIdeal.main_arg0)) (m ((c.tc : Thread Cert.AdamOutRefIdeal.nD Cert.AdamOutRefIdeal.τ).loc Cert.AdamOutRefIdeal.main_arg1)) (m ((c.tc : Thread Cert.AdamOutRefIdeal.nD Cert.AdamOutRefIdeal.τ).loc Cert.AdamOutRefIdeal.main_arg2)) (m ((c.tc : Thread Cert.AdamOutRefIdeal.nD Cert.AdamOutRefIdeal.τ).loc Cert.AdamOutRefIdeal.main_arg3)) (m ((c.tc : Thread Cert.AdamOutRefIdeal.nD Cert.AdamOutRefIdeal.τ).loc Cert.AdamOutRefIdeal.main_arg4)) (m ((c.tc : Thread Cert.AdamOutRefIdeal.nD Cert.AdamOutRefIdeal.τ).loc Cert.AdamOutRefIdeal.main_arg5))) = (fun _ => 1#1)

def Pre_AdamUp [hPre_on_mesh_up : Cert.Pre_on_mesh_up.Facts] (m : (ℓ : Loc Cert.AdamUp.nD Cert.AdamUp.τ Cert.AdamUp.sig) → Buf (Elt Bits) ℓ) : Prop :=
  ∀ c : Dev Cert.AdamUp.nD,
    (Cert.Pre_on_mesh_up.fn (F := Bits) (m ((c.tc : Thread Cert.AdamUp.nD Cert.AdamUp.τ).loc Cert.AdamUp.main_arg0)) (m ((c.tc : Thread Cert.AdamUp.nD Cert.AdamUp.τ).loc Cert.AdamUp.main_arg1)) (m ((c.tc : Thread Cert.AdamUp.nD Cert.AdamUp.τ).loc Cert.AdamUp.main_arg2)) (m ((c.tc : Thread Cert.AdamUp.nD Cert.AdamUp.τ).loc Cert.AdamUp.main_arg3)) (m ((c.tc : Thread Cert.AdamUp.nD Cert.AdamUp.τ).loc Cert.AdamUp.main_arg4)) (m ((c.tc : Thread Cert.AdamUp.nD Cert.AdamUp.τ).loc Cert.AdamUp.main_arg5))) = (fun _ => 1#1)

def Pre_AdamUpIdeal [hPre_on_mesh_up : Cert.Pre_on_mesh_up.Facts] (m : (ℓ : Loc Cert.AdamUpIdeal.nD Cert.AdamUpIdeal.τ Cert.AdamUpIdeal.sig) → Buf (Elt Ideal) ℓ) : Prop :=
  ∀ c : Dev Cert.AdamUpIdeal.nD,
    (Cert.Pre_on_mesh_up.fn (F := Ideal) (m ((c.tc : Thread Cert.AdamUpIdeal.nD Cert.AdamUpIdeal.τ).loc Cert.AdamUpIdeal.main_arg0)) (m ((c.tc : Thread Cert.AdamUpIdeal.nD Cert.AdamUpIdeal.τ).loc Cert.AdamUpIdeal.main_arg1)) (m ((c.tc : Thread Cert.AdamUpIdeal.nD Cert.AdamUpIdeal.τ).loc Cert.AdamUpIdeal.main_arg2)) (m ((c.tc : Thread Cert.AdamUpIdeal.nD Cert.AdamUpIdeal.τ).loc Cert.AdamUpIdeal.main_arg3)) (m ((c.tc : Thread Cert.AdamUpIdeal.nD Cert.AdamUpIdeal.τ).loc Cert.AdamUpIdeal.main_arg4)) (m ((c.tc : Thread Cert.AdamUpIdeal.nD Cert.AdamUpIdeal.τ).loc Cert.AdamUpIdeal.main_arg5))) = (fun _ => 1#1)

def Pre_AdamUpRefIdeal (m : (ℓ : Loc Cert.AdamUpRefIdeal.nD Cert.AdamUpRefIdeal.τ Cert.AdamUpRefIdeal.sig) → Buf (Elt Ideal) ℓ) : Prop :=
  True

def Pre_AdamUpRefIdeal_on_mesh_up [hPre_on_mesh_up : Cert.Pre_on_mesh_up.Facts] (m : (ℓ : Loc Cert.AdamUpRefIdeal.nD Cert.AdamUpRefIdeal.τ Cert.AdamUpRefIdeal.sig) → Buf (Elt Ideal) ℓ) : Prop :=
  ∀ c : Dev Cert.AdamUpRefIdeal.nD,
    (Cert.Pre_on_mesh_up.fn (F := Ideal) (m ((c.tc : Thread Cert.AdamUpRefIdeal.nD Cert.AdamUpRefIdeal.τ).loc Cert.AdamUpRefIdeal.main_arg0)) (m ((c.tc : Thread Cert.AdamUpRefIdeal.nD Cert.AdamUpRefIdeal.τ).loc Cert.AdamUpRefIdeal.main_arg1)) (m ((c.tc : Thread Cert.AdamUpRefIdeal.nD Cert.AdamUpRefIdeal.τ).loc Cert.AdamUpRefIdeal.main_arg2)) (m ((c.tc : Thread Cert.AdamUpRefIdeal.nD Cert.AdamUpRefIdeal.τ).loc Cert.AdamUpRefIdeal.main_arg3)) (m ((c.tc : Thread Cert.AdamUpRefIdeal.nD Cert.AdamUpRefIdeal.τ).loc Cert.AdamUpRefIdeal.main_arg4)) (m ((c.tc : Thread Cert.AdamUpRefIdeal.nD Cert.AdamUpRefIdeal.τ).loc Cert.AdamUpRefIdeal.main_arg5))) = (fun _ => 1#1)

def Pre_AdamDown [hPre_on_mesh_down : Cert.Pre_on_mesh_down.Facts] (m : (ℓ : Loc Cert.AdamDown.nD Cert.AdamDown.τ Cert.AdamDown.sig) → Buf (Elt Bits) ℓ) : Prop :=
  ∀ c : Dev Cert.AdamDown.nD,
    (Cert.Pre_on_mesh_down.fn (F := Bits) (m ((c.tc : Thread Cert.AdamDown.nD Cert.AdamDown.τ).loc Cert.AdamDown.main_arg0)) (m ((c.tc : Thread Cert.AdamDown.nD Cert.AdamDown.τ).loc Cert.AdamDown.main_arg1)) (m ((c.tc : Thread Cert.AdamDown.nD Cert.AdamDown.τ).loc Cert.AdamDown.main_arg2)) (m ((c.tc : Thread Cert.AdamDown.nD Cert.AdamDown.τ).loc Cert.AdamDown.main_arg3)) (m ((c.tc : Thread Cert.AdamDown.nD Cert.AdamDown.τ).loc Cert.AdamDown.main_arg4)) (m ((c.tc : Thread Cert.AdamDown.nD Cert.AdamDown.τ).loc Cert.AdamDown.main_arg5))) = (fun _ => 1#1)

def Pre_AdamDownIdeal [hPre_on_mesh_down : Cert.Pre_on_mesh_down.Facts] (m : (ℓ : Loc Cert.AdamDownIdeal.nD Cert.AdamDownIdeal.τ Cert.AdamDownIdeal.sig) → Buf (Elt Ideal) ℓ) : Prop :=
  ∀ c : Dev Cert.AdamDownIdeal.nD,
    (Cert.Pre_on_mesh_down.fn (F := Ideal) (m ((c.tc : Thread Cert.AdamDownIdeal.nD Cert.AdamDownIdeal.τ).loc Cert.AdamDownIdeal.main_arg0)) (m ((c.tc : Thread Cert.AdamDownIdeal.nD Cert.AdamDownIdeal.τ).loc Cert.AdamDownIdeal.main_arg1)) (m ((c.tc : Thread Cert.AdamDownIdeal.nD Cert.AdamDownIdeal.τ).loc Cert.AdamDownIdeal.main_arg2)) (m ((c.tc : Thread Cert.AdamDownIdeal.nD Cert.AdamDownIdeal.τ).loc Cert.AdamDownIdeal.main_arg3)) (m ((c.tc : Thread Cert.AdamDownIdeal.nD Cert.AdamDownIdeal.τ).loc Cert.AdamDownIdeal.main_arg4)) (m ((c.tc : Thread Cert.AdamDownIdeal.nD Cert.AdamDownIdeal.τ).loc Cert.AdamDownIdeal.main_arg5))) = (fun _ => 1#1)

def Pre_AdamDownRefIdeal (m : (ℓ : Loc Cert.AdamDownRefIdeal.nD Cert.AdamDownRefIdeal.τ Cert.AdamDownRefIdeal.sig) → Buf (Elt Ideal) ℓ) : Prop :=
  True

def Pre_AdamDownRefIdeal_on_mesh_down [hPre_on_mesh_down : Cert.Pre_on_mesh_down.Facts] (m : (ℓ : Loc Cert.AdamDownRefIdeal.nD Cert.AdamDownRefIdeal.τ Cert.AdamDownRefIdeal.sig) → Buf (Elt Ideal) ℓ) : Prop :=
  ∀ c : Dev Cert.AdamDownRefIdeal.nD,
    (Cert.Pre_on_mesh_down.fn (F := Ideal) (m ((c.tc : Thread Cert.AdamDownRefIdeal.nD Cert.AdamDownRefIdeal.τ).loc Cert.AdamDownRefIdeal.main_arg0)) (m ((c.tc : Thread Cert.AdamDownRefIdeal.nD Cert.AdamDownRefIdeal.τ).loc Cert.AdamDownRefIdeal.main_arg1)) (m ((c.tc : Thread Cert.AdamDownRefIdeal.nD Cert.AdamDownRefIdeal.τ).loc Cert.AdamDownRefIdeal.main_arg2)) (m ((c.tc : Thread Cert.AdamDownRefIdeal.nD Cert.AdamDownRefIdeal.τ).loc Cert.AdamDownRefIdeal.main_arg3)) (m ((c.tc : Thread Cert.AdamDownRefIdeal.nD Cert.AdamDownRefIdeal.τ).loc Cert.AdamDownRefIdeal.main_arg4)) (m ((c.tc : Thread Cert.AdamDownRefIdeal.nD Cert.AdamDownRefIdeal.τ).loc Cert.AdamDownRefIdeal.main_arg5))) = (fun _ => 1#1)

def Pre_AdamIn [hPre_on_mesh_in : Cert.Pre_on_mesh_in.Facts] (m : (ℓ : Loc Cert.AdamIn.nD Cert.AdamIn.τ Cert.AdamIn.sig) → Buf (Elt Bits) ℓ) : Prop :=
  ∀ c : Dev Cert.AdamIn.nD,
    (Cert.Pre_on_mesh_in.fn (F := Bits) (m ((c.tc : Thread Cert.AdamIn.nD Cert.AdamIn.τ).loc Cert.AdamIn.main_arg0)) (m ((c.tc : Thread Cert.AdamIn.nD Cert.AdamIn.τ).loc Cert.AdamIn.main_arg1)) (m ((c.tc : Thread Cert.AdamIn.nD Cert.AdamIn.τ).loc Cert.AdamIn.main_arg2)) (m ((c.tc : Thread Cert.AdamIn.nD Cert.AdamIn.τ).loc Cert.AdamIn.main_arg3)) (m ((c.tc : Thread Cert.AdamIn.nD Cert.AdamIn.τ).loc Cert.AdamIn.main_arg4)) (m ((c.tc : Thread Cert.AdamIn.nD Cert.AdamIn.τ).loc Cert.AdamIn.main_arg5))) = (fun _ => 1#1)

def Pre_AdamInIdeal [hPre_on_mesh_in : Cert.Pre_on_mesh_in.Facts] (m : (ℓ : Loc Cert.AdamInIdeal.nD Cert.AdamInIdeal.τ Cert.AdamInIdeal.sig) → Buf (Elt Ideal) ℓ) : Prop :=
  ∀ c : Dev Cert.AdamInIdeal.nD,
    (Cert.Pre_on_mesh_in.fn (F := Ideal) (m ((c.tc : Thread Cert.AdamInIdeal.nD Cert.AdamInIdeal.τ).loc Cert.AdamInIdeal.main_arg0)) (m ((c.tc : Thread Cert.AdamInIdeal.nD Cert.AdamInIdeal.τ).loc Cert.AdamInIdeal.main_arg1)) (m ((c.tc : Thread Cert.AdamInIdeal.nD Cert.AdamInIdeal.τ).loc Cert.AdamInIdeal.main_arg2)) (m ((c.tc : Thread Cert.AdamInIdeal.nD Cert.AdamInIdeal.τ).loc Cert.AdamInIdeal.main_arg3)) (m ((c.tc : Thread Cert.AdamInIdeal.nD Cert.AdamInIdeal.τ).loc Cert.AdamInIdeal.main_arg4)) (m ((c.tc : Thread Cert.AdamInIdeal.nD Cert.AdamInIdeal.τ).loc Cert.AdamInIdeal.main_arg5))) = (fun _ => 1#1)

def Pre_AdamInRefIdeal (m : (ℓ : Loc Cert.AdamInRefIdeal.nD Cert.AdamInRefIdeal.τ Cert.AdamInRefIdeal.sig) → Buf (Elt Ideal) ℓ) : Prop :=
  True

def Pre_AdamInRefIdeal_on_mesh_in [hPre_on_mesh_in : Cert.Pre_on_mesh_in.Facts] (m : (ℓ : Loc Cert.AdamInRefIdeal.nD Cert.AdamInRefIdeal.τ Cert.AdamInRefIdeal.sig) → Buf (Elt Ideal) ℓ) : Prop :=
  ∀ c : Dev Cert.AdamInRefIdeal.nD,
    (Cert.Pre_on_mesh_in.fn (F := Ideal) (m ((c.tc : Thread Cert.AdamInRefIdeal.nD Cert.AdamInRefIdeal.τ).loc Cert.AdamInRefIdeal.main_arg0)) (m ((c.tc : Thread Cert.AdamInRefIdeal.nD Cert.AdamInRefIdeal.τ).loc Cert.AdamInRefIdeal.main_arg1)) (m ((c.tc : Thread Cert.AdamInRefIdeal.nD Cert.AdamInRefIdeal.τ).loc Cert.AdamInRefIdeal.main_arg2)) (m ((c.tc : Thread Cert.AdamInRefIdeal.nD Cert.AdamInRefIdeal.τ).loc Cert.AdamInRefIdeal.main_arg3)) (m ((c.tc : Thread Cert.AdamInRefIdeal.nD Cert.AdamInRefIdeal.τ).loc Cert.AdamInRefIdeal.main_arg4)) (m ((c.tc : Thread Cert.AdamInRefIdeal.nD Cert.AdamInRefIdeal.τ).loc Cert.AdamInRefIdeal.main_arg5))) = (fun _ => 1#1)

def quiescent_Mixer [hMixer : Cert.Mixer.Facts] : Prop :=
  ∀ (m : (ℓ : Loc Cert.Mixer.nD Cert.Mixer.τ Cert.Mixer.sig) → Buf (Elt Bits) ℓ) (g : Dev Cert.Mixer.nD → PrngReg), Pre_Mixer m →
    θ_run (Cert.Mixer.defs (F := Bits)) (onTc (τ := Cert.Mixer.τ) (Cert.Mixer.main (F := Bits))) ⟨m, fun _ => 0, g⟩ (fun r => (∀ c : Dev Cert.Mixer.nD,
      r.2.mem ((c.tc : Thread Cert.Mixer.nD Cert.Mixer.τ).loc Cert.Mixer.main_arg0) = m ((c.tc : Thread Cert.Mixer.nD Cert.Mixer.τ).loc Cert.Mixer.main_arg0)
      ∧ r.2.mem ((c.tc : Thread Cert.Mixer.nD Cert.Mixer.τ).loc Cert.Mixer.main_arg1) = m ((c.tc : Thread Cert.Mixer.nD Cert.Mixer.τ).loc Cert.Mixer.main_arg1)
      ∧ r.2.mem ((c.tc : Thread Cert.Mixer.nD Cert.Mixer.τ).loc Cert.Mixer.main_arg2) = m ((c.tc : Thread Cert.Mixer.nD Cert.Mixer.τ).loc Cert.Mixer.main_arg2)
      ∧ r.2.mem ((c.tc : Thread Cert.Mixer.nD Cert.Mixer.τ).loc Cert.Mixer.main_arg3) = m ((c.tc : Thread Cert.Mixer.nD Cert.Mixer.τ).loc Cert.Mixer.main_arg3)
      ∧ r.2.mem ((c.tc : Thread Cert.Mixer.nD Cert.Mixer.τ).loc Cert.Mixer.main_arg4) = m ((c.tc : Thread Cert.Mixer.nD Cert.Mixer.τ).loc Cert.Mixer.main_arg4)
      ∧ r.2.mem ((c.tc : Thread Cert.Mixer.nD Cert.Mixer.τ).loc Cert.Mixer.main_arg5) = m ((c.tc : Thread Cert.Mixer.nD Cert.Mixer.τ).loc Cert.Mixer.main_arg5)
      ∧ r.2.mem ((c.tc : Thread Cert.Mixer.nD Cert.Mixer.τ).loc Cert.Mixer.main_arg6) = m ((c.tc : Thread Cert.Mixer.nD Cert.Mixer.τ).loc Cert.Mixer.main_arg6)
      ∧ r.2.mem ((c.tc : Thread Cert.Mixer.nD Cert.Mixer.τ).loc Cert.Mixer.main_arg7) = m ((c.tc : Thread Cert.Mixer.nD Cert.Mixer.τ).loc Cert.Mixer.main_arg7)
      ∧ r.2.mem ((c.tc : Thread Cert.Mixer.nD Cert.Mixer.τ).loc Cert.Mixer.main_arg8) = m ((c.tc : Thread Cert.Mixer.nD Cert.Mixer.τ).loc Cert.Mixer.main_arg8)
      ∧ r.2.mem ((c.tc : Thread Cert.Mixer.nD Cert.Mixer.τ).loc Cert.Mixer.main_arg9) = m ((c.tc : Thread Cert.Mixer.nD Cert.Mixer.τ).loc Cert.Mixer.main_arg9))
      ∧ r.2.sem = fun _ => 0)

def quiescent_MixerIdeal [hMixerIdeal : Cert.MixerIdeal.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
      ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
      ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
      ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5)
      ∧ r.2.mem ((c.tc : Thread Cert.Mlp.nD Cert.Mlp.τ).loc Cert.Mlp.main_arg6) = m ((c.tc : Thread Cert.Mlp.nD Cert.Mlp.τ).loc Cert.Mlp.main_arg6)
      ∧ r.2.mem ((c.tc : Thread Cert.Mlp.nD Cert.Mlp.τ).loc Cert.Mlp.main_arg7) = m ((c.tc : Thread Cert.Mlp.nD Cert.Mlp.τ).loc Cert.Mlp.main_arg7)
      ∧ r.2.mem ((c.tc : Thread Cert.Mlp.nD Cert.Mlp.τ).loc Cert.Mlp.main_arg8) = m ((c.tc : Thread Cert.Mlp.nD Cert.Mlp.τ).loc Cert.Mlp.main_arg8))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
      ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
      ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5)
      ∧ r.2.mem ((c.tc : Thread Cert.MlpRefIdeal.nD Cert.MlpRefIdeal.τ).loc Cert.MlpRefIdeal.main_arg6) = m ((c.tc : Thread Cert.MlpRefIdeal.nD Cert.MlpRefIdeal.τ).loc Cert.MlpRefIdeal.main_arg6)
      ∧ r.2.mem ((c.tc : Thread Cert.MlpRefIdeal.nD Cert.MlpRefIdeal.τ).loc Cert.MlpRefIdeal.main_arg7) = m ((c.tc : Thread Cert.MlpRefIdeal.nD Cert.MlpRefIdeal.τ).loc Cert.MlpRefIdeal.main_arg7)
      ∧ r.2.mem ((c.tc : Thread Cert.MlpRefIdeal.nD Cert.MlpRefIdeal.τ).loc Cert.MlpRefIdeal.main_arg8) = m ((c.tc : Thread Cert.MlpRefIdeal.nD Cert.MlpRefIdeal.τ).loc Cert.MlpRefIdeal.main_arg8))
      ∧ r.2.sem = fun _ => 0)

def quiescent_InBwd [hInBwd : Cert.InBwd.Facts] : Prop :=
  ∀ (m : (ℓ : Loc Cert.InBwd.nD Cert.InBwd.τ Cert.InBwd.sig) → Buf (Elt Bits) ℓ) (g : Dev Cert.InBwd.nD → PrngReg), Pre_InBwd m →
    θ_run (Cert.InBwd.defs (F := Bits)) (onTc (τ := Cert.InBwd.τ) (Cert.InBwd.main (F := Bits))) ⟨m, fun _ => 0, g⟩ (fun r => (∀ c : Dev Cert.InBwd.nD,
      r.2.mem ((c.tc : Thread Cert.InBwd.nD Cert.InBwd.τ).loc Cert.InBwd.main_arg0) = m ((c.tc : Thread Cert.InBwd.nD Cert.InBwd.τ).loc Cert.InBwd.main_arg0)
      ∧ r.2.mem ((c.tc : Thread Cert.InBwd.nD Cert.InBwd.τ).loc Cert.InBwd.main_arg1) = m ((c.tc : Thread Cert.InBwd.nD Cert.InBwd.τ).loc Cert.InBwd.main_arg1)
      ∧ r.2.mem ((c.tc : Thread Cert.InBwd.nD Cert.InBwd.τ).loc Cert.InBwd.main_arg2) = m ((c.tc : Thread Cert.InBwd.nD Cert.InBwd.τ).loc Cert.InBwd.main_arg2)
      ∧ r.2.mem ((c.tc : Thread Cert.InBwd.nD Cert.InBwd.τ).loc Cert.InBwd.main_arg3) = m ((c.tc : Thread Cert.InBwd.nD Cert.InBwd.τ).loc Cert.InBwd.main_arg3)
      ∧ r.2.mem ((c.tc : Thread Cert.InBwd.nD Cert.InBwd.τ).loc Cert.InBwd.main_arg4) = m ((c.tc : Thread Cert.InBwd.nD Cert.InBwd.τ).loc Cert.InBwd.main_arg4)
      ∧ r.2.mem ((c.tc : Thread Cert.InBwd.nD Cert.InBwd.τ).loc Cert.InBwd.main_arg5) = m ((c.tc : Thread Cert.InBwd.nD Cert.InBwd.τ).loc Cert.InBwd.main_arg5)
      ∧ r.2.mem ((c.tc : Thread Cert.InBwd.nD Cert.InBwd.τ).loc Cert.InBwd.main_arg6) = m ((c.tc : Thread Cert.InBwd.nD Cert.InBwd.τ).loc Cert.InBwd.main_arg6)
      ∧ r.2.mem ((c.tc : Thread Cert.InBwd.nD Cert.InBwd.τ).loc Cert.InBwd.main_arg7) = m ((c.tc : Thread Cert.InBwd.nD Cert.InBwd.τ).loc Cert.InBwd.main_arg7))
      ∧ r.2.sem = fun _ => 0)

def quiescent_InBwdIdeal [hInBwdIdeal : Cert.InBwdIdeal.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
      ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5)
      ∧ r.2.mem ((c.tc : Thread Cert.InBwdIdeal.nD Cert.InBwdIdeal.τ).loc Cert.InBwdIdeal.main_arg6) = m ((c.tc : Thread Cert.InBwdIdeal.nD Cert.InBwdIdeal.τ).loc Cert.InBwdIdeal.main_arg6)
      ∧ r.2.mem ((c.tc : Thread Cert.InBwdIdeal.nD Cert.InBwdIdeal.τ).loc Cert.InBwdIdeal.main_arg7) = m ((c.tc : Thread Cert.InBwdIdeal.nD Cert.InBwdIdeal.τ).loc Cert.InBwdIdeal.main_arg7))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4)
      ∧ r.2.mem ((c.tc : Thread Cert.InRefIdeal.nD Cert.InRefIdeal.τ).loc Cert.InRefIdeal.main_arg5) = m ((c.tc : Thread Cert.InRefIdeal.nD Cert.InRefIdeal.τ).loc Cert.InRefIdeal.main_arg5)
      ∧ r.2.mem ((c.tc : Thread Cert.InRefIdeal.nD Cert.InRefIdeal.τ).loc Cert.InRefIdeal.main_arg6) = m ((c.tc : Thread Cert.InRefIdeal.nD Cert.InRefIdeal.τ).loc Cert.InRefIdeal.main_arg6)
      ∧ r.2.mem ((c.tc : Thread Cert.InRefIdeal.nD Cert.InRefIdeal.τ).loc Cert.InRefIdeal.main_arg7) = m ((c.tc : Thread Cert.InRefIdeal.nD Cert.InRefIdeal.τ).loc Cert.InRefIdeal.main_arg7))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1))
      ∧ r.2.sem = fun _ => 0)

def quiescent_DwUp [hDwUp : Cert.DwUp.Facts] : Prop :=
  ∀ (m : (ℓ : Loc Cert.DwUp.nD Cert.DwUp.τ Cert.DwUp.sig) → Buf (Elt Bits) ℓ) (g : Dev Cert.DwUp.nD → PrngReg), Pre_DwUp m →
    θ_run (Cert.DwUp.defs (F := Bits)) (onTc (τ := Cert.DwUp.τ) (Cert.DwUp.main (F := Bits))) ⟨m, fun _ => 0, g⟩ (fun r => (∀ c : Dev Cert.DwUp.nD,
      r.2.mem ((c.tc : Thread Cert.DwUp.nD Cert.DwUp.τ).loc Cert.DwUp.main_arg0) = m ((c.tc : Thread Cert.DwUp.nD Cert.DwUp.τ).loc Cert.DwUp.main_arg0)
      ∧ r.2.mem ((c.tc : Thread Cert.DwUp.nD Cert.DwUp.τ).loc Cert.DwUp.main_arg1) = m ((c.tc : Thread Cert.DwUp.nD Cert.DwUp.τ).loc Cert.DwUp.main_arg1))
      ∧ r.2.sem = fun _ => 0)

def quiescent_DwUpIdeal [hDwUpIdeal : Cert.DwUpIdeal.Facts] : Prop :=
  ∀ (m : (ℓ : Loc Cert.DwUpIdeal.nD Cert.DwUpIdeal.τ Cert.DwUpIdeal.sig) → Buf (Elt Ideal) ℓ) (g : Dev Cert.DwUpIdeal.nD → PrngReg), Pre_DwUpIdeal m →
    θ_run (Cert.DwUpIdeal.defs (F := Ideal)) (onTc (τ := Cert.DwUpIdeal.τ) (Cert.DwUpIdeal.main (F := Ideal))) ⟨m, fun _ => 0, g⟩ (fun r => (∀ c : Dev Cert.DwUpIdeal.nD,
      r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
      ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ r.2.sem = fun _ => 0)

def quiescent_DwUpRefIdeal [hDwUpRefIdeal : Cert.DwUpRefIdeal.Facts] : Prop :=
  ∀ (m : (ℓ : Loc Cert.DwUpRefIdeal.nD Cert.DwUpRefIdeal.τ Cert.DwUpRefIdeal.sig) → Buf (Elt Ideal) ℓ) (g : Dev Cert.DwUpRefIdeal.nD → PrngReg), Pre_DwUpRefIdeal m →
    θ_run (Cert.DwUpRefIdeal.defs (F := Ideal)) (onTc (τ := Cert.DwUpRefIdeal.τ) (Cert.DwUpRefIdeal.main (F := Ideal))) ⟨m, fun _ => 0, g⟩ (fun r => (∀ c : Dev Cert.DwUpRefIdeal.nD,
      r.2.mem ((c.tc : Thread Cert.DwUpRefIdeal.nD Cert.DwUpRefIdeal.τ).loc Cert.DwUpRefIdeal.main_arg0) = m ((c.tc : Thread Cert.DwUpRefIdeal.nD Cert.DwUpRefIdeal.τ).loc Cert.DwUpRefIdeal.main_arg0)
      ∧ r.2.mem ((c.tc : Thread Cert.DwUpRefIdeal.nD Cert.DwUpRefIdeal.τ).loc Cert.DwUpRefIdeal.main_arg1) = m ((c.tc : Thread Cert.DwUpRefIdeal.nD Cert.DwUpRefIdeal.τ).loc Cert.DwUpRefIdeal.main_arg1))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ r.2.sem = fun _ => 0)

def quiescent_DwDownRefIdeal [hDwDownRefIdeal : Cert.DwDownRefIdeal.Facts] : Prop :=
  ∀ (m : (ℓ : Loc Cert.DwDownRefIdeal.nD Cert.DwDownRefIdeal.τ Cert.DwDownRefIdeal.sig) → Buf (Elt Ideal) ℓ) (g : Dev Cert.DwDownRefIdeal.nD → PrngReg), Pre_DwDownRefIdeal m →
    θ_run (Cert.DwDownRefIdeal.defs (F := Ideal)) (onTc (τ := Cert.DwDownRefIdeal.τ) (Cert.DwDownRefIdeal.main (F := Ideal))) ⟨m, fun _ => 0, g⟩ (fun r => (∀ c : Dev Cert.DwDownRefIdeal.nD,
      r.2.mem ((c.tc : Thread Cert.DwDownRefIdeal.nD Cert.DwDownRefIdeal.τ).loc Cert.DwDownRefIdeal.main_arg0) = m ((c.tc : Thread Cert.DwDownRefIdeal.nD Cert.DwDownRefIdeal.τ).loc Cert.DwDownRefIdeal.main_arg0)
      ∧ r.2.mem ((c.tc : Thread Cert.DwDownRefIdeal.nD Cert.DwDownRefIdeal.τ).loc Cert.DwDownRefIdeal.main_arg1) = m ((c.tc : Thread Cert.DwDownRefIdeal.nD Cert.DwDownRefIdeal.τ).loc Cert.DwDownRefIdeal.main_arg1))
      ∧ r.2.sem = fun _ => 0)

def quiescent_AdaFwd [hAdaFwd : Cert.AdaFwd.Facts] : Prop :=
  ∀ (m : (ℓ : Loc Cert.AdaFwd.nD Cert.AdaFwd.τ Cert.AdaFwd.sig) → Buf (Elt Bits) ℓ) (g : Dev Cert.AdaFwd.nD → PrngReg), Pre_AdaFwd m →
    θ_run (Cert.AdaFwd.defs (F := Bits)) (onTc (τ := Cert.AdaFwd.τ) (Cert.AdaFwd.main (F := Bits))) ⟨m, fun _ => 0, g⟩ (fun r => (∀ c : Dev Cert.AdaFwd.nD,
      r.2.mem ((c.tc : Thread Cert.AdaFwd.nD Cert.AdaFwd.τ).loc Cert.AdaFwd.main_arg0) = m ((c.tc : Thread Cert.AdaFwd.nD Cert.AdaFwd.τ).loc Cert.AdaFwd.main_arg0)
      ∧ r.2.mem ((c.tc : Thread Cert.AdaFwd.nD Cert.AdaFwd.τ).loc Cert.AdaFwd.main_arg1) = m ((c.tc : Thread Cert.AdaFwd.nD Cert.AdaFwd.τ).loc Cert.AdaFwd.main_arg1)
      ∧ r.2.mem ((c.tc : Thread Cert.AdaFwd.nD Cert.AdaFwd.τ).loc Cert.AdaFwd.main_arg2) = m ((c.tc : Thread Cert.AdaFwd.nD Cert.AdaFwd.τ).loc Cert.AdaFwd.main_arg2))
      ∧ r.2.sem = fun _ => 0)

def quiescent_AdaFwdIdeal [hAdaFwdIdeal : Cert.AdaFwdIdeal.Facts] : Prop :=
  ∀ (m : (ℓ : Loc Cert.AdaFwdIdeal.nD Cert.AdaFwdIdeal.τ Cert.AdaFwdIdeal.sig) → Buf (Elt Ideal) ℓ) (g : Dev Cert.AdaFwdIdeal.nD → PrngReg), Pre_AdaFwdIdeal m →
    θ_run (Cert.AdaFwdIdeal.defs (F := Ideal)) (onTc (τ := Cert.AdaFwdIdeal.τ) (Cert.AdaFwdIdeal.main (F := Ideal))) ⟨m, fun _ => 0, g⟩ (fun r => (∀ c : Dev Cert.AdaFwdIdeal.nD,
      r.2.mem ((c.tc : Thread Cert.AdaFwdIdeal.nD Cert.AdaFwdIdeal.τ).loc Cert.AdaFwdIdeal.main_arg0) = m ((c.tc : Thread Cert.AdaFwdIdeal.nD Cert.AdaFwdIdeal.τ).loc Cert.AdaFwdIdeal.main_arg0)
      ∧ r.2.mem ((c.tc : Thread Cert.AdaFwdIdeal.nD Cert.AdaFwdIdeal.τ).loc Cert.AdaFwdIdeal.main_arg1) = m ((c.tc : Thread Cert.AdaFwdIdeal.nD Cert.AdaFwdIdeal.τ).loc Cert.AdaFwdIdeal.main_arg1)
      ∧ r.2.mem ((c.tc : Thread Cert.AdaFwdIdeal.nD Cert.AdaFwdIdeal.τ).loc Cert.AdaFwdIdeal.main_arg2) = m ((c.tc : Thread Cert.AdaFwdIdeal.nD Cert.AdaFwdIdeal.τ).loc Cert.AdaFwdIdeal.main_arg2))
      ∧ r.2.sem = fun _ => 0)

def quiescent_AdaFwdRefIdeal [hAdaFwdRefIdeal : Cert.AdaFwdRefIdeal.Facts] : Prop :=
  ∀ (m : (ℓ : Loc Cert.AdaFwdRefIdeal.nD Cert.AdaFwdRefIdeal.τ Cert.AdaFwdRefIdeal.sig) → Buf (Elt Ideal) ℓ) (g : Dev Cert.AdaFwdRefIdeal.nD → PrngReg), Pre_AdaFwdRefIdeal m →
    θ_run (Cert.AdaFwdRefIdeal.defs (F := Ideal)) (onTc (τ := Cert.AdaFwdRefIdeal.τ) (Cert.AdaFwdRefIdeal.main (F := Ideal))) ⟨m, fun _ => 0, g⟩ (fun r => (∀ c : Dev Cert.AdaFwdRefIdeal.nD,
      r.2.mem ((c.tc : Thread Cert.AdaFwdRefIdeal.nD Cert.AdaFwdRefIdeal.τ).loc Cert.AdaFwdRefIdeal.main_arg0) = m ((c.tc : Thread Cert.AdaFwdRefIdeal.nD Cert.AdaFwdRefIdeal.τ).loc Cert.AdaFwdRefIdeal.main_arg0)
      ∧ r.2.mem ((c.tc : Thread Cert.AdaFwdRefIdeal.nD Cert.AdaFwdRefIdeal.τ).loc Cert.AdaFwdRefIdeal.main_arg1) = m ((c.tc : Thread Cert.AdaFwdRefIdeal.nD Cert.AdaFwdRefIdeal.τ).loc Cert.AdaFwdRefIdeal.main_arg1)
      ∧ r.2.mem ((c.tc : Thread Cert.AdaFwdRefIdeal.nD Cert.AdaFwdRefIdeal.τ).loc Cert.AdaFwdRefIdeal.main_arg2) = m ((c.tc : Thread Cert.AdaFwdRefIdeal.nD Cert.AdaFwdRefIdeal.τ).loc Cert.AdaFwdRefIdeal.main_arg2))
      ∧ r.2.sem = fun _ => 0)

def quiescent_AdaBwd [hAdaBwd : Cert.AdaBwd.Facts] : Prop :=
  ∀ (m : (ℓ : Loc Cert.AdaBwd.nD Cert.AdaBwd.τ Cert.AdaBwd.sig) → Buf (Elt Bits) ℓ) (g : Dev Cert.AdaBwd.nD → PrngReg), Pre_AdaBwd m →
    θ_run (Cert.AdaBwd.defs (F := Bits)) (onTc (τ := Cert.AdaBwd.τ) (Cert.AdaBwd.main (F := Bits))) ⟨m, fun _ => 0, g⟩ (fun r => (∀ c : Dev Cert.AdaBwd.nD,
      r.2.mem ((c.tc : Thread Cert.AdaBwd.nD Cert.AdaBwd.τ).loc Cert.AdaBwd.main_arg0) = m ((c.tc : Thread Cert.AdaBwd.nD Cert.AdaBwd.τ).loc Cert.AdaBwd.main_arg0)
      ∧ r.2.mem ((c.tc : Thread Cert.AdaBwd.nD Cert.AdaBwd.τ).loc Cert.AdaBwd.main_arg1) = m ((c.tc : Thread Cert.AdaBwd.nD Cert.AdaBwd.τ).loc Cert.AdaBwd.main_arg1)
      ∧ r.2.mem ((c.tc : Thread Cert.AdaBwd.nD Cert.AdaBwd.τ).loc Cert.AdaBwd.main_arg2) = m ((c.tc : Thread Cert.AdaBwd.nD Cert.AdaBwd.τ).loc Cert.AdaBwd.main_arg2)
      ∧ r.2.mem ((c.tc : Thread Cert.AdaBwd.nD Cert.AdaBwd.τ).loc Cert.AdaBwd.main_arg3) = m ((c.tc : Thread Cert.AdaBwd.nD Cert.AdaBwd.τ).loc Cert.AdaBwd.main_arg3)
      ∧ r.2.mem ((c.tc : Thread Cert.AdaBwd.nD Cert.AdaBwd.τ).loc Cert.AdaBwd.main_arg4) = m ((c.tc : Thread Cert.AdaBwd.nD Cert.AdaBwd.τ).loc Cert.AdaBwd.main_arg4))
      ∧ r.2.sem = fun _ => 0)

def quiescent_AdaBwdIdeal [hAdaBwdIdeal : Cert.AdaBwdIdeal.Facts] : Prop :=
  ∀ (m : (ℓ : Loc Cert.AdaBwdIdeal.nD Cert.AdaBwdIdeal.τ Cert.AdaBwdIdeal.sig) → Buf (Elt Ideal) ℓ) (g : Dev Cert.AdaBwdIdeal.nD → PrngReg), Pre_AdaBwdIdeal m →
    θ_run (Cert.AdaBwdIdeal.defs (F := Ideal)) (onTc (τ := Cert.AdaBwdIdeal.τ) (Cert.AdaBwdIdeal.main (F := Ideal))) ⟨m, fun _ => 0, g⟩ (fun r => (∀ c : Dev Cert.AdaBwdIdeal.nD,
      r.2.mem ((c.tc : Thread Cert.AdaBwdIdeal.nD Cert.AdaBwdIdeal.τ).loc Cert.AdaBwdIdeal.main_arg0) = m ((c.tc : Thread Cert.AdaBwdIdeal.nD Cert.AdaBwdIdeal.τ).loc Cert.AdaBwdIdeal.main_arg0)
      ∧ r.2.mem ((c.tc : Thread Cert.AdaBwdIdeal.nD Cert.AdaBwdIdeal.τ).loc Cert.AdaBwdIdeal.main_arg1) = m ((c.tc : Thread Cert.AdaBwdIdeal.nD Cert.AdaBwdIdeal.τ).loc Cert.AdaBwdIdeal.main_arg1)
      ∧ r.2.mem ((c.tc : Thread Cert.AdaBwdIdeal.nD Cert.AdaBwdIdeal.τ).loc Cert.AdaBwdIdeal.main_arg2) = m ((c.tc : Thread Cert.AdaBwdIdeal.nD Cert.AdaBwdIdeal.τ).loc Cert.AdaBwdIdeal.main_arg2)
      ∧ r.2.mem ((c.tc : Thread Cert.AdaBwdIdeal.nD Cert.AdaBwdIdeal.τ).loc Cert.AdaBwdIdeal.main_arg3) = m ((c.tc : Thread Cert.AdaBwdIdeal.nD Cert.AdaBwdIdeal.τ).loc Cert.AdaBwdIdeal.main_arg3)
      ∧ r.2.mem ((c.tc : Thread Cert.AdaBwdIdeal.nD Cert.AdaBwdIdeal.τ).loc Cert.AdaBwdIdeal.main_arg4) = m ((c.tc : Thread Cert.AdaBwdIdeal.nD Cert.AdaBwdIdeal.τ).loc Cert.AdaBwdIdeal.main_arg4))
      ∧ r.2.sem = fun _ => 0)

def quiescent_AdaBwdRefIdeal [hAdaBwdRefIdeal : Cert.AdaBwdRefIdeal.Facts] : Prop :=
  ∀ (m : (ℓ : Loc Cert.AdaBwdRefIdeal.nD Cert.AdaBwdRefIdeal.τ Cert.AdaBwdRefIdeal.sig) → Buf (Elt Ideal) ℓ) (g : Dev Cert.AdaBwdRefIdeal.nD → PrngReg), Pre_AdaBwdRefIdeal m →
    θ_run (Cert.AdaBwdRefIdeal.defs (F := Ideal)) (onTc (τ := Cert.AdaBwdRefIdeal.τ) (Cert.AdaBwdRefIdeal.main (F := Ideal))) ⟨m, fun _ => 0, g⟩ (fun r => (∀ c : Dev Cert.AdaBwdRefIdeal.nD,
      r.2.mem ((c.tc : Thread Cert.AdaBwdRefIdeal.nD Cert.AdaBwdRefIdeal.τ).loc Cert.AdaBwdRefIdeal.main_arg0) = m ((c.tc : Thread Cert.AdaBwdRefIdeal.nD Cert.AdaBwdRefIdeal.τ).loc Cert.AdaBwdRefIdeal.main_arg0)
      ∧ r.2.mem ((c.tc : Thread Cert.AdaBwdRefIdeal.nD Cert.AdaBwdRefIdeal.τ).loc Cert.AdaBwdRefIdeal.main_arg1) = m ((c.tc : Thread Cert.AdaBwdRefIdeal.nD Cert.AdaBwdRefIdeal.τ).loc Cert.AdaBwdRefIdeal.main_arg1)
      ∧ r.2.mem ((c.tc : Thread Cert.AdaBwdRefIdeal.nD Cert.AdaBwdRefIdeal.τ).loc Cert.AdaBwdRefIdeal.main_arg2) = m ((c.tc : Thread Cert.AdaBwdRefIdeal.nD Cert.AdaBwdRefIdeal.τ).loc Cert.AdaBwdRefIdeal.main_arg2)
      ∧ r.2.mem ((c.tc : Thread Cert.AdaBwdRefIdeal.nD Cert.AdaBwdRefIdeal.τ).loc Cert.AdaBwdRefIdeal.main_arg3) = m ((c.tc : Thread Cert.AdaBwdRefIdeal.nD Cert.AdaBwdRefIdeal.τ).loc Cert.AdaBwdRefIdeal.main_arg3)
      ∧ r.2.mem ((c.tc : Thread Cert.AdaBwdRefIdeal.nD Cert.AdaBwdRefIdeal.τ).loc Cert.AdaBwdRefIdeal.main_arg4) = m ((c.tc : Thread Cert.AdaBwdRefIdeal.nD Cert.AdaBwdRefIdeal.τ).loc Cert.AdaBwdRefIdeal.main_arg4))
      ∧ r.2.sem = fun _ => 0)

def quiescent_AdamPool [hAdamPool : Cert.AdamPool.Facts] : Prop :=
  ∀ (m : (ℓ : Loc Cert.AdamPool.nD Cert.AdamPool.τ Cert.AdamPool.sig) → Buf (Elt Bits) ℓ) (g : Dev Cert.AdamPool.nD → PrngReg), Pre_AdamPool m →
    θ_run (Cert.AdamPool.defs (F := Bits)) (onTc (τ := Cert.AdamPool.τ) (Cert.AdamPool.main (F := Bits))) ⟨m, fun _ => 0, g⟩ (fun r => (∀ c : Dev Cert.AdamPool.nD,
      r.2.mem ((c.tc : Thread Cert.AdamPool.nD Cert.AdamPool.τ).loc Cert.AdamPool.main_arg0) = m ((c.tc : Thread Cert.AdamPool.nD Cert.AdamPool.τ).loc Cert.AdamPool.main_arg0)
      ∧ r.2.mem ((c.tc : Thread Cert.AdamPool.nD Cert.AdamPool.τ).loc Cert.AdamPool.main_arg1) = m ((c.tc : Thread Cert.AdamPool.nD Cert.AdamPool.τ).loc Cert.AdamPool.main_arg1)
      ∧ r.2.mem ((c.tc : Thread Cert.AdamPool.nD Cert.AdamPool.τ).loc Cert.AdamPool.main_arg2) = m ((c.tc : Thread Cert.AdamPool.nD Cert.AdamPool.τ).loc Cert.AdamPool.main_arg2)
      ∧ r.2.mem ((c.tc : Thread Cert.AdamPool.nD Cert.AdamPool.τ).loc Cert.AdamPool.main_arg3) = m ((c.tc : Thread Cert.AdamPool.nD Cert.AdamPool.τ).loc Cert.AdamPool.main_arg3))
      ∧ r.2.sem = fun _ => 0)

def quiescent_AdamPoolIdeal [hAdamPoolIdeal : Cert.AdamPoolIdeal.Facts] : Prop :=
  ∀ (m : (ℓ : Loc Cert.AdamPoolIdeal.nD Cert.AdamPoolIdeal.τ Cert.AdamPoolIdeal.sig) → Buf (Elt Ideal) ℓ) (g : Dev Cert.AdamPoolIdeal.nD → PrngReg), Pre_AdamPoolIdeal m →
    θ_run (Cert.AdamPoolIdeal.defs (F := Ideal)) (onTc (τ := Cert.AdamPoolIdeal.τ) (Cert.AdamPoolIdeal.main (F := Ideal))) ⟨m, fun _ => 0, g⟩ (fun r => (∀ c : Dev Cert.AdamPoolIdeal.nD,
      r.2.mem ((c.tc : Thread Cert.AdamPoolIdeal.nD Cert.AdamPoolIdeal.τ).loc Cert.AdamPoolIdeal.main_arg0) = m ((c.tc : Thread Cert.AdamPoolIdeal.nD Cert.AdamPoolIdeal.τ).loc Cert.AdamPoolIdeal.main_arg0)
      ∧ r.2.mem ((c.tc : Thread Cert.AdamPoolIdeal.nD Cert.AdamPoolIdeal.τ).loc Cert.AdamPoolIdeal.main_arg1) = m ((c.tc : Thread Cert.AdamPoolIdeal.nD Cert.AdamPoolIdeal.τ).loc Cert.AdamPoolIdeal.main_arg1)
      ∧ r.2.mem ((c.tc : Thread Cert.AdamPoolIdeal.nD Cert.AdamPoolIdeal.τ).loc Cert.AdamPoolIdeal.main_arg2) = m ((c.tc : Thread Cert.AdamPoolIdeal.nD Cert.AdamPoolIdeal.τ).loc Cert.AdamPoolIdeal.main_arg2)
      ∧ r.2.mem ((c.tc : Thread Cert.AdamPoolIdeal.nD Cert.AdamPoolIdeal.τ).loc Cert.AdamPoolIdeal.main_arg3) = m ((c.tc : Thread Cert.AdamPoolIdeal.nD Cert.AdamPoolIdeal.τ).loc Cert.AdamPoolIdeal.main_arg3))
      ∧ r.2.sem = fun _ => 0)

def quiescent_AdamPoolRefIdeal [hAdamPoolRefIdeal : Cert.AdamPoolRefIdeal.Facts] : Prop :=
  ∀ (m : (ℓ : Loc Cert.AdamPoolRefIdeal.nD Cert.AdamPoolRefIdeal.τ Cert.AdamPoolRefIdeal.sig) → Buf (Elt Ideal) ℓ) (g : Dev Cert.AdamPoolRefIdeal.nD → PrngReg), Pre_AdamPoolRefIdeal m →
    θ_run (Cert.AdamPoolRefIdeal.defs (F := Ideal)) (onTc (τ := Cert.AdamPoolRefIdeal.τ) (Cert.AdamPoolRefIdeal.main (F := Ideal))) ⟨m, fun _ => 0, g⟩ (fun r => (∀ c : Dev Cert.AdamPoolRefIdeal.nD,
      r.2.mem ((c.tc : Thread Cert.AdamPoolRefIdeal.nD Cert.AdamPoolRefIdeal.τ).loc Cert.AdamPoolRefIdeal.main_arg0) = m ((c.tc : Thread Cert.AdamPoolRefIdeal.nD Cert.AdamPoolRefIdeal.τ).loc Cert.AdamPoolRefIdeal.main_arg0)
      ∧ r.2.mem ((c.tc : Thread Cert.AdamPoolRefIdeal.nD Cert.AdamPoolRefIdeal.τ).loc Cert.AdamPoolRefIdeal.main_arg1) = m ((c.tc : Thread Cert.AdamPoolRefIdeal.nD Cert.AdamPoolRefIdeal.τ).loc Cert.AdamPoolRefIdeal.main_arg1)
      ∧ r.2.mem ((c.tc : Thread Cert.AdamPoolRefIdeal.nD Cert.AdamPoolRefIdeal.τ).loc Cert.AdamPoolRefIdeal.main_arg2) = m ((c.tc : Thread Cert.AdamPoolRefIdeal.nD Cert.AdamPoolRefIdeal.τ).loc Cert.AdamPoolRefIdeal.main_arg2)
      ∧ r.2.mem ((c.tc : Thread Cert.AdamPoolRefIdeal.nD Cert.AdamPoolRefIdeal.τ).loc Cert.AdamPoolRefIdeal.main_arg3) = m ((c.tc : Thread Cert.AdamPoolRefIdeal.nD Cert.AdamPoolRefIdeal.τ).loc Cert.AdamPoolRefIdeal.main_arg3))
      ∧ r.2.sem = fun _ => 0)

def quiescent_AdamConv [hAdamConv : Cert.AdamConv.Facts] : Prop :=
  ∀ (m : (ℓ : Loc Cert.AdamConv.nD Cert.AdamConv.τ Cert.AdamConv.sig) → Buf (Elt Bits) ℓ) (g : Dev Cert.AdamConv.nD → PrngReg), Pre_AdamConv m →
    θ_run (Cert.AdamConv.defs (F := Bits)) (onTc (τ := Cert.AdamConv.τ) (Cert.AdamConv.main (F := Bits))) ⟨m, fun _ => 0, g⟩ (fun r => (∀ c : Dev Cert.AdamConv.nD,
      r.2.mem ((c.tc : Thread Cert.AdamConv.nD Cert.AdamConv.τ).loc Cert.AdamConv.main_arg0) = m ((c.tc : Thread Cert.AdamConv.nD Cert.AdamConv.τ).loc Cert.AdamConv.main_arg0)
      ∧ r.2.mem ((c.tc : Thread Cert.AdamConv.nD Cert.AdamConv.τ).loc Cert.AdamConv.main_arg1) = m ((c.tc : Thread Cert.AdamConv.nD Cert.AdamConv.τ).loc Cert.AdamConv.main_arg1)
      ∧ r.2.mem ((c.tc : Thread Cert.AdamConv.nD Cert.AdamConv.τ).loc Cert.AdamConv.main_arg2) = m ((c.tc : Thread Cert.AdamConv.nD Cert.AdamConv.τ).loc Cert.AdamConv.main_arg2)
      ∧ r.2.mem ((c.tc : Thread Cert.AdamConv.nD Cert.AdamConv.τ).loc Cert.AdamConv.main_arg3) = m ((c.tc : Thread Cert.AdamConv.nD Cert.AdamConv.τ).loc Cert.AdamConv.main_arg3))
      ∧ r.2.sem = fun _ => 0)

def quiescent_AdamConvIdeal [hAdamConvIdeal : Cert.AdamConvIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg), Pre_AdamConvIdeal m →
    θ_run (Cert.AdamConvIdeal.defs (F := Ideal)) (onTc (τ := Cert.AdamConvIdeal.τ) (Cert.AdamConvIdeal.main (F := Ideal))) ⟨m, fun _ => 0, g⟩ (fun r => (∀ c : Dev Cert.AdamConvIdeal.nD,
      r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
      ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
      ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
      ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ r.2.sem = fun _ => 0)

def quiescent_AdamConvRefIdeal [hAdamConvRefIdeal : Cert.AdamConvRefIdeal.Facts] : Prop :=
  ∀ (m : (ℓ : Loc Cert.AdamConvRefIdeal.nD Cert.AdamConvRefIdeal.τ Cert.AdamConvRefIdeal.sig) → Buf (Elt Ideal) ℓ) (g : Dev Cert.AdamConvRefIdeal.nD → PrngReg), Pre_AdamConvRefIdeal m →
    θ_run (Cert.AdamConvRefIdeal.defs (F := Ideal)) (onTc (τ := Cert.AdamConvRefIdeal.τ) (Cert.AdamConvRefIdeal.main (F := Ideal))) ⟨m, fun _ => 0, g⟩ (fun r => (∀ c : Dev Cert.AdamConvRefIdeal.nD,
      r.2.mem ((c.tc : Thread Cert.AdamConvRefIdeal.nD Cert.AdamConvRefIdeal.τ).loc Cert.AdamConvRefIdeal.main_arg0) = m ((c.tc : Thread Cert.AdamConvRefIdeal.nD Cert.AdamConvRefIdeal.τ).loc Cert.AdamConvRefIdeal.main_arg0)
      ∧ r.2.mem ((c.tc : Thread Cert.AdamConvRefIdeal.nD Cert.AdamConvRefIdeal.τ).loc Cert.AdamConvRefIdeal.main_arg1) = m ((c.tc : Thread Cert.AdamConvRefIdeal.nD Cert.AdamConvRefIdeal.τ).loc Cert.AdamConvRefIdeal.main_arg1)
      ∧ r.2.mem ((c.tc : Thread Cert.AdamConvRefIdeal.nD Cert.AdamConvRefIdeal.τ).loc Cert.AdamConvRefIdeal.main_arg2) = m ((c.tc : Thread Cert.AdamConvRefIdeal.nD Cert.AdamConvRefIdeal.τ).loc Cert.AdamConvRefIdeal.main_arg2)
      ∧ r.2.mem ((c.tc : Thread Cert.AdamConvRefIdeal.nD Cert.AdamConvRefIdeal.τ).loc Cert.AdamConvRefIdeal.main_arg3) = m ((c.tc : Thread Cert.AdamConvRefIdeal.nD Cert.AdamConvRefIdeal.τ).loc Cert.AdamConvRefIdeal.main_arg3))
      ∧ r.2.sem = fun _ => 0)

def quiescent_AdamOut [hAdamOut : Cert.AdamOut.Facts] [hPre_on_mesh : Cert.Pre_on_mesh.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3)
      ∧ r.2.mem ((c.tc : Thread Cert.AdamOut.nD Cert.AdamOut.τ).loc Cert.AdamOut.main_arg4) = m ((c.tc : Thread Cert.AdamOut.nD Cert.AdamOut.τ).loc Cert.AdamOut.main_arg4)
      ∧ r.2.mem ((c.tc : Thread Cert.AdamOut.nD Cert.AdamOut.τ).loc Cert.AdamOut.main_arg5) = m ((c.tc : Thread Cert.AdamOut.nD Cert.AdamOut.τ).loc Cert.AdamOut.main_arg5))
      ∧ r.2.sem = fun _ => 0)

def quiescent_AdamOutIdeal [hAdamOutIdeal : Cert.AdamOutIdeal.Facts] [hPre_on_mesh : Cert.Pre_on_mesh.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
      ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4)
      ∧ r.2.mem ((c.tc : Thread Cert.AdamOutIdeal.nD Cert.AdamOutIdeal.τ).loc Cert.AdamOutIdeal.main_arg5) = m ((c.tc : Thread Cert.AdamOutIdeal.nD Cert.AdamOutIdeal.τ).loc Cert.AdamOutIdeal.main_arg5))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3)
      ∧ r.2.mem ((c.tc : Thread Cert.AdamOutRefIdeal.nD Cert.AdamOutRefIdeal.τ).loc Cert.AdamOutRefIdeal.main_arg4) = m ((c.tc : Thread Cert.AdamOutRefIdeal.nD Cert.AdamOutRefIdeal.τ).loc Cert.AdamOutRefIdeal.main_arg4)
      ∧ r.2.mem ((c.tc : Thread Cert.AdamOutRefIdeal.nD Cert.AdamOutRefIdeal.τ).loc Cert.AdamOutRefIdeal.main_arg5) = m ((c.tc : Thread Cert.AdamOutRefIdeal.nD Cert.AdamOutRefIdeal.τ).loc Cert.AdamOutRefIdeal.main_arg5))
      ∧ r.2.sem = fun _ => 0)

def quiescent_AdamOutRefIdeal_pre_on_mesh [hAdamOutRefIdeal : Cert.AdamOutRefIdeal.Facts] [hPre_on_mesh : Cert.Pre_on_mesh.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal_on_mesh m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3)
      ∧ r.2.mem ((c.tc : Thread Cert.AdamOutRefIdeal.nD Cert.AdamOutRefIdeal.τ).loc Cert.AdamOutRefIdeal.main_arg4) = m ((c.tc : Thread Cert.AdamOutRefIdeal.nD Cert.AdamOutRefIdeal.τ).loc Cert.AdamOutRefIdeal.main_arg4)
      ∧ r.2.mem ((c.tc : Thread Cert.AdamOutRefIdeal.nD Cert.AdamOutRefIdeal.τ).loc Cert.AdamOutRefIdeal.main_arg5) = m ((c.tc : Thread Cert.AdamOutRefIdeal.nD Cert.AdamOutRefIdeal.τ).loc Cert.AdamOutRefIdeal.main_arg5))
      ∧ r.2.sem = fun _ => 0)

def quiescent_AdamUp [hAdamUp : Cert.AdamUp.Facts] [hPre_on_mesh_up : Cert.Pre_on_mesh_up.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3)
      ∧ r.2.mem ((c.tc : Thread Cert.AdamUp.nD Cert.AdamUp.τ).loc Cert.AdamUp.main_arg4) = m ((c.tc : Thread Cert.AdamUp.nD Cert.AdamUp.τ).loc Cert.AdamUp.main_arg4)
      ∧ r.2.mem ((c.tc : Thread Cert.AdamUp.nD Cert.AdamUp.τ).loc Cert.AdamUp.main_arg5) = m ((c.tc : Thread Cert.AdamUp.nD Cert.AdamUp.τ).loc Cert.AdamUp.main_arg5))
      ∧ r.2.sem = fun _ => 0)

def quiescent_AdamUpIdeal [hAdamUpIdeal : Cert.AdamUpIdeal.Facts] [hPre_on_mesh_up : Cert.Pre_on_mesh_up.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
      ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4)
      ∧ r.2.mem ((c.tc : Thread Cert.AdamUpIdeal.nD Cert.AdamUpIdeal.τ).loc Cert.AdamUpIdeal.main_arg5) = m ((c.tc : Thread Cert.AdamUpIdeal.nD Cert.AdamUpIdeal.τ).loc Cert.AdamUpIdeal.main_arg5))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3)
      ∧ r.2.mem ((c.tc : Thread Cert.AdamUpRefIdeal.nD Cert.AdamUpRefIdeal.τ).loc Cert.AdamUpRefIdeal.main_arg4) = m ((c.tc : Thread Cert.AdamUpRefIdeal.nD Cert.AdamUpRefIdeal.τ).loc Cert.AdamUpRefIdeal.main_arg4)
      ∧ r.2.mem ((c.tc : Thread Cert.AdamUpRefIdeal.nD Cert.AdamUpRefIdeal.τ).loc Cert.AdamUpRefIdeal.main_arg5) = m ((c.tc : Thread Cert.AdamUpRefIdeal.nD Cert.AdamUpRefIdeal.τ).loc Cert.AdamUpRefIdeal.main_arg5))
      ∧ r.2.sem = fun _ => 0)

def quiescent_AdamUpRefIdeal_pre_on_mesh_up [hAdamUpRefIdeal : Cert.AdamUpRefIdeal.Facts] [hPre_on_mesh_up : Cert.Pre_on_mesh_up.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal_on_mesh_up m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3)
      ∧ r.2.mem ((c.tc : Thread Cert.AdamUpRefIdeal.nD Cert.AdamUpRefIdeal.τ).loc Cert.AdamUpRefIdeal.main_arg4) = m ((c.tc : Thread Cert.AdamUpRefIdeal.nD Cert.AdamUpRefIdeal.τ).loc Cert.AdamUpRefIdeal.main_arg4)
      ∧ r.2.mem ((c.tc : Thread Cert.AdamUpRefIdeal.nD Cert.AdamUpRefIdeal.τ).loc Cert.AdamUpRefIdeal.main_arg5) = m ((c.tc : Thread Cert.AdamUpRefIdeal.nD Cert.AdamUpRefIdeal.τ).loc Cert.AdamUpRefIdeal.main_arg5))
      ∧ r.2.sem = fun _ => 0)

def quiescent_AdamDown [hAdamDown : Cert.AdamDown.Facts] [hPre_on_mesh_down : Cert.Pre_on_mesh_down.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3)
      ∧ r.2.mem ((c.tc : Thread Cert.AdamDown.nD Cert.AdamDown.τ).loc Cert.AdamDown.main_arg4) = m ((c.tc : Thread Cert.AdamDown.nD Cert.AdamDown.τ).loc Cert.AdamDown.main_arg4)
      ∧ r.2.mem ((c.tc : Thread Cert.AdamDown.nD Cert.AdamDown.τ).loc Cert.AdamDown.main_arg5) = m ((c.tc : Thread Cert.AdamDown.nD Cert.AdamDown.τ).loc Cert.AdamDown.main_arg5))
      ∧ r.2.sem = fun _ => 0)

def quiescent_AdamDownIdeal [hAdamDownIdeal : Cert.AdamDownIdeal.Facts] [hPre_on_mesh_down : Cert.Pre_on_mesh_down.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
      ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4)
      ∧ r.2.mem ((c.tc : Thread Cert.AdamDownIdeal.nD Cert.AdamDownIdeal.τ).loc Cert.AdamDownIdeal.main_arg5) = m ((c.tc : Thread Cert.AdamDownIdeal.nD Cert.AdamDownIdeal.τ).loc Cert.AdamDownIdeal.main_arg5))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3)
      ∧ r.2.mem ((c.tc : Thread Cert.AdamDownRefIdeal.nD Cert.AdamDownRefIdeal.τ).loc Cert.AdamDownRefIdeal.main_arg4) = m ((c.tc : Thread Cert.AdamDownRefIdeal.nD Cert.AdamDownRefIdeal.τ).loc Cert.AdamDownRefIdeal.main_arg4)
      ∧ r.2.mem ((c.tc : Thread Cert.AdamDownRefIdeal.nD Cert.AdamDownRefIdeal.τ).loc Cert.AdamDownRefIdeal.main_arg5) = m ((c.tc : Thread Cert.AdamDownRefIdeal.nD Cert.AdamDownRefIdeal.τ).loc Cert.AdamDownRefIdeal.main_arg5))
      ∧ r.2.sem = fun _ => 0)

def quiescent_AdamDownRefIdeal_pre_on_mesh_down [hAdamDownRefIdeal : Cert.AdamDownRefIdeal.Facts] [hPre_on_mesh_down : Cert.Pre_on_mesh_down.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal_on_mesh_down m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3)
      ∧ r.2.mem ((c.tc : Thread Cert.AdamDownRefIdeal.nD Cert.AdamDownRefIdeal.τ).loc Cert.AdamDownRefIdeal.main_arg4) = m ((c.tc : Thread Cert.AdamDownRefIdeal.nD Cert.AdamDownRefIdeal.τ).loc Cert.AdamDownRefIdeal.main_arg4)
      ∧ r.2.mem ((c.tc : Thread Cert.AdamDownRefIdeal.nD Cert.AdamDownRefIdeal.τ).loc Cert.AdamDownRefIdeal.main_arg5) = m ((c.tc : Thread Cert.AdamDownRefIdeal.nD Cert.AdamDownRefIdeal.τ).loc Cert.AdamDownRefIdeal.main_arg5))
      ∧ r.2.sem = fun _ => 0)

def quiescent_AdamIn [hAdamIn : Cert.AdamIn.Facts] [hPre_on_mesh_in : Cert.Pre_on_mesh_in.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3)
      ∧ r.2.mem ((c.tc : Thread Cert.AdamIn.nD Cert.AdamIn.τ).loc Cert.AdamIn.main_arg4) = m ((c.tc : Thread Cert.AdamIn.nD Cert.AdamIn.τ).loc Cert.AdamIn.main_arg4)
      ∧ r.2.mem ((c.tc : Thread Cert.AdamIn.nD Cert.AdamIn.τ).loc Cert.AdamIn.main_arg5) = m ((c.tc : Thread Cert.AdamIn.nD Cert.AdamIn.τ).loc Cert.AdamIn.main_arg5))
      ∧ r.2.sem = fun _ => 0)

def quiescent_AdamInIdeal [hAdamInIdeal : Cert.AdamInIdeal.Facts] [hPre_on_mesh_in : Cert.Pre_on_mesh_in.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
      ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4)
      ∧ r.2.mem ((c.tc : Thread Cert.AdamInIdeal.nD Cert.AdamInIdeal.τ).loc Cert.AdamInIdeal.main_arg5) = m ((c.tc : Thread Cert.AdamInIdeal.nD Cert.AdamInIdeal.τ).loc Cert.AdamInIdeal.main_arg5))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3)
      ∧ r.2.mem ((c.tc : Thread Cert.AdamInRefIdeal.nD Cert.AdamInRefIdeal.τ).loc Cert.AdamInRefIdeal.main_arg4) = m ((c.tc : Thread Cert.AdamInRefIdeal.nD Cert.AdamInRefIdeal.τ).loc Cert.AdamInRefIdeal.main_arg4)
      ∧ r.2.mem ((c.tc : Thread Cert.AdamInRefIdeal.nD Cert.AdamInRefIdeal.τ).loc Cert.AdamInRefIdeal.main_arg5) = m ((c.tc : Thread Cert.AdamInRefIdeal.nD Cert.AdamInRefIdeal.τ).loc Cert.AdamInRefIdeal.main_arg5))
      ∧ r.2.sem = fun _ => 0)

def quiescent_AdamInRefIdeal_pre_on_mesh_in [hAdamInRefIdeal : Cert.AdamInRefIdeal.Facts] [hPre_on_mesh_in : Cert.Pre_on_mesh_in.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal_on_mesh_in m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3)
      ∧ r.2.mem ((c.tc : Thread Cert.AdamInRefIdeal.nD Cert.AdamInRefIdeal.τ).loc Cert.AdamInRefIdeal.main_arg4) = m ((c.tc : Thread Cert.AdamInRefIdeal.nD Cert.AdamInRefIdeal.τ).loc Cert.AdamInRefIdeal.main_arg4)
      ∧ r.2.mem ((c.tc : Thread Cert.AdamInRefIdeal.nD Cert.AdamInRefIdeal.τ).loc Cert.AdamInRefIdeal.main_arg5) = m ((c.tc : Thread Cert.AdamInRefIdeal.nD Cert.AdamInRefIdeal.τ).loc Cert.AdamInRefIdeal.main_arg5))
      ∧ r.2.sem = fun _ => 0)

def preserves_Mixer_MixerIdeal : Prop :=
  True

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)
      ∧ m' ((c.tc : Thread Cert.MlpRefIdeal.nD Cert.MlpRefIdeal.τ).loc Cert.MlpRefIdeal.main_arg5) = m ((c.tc : Thread Cert.MlpIdeal.nD Cert.MlpIdeal.τ).loc Cert.MlpIdeal.main_arg5)
      ∧ m' ((c.tc : Thread Cert.MlpRefIdeal.nD Cert.MlpRefIdeal.τ).loc Cert.MlpRefIdeal.main_arg6) = m ((c.tc : Thread Cert.MlpIdeal.nD Cert.MlpIdeal.τ).loc Cert.MlpIdeal.main_arg6)
      ∧ m' ((c.tc : Thread Cert.MlpRefIdeal.nD Cert.MlpRefIdeal.τ).loc Cert.MlpRefIdeal.main_arg7) = m ((c.tc : Thread Cert.MlpIdeal.nD Cert.MlpIdeal.τ).loc Cert.MlpIdeal.main_arg7)
      ∧ m' ((c.tc : Thread Cert.MlpRefIdeal.nD Cert.MlpRefIdeal.τ).loc Cert.MlpRefIdeal.main_arg8) = m ((c.tc : Thread Cert.MlpIdeal.nD Cert.MlpIdeal.τ).loc Cert.MlpIdeal.main_arg8)) →
    ∃ (v0 : (c : Dev Cert.MlpIdeal.nD) → Buf (Elt Ideal) ((c.tc : Thread Cert.MlpIdeal.nD Cert.MlpIdeal.τ).loc Cert.MlpIdeal.main_v11_0)) (v1 : (c : Dev Cert.MlpIdeal.nD) → Buf (Elt Ideal) ((c.tc : Thread Cert.MlpIdeal.nD Cert.MlpIdeal.τ).loc Cert.MlpIdeal.main_v11_1)) (v2 : (c : Dev Cert.MlpIdeal.nD) → Buf (Elt Ideal) ((c.tc : Thread Cert.MlpIdeal.nD Cert.MlpIdeal.τ).loc Cert.MlpIdeal.main_v11_2)) (v3 : (c : Dev Cert.MlpIdeal.nD) → Buf (Elt Ideal) ((c.tc : Thread Cert.MlpIdeal.nD Cert.MlpIdeal.τ).loc Cert.MlpIdeal.main_v11_3)) (v4 : (c : Dev Cert.MlpIdeal.nD) → Buf (Elt Ideal) ((c.tc : Thread Cert.MlpIdeal.nD Cert.MlpIdeal.τ).loc Cert.MlpIdeal.main_v11_4)) (v5 : (c : Dev Cert.MlpIdeal.nD) → Buf (Elt Ideal) ((c.tc : Thread Cert.MlpIdeal.nD Cert.MlpIdeal.τ).loc Cert.MlpIdeal.main_v11_5)) (v6 : (c : Dev Cert.MlpIdeal.nD) → Buf (Elt Ideal) ((c.tc : Thread Cert.MlpIdeal.nD Cert.MlpIdeal.τ).loc Cert.MlpIdeal.main_v11_6)) (v7 : (c : Dev Cert.MlpIdeal.nD) → Buf (Elt Ideal) ((c.tc : Thread Cert.MlpIdeal.nD Cert.MlpIdeal.τ).loc Cert.MlpIdeal.main_v11_7)) (v8 : (c : Dev Cert.MlpIdeal.nD) → Buf (Elt Ideal) ((c.tc : Thread Cert.MlpIdeal.nD Cert.MlpIdeal.τ).loc Cert.MlpIdeal.main_v11_8)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v11_0) = v0 c
          ∧ r.2.mem ((c.tc : Thread Cert.MlpIdeal.nD Cert.MlpIdeal.τ).loc Cert.MlpIdeal.main_v11_1) = v1 c
          ∧ r.2.mem ((c.tc : Thread Cert.MlpIdeal.nD Cert.MlpIdeal.τ).loc Cert.MlpIdeal.main_v11_2) = v2 c
          ∧ r.2.mem ((c.tc : Thread Cert.MlpIdeal.nD Cert.MlpIdeal.τ).loc Cert.MlpIdeal.main_v11_3) = v3 c
          ∧ r.2.mem ((c.tc : Thread Cert.MlpIdeal.nD Cert.MlpIdeal.τ).loc Cert.MlpIdeal.main_v11_4) = v4 c
          ∧ r.2.mem ((c.tc : Thread Cert.MlpIdeal.nD Cert.MlpIdeal.τ).loc Cert.MlpIdeal.main_v11_5) = v5 c
          ∧ r.2.mem ((c.tc : Thread Cert.MlpIdeal.nD Cert.MlpIdeal.τ).loc Cert.MlpIdeal.main_v11_6) = v6 c
          ∧ r.2.mem ((c.tc : Thread Cert.MlpIdeal.nD Cert.MlpIdeal.τ).loc Cert.MlpIdeal.main_v11_7) = v7 c
          ∧ r.2.mem ((c.tc : Thread Cert.MlpIdeal.nD Cert.MlpIdeal.τ).loc Cert.MlpIdeal.main_v11_8) = v8 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
          ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
          ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
          ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v152) = v0 c
          ∧ r.2.mem ((c.tc : Thread Cert.MlpRefIdeal.nD Cert.MlpRefIdeal.τ).loc Cert.MlpRefIdeal.main_v154) = v1 c
          ∧ r.2.mem ((c.tc : Thread Cert.MlpRefIdeal.nD Cert.MlpRefIdeal.τ).loc Cert.MlpRefIdeal.main_v155) = v2 c
          ∧ r.2.mem ((c.tc : Thread Cert.MlpRefIdeal.nD Cert.MlpRefIdeal.τ).loc Cert.MlpRefIdeal.main_v157) = v3 c
          ∧ r.2.mem ((c.tc : Thread Cert.MlpRefIdeal.nD Cert.MlpRefIdeal.τ).loc Cert.MlpRefIdeal.main_v159) = v4 c
          ∧ r.2.mem ((c.tc : Thread Cert.MlpRefIdeal.nD Cert.MlpRefIdeal.τ).loc Cert.MlpRefIdeal.main_v161) = v5 c
          ∧ r.2.mem ((c.tc : Thread Cert.MlpRefIdeal.nD Cert.MlpRefIdeal.τ).loc Cert.MlpRefIdeal.main_v163) = v6 c
          ∧ r.2.mem ((c.tc : Thread Cert.MlpRefIdeal.nD Cert.MlpRefIdeal.τ).loc Cert.MlpRefIdeal.main_v146) = v7 c
          ∧ r.2.mem ((c.tc : Thread Cert.MlpRefIdeal.nD Cert.MlpRefIdeal.τ).loc Cert.MlpRefIdeal.main_v150) = v8 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4)
          ∧ r.2.mem ((c.tc : Thread Cert.MlpRefIdeal.nD Cert.MlpRefIdeal.τ).loc Cert.MlpRefIdeal.main_arg5) = m' ((c.tc : Thread Cert.MlpRefIdeal.nD Cert.MlpRefIdeal.τ).loc Cert.MlpRefIdeal.main_arg5)
          ∧ r.2.mem ((c.tc : Thread Cert.MlpRefIdeal.nD Cert.MlpRefIdeal.τ).loc Cert.MlpRefIdeal.main_arg6) = m' ((c.tc : Thread Cert.MlpRefIdeal.nD Cert.MlpRefIdeal.τ).loc Cert.MlpRefIdeal.main_arg6)
          ∧ r.2.mem ((c.tc : Thread Cert.MlpRefIdeal.nD Cert.MlpRefIdeal.τ).loc Cert.MlpRefIdeal.main_arg7) = m' ((c.tc : Thread Cert.MlpRefIdeal.nD Cert.MlpRefIdeal.τ).loc Cert.MlpRefIdeal.main_arg7)
          ∧ r.2.mem ((c.tc : Thread Cert.MlpRefIdeal.nD Cert.MlpRefIdeal.τ).loc Cert.MlpRefIdeal.main_arg8) = m' ((c.tc : Thread Cert.MlpRefIdeal.nD Cert.MlpRefIdeal.τ).loc Cert.MlpRefIdeal.main_arg8))

def preserves_InBwd_InBwdIdeal : Prop :=
  True

def algebraic_InBwdIdeal_InRefIdeal [hInBwdIdeal : Cert.InBwdIdeal.Facts] [hInRefIdeal : Cert.InRefIdeal.Facts] : Prop :=
  ∀ (m : (ℓ : Loc Cert.InBwdIdeal.nD Cert.InBwdIdeal.τ Cert.InBwdIdeal.sig) → Buf (Elt Ideal) ℓ) (g : Dev Cert.InBwdIdeal.nD → PrngReg)
    (m' : (ℓ : Loc Cert.InRefIdeal.nD Cert.InRefIdeal.τ Cert.InRefIdeal.sig) → Buf (Elt Ideal) ℓ) (g' : Dev Cert.InRefIdeal.nD → PrngReg), Pre_InBwdIdeal m →
    (∀ c : Dev Cert.InBwdIdeal.nD,
      m' ((c.tc : Thread Cert.InRefIdeal.nD Cert.InRefIdeal.τ).loc Cert.InRefIdeal.main_arg0) = m ((c.tc : Thread Cert.InBwdIdeal.nD Cert.InBwdIdeal.τ).loc Cert.InBwdIdeal.main_arg0)
      ∧ m' ((c.tc : Thread Cert.InRefIdeal.nD Cert.InRefIdeal.τ).loc Cert.InRefIdeal.main_arg1) = m ((c.tc : Thread Cert.InBwdIdeal.nD Cert.InBwdIdeal.τ).loc Cert.InBwdIdeal.main_arg1)
      ∧ m' ((c.tc : Thread Cert.InRefIdeal.nD Cert.InRefIdeal.τ).loc Cert.InRefIdeal.main_arg2) = m ((c.tc : Thread Cert.InBwdIdeal.nD Cert.InBwdIdeal.τ).loc Cert.InBwdIdeal.main_arg2)
      ∧ m' ((c.tc : Thread Cert.InRefIdeal.nD Cert.InRefIdeal.τ).loc Cert.InRefIdeal.main_arg3) = m ((c.tc : Thread Cert.InBwdIdeal.nD Cert.InBwdIdeal.τ).loc Cert.InBwdIdeal.main_arg3)
      ∧ m' ((c.tc : Thread Cert.InRefIdeal.nD Cert.InRefIdeal.τ).loc Cert.InRefIdeal.main_arg4) = m ((c.tc : Thread Cert.InBwdIdeal.nD Cert.InBwdIdeal.τ).loc Cert.InBwdIdeal.main_arg4)
      ∧ m' ((c.tc : Thread Cert.InRefIdeal.nD Cert.InRefIdeal.τ).loc Cert.InRefIdeal.main_arg5) = m ((c.tc : Thread Cert.InBwdIdeal.nD Cert.InBwdIdeal.τ).loc Cert.InBwdIdeal.main_arg5)
      ∧ m' ((c.tc : Thread Cert.InRefIdeal.nD Cert.InRefIdeal.τ).loc Cert.InRefIdeal.main_arg6) = m ((c.tc : Thread Cert.InBwdIdeal.nD Cert.InBwdIdeal.τ).loc Cert.InBwdIdeal.main_arg6)
      ∧ m' ((c.tc : Thread Cert.InRefIdeal.nD Cert.InRefIdeal.τ).loc Cert.InRefIdeal.main_arg7) = m ((c.tc : Thread Cert.InBwdIdeal.nD Cert.InBwdIdeal.τ).loc Cert.InBwdIdeal.main_arg7)) →
    ∃ (v0 : (c : Dev Cert.InBwdIdeal.nD) → Buf (Elt Ideal) ((c.tc : Thread Cert.InBwdIdeal.nD Cert.InBwdIdeal.τ).loc Cert.InBwdIdeal.main_v5_0)) (v1 : (c : Dev Cert.InBwdIdeal.nD) → Buf (Elt Ideal) ((c.tc : Thread Cert.InBwdIdeal.nD Cert.InBwdIdeal.τ).loc Cert.InBwdIdeal.main_v5_1)) (v2 : (c : Dev Cert.InBwdIdeal.nD) → Buf (Elt Ideal) ((c.tc : Thread Cert.InBwdIdeal.nD Cert.InBwdIdeal.τ).loc Cert.InBwdIdeal.main_v5_2)),
      θ_run (Cert.InBwdIdeal.defs (F := Ideal)) (onTc (τ := Cert.InBwdIdeal.τ) (Cert.InBwdIdeal.main (F := Ideal))) ⟨m, fun _ => 0, g⟩ (fun r => ∀ c : Dev Cert.InBwdIdeal.nD,
          r.2.mem ((c.tc : Thread Cert.InBwdIdeal.nD Cert.InBwdIdeal.τ).loc Cert.InBwdIdeal.main_v5_0) = v0 c
          ∧ r.2.mem ((c.tc : Thread Cert.InBwdIdeal.nD Cert.InBwdIdeal.τ).loc Cert.InBwdIdeal.main_v5_1) = v1 c
          ∧ r.2.mem ((c.tc : Thread Cert.InBwdIdeal.nD Cert.InBwdIdeal.τ).loc Cert.InBwdIdeal.main_v5_2) = v2 c
          ∧ r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
          ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
          ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
          ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
          ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
          ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5)
          ∧ r.2.mem ((c.tc : Thread Cert.InBwdIdeal.nD Cert.InBwdIdeal.τ).loc Cert.InBwdIdeal.main_arg6) = m ((c.tc : Thread Cert.InBwdIdeal.nD Cert.InBwdIdeal.τ).loc Cert.InBwdIdeal.main_arg6)
          ∧ r.2.mem ((c.tc : Thread Cert.InBwdIdeal.nD Cert.InBwdIdeal.τ).loc Cert.InBwdIdeal.main_arg7) = m ((c.tc : Thread Cert.InBwdIdeal.nD Cert.InBwdIdeal.τ).loc Cert.InBwdIdeal.main_arg7))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v66) = v0 c
          ∧ r.2.mem ((c.tc : Thread Cert.InRefIdeal.nD Cert.InRefIdeal.τ).loc Cert.InRefIdeal.main_v61) = v1 c
          ∧ r.2.mem ((c.tc : Thread Cert.InRefIdeal.nD Cert.InRefIdeal.τ).loc Cert.InRefIdeal.main_v65) = v2 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3)
          ∧ r.2.mem ((c.tc : Thread Cert.InRefIdeal.nD Cert.InRefIdeal.τ).loc Cert.InRefIdeal.main_arg4) = m' ((c.tc : Thread Cert.InRefIdeal.nD Cert.InRefIdeal.τ).loc Cert.InRefIdeal.main_arg4)
          ∧ r.2.mem ((c.tc : Thread Cert.InRefIdeal.nD Cert.InRefIdeal.τ).loc Cert.InRefIdeal.main_arg5) = m' ((c.tc : Thread Cert.InRefIdeal.nD Cert.InRefIdeal.τ).loc Cert.InRefIdeal.main_arg5)
          ∧ r.2.mem ((c.tc : Thread Cert.InRefIdeal.nD Cert.InRefIdeal.τ).loc Cert.InRefIdeal.main_arg6) = m' ((c.tc : Thread Cert.InRefIdeal.nD Cert.InRefIdeal.τ).loc Cert.InRefIdeal.main_arg6)
          ∧ r.2.mem ((c.tc : Thread Cert.InRefIdeal.nD Cert.InRefIdeal.τ).loc Cert.InRefIdeal.main_arg7) = m' ((c.tc : Thread Cert.InRefIdeal.nD Cert.InRefIdeal.τ).loc Cert.InRefIdeal.main_arg7))

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v0)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v0) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v7) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1))

def preserves_DwUp_DwUpIdeal : Prop :=
  True

def algebraic_DwUpIdeal_DwUpRefIdeal [hDwUpIdeal : Cert.DwUpIdeal.Facts] [hDwUpRefIdeal : Cert.DwUpRefIdeal.Facts] : Prop :=
  ∀ (m : (ℓ : Loc Cert.DwUpIdeal.nD Cert.DwUpIdeal.τ Cert.DwUpIdeal.sig) → Buf (Elt Ideal) ℓ) (g : Dev Cert.DwUpIdeal.nD → PrngReg)
    (m' : (ℓ : Loc Cert.DwUpRefIdeal.nD Cert.DwUpRefIdeal.τ Cert.DwUpRefIdeal.sig) → Buf (Elt Ideal) ℓ) (g' : Dev Cert.DwUpRefIdeal.nD → PrngReg), Pre_DwUpIdeal m →
    (∀ c : Dev Cert.DwUpIdeal.nD,
      m' ((c.tc : Thread Cert.DwUpRefIdeal.nD Cert.DwUpRefIdeal.τ).loc Cert.DwUpRefIdeal.main_arg0) = m ((c.tc : Thread Cert.DwUpIdeal.nD Cert.DwUpIdeal.τ).loc Cert.DwUpIdeal.main_arg0)
      ∧ m' ((c.tc : Thread Cert.DwUpRefIdeal.nD Cert.DwUpRefIdeal.τ).loc Cert.DwUpRefIdeal.main_arg1) = m ((c.tc : Thread Cert.DwUpIdeal.nD Cert.DwUpIdeal.τ).loc Cert.DwUpIdeal.main_arg1)) →
    ∃ (v0 : (c : Dev Cert.DwUpIdeal.nD) → Buf (Elt Ideal) ((c.tc : Thread Cert.DwUpIdeal.nD Cert.DwUpIdeal.τ).loc Cert.DwUpIdeal.main_v0)),
      θ_run (Cert.DwUpIdeal.defs (F := Ideal)) (onTc (τ := Cert.DwUpIdeal.τ) (Cert.DwUpIdeal.main (F := Ideal))) ⟨m, fun _ => 0, g⟩ (fun r => ∀ c : Dev Cert.DwUpIdeal.nD,
          r.2.mem ((c.tc : Thread Cert.DwUpIdeal.nD Cert.DwUpIdeal.τ).loc Cert.DwUpIdeal.main_v0) = v0 c
          ∧ r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
          ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ θ_run (Cert.DwUpRefIdeal.defs (F := Ideal)) (onTc (τ := Cert.DwUpRefIdeal.τ) (Cert.DwUpRefIdeal.main (F := Ideal))) ⟨m', fun _ => 0, g'⟩ (fun r => ∀ c : Dev Cert.DwUpRefIdeal.nD,
          r.2.mem ((c.tc : Thread Cert.DwUpRefIdeal.nD Cert.DwUpRefIdeal.τ).loc Cert.DwUpRefIdeal.main_v8) = v0 c
          ∧ r.2.mem ((c.tc : Thread Cert.DwUpRefIdeal.nD Cert.DwUpRefIdeal.τ).loc Cert.DwUpRefIdeal.main_arg0) = m' ((c.tc : Thread Cert.DwUpRefIdeal.nD Cert.DwUpRefIdeal.τ).loc Cert.DwUpRefIdeal.main_arg0)
          ∧ r.2.mem ((c.tc : Thread Cert.DwUpRefIdeal.nD Cert.DwUpRefIdeal.τ).loc Cert.DwUpRefIdeal.main_arg1) = m' ((c.tc : Thread Cert.DwUpRefIdeal.nD Cert.DwUpRefIdeal.τ).loc Cert.DwUpRefIdeal.main_arg1))

def preserves_DwDown_DwDownIdeal : Prop :=
  True

def algebraic_DwDownIdeal_DwDownRefIdeal [hDwDownIdeal : Cert.DwDownIdeal.Facts] [hDwDownRefIdeal : Cert.DwDownRefIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownRefIdeal.nD Cert.DwDownRefIdeal.τ Cert.DwDownRefIdeal.sig) → Buf (Elt Ideal) ℓ) (g' : Dev Cert.DwDownRefIdeal.nD → PrngReg), Pre_DwDownIdeal m →
    (∀ c : Dev Cert.DwDownIdeal.nD,
      m' ((c.tc : Thread Cert.DwDownRefIdeal.nD Cert.DwDownRefIdeal.τ).loc Cert.DwDownRefIdeal.main_arg0) = m ((c.tc : Thread Cert.DwDownIdeal.nD Cert.DwDownIdeal.τ).loc Cert.DwDownIdeal.main_arg0)
      ∧ m' ((c.tc : Thread Cert.DwDownRefIdeal.nD Cert.DwDownRefIdeal.τ).loc Cert.DwDownRefIdeal.main_arg1) = m ((c.tc : Thread Cert.DwDownIdeal.nD Cert.DwDownIdeal.τ).loc Cert.DwDownIdeal.main_arg1)) →
    ∃ (v0 : (c : Dev Cert.DwDownIdeal.nD) → Buf (Elt Ideal) ((c.tc : Thread Cert.DwDownIdeal.nD Cert.DwDownIdeal.τ).loc Cert.DwDownIdeal.main_v0)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v0) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ θ_run (Cert.DwDownRefIdeal.defs (F := Ideal)) (onTc (τ := Cert.DwDownRefIdeal.τ) (Cert.DwDownRefIdeal.main (F := Ideal))) ⟨m', fun _ => 0, g'⟩ (fun r => ∀ c : Dev Cert.DwDownRefIdeal.nD,
          r.2.mem ((c.tc : Thread Cert.DwDownRefIdeal.nD Cert.DwDownRefIdeal.τ).loc Cert.DwDownRefIdeal.main_v7) = v0 c
          ∧ r.2.mem ((c.tc : Thread Cert.DwDownRefIdeal.nD Cert.DwDownRefIdeal.τ).loc Cert.DwDownRefIdeal.main_arg0) = m' ((c.tc : Thread Cert.DwDownRefIdeal.nD Cert.DwDownRefIdeal.τ).loc Cert.DwDownRefIdeal.main_arg0)
          ∧ r.2.mem ((c.tc : Thread Cert.DwDownRefIdeal.nD Cert.DwDownRefIdeal.τ).loc Cert.DwDownRefIdeal.main_arg1) = m' ((c.tc : Thread Cert.DwDownRefIdeal.nD Cert.DwDownRefIdeal.τ).loc Cert.DwDownRefIdeal.main_arg1))

def preserves_AdaFwd_AdaFwdIdeal : Prop :=
  True

def algebraic_AdaFwdIdeal_AdaFwdRefIdeal [hAdaFwdIdeal : Cert.AdaFwdIdeal.Facts] [hAdaFwdRefIdeal : Cert.AdaFwdRefIdeal.Facts] : Prop :=
  ∀ (m : (ℓ : Loc Cert.AdaFwdIdeal.nD Cert.AdaFwdIdeal.τ Cert.AdaFwdIdeal.sig) → Buf (Elt Ideal) ℓ) (g : Dev Cert.AdaFwdIdeal.nD → PrngReg)
    (m' : (ℓ : Loc Cert.AdaFwdRefIdeal.nD Cert.AdaFwdRefIdeal.τ Cert.AdaFwdRefIdeal.sig) → Buf (Elt Ideal) ℓ) (g' : Dev Cert.AdaFwdRefIdeal.nD → PrngReg), Pre_AdaFwdIdeal m →
    (∀ c : Dev Cert.AdaFwdIdeal.nD,
      m' ((c.tc : Thread Cert.AdaFwdRefIdeal.nD Cert.AdaFwdRefIdeal.τ).loc Cert.AdaFwdRefIdeal.main_arg0) = m ((c.tc : Thread Cert.AdaFwdIdeal.nD Cert.AdaFwdIdeal.τ).loc Cert.AdaFwdIdeal.main_arg0)
      ∧ m' ((c.tc : Thread Cert.AdaFwdRefIdeal.nD Cert.AdaFwdRefIdeal.τ).loc Cert.AdaFwdRefIdeal.main_arg1) = m ((c.tc : Thread Cert.AdaFwdIdeal.nD Cert.AdaFwdIdeal.τ).loc Cert.AdaFwdIdeal.main_arg1)
      ∧ m' ((c.tc : Thread Cert.AdaFwdRefIdeal.nD Cert.AdaFwdRefIdeal.τ).loc Cert.AdaFwdRefIdeal.main_arg2) = m ((c.tc : Thread Cert.AdaFwdIdeal.nD Cert.AdaFwdIdeal.τ).loc Cert.AdaFwdIdeal.main_arg2)) →
    ∃ (v0 : (c : Dev Cert.AdaFwdIdeal.nD) → Buf (Elt Ideal) ((c.tc : Thread Cert.AdaFwdIdeal.nD Cert.AdaFwdIdeal.τ).loc Cert.AdaFwdIdeal.main_v0)),
      θ_run (Cert.AdaFwdIdeal.defs (F := Ideal)) (onTc (τ := Cert.AdaFwdIdeal.τ) (Cert.AdaFwdIdeal.main (F := Ideal))) ⟨m, fun _ => 0, g⟩ (fun r => ∀ c : Dev Cert.AdaFwdIdeal.nD,
          r.2.mem ((c.tc : Thread Cert.AdaFwdIdeal.nD Cert.AdaFwdIdeal.τ).loc Cert.AdaFwdIdeal.main_v0) = v0 c
          ∧ r.2.mem ((c.tc : Thread Cert.AdaFwdIdeal.nD Cert.AdaFwdIdeal.τ).loc Cert.AdaFwdIdeal.main_arg0) = m ((c.tc : Thread Cert.AdaFwdIdeal.nD Cert.AdaFwdIdeal.τ).loc Cert.AdaFwdIdeal.main_arg0)
          ∧ r.2.mem ((c.tc : Thread Cert.AdaFwdIdeal.nD Cert.AdaFwdIdeal.τ).loc Cert.AdaFwdIdeal.main_arg1) = m ((c.tc : Thread Cert.AdaFwdIdeal.nD Cert.AdaFwdIdeal.τ).loc Cert.AdaFwdIdeal.main_arg1)
          ∧ r.2.mem ((c.tc : Thread Cert.AdaFwdIdeal.nD Cert.AdaFwdIdeal.τ).loc Cert.AdaFwdIdeal.main_arg2) = m ((c.tc : Thread Cert.AdaFwdIdeal.nD Cert.AdaFwdIdeal.τ).loc Cert.AdaFwdIdeal.main_arg2))
      ∧ θ_run (Cert.AdaFwdRefIdeal.defs (F := Ideal)) (onTc (τ := Cert.AdaFwdRefIdeal.τ) (Cert.AdaFwdRefIdeal.main (F := Ideal))) ⟨m', fun _ => 0, g'⟩ (fun r => ∀ c : Dev Cert.AdaFwdRefIdeal.nD,
          r.2.mem ((c.tc : Thread Cert.AdaFwdRefIdeal.nD Cert.AdaFwdRefIdeal.τ).loc Cert.AdaFwdRefIdeal.main_v5) = v0 c
          ∧ r.2.mem ((c.tc : Thread Cert.AdaFwdRefIdeal.nD Cert.AdaFwdRefIdeal.τ).loc Cert.AdaFwdRefIdeal.main_arg0) = m' ((c.tc : Thread Cert.AdaFwdRefIdeal.nD Cert.AdaFwdRefIdeal.τ).loc Cert.AdaFwdRefIdeal.main_arg0)
          ∧ r.2.mem ((c.tc : Thread Cert.AdaFwdRefIdeal.nD Cert.AdaFwdRefIdeal.τ).loc Cert.AdaFwdRefIdeal.main_arg1) = m' ((c.tc : Thread Cert.AdaFwdRefIdeal.nD Cert.AdaFwdRefIdeal.τ).loc Cert.AdaFwdRefIdeal.main_arg1)
          ∧ r.2.mem ((c.tc : Thread Cert.AdaFwdRefIdeal.nD Cert.AdaFwdRefIdeal.τ).loc Cert.AdaFwdRefIdeal.main_arg2) = m' ((c.tc : Thread Cert.AdaFwdRefIdeal.nD Cert.AdaFwdRefIdeal.τ).loc Cert.AdaFwdRefIdeal.main_arg2))

def preserves_AdaBwd_AdaBwdIdeal : Prop :=
  True

def algebraic_AdaBwdIdeal_AdaBwdRefIdeal [hAdaBwdIdeal : Cert.AdaBwdIdeal.Facts] [hAdaBwdRefIdeal : Cert.AdaBwdRefIdeal.Facts] : Prop :=
  ∀ (m : (ℓ : Loc Cert.AdaBwdIdeal.nD Cert.AdaBwdIdeal.τ Cert.AdaBwdIdeal.sig) → Buf (Elt Ideal) ℓ) (g : Dev Cert.AdaBwdIdeal.nD → PrngReg)
    (m' : (ℓ : Loc Cert.AdaBwdRefIdeal.nD Cert.AdaBwdRefIdeal.τ Cert.AdaBwdRefIdeal.sig) → Buf (Elt Ideal) ℓ) (g' : Dev Cert.AdaBwdRefIdeal.nD → PrngReg), Pre_AdaBwdIdeal m →
    (∀ c : Dev Cert.AdaBwdIdeal.nD,
      m' ((c.tc : Thread Cert.AdaBwdRefIdeal.nD Cert.AdaBwdRefIdeal.τ).loc Cert.AdaBwdRefIdeal.main_arg0) = m ((c.tc : Thread Cert.AdaBwdIdeal.nD Cert.AdaBwdIdeal.τ).loc Cert.AdaBwdIdeal.main_arg0)
      ∧ m' ((c.tc : Thread Cert.AdaBwdRefIdeal.nD Cert.AdaBwdRefIdeal.τ).loc Cert.AdaBwdRefIdeal.main_arg1) = m ((c.tc : Thread Cert.AdaBwdIdeal.nD Cert.AdaBwdIdeal.τ).loc Cert.AdaBwdIdeal.main_arg1)
      ∧ m' ((c.tc : Thread Cert.AdaBwdRefIdeal.nD Cert.AdaBwdRefIdeal.τ).loc Cert.AdaBwdRefIdeal.main_arg2) = m ((c.tc : Thread Cert.AdaBwdIdeal.nD Cert.AdaBwdIdeal.τ).loc Cert.AdaBwdIdeal.main_arg2)
      ∧ m' ((c.tc : Thread Cert.AdaBwdRefIdeal.nD Cert.AdaBwdRefIdeal.τ).loc Cert.AdaBwdRefIdeal.main_arg3) = m ((c.tc : Thread Cert.AdaBwdIdeal.nD Cert.AdaBwdIdeal.τ).loc Cert.AdaBwdIdeal.main_arg3)
      ∧ m' ((c.tc : Thread Cert.AdaBwdRefIdeal.nD Cert.AdaBwdRefIdeal.τ).loc Cert.AdaBwdRefIdeal.main_arg4) = m ((c.tc : Thread Cert.AdaBwdIdeal.nD Cert.AdaBwdIdeal.τ).loc Cert.AdaBwdIdeal.main_arg4)) →
    ∃ (v0 : (c : Dev Cert.AdaBwdIdeal.nD) → Buf (Elt Ideal) ((c.tc : Thread Cert.AdaBwdIdeal.nD Cert.AdaBwdIdeal.τ).loc Cert.AdaBwdIdeal.main_v0_0)) (v1 : (c : Dev Cert.AdaBwdIdeal.nD) → Buf (Elt Ideal) ((c.tc : Thread Cert.AdaBwdIdeal.nD Cert.AdaBwdIdeal.τ).loc Cert.AdaBwdIdeal.main_v0_1)) (v2 : (c : Dev Cert.AdaBwdIdeal.nD) → Buf (Elt Ideal) ((c.tc : Thread Cert.AdaBwdIdeal.nD Cert.AdaBwdIdeal.τ).loc Cert.AdaBwdIdeal.main_v0_2)) (v3 : (c : Dev Cert.AdaBwdIdeal.nD) → Buf (Elt Ideal) ((c.tc : Thread Cert.AdaBwdIdeal.nD Cert.AdaBwdIdeal.τ).loc Cert.AdaBwdIdeal.main_v0_3)),
      θ_run (Cert.AdaBwdIdeal.defs (F := Ideal)) (onTc (τ := Cert.AdaBwdIdeal.τ) (Cert.AdaBwdIdeal.main (F := Ideal))) ⟨m, fun _ => 0, g⟩ (fun r => ∀ c : Dev Cert.AdaBwdIdeal.nD,
          r.2.mem ((c.tc : Thread Cert.AdaBwdIdeal.nD Cert.AdaBwdIdeal.τ).loc Cert.AdaBwdIdeal.main_v0_0) = v0 c
          ∧ r.2.mem ((c.tc : Thread Cert.AdaBwdIdeal.nD Cert.AdaBwdIdeal.τ).loc Cert.AdaBwdIdeal.main_v0_1) = v1 c
          ∧ r.2.mem ((c.tc : Thread Cert.AdaBwdIdeal.nD Cert.AdaBwdIdeal.τ).loc Cert.AdaBwdIdeal.main_v0_2) = v2 c
          ∧ r.2.mem ((c.tc : Thread Cert.AdaBwdIdeal.nD Cert.AdaBwdIdeal.τ).loc Cert.AdaBwdIdeal.main_v0_3) = v3 c
          ∧ r.2.mem ((c.tc : Thread Cert.AdaBwdIdeal.nD Cert.AdaBwdIdeal.τ).loc Cert.AdaBwdIdeal.main_arg0) = m ((c.tc : Thread Cert.AdaBwdIdeal.nD Cert.AdaBwdIdeal.τ).loc Cert.AdaBwdIdeal.main_arg0)
          ∧ r.2.mem ((c.tc : Thread Cert.AdaBwdIdeal.nD Cert.AdaBwdIdeal.τ).loc Cert.AdaBwdIdeal.main_arg1) = m ((c.tc : Thread Cert.AdaBwdIdeal.nD Cert.AdaBwdIdeal.τ).loc Cert.AdaBwdIdeal.main_arg1)
          ∧ r.2.mem ((c.tc : Thread Cert.AdaBwdIdeal.nD Cert.AdaBwdIdeal.τ).loc Cert.AdaBwdIdeal.main_arg2) = m ((c.tc : Thread Cert.AdaBwdIdeal.nD Cert.AdaBwdIdeal.τ).loc Cert.AdaBwdIdeal.main_arg2)
          ∧ r.2.mem ((c.tc : Thread Cert.AdaBwdIdeal.nD Cert.AdaBwdIdeal.τ).loc Cert.AdaBwdIdeal.main_arg3) = m ((c.tc : Thread Cert.AdaBwdIdeal.nD Cert.AdaBwdIdeal.τ).loc Cert.AdaBwdIdeal.main_arg3)
          ∧ r.2.mem ((c.tc : Thread Cert.AdaBwdIdeal.nD Cert.AdaBwdIdeal.τ).loc Cert.AdaBwdIdeal.main_arg4) = m ((c.tc : Thread Cert.AdaBwdIdeal.nD Cert.AdaBwdIdeal.τ).loc Cert.AdaBwdIdeal.main_arg4))
      ∧ θ_run (Cert.AdaBwdRefIdeal.defs (F := Ideal)) (onTc (τ := Cert.AdaBwdRefIdeal.τ) (Cert.AdaBwdRefIdeal.main (F := Ideal))) ⟨m', fun _ => 0, g'⟩ (fun r => ∀ c : Dev Cert.AdaBwdRefIdeal.nD,
          r.2.mem ((c.tc : Thread Cert.AdaBwdRefIdeal.nD Cert.AdaBwdRefIdeal.τ).loc Cert.AdaBwdRefIdeal.main_v3) = v0 c
          ∧ r.2.mem ((c.tc : Thread Cert.AdaBwdRefIdeal.nD Cert.AdaBwdRefIdeal.τ).loc Cert.AdaBwdRefIdeal.main_v27) = v1 c
          ∧ r.2.mem ((c.tc : Thread Cert.AdaBwdRefIdeal.nD Cert.AdaBwdRefIdeal.τ).loc Cert.AdaBwdRefIdeal.main_v8) = v2 c
          ∧ r.2.mem ((c.tc : Thread Cert.AdaBwdRefIdeal.nD Cert.AdaBwdRefIdeal.τ).loc Cert.AdaBwdRefIdeal.main_v14) = v3 c
          ∧ r.2.mem ((c.tc : Thread Cert.AdaBwdRefIdeal.nD Cert.AdaBwdRefIdeal.τ).loc Cert.AdaBwdRefIdeal.main_arg0) = m' ((c.tc : Thread Cert.AdaBwdRefIdeal.nD Cert.AdaBwdRefIdeal.τ).loc Cert.AdaBwdRefIdeal.main_arg0)
          ∧ r.2.mem ((c.tc : Thread Cert.AdaBwdRefIdeal.nD Cert.AdaBwdRefIdeal.τ).loc Cert.AdaBwdRefIdeal.main_arg1) = m' ((c.tc : Thread Cert.AdaBwdRefIdeal.nD Cert.AdaBwdRefIdeal.τ).loc Cert.AdaBwdRefIdeal.main_arg1)
          ∧ r.2.mem ((c.tc : Thread Cert.AdaBwdRefIdeal.nD Cert.AdaBwdRefIdeal.τ).loc Cert.AdaBwdRefIdeal.main_arg2) = m' ((c.tc : Thread Cert.AdaBwdRefIdeal.nD Cert.AdaBwdRefIdeal.τ).loc Cert.AdaBwdRefIdeal.main_arg2)
          ∧ r.2.mem ((c.tc : Thread Cert.AdaBwdRefIdeal.nD Cert.AdaBwdRefIdeal.τ).loc Cert.AdaBwdRefIdeal.main_arg3) = m' ((c.tc : Thread Cert.AdaBwdRefIdeal.nD Cert.AdaBwdRefIdeal.τ).loc Cert.AdaBwdRefIdeal.main_arg3)
          ∧ r.2.mem ((c.tc : Thread Cert.AdaBwdRefIdeal.nD Cert.AdaBwdRefIdeal.τ).loc Cert.AdaBwdRefIdeal.main_arg4) = m' ((c.tc : Thread Cert.AdaBwdRefIdeal.nD Cert.AdaBwdRefIdeal.τ).loc Cert.AdaBwdRefIdeal.main_arg4))

def preserves_AdamPool_AdamPoolIdeal : Prop :=
  True

def algebraic_AdamPoolIdeal_AdamPoolRefIdeal [hAdamPoolIdeal : Cert.AdamPoolIdeal.Facts] [hAdamPoolRefIdeal : Cert.AdamPoolRefIdeal.Facts] : Prop :=
  ∀ (m : (ℓ : Loc Cert.AdamPoolIdeal.nD Cert.AdamPoolIdeal.τ Cert.AdamPoolIdeal.sig) → Buf (Elt Ideal) ℓ) (g : Dev Cert.AdamPoolIdeal.nD → PrngReg)
    (m' : (ℓ : Loc Cert.AdamPoolRefIdeal.nD Cert.AdamPoolRefIdeal.τ Cert.AdamPoolRefIdeal.sig) → Buf (Elt Ideal) ℓ) (g' : Dev Cert.AdamPoolRefIdeal.nD → PrngReg), Pre_AdamPoolIdeal m →
    (∀ c : Dev Cert.AdamPoolIdeal.nD,
      m' ((c.tc : Thread Cert.AdamPoolRefIdeal.nD Cert.AdamPoolRefIdeal.τ).loc Cert.AdamPoolRefIdeal.main_arg0) = m ((c.tc : Thread Cert.AdamPoolIdeal.nD Cert.AdamPoolIdeal.τ).loc Cert.AdamPoolIdeal.main_arg0)
      ∧ m' ((c.tc : Thread Cert.AdamPoolRefIdeal.nD Cert.AdamPoolRefIdeal.τ).loc Cert.AdamPoolRefIdeal.main_arg1) = m ((c.tc : Thread Cert.AdamPoolIdeal.nD Cert.AdamPoolIdeal.τ).loc Cert.AdamPoolIdeal.main_arg1)
      ∧ m' ((c.tc : Thread Cert.AdamPoolRefIdeal.nD Cert.AdamPoolRefIdeal.τ).loc Cert.AdamPoolRefIdeal.main_arg2) = m ((c.tc : Thread Cert.AdamPoolIdeal.nD Cert.AdamPoolIdeal.τ).loc Cert.AdamPoolIdeal.main_arg2)
      ∧ m' ((c.tc : Thread Cert.AdamPoolRefIdeal.nD Cert.AdamPoolRefIdeal.τ).loc Cert.AdamPoolRefIdeal.main_arg3) = m ((c.tc : Thread Cert.AdamPoolIdeal.nD Cert.AdamPoolIdeal.τ).loc Cert.AdamPoolIdeal.main_arg3)) →
    ∃ (v0 : (c : Dev Cert.AdamPoolIdeal.nD) → Buf (Elt Ideal) ((c.tc : Thread Cert.AdamPoolIdeal.nD Cert.AdamPoolIdeal.τ).loc Cert.AdamPoolIdeal.main_v0_0)) (v1 : (c : Dev Cert.AdamPoolIdeal.nD) → Buf (Elt Ideal) ((c.tc : Thread Cert.AdamPoolIdeal.nD Cert.AdamPoolIdeal.τ).loc Cert.AdamPoolIdeal.main_v0_1)) (v2 : (c : Dev Cert.AdamPoolIdeal.nD) → Buf (Elt Ideal) ((c.tc : Thread Cert.AdamPoolIdeal.nD Cert.AdamPoolIdeal.τ).loc Cert.AdamPoolIdeal.main_v0_2)) (v3 : (c : Dev Cert.AdamPoolIdeal.nD) → Buf (Elt Ideal) ((c.tc : Thread Cert.AdamPoolIdeal.nD Cert.AdamPoolIdeal.τ).loc Cert.AdamPoolIdeal.main_v0_3)),
      θ_run (Cert.AdamPoolIdeal.defs (F := Ideal)) (onTc (τ := Cert.AdamPoolIdeal.τ) (Cert.AdamPoolIdeal.main (F := Ideal))) ⟨m, fun _ => 0, g⟩ (fun r => ∀ c : Dev Cert.AdamPoolIdeal.nD,
          r.2.mem ((c.tc : Thread Cert.AdamPoolIdeal.nD Cert.AdamPoolIdeal.τ).loc Cert.AdamPoolIdeal.main_v0_0) = v0 c
          ∧ r.2.mem ((c.tc : Thread Cert.AdamPoolIdeal.nD Cert.AdamPoolIdeal.τ).loc Cert.AdamPoolIdeal.main_v0_1) = v1 c
          ∧ r.2.mem ((c.tc : Thread Cert.AdamPoolIdeal.nD Cert.AdamPoolIdeal.τ).loc Cert.AdamPoolIdeal.main_v0_2) = v2 c
          ∧ r.2.mem ((c.tc : Thread Cert.AdamPoolIdeal.nD Cert.AdamPoolIdeal.τ).loc Cert.AdamPoolIdeal.main_v0_3) = v3 c
          ∧ r.2.mem ((c.tc : Thread Cert.AdamPoolIdeal.nD Cert.AdamPoolIdeal.τ).loc Cert.AdamPoolIdeal.main_arg0) = m ((c.tc : Thread Cert.AdamPoolIdeal.nD Cert.AdamPoolIdeal.τ).loc Cert.AdamPoolIdeal.main_arg0)
          ∧ r.2.mem ((c.tc : Thread Cert.AdamPoolIdeal.nD Cert.AdamPoolIdeal.τ).loc Cert.AdamPoolIdeal.main_arg1) = m ((c.tc : Thread Cert.AdamPoolIdeal.nD Cert.AdamPoolIdeal.τ).loc Cert.AdamPoolIdeal.main_arg1)
          ∧ r.2.mem ((c.tc : Thread Cert.AdamPoolIdeal.nD Cert.AdamPoolIdeal.τ).loc Cert.AdamPoolIdeal.main_arg2) = m ((c.tc : Thread Cert.AdamPoolIdeal.nD Cert.AdamPoolIdeal.τ).loc Cert.AdamPoolIdeal.main_arg2)
          ∧ r.2.mem ((c.tc : Thread Cert.AdamPoolIdeal.nD Cert.AdamPoolIdeal.τ).loc Cert.AdamPoolIdeal.main_arg3) = m ((c.tc : Thread Cert.AdamPoolIdeal.nD Cert.AdamPoolIdeal.τ).loc Cert.AdamPoolIdeal.main_arg3))
      ∧ θ_run (Cert.AdamPoolRefIdeal.defs (F := Ideal)) (onTc (τ := Cert.AdamPoolRefIdeal.τ) (Cert.AdamPoolRefIdeal.main (F := Ideal))) ⟨m', fun _ => 0, g'⟩ (fun r => ∀ c : Dev Cert.AdamPoolRefIdeal.nD,
          r.2.mem ((c.tc : Thread Cert.AdamPoolRefIdeal.nD Cert.AdamPoolRefIdeal.τ).loc Cert.AdamPoolRefIdeal.main_v0) = v0 c
          ∧ r.2.mem ((c.tc : Thread Cert.AdamPoolRefIdeal.nD Cert.AdamPoolRefIdeal.τ).loc Cert.AdamPoolRefIdeal.main_v24) = v1 c
          ∧ r.2.mem ((c.tc : Thread Cert.AdamPoolRefIdeal.nD Cert.AdamPoolRefIdeal.τ).loc Cert.AdamPoolRefIdeal.main_v5) = v2 c
          ∧ r.2.mem ((c.tc : Thread Cert.AdamPoolRefIdeal.nD Cert.AdamPoolRefIdeal.τ).loc Cert.AdamPoolRefIdeal.main_v11) = v3 c
          ∧ r.2.mem ((c.tc : Thread Cert.AdamPoolRefIdeal.nD Cert.AdamPoolRefIdeal.τ).loc Cert.AdamPoolRefIdeal.main_arg0) = m' ((c.tc : Thread Cert.AdamPoolRefIdeal.nD Cert.AdamPoolRefIdeal.τ).loc Cert.AdamPoolRefIdeal.main_arg0)
          ∧ r.2.mem ((c.tc : Thread Cert.AdamPoolRefIdeal.nD Cert.AdamPoolRefIdeal.τ).loc Cert.AdamPoolRefIdeal.main_arg1) = m' ((c.tc : Thread Cert.AdamPoolRefIdeal.nD Cert.AdamPoolRefIdeal.τ).loc Cert.AdamPoolRefIdeal.main_arg1)
          ∧ r.2.mem ((c.tc : Thread Cert.AdamPoolRefIdeal.nD Cert.AdamPoolRefIdeal.τ).loc Cert.AdamPoolRefIdeal.main_arg2) = m' ((c.tc : Thread Cert.AdamPoolRefIdeal.nD Cert.AdamPoolRefIdeal.τ).loc Cert.AdamPoolRefIdeal.main_arg2)
          ∧ r.2.mem ((c.tc : Thread Cert.AdamPoolRefIdeal.nD Cert.AdamPoolRefIdeal.τ).loc Cert.AdamPoolRefIdeal.main_arg3) = m' ((c.tc : Thread Cert.AdamPoolRefIdeal.nD Cert.AdamPoolRefIdeal.τ).loc Cert.AdamPoolRefIdeal.main_arg3))

def preserves_AdamConv_AdamConvIdeal : Prop :=
  True

def algebraic_AdamConvIdeal_AdamConvRefIdeal [hAdamConvIdeal : Cert.AdamConvIdeal.Facts] [hAdamConvRefIdeal : Cert.AdamConvRefIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg)
    (m' : (ℓ : Loc Cert.AdamConvRefIdeal.nD Cert.AdamConvRefIdeal.τ Cert.AdamConvRefIdeal.sig) → Buf (Elt Ideal) ℓ) (g' : Dev Cert.AdamConvRefIdeal.nD → PrngReg), Pre_AdamConvIdeal m →
    (∀ c : Dev Cert.AdamConvIdeal.nD,
      m' ((c.tc : Thread Cert.AdamConvRefIdeal.nD Cert.AdamConvRefIdeal.τ).loc Cert.AdamConvRefIdeal.main_arg0) = m ((c.tc : Thread Cert.AdamConvIdeal.nD Cert.AdamConvIdeal.τ).loc Cert.AdamConvIdeal.main_arg0)
      ∧ m' ((c.tc : Thread Cert.AdamConvRefIdeal.nD Cert.AdamConvRefIdeal.τ).loc Cert.AdamConvRefIdeal.main_arg1) = m ((c.tc : Thread Cert.AdamConvIdeal.nD Cert.AdamConvIdeal.τ).loc Cert.AdamConvIdeal.main_arg1)
      ∧ m' ((c.tc : Thread Cert.AdamConvRefIdeal.nD Cert.AdamConvRefIdeal.τ).loc Cert.AdamConvRefIdeal.main_arg2) = m ((c.tc : Thread Cert.AdamConvIdeal.nD Cert.AdamConvIdeal.τ).loc Cert.AdamConvIdeal.main_arg2)
      ∧ m' ((c.tc : Thread Cert.AdamConvRefIdeal.nD Cert.AdamConvRefIdeal.τ).loc Cert.AdamConvRefIdeal.main_arg3) = m ((c.tc : Thread Cert.AdamConvIdeal.nD Cert.AdamConvIdeal.τ).loc Cert.AdamConvIdeal.main_arg3)) →
    ∃ (v0 : (c : Dev Cert.AdamConvIdeal.nD) → Buf (Elt Ideal) ((c.tc : Thread Cert.AdamConvIdeal.nD Cert.AdamConvIdeal.τ).loc Cert.AdamConvIdeal.main_v0_0)) (v1 : (c : Dev Cert.AdamConvIdeal.nD) → Buf (Elt Ideal) ((c.tc : Thread Cert.AdamConvIdeal.nD Cert.AdamConvIdeal.τ).loc Cert.AdamConvIdeal.main_v0_1)) (v2 : (c : Dev Cert.AdamConvIdeal.nD) → Buf (Elt Ideal) ((c.tc : Thread Cert.AdamConvIdeal.nD Cert.AdamConvIdeal.τ).loc Cert.AdamConvIdeal.main_v0_2)),
      θ_run (Cert.AdamConvIdeal.defs (F := Ideal)) (onTc (τ := Cert.AdamConvIdeal.τ) (Cert.AdamConvIdeal.main (F := Ideal))) ⟨m, fun _ => 0, g⟩ (fun r => ∀ c : Dev Cert.AdamConvIdeal.nD,
          r.2.mem ((c.tc : Thread Cert.AdamConvIdeal.nD Cert.AdamConvIdeal.τ).loc Cert.AdamConvIdeal.main_v0_0) = v0 c
          ∧ r.2.mem ((c.tc : Thread Cert.AdamConvIdeal.nD Cert.AdamConvIdeal.τ).loc Cert.AdamConvIdeal.main_v0_1) = v1 c
          ∧ r.2.mem ((c.tc : Thread Cert.AdamConvIdeal.nD Cert.AdamConvIdeal.τ).loc Cert.AdamConvIdeal.main_v0_2) = v2 c
          ∧ r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
          ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
          ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
          ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ θ_run (Cert.AdamConvRefIdeal.defs (F := Ideal)) (onTc (τ := Cert.AdamConvRefIdeal.τ) (Cert.AdamConvRefIdeal.main (F := Ideal))) ⟨m', fun _ => 0, g'⟩ (fun r => ∀ c : Dev Cert.AdamConvRefIdeal.nD,
          r.2.mem ((c.tc : Thread Cert.AdamConvRefIdeal.nD Cert.AdamConvRefIdeal.τ).loc Cert.AdamConvRefIdeal.main_v23) = v0 c
          ∧ r.2.mem ((c.tc : Thread Cert.AdamConvRefIdeal.nD Cert.AdamConvRefIdeal.τ).loc Cert.AdamConvRefIdeal.main_v4) = v1 c
          ∧ r.2.mem ((c.tc : Thread Cert.AdamConvRefIdeal.nD Cert.AdamConvRefIdeal.τ).loc Cert.AdamConvRefIdeal.main_v10) = v2 c
          ∧ r.2.mem ((c.tc : Thread Cert.AdamConvRefIdeal.nD Cert.AdamConvRefIdeal.τ).loc Cert.AdamConvRefIdeal.main_arg0) = m' ((c.tc : Thread Cert.AdamConvRefIdeal.nD Cert.AdamConvRefIdeal.τ).loc Cert.AdamConvRefIdeal.main_arg0)
          ∧ r.2.mem ((c.tc : Thread Cert.AdamConvRefIdeal.nD Cert.AdamConvRefIdeal.τ).loc Cert.AdamConvRefIdeal.main_arg1) = m' ((c.tc : Thread Cert.AdamConvRefIdeal.nD Cert.AdamConvRefIdeal.τ).loc Cert.AdamConvRefIdeal.main_arg1)
          ∧ r.2.mem ((c.tc : Thread Cert.AdamConvRefIdeal.nD Cert.AdamConvRefIdeal.τ).loc Cert.AdamConvRefIdeal.main_arg2) = m' ((c.tc : Thread Cert.AdamConvRefIdeal.nD Cert.AdamConvRefIdeal.τ).loc Cert.AdamConvRefIdeal.main_arg2)
          ∧ r.2.mem ((c.tc : Thread Cert.AdamConvRefIdeal.nD Cert.AdamConvRefIdeal.τ).loc Cert.AdamConvRefIdeal.main_arg3) = m' ((c.tc : Thread Cert.AdamConvRefIdeal.nD Cert.AdamConvRefIdeal.τ).loc Cert.AdamConvRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] [hPre_on_mesh : Cert.Pre_on_mesh.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)
      ∧ m' ((c.tc : Thread Cert.AdamOutRefIdeal.nD Cert.AdamOutRefIdeal.τ).loc Cert.AdamOutRefIdeal.main_arg4) = m ((c.tc : Thread Cert.AdamOutIdeal.nD Cert.AdamOutIdeal.τ).loc Cert.AdamOutIdeal.main_arg4)
      ∧ m' ((c.tc : Thread Cert.AdamOutRefIdeal.nD Cert.AdamOutRefIdeal.τ).loc Cert.AdamOutRefIdeal.main_arg5) = m ((c.tc : Thread Cert.AdamOutIdeal.nD Cert.AdamOutIdeal.τ).loc Cert.AdamOutIdeal.main_arg5)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
          ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4)
          ∧ r.2.mem ((c.tc : Thread Cert.AdamOutIdeal.nD Cert.AdamOutIdeal.τ).loc Cert.AdamOutIdeal.main_arg5) = m ((c.tc : Thread Cert.AdamOutIdeal.nD Cert.AdamOutIdeal.τ).loc Cert.AdamOutIdeal.main_arg5))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v7) = v0 c
          ∧ r.2.mem ((c.tc : Thread Cert.AdamOutRefIdeal.nD Cert.AdamOutRefIdeal.τ).loc Cert.AdamOutRefIdeal.main_v31) = v1 c
          ∧ r.2.mem ((c.tc : Thread Cert.AdamOutRefIdeal.nD Cert.AdamOutRefIdeal.τ).loc Cert.AdamOutRefIdeal.main_v12) = v2 c
          ∧ r.2.mem ((c.tc : Thread Cert.AdamOutRefIdeal.nD Cert.AdamOutRefIdeal.τ).loc Cert.AdamOutRefIdeal.main_v18) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3)
          ∧ r.2.mem ((c.tc : Thread Cert.AdamOutRefIdeal.nD Cert.AdamOutRefIdeal.τ).loc Cert.AdamOutRefIdeal.main_arg4) = m' ((c.tc : Thread Cert.AdamOutRefIdeal.nD Cert.AdamOutRefIdeal.τ).loc Cert.AdamOutRefIdeal.main_arg4)
          ∧ r.2.mem ((c.tc : Thread Cert.AdamOutRefIdeal.nD Cert.AdamOutRefIdeal.τ).loc Cert.AdamOutRefIdeal.main_arg5) = m' ((c.tc : Thread Cert.AdamOutRefIdeal.nD Cert.AdamOutRefIdeal.τ).loc Cert.AdamOutRefIdeal.main_arg5))

def preserves_AdamUp_AdamUpIdeal : Prop :=
  True

def algebraic_AdamUpIdeal_AdamUpRefIdeal [hAdamUpIdeal : Cert.AdamUpIdeal.Facts] [hAdamUpRefIdeal : Cert.AdamUpRefIdeal.Facts] [hPre_on_mesh_up : Cert.Pre_on_mesh_up.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)
      ∧ m' ((c.tc : Thread Cert.AdamUpRefIdeal.nD Cert.AdamUpRefIdeal.τ).loc Cert.AdamUpRefIdeal.main_arg4) = m ((c.tc : Thread Cert.AdamUpIdeal.nD Cert.AdamUpIdeal.τ).loc Cert.AdamUpIdeal.main_arg4)
      ∧ m' ((c.tc : Thread Cert.AdamUpRefIdeal.nD Cert.AdamUpRefIdeal.τ).loc Cert.AdamUpRefIdeal.main_arg5) = m ((c.tc : Thread Cert.AdamUpIdeal.nD Cert.AdamUpIdeal.τ).loc Cert.AdamUpIdeal.main_arg5)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)) (v3 : (c : Dev Cert.AdamUpIdeal.nD) → Buf (Elt Ideal) ((c.tc : Thread Cert.AdamUpIdeal.nD Cert.AdamUpIdeal.τ).loc Cert.AdamUpIdeal.main_v0_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_v0_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
          ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4)
          ∧ r.2.mem ((c.tc : Thread Cert.AdamUpIdeal.nD Cert.AdamUpIdeal.τ).loc Cert.AdamUpIdeal.main_arg5) = m ((c.tc : Thread Cert.AdamUpIdeal.nD Cert.AdamUpIdeal.τ).loc Cert.AdamUpIdeal.main_arg5))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v7) = v0 c
          ∧ r.2.mem ((c.tc : Thread Cert.AdamUpRefIdeal.nD Cert.AdamUpRefIdeal.τ).loc Cert.AdamUpRefIdeal.main_v31) = v1 c
          ∧ r.2.mem ((c.tc : Thread Cert.AdamUpRefIdeal.nD Cert.AdamUpRefIdeal.τ).loc Cert.AdamUpRefIdeal.main_v12) = v2 c
          ∧ r.2.mem ((c.tc : Thread Cert.AdamUpRefIdeal.nD Cert.AdamUpRefIdeal.τ).loc Cert.AdamUpRefIdeal.main_v18) = v3 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3)
          ∧ r.2.mem ((c.tc : Thread Cert.AdamUpRefIdeal.nD Cert.AdamUpRefIdeal.τ).loc Cert.AdamUpRefIdeal.main_arg4) = m' ((c.tc : Thread Cert.AdamUpRefIdeal.nD Cert.AdamUpRefIdeal.τ).loc Cert.AdamUpRefIdeal.main_arg4)
          ∧ r.2.mem ((c.tc : Thread Cert.AdamUpRefIdeal.nD Cert.AdamUpRefIdeal.τ).loc Cert.AdamUpRefIdeal.main_arg5) = m' ((c.tc : Thread Cert.AdamUpRefIdeal.nD Cert.AdamUpRefIdeal.τ).loc Cert.AdamUpRefIdeal.main_arg5))

def preserves_AdamDown_AdamDownIdeal : Prop :=
  True

def algebraic_AdamDownIdeal_AdamDownRefIdeal [hAdamDownIdeal : Cert.AdamDownIdeal.Facts] [hAdamDownRefIdeal : Cert.AdamDownRefIdeal.Facts] [hPre_on_mesh_down : Cert.Pre_on_mesh_down.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)
      ∧ m' ((c.tc : Thread Cert.AdamDownRefIdeal.nD Cert.AdamDownRefIdeal.τ).loc Cert.AdamDownRefIdeal.main_arg4) = m ((c.tc : Thread Cert.AdamDownIdeal.nD Cert.AdamDownIdeal.τ).loc Cert.AdamDownIdeal.main_arg4)
      ∧ m' ((c.tc : Thread Cert.AdamDownRefIdeal.nD Cert.AdamDownRefIdeal.τ).loc Cert.AdamDownRefIdeal.main_arg5) = m ((c.tc : Thread Cert.AdamDownIdeal.nD Cert.AdamDownIdeal.τ).loc Cert.AdamDownIdeal.main_arg5)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)) (v3 : (c : Dev Cert.AdamDownIdeal.nD) → Buf (Elt Ideal) ((c.tc : Thread Cert.AdamDownIdeal.nD Cert.AdamDownIdeal.τ).loc Cert.AdamDownIdeal.main_v0_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_v0_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
          ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4)
          ∧ r.2.mem ((c.tc : Thread Cert.AdamDownIdeal.nD Cert.AdamDownIdeal.τ).loc Cert.AdamDownIdeal.main_arg5) = m ((c.tc : Thread Cert.AdamDownIdeal.nD Cert.AdamDownIdeal.τ).loc Cert.AdamDownIdeal.main_arg5))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v7) = v0 c
          ∧ r.2.mem ((c.tc : Thread Cert.AdamDownRefIdeal.nD Cert.AdamDownRefIdeal.τ).loc Cert.AdamDownRefIdeal.main_v31) = v1 c
          ∧ r.2.mem ((c.tc : Thread Cert.AdamDownRefIdeal.nD Cert.AdamDownRefIdeal.τ).loc Cert.AdamDownRefIdeal.main_v12) = v2 c
          ∧ r.2.mem ((c.tc : Thread Cert.AdamDownRefIdeal.nD Cert.AdamDownRefIdeal.τ).loc Cert.AdamDownRefIdeal.main_v18) = v3 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3)
          ∧ r.2.mem ((c.tc : Thread Cert.AdamDownRefIdeal.nD Cert.AdamDownRefIdeal.τ).loc Cert.AdamDownRefIdeal.main_arg4) = m' ((c.tc : Thread Cert.AdamDownRefIdeal.nD Cert.AdamDownRefIdeal.τ).loc Cert.AdamDownRefIdeal.main_arg4)
          ∧ r.2.mem ((c.tc : Thread Cert.AdamDownRefIdeal.nD Cert.AdamDownRefIdeal.τ).loc Cert.AdamDownRefIdeal.main_arg5) = m' ((c.tc : Thread Cert.AdamDownRefIdeal.nD Cert.AdamDownRefIdeal.τ).loc Cert.AdamDownRefIdeal.main_arg5))

def preserves_AdamIn_AdamInIdeal : Prop :=
  True

def algebraic_AdamInIdeal_AdamInRefIdeal [hAdamInIdeal : Cert.AdamInIdeal.Facts] [hAdamInRefIdeal : Cert.AdamInRefIdeal.Facts] [hPre_on_mesh_in : Cert.Pre_on_mesh_in.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)
      ∧ m' ((c.tc : Thread Cert.AdamInRefIdeal.nD Cert.AdamInRefIdeal.τ).loc Cert.AdamInRefIdeal.main_arg4) = m ((c.tc : Thread Cert.AdamInIdeal.nD Cert.AdamInIdeal.τ).loc Cert.AdamInIdeal.main_arg4)
      ∧ m' ((c.tc : Thread Cert.AdamInRefIdeal.nD Cert.AdamInRefIdeal.τ).loc Cert.AdamInRefIdeal.main_arg5) = m ((c.tc : Thread Cert.AdamInIdeal.nD Cert.AdamInIdeal.τ).loc Cert.AdamInIdeal.main_arg5)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
          ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4)
          ∧ r.2.mem ((c.tc : Thread Cert.AdamInIdeal.nD Cert.AdamInIdeal.τ).loc Cert.AdamInIdeal.main_arg5) = m ((c.tc : Thread Cert.AdamInIdeal.nD Cert.AdamInIdeal.τ).loc Cert.AdamInIdeal.main_arg5))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v7) = v0 c
          ∧ r.2.mem ((c.tc : Thread Cert.AdamInRefIdeal.nD Cert.AdamInRefIdeal.τ).loc Cert.AdamInRefIdeal.main_v31) = v1 c
          ∧ r.2.mem ((c.tc : Thread Cert.AdamInRefIdeal.nD Cert.AdamInRefIdeal.τ).loc Cert.AdamInRefIdeal.main_v12) = v2 c
          ∧ r.2.mem ((c.tc : Thread Cert.AdamInRefIdeal.nD Cert.AdamInRefIdeal.τ).loc Cert.AdamInRefIdeal.main_v18) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3)
          ∧ r.2.mem ((c.tc : Thread Cert.AdamInRefIdeal.nD Cert.AdamInRefIdeal.τ).loc Cert.AdamInRefIdeal.main_arg4) = m' ((c.tc : Thread Cert.AdamInRefIdeal.nD Cert.AdamInRefIdeal.τ).loc Cert.AdamInRefIdeal.main_arg4)
          ∧ r.2.mem ((c.tc : Thread Cert.AdamInRefIdeal.nD Cert.AdamInRefIdeal.τ).loc Cert.AdamInRefIdeal.main_arg5) = m' ((c.tc : Thread Cert.AdamInRefIdeal.nD Cert.AdamInRefIdeal.τ).loc Cert.AdamInRefIdeal.main_arg5))

def Claim : Prop :=
  ∃ (hMixer : Cert.Mixer.Facts) (hMixerIdeal : Cert.MixerIdeal.Facts) (hMlp : Cert.Mlp.Facts) (hMlpIdeal : Cert.MlpIdeal.Facts) (hMlpRefIdeal : Cert.MlpRefIdeal.Facts) (hInBwd : Cert.InBwd.Facts) (hInBwdIdeal : Cert.InBwdIdeal.Facts) (hInRefIdeal : Cert.InRefIdeal.Facts) (hDwOut : Cert.DwOut.Facts) (hDwOutIdeal : Cert.DwOutIdeal.Facts) (hDwOutRefIdeal : Cert.DwOutRefIdeal.Facts) (hDwUp : Cert.DwUp.Facts) (hDwUpIdeal : Cert.DwUpIdeal.Facts) (hDwUpRefIdeal : Cert.DwUpRefIdeal.Facts) (hDwDown : Cert.DwDown.Facts) (hDwDownIdeal : Cert.DwDownIdeal.Facts) (hDwDownRefIdeal : Cert.DwDownRefIdeal.Facts) (hAdaFwd : Cert.AdaFwd.Facts) (hAdaFwdIdeal : Cert.AdaFwdIdeal.Facts) (hAdaFwdRefIdeal : Cert.AdaFwdRefIdeal.Facts) (hAdaBwd : Cert.AdaBwd.Facts) (hAdaBwdIdeal : Cert.AdaBwdIdeal.Facts) (hAdaBwdRefIdeal : Cert.AdaBwdRefIdeal.Facts) (hAdamPool : Cert.AdamPool.Facts) (hAdamPoolIdeal : Cert.AdamPoolIdeal.Facts) (hAdamPoolRefIdeal : Cert.AdamPoolRefIdeal.Facts) (hAdamConv : Cert.AdamConv.Facts) (hAdamConvIdeal : Cert.AdamConvIdeal.Facts) (hAdamConvRefIdeal : Cert.AdamConvRefIdeal.Facts) (hAdamOut : Cert.AdamOut.Facts) (hAdamOutIdeal : Cert.AdamOutIdeal.Facts) (hAdamOutRefIdeal : Cert.AdamOutRefIdeal.Facts) (hAdamUp : Cert.AdamUp.Facts) (hAdamUpIdeal : Cert.AdamUpIdeal.Facts) (hAdamUpRefIdeal : Cert.AdamUpRefIdeal.Facts) (hAdamDown : Cert.AdamDown.Facts) (hAdamDownIdeal : Cert.AdamDownIdeal.Facts) (hAdamDownRefIdeal : Cert.AdamDownRefIdeal.Facts) (hAdamIn : Cert.AdamIn.Facts) (hAdamInIdeal : Cert.AdamInIdeal.Facts) (hAdamInRefIdeal : Cert.AdamInRefIdeal.Facts) (hPre_on_mesh : Cert.Pre_on_mesh.Facts) (hPre_on_mesh_up : Cert.Pre_on_mesh_up.Facts) (hPre_on_mesh_down : Cert.Pre_on_mesh_down.Facts) (hPre_on_mesh_in : Cert.Pre_on_mesh_in.Facts),
    quiescent_Mixer (hMixer := hMixer)
    ∧ quiescent_MixerIdeal (hMixerIdeal := hMixerIdeal)
    ∧ quiescent_Mlp (hMlp := hMlp)
    ∧ quiescent_MlpIdeal (hMlpIdeal := hMlpIdeal)
    ∧ quiescent_MlpRefIdeal (hMlpRefIdeal := hMlpRefIdeal)
    ∧ quiescent_InBwd (hInBwd := hInBwd)
    ∧ quiescent_InBwdIdeal (hInBwdIdeal := hInBwdIdeal)
    ∧ quiescent_InRefIdeal (hInRefIdeal := hInRefIdeal)
    ∧ quiescent_DwOut (hDwOut := hDwOut)
    ∧ quiescent_DwOutIdeal (hDwOutIdeal := hDwOutIdeal)
    ∧ quiescent_DwOutRefIdeal (hDwOutRefIdeal := hDwOutRefIdeal)
    ∧ quiescent_DwUp (hDwUp := hDwUp)
    ∧ quiescent_DwUpIdeal (hDwUpIdeal := hDwUpIdeal)
    ∧ quiescent_DwUpRefIdeal (hDwUpRefIdeal := hDwUpRefIdeal)
    ∧ quiescent_DwDown (hDwDown := hDwDown)
    ∧ quiescent_DwDownIdeal (hDwDownIdeal := hDwDownIdeal)
    ∧ quiescent_DwDownRefIdeal (hDwDownRefIdeal := hDwDownRefIdeal)
    ∧ quiescent_AdaFwd (hAdaFwd := hAdaFwd)
    ∧ quiescent_AdaFwdIdeal (hAdaFwdIdeal := hAdaFwdIdeal)
    ∧ quiescent_AdaFwdRefIdeal (hAdaFwdRefIdeal := hAdaFwdRefIdeal)
    ∧ quiescent_AdaBwd (hAdaBwd := hAdaBwd)
    ∧ quiescent_AdaBwdIdeal (hAdaBwdIdeal := hAdaBwdIdeal)
    ∧ quiescent_AdaBwdRefIdeal (hAdaBwdRefIdeal := hAdaBwdRefIdeal)
    ∧ quiescent_AdamPool (hAdamPool := hAdamPool)
    ∧ quiescent_AdamPoolIdeal (hAdamPoolIdeal := hAdamPoolIdeal)
    ∧ quiescent_AdamPoolRefIdeal (hAdamPoolRefIdeal := hAdamPoolRefIdeal)
    ∧ quiescent_AdamConv (hAdamConv := hAdamConv)
    ∧ quiescent_AdamConvIdeal (hAdamConvIdeal := hAdamConvIdeal)
    ∧ quiescent_AdamConvRefIdeal (hAdamConvRefIdeal := hAdamConvRefIdeal)
    ∧ quiescent_AdamOut (hAdamOut := hAdamOut) (hPre_on_mesh := hPre_on_mesh)
    ∧ quiescent_AdamOutIdeal (hAdamOutIdeal := hAdamOutIdeal) (hPre_on_mesh := hPre_on_mesh)
    ∧ quiescent_AdamOutRefIdeal (hAdamOutRefIdeal := hAdamOutRefIdeal)
    ∧ quiescent_AdamOutRefIdeal_pre_on_mesh (hAdamOutRefIdeal := hAdamOutRefIdeal) (hPre_on_mesh := hPre_on_mesh)
    ∧ quiescent_AdamUp (hAdamUp := hAdamUp) (hPre_on_mesh_up := hPre_on_mesh_up)
    ∧ quiescent_AdamUpIdeal (hAdamUpIdeal := hAdamUpIdeal) (hPre_on_mesh_up := hPre_on_mesh_up)
    ∧ quiescent_AdamUpRefIdeal (hAdamUpRefIdeal := hAdamUpRefIdeal)
    ∧ quiescent_AdamUpRefIdeal_pre_on_mesh_up (hAdamUpRefIdeal := hAdamUpRefIdeal) (hPre_on_mesh_up := hPre_on_mesh_up)
    ∧ quiescent_AdamDown (hAdamDown := hAdamDown) (hPre_on_mesh_down := hPre_on_mesh_down)
    ∧ quiescent_AdamDownIdeal (hAdamDownIdeal := hAdamDownIdeal) (hPre_on_mesh_down := hPre_on_mesh_down)
    ∧ quiescent_AdamDownRefIdeal (hAdamDownRefIdeal := hAdamDownRefIdeal)
    ∧ quiescent_AdamDownRefIdeal_pre_on_mesh_down (hAdamDownRefIdeal := hAdamDownRefIdeal) (hPre_on_mesh_down := hPre_on_mesh_down)
    ∧ quiescent_AdamIn (hAdamIn := hAdamIn) (hPre_on_mesh_in := hPre_on_mesh_in)
    ∧ quiescent_AdamInIdeal (hAdamInIdeal := hAdamInIdeal) (hPre_on_mesh_in := hPre_on_mesh_in)
    ∧ quiescent_AdamInRefIdeal (hAdamInRefIdeal := hAdamInRefIdeal)
    ∧ quiescent_AdamInRefIdeal_pre_on_mesh_in (hAdamInRefIdeal := hAdamInRefIdeal) (hPre_on_mesh_in := hPre_on_mesh_in)
    ∧ preserves_Mixer_MixerIdeal
    ∧ preserves_Mlp_MlpIdeal
    ∧ algebraic_MlpIdeal_MlpRefIdeal (hMlpIdeal := hMlpIdeal) (hMlpRefIdeal := hMlpRefIdeal)
    ∧ preserves_InBwd_InBwdIdeal
    ∧ algebraic_InBwdIdeal_InRefIdeal (hInBwdIdeal := hInBwdIdeal) (hInRefIdeal := hInRefIdeal)
    ∧ preserves_DwOut_DwOutIdeal
    ∧ algebraic_DwOutIdeal_DwOutRefIdeal (hDwOutIdeal := hDwOutIdeal) (hDwOutRefIdeal := hDwOutRefIdeal)
    ∧ preserves_DwUp_DwUpIdeal
    ∧ algebraic_DwUpIdeal_DwUpRefIdeal (hDwUpIdeal := hDwUpIdeal) (hDwUpRefIdeal := hDwUpRefIdeal)
    ∧ preserves_DwDown_DwDownIdeal
    ∧ algebraic_DwDownIdeal_DwDownRefIdeal (hDwDownIdeal := hDwDownIdeal) (hDwDownRefIdeal := hDwDownRefIdeal)
    ∧ preserves_AdaFwd_AdaFwdIdeal
    ∧ algebraic_AdaFwdIdeal_AdaFwdRefIdeal (hAdaFwdIdeal := hAdaFwdIdeal) (hAdaFwdRefIdeal := hAdaFwdRefIdeal)
    ∧ preserves_AdaBwd_AdaBwdIdeal
    ∧ algebraic_AdaBwdIdeal_AdaBwdRefIdeal (hAdaBwdIdeal := hAdaBwdIdeal) (hAdaBwdRefIdeal := hAdaBwdRefIdeal)
    ∧ preserves_AdamPool_AdamPoolIdeal
    ∧ algebraic_AdamPoolIdeal_AdamPoolRefIdeal (hAdamPoolIdeal := hAdamPoolIdeal) (hAdamPoolRefIdeal := hAdamPoolRefIdeal)
    ∧ preserves_AdamConv_AdamConvIdeal
    ∧ algebraic_AdamConvIdeal_AdamConvRefIdeal (hAdamConvIdeal := hAdamConvIdeal) (hAdamConvRefIdeal := hAdamConvRefIdeal)
    ∧ preserves_AdamOut_AdamOutIdeal
    ∧ algebraic_AdamOutIdeal_AdamOutRefIdeal (hAdamOutIdeal := hAdamOutIdeal) (hAdamOutRefIdeal := hAdamOutRefIdeal) (hPre_on_mesh := hPre_on_mesh)
    ∧ preserves_AdamUp_AdamUpIdeal
    ∧ algebraic_AdamUpIdeal_AdamUpRefIdeal (hAdamUpIdeal := hAdamUpIdeal) (hAdamUpRefIdeal := hAdamUpRefIdeal) (hPre_on_mesh_up := hPre_on_mesh_up)
    ∧ preserves_AdamDown_AdamDownIdeal
    ∧ algebraic_AdamDownIdeal_AdamDownRefIdeal (hAdamDownIdeal := hAdamDownIdeal) (hAdamDownRefIdeal := hAdamDownRefIdeal) (hPre_on_mesh_down := hPre_on_mesh_down)
    ∧ preserves_AdamIn_AdamInIdeal
    ∧ algebraic_AdamInIdeal_AdamInRefIdeal (hAdamInIdeal := hAdamInIdeal) (hAdamInRefIdeal := hAdamInRefIdeal) (hPre_on_mesh_in := hPre_on_mesh_in)
-- ==== Pre_on_mesh.lean ====
abbrev S1 : Shape := ⟨1, ![1]⟩
abbrev S8x192x1024 : Shape := ⟨3, ![8, 192, 1024]⟩
abbrev S192x1024 : Shape := ⟨2, ![192, 1024]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S8x192x1024 .bf16) (main_arg2 : FVec F S8x192x1024 .bf16) (main_arg3 : FVec F S192x1024 .f32) (main_arg4 : FVec F S192x1024 .f32) (main_arg5 : FVec F S192x1024 .f32) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 8#32
  let main_v2 : IVec S1 32 := broadcastInDim S1 ![] bcast_S_S1 main_c_0
  let main_v3 : IVec S1 1 := cmpi .slt main_arg0 main_v2
  let main_v4 : IVec S1 1 := andi main_v1 main_v3
  main_v4
-- ==== Pre_on_mesh_down.lean ====
abbrev S1 : Shape := ⟨1, ![1]⟩
abbrev S8x512x1024 : Shape := ⟨3, ![8, 512, 1024]⟩
abbrev S512x1024 : Shape := ⟨2, ![512, 1024]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S8x512x1024 .bf16) (main_arg2 : FVec F S8x512x1024 .bf16) (main_arg3 : FVec F S512x1024 .f32) (main_arg4 : FVec F S512x1024 .f32) (main_arg5 : FVec F S512x1024 .f32) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 8#32
  let main_v2 : IVec S1 32 := broadcastInDim S1 ![] bcast_S_S1 main_c_0
  let main_v3 : IVec S1 1 := cmpi .slt main_arg0 main_v2
  let main_v4 : IVec S1 1 := andi main_v1 main_v3
  main_v4
-- ==== Pre_on_mesh_in.lean ====
abbrev S1 : Shape := ⟨1, ![1]⟩
abbrev S8x1024x386 : Shape := ⟨3, ![8, 1024, 386]⟩
abbrev S1024x386 : Shape := ⟨2, ![1024, 386]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S8x1024x386 .bf16) (main_arg2 : FVec F S8x1024x386 .bf16) (main_arg3 : FVec F S1024x386 .f32) (main_arg4 : FVec F S1024x386 .f32) (main_arg5 : FVec F S1024x386 .f32) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 8#32
  let main_v2 : IVec S1 32 := broadcastInDim S1 ![] bcast_S_S1 main_c_0
  let main_v3 : IVec S1 1 := cmpi .slt main_arg0 main_v2
  let main_v4 : IVec S1 1 := andi main_v1 main_v3
  main_v4
-- ==== Pre_on_mesh_up.lean ====
abbrev S1 : Shape := ⟨1, ![1]⟩
abbrev S8x1024x512 : Shape := ⟨3, ![8, 1024, 512]⟩
abbrev S1024x512 : Shape := ⟨2, ![1024, 512]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S8x1024x512 .bf16) (main_arg2 : FVec F S8x1024x512 .bf16) (main_arg3 : FVec F S1024x512 .f32) (main_arg4 : FVec F S1024x512 .f32) (main_arg5 : FVec F S1024x512 .f32) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 8#32
  let main_v2 : IVec S1 32 := broadcastInDim S1 ![] bcast_S_S1 main_c_0
  let main_v3 : IVec S1 1 := cmpi .slt main_arg0 main_v2
  let main_v4 : IVec S1 1 := andi main_v1 main_v3
  main_v4
-- ==== Mixer.lean ====
abbrev S4096x3200 : Shape := ⟨2, ![4096, 3200]⟩
abbrev S4096x1536 : Shape := ⟨2, ![4096, 1536]⟩
abbrev S2x16x2x128x512 : Shape := ⟨5, ![2, 16, 2, 128, 512]⟩
abbrev S4x1536 : Shape := ⟨2, ![4, 1536]⟩
abbrev S1x1536 : Shape := ⟨2, ![1, 1536]⟩
abbrev S8x128 : Shape := ⟨2, ![8, 128]⟩
abbrev S1x1024 : Shape := ⟨2, ![1, 1024]⟩
abbrev S4x128x128 : Shape := ⟨3, ![4, 128, 128]⟩
abbrev S1x512 : Shape := ⟨2, ![1, 512]⟩
abbrev S8x1536 : Shape := ⟨2, ![8, 1536]⟩
abbrev S8x1024 : Shape := ⟨2, ![8, 1024]⟩
abbrev S128x3200 : Shape := ⟨2, ![128, 3200]⟩
abbrev S16x512 : Shape := ⟨2, ![16, 512]⟩
abbrev S128x1536 : Shape := ⟨2, ![128, 1536]⟩
abbrev S1x1x2x128x512 : Shape := ⟨5, ![1, 1, 2, 128, 512]⟩
abbrev S2x128x512 : Shape := ⟨3, ![2, 128, 512]⟩
abbrev S128x1024 : Shape := ⟨2, ![128, 1024]⟩
abbrev S128x512 : Shape := ⟨2, ![128, 512]⟩
abbrev S1x1x1x128x512 : Shape := ⟨5, ![1, 1, 1, 128, 512]⟩
abbrev S128x128 : Shape := ⟨2, ![128, 128]⟩
abbrev S128x1 : Shape := ⟨2, ![128, 1]⟩
abbrev S144x512 : Shape := ⟨2, ![144, 512]⟩
abbrev S1x128x128 : Shape := ⟨3, ![1, 128, 128]⟩
abbrev S128x256 : Shape := ⟨2, ![128, 256]⟩
abbrev S1x128 : Shape := ⟨2, ![1, 128]⟩
abbrev S6x128 : Shape := ⟨2, ![6, 128]⟩
abbrev S392x128 : Shape := ⟨2, ![392, 128]⟩
abbrev S392x1024 : Shape := ⟨2, ![392, 1024]⟩
abbrev S128x64 : Shape := ⟨2, ![128, 64]⟩
abbrev S128 : Shape := ⟨1, ![128]⟩
abbrev S512 : Shape := ⟨1, ![512]⟩
abbrev S1024 : Shape := ⟨1, ![1024]⟩
abbrev S1024x128 : Shape := ⟨2, ![1024, 128]⟩
abbrev S1x128x512 : Shape := ⟨3, ![1, 128, 512]⟩
abbrev S6x1024 : Shape := ⟨2, ![6, 1024]⟩
abbrev S5x128 : Shape := ⟨2, ![5, 128]⟩
abbrev S136x1536 : Shape := ⟨2, ![136, 1536]⟩
abbrev S5x1536 : Shape := ⟨2, ![5, 1536]⟩
abbrev S1536 : Shape := ⟨1, ![1536]⟩

abbrev nBuf : Space → Nat
  | .hbm => 15
  | .vmem => 27
  | .smem => 0
  | _ => 0

abbrev bufTy : (tb : Table) → Fin (tcTables nBuf tb) → BufTy
  | .hbm, ⟨0, _⟩ => ⟨S4096x3200, .f32⟩
  | .hbm, ⟨1, _⟩ => ⟨S4096x1536, .f32⟩
  | .hbm, ⟨2, _⟩ => ⟨S4096x1536, .bf16⟩
  | .hbm, ⟨3, _⟩ => ⟨S2x16x2x128x512, .f32⟩
  | .hbm, ⟨4, _⟩ => ⟨S4x1536, .f32⟩
  | .hbm, ⟨5, _⟩ => ⟨S1x1536, .f32⟩
  | .hbm, ⟨6, _⟩ => ⟨S8x128, .f32⟩
  | .hbm, ⟨7, _⟩ => ⟨S1x1024, .f32⟩
  | .hbm, ⟨8, _⟩ => ⟨S4x128x128, .f32⟩
  | .hbm, ⟨9, _⟩ => ⟨S1x512, .f32⟩
  | .hbm, ⟨10, _⟩ => ⟨S4096x3200, .bf16⟩
  | .hbm, ⟨11, _⟩ => ⟨S8x1536, .f32⟩
  | .hbm, ⟨12, _⟩ => ⟨S8x128, .f32⟩
  | .hbm, ⟨13, _⟩ => ⟨S8x1024, .f32⟩
  | .hbm, ⟨14, _⟩ => ⟨S4x128x128, .f32⟩
  | .local _ .vmem, ⟨0, _⟩ => ⟨S128x3200, .f32⟩
  | .local _ .vmem, ⟨1, _⟩ => ⟨S128x3200, .f32⟩
  | .local _ .vmem, ⟨2, _⟩ => ⟨S16x512, .f32⟩
  | .local _ .vmem, ⟨3, _⟩ => ⟨S16x512, .f32⟩
  | .local _ .vmem, ⟨4, _⟩ => ⟨S128x1536, .f32⟩
  | .local _ .vmem, ⟨5, _⟩ => ⟨S128x1536, .f32⟩
  | .local _ .vmem, ⟨6, _⟩ => ⟨S128x1536, .bf16⟩
  | .local _ .vmem, ⟨7, _⟩ => ⟨S128x1536, .bf16⟩
  | .local _ .vmem, ⟨8, _⟩ => ⟨S1x1x2x128x512, .f32⟩
  | .local _ .vmem, ⟨9, _⟩ => ⟨S1x1x2x128x512, .f32⟩
  | .local _ .vmem, ⟨10, _⟩ => ⟨S4x1536, .f32⟩
  | .local _ .vmem, ⟨11, _⟩ => ⟨S1x1536, .f32⟩
  | .local _ .vmem, ⟨12, _⟩ => ⟨S8x128, .f32⟩
  | .local _ .vmem, ⟨13, _⟩ => ⟨S1x1024, .f32⟩
  | .local _ .vmem, ⟨14, _⟩ => ⟨S4x128x128, .f32⟩
  | .local _ .vmem, ⟨15, _⟩ => ⟨S1x512, .f32⟩
  | .local _ .vmem, ⟨16, _⟩ => ⟨S128x3200, .bf16⟩
  | .local _ .vmem, ⟨17, _⟩ => ⟨S128x3200, .bf16⟩
  | .local _ .vmem, ⟨18, _⟩ => ⟨S8x1536, .f32⟩
  | .local _ .vmem, ⟨19, _⟩ => ⟨S8x128, .f32⟩
  | .local _ .vmem, ⟨20, _⟩ => ⟨S8x1024, .f32⟩
  | .local _ .vmem, ⟨21, _⟩ => ⟨S4x128x128, .f32⟩
  | .local _ .vmem, ⟨22, _⟩ => ⟨S16x512, .f32⟩
  | .local _ .vmem, ⟨23, _⟩ => ⟨S8x1536, .f32⟩
  | .local _ .vmem, ⟨24, _⟩ => ⟨S2x128x512, .f32⟩
  | .local _ .vmem, ⟨25, _⟩ => ⟨S128x1024, .f32⟩
  | .local _ .vmem, ⟨26, _⟩ => ⟨S128x1024, .f32⟩
  | _, _ => ⟨S4096x3200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem13_0 : DmaSem sig := 19
abbrev cc0_sem14_0 : DmaSem sig := 20
abbrev cc0_sem15_0 : DmaSem sig := 21

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c15_i32 : BitVec 32 := 15#32
  let v1 : BitVec 32 := Scalar.subi c15_i32 arg1
  let v2 : BitVec 32 := Scalar.addi v0 v1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c15_i32 : BitVec 32 := 15#32
  let v1 : BitVec 32 := Scalar.subi c15_i32 arg1
  let v2 : BitVec 32 := Scalar.addi v0 v1
  let c8_i32 : BitVec 32 := 8#32
  let v3 : BitVec 32 := Scalar.muli v2 c8_i32
  let c1_i32 : BitVec 32 := 1#32
  let v4 : BitVec 32 := Scalar.subi v3 c1_i32
  let c0_i32 : BitVec 32 := 0#32
  let v5 : BitVec 32 := Scalar.maxsi v4 c0_i32
  let c0_i32_0 : BitVec 32 := 0#32
  let c0_i32_1 : BitVec 32 := 0#32
  ![v5.toNat, c0_i32_0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c15_i32 : BitVec 32 := 15#32
  let v1 : BitVec 32 := Scalar.subi c15_i32 arg1
  let v2 : BitVec 32 := Scalar.addi v0 v1
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c15_i32 : BitVec 32 := 15#32
  let v1 : BitVec 32 := Scalar.subi c15_i32 arg1
  let v2 : BitVec 32 := Scalar.addi v0 v1
  let c0_i32 : BitVec 32 := 0#32
  let c0_i32_0 : BitVec 32 := 0#32
  ![v2.toNat, c0_i32.toNat]

def cc0_transform_4 (i : grid0.Coords) : Fin 5 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  let c0_i32_1 : BitVec 32 := 0#32
  let c0_i32_2 : BitVec 32 := 0#32
  ![arg0.toNat, v0.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c15_i32 : BitVec 32 := 15#32
  let v1 : BitVec 32 := Scalar.subi c15_i32 arg1
  let v2 : BitVec 32 := Scalar.addi v0 v1
  let c0_i32 : BitVec 32 := 0#32
  let c0_i32_0 : BitVec 32 := 0#32
  ![v2.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S128x3200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x2x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S4x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S4x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S128x3200 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S8x1536 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S8x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S8x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S4x128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]
-- ==== Mlp.lean ====
abbrev S2x2048x1024 : Shape := ⟨3, ![2, 2048, 1024]⟩
abbrev S2x2048x1536 : Shape := ⟨3, ![2, 2048, 1536]⟩
abbrev S2x6x1024 : Shape := ⟨3, ![2, 6, 1024]⟩
abbrev S1x1024 : Shape := ⟨2, ![1, 1024]⟩
abbrev S1024 : Shape := ⟨1, ![1024]⟩
abbrev S1536x1024 : Shape := ⟨2, ![1536, 1024]⟩
abbrev S1024x4096 : Shape := ⟨2, ![1024, 4096]⟩
abbrev S4096x1024 : Shape := ⟨2, ![4096, 1024]⟩
abbrev S1024x8x512 : Shape := ⟨3, ![1024, 8, 512]⟩
abbrev S8x1024x512 : Shape := ⟨3, ![8, 1024, 512]⟩
abbrev S8x512x1024 : Shape := ⟨3, ![8, 512, 1024]⟩
abbrev S_ : Shape := ⟨0, ![]⟩
abbrev S2x8x1024 : Shape := ⟨3, ![2, 8, 1024]⟩
abbrev S4096x1536 : Shape := ⟨2, ![4096, 1536]⟩
abbrev S4096x4096 : Shape := ⟨2, ![4096, 4096]⟩
abbrev S8x1024 : Shape := ⟨2, ![8, 1024]⟩
abbrev S256x1024 : Shape := ⟨2, ![256, 1024]⟩
abbrev S256x1536 : Shape := ⟨2, ![256, 1536]⟩
abbrev S1x8x1024 : Shape := ⟨3, ![1, 8, 1024]⟩
abbrev S256x4096 : Shape := ⟨2, ![256, 4096]⟩
abbrev S256 : Shape := ⟨1, ![256]⟩
abbrev S256x1 : Shape := ⟨2, ![256, 1]⟩
abbrev S1x1024x512 : Shape := ⟨3, ![1, 1024, 512]⟩
abbrev S1024x512 : Shape := ⟨2, ![1024, 512]⟩
abbrev S256x512 : Shape := ⟨2, ![256, 512]⟩
abbrev S1x512x1024 : Shape := ⟨3, ![1, 512, 1024]⟩
abbrev S512x1024 : Shape := ⟨2, ![512, 1024]⟩
abbrev S1 : Shape := ⟨1, ![1]⟩
abbrev S1x1 : Shape := ⟨2, ![1, 1]⟩
abbrev S2x1024 : Shape := ⟨2, ![2, 1024]⟩
abbrev S5x1024 : Shape := ⟨2, ![5, 1024]⟩

abbrev nBuf : Space → Nat
  | .hbm => 31
  | .vmem => 31
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1536, .bf16⟩
  | .hbm, ⟨2, _⟩ => ⟨S2x6x1024, .f32⟩
  | .hbm, ⟨3, _⟩ => ⟨S1x1024, .f32⟩
  | .hbm, ⟨4, _⟩ => ⟨S1024, .f32⟩
  | .hbm, ⟨5, _⟩ => ⟨S1536x1024, .f32⟩
  | .hbm, ⟨6, _⟩ => ⟨S1024x4096, .f32⟩
  | .hbm, ⟨7, _⟩ => ⟨S4096x1024, .f32⟩
  | .hbm, ⟨8, _⟩ => ⟨S2x2048x1024, .f32⟩
  | .hbm, ⟨9, _⟩ => ⟨S1024x4096, .bf16⟩
  | .hbm, ⟨10, _⟩ => ⟨S1024x8x512, .bf16⟩
  | .hbm, ⟨11, _⟩ => ⟨S8x1024x512, .bf16⟩
  | .hbm, ⟨12, _⟩ => ⟨S4096x1024, .bf16⟩
  | .hbm, ⟨13, _⟩ => ⟨S8x512x1024, .bf16⟩
  | .hbm, ⟨14, _⟩ => ⟨S_, .i32⟩
  | .hbm, ⟨15, _⟩ => ⟨S_, .f32⟩
  | .hbm, ⟨16, _⟩ => ⟨S2x8x1024, .f32⟩
  | .hbm, ⟨17, _⟩ => ⟨S4096x1024, .f32⟩
  | .hbm, ⟨18, _⟩ => ⟨S4096x1536, .bf16⟩
  | .hbm, ⟨19, _⟩ => ⟨S4096x1024, .f32⟩
  | .hbm, ⟨20, _⟩ => ⟨S1x1024, .f32⟩
  | .hbm, ⟨21, _⟩ => ⟨S1536x1024, .bf16⟩
  | .hbm, ⟨22, _⟩ => ⟨S4096x1024, .bf16⟩
  | .hbm, ⟨23, _⟩ => ⟨S4096x1536, .bf16⟩
  | .hbm, ⟨24, _⟩ => ⟨S4096x1024, .f32⟩
  | .hbm, ⟨25, _⟩ => ⟨S4096x1024, .bf16⟩
  | .hbm, ⟨26, _⟩ => ⟨S4096x4096, .bf16⟩
  | .hbm, ⟨27, _⟩ => ⟨S4096x4096, .bf16⟩
  | .hbm, ⟨28, _⟩ => ⟨S4096x1024, .bf16⟩
  | .hbm, ⟨29, _⟩ => ⟨S2x8x1024, .f32⟩
  | .hbm, ⟨30, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1536, .bf16⟩
  | .local _ .vmem, ⟨3, _⟩ => ⟨S256x1536, .bf16⟩
  | .local _ .vmem, ⟨4, _⟩ => ⟨S256x1024, .f32⟩
  | .local _ .vmem, ⟨5, _⟩ => ⟨S256x1024, .f32⟩
  | .local _ .vmem, ⟨6, _⟩ => ⟨S1x8x1024, .f32⟩
  | .local _ .vmem, ⟨7, _⟩ => ⟨S1x8x1024, .f32⟩
  | .local _ .vmem, ⟨8, _⟩ => ⟨S1x1024, .f32⟩
  | .local _ .vmem, ⟨9, _⟩ => ⟨S1x1024, .f32⟩
  | .local _ .vmem, ⟨10, _⟩ => ⟨S1536x1024, .bf16⟩
  | .local _ .vmem, ⟨11, _⟩ => ⟨S8x1024x512, .bf16⟩
  | .local _ .vmem, ⟨12, _⟩ => ⟨S8x512x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1536, .bf16⟩
  | .local _ .vmem, ⟨16, _⟩ => ⟨S256x1536, .bf16⟩
  | .local _ .vmem, ⟨17, _⟩ => ⟨S256x1024, .f32⟩
  | .local _ .vmem, ⟨18, _⟩ => ⟨S256x1024, .f32⟩
  | .local _ .vmem, ⟨19, _⟩ => ⟨S256x1024, .bf16⟩
  | .local _ .vmem, ⟨20, _⟩ => ⟨S256x1024, .bf16⟩
  | .local _ .vmem, ⟨21, _⟩ => ⟨S256x4096, .bf16⟩
  | .local _ .vmem, ⟨22, _⟩ => ⟨S256x4096, .bf16⟩
  | .local _ .vmem, ⟨23, _⟩ => ⟨S256x4096, .bf16⟩
  | .local _ .vmem, ⟨24, _⟩ => ⟨S256x4096, .bf16⟩
  | .local _ .vmem, ⟨25, _⟩ => ⟨S256x1024, .bf16⟩
  | .local _ .vmem, ⟨26, _⟩ => ⟨S256x1024, .bf16⟩
  | .local _ .vmem, ⟨27, _⟩ => ⟨S1x8x1024, .f32⟩
  | .local _ .vmem, ⟨28, _⟩ => ⟨S1x8x1024, .f32⟩
  | .local _ .vmem, ⟨29, _⟩ => ⟨S8x1024, .f32⟩
  | .local _ .vmem, ⟨30, _⟩ => ⟨S256x4096, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11_0 : Ref sig .tc := ⟨.hbm, 22, rfl⟩
abbrev main_v11_1 : Ref sig .tc := ⟨.hbm, 23, rfl⟩
abbrev main_v11_2 : Ref sig .tc := ⟨.hbm, 24, rfl⟩
abbrev main_v11_3 : Ref sig .tc := ⟨.hbm, 25, rfl⟩
abbrev main_v11_4 : Ref sig .tc := ⟨.hbm, 26, rfl⟩
abbrev main_v11_5 : Ref sig .tc := ⟨.hbm, 27, rfl⟩
abbrev main_v11_6 : Ref sig .tc := ⟨.hbm, 28, rfl⟩
abbrev main_v11_7 : Ref sig .tc := ⟨.hbm, 29, rfl⟩
abbrev main_v11_8 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_scratch0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1536x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1536 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x4096 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x4096 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x8x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S8x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== MlpRefIdeal.lean ====
abbrev S2x2048x1024 : Shape := ⟨3, ![2, 2048, 1024]⟩
abbrev S2x2048x1536 : Shape := ⟨3, ![2, 2048, 1536]⟩
abbrev S2x6x1024 : Shape := ⟨3, ![2, 6, 1024]⟩
abbrev S1x1024 : Shape := ⟨2, ![1, 1024]⟩
abbrev S1024 : Shape := ⟨1, ![1024]⟩
abbrev S1536x1024 : Shape := ⟨2, ![1536, 1024]⟩
abbrev S1024x4096 : Shape := ⟨2, ![1024, 4096]⟩
abbrev S4096x1024 : Shape := ⟨2, ![4096, 1024]⟩
abbrev S_ : Shape := ⟨0, ![]⟩
abbrev S2x2048x4096 : Shape := ⟨3, ![2, 2048, 4096]⟩
abbrev S2x1x1024 : Shape := ⟨3, ![2, 1, 1024]⟩
abbrev S2x2048 : Shape := ⟨2, ![2, 2048]⟩
abbrev S2x2048x1 : Shape := ⟨3, ![2, 2048, 1]⟩
abbrev S1x1x1024 : Shape := ⟨3, ![1, 1, 1024]⟩
abbrev S2x1024 : Shape := ⟨2, ![2, 1024]⟩
abbrev S2x2x1024 : Shape := ⟨3, ![2, 2, 1024]⟩
abbrev S2x8x1024 : Shape := ⟨3, ![2, 8, 1024]⟩
abbrev S5x1024 : Shape := ⟨2, ![5, 1024]⟩
abbrev S8x1024 : Shape := ⟨2, ![8, 1024]⟩
abbrev S4096x1536 : Shape := ⟨2, ![4096, 1536]⟩
abbrev S4096x4096 : Shape := ⟨2, ![4096, 4096]⟩

abbrev nBuf : Space → Nat
  | .hbm => 214
  | .vmem => 0
  | .smem => 0
  | _ => 0

abbrev hbmTy0_0 (i : Nat) : BufTy := match i % 128 with
  | 0 => ⟨S2x2048x1024, .f32⟩
  | 1 => ⟨S2x2048x1536, .bf16⟩
  | 2 => ⟨S2x6x1024, .f32⟩
  | 3 => ⟨S1x1024, .f32⟩
  | 4 => ⟨S1024, .f32⟩
  | 5 => ⟨S1536x1024, .f32⟩
  | 6 => ⟨S1024x4096, .f32⟩
  | 7 => ⟨S4096x1024, .f32⟩
  | 8 => ⟨S2x2048x1024, .f32⟩
  | 9 => ⟨S2x2048x1536, .f32⟩
  | 10 => ⟨S_, .f32⟩
  | 11 => ⟨S2x2048x1024, .f32⟩
  | 12 => ⟨S_, .f32⟩
  | 13 => ⟨S2x2048x4096, .f32⟩
  | 14 => ⟨S2x1x1024, .f32⟩
  | 15 => ⟨S2x1x1024, .f32⟩
  | 16 => ⟨S2x1x1024, .f32⟩
  | 17 => ⟨S2x1x1024, .f32⟩
  | 18 => ⟨S2x2048x1024, .f32⟩
  | 19 => ⟨S2x2048x1024, .f32⟩
  | 20 => ⟨S2x2048x1024, .f32⟩
  | 21 => ⟨S2x2048x1024, .f32⟩
  | 22 => ⟨S2x2048x1024, .f32⟩
  | 23 => ⟨S1024, .f32⟩
  | 24 => ⟨S2x2048x1024, .f32⟩
  | 25 => ⟨S_, .f32⟩
  | 26 => ⟨S2x2048, .f32⟩
  | 27 => ⟨S2x2048x1, .f32⟩
  | 28 => ⟨S_, .f32⟩
  | 29 => ⟨S2x2048x1, .f32⟩
  | 30 => ⟨S2x2048x1, .f32⟩
  | 31 => ⟨S_, .f32⟩
  | 32 => ⟨S2x2048x1, .f32⟩
  | 33 => ⟨S2x2048x1, .f32⟩
  | 34 => ⟨S2x2048x1, .f32⟩
  | 35 => ⟨S2x2048x1, .f32⟩
  | 36 => ⟨S_, .f32⟩
  | 37 => ⟨S2x2048x1, .f32⟩
  | 38 => ⟨S2x2048x1, .f32⟩
  | 39 => ⟨S2x2048x1024, .f32⟩
  | 40 => ⟨S2x2048x1024, .f32⟩
  | 41 => ⟨S1x1x1024, .f32⟩
  | 42 => ⟨S2x2048x1024, .f32⟩
  | 43 => ⟨S2x2048x1024, .f32⟩
  | 44 => ⟨S_, .f32⟩
  | 45 => ⟨S2x1x1024, .f32⟩
  | 46 => ⟨S2x1x1024, .f32⟩
  | 47 => ⟨S2x2048x1024, .f32⟩
  | 48 => ⟨S2x2048x1024, .f32⟩
  | 49 => ⟨S2x2048x1024, .f32⟩
  | 50 => ⟨S2x2048x1024, .f32⟩
  | 51 => ⟨S2x2048x4096, .f32⟩
  | 52 => ⟨S2x2048x4096, .f32⟩
  | 53 => ⟨S_, .f32⟩
  | 54 => ⟨S2x2048x4096, .f32⟩
  | 55 => ⟨S2x2048x4096, .f32⟩
  | 56 => ⟨S_, .f32⟩
  | 57 => ⟨S2x2048x4096, .f32⟩
  | 58 => ⟨S2x2048x4096, .i1⟩
  | 59 => ⟨S_, .f32⟩
  | 60 => ⟨S2x2048x4096, .f32⟩
  | 61 => ⟨S2x2048x4096, .f32⟩
  | 62 => ⟨S_, .f32⟩
  | 63 => ⟨S2x2048x4096, .f32⟩
  | 64 => ⟨S2x2048x4096, .f32⟩
  | 65 => ⟨S2x2048x1024, .f32⟩
  | 66 => ⟨S2x2048x1024, .f32⟩
  | 67 => ⟨S2x2048x1024, .f32⟩
  | 68 => ⟨S2x2048x1024, .f32⟩
  | 69 => ⟨S2x2048x1024, .f32⟩
  | 70 => ⟨S2x2048x1024, .f32⟩
  | 71 => ⟨S_, .f32⟩
  | 72 => ⟨S2x2048, .f32⟩
  | 73 => ⟨S2x2048x1, .f32⟩
  | 74 => ⟨S_, .f32⟩
  | 75 => ⟨S2x2048x1, .f32⟩
  | 76 => ⟨S2x2048x1, .f32⟩
  | 77 => ⟨S_, .f32⟩
  | 78 => ⟨S2x2048x1, .f32⟩
  | 79 => ⟨S2x2048x1, .f32⟩
  | 80 => ⟨S2x2048x1, .f32⟩
  | 81 => ⟨S2x2048x1, .f32⟩
  | 82 => ⟨S_, .f32⟩
  | 83 => ⟨S2x2048x1, .f32⟩
  | 84 => ⟨S2x2048x1, .f32⟩
  | 85 => ⟨S2x2048x1024, .f32⟩
  | 86 => ⟨S2x2048x1024, .f32⟩
  | 87 => ⟨S1x1x1024, .f32⟩
  | 88 => ⟨S2x2048x1024, .f32⟩
  | 89 => ⟨S2x2048x1024, .f32⟩
  | 90 => ⟨S2x2048x1024, .f32⟩
  | 91 => ⟨S2x2048x1024, .f32⟩
  | 92 => ⟨S_, .f32⟩
  | 93 => ⟨S2x2048x1024, .f32⟩
  | 94 => ⟨S2x2048x1024, .f32⟩
  | 95 => ⟨S_, .f32⟩
  | 96 => ⟨S2x2048, .f32⟩
  | 97 => ⟨S_, .f32⟩
  | 98 => ⟨S2x2048, .f32⟩
  | 99 => ⟨S2x2048, .f32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S2x2048, .f32⟩
  | 108 => ⟨S_, .f32⟩
  | 109 => ⟨S2x2048, .f32⟩
  | 110 => ⟨S2x2048, .f32⟩
  | 111 => ⟨S2x2048x1024, .f32⟩
  | 112 => ⟨S2x2048x1024, .f32⟩
  | 113 => ⟨S2x2048x1024, .f32⟩
  | 114 => ⟨S_, .f32⟩
  | 115 => ⟨S1024, .f32⟩
  | 116 => ⟨S1x1x1024, .f32⟩
  | 117 => ⟨S2x2048x1024, .f32⟩
  | 118 => ⟨S2x2048x1024, .f32⟩
  | 119 => ⟨S_, .f32⟩
  | 120 => ⟨S1024, .f32⟩
  | 121 => ⟨S2x2048x1024, .f32⟩
  | 122 => ⟨S_, .f32⟩
  | 123 => ⟨S2x2048, .f32⟩
  | 124 => ⟨S2x2048x1, .f32⟩
  | 125 => ⟨S2x2048x1024, .f32⟩
  | 126 => ⟨S2x2048x1024, .f32⟩
  | 127 => ⟨S2x2048x1, .f32⟩
  | _ => ⟨S2x2048x1024, .f32⟩

abbrev hbmTy0_1 (i : Nat) : BufTy := match i % 128 with
  | 0 => ⟨S_, .f32⟩
  | 1 => ⟨S2x2048x1, .f32⟩
  | 2 => ⟨S2x2048x1, .f32⟩
  | 3 => ⟨S_, .f32⟩
  | 4 => ⟨S2x2048, .f32⟩
  | 5 => ⟨S2x2048x1024, .f32⟩
  | 6 => ⟨S2x2048x1024, .f32⟩
  | 7 => ⟨S2x2048x1024, .f32⟩
  | 8 => ⟨S2x2048x1024, .f32⟩
  | 9 => ⟨S2x2048x1024, .f32⟩
  | 10 => ⟨S2x2048x1024, .f32⟩
  | 11 => ⟨S2x2048x1024, .f32⟩
  | 12 => ⟨S2x2048x1024, .f32⟩
  | 13 => ⟨S_, .f32⟩
  | 14 => ⟨S2x1024, .f32⟩
  | 15 => ⟨S2x1x1024, .f32⟩
  | 16 => ⟨S2x2048x4096, .f32⟩
  | 17 => ⟨S2x2048x4096, .f32⟩
  | 18 => ⟨S_, .f32⟩
  | 19 => ⟨S2x2048x4096, .f32⟩
  | 20 => ⟨S2x2048x4096, .f32⟩
  | 21 => ⟨S2x2048x1024, .f32⟩
  | 22 => ⟨S_, .f32⟩
  | 23 => ⟨S2x1024, .f32⟩
  | 24 => ⟨S2x1x1024, .f32⟩
  | 25 => ⟨S2x2048x1024, .f32⟩
  | 26 => ⟨S_, .f32⟩
  | 27 => ⟨S2x1024, .f32⟩
  | 28 => ⟨S2x1x1024, .f32⟩
  | 29 => ⟨S2x2048x1024, .f32⟩
  | 30 => ⟨S2x2048x1024, .f32⟩
  | 31 => ⟨S2x2048x1024, .f32⟩
  | 32 => ⟨S_, .f32⟩
  | 33 => ⟨S1024, .f32⟩
  | 34 => ⟨S1x1x1024, .f32⟩
  | 35 => ⟨S2x2048x1024, .f32⟩
  | 36 => ⟨S2x2048x1024, .f32⟩
  | 37 => ⟨S_, .f32⟩
  | 38 => ⟨S1024, .f32⟩
  | 39 => ⟨S2x2048x1024, .f32⟩
  | 40 => ⟨S_, .f32⟩
  | 41 => ⟨S2x2048, .f32⟩
  | 42 => ⟨S2x2048x1, .f32⟩
  | 43 => ⟨S2x2048x1024, .f32⟩
  | 44 => ⟨S2x2048x1024, .f32⟩
  | 45 => ⟨S2x2048x1024, .f32⟩
  | 46 => ⟨S2x2048x1, .f32⟩
  | 47 => ⟨S_, .f32⟩
  | 48 => ⟨S2x2048x1, .f32⟩
  | 49 => ⟨S2x2048x1, .f32⟩
  | 50 => ⟨S_, .f32⟩
  | 51 => ⟨S2x2048, .f32⟩
  | 52 => ⟨S2x2048x1024, .f32⟩
  | 53 => ⟨S2x2048x1024, .f32⟩
  | 54 => ⟨S2x2048x1024, .f32⟩
  | 55 => ⟨S2x2048x1024, .f32⟩
  | 56 => ⟨S2x2048x1024, .f32⟩
  | 57 => ⟨S1x1024, .f32⟩
  | 58 => ⟨S2x2048x1024, .f32⟩
  | 59 => ⟨S2x2048x1024, .f32⟩
  | 60 => ⟨S2x2048x1024, .f32⟩
  | 61 => ⟨S_, .f32⟩
  | 62 => ⟨S2x1024, .f32⟩
  | 63 => ⟨S2x1x1024, .f32⟩
  | 64 => ⟨S2x2048x1536, .f32⟩
  | 65 => ⟨S_, .f32⟩
  | 66 => ⟨S2x2x1024, .f32⟩
  | 67 => ⟨S2x8x1024, .f32⟩
  | 68 => ⟨S1x1024, .f32⟩
  | 69 => ⟨S1x1024, .f32⟩
  | 70 => ⟨S_, .f32⟩
  | 71 => ⟨S5x1024, .f32⟩
  | 72 => ⟨S8x1024, .f32⟩
  | 73 => ⟨S4096x1024, .f32⟩
  | 74 => ⟨S4096x1024, .bf16⟩
  | 75 => ⟨S4096x1536, .f32⟩
  | 76 => ⟨S4096x1536, .bf16⟩
  | 77 => ⟨S4096x1024, .f32⟩
  | 78 => ⟨S4096x1024, .f32⟩
  | 79 => ⟨S4096x1024, .bf16⟩
  | 80 => ⟨S4096x4096, .f32⟩
  | 81 => ⟨S4096x4096, .bf16⟩
  | 82 => ⟨S4096x4096, .f32⟩
  | 83 => ⟨S4096x4096, .bf16⟩
  | 84 => ⟨S4096x1024, .f32⟩
  | 85 => ⟨S4096x1024, .bf16⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_call0_cst : Ref sig .tc := ⟨.hbm, 53, rfl⟩
abbrev main_call0_v0 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_9 : Ref sig .tc := ⟨.hbm, 71, rfl⟩
abbrev main_v50 : Ref sig .tc := ⟨.hbm, 72, rfl⟩
abbrev main_v51 : Ref sig .tc := ⟨.hbm, 73, rfl⟩
abbrev main_cst_10 : Ref sig .tc := ⟨.hbm, 74, rfl⟩
abbrev main_v52 : Ref sig .tc := ⟨.hbm, 75, rfl⟩
abbrev main_v53 : Ref sig .tc := ⟨.hbm, 76, rfl⟩
abbrev main_cst_11 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_12 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_13 : Ref sig .tc := ⟨.hbm, 92, rfl⟩
abbrev main_v67 : Ref sig .tc := ⟨.hbm, 93, rfl⟩
abbrev main_v68 : Ref sig .tc := ⟨.hbm, 94, rfl⟩
abbrev main_cst_14 : Ref sig .tc := ⟨.hbm, 95, rfl⟩
abbrev main_v69 : Ref sig .tc := ⟨.hbm, 96, rfl⟩
abbrev main_cst_15 : Ref sig .tc := ⟨.hbm, 97, rfl⟩
abbrev main_v70 : Ref sig .tc := ⟨.hbm, 98, rfl⟩
abbrev main_v71 : Ref sig .tc := ⟨.hbm, 99, rfl⟩
abbrev main_cst_16 : Ref sig .tc := ⟨.hbm, 100, rfl⟩
abbrev main_v72 : Ref sig .tc := ⟨.hbm, 101, rfl⟩
abbrev main_cst_17 : Ref sig .tc := ⟨.hbm, 102, rfl⟩
abbrev main_v73 : Ref sig .tc := ⟨.hbm, 103, rfl⟩
abbrev main_cst_18 : Ref sig .tc := ⟨.hbm, 104, rfl⟩
abbrev main_cst_19 : Ref sig .tc := ⟨.hbm, 105, rfl⟩
abbrev main_v74 : Ref sig .tc := ⟨.hbm, 106, rfl⟩
abbrev main_v75 : Ref sig .tc := ⟨.hbm, 107, rfl⟩
abbrev main_cst_20 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_cst_21 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_cst_22 : Ref sig .tc := ⟨.hbm, 119, rfl⟩
abbrev main_v85 : Ref sig .tc := ⟨.hbm, 120, rfl⟩
abbrev main_v86 : Ref sig .tc := ⟨.hbm, 121, rfl⟩
abbrev main_cst_23 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_cst_24 : Ref sig .tc := ⟨.hbm, 128, rfl⟩
abbrev main_v92 : Ref sig .tc := ⟨.hbm, 129, rfl⟩
abbrev main_v93 : Ref sig .tc := ⟨.hbm, 130, rfl⟩
abbrev main_cst_25 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_cst_26 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_cst_27 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_cst_28 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_cst_29 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_cst_30 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_cst_31 : Ref sig .tc := ⟨.hbm, 165, rfl⟩
abbrev main_v122 : Ref sig .tc := ⟨.hbm, 166, rfl⟩
abbrev main_v123 : Ref sig .tc := ⟨.hbm, 167, rfl⟩
abbrev main_cst_32 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_cst_33 : Ref sig .tc := ⟨.hbm, 175, rfl⟩
abbrev main_v130 : Ref sig .tc := ⟨.hbm, 176, rfl⟩
abbrev main_v131 : Ref sig .tc := ⟨.hbm, 177, rfl⟩
abbrev main_cst_34 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_cst_35 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_cst_36 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_cst_37 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩

abbrev nD : Nat := 1
abbrev τ : Topo := Topo.v7x

variable {F : FTy → Type} [FloatOps F]
-- ==== InBwd.lean ====
abbrev S2x2048x1024 : Shape := ⟨3, ![2, 2048, 1024]⟩
abbrev S4096x3200 : Shape := ⟨2, ![4096, 3200]⟩
abbrev S2x6x1024 : Shape := ⟨3, ![2, 6, 1024]⟩
abbrev S1x1024 : Shape := ⟨2, ![1, 1024]⟩
abbrev S1024x3088 : Shape := ⟨2, ![1024, 3088]⟩
abbrev S2x8x1024 : Shape := ⟨3, ![2, 8, 1024]⟩
abbrev S8x1024 : Shape := ⟨2, ![8, 1024]⟩
abbrev S_ : Shape := ⟨0, ![]⟩
abbrev S1024x3200 : Shape := ⟨2, ![1024, 3200]⟩
abbrev S4096x1024 : Shape := ⟨2, ![4096, 1024]⟩
abbrev S1024x1024 : Shape := ⟨2, ![1024, 1024]⟩
abbrev S1x8x1024 : Shape := ⟨3, ![1, 8, 1024]⟩
abbrev S1024 : Shape := ⟨1, ![1024]⟩
abbrev S1024x1 : Shape := ⟨2, ![1024, 1]⟩
abbrev S6x1024 : Shape := ⟨2, ![6, 1024]⟩
abbrev S3x1024 : Shape := ⟨2, ![3, 1024]⟩
abbrev S4x1024 : Shape := ⟨2, ![4, 1024]⟩

abbrev nBuf : Space → Nat
  | .hbm => 20
  | .vmem => 18
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S4096x3200, .bf16⟩
  | .hbm, ⟨3, _⟩ => ⟨S2x6x1024, .f32⟩
  | .hbm, ⟨4, _⟩ => ⟨S1x1024, .f32⟩
  | .hbm, ⟨5, _⟩ => ⟨S1024x3088, .f32⟩
  | .hbm, ⟨6, _⟩ => ⟨S2x8x1024, .f32⟩
  | .hbm, ⟨7, _⟩ => ⟨S8x1024, .f32⟩
  | .hbm, ⟨8, _⟩ => ⟨S_, .i32⟩
  | .hbm, ⟨9, _⟩ => ⟨S_, .f32⟩
  | .hbm, ⟨10, _⟩ => ⟨S2x8x1024, .f32⟩
  | .hbm, ⟨11, _⟩ => ⟨S1024x3088, .bf16⟩
  | .hbm, ⟨12, _⟩ => ⟨S_, .i32⟩
  | .hbm, ⟨13, _⟩ => ⟨S_, .bf16⟩
  | .hbm, ⟨14, _⟩ => ⟨S1024x3200, .bf16⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S2x8x1024, .f32⟩
  | .hbm, ⟨19, _⟩ => ⟨S8x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x3200, .bf16⟩
  | .local _ .vmem, ⟨5, _⟩ => ⟨S1024x3200, .bf16⟩
  | .local _ .vmem, ⟨6, _⟩ => ⟨S1x8x1024, .f32⟩
  | .local _ .vmem, ⟨7, _⟩ => ⟨S1x8x1024, .f32⟩
  | .local _ .vmem, ⟨8, _⟩ => ⟨S1x1024, .f32⟩
  | .local _ .vmem, ⟨9, _⟩ => ⟨S1024x3200, .bf16⟩
  | .local _ .vmem, ⟨10, _⟩ => ⟨S1x8x1024, .f32⟩
  | .local _ .vmem, ⟨11, _⟩ => ⟨S1x8x1024, .f32⟩
  | .local _ .vmem, ⟨12, _⟩ => ⟨S8x1024, .f32⟩
  | .local _ .vmem, ⟨13, _⟩ => ⟨S1024x1024, .f32⟩
  | .local _ .vmem, ⟨14, _⟩ => ⟨S1024x1024, .f32⟩
  | .local _ .vmem, ⟨15, _⟩ => ⟨S1x8x1024, .f32⟩
  | .local _ .vmem, ⟨16, _⟩ => ⟨S1x8x1024, .f32⟩
  | .local _ .vmem, ⟨17, _⟩ => ⟨S8x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_call1_v0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5_0 : Ref sig .tc := ⟨.hbm, 17, rfl⟩
abbrev main_v5_1 : Ref sig .tc := ⟨.hbm, 18, rfl⟩
abbrev main_v5_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x3200 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x3200 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x8x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== InRefIdeal.lean ====
abbrev S2x2048x1024 : Shape := ⟨3, ![2, 2048, 1024]⟩
abbrev S4096x3200 : Shape := ⟨2, ![4096, 3200]⟩
abbrev S2x6x1024 : Shape := ⟨3, ![2, 6, 1024]⟩
abbrev S1x1024 : Shape := ⟨2, ![1, 1024]⟩
abbrev S1024x3088 : Shape := ⟨2, ![1024, 3088]⟩
abbrev S2x8x1024 : Shape := ⟨3, ![2, 8, 1024]⟩
abbrev S8x1024 : Shape := ⟨2, ![8, 1024]⟩
abbrev S2x2048x3200 : Shape := ⟨3, ![2, 2048, 3200]⟩
abbrev S2x2048x3088 : Shape := ⟨3, ![2, 2048, 3088]⟩
abbrev S2x1x1024 : Shape := ⟨3, ![2, 1, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x1024 : Shape := ⟨2, ![2, 1024]⟩
abbrev S3x1024 : Shape := ⟨2, ![3, 1024]⟩
abbrev S4x1024 : Shape := ⟨2, ![4, 1024]⟩
abbrev S4096x1024 : Shape := ⟨2, ![4096, 1024]⟩

abbrev nBuf : Space → Nat
  | .hbm => 90
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S4096x3200, .bf16⟩
  | .hbm, ⟨3, _⟩ => ⟨S2x6x1024, .f32⟩
  | .hbm, ⟨4, _⟩ => ⟨S1x1024, .f32⟩
  | .hbm, ⟨5, _⟩ => ⟨S1024x3088, .f32⟩
  | .hbm, ⟨6, _⟩ => ⟨S2x8x1024, .f32⟩
  | .hbm, ⟨7, _⟩ => ⟨S8x1024, .f32⟩
  | .hbm, ⟨8, _⟩ => ⟨S4096x3200, .f32⟩
  | .hbm, ⟨9, _⟩ => ⟨S2x2048x3200, .f32⟩
  | .hbm, ⟨10, _⟩ => ⟨S2x2048x3088, .f32⟩
  | .hbm, ⟨11, _⟩ => ⟨S2x1x1024, .f32⟩
  | .hbm, ⟨12, _⟩ => ⟨S2x1x1024, .f32⟩
  | .hbm, ⟨13, _⟩ => ⟨S1024, .f32⟩
  | .hbm, ⟨14, _⟩ => ⟨S2x2048x1024, .f32⟩
  | .hbm, ⟨15, _⟩ => ⟨S_, .f32⟩
  | .hbm, ⟨16, _⟩ => ⟨S2x2048, .f32⟩
  | .hbm, ⟨17, _⟩ => ⟨S2x2048x1, .f32⟩
  | .hbm, ⟨18, _⟩ => ⟨S_, .f32⟩
  | .hbm, ⟨19, _⟩ => ⟨S2x2048x1, .f32⟩
  | .hbm, ⟨20, _⟩ => ⟨S2x2048x1, .f32⟩
  | .hbm, ⟨21, _⟩ => ⟨S_, .f32⟩
  | .hbm, ⟨22, _⟩ => ⟨S2x2048x1, .f32⟩
  | .hbm, ⟨23, _⟩ => ⟨S2x2048x1, .f32⟩
  | .hbm, ⟨24, _⟩ => ⟨S2x2048x1, .f32⟩
  | .hbm, ⟨25, _⟩ => ⟨S2x2048x1, .f32⟩
  | .hbm, ⟨26, _⟩ => ⟨S_, .f32⟩
  | .hbm, ⟨27, _⟩ => ⟨S2x2048x1, .f32⟩
  | .hbm, ⟨28, _⟩ => ⟨S2x2048x1, .f32⟩
  | .hbm, ⟨29, _⟩ => ⟨S2x2048x1024, .f32⟩
  | .hbm, ⟨30, _⟩ => ⟨S2x2048x1024, .f32⟩
  | .hbm, ⟨31, _⟩ => ⟨S1x1x1024, .f32⟩
  | .hbm, ⟨32, _⟩ => ⟨S2x2048x1024, .f32⟩
  | .hbm, ⟨33, _⟩ => ⟨S2x2048x1024, .f32⟩
  | .hbm, ⟨34, _⟩ => ⟨S_, .f32⟩
  | .hbm, ⟨35, _⟩ => ⟨S2x1x1024, .f32⟩
  | .hbm, ⟨36, _⟩ => ⟨S2x1x1024, .f32⟩
  | .hbm, ⟨37, _⟩ => ⟨S2x2048x1024, .f32⟩
  | .hbm, ⟨38, _⟩ => ⟨S2x2048x1024, .f32⟩
  | .hbm, ⟨39, _⟩ => ⟨S2x2048x1024, .f32⟩
  | .hbm, ⟨40, _⟩ => ⟨S2x2048x1024, .f32⟩
  | .hbm, ⟨41, _⟩ => ⟨S2x2048x3088, .f32⟩
  | .hbm, ⟨42, _⟩ => ⟨S2x2048x1024, .f32⟩
  | .hbm, ⟨43, _⟩ => ⟨S_, .f32⟩
  | .hbm, ⟨44, _⟩ => ⟨S2x1024, .f32⟩
  | .hbm, ⟨45, _⟩ => ⟨S2x1x1024, .f32⟩
  | .hbm, ⟨46, _⟩ => ⟨S2x2048x1024, .f32⟩
  | .hbm, ⟨47, _⟩ => ⟨S_, .f32⟩
  | .hbm, ⟨48, _⟩ => ⟨S2x1024, .f32⟩
  | .hbm, ⟨49, _⟩ => ⟨S2x1x1024, .f32⟩
  | .hbm, ⟨50, _⟩ => ⟨S2x2048x1024, .f32⟩
  | .hbm, ⟨51, _⟩ => ⟨S2x2048x1024, .f32⟩
  | .hbm, ⟨52, _⟩ => ⟨S2x2048x1024, .f32⟩
  | .hbm, ⟨53, _⟩ => ⟨S_, .f32⟩
  | .hbm, ⟨54, _⟩ => ⟨S1024, .f32⟩
  | .hbm, ⟨55, _⟩ => ⟨S1x1x1024, .f32⟩
  | .hbm, ⟨56, _⟩ => ⟨S2x2048x1024, .f32⟩
  | .hbm, ⟨57, _⟩ => ⟨S2x2048x1024, .f32⟩
  | .hbm, ⟨58, _⟩ => ⟨S_, .f32⟩
  | .hbm, ⟨59, _⟩ => ⟨S1024, .f32⟩
  | .hbm, ⟨60, _⟩ => ⟨S2x2048x1024, .f32⟩
  | .hbm, ⟨61, _⟩ => ⟨S_, .f32⟩
  | .hbm, ⟨62, _⟩ => ⟨S2x2048, .f32⟩
  | .hbm, ⟨63, _⟩ => ⟨S2x2048x1, .f32⟩
  | .hbm, ⟨64, _⟩ => ⟨S2x2048x1024, .f32⟩
  | .hbm, ⟨65, _⟩ => ⟨S2x2048x1024, .f32⟩
  | .hbm, ⟨66, _⟩ => ⟨S2x2048x1024, .f32⟩
  | .hbm, ⟨67, _⟩ => ⟨S2x2048x1, .f32⟩
  | .hbm, ⟨68, _⟩ => ⟨S_, .f32⟩
  | .hbm, ⟨69, _⟩ => ⟨S2x2048x1, .f32⟩
  | .hbm, ⟨70, _⟩ => ⟨S2x2048x1, .f32⟩
  | .hbm, ⟨71, _⟩ => ⟨S_, .f32⟩
  | .hbm, ⟨72, _⟩ => ⟨S2x2048, .f32⟩
  | .hbm, ⟨73, _⟩ => ⟨S2x2048x1024, .f32⟩
  | .hbm, ⟨74, _⟩ => ⟨S2x2048x1024, .f32⟩
  | .hbm, ⟨75, _⟩ => ⟨S2x2048x1024, .f32⟩
  | .hbm, ⟨76, _⟩ => ⟨S2x2048x1024, .f32⟩
  | .hbm, ⟨77, _⟩ => ⟨S2x2048x1024, .f32⟩
  | .hbm, ⟨78, _⟩ => ⟨S1x1024, .f32⟩
  | .hbm, ⟨79, _⟩ => ⟨S_, .f32⟩
  | .hbm, ⟨80, _⟩ => ⟨S2x6x1024, .f32⟩
  | .hbm, ⟨81, _⟩ => ⟨S2x8x1024, .f32⟩
  | .hbm, ⟨82, _⟩ => ⟨S2x8x1024, .f32⟩
  | .hbm, ⟨83, _⟩ => ⟨S_, .f32⟩
  | .hbm, ⟨84, _⟩ => ⟨S3x1024, .f32⟩
  | .hbm, ⟨85, _⟩ => ⟨S_, .f32⟩
  | .hbm, ⟨86, _⟩ => ⟨S4x1024, .f32⟩
  | .hbm, ⟨87, _⟩ => ⟨S8x1024, .f32⟩
  | .hbm, ⟨88, _⟩ => ⟨S8x1024, .f32⟩
  | .hbm, ⟨89, _⟩ => ⟨S4096x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_7 : Ref sig .tc := ⟨.hbm, 58, rfl⟩
abbrev main_v42 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_9 : Ref sig .tc := ⟨.hbm, 68, rfl⟩
abbrev main_v50 : Ref sig .tc := ⟨.hbm, 69, rfl⟩
abbrev main_v51 : Ref sig .tc := ⟨.hbm, 70, rfl⟩
abbrev main_cst_10 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_11 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_12 : Ref sig .tc := ⟨.hbm, 83, rfl⟩
abbrev main_v62 : Ref sig .tc := ⟨.hbm, 84, rfl⟩
abbrev main_cst_13 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩

abbrev nD : Nat := 1
abbrev τ : Topo := Topo.v7x

variable {F : FTy → Type} [FloatOps F]
-- ==== DwOut.lean ====
abbrev S4096x1536 : Shape := ⟨2, ![4096, 1536]⟩
abbrev S4096x1024 : Shape := ⟨2, ![4096, 1024]⟩
abbrev S8x192x1024 : Shape := ⟨3, ![8, 192, 1024]⟩
abbrev S1536x1024 : Shape := ⟨2, ![1536, 1024]⟩

abbrev nBuf : Space → Nat
  | .hbm => 3
  | .vmem => 4
  | .smem => 0
  | _ => 0

abbrev bufTy : (tb : Table) → Fin (tcTables nBuf tb) → BufTy
  | .hbm, ⟨0, _⟩ => ⟨S4096x1536, .bf16⟩
  | .hbm, ⟨1, _⟩ => ⟨S4096x1024, .bf16⟩
  | .hbm, ⟨2, _⟩ => ⟨S8x192x1024, .bf16⟩
  | .local _ .vmem, ⟨0, _⟩ => ⟨S4096x1536, .bf16⟩
  | .local _ .vmem, ⟨1, _⟩ => ⟨S4096x1024, .bf16⟩
  | .local _ .vmem, ⟨2, _⟩ => ⟨S8x192x1024, .bf16⟩
  | .local _ .vmem, ⟨3, _⟩ => ⟨S1536x1024, .f32⟩
  | _, _ => ⟨S4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def k0_mult1 (i : grid0.Coords) : BitVec 32 :=
  let arg1 : BitVec 32 := BitVec.ofNat 32 (i 1).val
  let c4096_i32 : BitVec 32 := 4096#32
  let v3 : BitVec 32 := Scalar.muli arg1 c4096_i32
  v3
def k0_off1 (i : grid0.Coords) : Fin 2 → Nat :=
  let arg1 : BitVec 32 := BitVec.ofNat 32 (i 1).val
  let c4096_i32 : BitVec 32 := 4096#32
  let v3 : BitVec 32 := Scalar.muli arg1 c4096_i32
  let v4 : BitVec 32 := v3
  let v6 : Index := Scalar.indexCast v4
  let c0_2 : Index := 0#32
  ![v6.toNat, 0]
def k0_cond2 (i : grid0.Coords) : BitVec 1 :=
  let arg1 : BitVec 32 := BitVec.ofNat 32 (i 1).val
  let c0_i32_7 : BitVec 32 := 0#32
  let v14 : BitVec 1 := Scalar.cmpi .eq arg1 c0_i32_7
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S4096x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S8x192x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== DwOutRefIdeal.lean ====
abbrev S4096x1536 : Shape := ⟨2, ![4096, 1536]⟩
abbrev S4096x1024 : Shape := ⟨2, ![4096, 1024]⟩
abbrev S_ : Shape := ⟨0, ![]⟩
abbrev S1536x1024 : Shape := ⟨2, ![1536, 1024]⟩
abbrev S1024x1536 : Shape := ⟨2, ![1024, 1536]⟩
abbrev S8x192x1024 : Shape := ⟨3, ![8, 192, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1536, .bf16⟩
  | .hbm, ⟨1, _⟩ => ⟨S4096x1024, .bf16⟩
  | .hbm, ⟨2, _⟩ => ⟨S4096x1536, .f32⟩
  | .hbm, ⟨3, _⟩ => ⟨S4096x1024, .f32⟩
  | .hbm, ⟨4, _⟩ => ⟨S_, .f32⟩
  | .hbm, ⟨5, _⟩ => ⟨S1536x1024, .f32⟩
  | .hbm, ⟨6, _⟩ => ⟨S4096x1024, .f32⟩
  | .hbm, ⟨7, _⟩ => ⟨S1024x1536, .f32⟩
  | .hbm, ⟨8, _⟩ => ⟨S1536x1024, .f32⟩
  | .hbm, ⟨9, _⟩ => ⟨S8x192x1024, .f32⟩
  | .hbm, ⟨10, _⟩ => ⟨S8x192x1024, .bf16⟩
  | _, _ => ⟨S4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DwUp.lean ====
abbrev S4096x1024 : Shape := ⟨2, ![4096, 1024]⟩
abbrev S4096x4096 : Shape := ⟨2, ![4096, 4096]⟩
abbrev S8x1024x512 : Shape := ⟨3, ![8, 1024, 512]⟩
abbrev S4096x512 : Shape := ⟨2, ![4096, 512]⟩
abbrev S1x1024x512 : Shape := ⟨3, ![1, 1024, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S8x1024x512, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def k0_mult1 (i : grid0.Coords) : BitVec 32 :=
  let arg1 : BitVec 32 := BitVec.ofNat 32 (i 1).val
  let c4096_i32 : BitVec 32 := 4096#32
  let v3 : BitVec 32 := Scalar.muli arg1 c4096_i32
  v3
def k0_off1 (i : grid0.Coords) : Fin 2 → Nat :=
  let arg1 : BitVec 32 := BitVec.ofNat 32 (i 1).val
  let c4096_i32 : BitVec 32 := 4096#32
  let v3 : BitVec 32 := Scalar.muli arg1 c4096_i32
  let v4 : BitVec 32 := v3
  let v5 : Index := Scalar.indexCast v4
  let c0 : Index := 0#32
  ![v5.toNat, 0]
def k0_cond2 (i : grid0.Coords) : BitVec 1 :=
  let arg1 : BitVec 32 := BitVec.ofNat 32 (i 1).val
  let c0_i32_7 : BitVec 32 := 0#32
  let v14 : BitVec 1 := Scalar.cmpi .eq arg1 c0_i32_7
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DwUpRefIdeal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩
abbrev S1024x8x512 : Shape := ⟨3, ![1024, 8, 512]⟩
abbrev S8x1024x512 : Shape := ⟨3, ![8, 1024, 512]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4096x1024, .f32⟩
  | .hbm, ⟨3, _⟩ => ⟨S4096x4096, .f32⟩
  | .hbm, ⟨4, _⟩ => ⟨S_, .f32⟩
  | .hbm, ⟨5, _⟩ => ⟨S1024x4096, .f32⟩
  | .hbm, ⟨6, _⟩ => ⟨S4096x4096, .f32⟩
  | .hbm, ⟨7, _⟩ => ⟨S4096x1024, .f32⟩
  | .hbm, ⟨8, _⟩ => ⟨S1024x4096, .f32⟩
  | .hbm, ⟨9, _⟩ => ⟨S1024x8x512, .f32⟩
  | .hbm, ⟨10, _⟩ => ⟨S8x1024x512, .f32⟩
  | .hbm, ⟨11, _⟩ => ⟨S8x1024x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DwDown.lean ====
abbrev S4096x4096 : Shape := ⟨2, ![4096, 4096]⟩
abbrev S4096x1024 : Shape := ⟨2, ![4096, 1024]⟩
abbrev S8x512x1024 : Shape := ⟨3, ![8, 512, 1024]⟩
abbrev S4096x512 : Shape := ⟨2, ![4096, 512]⟩
abbrev S1x512x1024 : Shape := ⟨3, ![1, 512, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S8x512x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S512x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def k0_mult1 (i : grid0.Coords) : BitVec 32 :=
  let arg1 : BitVec 32 := BitVec.ofNat 32 (i 1).val
  let c4096_i32 : BitVec 32 := 4096#32
  let v3 : BitVec 32 := Scalar.muli arg1 c4096_i32
  v3
def k0_off1 (i : grid0.Coords) : Fin 2 → Nat :=
  let arg1 : BitVec 32 := BitVec.ofNat 32 (i 1).val
  let c4096_i32 : BitVec 32 := 4096#32
  let v3 : BitVec 32 := Scalar.muli arg1 c4096_i32
  let v4 : BitVec 32 := v3
  let v6 : Index := Scalar.indexCast v4
  let c0_2 : Index := 0#32
  ![v6.toNat, 0]
def k0_cond2 (i : grid0.Coords) : BitVec 1 :=
  let arg1 : BitVec 32 := BitVec.ofNat 32 (i 1).val
  let c0_i32_7 : BitVec 32 := 0#32
  let v14 : BitVec 1 := Scalar.cmpi .eq arg1 c0_i32_7
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DwDownRefIdeal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩
abbrev S8x512x1024 : Shape := ⟨3, ![8, 512, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x4096, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S1024x4096, .f32⟩
  | .hbm, ⟨8, _⟩ => ⟨S4096x1024, .f32⟩
  | .hbm, ⟨9, _⟩ => ⟨S8x512x1024, .f32⟩
  | .hbm, ⟨10, _⟩ => ⟨S8x512x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== AdaFwd.lean ====
abbrev S16x1024 : Shape := ⟨2, ![16, 1024]⟩
abbrev S1024x768 : Shape := ⟨2, ![1024, 768]⟩
abbrev S1x768 : Shape := ⟨2, ![1, 768]⟩
abbrev S16x768 : Shape := ⟨2, ![16, 768]⟩

abbrev nBuf : Space → Nat
  | .hbm => 4
  | .vmem => 4
  | .smem => 0
  | _ => 0

abbrev bufTy : (tb : Table) → Fin (tcTables nBuf tb) → BufTy
  | .hbm, ⟨0, _⟩ => ⟨S16x1024, .f32⟩
  | .hbm, ⟨1, _⟩ => ⟨S1024x768, .f32⟩
  | .hbm, ⟨2, _⟩ => ⟨S1x768, .f32⟩
  | .hbm, ⟨3, _⟩ => ⟨S16x768, .f32⟩
  | .local _ .vmem, ⟨0, _⟩ => ⟨S16x1024, .f32⟩
  | .local _ .vmem, ⟨1, _⟩ => ⟨S1024x768, .f32⟩
  | .local _ .vmem, ⟨2, _⟩ => ⟨S1x768, .f32⟩
  | .local _ .vmem, ⟨3, _⟩ => ⟨S16x768, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== AdaFwdRefIdeal.lean ====
abbrev S16x1024 : Shape := ⟨2, ![16, 1024]⟩
abbrev S1024x768 : Shape := ⟨2, ![1024, 768]⟩
abbrev S1x768 : Shape := ⟨2, ![1, 768]⟩
abbrev S_ : Shape := ⟨0, ![]⟩
abbrev S16x768 : Shape := ⟨2, ![16, 768]⟩
abbrev S768 : Shape := ⟨1, ![768]⟩

abbrev nBuf : Space → Nat
  | .hbm => 17
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1024x768, .f32⟩
  | .hbm, ⟨2, _⟩ => ⟨S1x768, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S16x768, .f32⟩
  | .hbm, ⟨13, _⟩ => ⟨S768, .f32⟩
  | .hbm, ⟨14, _⟩ => ⟨S1x768, .f32⟩
  | .hbm, ⟨15, _⟩ => ⟨S16x768, .f32⟩
  | .hbm, ⟨16, _⟩ => ⟨S16x768, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== AdaBwd.lean ====
abbrev S16x1024 : Shape := ⟨2, ![16, 1024]⟩
abbrev S16x768 : Shape := ⟨2, ![16, 768]⟩
abbrev S1024x768 : Shape := ⟨2, ![1024, 768]⟩
abbrev S16x256 : Shape := ⟨2, ![16, 256]⟩
abbrev S256x768 : Shape := ⟨2, ![256, 768]⟩

abbrev nBuf : Space → Nat
  | .hbm => 9
  | .vmem => 17
  | .smem => 0
  | _ => 0

abbrev bufTy : (tb : Table) → Fin (tcTables nBuf tb) → BufTy
  | .hbm, ⟨0, _⟩ => ⟨S16x1024, .f32⟩
  | .hbm, ⟨1, _⟩ => ⟨S16x768, .f32⟩
  | .hbm, ⟨2, _⟩ => ⟨S1024x768, .f32⟩
  | .hbm, ⟨3, _⟩ => ⟨S1024x768, .f32⟩
  | .hbm, ⟨4, _⟩ => ⟨S1024x768, .f32⟩
  | .hbm, ⟨5, _⟩ => ⟨S1024x768, .f32⟩
  | .hbm, ⟨6, _⟩ => ⟨S1024x768, .f32⟩
  | .hbm, ⟨7, _⟩ => ⟨S1024x768, .f32⟩
  | .hbm, ⟨8, _⟩ => ⟨S1024x768, .f32⟩
  | .local _ .vmem, ⟨0, _⟩ => ⟨S16x256, .f32⟩
  | .local _ .vmem, ⟨1, _⟩ => ⟨S16x256, .f32⟩
  | .local _ .vmem, ⟨2, _⟩ => ⟨S16x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | .local _ .vmem, ⟨16, _⟩ => ⟨S256x768, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdaBwdRefIdeal.lean ====
abbrev S16x1024 : Shape := ⟨2, ![16, 1024]⟩
abbrev S16x768 : Shape := ⟨2, ![16, 768]⟩
abbrev S1024x768 : Shape := ⟨2, ![1024, 768]⟩
abbrev S_ : Shape := ⟨0, ![]⟩
abbrev S768x1024 : Shape := ⟨2, ![768, 1024]⟩

abbrev nBuf : Space → Nat
  | .hbm => 50
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S16x768, .f32⟩
  | .hbm, ⟨2, _⟩ => ⟨S1024x768, .f32⟩
  | .hbm, ⟨3, _⟩ => ⟨S1024x768, .f32⟩
  | .hbm, ⟨4, _⟩ => ⟨S1024x768, .f32⟩
  | .hbm, ⟨5, _⟩ => ⟨S16x1024, .f32⟩
  | .hbm, ⟨6, _⟩ => ⟨S16x1024, .f32⟩
  | .hbm, ⟨7, _⟩ => ⟨S_, .f32⟩
  | .hbm, ⟨8, _⟩ => ⟨S16x1024, .f32⟩
  | .hbm, ⟨9, _⟩ => ⟨S16x1024, .f32⟩
  | .hbm, ⟨10, _⟩ => ⟨S_, .f32⟩
  | .hbm, ⟨11, _⟩ => ⟨S16x1024, .f32⟩
  | .hbm, ⟨12, _⟩ => ⟨S16x1024, .f32⟩
  | .hbm, ⟨13, _⟩ => ⟨S16x1024, .f32⟩
  | .hbm, ⟨14, _⟩ => ⟨S16x768, .f32⟩
  | .hbm, ⟨15, _⟩ => ⟨S768x1024, .f32⟩
  | .hbm, ⟨16, _⟩ => ⟨S1024x768, .f32⟩
  | .hbm, ⟨17, _⟩ => ⟨S_, .f32⟩
  | .hbm, ⟨18, _⟩ => ⟨S1024x768, .f32⟩
  | .hbm, ⟨19, _⟩ => ⟨S1024x768, .f32⟩
  | .hbm, ⟨20, _⟩ => ⟨S_, .f32⟩
  | .hbm, ⟨21, _⟩ => ⟨S1024x768, .f32⟩
  | .hbm, ⟨22, _⟩ => ⟨S1024x768, .f32⟩
  | .hbm, ⟨23, _⟩ => ⟨S1024x768, .f32⟩
  | .hbm, ⟨24, _⟩ => ⟨S_, .f32⟩
  | .hbm, ⟨25, _⟩ => ⟨S1024x768, .f32⟩
  | .hbm, ⟨26, _⟩ => ⟨S1024x768, .f32⟩
  | .hbm, ⟨27, _⟩ => ⟨S1024x768, .f32⟩
  | .hbm, ⟨28, _⟩ => ⟨S_, .f32⟩
  | .hbm, ⟨29, _⟩ => ⟨S1024x768, .f32⟩
  | .hbm, ⟨30, _⟩ => ⟨S1024x768, .f32⟩
  | .hbm, ⟨31, _⟩ => ⟨S1024x768, .f32⟩
  | .hbm, ⟨32, _⟩ => ⟨S_, .f32⟩
  | .hbm, ⟨33, _⟩ => ⟨S1024x768, .f32⟩
  | .hbm, ⟨34, _⟩ => ⟨S1024x768, .f32⟩
  | .hbm, ⟨35, _⟩ => ⟨S_, .f32⟩
  | .hbm, ⟨36, _⟩ => ⟨S1024x768, .f32⟩
  | .hbm, ⟨37, _⟩ => ⟨S1024x768, .f32⟩
  | .hbm, ⟨38, _⟩ => ⟨S1024x768, .f32⟩
  | .hbm, ⟨39, _⟩ => ⟨S_, .f32⟩
  | .hbm, ⟨40, _⟩ => ⟨S1024x768, .f32⟩
  | .hbm, ⟨41, _⟩ => ⟨S1024x768, .f32⟩
  | .hbm, ⟨42, _⟩ => ⟨S1024x768, .f32⟩
  | .hbm, ⟨43, _⟩ => ⟨S_, .f32⟩
  | .hbm, ⟨44, _⟩ => ⟨S1024x768, .f32⟩
  | .hbm, ⟨45, _⟩ => ⟨S1024x768, .f32⟩
  | .hbm, ⟨46, _⟩ => ⟨S1024x768, .f32⟩
  | .hbm, ⟨47, _⟩ => ⟨S_, .f32⟩
  | .hbm, ⟨48, _⟩ => ⟨S1024x768, .f32⟩
  | .hbm, ⟨49, _⟩ => ⟨S1024x768, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_2 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_3 : Ref sig .tc := ⟨.hbm, 32, rfl⟩
abbrev main_v15 : Ref sig .tc := ⟨.hbm, 33, rfl⟩
abbrev main_v16 : Ref sig .tc := ⟨.hbm, 34, rfl⟩
abbrev main_cst_4 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_5 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_6 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_7 : Ref sig .tc := ⟨.hbm, 47, rfl⟩
abbrev main_v26 : Ref sig .tc := ⟨.hbm, 48, rfl⟩
abbrev main_v27 : Ref sig .tc := ⟨.hbm, 49, rfl⟩

abbrev nD : Nat := 1
abbrev τ : Topo := Topo.v7x

variable {F : FTy → Type} [FloatOps F]
-- ==== AdamPool.lean ====
abbrev S8x512x128 : Shape := ⟨3, ![8, 512, 128]⟩
abbrev S512x128 : Shape := ⟨2, ![512, 128]⟩
abbrev S1x512x128 : Shape := ⟨3, ![1, 512, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x512x128, .f32⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S512x128, .f32⟩
  | .hbm, ⟨6, _⟩ => ⟨S512x128, .f32⟩
  | .hbm, ⟨7, _⟩ => ⟨S512x128, .f32⟩
  | .local _ .vmem, ⟨0, _⟩ => ⟨S8x512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | _, _ => ⟨S8x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamPoolRefIdeal.lean ====
abbrev S8x512x128 : Shape := ⟨3, ![8, 512, 128]⟩
abbrev S512x128 : Shape := ⟨2, ![512, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x512x128, .f32⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S_, .f32⟩
  | .hbm, ⟨5, _⟩ => ⟨S512x128, .f32⟩
  | .hbm, ⟨6, _⟩ => ⟨S_, .f32⟩
  | .hbm, ⟨7, _⟩ => ⟨S512x128, .f32⟩
  | .hbm, ⟨8, _⟩ => ⟨S512x128, .f32⟩
  | .hbm, ⟨9, _⟩ => ⟨S_, .f32⟩
  | .hbm, ⟨10, _⟩ => ⟨S512x128, .f32⟩
  | .hbm, ⟨11, _⟩ => ⟨S512x128, .f32⟩
  | .hbm, ⟨12, _⟩ => ⟨S512x128, .f32⟩
  | .hbm, ⟨13, _⟩ => ⟨S_, .f32⟩
  | .hbm, ⟨14, _⟩ => ⟨S512x128, .f32⟩
  | .hbm, ⟨15, _⟩ => ⟨S512x128, .f32⟩
  | .hbm, ⟨16, _⟩ => ⟨S512x128, .f32⟩
  | .hbm, ⟨17, _⟩ => ⟨S_, .f32⟩
  | .hbm, ⟨18, _⟩ => ⟨S512x128, .f32⟩
  | .hbm, ⟨19, _⟩ => ⟨S512x128, .f32⟩
  | .hbm, ⟨20, _⟩ => ⟨S512x128, .f32⟩
  | .hbm, ⟨21, _⟩ => ⟨S_, .f32⟩
  | .hbm, ⟨22, _⟩ => ⟨S512x128, .f32⟩
  | .hbm, ⟨23, _⟩ => ⟨S512x128, .f32⟩
  | .hbm, ⟨24, _⟩ => ⟨S_, .f32⟩
  | .hbm, ⟨25, _⟩ => ⟨S512x128, .f32⟩
  | .hbm, ⟨26, _⟩ => ⟨S512x128, .f32⟩
  | .hbm, ⟨27, _⟩ => ⟨S512x128, .f32⟩
  | .hbm, ⟨28, _⟩ => ⟨S_, .f32⟩
  | .hbm, ⟨29, _⟩ => ⟨S512x128, .f32⟩
  | .hbm, ⟨30, _⟩ => ⟨S512x128, .f32⟩
  | .hbm, ⟨31, _⟩ => ⟨S512x128, .f32⟩
  | .hbm, ⟨32, _⟩ => ⟨S_, .f32⟩
  | .hbm, ⟨33, _⟩ => ⟨S512x128, .f32⟩
  | .hbm, ⟨34, _⟩ => ⟨S512x128, .f32⟩
  | .hbm, ⟨35, _⟩ => ⟨S512x128, .f32⟩
  | .hbm, ⟨36, _⟩ => ⟨S_, .f32⟩
  | .hbm, ⟨37, _⟩ => ⟨S512x128, .f32⟩
  | .hbm, ⟨38, _⟩ => ⟨S512x128, .f32⟩
  | _, _ => ⟨S8x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamConv.lean ====
abbrev S4x192 : Shape := ⟨2, ![4, 192]⟩

abbrev nBuf : Space → Nat
  | .hbm => 7
  | .vmem => 7
  | .smem => 0
  | _ => 0

abbrev bufTy : (tb : Table) → Fin (tcTables nBuf tb) → BufTy
  | .hbm, ⟨0, _⟩ => ⟨S4x192, .f32⟩
  | .hbm, ⟨1, _⟩ => ⟨S4x192, .f32⟩
  | .hbm, ⟨2, _⟩ => ⟨S4x192, .f32⟩
  | .hbm, ⟨3, _⟩ => ⟨S4x192, .f32⟩
  | .hbm, ⟨4, _⟩ => ⟨S4x192, .f32⟩
  | .hbm, ⟨5, _⟩ => ⟨S4x192, .f32⟩
  | .hbm, ⟨6, _⟩ => ⟨S4x192, .f32⟩
  | .local _ .vmem, ⟨0, _⟩ => ⟨S4x192, .f32⟩
  | .local _ .vmem, ⟨1, _⟩ => ⟨S4x192, .f32⟩
  | .local _ .vmem, ⟨2, _⟩ => ⟨S4x192, .f32⟩
  | .local _ .vmem, ⟨3, _⟩ => ⟨S4x192, .f32⟩
  | .local _ .vmem, ⟨4, _⟩ => ⟨S4x192, .f32⟩
  | .local _ .vmem, ⟨5, _⟩ => ⟨S4x192, .f32⟩
  | .local _ .vmem, ⟨6, _⟩ => ⟨S4x192, .f32⟩
  | _, _ => ⟨S4x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S4x192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== AdamConvRefIdeal.lean ====
abbrev S4x192 : Shape := ⟨2, ![4, 192]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x192, .f32⟩
  | .hbm, ⟨1, _⟩ => ⟨S4x192, .f32⟩
  | .hbm, ⟨2, _⟩ => ⟨S4x192, .f32⟩
  | .hbm, ⟨3, _⟩ => ⟨S4x192, .f32⟩
  | .hbm, ⟨4, _⟩ => ⟨S_, .f32⟩
  | .hbm, ⟨5, _⟩ => ⟨S4x192, .f32⟩
  | .hbm, ⟨6, _⟩ => ⟨S4x192, .f32⟩
  | .hbm, ⟨7, _⟩ => ⟨S_, .f32⟩
  | .hbm, ⟨8, _⟩ => ⟨S4x192, .f32⟩
  | .hbm, ⟨9, _⟩ => ⟨S4x192, .f32⟩
  | .hbm, ⟨10, _⟩ => ⟨S4x192, .f32⟩
  | .hbm, ⟨11, _⟩ => ⟨S_, .f32⟩
  | .hbm, ⟨12, _⟩ => ⟨S4x192, .f32⟩
  | .hbm, ⟨13, _⟩ => ⟨S4x192, .f32⟩
  | .hbm, ⟨14, _⟩ => ⟨S4x192, .f32⟩
  | .hbm, ⟨15, _⟩ => ⟨S_, .f32⟩
  | .hbm, ⟨16, _⟩ => ⟨S4x192, .f32⟩
  | .hbm, ⟨17, _⟩ => ⟨S4x192, .f32⟩
  | .hbm, ⟨18, _⟩ => ⟨S4x192, .f32⟩
  | .hbm, ⟨19, _⟩ => ⟨S_, .f32⟩
  | .hbm, ⟨20, _⟩ => ⟨S4x192, .f32⟩
  | .hbm, ⟨21, _⟩ => ⟨S4x192, .f32⟩
  | .hbm, ⟨22, _⟩ => ⟨S_, .f32⟩
  | .hbm, ⟨23, _⟩ => ⟨S4x192, .f32⟩
  | .hbm, ⟨24, _⟩ => ⟨S4x192, .f32⟩
  | .hbm, ⟨25, _⟩ => ⟨S4x192, .f32⟩
  | .hbm, ⟨26, _⟩ => ⟨S_, .f32⟩
  | .hbm, ⟨27, _⟩ => ⟨S4x192, .f32⟩
  | .hbm, ⟨28, _⟩ => ⟨S4x192, .f32⟩
  | .hbm, ⟨29, _⟩ => ⟨S4x192, .f32⟩
  | .hbm, ⟨30, _⟩ => ⟨S_, .f32⟩
  | .hbm, ⟨31, _⟩ => ⟨S4x192, .f32⟩
  | .hbm, ⟨32, _⟩ => ⟨S4x192, .f32⟩
  | .hbm, ⟨33, _⟩ => ⟨S4x192, .f32⟩
  | .hbm, ⟨34, _⟩ => ⟨S_, .f32⟩
  | .hbm, ⟨35, _⟩ => ⟨S4x192, .f32⟩
  | .hbm, ⟨36, _⟩ => ⟨S4x192, .f32⟩
  | _, _ => ⟨S4x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOut.lean ====
abbrev S1 : Shape := ⟨1, ![1]⟩
abbrev S8x192x1024 : Shape := ⟨3, ![8, 192, 1024]⟩
abbrev S192x1024 : Shape := ⟨2, ![192, 1024]⟩
abbrev S1x192x1024 : Shape := ⟨3, ![1, 192, 1024]⟩

abbrev nBuf : Space → Nat
  | .hbm => 9
  | .vmem => 9
  | .smem => 1
  | _ => 0

abbrev bufTy : (tb : Table) → Fin (tcTables nBuf tb) → BufTy
  | .hbm, ⟨0, _⟩ => ⟨S8x192x1024, .bf16⟩
  | .hbm, ⟨1, _⟩ => ⟨S8x192x1024, .bf16⟩
  | .hbm, ⟨2, _⟩ => ⟨S192x1024, .f32⟩
  | .hbm, ⟨3, _⟩ => ⟨S192x1024, .f32⟩
  | .hbm, ⟨4, _⟩ => ⟨S192x1024, .f32⟩
  | .hbm, ⟨5, _⟩ => ⟨S192x1024, .f32⟩
  | .hbm, ⟨6, _⟩ => ⟨S192x1024, .f32⟩
  | .hbm, ⟨7, _⟩ => ⟨S192x1024, .f32⟩
  | .hbm, ⟨8, _⟩ => ⟨S192x1024, .f32⟩
  | .local _ .vmem, ⟨0, _⟩ => ⟨S1x192x1024, .bf16⟩
  | .local _ .vmem, ⟨1, _⟩ => ⟨S8x192x1024, .bf16⟩
  | .local _ .vmem, ⟨2, _⟩ => ⟨S192x1024, .f32⟩
  | .local _ .vmem, ⟨3, _⟩ => ⟨S192x1024, .f32⟩
  | .local _ .vmem, ⟨4, _⟩ => ⟨S192x1024, .f32⟩
  | .local _ .vmem, ⟨5, _⟩ => ⟨S192x1024, .f32⟩
  | .local _ .vmem, ⟨6, _⟩ => ⟨S192x1024, .f32⟩
  | .local _ .vmem, ⟨7, _⟩ => ⟨S192x1024, .f32⟩
  | .local _ .vmem, ⟨8, _⟩ => ⟨S192x1024, .f32⟩
  | .local _ .smem, ⟨0, _⟩ => ⟨S1, .i32⟩
  | _, _ => ⟨S8x192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x192x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x192x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S192x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S192x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S192x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S192x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S192x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S192x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S192x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AdamOutRefIdeal.lean ====
abbrev S1 : Shape := ⟨1, ![1]⟩
abbrev S8x192x1024 : Shape := ⟨3, ![8, 192, 1024]⟩
abbrev S192x1024 : Shape := ⟨2, ![192, 1024]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S1, .i32⟩
  | .hbm, ⟨1, _⟩ => ⟨S8x192x1024, .bf16⟩
  | .hbm, ⟨2, _⟩ => ⟨S8x192x1024, .bf16⟩
  | .hbm, ⟨3, _⟩ => ⟨S192x1024, .f32⟩
  | .hbm, ⟨4, _⟩ => ⟨S192x1024, .f32⟩
  | .hbm, ⟨5, _⟩ => ⟨S192x1024, .f32⟩
  | .hbm, ⟨6, _⟩ => ⟨S8x192x1024, .i32⟩
  | .hbm, ⟨7, _⟩ => ⟨S_, .i32⟩
  | .hbm, ⟨8, _⟩ => ⟨S8x192x1024, .i32⟩
  | .hbm, ⟨9, _⟩ => ⟨S8x192x1024, .i1⟩
  | .hbm, ⟨10, _⟩ => ⟨S8x192x1024, .f32⟩
  | .hbm, ⟨11, _⟩ => ⟨S8x192x1024, .f32⟩
  | .hbm, ⟨12, _⟩ => ⟨S8x192x1024, .f32⟩
  | .hbm, ⟨13, _⟩ => ⟨S_, .f32⟩
  | .hbm, ⟨14, _⟩ => ⟨S192x1024, .f32⟩
  | .hbm, ⟨15, _⟩ => ⟨S_, .f32⟩
  | .hbm, ⟨16, _⟩ => ⟨S192x1024, .f32⟩
  | .hbm, ⟨17, _⟩ => ⟨S192x1024, .f32⟩
  | .hbm, ⟨18, _⟩ => ⟨S_, .f32⟩
  | .hbm, ⟨19, _⟩ => ⟨S192x1024, .f32⟩
  | .hbm, ⟨20, _⟩ => ⟨S192x1024, .f32⟩
  | .hbm, ⟨21, _⟩ => ⟨S192x1024, .f32⟩
  | .hbm, ⟨22, _⟩ => ⟨S_, .f32⟩
  | .hbm, ⟨23, _⟩ => ⟨S192x1024, .f32⟩
  | .hbm, ⟨24, _⟩ => ⟨S192x1024, .f32⟩
  | .hbm, ⟨25, _⟩ => ⟨S192x1024, .f32⟩
  | .hbm, ⟨26, _⟩ => ⟨S_, .f32⟩
  | .hbm, ⟨27, _⟩ => ⟨S192x1024, .f32⟩
  | .hbm, ⟨28, _⟩ => ⟨S192x1024, .f32⟩
  | .hbm, ⟨29, _⟩ => ⟨S192x1024, .f32⟩
  | .hbm, ⟨30, _⟩ => ⟨S_, .f32⟩
  | .hbm, ⟨31, _⟩ => ⟨S192x1024, .f32⟩
  | .hbm, ⟨32, _⟩ => ⟨S192x1024, .f32⟩
  | .hbm, ⟨33, _⟩ => ⟨S_, .f32⟩
  | .hbm, ⟨34, _⟩ => ⟨S192x1024, .f32⟩
  | .hbm, ⟨35, _⟩ => ⟨S192x1024, .f32⟩
  | .hbm, ⟨36, _⟩ => ⟨S192x1024, .f32⟩
  | .hbm, ⟨37, _⟩ => ⟨S_, .f32⟩
  | .hbm, ⟨38, _⟩ => ⟨S192x1024, .f32⟩
  | .hbm, ⟨39, _⟩ => ⟨S192x1024, .f32⟩
  | .hbm, ⟨40, _⟩ => ⟨S192x1024, .f32⟩
  | .hbm, ⟨41, _⟩ => ⟨S_, .f32⟩
  | .hbm, ⟨42, _⟩ => ⟨S192x1024, .f32⟩
  | .hbm, ⟨43, _⟩ => ⟨S192x1024, .f32⟩
  | .hbm, ⟨44, _⟩ => ⟨S192x1024, .f32⟩
  | .hbm, ⟨45, _⟩ => ⟨S_, .f32⟩
  | .hbm, ⟨46, _⟩ => ⟨S192x1024, .f32⟩
  | .hbm, ⟨47, _⟩ => ⟨S192x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_6 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_7 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_8 : Ref sig .tc := ⟨.hbm, 45, rfl⟩
abbrev main_v30 : Ref sig .tc := ⟨.hbm, 46, rfl⟩
abbrev main_v31 : Ref sig .tc := ⟨.hbm, 47, rfl⟩

abbrev nD : Nat := 1
abbrev τ : Topo := Topo.v7x

variable {F : FTy → Type} [FloatOps F]
-- ==== AdamUp.lean ====
abbrev S1 : Shape := ⟨1, ![1]⟩
abbrev S8x1024x512 : Shape := ⟨3, ![8, 1024, 512]⟩
abbrev S1024x512 : Shape := ⟨2, ![1024, 512]⟩
abbrev S1x512x512 : Shape := ⟨3, ![1, 512, 512]⟩
abbrev S8x512x512 : Shape := ⟨3, ![8, 512, 512]⟩
abbrev S512x512 : Shape := ⟨2, ![512, 512]⟩

abbrev nBuf : Space → Nat
  | .hbm => 9
  | .vmem => 18
  | .smem => 1
  | _ => 0

abbrev bufTy : (tb : Table) → Fin (tcTables nBuf tb) → BufTy
  | .hbm, ⟨0, _⟩ => ⟨S8x1024x512, .bf16⟩
  | .hbm, ⟨1, _⟩ => ⟨S8x1024x512, .bf16⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x512, .f32⟩
  | .local _ .vmem, ⟨0, _⟩ => ⟨S1x512x512, .bf16⟩
  | .local _ .vmem, ⟨1, _⟩ => ⟨S1x512x512, .bf16⟩
  | .local _ .vmem, ⟨2, _⟩ => ⟨S8x512x512, .bf16⟩
  | .local _ .vmem, ⟨3, _⟩ => ⟨S8x512x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .smem, ⟨0, _⟩ => ⟨S1, .i32⟩
  | _, _ => ⟨S8x1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamUpRefIdeal.lean ====
abbrev S1 : Shape := ⟨1, ![1]⟩
abbrev S8x1024x512 : Shape := ⟨3, ![8, 1024, 512]⟩
abbrev S1024x512 : Shape := ⟨2, ![1024, 512]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S1, .i32⟩
  | .hbm, ⟨1, _⟩ => ⟨S8x1024x512, .bf16⟩
  | .hbm, ⟨2, _⟩ => ⟨S8x1024x512, .bf16⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S8x1024x512, .i32⟩
  | .hbm, ⟨7, _⟩ => ⟨S_, .i32⟩
  | .hbm, ⟨8, _⟩ => ⟨S8x1024x512, .i32⟩
  | .hbm, ⟨9, _⟩ => ⟨S8x1024x512, .i1⟩
  | .hbm, ⟨10, _⟩ => ⟨S8x1024x512, .f32⟩
  | .hbm, ⟨11, _⟩ => ⟨S8x1024x512, .f32⟩
  | .hbm, ⟨12, _⟩ => ⟨S8x1024x512, .f32⟩
  | .hbm, ⟨13, _⟩ => ⟨S_, .f32⟩
  | .hbm, ⟨14, _⟩ => ⟨S1024x512, .f32⟩
  | .hbm, ⟨15, _⟩ => ⟨S_, .f32⟩
  | .hbm, ⟨16, _⟩ => ⟨S1024x512, .f32⟩
  | .hbm, ⟨17, _⟩ => ⟨S1024x512, .f32⟩
  | .hbm, ⟨18, _⟩ => ⟨S_, .f32⟩
  | .hbm, ⟨19, _⟩ => ⟨S1024x512, .f32⟩
  | .hbm, ⟨20, _⟩ => ⟨S1024x512, .f32⟩
  | .hbm, ⟨21, _⟩ => ⟨S1024x512, .f32⟩
  | .hbm, ⟨22, _⟩ => ⟨S_, .f32⟩
  | .hbm, ⟨23, _⟩ => ⟨S1024x512, .f32⟩
  | .hbm, ⟨24, _⟩ => ⟨S1024x512, .f32⟩
  | .hbm, ⟨25, _⟩ => ⟨S1024x512, .f32⟩
  | .hbm, ⟨26, _⟩ => ⟨S_, .f32⟩
  | .hbm, ⟨27, _⟩ => ⟨S1024x512, .f32⟩
  | .hbm, ⟨28, _⟩ => ⟨S1024x512, .f32⟩
  | .hbm, ⟨29, _⟩ => ⟨S1024x512, .f32⟩
  | .hbm, ⟨30, _⟩ => ⟨S_, .f32⟩
  | .hbm, ⟨31, _⟩ => ⟨S1024x512, .f32⟩
  | .hbm, ⟨32, _⟩ => ⟨S1024x512, .f32⟩
  | .hbm, ⟨33, _⟩ => ⟨S_, .f32⟩
  | .hbm, ⟨34, _⟩ => ⟨S1024x512, .f32⟩
  | .hbm, ⟨35, _⟩ => ⟨S1024x512, .f32⟩
  | .hbm, ⟨36, _⟩ => ⟨S1024x512, .f32⟩
  | .hbm, ⟨37, _⟩ => ⟨S_, .f32⟩
  | .hbm, ⟨38, _⟩ => ⟨S1024x512, .f32⟩
  | .hbm, ⟨39, _⟩ => ⟨S1024x512, .f32⟩
  | .hbm, ⟨40, _⟩ => ⟨S1024x512, .f32⟩
  | .hbm, ⟨41, _⟩ => ⟨S_, .f32⟩
  | .hbm, ⟨42, _⟩ => ⟨S1024x512, .f32⟩
  | .hbm, ⟨43, _⟩ => ⟨S1024x512, .f32⟩
  | .hbm, ⟨44, _⟩ => ⟨S1024x512, .f32⟩
  | .hbm, ⟨45, _⟩ => ⟨S_, .f32⟩
  | .hbm, ⟨46, _⟩ => ⟨S1024x512, .f32⟩
  | .hbm, ⟨47, _⟩ => ⟨S1024x512, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_6 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_7 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_8 : Ref sig .tc := ⟨.hbm, 45, rfl⟩
abbrev main_v30 : Ref sig .tc := ⟨.hbm, 46, rfl⟩
abbrev main_v31 : Ref sig .tc := ⟨.hbm, 47, rfl⟩

abbrev nD : Nat := 1
abbrev τ : Topo := Topo.v7x

variable {F : FTy → Type} [FloatOps F]
-- ==== AdamDown.lean ====
abbrev S1 : Shape := ⟨1, ![1]⟩
abbrev S8x512x1024 : Shape := ⟨3, ![8, 512, 1024]⟩
abbrev S512x1024 : Shape := ⟨2, ![512, 1024]⟩
abbrev S1x256x1024 : Shape := ⟨3, ![1, 256, 1024]⟩
abbrev S8x256x1024 : Shape := ⟨3, ![8, 256, 1024]⟩
abbrev S256x1024 : Shape := ⟨2, ![256, 1024]⟩

abbrev nBuf : Space → Nat
  | .hbm => 9
  | .vmem => 18
  | .smem => 1
  | _ => 0

abbrev bufTy : (tb : Table) → Fin (tcTables nBuf tb) → BufTy
  | .hbm, ⟨0, _⟩ => ⟨S8x512x1024, .bf16⟩
  | .hbm, ⟨1, _⟩ => ⟨S8x512x1024, .bf16⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .local _ .vmem, ⟨0, _⟩ => ⟨S1x256x1024, .bf16⟩
  | .local _ .vmem, ⟨1, _⟩ => ⟨S1x256x1024, .bf16⟩
  | .local _ .vmem, ⟨2, _⟩ => ⟨S8x256x1024, .bf16⟩
  | .local _ .vmem, ⟨3, _⟩ => ⟨S8x256x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .smem, ⟨0, _⟩ => ⟨S1, .i32⟩
  | _, _ => ⟨S8x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamDownRefIdeal.lean ====
abbrev S1 : Shape := ⟨1, ![1]⟩
abbrev S8x512x1024 : Shape := ⟨3, ![8, 512, 1024]⟩
abbrev S512x1024 : Shape := ⟨2, ![512, 1024]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S1, .i32⟩
  | .hbm, ⟨1, _⟩ => ⟨S8x512x1024, .bf16⟩
  | .hbm, ⟨2, _⟩ => ⟨S8x512x1024, .bf16⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S8x512x1024, .i32⟩
  | .hbm, ⟨7, _⟩ => ⟨S_, .i32⟩
  | .hbm, ⟨8, _⟩ => ⟨S8x512x1024, .i32⟩
  | .hbm, ⟨9, _⟩ => ⟨S8x512x1024, .i1⟩
  | .hbm, ⟨10, _⟩ => ⟨S8x512x1024, .f32⟩
  | .hbm, ⟨11, _⟩ => ⟨S8x512x1024, .f32⟩
  | .hbm, ⟨12, _⟩ => ⟨S8x512x1024, .f32⟩
  | .hbm, ⟨13, _⟩ => ⟨S_, .f32⟩
  | .hbm, ⟨14, _⟩ => ⟨S512x1024, .f32⟩
  | .hbm, ⟨15, _⟩ => ⟨S_, .f32⟩
  | .hbm, ⟨16, _⟩ => ⟨S512x1024, .f32⟩
  | .hbm, ⟨17, _⟩ => ⟨S512x1024, .f32⟩
  | .hbm, ⟨18, _⟩ => ⟨S_, .f32⟩
  | .hbm, ⟨19, _⟩ => ⟨S512x1024, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S512x1024, .f32⟩
  | .hbm, ⟨26, _⟩ => ⟨S_, .f32⟩
  | .hbm, ⟨27, _⟩ => ⟨S512x1024, .f32⟩
  | .hbm, ⟨28, _⟩ => ⟨S512x1024, .f32⟩
  | .hbm, ⟨29, _⟩ => ⟨S512x1024, .f32⟩
  | .hbm, ⟨30, _⟩ => ⟨S_, .f32⟩
  | .hbm, ⟨31, _⟩ => ⟨S512x1024, .f32⟩
  | .hbm, ⟨32, _⟩ => ⟨S512x1024, .f32⟩
  | .hbm, ⟨33, _⟩ => ⟨S_, .f32⟩
  | .hbm, ⟨34, _⟩ => ⟨S512x1024, .f32⟩
  | .hbm, ⟨35, _⟩ => ⟨S512x1024, .f32⟩
  | .hbm, ⟨36, _⟩ => ⟨S512x1024, .f32⟩
  | .hbm, ⟨37, _⟩ => ⟨S_, .f32⟩
  | .hbm, ⟨38, _⟩ => ⟨S512x1024, .f32⟩
  | .hbm, ⟨39, _⟩ => ⟨S512x1024, .f32⟩
  | .hbm, ⟨40, _⟩ => ⟨S512x1024, .f32⟩
  | .hbm, ⟨41, _⟩ => ⟨S_, .f32⟩
  | .hbm, ⟨42, _⟩ => ⟨S512x1024, .f32⟩
  | .hbm, ⟨43, _⟩ => ⟨S512x1024, .f32⟩
  | .hbm, ⟨44, _⟩ => ⟨S512x1024, .f32⟩
  | .hbm, ⟨45, _⟩ => ⟨S_, .f32⟩
  | .hbm, ⟨46, _⟩ => ⟨S512x1024, .f32⟩
  | .hbm, ⟨47, _⟩ => ⟨S512x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_6 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_7 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_8 : Ref sig .tc := ⟨.hbm, 45, rfl⟩
abbrev main_v30 : Ref sig .tc := ⟨.hbm, 46, rfl⟩
abbrev main_v31 : Ref sig .tc := ⟨.hbm, 47, rfl⟩

abbrev nD : Nat := 1
abbrev τ : Topo := Topo.v7x

variable {F : FTy → Type} [FloatOps F]
-- ==== AdamIn.lean ====
abbrev S1 : Shape := ⟨1, ![1]⟩
abbrev S8x1024x386 : Shape := ⟨3, ![8, 1024, 386]⟩
abbrev S1024x386 : Shape := ⟨2, ![1024, 386]⟩
abbrev S1x512x386 : Shape := ⟨3, ![1, 512, 386]⟩
abbrev S8x512x386 : Shape := ⟨3, ![8, 512, 386]⟩
abbrev S512x386 : Shape := ⟨2, ![512, 386]⟩

abbrev nBuf : Space → Nat
  | .hbm => 9
  | .vmem => 18
  | .smem => 1
  | _ => 0

abbrev bufTy : (tb : Table) → Fin (tcTables nBuf tb) → BufTy
  | .hbm, ⟨0, _⟩ => ⟨S8x1024x386, .bf16⟩
  | .hbm, ⟨1, _⟩ => ⟨S8x1024x386, .bf16⟩
  | .hbm, ⟨2, _⟩ => ⟨S1024x386, .f32⟩
  | .hbm, ⟨3, _⟩ => ⟨S1024x386, .f32⟩
  | .hbm, ⟨4, _⟩ => ⟨S1024x386, .f32⟩
  | .hbm, ⟨5, _⟩ => ⟨S1024x386, .f32⟩
  | .hbm, ⟨6, _⟩ => ⟨S1024x386, .f32⟩
  | .hbm, ⟨7, _⟩ => ⟨S1024x386, .f32⟩
  | .hbm, ⟨8, _⟩ => ⟨S1024x386, .f32⟩
  | .local _ .vmem, ⟨0, _⟩ => ⟨S1x512x386, .bf16⟩
  | .local _ .vmem, ⟨1, _⟩ => ⟨S1x512x386, .bf16⟩
  | .local _ .vmem, ⟨2, _⟩ => ⟨S8x512x386, .bf16⟩
  | .local _ .vmem, ⟨3, _⟩ => ⟨S8x512x386, .bf16⟩
  | .local _ .vmem, ⟨4, _⟩ => ⟨S512x386, .f32⟩
  | .local _ .vmem, ⟨5, _⟩ => ⟨S512x386, .f32⟩
  | .local _ .vmem, ⟨6, _⟩ => ⟨S512x386, .f32⟩
  | .local _ .vmem, ⟨7, _⟩ => ⟨S512x386, .f32⟩
  | .local _ .vmem, ⟨8, _⟩ => ⟨S512x386, .f32⟩
  | .local _ .vmem, ⟨9, _⟩ => ⟨S512x386, .f32⟩
  | .local _ .vmem, ⟨10, _⟩ => ⟨S512x386, .f32⟩
  | .local _ .vmem, ⟨11, _⟩ => ⟨S512x386, .f32⟩
  | .local _ .vmem, ⟨12, _⟩ => ⟨S512x386, .f32⟩
  | .local _ .vmem, ⟨13, _⟩ => ⟨S512x386, .f32⟩
  | .local _ .vmem, ⟨14, _⟩ => ⟨S512x386, .f32⟩
  | .local _ .vmem, ⟨15, _⟩ => ⟨S512x386, .f32⟩
  | .local _ .vmem, ⟨16, _⟩ => ⟨S512x386, .f32⟩
  | .local _ .vmem, ⟨17, _⟩ => ⟨S512x386, .f32⟩
  | .local _ .smem, ⟨0, _⟩ => ⟨S1, .i32⟩
  | _, _ => ⟨S8x1024x386, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x512x386 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x386 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x386 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x386 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x386 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x386 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x386 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x386 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x386 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamInRefIdeal.lean ====
abbrev S1 : Shape := ⟨1, ![1]⟩
abbrev S8x1024x386 : Shape := ⟨3, ![8, 1024, 386]⟩
abbrev S1024x386 : Shape := ⟨2, ![1024, 386]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S1, .i32⟩
  | .hbm, ⟨1, _⟩ => ⟨S8x1024x386, .bf16⟩
  | .hbm, ⟨2, _⟩ => ⟨S8x1024x386, .bf16⟩
  | .hbm, ⟨3, _⟩ => ⟨S1024x386, .f32⟩
  | .hbm, ⟨4, _⟩ => ⟨S1024x386, .f32⟩
  | .hbm, ⟨5, _⟩ => ⟨S1024x386, .f32⟩
  | .hbm, ⟨6, _⟩ => ⟨S8x1024x386, .i32⟩
  | .hbm, ⟨7, _⟩ => ⟨S_, .i32⟩
  | .hbm, ⟨8, _⟩ => ⟨S8x1024x386, .i32⟩
  | .hbm, ⟨9, _⟩ => ⟨S8x1024x386, .i1⟩
  | .hbm, ⟨10, _⟩ => ⟨S8x1024x386, .f32⟩
  | .hbm, ⟨11, _⟩ => ⟨S8x1024x386, .f32⟩
  | .hbm, ⟨12, _⟩ => ⟨S8x1024x386, .f32⟩
  | .hbm, ⟨13, _⟩ => ⟨S_, .f32⟩
  | .hbm, ⟨14, _⟩ => ⟨S1024x386, .f32⟩
  | .hbm, ⟨15, _⟩ => ⟨S_, .f32⟩
  | .hbm, ⟨16, _⟩ => ⟨S1024x386, .f32⟩
  | .hbm, ⟨17, _⟩ => ⟨S1024x386, .f32⟩
  | .hbm, ⟨18, _⟩ => ⟨S_, .f32⟩
  | .hbm, ⟨19, _⟩ => ⟨S1024x386, .f32⟩
  | .hbm, ⟨20, _⟩ => ⟨S1024x386, .f32⟩
  | .hbm, ⟨21, _⟩ => ⟨S1024x386, .f32⟩
  | .hbm, ⟨22, _⟩ => ⟨S_, .f32⟩
  | .hbm, ⟨23, _⟩ => ⟨S1024x386, .f32⟩
  | .hbm, ⟨24, _⟩ => ⟨S1024x386, .f32⟩
  | .hbm, ⟨25, _⟩ => ⟨S1024x386, .f32⟩
  | .hbm, ⟨26, _⟩ => ⟨S_, .f32⟩
  | .hbm, ⟨27, _⟩ => ⟨S1024x386, .f32⟩
  | .hbm, ⟨28, _⟩ => ⟨S1024x386, .f32⟩
  | .hbm, ⟨29, _⟩ => ⟨S1024x386, .f32⟩
  | .hbm, ⟨30, _⟩ => ⟨S_, .f32⟩
  | .hbm, ⟨31, _⟩ => ⟨S1024x386, .f32⟩
  | .hbm, ⟨32, _⟩ => ⟨S1024x386, .f32⟩
  | .hbm, ⟨33, _⟩ => ⟨S_, .f32⟩
  | .hbm, ⟨34, _⟩ => ⟨S1024x386, .f32⟩
  | .hbm, ⟨35, _⟩ => ⟨S1024x386, .f32⟩
  | .hbm, ⟨36, _⟩ => ⟨S1024x386, .f32⟩
  | .hbm, ⟨37, _⟩ => ⟨S_, .f32⟩
  | .hbm, ⟨38, _⟩ => ⟨S1024x386, .f32⟩
  | .hbm, ⟨39, _⟩ => ⟨S1024x386, .f32⟩
  | .hbm, ⟨40, _⟩ => ⟨S1024x386, .f32⟩
  | .hbm, ⟨41, _⟩ => ⟨S_, .f32⟩
  | .hbm, ⟨42, _⟩ => ⟨S1024x386, .f32⟩
  | .hbm, ⟨43, _⟩ => ⟨S1024x386, .f32⟩
  | .hbm, ⟨44, _⟩ => ⟨S1024x386, .f32⟩
  | .hbm, ⟨45, _⟩ => ⟨S_, .f32⟩
  | .hbm, ⟨46, _⟩ => ⟨S1024x386, .f32⟩
  | .hbm, ⟨47, _⟩ => ⟨S1024x386, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_6 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_7 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_8 : Ref sig .tc := ⟨.hbm, 45, rfl⟩
abbrev main_v30 : Ref sig .tc := ⟨.hbm, 46, rfl⟩
abbrev main_v31 : Ref sig .tc := ⟨.hbm, 47, rfl⟩

abbrev nD : Nat := 1
abbrev τ : Topo := Topo.v7x

variable {F : FTy → Type} [FloatOps F]
-- ==== Proof.MixerRuns.lean ====
/- What the mixer's backward call shares among its runs: @main up to the call, the windows' blocks, the conditions of
   the body's branches over the grid's points, and the memory references of the staged blocks. -/
module

public import proofs.«01_k».proof.Proof.Gen.MixerIdeal.Launch
public import proofs.«01_k».proof.Proof.Gen.MixerIdeal.Skeleton
public import proofs.«01_k».proof.Proof.Gen.MixerIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.MixerIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl
theorem V_main_arg7 (c : Dev nD) : V m c main_arg7 = m ((c : Thread nD τ).loc main_arg7) := rfl
theorem V_main_arg8 (c : Dev nD) : V m c main_arg8 = m ((c : Thread nD τ).loc main_arg8) := rfl
theorem V_main_arg9 (c : Dev nD) : V m c main_arg9 = m ((c : Thread nD τ).loc main_arg9) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1 is of the clipped KIND (its block does not tile its array `S4096x3200`), but no block the grid
    reaches is cut, so no part of its staging buffer is left unfilled by a fetch. A default for such a part, which
    nothing reads. -/
def dflt0_1 : (cfg0.win 1).block.Idx → Elt F (cfg0.win 1).elt := fun _ => Classical.choice inferInstance
/-- What input window 1's current staging buffer holds when the body runs at `t`: its block read off the array,
    filled over `dflt0_1` (block-typed, where `iblk` is typed at the cut). -/
def X0_1 (c : Dev nD) (t : Fin cfg0.N) : (cfg0.win 1).block.Idx → Elt F (cfg0.win 1).elt :=
  (cfg0.win 1).fill (cfg0.grid.coords t) dflt0_1 (iblk m c 1 t)
/-- At every point the cut's extent is the block's, decided over the grid: no transfer of input window 1 is cut. -/
theorem xsize0_1 : ∀ t : Fin cfg0.N, ∀ a, (cfg0.win 1).xsize (cfg0.grid.coords t) a = (cfg0.win 1).size a := by decide +kernel
/-- Every index of input window 1's block is moved at every point. -/
theorem moved0_1 (t : Fin cfg0.N) (j : (cfg0.win 1).block.Idx) : (cfg0.win 1).moved (cfg0.grid.coords t) j = true :=
  ((cfg0.win 1).moved_iff _ j).mpr fun a => by rw [xsize0_1 t a]; exact (j a).isLt
/-- A fill of input window 1's block covers the whole buffer, whatever it held. -/
theorem fill0_1 (t : Fin cfg0.N) (d d' : (cfg0.win 1).block.Idx → Elt F (cfg0.win 1).elt) (g) :
    (cfg0.win 1).fill (cfg0.grid.coords t) d g = (cfg0.win 1).fill (cfg0.grid.coords t) d' g := by
  funext j; unfold Pipeline.Window.fill; rw [dif_pos (moved0_1 t j), dif_pos (moved0_1 t j)]
/-- Input window 1's current staging buffer holds `X0_1` at every point, fetched there or not, for ANY proof data whose
    array is `V`'s (`hA`) and whose body leaves it in place (`hafter`): Lib/Pipeline/FrameBody.lean
    `Dat.before_in_eq_fetched`, its cut a function of its block index (`hclip` by rewriting the index), the fetch
    filling the whole block (`fill0_1`). -/
theorem before0_1_of {c : Dev nD} (dat : Dat τ (Elt F) Unit ℕ (UR sig nD τ) ℕ cfg0 c) (hA : dat.A 1 = V m c (Pipeline.arrRef spec0 1))
    (hafter : ∀ t, dat.after 1 t = X0_1 m c t) (t : Fin cfg0.N) (d) : dat.before 1 t d = X0_1 m c t :=
  (dat.before_in_eq_fetched 1 rfl (fun _ => rfl)
      (fun t t' h => funext fun a => congrArg (fun n => Pipeline.Clip.of n ((cfg0.win 1).size a) (S4096x3200.size a)) (congrFun h a))
      (fun t => by rw [hafter]; unfold X0_1; rw [Pipeline.Window.cut_fill]; unfold Dat.blockOf iblk; rw [hA]; try rfl) t d).trans
    (by unfold Dat.fetched X0_1; rw [fill0_1 t d dflt0_1]; unfold Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_MixerIdeal`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(Pipeline.RDat.FramePost.arr_in h c 1 rfl).trans ((hA c 1).trans (V_main_arg0 m c)),
      (Pipeline.RDat.FramePost.arr_in h c 2 rfl).trans ((hA c 2).trans (V_main_arg1 m c)),
      (Pipeline.RDat.FramePost.arr_in h c 3 rfl).trans ((hA c 3).trans (V_main_arg2 m c)),
      (Pipeline.RDat.FramePost.arr_in h c 4 rfl).trans ((hA c 4).trans (V_main_arg3 m c)),
      (Pipeline.RDat.FramePost.arr_in h c 5 rfl).trans ((hA c 5).trans (V_main_arg4 m c)),
      (Pipeline.RDat.FramePost.arr_in h c 6 rfl).trans ((hA c 6).trans (V_main_arg5 m c)),
      (Pipeline.RDat.FramePost.arr_in h c 7 rfl).trans ((hA c 7).trans (V_main_arg6 m c)),
      (Pipeline.RDat.FramePost.arr_in h c 8 rfl).trans ((hA c 8).trans (V_main_arg7 m c)),
      (Pipeline.RDat.FramePost.arr_in h c 9 rfl).trans ((hA c 9).trans (V_main_arg8 m c)),
      (Pipeline.RDat.FramePost.arr_in h c 10 rfl).trans ((hA c 10).trans (V_main_arg9 m c))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond0_0 : ∀ t : Fin cfg0.N, cond0_0 (grid0.coords t) ↔ t.val % 32 = 0 :=
  (fun t => by
    have ht : t.val < 32 := Nat.lt_of_lt_of_eq t.isLt N_0
    have e0 : (grid0.coords t 0).val = t.val / 16 % 2 := Pipeline.Grid.coords_val t 0 (by decide) rfl
    have e1 : (grid0.coords t 1).val = t.val / 1 % 16 := Pipeline.Grid.coords_val t 1 (by decide) rfl
    simp only [cond0_0, e0, e1]
    word_cmp
   : ∀ t : Fin grid0.N, cond0_0 (grid0.coords t) ↔ t.val % 32 = 0)

/-- The condition of the body's `scf.if` 1 (`k0_h2`), from the grid coordinates (the skeleton's scalar
    chain substituted). -/
abbrev cond0_1 (i : grid0.Coords) : Prop := (Scalar.cmpi .ne (Scalar.extui (Scalar.cmpi .eq (BitVec.ofNat 32 (i 1).val) 0#32)) 0#32) = 1#1
/-- It holds at the points ≡ 0 (mod 16) — by arithmetic of the point. -/
theorem hcond0_1 : ∀ t : Fin cfg0.N, cond0_1 (grid0.coords t) ↔ t.val % 16 = 0 :=
  (fun t => by
    have ht : t.val < 32 := Nat.lt_of_lt_of_eq t.isLt N_0
    have e0 : (grid0.coords t 0).val = t.val / 16 % 2 := Pipeline.Grid.coords_val t 0 (by decide) rfl
    have e1 : (grid0.coords t 1).val = t.val / 1 % 16 := Pipeline.Grid.coords_val t 1 (by decide) rfl
    simp only [cond0_1, e0, e1]
    word_cmp
   : ∀ t : Fin grid0.N, cond0_1 (grid0.coords t) ↔ t.val % 16 = 0)

/-! ## The kernel body on any staging memrefs: a subtype the run finds -/

/-- Each window's current staging memref at point `t`, spelled as the pipeline passes it (`bodyAt0`), and its wholeness. -/
abbrev ms0_0 (t : Fin cfg0.N) : Memref sig .tc .vmem S128x3200 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x1536 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x1536 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x2x128x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S4x1536 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1536 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S8x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S4x128x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x512 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S128x3200 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S8x1536 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S8x128 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S8x1024 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S4x128x128 .f32 := win0_15.stage (cfg0.slots t 15)
abbrev hs0_15 (t : Fin cfg0.N) : (ms0_15 t).IsWhole := hstage0_15 ((cfg0.slots t 15).cast nbuf0_15)
/-- The scratch operands: whole scoped buffers of the kernel's own, passed beside the windows. -/
abbrev scM0_0 : Memref sig .tc .vmem S16x512 .f32 := Memref.whole cc0_scratch0
abbrev scM0_1 : Memref sig .tc .vmem S8x1536 .f32 := Memref.whole cc0_scratch1
abbrev scM0_2 : Memref sig .tc .vmem S2x128x512 .f32 := Memref.whole cc0_scratch2
abbrev scM0_3 : Memref sig .tc .vmem S128x1024 .f32 := Memref.whole cc0_scratch3
abbrev scM0_4 : Memref sig .tc .vmem S128x1024 .f32 := Memref.whole cc0_scratch4
/-- The scratch `arg20` the kernel carries between points, as a view: what it holds is stated through it. -/
abbrev VS0_2 : View sig .tc .vmem S2x128x512 .f32 := scM0_2.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.MixerIdeal.Gen

end
-- ==== Proof.MixerRunA.lean ====
/- The body of the mixer's backward call at the grid's first point: the whole body runs, each output's block handed back. -/
module

public import proofs.«01_k».proof.Proof.MixerRuns

@[expose] public section

-- membership in a rectangle of production extents (`View.cover_of_tiled`): the elaborator's structural look
-- recurses once per coordinate of the long axes
set_option maxRecDepth 16384

noncomputable section

namespace Cert.MixerIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1376000 in
/-- What the body's stores leave in each output's staging memref, as pieces (last first) IN CASE A (`scf.if` 0 taken, `scf.if` 1 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (11, 12, 13, 14, 15) at anything, handed back at some contents nothing names. -/
noncomputable def kernelRun0_A (c : Dev nD) (i : grid0.Coords) (arg2 : Memref sig .tc .vmem S128x3200 .f32) (harg2 : arg2.IsWhole) (arg3 : Memref sig .tc .vmem S16x512 .f32) (harg3 : arg3.IsWhole) (arg4 : Memref sig .tc .vmem S128x1536 .f32) (harg4 : arg4.IsWhole) (arg5 : Memref sig .tc .vmem S128x1536 .bf16) (harg5 : arg5.IsWhole) (arg6 : Memref sig .tc .vmem S1x1x2x128x512 .f32) (harg6 : arg6.IsWhole) (arg7 : Memref sig .tc .vmem S4x1536 .f32) (harg7 : arg7.IsWhole) (arg8 : Memref sig .tc .vmem S1x1536 .f32) (harg8 : arg8.IsWhole) (arg9 : Memref sig .tc .vmem S8x128 .f32) (harg9 : arg9.IsWhole) (arg10 : Memref sig .tc .vmem S1x1024 .f32) (harg10 : arg10.IsWhole) (arg11 : Memref sig .tc .vmem S4x128x128 .f32) (harg11 : arg11.IsWhole) (arg12 : Memref sig .tc .vmem S1x512 .f32) (harg12 : arg12.IsWhole) (arg13 : Memref sig .tc .vmem S128x3200 .bf16) (harg13 : arg13.IsWhole) (arg14 : Memref sig .tc .vmem S8x1536 .f32) (harg14 : arg14.IsWhole) (arg15 : Memref sig .tc .vmem S8x128 .f32) (harg15 : arg15.IsWhole) (arg16 : Memref sig .tc .vmem S8x1024 .f32) (harg16 : arg16.IsWhole) (arg17 : Memref sig .tc .vmem S4x128x128 .f32) (harg17 : arg17.IsWhole) (arg18 : Memref sig .tc .vmem S16x512 .f32) (harg18 : arg18.IsWhole) (arg19 : Memref sig .tc .vmem S8x1536 .f32) (harg19 : arg19.IsWhole) (arg20 : Memref sig .tc .vmem S2x128x512 .f32) (harg20 : arg20.IsWhole) (arg21 : Memref sig .tc .vmem S128x1024 .f32) (harg21 : arg21.IsWhole) (arg22 : Memref sig .tc .vmem S128x1024 .f32) (harg22 : arg22.IsWhole) (hc0 : cond0_0 i) (hc1 : cond0_1 i)
    (x0 : Vec F S128x3200 .f32) (x1 : Vec F S16x512 .f32) (x2 : Vec F S128x1536 .f32) (x3 : Vec F S128x1536 .bf16) (x4 : Vec F S1x1x2x128x512 .f32) (x5 : Vec F S4x1536 .f32) (x6 : Vec F S1x1536 .f32) (x7 : Vec F S8x128 .f32) (x8 : Vec F S1x1024 .f32) (x9 : Vec F S4x128x128 .f32) (x10 : Vec F S1x512 .f32) :
    Σ' (LS2 : List (View.Piece (Elt F) S2x128x512 .f32)), { LT3 : List (View.Piece (Elt F) S128x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ f, arg20.view.loc (c : Thread nD τ) ↦[arg20.view.set]{fullShare} arg20.view.writes (Elt F) f LS2) ∗ (∃ f, arg21.view.loc (c : Thread nD τ) ↦[arg21.view.set]{fullShare} arg21.view.writes (Elt F) f LT3) ∗ (∃ d, owns (c : Thread nD τ) arg22 fullShare d)) -∗ K ⟨⟩))
          ⊢ wp frame (wpE (defs₀ (F := F)) Variants.none c none) E (cc0_mixer_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, fun E K => ?run⟩
  case run =>
    simp only [cc0_mixer_bwd_eq_skeleton]; unfold cc0_mixer_bwd_skel
    simp only [k0_part35_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [HS0]
    · iexists _, _; isplitr; swap; · iexact HS0
      ipureintro; rfl
    isplitl [HS1]
    · iexists _, _; isplitr; swap; · iexact HS1
      ipureintro; rfl
    isplitl [HS2]; · iexists _; iexact HS2
    isplitl [HS3]; · iexists _; iexact HS3
    iexists _, _; isplitr; swap; · iexact HS4
    ipureintro; rfl

end Cert.MixerIdeal.Gen

end
-- ==== Proof.MixerRunB.lean ====
/- The body of the mixer's backward call at a point that is not the first of its sequence: the whole body runs. -/
module

public import proofs.«01_k».proof.Proof.MixerRunA

@[expose] public section

-- membership in a rectangle of production extents (`View.cover_of_tiled`): the elaborator's structural look
-- recurses once per coordinate of the long axes
set_option maxRecDepth 16384

noncomputable section

namespace Cert.MixerIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1308000 in
/-- What the body's stores leave in each output's staging memref, as pieces (last first) IN CASE B (`scf.if` 0 not taken, `scf.if` 1 not taken: points 1, 2, … 31: 30 of 32), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (11, 12, 13, 14, 15) at anything, handed back at some contents nothing names. -/
noncomputable def kernelRun0_B (c : Dev nD) (i : grid0.Coords) (arg2 : Memref sig .tc .vmem S128x3200 .f32) (harg2 : arg2.IsWhole) (arg3 : Memref sig .tc .vmem S16x512 .f32) (harg3 : arg3.IsWhole) (arg4 : Memref sig .tc .vmem S128x1536 .f32) (harg4 : arg4.IsWhole) (arg5 : Memref sig .tc .vmem S128x1536 .bf16) (harg5 : arg5.IsWhole) (arg6 : Memref sig .tc .vmem S1x1x2x128x512 .f32) (harg6 : arg6.IsWhole) (arg7 : Memref sig .tc .vmem S4x1536 .f32) (harg7 : arg7.IsWhole) (arg8 : Memref sig .tc .vmem S1x1536 .f32) (harg8 : arg8.IsWhole) (arg9 : Memref sig .tc .vmem S8x128 .f32) (harg9 : arg9.IsWhole) (arg10 : Memref sig .tc .vmem S1x1024 .f32) (harg10 : arg10.IsWhole) (arg11 : Memref sig .tc .vmem S4x128x128 .f32) (harg11 : arg11.IsWhole) (arg12 : Memref sig .tc .vmem S1x512 .f32) (harg12 : arg12.IsWhole) (arg13 : Memref sig .tc .vmem S128x3200 .bf16) (harg13 : arg13.IsWhole) (arg14 : Memref sig .tc .vmem S8x1536 .f32) (harg14 : arg14.IsWhole) (arg15 : Memref sig .tc .vmem S8x128 .f32) (harg15 : arg15.IsWhole) (arg16 : Memref sig .tc .vmem S8x1024 .f32) (harg16 : arg16.IsWhole) (arg17 : Memref sig .tc .vmem S4x128x128 .f32) (harg17 : arg17.IsWhole) (arg18 : Memref sig .tc .vmem S16x512 .f32) (harg18 : arg18.IsWhole) (arg19 : Memref sig .tc .vmem S8x1536 .f32) (harg19 : arg19.IsWhole) (arg20 : Memref sig .tc .vmem S2x128x512 .f32) (harg20 : arg20.IsWhole) (arg21 : Memref sig .tc .vmem S128x1024 .f32) (harg21 : arg21.IsWhole) (arg22 : Memref sig .tc .vmem S128x1024 .f32) (harg22 : arg22.IsWhole) (hc0 : ¬cond0_0 i) (hc1 : ¬cond0_1 i)
    (x0 : Vec F S128x3200 .f32) (x1 : Vec F S16x512 .f32) (x2 : Vec F S128x1536 .f32) (x3 : Vec F S128x1536 .bf16) (x4 : Vec F S1x1x2x128x512 .f32) (x5 : Vec F S4x1536 .f32) (x6 : Vec F S1x1536 .f32) (x7 : Vec F S8x128 .f32) (x8 : Vec F S1x1024 .f32) (x9 : Vec F S4x128x128 .f32) (x10 : Vec F S1x512 .f32) (xs2 : Vec F S2x128x512 .f32) :
    Σ' (LS2 : List (View.Piece (Elt F) S2x128x512 .f32)), { LT3 : List (View.Piece (Elt F) S128x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ owns (c : Thread nD τ) arg20 fullShare xs2 ∗ (∃ d, owns (c : Thread nD τ) arg21 fullShare d) ∗ (∃ d, owns (c : Thread nD τ) arg22 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ f, arg20.view.loc (c : Thread nD τ) ↦[arg20.view.set]{fullShare} arg20.view.writes (Elt F) f LS2) ∗ (∃ f, arg21.view.loc (c : Thread nD τ) ↦[arg21.view.set]{fullShare} arg21.view.writes (Elt F) f LT3) ∗ (∃ d, owns (c : Thread nD τ) arg22 fullShare d)) -∗ K ⟨⟩))
          ⊢ wp frame (wpE (defs₀ (F := F)) Variants.none c none) E (cc0_mixer_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, fun E K => ?run⟩
  case run =>
    simp only [cc0_mixer_bwd_eq_skeleton]; unfold cc0_mixer_bwd_skel
    simp only [k0_part35_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%ds0, %fs0, -, HS0⟩, ⟨%ds1, %fs1, -, HS1⟩, ⟨%fs2, %hfs2, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg20.eq_unread hfs2
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [HS0]
    · iexists _, _; isplitr; swap; · iexact HS0
      ipureintro; rfl
    isplitl [HS1]
    · iexists _, _; isplitr; swap; · iexact HS1
      ipureintro; rfl
    isplitl [HS2]; · iexists _; iexact HS2
    isplitl [HS3]; · iexists _; iexact HS3
    iexists _, _; isplitr; swap; · iexact HS4
    ipureintro; rfl

end Cert.MixerIdeal.Gen

end
-- ==== Proof.MixerRunC.lean ====
/- The body of the mixer's backward call at a later sequence's first point: the whole body runs. -/
module

public import proofs.«01_k».proof.Proof.MixerRunB

@[expose] public section

-- membership in a rectangle of production extents (`View.cover_of_tiled`): the elaborator's structural look
-- recurses once per coordinate of the long axes
set_option maxRecDepth 16384

noncomputable section

namespace Cert.MixerIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1344000 in
/-- What the body's stores leave in each output's staging memref, as pieces (last first) IN CASE C (`scf.if` 0 not taken, `scf.if` 1 taken: points 16), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (11, 12, 13, 14, 15) at anything, handed back at some contents nothing names. -/
noncomputable def kernelRun0_C (c : Dev nD) (i : grid0.Coords) (arg2 : Memref sig .tc .vmem S128x3200 .f32) (harg2 : arg2.IsWhole) (arg3 : Memref sig .tc .vmem S16x512 .f32) (harg3 : arg3.IsWhole) (arg4 : Memref sig .tc .vmem S128x1536 .f32) (harg4 : arg4.IsWhole) (arg5 : Memref sig .tc .vmem S128x1536 .bf16) (harg5 : arg5.IsWhole) (arg6 : Memref sig .tc .vmem S1x1x2x128x512 .f32) (harg6 : arg6.IsWhole) (arg7 : Memref sig .tc .vmem S4x1536 .f32) (harg7 : arg7.IsWhole) (arg8 : Memref sig .tc .vmem S1x1536 .f32) (harg8 : arg8.IsWhole) (arg9 : Memref sig .tc .vmem S8x128 .f32) (harg9 : arg9.IsWhole) (arg10 : Memref sig .tc .vmem S1x1024 .f32) (harg10 : arg10.IsWhole) (arg11 : Memref sig .tc .vmem S4x128x128 .f32) (harg11 : arg11.IsWhole) (arg12 : Memref sig .tc .vmem S1x512 .f32) (harg12 : arg12.IsWhole) (arg13 : Memref sig .tc .vmem S128x3200 .bf16) (harg13 : arg13.IsWhole) (arg14 : Memref sig .tc .vmem S8x1536 .f32) (harg14 : arg14.IsWhole) (arg15 : Memref sig .tc .vmem S8x128 .f32) (harg15 : arg15.IsWhole) (arg16 : Memref sig .tc .vmem S8x1024 .f32) (harg16 : arg16.IsWhole) (arg17 : Memref sig .tc .vmem S4x128x128 .f32) (harg17 : arg17.IsWhole) (arg18 : Memref sig .tc .vmem S16x512 .f32) (harg18 : arg18.IsWhole) (arg19 : Memref sig .tc .vmem S8x1536 .f32) (harg19 : arg19.IsWhole) (arg20 : Memref sig .tc .vmem S2x128x512 .f32) (harg20 : arg20.IsWhole) (arg21 : Memref sig .tc .vmem S128x1024 .f32) (harg21 : arg21.IsWhole) (arg22 : Memref sig .tc .vmem S128x1024 .f32) (harg22 : arg22.IsWhole) (hc0 : ¬cond0_0 i) (hc1 : cond0_1 i)
    (x0 : Vec F S128x3200 .f32) (x1 : Vec F S16x512 .f32) (x2 : Vec F S128x1536 .f32) (x3 : Vec F S128x1536 .bf16) (x4 : Vec F S1x1x2x128x512 .f32) (x5 : Vec F S4x1536 .f32) (x6 : Vec F S1x1536 .f32) (x7 : Vec F S8x128 .f32) (x8 : Vec F S1x1024 .f32) (x9 : Vec F S4x128x128 .f32) (x10 : Vec F S1x512 .f32) :
    Σ' (LS2 : List (View.Piece (Elt F) S2x128x512 .f32)), { LT3 : List (View.Piece (Elt F) S128x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ f, arg20.view.loc (c : Thread nD τ) ↦[arg20.view.set]{fullShare} arg20.view.writes (Elt F) f LS2) ∗ (∃ f, arg21.view.loc (c : Thread nD τ) ↦[arg21.view.set]{fullShare} arg21.view.writes (Elt F) f LT3) ∗ (∃ d, owns (c : Thread nD τ) arg22 fullShare d)) -∗ K ⟨⟩))
          ⊢ wp frame (wpE (defs₀ (F := F)) Variants.none c none) E (cc0_mixer_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, fun E K => ?run⟩
  case run =>
    simp only [cc0_mixer_bwd_eq_skeleton]; unfold cc0_mixer_bwd_skel
    simp only [k0_part35_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [HS0]
    · iexists _, _; isplitr; swap; · iexact HS0
      ipureintro; rfl
    isplitl [HS1]
    · iexists _, _; isplitr; swap; · iexact HS1
      ipureintro; rfl
    isplitl [HS2]; · iexists _; iexact HS2
    isplitl [HS3]; · iexists _; iexact HS3
    iexists _, _; isplitr; swap; · iexact HS4
    ipureintro; rfl

end Cert.MixerIdeal.Gen

end
-- ==== Proof.MixerFrame.lean ====
/- The frame of the mixer's backward call, for any float values: what the carried scratch holds point by point, the body's
   obligation at each point, the run of the program, and the frame. Nothing is stated of the outputs' contents. -/
module

public import proofs.«01_k».proof.Proof.MixerRunC
public import Idealize.ShloMosaic.Lib.Claim

@[expose] public section

-- membership in a rectangle of production extents (`View.cover_of_tiled`): the elaborator's structural look
-- recurses once per coordinate of the long axes
set_option maxRecDepth 16384

noncomputable section

namespace Cert.MixerIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for scratch `arg20`, which the kernel carries between points, cover it: one of them a store of the WHOLE buffer (Lib/Ring.lean `sl_whole_mem`). -/
theorem scover0_A_2 (c : Dev nD) (i : grid0.Coords) (arg2 : Memref sig .tc .vmem S128x3200 .f32) (harg2 : arg2.IsWhole) (arg3 : Memref sig .tc .vmem S16x512 .f32) (harg3 : arg3.IsWhole) (arg4 : Memref sig .tc .vmem S128x1536 .f32) (harg4 : arg4.IsWhole) (arg5 : Memref sig .tc .vmem S128x1536 .bf16) (harg5 : arg5.IsWhole) (arg6 : Memref sig .tc .vmem S1x1x2x128x512 .f32) (harg6 : arg6.IsWhole) (arg7 : Memref sig .tc .vmem S4x1536 .f32) (harg7 : arg7.IsWhole) (arg8 : Memref sig .tc .vmem S1x1536 .f32) (harg8 : arg8.IsWhole) (arg9 : Memref sig .tc .vmem S8x128 .f32) (harg9 : arg9.IsWhole) (arg10 : Memref sig .tc .vmem S1x1024 .f32) (harg10 : arg10.IsWhole) (arg11 : Memref sig .tc .vmem S4x128x128 .f32) (harg11 : arg11.IsWhole) (arg12 : Memref sig .tc .vmem S1x512 .f32) (harg12 : arg12.IsWhole) (arg13 : Memref sig .tc .vmem S128x3200 .bf16) (harg13 : arg13.IsWhole) (arg14 : Memref sig .tc .vmem S8x1536 .f32) (harg14 : arg14.IsWhole) (arg15 : Memref sig .tc .vmem S8x128 .f32) (harg15 : arg15.IsWhole) (arg16 : Memref sig .tc .vmem S8x1024 .f32) (harg16 : arg16.IsWhole) (arg17 : Memref sig .tc .vmem S4x128x128 .f32) (harg17 : arg17.IsWhole) (arg18 : Memref sig .tc .vmem S16x512 .f32) (harg18 : arg18.IsWhole) (arg19 : Memref sig .tc .vmem S8x1536 .f32) (harg19 : arg19.IsWhole) (arg20 : Memref sig .tc .vmem S2x128x512 .f32) (harg20 : arg20.IsWhole) (arg21 : Memref sig .tc .vmem S128x1024 .f32) (harg21 : arg21.IsWhole) (arg22 : Memref sig .tc .vmem S128x1024 .f32) (harg22 : arg22.IsWhole) (hc0 : cond0_0 i) (hc1 : cond0_1 i)
    (x0 : Vec F S128x3200 .f32) (x1 : Vec F S16x512 .f32) (x2 : Vec F S128x1536 .f32) (x3 : Vec F S128x1536 .bf16) (x4 : Vec F S1x1x2x128x512 .f32) (x5 : Vec F S4x1536 .f32) (x6 : Vec F S1x1536 .f32) (x7 : Vec F S8x128 .f32) (x8 : Vec F S1x1024 .f32) (x9 : Vec F S4x128x128 .f32) (x10 : Vec F S1x512 .f32) (y : S2x128x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10).1, y ∈ pc.1.set :=
  View.cover_of_wholeMem (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10).1 (by sl_whole_mem) y

/-- What case A leaves in scratch `arg20`: its pieces read back over junk. -/
def sout0_A_2 (c : Dev nD) (i : grid0.Coords) (arg2 : Memref sig .tc .vmem S128x3200 .f32) (harg2 : arg2.IsWhole) (arg3 : Memref sig .tc .vmem S16x512 .f32) (harg3 : arg3.IsWhole) (arg4 : Memref sig .tc .vmem S128x1536 .f32) (harg4 : arg4.IsWhole) (arg5 : Memref sig .tc .vmem S128x1536 .bf16) (harg5 : arg5.IsWhole) (arg6 : Memref sig .tc .vmem S1x1x2x128x512 .f32) (harg6 : arg6.IsWhole) (arg7 : Memref sig .tc .vmem S4x1536 .f32) (harg7 : arg7.IsWhole) (arg8 : Memref sig .tc .vmem S1x1536 .f32) (harg8 : arg8.IsWhole) (arg9 : Memref sig .tc .vmem S8x128 .f32) (harg9 : arg9.IsWhole) (arg10 : Memref sig .tc .vmem S1x1024 .f32) (harg10 : arg10.IsWhole) (arg11 : Memref sig .tc .vmem S4x128x128 .f32) (harg11 : arg11.IsWhole) (arg12 : Memref sig .tc .vmem S1x512 .f32) (harg12 : arg12.IsWhole) (arg13 : Memref sig .tc .vmem S128x3200 .bf16) (harg13 : arg13.IsWhole) (arg14 : Memref sig .tc .vmem S8x1536 .f32) (harg14 : arg14.IsWhole) (arg15 : Memref sig .tc .vmem S8x128 .f32) (harg15 : arg15.IsWhole) (arg16 : Memref sig .tc .vmem S8x1024 .f32) (harg16 : arg16.IsWhole) (arg17 : Memref sig .tc .vmem S4x128x128 .f32) (harg17 : arg17.IsWhole) (arg18 : Memref sig .tc .vmem S16x512 .f32) (harg18 : arg18.IsWhole) (arg19 : Memref sig .tc .vmem S8x1536 .f32) (harg19 : arg19.IsWhole) (arg20 : Memref sig .tc .vmem S2x128x512 .f32) (harg20 : arg20.IsWhole) (arg21 : Memref sig .tc .vmem S128x1024 .f32) (harg21 : arg21.IsWhole) (arg22 : Memref sig .tc .vmem S128x1024 .f32) (harg22 : arg22.IsWhole) (hc0 : cond0_0 i) (hc1 : cond0_1 i)
    (x0 : Vec F S128x3200 .f32) (x1 : Vec F S16x512 .f32) (x2 : Vec F S128x1536 .f32) (x3 : Vec F S128x1536 .bf16) (x4 : Vec F S1x1x2x128x512 .f32) (x5 : Vec F S4x1536 .f32) (x6 : Vec F S1x1536 .f32) (x7 : Vec F S8x128 .f32) (x8 : Vec F S1x1024 .f32) (x9 : Vec F S4x128x128 .f32) (x10 : Vec F S1x512 .f32) : Vec F S2x128x512 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10).1)

/-- Case B's pieces for scratch `arg20`, which the kernel carries between points, cover it: 2 pieces of `S1x128x512` tiling it (Lib/Ring.lean `Piece.tiledL`). -/
theorem scover0_B_2 (c : Dev nD) (i : grid0.Coords) (arg2 : Memref sig .tc .vmem S128x3200 .f32) (harg2 : arg2.IsWhole) (arg3 : Memref sig .tc .vmem S16x512 .f32) (harg3 : arg3.IsWhole) (arg4 : Memref sig .tc .vmem S128x1536 .f32) (harg4 : arg4.IsWhole) (arg5 : Memref sig .tc .vmem S128x1536 .bf16) (harg5 : arg5.IsWhole) (arg6 : Memref sig .tc .vmem S1x1x2x128x512 .f32) (harg6 : arg6.IsWhole) (arg7 : Memref sig .tc .vmem S4x1536 .f32) (harg7 : arg7.IsWhole) (arg8 : Memref sig .tc .vmem S1x1536 .f32) (harg8 : arg8.IsWhole) (arg9 : Memref sig .tc .vmem S8x128 .f32) (harg9 : arg9.IsWhole) (arg10 : Memref sig .tc .vmem S1x1024 .f32) (harg10 : arg10.IsWhole) (arg11 : Memref sig .tc .vmem S4x128x128 .f32) (harg11 : arg11.IsWhole) (arg12 : Memref sig .tc .vmem S1x512 .f32) (harg12 : arg12.IsWhole) (arg13 : Memref sig .tc .vmem S128x3200 .bf16) (harg13 : arg13.IsWhole) (arg14 : Memref sig .tc .vmem S8x1536 .f32) (harg14 : arg14.IsWhole) (arg15 : Memref sig .tc .vmem S8x128 .f32) (harg15 : arg15.IsWhole) (arg16 : Memref sig .tc .vmem S8x1024 .f32) (harg16 : arg16.IsWhole) (arg17 : Memref sig .tc .vmem S4x128x128 .f32) (harg17 : arg17.IsWhole) (arg18 : Memref sig .tc .vmem S16x512 .f32) (harg18 : arg18.IsWhole) (arg19 : Memref sig .tc .vmem S8x1536 .f32) (harg19 : arg19.IsWhole) (arg20 : Memref sig .tc .vmem S2x128x512 .f32) (harg20 : arg20.IsWhole) (arg21 : Memref sig .tc .vmem S128x1024 .f32) (harg21 : arg21.IsWhole) (arg22 : Memref sig .tc .vmem S128x1024 .f32) (harg22 : arg22.IsWhole) (hc0 : ¬cond0_0 i) (hc1 : ¬cond0_1 i)
    (x0 : Vec F S128x3200 .f32) (x1 : Vec F S16x512 .f32) (x2 : Vec F S128x1536 .f32) (x3 : Vec F S128x1536 .bf16) (x4 : Vec F S1x1x2x128x512 .f32) (x5 : Vec F S4x1536 .f32) (x6 : Vec F S1x1536 .f32) (x7 : Vec F S8x128 .f32) (x8 : Vec F S1x1024 .f32) (x9 : Vec F S4x128x128 .f32) (x10 : Vec F S1x512 .f32) (xs2 : Vec F S2x128x512 .f32) (y : S2x128x512.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 xs2).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 xs2).1 S1x128x512.size (by sl_kernel_rfl) y

/-- What case B leaves in scratch `arg20`: its pieces read back over junk. -/
def sout0_B_2 (c : Dev nD) (i : grid0.Coords) (arg2 : Memref sig .tc .vmem S128x3200 .f32) (harg2 : arg2.IsWhole) (arg3 : Memref sig .tc .vmem S16x512 .f32) (harg3 : arg3.IsWhole) (arg4 : Memref sig .tc .vmem S128x1536 .f32) (harg4 : arg4.IsWhole) (arg5 : Memref sig .tc .vmem S128x1536 .bf16) (harg5 : arg5.IsWhole) (arg6 : Memref sig .tc .vmem S1x1x2x128x512 .f32) (harg6 : arg6.IsWhole) (arg7 : Memref sig .tc .vmem S4x1536 .f32) (harg7 : arg7.IsWhole) (arg8 : Memref sig .tc .vmem S1x1536 .f32) (harg8 : arg8.IsWhole) (arg9 : Memref sig .tc .vmem S8x128 .f32) (harg9 : arg9.IsWhole) (arg10 : Memref sig .tc .vmem S1x1024 .f32) (harg10 : arg10.IsWhole) (arg11 : Memref sig .tc .vmem S4x128x128 .f32) (harg11 : arg11.IsWhole) (arg12 : Memref sig .tc .vmem S1x512 .f32) (harg12 : arg12.IsWhole) (arg13 : Memref sig .tc .vmem S128x3200 .bf16) (harg13 : arg13.IsWhole) (arg14 : Memref sig .tc .vmem S8x1536 .f32) (harg14 : arg14.IsWhole) (arg15 : Memref sig .tc .vmem S8x128 .f32) (harg15 : arg15.IsWhole) (arg16 : Memref sig .tc .vmem S8x1024 .f32) (harg16 : arg16.IsWhole) (arg17 : Memref sig .tc .vmem S4x128x128 .f32) (harg17 : arg17.IsWhole) (arg18 : Memref sig .tc .vmem S16x512 .f32) (harg18 : arg18.IsWhole) (arg19 : Memref sig .tc .vmem S8x1536 .f32) (harg19 : arg19.IsWhole) (arg20 : Memref sig .tc .vmem S2x128x512 .f32) (harg20 : arg20.IsWhole) (arg21 : Memref sig .tc .vmem S128x1024 .f32) (harg21 : arg21.IsWhole) (arg22 : Memref sig .tc .vmem S128x1024 .f32) (harg22 : arg22.IsWhole) (hc0 : ¬cond0_0 i) (hc1 : ¬cond0_1 i)
    (x0 : Vec F S128x3200 .f32) (x1 : Vec F S16x512 .f32) (x2 : Vec F S128x1536 .f32) (x3 : Vec F S128x1536 .bf16) (x4 : Vec F S1x1x2x128x512 .f32) (x5 : Vec F S4x1536 .f32) (x6 : Vec F S1x1536 .f32) (x7 : Vec F S8x128 .f32) (x8 : Vec F S1x1024 .f32) (x9 : Vec F S4x128x128 .f32) (x10 : Vec F S1x512 .f32) (xs2 : Vec F S2x128x512 .f32) : Vec F S2x128x512 .f32 :=
  VS0_2.read (Elt F) (VS0_2.writes (Elt F) VS0_2.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 xs2).1)

/-- Case C's pieces for scratch `arg20`, which the kernel carries between points, cover it: one of them a store of the WHOLE buffer (Lib/Ring.lean `sl_whole_mem`). -/
theorem scover0_C_2 (c : Dev nD) (i : grid0.Coords) (arg2 : Memref sig .tc .vmem S128x3200 .f32) (harg2 : arg2.IsWhole) (arg3 : Memref sig .tc .vmem S16x512 .f32) (harg3 : arg3.IsWhole) (arg4 : Memref sig .tc .vmem S128x1536 .f32) (harg4 : arg4.IsWhole) (arg5 : Memref sig .tc .vmem S128x1536 .bf16) (harg5 : arg5.IsWhole) (arg6 : Memref sig .tc .vmem S1x1x2x128x512 .f32) (harg6 : arg6.IsWhole) (arg7 : Memref sig .tc .vmem S4x1536 .f32) (harg7 : arg7.IsWhole) (arg8 : Memref sig .tc .vmem S1x1536 .f32) (harg8 : arg8.IsWhole) (arg9 : Memref sig .tc .vmem S8x128 .f32) (harg9 : arg9.IsWhole) (arg10 : Memref sig .tc .vmem S1x1024 .f32) (harg10 : arg10.IsWhole) (arg11 : Memref sig .tc .vmem S4x128x128 .f32) (harg11 : arg11.IsWhole) (arg12 : Memref sig .tc .vmem S1x512 .f32) (harg12 : arg12.IsWhole) (arg13 : Memref sig .tc .vmem S128x3200 .bf16) (harg13 : arg13.IsWhole) (arg14 : Memref sig .tc .vmem S8x1536 .f32) (harg14 : arg14.IsWhole) (arg15 : Memref sig .tc .vmem S8x128 .f32) (harg15 : arg15.IsWhole) (arg16 : Memref sig .tc .vmem S8x1024 .f32) (harg16 : arg16.IsWhole) (arg17 : Memref sig .tc .vmem S4x128x128 .f32) (harg17 : arg17.IsWhole) (arg18 : Memref sig .tc .vmem S16x512 .f32) (harg18 : arg18.IsWhole) (arg19 : Memref sig .tc .vmem S8x1536 .f32) (harg19 : arg19.IsWhole) (arg20 : Memref sig .tc .vmem S2x128x512 .f32) (harg20 : arg20.IsWhole) (arg21 : Memref sig .tc .vmem S128x1024 .f32) (harg21 : arg21.IsWhole) (arg22 : Memref sig .tc .vmem S128x1024 .f32) (harg22 : arg22.IsWhole) (hc0 : ¬cond0_0 i) (hc1 : cond0_1 i)
    (x0 : Vec F S128x3200 .f32) (x1 : Vec F S16x512 .f32) (x2 : Vec F S128x1536 .f32) (x3 : Vec F S128x1536 .bf16) (x4 : Vec F S1x1x2x128x512 .f32) (x5 : Vec F S4x1536 .f32) (x6 : Vec F S1x1536 .f32) (x7 : Vec F S8x128 .f32) (x8 : Vec F S1x1024 .f32) (x9 : Vec F S4x128x128 .f32) (x10 : Vec F S1x512 .f32) (y : S2x128x512.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10).1, y ∈ pc.1.set :=
  View.cover_of_wholeMem (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10).1 (by sl_whole_mem) y

/-- What case C leaves in scratch `arg20`: its pieces read back over junk. -/
def sout0_C_2 (c : Dev nD) (i : grid0.Coords) (arg2 : Memref sig .tc .vmem S128x3200 .f32) (harg2 : arg2.IsWhole) (arg3 : Memref sig .tc .vmem S16x512 .f32) (harg3 : arg3.IsWhole) (arg4 : Memref sig .tc .vmem S128x1536 .f32) (harg4 : arg4.IsWhole) (arg5 : Memref sig .tc .vmem S128x1536 .bf16) (harg5 : arg5.IsWhole) (arg6 : Memref sig .tc .vmem S1x1x2x128x512 .f32) (harg6 : arg6.IsWhole) (arg7 : Memref sig .tc .vmem S4x1536 .f32) (harg7 : arg7.IsWhole) (arg8 : Memref sig .tc .vmem S1x1536 .f32) (harg8 : arg8.IsWhole) (arg9 : Memref sig .tc .vmem S8x128 .f32) (harg9 : arg9.IsWhole) (arg10 : Memref sig .tc .vmem S1x1024 .f32) (harg10 : arg10.IsWhole) (arg11 : Memref sig .tc .vmem S4x128x128 .f32) (harg11 : arg11.IsWhole) (arg12 : Memref sig .tc .vmem S1x512 .f32) (harg12 : arg12.IsWhole) (arg13 : Memref sig .tc .vmem S128x3200 .bf16) (harg13 : arg13.IsWhole) (arg14 : Memref sig .tc .vmem S8x1536 .f32) (harg14 : arg14.IsWhole) (arg15 : Memref sig .tc .vmem S8x128 .f32) (harg15 : arg15.IsWhole) (arg16 : Memref sig .tc .vmem S8x1024 .f32) (harg16 : arg16.IsWhole) (arg17 : Memref sig .tc .vmem S4x128x128 .f32) (harg17 : arg17.IsWhole) (arg18 : Memref sig .tc .vmem S16x512 .f32) (harg18 : arg18.IsWhole) (arg19 : Memref sig .tc .vmem S8x1536 .f32) (harg19 : arg19.IsWhole) (arg20 : Memref sig .tc .vmem S2x128x512 .f32) (harg20 : arg20.IsWhole) (arg21 : Memref sig .tc .vmem S128x1024 .f32) (harg21 : arg21.IsWhole) (arg22 : Memref sig .tc .vmem S128x1024 .f32) (harg22 : arg22.IsWhole) (hc0 : ¬cond0_0 i) (hc1 : cond0_1 i)
    (x0 : Vec F S128x3200 .f32) (x1 : Vec F S16x512 .f32) (x2 : Vec F S128x1536 .f32) (x3 : Vec F S128x1536 .bf16) (x4 : Vec F S1x1x2x128x512 .f32) (x5 : Vec F S4x1536 .f32) (x6 : Vec F S1x1536 .f32) (x7 : Vec F S8x128 .f32) (x8 : Vec F S1x1024 .f32) (x9 : Vec F S4x128x128 .f32) (x10 : Vec F S1x512 .f32) : Vec F S2x128x512 .f32 :=
  VS0_2.read (Elt F) (VS0_2.writes (Elt F) VS0_2.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10).1)

/-! ## What the outputs hold after each point -/

/-- THE ACCUMULATION. What the outputs' staging buffers and the scratch the kernel carries between points hold after the body at position `n`:
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S2x128x512 .f32
  | 0, hn => sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) ((hcond0_1 ⟨0, hn⟩).mpr (Nat.zero_mod _)) (iblk m c 0 ⟨0, hn⟩) (X0_1 m c ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩)
  | n + 1, hn =>
    if h0 : (n + 1) % 32 = 0 then
      if h1 : (n + 1) % 16 = 0 then
        sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) ((hcond0_1 ⟨n + 1, hn⟩).mpr h1) (iblk m c 0 ⟨n + 1, hn⟩) (X0_1 m c ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩)
      else
        False.elim (by have hN : n + 1 < 32 := lt_of_lt_of_eq hn (show cfg0.N = 32 from N_0); omega)
    else
      if h1 : (n + 1) % 16 = 0 then
        sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk m c 0 ⟨n + 1, hn⟩) (X0_1 m c ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩)
      else
        sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) (iblk m c 0 ⟨n + 1, hn⟩) (X0_1 m c ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn))

/-- `outsAt0` at a point of case A: that case's contents. -/
theorem outsAt0_A (c : Dev nD) (t : Fin cfg0.N) (h0 : t.val % 32 = 0) (h1 : t.val % 16 = 0) :
    outsAt0 m c t.val t.isLt = sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) ((hcond0_0 t).mpr h0) ((hcond0_1 t).mpr h1) (iblk m c 0 t) (X0_1 m c t) (iblk m c 2 t) (iblk m c 3 t) (iblk m c 4 t) (iblk m c 5 t) (iblk m c 6 t) (iblk m c 7 t) (iblk m c 8 t) (iblk m c 9 t) (iblk m c 10 t) := by
  obtain ⟨n, hn⟩ := t
  cases n with
  | zero => exact rfl
  | succ n => exact (dif_pos h0).trans ((dif_pos h1).trans rfl)

/-- `outsAt0` at a point of case B: that case's contents, over what the point before left. -/
theorem outsAt0_B (c : Dev nD) (t : Fin cfg0.N) (h0 : ¬t.val % 32 = 0) (h1 : ¬t.val % 16 = 0) :
    outsAt0 m c t.val t.isLt = sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (X0_1 m c t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents. -/
theorem outsAt0_C (c : Dev nD) (t : Fin cfg0.N) (h0 : ¬t.val % 32 = 0) (h1 : t.val % 16 = 0) :
    outsAt0 m c t.val t.isLt = sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (X0_1 m c t) (iblk m c 2 t) (iblk m c 3 t) (iblk m c 4 t) (iblk m c 5 t) (iblk m c 6 t) (iblk m c 7 t) (iblk m c 8 t) (iblk m c 9 t) (iblk m c 10 t) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ (∃ d, owns (c : Thread nD τ) scM0_1 fullShare d) ∗ owns (c : Thread nD τ) scM0_2 fullShare ((outsAt0 m c n hn)) ∗ (∃ d, owns (c : Thread nD τ) scM0_3 fullShare d) ∗ (∃ d, owns (c : Thread nD τ) scM0_4 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop((∃ d, owns (c : Thread nD τ) scM0_0 fullShare d) ∗ (∃ d, owns (c : Thread nD τ) scM0_1 fullShare d) ∗ owns (c : Thread nD τ) scM0_2 fullShare ((outsAt0 m c n hn)) ∗ (∃ d, owns (c : Thread nD τ) scM0_3 fullShare d) ∗ (∃ d, owns (c : Thread nD τ) scM0_4 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop((∃ d, owns (c : Thread nD τ) scM0_0 fullShare d) ∗ (∃ d, owns (c : Thread nD τ) scM0_1 fullShare d) ∗ owns (c : Thread nD τ) scM0_2 fullShare ((outsAt0 m c (n - 1) (by omega))) ∗ (∃ d, owns (c : Thread nD τ) scM0_3 fullShare d) ∗ (∃ d, owns (c : Thread nD τ) scM0_4 fullShare d)) ∗ (∃ r, prngReg c r)) := by
  cases n with
  | zero => exact absurd rfl hz
  | succ n => rfl

/-! ## The pipeline's proof data -/

/-- The output windows this certificate FORGETS (11, 12, 13, 14, 15): nothing reads what the kernel leaves in them, so nothing
    of it is named (Lib/Pipeline/Dat.lean `Dat.toRForget`). -/
def forgets0 : Fin 16 → Bool := fun w => w.val == 11 || w.val == 12 || w.val == 13 || w.val == 14 || w.val == 15

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨_ + 16, h⟩ => absurd h (Nat.not_lt.2 (Nat.le_add_left _ _))
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = X0_1 m c t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d)
    ∗ (∃ d, owns (c : Thread nD τ) (ms0_15 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d)
    ∗ (∃ d, owns (c : Thread nD τ) (ms0_15 t) fullShare d))

set_option maxHeartbeats 24000000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl,
    after0_0, after0_1, after0_2, after0_3, after0_4, after0_5, after0_6, after0_7, after0_8, after0_9, after0_10]
  rw [show (dats m 0 c).Φ t.succ = PhiS m c (t.val + 1) t.isLt from rfl, PhiS_succ]
  have hN : t.val < 32 := lt_of_lt_of_eq t.isLt (show cfg0.N = 32 from N_0)
  by_cases h0 : t.val % 32 = 0
  · by_cases h1 : t.val % 16 = 0
    · by_cases hz : t.val = 0
      · rw [PhiS_castSucc m c t, PhiS_zero m c _ _ hz, PhiA0_eq]
        rw [outsAt0_A m c t h0 h1]
        unfold sout0_A_2
        iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
        iapply ((kernelRun0_A c (grid0.coords t) _ _ _ _ _ _ _ _ _ _ _ _ _ _ _ _ _ _ _ _ _ _ _ _ _ _ _ _ _ _ _ _ _ _ _ _ _ _ _ _ _ _ ((hcond0_0 t).mpr h0) ((hcond0_1 t).mpr h1) (iblk m c 0 t) (X0_1 m c t) (iblk m c 2 t) (iblk m c 3 t) (iblk m c 4 t) (iblk m c 5 t) (iblk m c 6 t) (iblk m c 7 t) (iblk m c 8 t) (iblk m c 9 t) (iblk m c 10 t)).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexists _; iexact H11
        isplitl [H12]; · iexists _; iexact H12
        isplitl [H13]; · iexists _; iexact H13
        isplitl [H14]; · iexists _; iexact H14
        isplitl [H15]; · iexists _; iexact H15
        isplitl [HS0]; · iexact HS0
        isplitl [HS1]; · iexact HS1
        isplitl [HS2]; · iexact HS2
        isplitl [HS3]; · iexact HS3
        isplitl [HS4]; · iexact HS4
        iintro ⟨H0, H1, H2, H3, H4, H5, H6, H7, H8, H9, H10, H11, H12, H13, H14, H15, HS0, HS1, ⟨%es2, HS2⟩, ⟨%fT3, HS3⟩, HS4⟩
        isplitl [HS0 HS1 HS2 HS3 HS4 Hg]
        · isplitl [HS0 HS1 HS2 HS3 HS4]
          · isplitl [HS0]
            · iexact HS0
            isplitl [HS1]
            · iexact HS1
            isplitl [HS2]
            · unfold owns; iexists _; isplitr
              swap; · iexact HS2
              ipureintro; exact View.read_writes_of_cover _ _ _ _ _ (scover0_A_2 c _ _ _ _ _ _ _ _ _ _ _ _ _ _ _ _ _ _ _ _ _ _ _ _ _ _ _ _ _ _ _ _ _ _ _ _ _ _ _ _ _ _ _ _ _ _ _ _ _ _ _ _ _ _ _ _)
            isplitl [HS3]
            · iexists _; unfold owns; iexists _; isplitr
              swap; · iexact HS3
              ipureintro; rfl
            iexact HS4
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        iexact H15
      · exfalso; have hN : t.val < 32 := lt_of_lt_of_eq t.isLt (show cfg0.N = 32 from N_0); omega
    · exfalso; omega
  · by_cases h1 : t.val % 16 = 0
    · by_cases hz : t.val = 0
      · exfalso; have hN : t.val < 32 := lt_of_lt_of_eq t.isLt (show cfg0.N = 32 from N_0); omega
      · rw [PhiS_castSucc m c t, PhiS_pos m c _ _ hz]
        rw [outsAt0_C m c t h0 h1]
        unfold sout0_C_2
        iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
        iapply ((kernelRun0_C c (grid0.coords t) _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) (iblk m c 0 t) (X0_1 m c t) (iblk m c 2 t) (iblk m c 3 t) (iblk m c 4 t) (iblk m c 5 t) (iblk m c 6 t) (iblk m c 7 t) (iblk m c 8 t) (iblk m c 9 t) (iblk m c 10 t)).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexists _; iexact H11
        isplitl [H12]; · iexists _; iexact H12
        isplitl [H13]; · iexists _; iexact H13
        isplitl [H14]; · iexists _; iexact H14
        isplitl [H15]; · iexists _; iexact H15
        isplitl [HS0]; · iexact HS0
        isplitl [HS1]; · iexact HS1
        isplitl [HS2]; · iexists _; iexact HS2
        isplitl [HS3]; · iexact HS3
        isplitl [HS4]; · iexact HS4
        iintro ⟨H0, H1, H2, H3, H4, H5, H6, H7, H8, H9, H10, H11, H12, H13, H14, H15, HS0, HS1, ⟨%es2, HS2⟩, ⟨%fT3, HS3⟩, HS4⟩
        isplitl [HS0 HS1 HS2 HS3 HS4 Hg]
        · isplitl [HS0 HS1 HS2 HS3 HS4]
          · isplitl [HS0]
            · iexact HS0
            isplitl [HS1]
            · iexact HS1
            isplitl [HS2]
            · unfold owns; iexists _; isplitr
              swap; · iexact HS2
              ipureintro; exact View.read_writes_of_cover _ _ _ _ _ (scover0_C_2 c _ _ _ _ _ _ _ _ _ _ _ _ _ _ _ _ _ _ _ _ _ _ _ _ _ _ _ _ _ _ _ _ _ _ _ _ _ _ _ _ _ _ _ _ _ _ _ _ _ _ _ _ _ _ _ _)
            isplitl [HS3]
            · iexists _; unfold owns; iexists _; isplitr
              swap; · iexact HS3
              ipureintro; rfl
            iexact HS4
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        iexact H15
    · by_cases hz : t.val = 0
      · exfalso; have hN : t.val < 32 := lt_of_lt_of_eq t.isLt (show cfg0.N = 32 from N_0); omega
      · rw [PhiS_castSucc m c t, PhiS_pos m c _ _ hz]
        rw [outsAt0_B m c t h0 h1]
        unfold sout0_B_2
        iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
        iapply ((kernelRun0_B c (grid0.coords t) _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (iblk m c 0 t) (X0_1 m c t) (iblk m c 2 t) (iblk m c 3 t) (iblk m c 4 t) (iblk m c 5 t) (iblk m c 6 t) (iblk m c 7 t) (iblk m c 8 t) (iblk m c 9 t) (iblk m c 10 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexists _; iexact H11
        isplitl [H12]; · iexists _; iexact H12
        isplitl [H13]; · iexists _; iexact H13
        isplitl [H14]; · iexists _; iexact H14
        isplitl [H15]; · iexists _; iexact H15
        isplitl [HS0]; · iexact HS0
        isplitl [HS1]; · iexact HS1
        isplitl [HS2]; · iexact HS2
        isplitl [HS3]; · iexact HS3
        isplitl [HS4]; · iexact HS4
        iintro ⟨H0, H1, H2, H3, H4, H5, H6, H7, H8, H9, H10, H11, H12, H13, H14, H15, HS0, HS1, ⟨%es2, HS2⟩, ⟨%fT3, HS3⟩, HS4⟩
        isplitl [HS0 HS1 HS2 HS3 HS4 Hg]
        · isplitl [HS0 HS1 HS2 HS3 HS4]
          · isplitl [HS0]
            · iexact HS0
            isplitl [HS1]
            · iexact HS1
            isplitl [HS2]
            · unfold owns; iexists _; isplitr
              swap; · iexact HS2
              ipureintro; exact View.read_writes_of_cover _ _ _ _ _ (scover0_B_2 c _ _ _ _ _ _ _ _ _ _ _ _ _ _ _ _ _ _ _ _ _ _ _ _ _ _ _ _ _ _ _ _ _ _ _ _ _ _ _ _ _ _ _ _ _ _ _ _ _ _ _ _ _ _ _ _ _)
            isplitl [HS3]
            · iexists _; unfold owns; iexists _; isplitr
              swap; · iexact HS3
              ipureintro; rfl
            iexact HS4
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        iexact H15

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4⟩, Hg⟩
  isplitl [HS0 HS1 HS2 HS3 HS4]
  · isplitl [HS0]
    · iexact HS0
    isplitl [HS1]
    · iexact HS1
    isplitl [HS2]
    · iexists _; iexact HS2
    isplitl [HS3]
    · iexact HS3
    iexact HS4
  iexact Hg

/-- The same after the last point. -/
theorem hout (c : Dev nD) : (dats m 0 c).Φ (Fin.last cfg0.N) ⊢ Pipeline.ΦA spec0 c :=
  Phi_out m c _ (by rw [Fin.val_last]; have : cfg0.N = 32 := N_0; omega)

/-! ## The run and the frame -/

-- `θ_run_frame_track_forget_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 11, 12, 13, 14, 15) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (fun c => (dats m 0 c).toRForget forgets0) (A_eq m) (run_main m ρ)

/-- THE FRAME: `Cert.quiescent_MixerIdeal`'s statement (Defs.lean) at any `F` . -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.MixerIdeal.Gen

end
-- ==== Proof.MixerBits.lean ====
/-
  The mixer's backward call over the machine's floats has the program text of its idealization; its frame is the one
  run's, at machine words.
-/
module
public import proofs.«01_k».proof.Defs
public import proofs.«01_k».proof.Proof.Gen.Mixer
public import proofs.«01_k».proof.Proof.MixerFrame

@[expose] public section

set_option maxRecDepth 65536

namespace Cert.Mixer.Same

open Idealize.ShloMosaic Idealize.SL.Sem

set_option maxHeartbeats 4000000 in
/-- The two programs' body tables are the same. -/
theorem bodies : @Cert.Mixer.defs₀ Bits _ Cert.Mixer.Gen.facts = @Cert.MixerIdeal.defs₀ Bits _ Cert.MixerIdeal.Gen.facts := by
  unfold Cert.Mixer.defs₀ Cert.MixerIdeal.defs₀
  refine congrArg Defs.onTc ?_
  funext l a
  match l, a with
  | 0, (t, s) => rfl

/-- With each call's region and pipeline, too. -/
theorem tables : @Cert.Mixer.defs Bits _ Cert.Mixer.Gen.facts = @Cert.MixerIdeal.defs Bits _ Cert.MixerIdeal.Gen.facts :=
  congrArg (Pipeline.defs (@Cert.MixerIdeal.pcfgs Bits Cert.MixerIdeal.Gen.facts)) bodies

/-- The frame of the call over machine words. -/
theorem frame (m : (ℓ : Loc Cert.Mixer.nD Cert.Mixer.τ Cert.Mixer.sig) → Buf (Elt Bits) ℓ) (ρ : Dev Cert.Mixer.nD → PrngReg) :
    θ_run (Cert.Mixer.defs (F := Bits)) (onTc (τ := Cert.Mixer.τ) (Cert.Mixer.main (F := Bits))) ⟨m, fun _ => 0, ρ⟩ (fun r => (∀ c : Dev Cert.Mixer.nD,
      r.2.mem ((c.tc : Thread Cert.Mixer.nD Cert.Mixer.τ).loc Cert.Mixer.main_arg0) = m ((c.tc : Thread Cert.Mixer.nD Cert.Mixer.τ).loc Cert.Mixer.main_arg0)
      ∧ r.2.mem ((c.tc : Thread Cert.Mixer.nD Cert.Mixer.τ).loc Cert.Mixer.main_arg1) = m ((c.tc : Thread Cert.Mixer.nD Cert.Mixer.τ).loc Cert.Mixer.main_arg1)
      ∧ r.2.mem ((c.tc : Thread Cert.Mixer.nD Cert.Mixer.τ).loc Cert.Mixer.main_arg2) = m ((c.tc : Thread Cert.Mixer.nD Cert.Mixer.τ).loc Cert.Mixer.main_arg2)
      ∧ r.2.mem ((c.tc : Thread Cert.Mixer.nD Cert.Mixer.τ).loc Cert.Mixer.main_arg3) = m ((c.tc : Thread Cert.Mixer.nD Cert.Mixer.τ).loc Cert.Mixer.main_arg3)
      ∧ r.2.mem ((c.tc : Thread Cert.Mixer.nD Cert.Mixer.τ).loc Cert.Mixer.main_arg4) = m ((c.tc : Thread Cert.Mixer.nD Cert.Mixer.τ).loc Cert.Mixer.main_arg4)
      ∧ r.2.mem ((c.tc : Thread Cert.Mixer.nD Cert.Mixer.τ).loc Cert.Mixer.main_arg5) = m ((c.tc : Thread Cert.Mixer.nD Cert.Mixer.τ).loc Cert.Mixer.main_arg5)
      ∧ r.2.mem ((c.tc : Thread Cert.Mixer.nD Cert.Mixer.τ).loc Cert.Mixer.main_arg6) = m ((c.tc : Thread Cert.Mixer.nD Cert.Mixer.τ).loc Cert.Mixer.main_arg6)
      ∧ r.2.mem ((c.tc : Thread Cert.Mixer.nD Cert.Mixer.τ).loc Cert.Mixer.main_arg7) = m ((c.tc : Thread Cert.Mixer.nD Cert.Mixer.τ).loc Cert.Mixer.main_arg7)
      ∧ r.2.mem ((c.tc : Thread Cert.Mixer.nD Cert.Mixer.τ).loc Cert.Mixer.main_arg8) = m ((c.tc : Thread Cert.Mixer.nD Cert.Mixer.τ).loc Cert.Mixer.main_arg8)
      ∧ r.2.mem ((c.tc : Thread Cert.Mixer.nD Cert.Mixer.τ).loc Cert.Mixer.main_arg9) = m ((c.tc : Thread Cert.Mixer.nD Cert.Mixer.τ).loc Cert.Mixer.main_arg9))
      ∧ r.2.sem = fun _ => 0) := by
  rw [tables]
  exact Cert.MixerIdeal.Gen.frame (F := Bits) m ρ

end Cert.Mixer.Same

end
-- ==== Proof.Dots.lean ====
/-
  Matrix products of two-axis arrays over the extended reals, read at an index: for each of the three
  placements of the contracted axis that the kernels use, the entry at `(i, j)` is the plain sum of products.
  The sizes are arbitrary.
-/
module

public import Idealize.ShloMosaic.Lib.Pipeline.Value
public import Idealize.ShloMosaic.Lib.ValueIdx
public import Idealize.ShloMosaic.PureOps.Ideal.Laws

@[expose] public section

noncomputable section

namespace Cert.Arr

open Idealize.ShloMosaic

/-- The all-zero offsets of a two-axis block. -/
theorem z2 : (![0, 0] : Fin 2 → Nat) = fun _ => 0 := funext fun a => by fin_cases a <;> rfl
/-- The all-zero offsets of a three-axis block. -/
theorem z3 : (![0, 0, 0] : Fin 3 → Nat) = fun _ => 0 := funext fun a => by fin_cases a <;> rfl

/-- Two indices of a two-axis array with the same coordinates are the same. -/
theorem ext2 {m n : Nat} {x y : (⟨2, ![m, n]⟩ : Shape).Idx} (h0 : (x 0).val = (y 0).val) (h1 : (x 1).val = (y 1).val) :
    x = y := funext fun a => Fin.ext (by match a with | ⟨0, _⟩ => exact h0 | ⟨1, _⟩ => exact h1)

/-- The same for a three-axis array. -/
theorem ext3 {l m n : Nat} {x y : (⟨3, ![l, m, n]⟩ : Shape).Idx} (h0 : (x 0).val = (y 0).val) (h1 : (x 1).val = (y 1).val)
    (h2 : (x 2).val = (y 2).val) : x = y :=
  funext fun a => Fin.ext (by match a with | ⟨0, _⟩ => exact h0 | ⟨1, _⟩ => exact h1 | ⟨2, _⟩ => exact h2)

/-- A load of a whole block reads it. -/
theorem rd_whole {Val : EltTy → Type} [∀ e, Nonempty (Val e)] {sig : RefSig} {κ : Kind} {sp : Space} {S : Shape} {e : EltTy}
    {arg : Memref sig κ sp S e} (h : arg.IsWhole) (x : S.Idx → Val e)
    {off : Fin S.rank → Nat} (ho : off = fun _ => 0) (inb : ∀ a, off a + S.size a ≤ S.size a) :
    View.readAt Val arg.view (Rect.unit off S.size inb).toLoadRect (h.unread x) = x := by
  rw [View.readAt_eq_ld, h.read_unread, View.ld_unit_zero ho]

/-- A load of the whole buffer after a store of the whole buffer reads what was stored, whatever was stored before. -/
theorem readCov_last {Val : EltTy → Type} [∀ e, Nonempty (Val e)] {S : Shape} {e : EltTy} {sig : RefSig} {κ : Kind} {sp : Space}
    (v : View sig κ sp S e) {off : Fin S.rank → Nat} (h : off = fun _ => 0) (inb : ∀ a, off a + S.size a ≤ S.size a)
    (w : S.Idx → Val e) (L : List (View.Piece Val S e)) :
    v.readCov (⟨Rect.unit off S.size inb, w⟩ :: L) (Rect.unit off S.size inb).toLoadRect = w := by
  rw [View.readCov_eq_canon_ld _ _ _ (fun y => ⟨_, List.mem_cons_self, View.mem_set_unit_zero h inb y⟩),
    View.canon_cons_unit_zero h, View.ld_unit_zero h]

/-- The entry of columns of `a` against columns of `b`. -/
def prod {K m n : Nat} (a : (⟨2, ![K, m]⟩ : Shape).Idx → EReal) (b : (⟨2, ![K, n]⟩ : Shape).Idx → EReal)
    (i : Fin m) (j : Fin n) : EReal := ∑ k : Fin K, a (ValueIdx.ix2 k i) * b (ValueIdx.ix2 k j)

/-- Products with equal factors are equal. -/
theorem prod_congr {K m n m' n' : Nat} {a : (⟨2, ![K, m]⟩ : Shape).Idx → EReal} {b : (⟨2, ![K, n]⟩ : Shape).Idx → EReal}
    {a' : (⟨2, ![K, m']⟩ : Shape).Idx → EReal} {b' : (⟨2, ![K, n']⟩ : Shape).Idx → EReal} {i : Fin m} {j : Fin n} {i' : Fin m'} {j' : Fin n'}
    (ha : ∀ k, a (ValueIdx.ix2 k i) = a' (ValueIdx.ix2 k i')) (hb : ∀ k, b (ValueIdx.ix2 k j) = b' (ValueIdx.ix2 k j')) :
    prod a b i j = prod a' b' i' j' := Finset.sum_congr rfl fun k _ => by rw [ha, hb]

/-- The factors in the other order. -/
theorem prod_comm {K m n : Nat} (a : (⟨2, ![K, m]⟩ : Shape).Idx → EReal) (b : (⟨2, ![K, n]⟩ : Shape).Idx → EReal)
    (i : Fin m) (j : Fin n) : prod a b i j = prod b a j i := Finset.sum_congr rfl fun k _ => mul_comm _ _

/-- A two-axis array viewed with a leading axis of extent one. -/
theorem cast_add1 {α : Type} {m n : Nat} (v : (⟨2, ![m, n]⟩ : Shape).Idx → α)
    (h : (⟨2, ![m, n]⟩ : Shape).ShapeCasts ⟨3, ![1, m, n]⟩) (j : (⟨3, ![1, m, n]⟩ : Shape).Idx) :
    shapeCast ⟨3, ![1, m, n]⟩ v h j = v (ValueIdx.ix2 (j 1) (j 2)) :=
  (shapeCast_addUnit_apply ![m, n] v h j).trans (congrArg v (ext2 rfl rfl))

/-- A block with a leading axis of extent one viewed without it. -/
theorem cast_drop1 {α : Type} {m n : Nat} (v : (⟨3, ![1, m, n]⟩ : Shape).Idx → α)
    (h : (⟨3, ![1, m, n]⟩ : Shape).ShapeCasts ⟨2, ![m, n]⟩) (j : (⟨2, ![m, n]⟩ : Shape).Idx) :
    shapeCast ⟨2, ![m, n]⟩ v h j = v (ValueIdx.ix3 0 (j 0) (j 1)) :=
  (shapeCast_dropUnit_apply ![m, n] v h j).trans (congrArg v (ext3 rfl rfl rfl))

section Contract

variable {sl sr so : Shape} (d : DotDims sl sr so) (n : Nat) (hr : d.contr.rank = 1) (hs : d.contr.size ⟨0, by omega⟩ = n)

include hs in
/-- A product whose dimension numbers contract one axis of extent `n`, at an index, once its two operands are known
    along that axis. -/
theorem sum_contr (lhs : sl.Idx → EReal) (rhs : sr.Idx → EReal) (j : so.Idx) (L R : Fin n → EReal)
    (hl : ∀ q k, (q ⟨0, by omega⟩ : ℕ) = k.val → lhs (d.lhsIdx j q) = L k)
    (hR : ∀ q k, (q ⟨0, by omega⟩ : ℕ) = k.val → rhs (d.rhsIdx j q) = R k) :
    ∑ q : d.contr.Idx, lhs (d.lhsIdx j q) * rhs (d.rhsIdx j q) = ∑ k : Fin n, L k * R k := by
  rw [← Equiv.sum_comp (ValueIdx.contrEquiv1 d n hr hs).symm]
  refine Finset.sum_congr rfl fun k _ => ?_
  have hk := ValueIdx.contrEquiv1_symm_val d n hr hs k
  rw [hl _ k hk, hR _ k hk]

end Contract

variable {M K N : Nat}

/-- Rows by columns: `(i, k)` times `(k, j)`. -/
theorem sum_10 (w) (l : (⟨2, ![M, K]⟩ : Shape).Idx → EReal) (r : (⟨2, ![K, N]⟩ : Shape).Idx → EReal) (j : (⟨2, ![M, N]⟩ : Shape).Idx) :
    let d : DotDims ⟨2, ![M, K]⟩ ⟨2, ![K, N]⟩ ⟨2, ![M, N]⟩ := ⟨[1], [0], [0], [1], [], [], w⟩
    ∑ q : d.contr.Idx, l (d.lhsIdx j q) * r (d.rhsIdx j q)
      = ∑ k : Fin K, l (ValueIdx.ix2 (j 0) k) * r (ValueIdx.ix2 k (j 1)) := by
  intro d
  refine sum_contr d K rfl rfl l r j _ _ (fun q k h => congrArg l (ext2 ?_ ?_)) (fun q k h => congrArg r (ext2 ?_ ?_))
  · unfold DotDims.lhsIdx; rw [dif_neg (by simp [d]), dif_pos (by simp [d])]; rfl
  · exact (d.lhsIdx_val_of_single rfl j q).trans h
  · exact (d.rhsIdx_val_of_single rfl j q).trans h
  · unfold DotDims.rhsIdx; rw [dif_neg (by simp [d]), dif_pos (by simp [d])]; rfl

/-- Rows by rows: `(i, k)` times `(j, k)`. -/
theorem sum_11 (w) (l : (⟨2, ![M, K]⟩ : Shape).Idx → EReal) (r : (⟨2, ![N, K]⟩ : Shape).Idx → EReal) (j : (⟨2, ![M, N]⟩ : Shape).Idx) :
    let d : DotDims ⟨2, ![M, K]⟩ ⟨2, ![N, K]⟩ ⟨2, ![M, N]⟩ := ⟨[1], [1], [0], [0], [], [], w⟩
    ∑ q : d.contr.Idx, l (d.lhsIdx j q) * r (d.rhsIdx j q)
      = ∑ k : Fin K, l (ValueIdx.ix2 (j 0) k) * r (ValueIdx.ix2 (j 1) k) := by
  intro d
  refine sum_contr d K rfl rfl l r j _ _ (fun q k h => congrArg l (ext2 ?_ ?_)) (fun q k h => congrArg r (ext2 ?_ ?_))
  · unfold DotDims.lhsIdx; rw [dif_neg (by simp [d]), dif_pos (by simp [d])]; rfl
  · exact (d.lhsIdx_val_of_single rfl j q).trans h
  · unfold DotDims.rhsIdx; rw [dif_neg (by simp [d]), dif_pos (by simp [d])]; rfl
  · exact (d.rhsIdx_val_of_single rfl j q).trans h

/-- Columns by columns: `(k, i)` times `(k, j)`. -/
theorem sum_00 (w) (l : (⟨2, ![K, M]⟩ : Shape).Idx → EReal) (r : (⟨2, ![K, N]⟩ : Shape).Idx → EReal) (j : (⟨2, ![M, N]⟩ : Shape).Idx) :
    let d : DotDims ⟨2, ![K, M]⟩ ⟨2, ![K, N]⟩ ⟨2, ![M, N]⟩ := ⟨[0], [0], [1], [1], [], [], w⟩
    ∑ q : d.contr.Idx, l (d.lhsIdx j q) * r (d.rhsIdx j q)
      = ∑ k : Fin K, l (ValueIdx.ix2 k (j 0)) * r (ValueIdx.ix2 k (j 1)) := by
  intro d
  refine sum_contr d K rfl rfl l r j _ _ (fun q k h => congrArg l (ext2 ?_ ?_)) (fun q k h => congrArg r (ext2 ?_ ?_))
  · exact (d.lhsIdx_val_of_single rfl j q).trans h
  · unfold DotDims.lhsIdx; rw [dif_neg (by simp [d]), dif_pos (by simp [d])]; rfl
  · exact (d.rhsIdx_val_of_single rfl j q).trans h
  · unfold DotDims.rhsIdx; rw [dif_neg (by simp [d]), dif_pos (by simp [d])]; rfl

end Cert.Arr

end
-- ==== Proof.Lift.lean ====
/-
  Two-axis arrays of the extended reals by their tables of entries: `Is v f` says that the entry of `v` at `(i, j)` is
  `f i j`. Each operation the kernels use takes such arrays to such arrays, so a formula of array operations is read
  off as the formula of entries.
-/
module

public import proofs.«01_k».proof.Proof.Dots
public import Idealize.ShloMosaic.Lib.IdealHost
public import Idealize.ShloMosaic.Lib.Pipeline.ValueKit.Tiles

@[expose] public section

noncomputable section

namespace Cert.Arr

open Idealize.ShloMosaic

/-- The array's entries are those of the table `f`. -/
def Is {m n : Nat} (v : (⟨2, ![m, n]⟩ : Shape).Idx → EReal) (f : Fin m → Fin n → EReal) : Prop :=
  ∀ i j, v (ValueIdx.ix2 i j) = f i j

/-- The constants, as real numbers among the extended reals. -/
def kilo : EReal := ((1024 : ℝ) : EReal)
def kiloth : EReal := ((1 / 1024 : ℝ) : EReal)
def half : EReal := ((1 / 2 : ℝ) : EReal)
def neghalf : EReal := ((-(1 / 2) : ℝ) : EReal)
def two : EReal := ((2 : ℝ) : EReal)
/-- The number added to a mean of squares before its root is taken. -/
def eps : EReal := ((10995116 / 2 ^ 40 : ℝ) : EReal)

/-- Their patterns. -/
theorem c1024 : Ideal.ofBits .f32 0x44800000#32 = kilo := by
  simp [kilo, Ideal.ofBits, Ideal.ieee, -EReal.coe_mul]; norm_num
theorem chalf : Ideal.ofBits .f32 0x3F000000#32 = half := by
  simp [half, Ideal.ofBits, Ideal.ieee, -EReal.coe_mul]; norm_num
theorem cneghalf : Ideal.ofBits .f32 0xBF000000#32 = neghalf := by
  simp [neghalf, Ideal.ofBits, Ideal.ieee, -EReal.coe_mul, -EReal.coe_neg]; norm_num
theorem ctwo : Ideal.ofBits .f32 0x40000000#32 = two := by
  simp [two, Ideal.ofBits, Ideal.ieee, -EReal.coe_mul]; norm_num
theorem c1024th : Ideal.ofBits .f32 0x3A800000#32 = kiloth := by
  simp [kiloth, Ideal.ofBits, Ideal.ieee, -EReal.coe_mul]; norm_num
theorem ceps : Ideal.ofBits .f32 0x3727C5AC#32 = eps := by
  simp [eps, Ideal.ofBits, Ideal.ieee, -EReal.coe_mul]; norm_num
theorem cone : Ideal.ofBits .f32 0x3F800000#32 = 1 := Ideal.ofBits_one_f32
theorem czero : Ideal.ofBits .f32 0x00000000#32 = 0 := Ideal.ofBits_zero_f32

theorem eps_pos : 0 < eps := EReal.coe_pos.2 (by norm_num)

/-- A real factor that is not negative distributes over a sum, whatever its terms. -/
theorem real_mul_sum {ι : Type} (s : Finset ι) (f : ι → EReal) {c : ℝ} (hc : 0 ≤ c) : (c : EReal) * ∑ k ∈ s, f k = ∑ k ∈ s, (c : EReal) * f k := by
  classical
  induction s using Finset.induction_on with
  | empty => simp
  | insert a s h ih =>
    rw [Finset.sum_insert h, Finset.sum_insert h, ← ih,
      EReal.left_distrib_of_nonneg_of_ne_top (EReal.coe_nonneg.2 hc) (EReal.coe_ne_top c)]
theorem half_sum {ι : Type} (s : Finset ι) (f : ι → EReal) : half * ∑ k ∈ s, f k = ∑ k ∈ s, half * f k :=
  real_mul_sum s f (by norm_num)

/-- A square is not negative. -/
theorem sq_nonneg' (x : EReal) : 0 ≤ x * x :=
  (le_total 0 x).elim (fun h => EReal.mul_nonneg_iff.2 (.inl ⟨h, h⟩)) fun h => EReal.mul_nonneg_iff.2 (.inr ⟨h, h⟩)

/-- A mean of squares, moved off zero, is positive. -/
theorem mean_pos {n : Nat} (f : Fin n → EReal) : 0 < Ideal.div (∑ k, f k * f k) kilo + eps := by
  refine lt_of_lt_of_le eps_pos (le_add_of_nonneg_left ?_)
  unfold kilo
  rw [Ideal.div_coe (by norm_num)]
  exact EReal.mul_nonneg (Finset.sum_nonneg fun k _ => sq_nonneg' _) (EReal.coe_nonneg.2 (by norm_num))

namespace Is

variable {m n : Nat} {φ : FTy}

theorem at_idx {v : (⟨2, ![m, n]⟩ : Shape).Idx → EReal} {f : Fin m → Fin n → EReal} (h : Is v f) (j : (⟨2, ![m, n]⟩ : Shape).Idx) :
    v j = (f (j 0) (j 1)) :=
  (congrArg v (ext2 (m := m) (n := n) (x := j) (y := ValueIdx.ix2 (j 0) (j 1)) rfl rfl)).trans (h (j 0) (j 1))

theorem congr {v : (⟨2, ![m, n]⟩ : Shape).Idx → EReal} {f g : Fin m → Fin n → EReal} (h : Is v f) (e : ∀ i j, f i j = g i j) : Is v g :=
  fun i j => (h i j).trans (by rw [e])

variable {x y : FVec Ideal ⟨2, ![m, n]⟩ φ} {f g : Fin m → Fin n → EReal}

theorem add (hx : Is x f) (hy : Is y g) : Is (addf x y) (fun i j => f i j + g i j) := fun i j => by
  show x _ + y _ = _; rw [hx, hy]
theorem sub (hx : Is x f) (hy : Is y g) : Is (subf x y) (fun i j => f i j - g i j) := fun i j => by
  show x _ - y _ = _; rw [hx, hy]
theorem mul (hx : Is x f) (hy : Is y g) : Is (mulf x y) (fun i j => f i j * g i j) := fun i j => by
  show x _ * y _ = _; rw [hx, hy]
theorem max (hx : Is x f) (hy : Is y g) : Is (maximumf x y) (fun i j => Max.max (f i j) (g i j)) := fun i j => by
  show Max.max (x _) (y _) = _; rw [hx, hy]

theorem const {φ : FTy} {c : BitVec φ.bits} {r : EReal} (h : Ideal.ofBits φ c = r) :
    Is (broadcast (α := Ideal φ) ⟨2, ![m, n]⟩ (Scalar.ofBits φ c)) (fun _ _ => r) := fun _ _ => h

theorem div (hx : Is x f) (hy : Is y g) : Is (divf x y) (fun i j => Ideal.div (f i j) (g i j)) := fun i j => by
  show Ideal.div (x _) (y _) = _; rw [hx, hy]

theorem rsqrt (hx : Is x f) : Is (Idealize.ShloMosaic.rsqrt x) (fun i j => Ideal.rsqrt (f i j)) := fun i j => by
  show Ideal.rsqrt (x _) = _; rw [hx]

theorem trunc {ψ : FTy} (hx : Is x f) (h : ψ.bits < φ.bits) : Is (truncf ψ x h) f := hx
theorem ext {ψ : FTy} (hx : Is x f) (h : φ.bits < ψ.bits) : Is (extf ψ x h) f := hx

theorem self {x : (⟨2, ![m, n]⟩ : Shape).Idx → EReal} (hx : Is x f) (h : (⟨2, ![m, n]⟩ : Shape).ShapeCasts ⟨2, ![m, n]⟩) : Is (shapeCast ⟨2, ![m, n]⟩ x h) f := by
  rw [shapeCast_self]; exact hx

/-- A block with a leading axis of extent one, viewed without it. -/
theorem drop {v : (⟨3, ![1, m, n]⟩ : Shape).Idx → EReal} {f : Fin m → Fin n → EReal}
    (h : ∀ i j, v (ValueIdx.ix3 0 i j) = f i j) (hc : (⟨3, ![1, m, n]⟩ : Shape).ShapeCasts ⟨2, ![m, n]⟩) :
    Is (shapeCast ⟨2, ![m, n]⟩ v hc) f := fun i j => (cast_drop1 v hc _).trans (h i j)

/-- A row repeated. -/
theorem row {v : (⟨2, ![1, n]⟩ : Shape).Idx → EReal} {f : Fin 1 → Fin n → EReal} (hv : Is v f)
    (h : (⟨2, ![1, n]⟩ : Shape).Broadcasts ⟨2, ![m, n]⟩) : Is (broadcastTo ⟨2, ![m, n]⟩ v h) (fun _ j => f 0 j) := fun i j => by
  refine (broadcastTo_apply v h _ (ValueIdx.ix2 0 j) fun a => ?_).trans (hv 0 j)
  match a with
  | ⟨0, _⟩ => rfl
  | ⟨1, _⟩ =>
    show j.val = if n = 1 then 0 else j.val
    split <;> omega

/-- A column repeated. -/
theorem col {v : (⟨2, ![m, 1]⟩ : Shape).Idx → EReal} {f : Fin m → Fin 1 → EReal} (hv : Is v f)
    (h : (⟨2, ![m, 1]⟩ : Shape).Broadcasts ⟨2, ![m, n]⟩) : Is (broadcastTo ⟨2, ![m, n]⟩ v h) (fun i _ => f i 0) := fun i j => by
  refine (broadcastTo_apply v h _ (ValueIdx.ix2 i 0) fun a => ?_).trans (hv i 0)
  match a with
  | ⟨0, _⟩ =>
    show i.val = if m = 1 then 0 else i.val
    split <;> omega
  | ⟨1, _⟩ => rfl

/-- The sums of the rows, as a column. -/
theorem rowSum {x : FVec Ideal ⟨2, ![m, n]⟩ .f32} {f : Fin m → Fin n → EReal} (hx : Is x f)
    (h : (⟨2, ![m, n]⟩ : Shape).Reduces [1] ⟨1, ![m]⟩) (hc : (⟨1, ![m]⟩ : Shape).ShapeCasts ⟨2, ![m, 1]⟩)
    (hφ : FKind.Formats .f32) (h0 : (0x00000000#32 : BitVec 32) = FKind.add.neutral .f32 hφ) :
    Is (shapeCast ⟨2, ![m, 1]⟩ (multiReduction .add [1] ⟨1, ![m]⟩ x 0x00000000#32 h hφ h0) hc) (fun i _ => ∑ k, f i k) := fun i j => by
  refine (shapeCast_apply (s := ⟨1, ![m]⟩) (t := ⟨2, ![m, 1]⟩) _ hc (ValueIdx.ix2 i j) (ValueIdx.ix1 i) ?_).trans ?_
  · rw [Shape.rowMajor_val_two]
    show _ = i.val * 1 + j.val
    have := j.isLt
    refine (Shape.rowMajor_val_one _).trans ?_
    show i.val = _
    omega
  · rw [Ideal.multiReduction_add_single]
    exact Finset.sum_congr rfl fun k _ => hx.at_idx _

/-- The sums of the columns, as a row. -/
theorem colSum {x : FVec Ideal ⟨2, ![m, n]⟩ .f32} {f : Fin m → Fin n → EReal} (hx : Is x f)
    (h : (⟨2, ![m, n]⟩ : Shape).Reduces [0] ⟨1, ![n]⟩) (hc : (⟨1, ![n]⟩ : Shape).ShapeCasts ⟨2, ![1, n]⟩)
    (hφ : FKind.Formats .f32) (h0 : (0x00000000#32 : BitVec 32) = FKind.add.neutral .f32 hφ) :
    Is (shapeCast ⟨2, ![1, n]⟩ (multiReduction .add [0] ⟨1, ![n]⟩ x 0x00000000#32 h hφ h0) hc) (fun _ j => ∑ k, f k j) := fun i j => by
  refine (shapeCast_apply (s := ⟨1, ![n]⟩) (t := ⟨2, ![1, n]⟩) _ hc (ValueIdx.ix2 i j) (ValueIdx.ix1 j) ?_).trans ?_
  · rw [Shape.rowMajor_val_two]
    show _ = i.val * n + j.val
    have : i.val = 0 := by omega
    refine (Shape.rowMajor_val_one _).trans ?_
    show j.val = _
    rw [this]; omega
  · rw [Ideal.multiReduction_add_single]
    exact Finset.sum_congr rfl fun k _ => hx.at_idx _

variable {K : Nat} {φ₁ φ₂ : FTy}

/-- Rows by columns. -/
theorem dot10 {x : FVec Ideal ⟨2, ![m, K]⟩ φ₁} {y : FVec Ideal ⟨2, ![K, n]⟩ φ₂} {f : Fin m → Fin K → EReal} {g : Fin K → Fin n → EReal}
    (hx : Is x f) (hy : Is y g) (w) :
    Is (FloatOps.matmul (F := Ideal) (⟨[1], [0], [0], [1], [], [], w⟩ : DotDims ⟨2, ![m, K]⟩ ⟨2, ![K, n]⟩ ⟨2, ![m, n]⟩) none x y
      (constant ⟨2, ![m, n]⟩ .f32 0x00000000#32)) (fun i j => ∑ k, f i k * g k j) := fun i j => by
  rw [Ideal.matmul_constant_zero_apply, sum_10 w x y]
  exact Finset.sum_congr rfl fun k _ => congrArg₂ (· * ·) (hx i k) (hy k j)

/-- Rows by rows. -/
theorem dot11 {x : FVec Ideal ⟨2, ![m, K]⟩ φ₁} {y : FVec Ideal ⟨2, ![n, K]⟩ φ₂} {f : Fin m → Fin K → EReal} {g : Fin n → Fin K → EReal}
    (hx : Is x f) (hy : Is y g) (w) :
    Is (FloatOps.matmul (F := Ideal) (⟨[1], [1], [0], [0], [], [], w⟩ : DotDims ⟨2, ![m, K]⟩ ⟨2, ![n, K]⟩ ⟨2, ![m, n]⟩) none x y
      (constant ⟨2, ![m, n]⟩ .f32 0x00000000#32)) (fun i j => ∑ k, f i k * g j k) := fun i j => by
  rw [Ideal.matmul_constant_zero_apply, sum_11 w x y]
  exact Finset.sum_congr rfl fun k _ => congrArg₂ (· * ·) (hx i k) (hy j k)

/-- A row of a stack of two-axis arrays is a row of the piece that holds it: row `i` of piece `p`, the pieces before
    it having `pre` rows. -/
theorem _root_.Cert.Arr.cat_row {M : Nat} (xs : List ((s : Shape) × (s.Idx → EReal)))
    (h : Shape.Concatenates (xs.map (·.1)) ⟨2, ![M, n]⟩ 0) (k : Fin M) (j : Fin n) (p : Nat) (hp : p < xs.length) {q : Nat}
    (v : (⟨2, ![q, n]⟩ : Shape).Idx → EReal) (hv : xs[p] = ⟨⟨2, ![q, n]⟩, v⟩) (i : Fin q)
    (hpre : (((xs.take p).map (·.1)).map fun s => if h : s.rank = 2 then s.size ((0 : Fin 2).cast h.symm) else 0).sum + i.val = k.val) :
    concatenate ⟨2, ![M, n]⟩ 0 xs h (ValueIdx.ix2 k j) = v (ValueIdx.ix2 i j) :=
  concatenate_apply_piece (t := ⟨2, ![M, n]⟩) (0 : Fin 2) xs h (ValueIdx.ix2 k j) p hp _ v hv rfl _ rfl (ValueIdx.ix2 i j)
    (fun b hb => by match b with | ⟨0, _⟩ => exact absurd rfl hb | ⟨1, _⟩ => rfl) hpre

end Is

end Cert.Arr

end
-- ==== Proof.Model.lean ====
/-
  The MLP half of the layer and its gradient at one token, in extended reals: the gated residual, the two normalisations,
  the squared-ReLU MLP, the loss, and the cotangents back to the mixer's output. `Par` is what the tokens of one
  sequence share; `Tok` adds the token's own three vectors.
-/
module

public import proofs.«01_k».proof.Proof.Lift

@[expose] public section

noncomputable section

namespace Cert.Arr

open Idealize.ShloMosaic

/-- The gates, shifts and scales of a sequence, the norms' weights and the three matrices. -/
structure Par where
  (gm sh sc gf g gfin : Fin 1024 → EReal)
  (wo : Fin 1536 → Fin 1024 → EReal)
  (wu : Fin 1024 → Fin 4096 → EReal)
  (wd : Fin 4096 → Fin 1024 → EReal)

/-- A token: its sequence's parameters, its residual, the mixer's output and its target. -/
structure Tok where
  P : Par
  x : Fin 1024 → EReal
  y : Fin 1536 → EReal
  tg : Fin 1024 → EReal

namespace Tok

variable (T : Tok)

/-- The mixer's output projected. -/
def a (i : Fin 1024) : EReal := ∑ k, T.y k * T.P.wo k i
/-- The residual after the mixer. -/
def h1 (i : Fin 1024) : EReal := T.x i + T.P.gm i * T.a i
/-- Its mean square, moved off zero. -/
def v2 : EReal := Ideal.div (∑ k, T.h1 k * T.h1 k) kilo + eps
def r2 : EReal := Ideal.rsqrt T.v2
def n2 (i : Fin 1024) : EReal := T.h1 i * T.r2
/-- The MLP's input. -/
def u (i : Fin 1024) : EReal := T.n2 i * T.P.g i * (1 + T.P.sc i) + T.P.sh i
/-- Its hidden layer after the ReLU. -/
def relu (j : Fin 4096) : EReal := Max.max (∑ k, T.u k * T.P.wu k j) 0
def f (j : Fin 4096) : EReal := T.relu j * T.relu j
def dn (i : Fin 1024) : EReal := ∑ j, T.f j * T.P.wd j i
/-- The residual after the MLP. -/
def h2 (i : Fin 1024) : EReal := T.h1 i + T.P.gf i * T.dn i
def v3 : EReal := Ideal.div (∑ k, T.h2 k * T.h2 k) kilo + eps
def r3 : EReal := Ideal.rsqrt T.v3
def n3 (i : Fin 1024) : EReal := T.h2 i * T.r3
def err (i : Fin 1024) : EReal := T.n3 i * T.P.gfin i - T.tg i
/-- The token's share of the loss. -/
def loss : EReal := Ideal.div (∑ k, T.err k * T.err k) kilo
/-- The cotangent of the step's output. -/
def dout (i : Fin 1024) : EReal := T.err i * kiloth
def e3 (i : Fin 1024) : EReal := T.dout i * T.P.gfin i
/-- The cotangent of the residual after the MLP. -/
def dh2 (i : Fin 1024) : EReal := T.r3 * (T.e3 i - T.n3 i * Ideal.div (∑ k, T.e3 k * T.n3 k) kilo)
def ddn (i : Fin 1024) : EReal := T.P.gf i * T.dh2 i
def dup (j : Fin 4096) : EReal := (∑ k, T.ddn k * T.P.wd j k) * (two * T.relu j)
def du (i : Fin 1024) : EReal := ∑ j, T.dup j * T.P.wu i j
def e2 (i : Fin 1024) : EReal := T.du i * (T.P.g i * (1 + T.P.sc i))
/-- The cotangent of the residual after the mixer. -/
def dh1 (i : Fin 1024) : EReal := T.dh2 i + T.r2 * (T.e2 i - T.n2 i * Ideal.div (∑ k, T.e2 k * T.n2 k) kilo)
def da (i : Fin 1024) : EReal := T.P.gm i * T.dh1 i
/-- The cotangent of the mixer's output. -/
def dy (k : Fin 1536) : EReal := ∑ i, T.da i * T.P.wo k i
/-- The token's shares of the gradients of the gates, the scale and the norms' weights (the shift's is `du`). -/
def dgm (i : Fin 1024) : EReal := T.dh1 i * T.a i
def dsc (i : Fin 1024) : EReal := T.du i * (T.n2 i * T.P.g i)
def dgf (i : Fin 1024) : EReal := T.dh2 i * T.dn i
def dg (i : Fin 1024) : EReal := T.du i * (1 + T.P.sc i) * T.n2 i
def dgfin (i : Fin 1024) : EReal := T.dout i * T.n3 i

/-- The rows of the token's share of the gates' gradient, and of the gradients that every token adds to. -/
def mrow : Fin 8 → Fin 1024 → EReal := ![0, 0, T.dgm, T.du, T.dsc, T.dgf, 0, 0]
def arow : Fin 8 → Fin 1024 → EReal := ![T.dg, T.dgfin, fun _ => half * T.loss, 0, 0, 0, 0, 0]

theorem v2_pos : 0 < T.v2 := mean_pos _
theorem v3_pos : 0 < T.v3 := mean_pos _

end Tok

/-- Column `k` of the `b`-th block of 512. -/
def blk (b : Fin 8) (k : Fin 512) : Fin 4096 := ⟨512 * b.val + k.val, by omega⟩

/-- A sum over 4096 columns, block by block. -/
theorem sum_blk (F : Fin 4096 → EReal) : ∑ j, F j = ∑ b, ∑ k, F (blk b k) := by
  rw [← Fintype.sum_prod_type' (f := fun b k => F (blk b k))]
  refine (Fintype.sum_equiv (finProdFinEquiv (m := 8) (n := 512)) _ _ fun p => congrArg F (Fin.ext ?_)).symm
  show 512 * p.1.val + p.2.val = p.2.val + 512 * p.1.val
  omega

/-- The eight blocks written out, in order. -/
theorem sum_blk8 (F : Fin 4096 → EReal) :
    ∑ j, F j = (∑ k, F (blk 0 k)) + (∑ k, F (blk 1 k)) + (∑ k, F (blk 2 k)) + (∑ k, F (blk 3 k)) + (∑ k, F (blk 4 k))
      + (∑ k, F (blk 5 k)) + (∑ k, F (blk 6 k)) + ∑ k, F (blk 7 k) := by
  rw [sum_blk, Fin.sum_univ_eight]

end Cert.Arr

end
-- ==== Proof.MlpArgs.lean ====
/-
  The arguments of `mlp_fused`: two sequences of 2048 tokens over the parameters they share. `Reads` says
  that the nine argument arrays hold them. A token is found by sequence and place, or by its row among all 4096.
-/
module

public import proofs.«01_k».proof.Proof.Model
public import proofs.«01_k».proof.Proof.Dots

@[expose] public section

noncomputable section

namespace Cert.Arr

open Idealize.ShloMosaic

/-- The arguments. -/
structure Args where
  x : Fin 2 → Fin 2048 → Fin 1024 → EReal
  y : Fin 2 → Fin 2048 → Fin 1536 → EReal
  md : Fin 2 → Fin 6 → Fin 1024 → EReal
  (g gfin : Fin 1024 → EReal)
  wo : Fin 1536 → Fin 1024 → EReal
  wu : Fin 1024 → Fin 4096 → EReal
  wd : Fin 4096 → Fin 1024 → EReal
  tg : Fin 2 → Fin 2048 → Fin 1024 → EReal

namespace Args

variable (A : Args)

/-- What the tokens of sequence `b` share. -/
def par (b : Fin 2) : Par := ⟨A.md b 2, A.md b 3, A.md b 4, A.md b 5, A.g, A.gfin, A.wo, A.wu, A.wd⟩
/-- The token at place `s` of sequence `b`. -/
def tok (b : Fin 2) (s : Fin 2048) : Tok := ⟨A.par b, A.x b s, A.y b s, A.tg b s⟩
/-- The sequence of row `n`, its place there, and its token. -/
def seq (n : ℕ) : Fin 2 := ⟨n / 2048 % 2, Nat.mod_lt _ (by norm_num)⟩
def pos (n : ℕ) : Fin 2048 := ⟨n % 2048, Nat.mod_lt _ (by norm_num)⟩
def row (n : ℕ) : Tok := A.tok (seq n) (pos n)

theorem row_at (b : Fin 2) (s : Fin 2048) : A.row (2048 * b.val + s.val) = A.tok b s := by
  have hb : seq (2048 * b.val + s.val) = b := Fin.ext (by show (2048 * b.val + s.val) / 2048 % 2 = b.val; omega)
  have hs : pos (2048 * b.val + s.val) = s := Fin.ext (by show (2048 * b.val + s.val) % 2048 = s.val; omega)
  unfold row
  rw [hb, hs]

/-- A sum over the rows, in tiles of `w`. -/
theorem sum_tiles (w : ℕ) (F : ℕ → EReal) (d : ℕ) :
    ∑ p ∈ Finset.range d, ∑ r : Fin w, F (w * p + r.val) = ∑ n ∈ Finset.range (w * d), F n := by
  induction d with
  | zero => rfl
  | succ d ih =>
    rw [Finset.sum_range_succ, ih, Nat.mul_succ, Finset.sum_range_add, Finset.sum_range fun k => F (w * d + k)]

/-- The eight tiles of a sequence. -/
theorem sum_seq (F : Tok → EReal) (b : Fin 2) :
    ∑ p ∈ Finset.range 8, ∑ r : Fin 256, F (A.row (256 * (8 * b.val + p) + r.val)) = ∑ s, F (A.tok b s) := by
  have h := sum_tiles 256 (fun n => F (A.row (2048 * b.val + n))) 8
  refine (Finset.sum_congr rfl fun p _ => Finset.sum_congr rfl fun r _ => ?_).trans (h.trans ?_)
  · show F _ = F _
    congr 2; ring
  · rw [show 256 * 8 = 2048 from rfl, Finset.sum_range]
    exact Finset.sum_congr rfl fun s _ => by rw [row_at]

/-- All sixteen tiles. -/
theorem sum_all (F : Tok → EReal) :
    ∑ p ∈ Finset.range 16, ∑ r : Fin 256, F (A.row (256 * p + r.val)) = ∑ b, ∑ s, F (A.tok b s) := by
  rw [Fin.sum_univ_two, ← A.sum_seq F 0, ← A.sum_seq F 1, show (16 : ℕ) = 8 + 8 from rfl, Finset.sum_range_add]
  simp

end Args

/-- The argument arrays hold the arguments. -/
structure Reads (A : Args) (x0 : (⟨3, ![2, 2048, 1024]⟩ : Shape).Idx → EReal) (x1 : (⟨3, ![2, 2048, 1536]⟩ : Shape).Idx → EReal)
    (x2 : (⟨3, ![2, 6, 1024]⟩ : Shape).Idx → EReal) (x3 : (⟨2, ![1, 1024]⟩ : Shape).Idx → EReal)
    (x4 : (⟨1, ![1024]⟩ : Shape).Idx → EReal) (x5 : (⟨2, ![1536, 1024]⟩ : Shape).Idx → EReal)
    (x6 : (⟨2, ![1024, 4096]⟩ : Shape).Idx → EReal) (x7 : (⟨2, ![4096, 1024]⟩ : Shape).Idx → EReal)
    (x8 : (⟨3, ![2, 2048, 1024]⟩ : Shape).Idx → EReal) : Prop where
  h0 : ∀ b s i, x0 (ValueIdx.ix3 b s i) = A.x b s i
  h1 : ∀ b s i, x1 (ValueIdx.ix3 b s i) = A.y b s i
  h2 : ∀ b k i, x2 (ValueIdx.ix3 b k i) = A.md b k i
  h3 : Is x3 fun _ => A.g
  h4 : ∀ i, x4 (ValueIdx.ix1 i) = A.gfin i
  h5 : Is x5 A.wo
  h6 : Is x6 A.wu
  h7 : Is x7 A.wd
  h8 : ∀ b s i, x8 (ValueIdx.ix3 b s i) = A.tg b s i

/-- The array of a quantity that each token has a row of. -/
def Rows (A : Args) {n : Nat} (F : Tok → Fin n → EReal) : (⟨2, ![4096, n]⟩ : Shape).Idx → EReal := fun i => (F (A.row (i 0).val) (i 1))

/-- The sums over the tokens of each sequence, and over all tokens. -/
def mods (A : Args) : (⟨3, ![2, 8, 1024]⟩ : Shape).Idx → EReal := fun i => ∑ s, (A.tok (i 0) s).mrow (i 1) (i 2)
def accs (A : Args) : (⟨2, ![8, 1024]⟩ : Shape).Idx → EReal := fun i => ∑ b, ∑ s, (A.tok b s).arow (i 0) (i 1)

/-- Their entries at an index with given coordinates. -/
theorem mods_at (A : Args) (i : (⟨3, ![2, 8, 1024]⟩ : Shape).Idx) {b : Fin 2} {k : Fin 8} {j : Fin 1024} (h0 : b.val = (i 0).val)
    (h1 : k.val = (i 1).val) (h2 : j.val = (i 2).val) : ∑ s, (A.tok b s).mrow k j = mods A i := by
  rw [show b = i 0 from Fin.ext h0, show k = i 1 from Fin.ext h1, show j = i 2 from Fin.ext h2]; rfl
theorem accs_at (A : Args) (i : (⟨2, ![8, 1024]⟩ : Shape).Idx) {k : Fin 8} {j : Fin 1024} (h0 : k.val = (i 0).val)
    (h1 : j.val = (i 1).val) : ∑ b, ∑ s, (A.tok b s).arow k j = accs A i := by
  rw [show k = i 0 from Fin.ext h0, show j = i 1 from Fin.ext h1]; rfl

/-- The rows of two sequences, one below the other. -/
theorem cast_flat {α : Type} {n : Nat} (x : (⟨3, ![2, 2048, n]⟩ : Shape).Idx → α)
    (h : (⟨3, ![2, 2048, n]⟩ : Shape).ShapeCasts ⟨2, ![4096, n]⟩) (k : Fin 4096) (j : Fin n) :
    shapeCast ⟨2, ![4096, n]⟩ x h (ValueIdx.ix2 k j) = x (ValueIdx.ix3 (Args.seq k.val) (Args.pos k.val) j) := by
  refine shapeCast_apply (s := ⟨3, ![2, 2048, n]⟩) (t := ⟨2, ![4096, n]⟩) x h _ _ ?_
  rw [Shape.rowMajor_val_three, Shape.rowMajor_val_two]
  show (k.val / 2048 % 2 * 2048 + k.val % 2048) * n + j.val = k.val * n + j.val
  rw [show k.val / 2048 % 2 * 2048 + k.val % 2048 = k.val by omega]

end Cert.Arr

end
-- ==== Proof.MlpHost.lean ====
/-
  What the arrays given to `mlp_fused` hold when its region is entered, element by element, in terms of the arguments.
-/
module

public import proofs.«01_k».proof.Proof.Dots
public import proofs.«01_k».proof.Proof.Gen.MlpIdeal.Value
public import Idealize.ShloMosaic.Lib.Tactic

@[expose] public section

set_option maxRecDepth 16384

noncomputable section

namespace Cert.MlpIdeal.Val

open Cert.MlpIdeal Cert.MlpIdeal.Gen Cert.MlpIdeal.Value Cert.Arr
open Idealize.ShloMosaic Idealize.ShloMosaic.TcCoe Idealize.SL.Sem Idealize.ShloMosaic.StableHlo

variable (m : (ℓ : Loc nD τ sig) → Buf (Elt Ideal) ℓ) (c : Dev nD)

/-- The arrays of the windows, as the host lines leave them. -/
theorem arrays :
    V m c main_v6 = shapeCast S4096x1024 (m ((c : Thread nD τ).loc main_arg0)) shapeCasts_S2x2048x1024_S4096x1024
    ∧ V m c main_v7 = shapeCast S4096x1536 (m ((c : Thread nD τ).loc main_arg1)) shapeCasts_S2x2048x1536_S4096x1536
    ∧ V m c main_v8 = shapeCast S4096x1024 (m ((c : Thread nD τ).loc main_arg8)) shapeCasts_S2x2048x1024_S4096x1024
    ∧ V m c main_v9 = shapeCast S1x1024 (m ((c : Thread nD τ).loc main_arg4)) shapeCasts_S1024_S1x1024
    ∧ V m c main_v10 = m ((c : Thread nD τ).loc main_arg5)
    ∧ V m c main_v2 = transpose S8x1024x512 [1, 0, 2] (shapeCast S1024x8x512 (m ((c : Thread nD τ).loc main_arg6)) shapeCasts_S1024x4096_S1024x8x512) transposes_S1024x8x512_S8x1024x512_1_0_2
    ∧ V m c main_v4 = shapeCast S8x512x1024 (m ((c : Thread nD τ).loc main_arg7)) shapeCasts_S4096x1024_S8x512x1024
    ∧ V m c main_v5 = pad S2x8x1024 ![0, 0, 0] ![0, 2, 0] ![0, 0, 0] (m ((c : Thread nD τ).loc main_arg2) : S2x6x1024.Idx → EReal) (sitofp (F := Ideal) .f32 (constantI S_ 32 0#32)) pads_S2x6x1024_S2x8x1024_000_020_000 h_S_ := by
  refine ⟨?_, ?_, ?_, ?_, ?_, ?_, ?_, ?_⟩ <;>
  · show StableHlo.after (hostOps0 ++ (hostOps0_1 ++ (hostOps0_2 ++ []))) (fun b => m (c, b)) _ = _
    simp only [hostOps0, hostOps0_1, hostOps0_2, List.cons_append, List.nil_append]
    after_results <;> rfl

end Cert.MlpIdeal.Val

end
-- ==== Proof.MlpPay.lean ====
/-
  What the body of `mlp_fused` computes, step by step, on a tile of 256 tokens of one sequence: every vector it names
  holds the number the model of one token (`Tok`) gives it. The hidden layer is worked through in eight blocks of
  512 columns, so the sums over it appear as sums of eight.
-/
module

public import proofs.«01_k».proof.Proof.Model
public import proofs.«01_k».proof.Proof.Gen.MlpIdeal.Skeleton

@[expose] public section

set_option maxRecDepth 16384

noncomputable section

namespace Cert.Arr

open Idealize.ShloMosaic

namespace Tok
variable (T : Tok)
/-- The MLP's output from one block of the hidden layer, and its partial sums. -/
def dnb (b : Fin 8) (i : Fin 1024) : EReal := ∑ k, T.f (blk b k) * T.P.wd (blk b k) i
def dn01 (i : Fin 1024) : EReal := T.dnb 0 i + T.dnb 1 i
def dn03 (i : Fin 1024) : EReal := T.dn01 i + T.dnb 2 i + T.dnb 3 i
def dn05 (i : Fin 1024) : EReal := T.dn03 i + T.dnb 4 i + T.dnb 5 i
theorem dn_eq (i : Fin 1024) : T.dn05 i + T.dnb 6 i + T.dnb 7 i = T.dn i := (sum_blk8 fun j => T.f j * T.P.wd j i).symm
/-- The cotangent of the MLP's input from one block of the hidden layer, and its partial sums. -/
def dub (b : Fin 8) (i : Fin 1024) : EReal := ∑ k, T.dup (blk b k) * T.P.wu i (blk b k)
def du01 (i : Fin 1024) : EReal := T.dub 0 i + T.dub 1 i
def du04 (i : Fin 1024) : EReal := T.du01 i + T.dub 2 i + T.dub 3 i + T.dub 4 i
def du06 (i : Fin 1024) : EReal := T.du04 i + T.dub 5 i + T.dub 6 i
theorem du_eq (i : Fin 1024) : T.du06 i + T.dub 7 i = T.du i := (sum_blk8 fun j => T.dup j * T.P.wu i j).symm
end Tok

end Cert.Arr

namespace Cert.MlpIdeal.Val

open Cert.MlpIdeal Cert.MlpIdeal.Gen Cert.Arr
open Idealize.ShloMosaic

/-- The tokens of a tile: their sequence's parameters and their own rows. -/
abbrev tk (P : Par) (X : Fin 256 → Fin 1024 → EReal) (Y : Fin 256 → Fin 1536 → EReal) (Z : Fin 256 → Fin 1024 → EReal) (r : Fin 256) : Tok :=
  ⟨P, X r, Y r, Z r⟩

variable {P : Par} {X : Fin 256 → Fin 1024 → EReal} {Y : Fin 256 → Fin 1536 → EReal} {Z : Fin 256 → Fin 1024 → EReal}

/-- A row of the block of gates, shifts and scales. -/
theorem row_at {x3 : Vec Ideal S1x8x1024 .f32} {f : Fin 1024 → EReal} (k : Fin 8) (h : ∀ j, x3 (ValueIdx.ix3 0 k j) = f j)
    (off : Fin 2 → Nat) (ho : off = ![k.val, 0]) (hs : S8x1024.Slices off S1x1024) :
    Is (extractStridedSlice S1x1024 off (k0_pay4 (F := Ideal) x3) hs) (fun _ => f) := fun i j => by
  subst ho
  refine (extractStridedSlice_apply _ _ hs _ (ValueIdx.ix2 k j) fun a => ?_).trans ((cast_drop1 x3 _ _).trans (h j))
  match a with
  | ⟨0, _⟩ => show k.val = k.val + i.val; omega
  | ⟨1, _⟩ => show j.val = 0 + j.val; omega

section Slices
variable {x3 : Vec Ideal S1x8x1024 .f32} {f : Fin 1024 → EReal}
theorem pay5 (h : ∀ j, x3 (ValueIdx.ix3 0 2 j) = f j) : Is (k0_pay5 (F := Ideal) x3) (fun _ => f) :=
  row_at 2 h _ rfl slices_S8x1024_o2_0_S1x1024
theorem pay6 (h : ∀ j, x3 (ValueIdx.ix3 0 3 j) = f j) : Is (k0_pay6 (F := Ideal) x3) (fun _ => f) :=
  row_at 3 h _ rfl slices_S8x1024_o3_0_S1x1024
theorem pay7 (h : ∀ j, x3 (ValueIdx.ix3 0 4 j) = f j) : Is (k0_pay7 (F := Ideal) x3) (fun _ => f) :=
  row_at 4 h _ rfl slices_S8x1024_o4_0_S1x1024
theorem pay8 (h : ∀ j, x3 (ValueIdx.ix3 0 5 j) = f j) : Is (k0_pay8 (F := Ideal) x3) (fun _ => f) :=
  row_at 5 h _ rfl slices_S8x1024_o5_0_S1x1024
theorem pay12 (h : ∀ j, x3 (ValueIdx.ix3 0 2 j) = f j) : Is (k0_pay12 (F := Ideal) x3) (fun _ => f) :=
  (pay5 h).row broadcasts_S1x1024_S256x1024
end Slices

section Forward
variable {a x gm : FVec Ideal S256x1024 .f32} {sh sc : FVec Ideal S1x1024 .f32} {g : Vec Ideal S1x1024 .f32}
  (ha : Is a fun r => (tk P X Y Z r).a) (hx : Is x X) (hgm : Is gm fun _ => P.gm)
include ha hx hgm
theorem pay13 : Is (k0_pay13 a x gm) fun r => (tk P X Y Z r).h1 := hx.add (hgm.mul ha)
theorem pay14 : Is (k0_pay14 a x gm) fun r _ => (tk P X Y Z r).r2 :=
  ((((((pay13 ha hx hgm).mul (pay13 ha hx hgm)).rowSum _ _ _ _).div (Is.const c1024)).add (Is.const ceps)).rsqrt)
theorem pay15 : Is (k0_pay15 a x gm) fun r => (tk P X Y Z r).n2 := (pay13 ha hx hgm).mul ((pay14 ha hx hgm).col _)
theorem pay16 (hsh : Is sh fun _ => P.sh) (hsc : Is sc fun _ => P.sc) (hg : Is g fun _ => P.g) :
    Is (k0_pay16 sh sc g a x gm) fun r => (tk P X Y Z r).u :=
  ((((pay15 ha hx hgm).mul (hg.row _)).mul (((Is.const cone).add hsc).row _)).add (hsh.row _)).trunc _
end Forward

theorem pay10 {y : Vec Ideal S256x1536 .bf16} {w : Vec Ideal S1536x1024 .bf16} (hy : Is y Y) (hw : Is w P.wo) :
    Is (k0_pay10 y w) fun r => (tk P X Y Z r).a := (hy.self _).dot10 (hw.self _) _

section Hidden
variable {u : FVec Ideal S256x1024 .bf16} {wu : Vec Ideal S1x1024x512 .bf16} {wd : Vec Ideal S1x512x1024 .bf16} {b : Fin 8}
  (hu : Is u fun r => (tk P X Y Z r).u) (hwu : ∀ i j, wu (ValueIdx.ix3 0 i j) = (P.wu i (blk b j)))
  (hwd : ∀ i j, wd (ValueIdx.ix3 0 i j) = (P.wd (blk b i) j))
include hu hwu
/-- A block of the hidden layer after the ReLU. -/
theorem reluB : Is (k0_pay22 u wu) fun r j => (tk P X Y Z r).relu (blk b j) :=
  (hu.dot10 (Is.drop hwu _) _).max (Is.const czero)
theorem reluS : Is (k0_pay23 u wu) fun r j => (tk P X Y Z r).relu (blk b j) := (reluB hu hwu).self _
/-- A block of its squares. -/
theorem fB : Is (k0_pay24 u wu) fun r j => (tk P X Y Z r).f (blk b j) := ((reluB hu hwu).mul (reluB hu hwu)).trunc _
include hwd
/-- A block's part of the MLP's output. -/
theorem dnB : Is (k0_pay29 u wu wd) fun r => (tk P X Y Z r).dnb b := (fB hu hwu).dot10 (Is.drop hwd _) _
theorem pay25 {z d : FVec Ideal S256x1024 .f32} {f d' : Fin 256 → Fin 1024 → EReal} (hz : Is z f) (hd : Is d d') :
    Is (k0_pay25 u z d wu wd) fun r i => f r i + d' r i + (tk P X Y Z r).dnb b i := (hz.add hd).add (dnB hu hwu hwd)
end Hidden

section Head
variable {gf gfin : FVec Ideal S1x1024 .f32} {h1 d d' : FVec Ideal S256x1024 .f32} {u : FVec Ideal S256x1024 .bf16}
  {wu : Vec Ideal S1x1024x512 .bf16} {wd : Vec Ideal S1x512x1024 .bf16} {tg : Vec Ideal S256x1024 .f32}
  (hgf : Is gf fun _ => P.gf) (hh1 : Is h1 fun r => (tk P X Y Z r).h1) (hu : Is u fun r => (tk P X Y Z r).u)
  (hd : Is d fun r => (tk P X Y Z r).dn05) (hd' : Is d' fun r => (tk P X Y Z r).dnb 6)
  (hwu : ∀ i j, wu (ValueIdx.ix3 0 i j) = (P.wu i (blk 7 j)))
  (hwd : ∀ i j, wd (ValueIdx.ix3 0 i j) = (P.wd (blk 7 i) j))
include hu hd hd' hwu hwd
theorem pay49 : Is (k0_pay49 u d d' wu wd) fun r => (tk P X Y Z r).dn :=
  (pay25 hu hwu hwd hd hd').congr fun r i => (tk P X Y Z r).dn_eq i
include hgf hh1
theorem pay50 : Is (k0_pay50 gf h1 u d d' wu wd) fun r => (tk P X Y Z r).h2 := hh1.add ((hgf.row _).mul (pay49 hu hd hd' hwu hwd))
theorem pay51 : Is (k0_pay51 gf h1 u d d' wu wd) fun r _ => (tk P X Y Z r).r3 :=
  ((((((pay50 hgf hh1 hu hd hd' hwu hwd).mul (pay50 hgf hh1 hu hd hd' hwu hwd)).rowSum _ _ _ _).div (Is.const c1024)).add
    (Is.const ceps)).rsqrt)
theorem pay52 : Is (k0_pay52 gf h1 u d d' wu wd) fun r => (tk P X Y Z r).n3 :=
  (pay50 hgf hh1 hu hd hd' hwu hwd).mul ((pay51 hgf hh1 hu hd hd' hwu hwd).col _)
theorem pay53 (hgfin : Is gfin fun _ => P.gfin) (htg : Is tg Z) :
    Is (k0_pay53 gf gfin h1 u d d' wu wd tg) fun r => (tk P X Y Z r).err :=
  ((pay52 hgf hh1 hu hd hd' hwu hwd).mul (hgfin.row _)).sub (htg.self _)
theorem pay54 (hgfin : Is gfin fun _ => P.gfin) (htg : Is tg Z) :
    Is (k0_pay54 gf gfin h1 u d d' wu wd tg) fun r _ => ∑ k, (tk P X Y Z r).err k * (tk P X Y Z r).err k :=
  ((pay53 hgf hh1 hu hd hd' hwu hwd hgfin htg).mul (pay53 hgf hh1 hu hd hd' hwu hwd hgfin htg)).rowSum _ _ _ _
end Head

theorem pay56 {s : FVec Ideal S256x1 .f32} (hs : Is s fun r _ => ∑ k, (tk P X Y Z r).err k * (tk P X Y Z r).err k) :
    Is (k0_pay56 s (k0_pay55 (F := Ideal))) fun _ _ => half * ∑ r, (tk P X Y Z r).loss :=
  (Is.const chalf).mul ((hs.div (Is.const c1024)).colSum _ _ _ _)

section Back
variable {gf gfin : FVec Ideal S1x1024 .f32} {r3 : FVec Ideal S256x1 .f32} {n3 er dn : FVec Ideal S256x1024 .f32}
  (her : Is er fun r => (tk P X Y Z r).err) (hn3 : Is n3 fun r => (tk P X Y Z r).n3) (hgfin : Is gfin fun _ => P.gfin)
  (hr3 : Is r3 fun r _ => (tk P X Y Z r).r3)
include her
theorem pay57 : Is (k0_pay57 er) fun r => (tk P X Y Z r).dout := her.mul (Is.const c1024th)
include hn3
theorem pay58 : Is (k0_pay58 n3 er) fun _ j => ∑ r, (tk P X Y Z r).dgfin j := ((pay57 her).mul hn3).colSum _ _ _ _
include hgfin hr3
theorem pay59 : Is (k0_pay59 gfin r3 n3 er) fun r => (tk P X Y Z r).dh2 :=
  have e : Is (mulf (k0_pay57 er) (broadcastTo S256x1024 gfin broadcasts_S1x1024_S256x1024)) fun r => (tk P X Y Z r).e3 :=
    (pay57 her).mul (hgfin.row _)
  (hr3.col _).mul (e.sub (hn3.mul ((((e.mul hn3).rowSum _ _ _ _).div (Is.const c1024)).col _)))
theorem pay60 (hdn : Is dn fun r => (tk P X Y Z r).dn) :
    Is (k0_pay60 gfin dn r3 n3 er) fun _ j => ∑ r, (tk P X Y Z r).dgf j := ((pay59 her hn3 hgfin hr3).mul hdn).colSum _ _ _ _
theorem pay61 (hgf : Is gf fun _ => P.gf) : Is (k0_pay61 gf gfin r3 n3 er) fun r => (tk P X Y Z r).ddn :=
  ((hgf.row _).mul (pay59 her hn3 hgfin hr3)).trunc _
end Back

section HiddenBack
variable {ddn : FVec Ideal S256x1024 .bf16} {wu : Vec Ideal S1x1024x512 .bf16} {wd : Vec Ideal S1x512x1024 .bf16}
  {rl : Vec Ideal S256x512 .f32} {b : Fin 8}
  (hddn : Is ddn fun r => (tk P X Y Z r).ddn)
  (hwd : ∀ i j, wd (ValueIdx.ix3 0 i j) = (P.wd (blk b i) j))
  (hrl : Is rl fun r j => (tk P X Y Z r).relu (blk b j))
  (hwu : ∀ i j, wu (ValueIdx.ix3 0 i j) = (P.wu i (blk b j)))
include hddn hwd
theorem pay74 : Is (k0_pay74 ddn wd) fun r j => ∑ k, (tk P X Y Z r).ddn k * P.wd (blk b j) k := hddn.dot11 (Is.drop hwd _) _
include hrl
/-- A block of the hidden layer's cotangent. -/
theorem dupB : Is (k0_pay75 (k0_pay74 ddn wd) rl) fun r j => (tk P X Y Z r).dup (blk b j) :=
  ((pay74 hddn hwd).mul ((Is.const ctwo).mul hrl)).trunc _
end HiddenBack

/-- A block's part of the cotangent of the MLP's input. -/
theorem duB {dup : FVec Ideal S256x512 .bf16} {wu : Vec Ideal S1x1024x512 .bf16} {b : Fin 8}
    (hdup : Is dup fun r j => (tk P X Y Z r).dup (blk b j))
    (hwu : ∀ i j, wu (ValueIdx.ix3 0 i j) = (P.wu i (blk b j))) :
    Is (matmul dot_S256x512_S1024x512_S256x1024_1_1_0_0_n_n none dup (k0_pay67 wu) (constant S256x1024 .f32 0x00000000#32))
      fun r => (tk P X Y Z r).dub b := hdup.dot11 (Is.drop hwu _) _

section Tail
variable {sc : FVec Ideal S1x1024 .f32} {g : Vec Ideal S1x1024 .f32} {a n2 dh2 d : FVec Ideal S256x1024 .f32} {r2 : FVec Ideal S256x1 .f32}
  {dl : FVec Ideal S256x512 .f32} {rl : Vec Ideal S256x512 .f32} {wu : Vec Ideal S1x1024x512 .bf16}
  (hd : Is d fun r => (tk P X Y Z r).du06)
  (hdup : Is (k0_pay75 dl rl) fun r j => (tk P X Y Z r).dup (blk 7 j))
  (hwu : ∀ i j, wu (ValueIdx.ix3 0 i j) = (P.wu i (blk 7 j)))
  (hn2 : Is n2 fun r => (tk P X Y Z r).n2) (hg : Is g fun _ => P.g) (hsc : Is sc fun _ => P.sc)
  (hr2 : Is r2 fun r _ => (tk P X Y Z r).r2) (hdh2 : Is dh2 fun r => (tk P X Y Z r).dh2)
include hd hdup hwu
theorem pay76 : Is (k0_pay76 d dl rl wu) fun r => (tk P X Y Z r).du :=
  (hd.add (duB hdup hwu)).congr fun r i => (tk P X Y Z r).du_eq i
theorem pay78 : Is (k0_pay78 d dl rl wu) fun _ j => ∑ r, (tk P X Y Z r).du j := (pay76 hd hdup hwu).colSum _ _ _ _
include hn2
theorem pay77 (hg : Is g fun _ => P.g) : Is (k0_pay77 g n2 d dl rl wu) fun _ j => ∑ r, (tk P X Y Z r).dsc j :=
  ((pay76 hd hdup hwu).mul (hn2.mul (hg.row _))).colSum _ _ _ _
include hsc
theorem pay79 : Is (k0_pay79 sc n2 d dl rl wu) fun _ j => ∑ r, (tk P X Y Z r).dg j :=
  (((pay76 hd hdup hwu).mul (((Is.const cone).add hsc).row _)).mul hn2).colSum _ _ _ _
include hg hr2 hdh2
theorem pay80 : Is (k0_pay80 sc g r2 n2 dh2 d dl rl wu) fun r => (tk P X Y Z r).dh1 :=
  have e := (pay76 hd hdup hwu).mul (((hg.mul ((Is.const cone).add hsc))).row broadcasts_S1x1024_S256x1024)
  hdh2.add ((hr2.col _).mul (e.sub (hn2.mul ((((e.mul hn2).rowSum _ _ _ _).div (Is.const c1024)).col _))))
theorem pay81 (ha : Is a fun r => (tk P X Y Z r).a) : Is (k0_pay81 sc g a r2 n2 dh2 d dl rl wu) fun r => (tk P X Y Z r).dgm :=
  (pay80 hd hdup hwu hn2 hg hsc hr2 hdh2).mul ha
end Tail

theorem pay82 {gm : FVec Ideal S1x1024 .f32} {dh1 : FVec Ideal S256x1024 .f32} (hgm : Is gm fun _ => P.gm)
    (hdh1 : Is dh1 fun r => (tk P X Y Z r).dh1) : Is (k0_pay82 gm dh1) fun r => (tk P X Y Z r).da := ((hgm.row _).mul hdh1).trunc _

theorem pay83 {gm : FVec Ideal S1x1024 .f32} {dh1 : FVec Ideal S256x1024 .f32} {w : Vec Ideal S1536x1024 .bf16} (hgm : Is gm fun _ => P.gm)
    (hdh1 : Is dh1 fun r => (tk P X Y Z r).dh1) (hw : Is w P.wo) : Is (k0_pay83 gm dh1 w) fun r => (tk P X Y Z r).dy :=
  ((pay82 hgm hdh1).dot11 (hw.self _) _).trunc _

/-- The gates' gradient after the tile: what was there, and the tile's sums in rows 2 to 5. -/
theorem pay84 {v1 v2 v3 : FVec Ideal S1x1024 .f32} {e : FVec Ideal S256x1024 .f32} {old : Vec Ideal S1x8x1024 .f32}
    {D : Fin 8 → Fin 1024 → EReal} (hgf : Is v1 fun _ j => ∑ r, (tk P X Y Z r).dgf j) (hsc : Is v2 fun _ j => ∑ r, (tk P X Y Z r).dsc j)
    (hsh : Is v3 fun _ j => ∑ r, (tk P X Y Z r).du j) (hgm : Is e fun r => (tk P X Y Z r).dgm)
    (hold : ∀ k j, old (ValueIdx.ix3 0 k j) = D k j) (k : Fin 8) (j : Fin 1024) :
    k0_pay84 v1 v2 v3 e old (ValueIdx.ix3 0 k j) = (D k j + ∑ r, (tk P X Y Z r).mrow k j) := by
  have hz : Is (broadcast (α := Ideal .f32) S2x1024 (Scalar.ofBits .f32 0x00000000#32)) fun _ _ => 0 := Is.const czero
  unfold k0_pay84
  dsimp only
  refine (cast_add1 (m := 8) (n := 1024) _ _ _).trans ((Is.add (Is.drop hold _) (g := fun k j => ∑ r, (tk P X Y Z r).mrow k j) ?_) k j)
  intro k j
  have h0 : ∑ r : Fin 256, (0 : EReal) = 0 := Finset.sum_const_zero
  match k with
  | 0 => exact (cat_row _ _ 0 j 0 (by simp) _ rfl 0 rfl).trans ((hz 0 j).trans h0.symm)
  | 1 => exact (cat_row _ _ 1 j 0 (by simp) _ rfl 1 rfl).trans ((hz 0 j).trans h0.symm)
  | 2 => exact (cat_row _ _ 2 j 1 (by simp) _ rfl 0 rfl).trans ((hgm.colSum _ _ _ _) 0 j)
  | 3 => exact (cat_row _ _ 3 j 2 (by simp) _ rfl 0 rfl).trans (hsh 0 j)
  | 4 => exact (cat_row _ _ 4 j 3 (by simp) _ rfl 0 rfl).trans (hsc 0 j)
  | 5 => exact (cat_row _ _ 5 j 4 (by simp) _ rfl 0 rfl).trans (hgf 0 j)
  | 6 => exact (cat_row _ _ 6 j 5 (by simp) _ rfl 0 rfl).trans ((hz 0 j).trans h0.symm)
  | 7 => exact (cat_row _ _ 7 j 5 (by simp) _ rfl 1 rfl).trans ((hz 0 j).trans h0.symm)

/-- The tile's sums for the norms' weights and the loss, in rows 0 to 2. -/
theorem pay86 {l : FVec Ideal S1x1 .f32} {v1 v2 : FVec Ideal S1x1024 .f32} (hl : Is l fun _ _ => half * ∑ r, (tk P X Y Z r).loss)
    (hgfin : Is v1 fun _ j => ∑ r, (tk P X Y Z r).dgfin j) (hg : Is v2 fun _ j => ∑ r, (tk P X Y Z r).dg j) :
    Is (k0_pay86 l v1 v2) fun k j => ∑ r, (tk P X Y Z r).arow k j := by
  have hz : Is (broadcast (α := Ideal .f32) S5x1024 (Scalar.ofBits .f32 0x00000000#32)) fun _ _ => 0 := Is.const czero
  have h0 : ∑ r : Fin 256, (0 : EReal) = 0 := Finset.sum_const_zero
  have hl' : Is (mulf (broadcastTo S1x1024 l broadcasts_S1x1_S1x1024) (broadcast S1x1024 (Scalar.ofBits .f32 0x3F800000#32)))
      fun _ _ => ∑ r, half * (tk P X Y Z r).loss :=
    ((hl.col _).mul (Is.const cone)).congr fun _ _ => by rw [mul_one, half_sum]
  unfold k0_pay86
  dsimp only
  intro k j
  match k with
  | 0 => exact (cat_row _ _ 0 j 0 (by simp) _ rfl 0 rfl).trans (hg 0 j)
  | 1 => exact (cat_row _ _ 1 j 1 (by simp) _ rfl 0 rfl).trans (hgfin 0 j)
  | 2 => exact (cat_row _ _ 2 j 2 (by simp) _ rfl 0 rfl).trans (hl' 0 j)
  | 3 => exact (cat_row _ _ 3 j 3 (by simp) _ rfl 0 rfl).trans ((hz 0 j).trans h0.symm)
  | 4 => exact (cat_row _ _ 4 j 3 (by simp) _ rfl 1 rfl).trans ((hz 0 j).trans h0.symm)
  | 5 => exact (cat_row _ _ 5 j 3 (by simp) _ rfl 2 rfl).trans ((hz 0 j).trans h0.symm)
  | 6 => exact (cat_row _ _ 6 j 3 (by simp) _ rfl 3 rfl).trans ((hz 0 j).trans h0.symm)
  | 7 => exact (cat_row _ _ 7 j 3 (by simp) _ rfl 4 rfl).trans ((hz 0 j).trans h0.symm)

/-- The accumulated sums after the tile. -/
theorem pay1 {old new : FVec Ideal S8x1024 .f32} {D E : Fin 8 → Fin 1024 → EReal} (ho : Is old D) (hn : Is new E) :
    Is (k0_pay1 (k0_pay85 old) new) fun k j => D k j + E k j := (ho.self _).add hn

end Cert.MlpIdeal.Val

end
-- ==== Proof.MlpRun.lean ====
/-
  One grid point of `mlp_fused`: each block the body leaves holds the numbers of the model, at the 256 tokens of the
  point's tile.
-/
module

public import proofs.«01_k».proof.Proof.MlpPay
public import proofs.«01_k».proof.Proof.Gen.MlpIdeal.Value
public import Idealize.ShloMosaic.Lib.Tactic

@[expose] public section

set_option maxRecDepth 16384

noncomputable section

namespace Cert.MlpIdeal.Val

open Cert.MlpIdeal Cert.MlpIdeal.Gen Cert.MlpIdeal.Value Cert.Arr
open Idealize.ShloMosaic Idealize.ShloMosaic.TcCoe Idealize.SL.Sem

/-- A load of one of the eight blocks of a weight. -/
theorem rd3 {m n : Nat} {arg : Memref sig .tc .vmem ⟨3, ![8, m, n]⟩ .bf16} (h : arg.IsWhole)
    (x : Vec Ideal ⟨3, ![8, m, n]⟩ .bf16) (b : Fin 8) (off : Fin 3 → Nat) (ho : off = ![b.val, 0, 0])
    (inb : ∀ a : Fin 3, off a + (![1, m, n] : Fin 3 → Nat) a ≤ (![8, m, n] : Fin 3 → Nat) a) {f : Fin m → Fin n → EReal}
    (hx : ∀ i j, x (ValueIdx.ix3 b i j) = f i j) (i : Fin m) (j : Fin n) :
    View.readAt (Elt Ideal) arg.view (Rect.unit (s := ⟨3, ![8, m, n]⟩) off ![1, m, n] inb).toLoadRect (h.unread x) (ValueIdx.ix3 0 i j)
      = f i j := by
  subst ho
  rw [View.readAt_eq_ld, h.read_unread]
  refine (View.ld_unit_apply_of x _ _ inb _ (ValueIdx.ix3 b i j) fun a => ?_).trans (hx i j)
  match a with
  | ⟨0, _⟩ => rfl
  | ⟨1, _⟩ => show i.val = 0 + i.val; omega
  | ⟨2, _⟩ => show j.val = 0 + j.val; omega

/-- A load of one block of 512 columns of the scratch, once what was stored there is known. -/
theorem rd_scr {v : View sig .tc .vmem S256x4096 .f32} {L : List (View.Piece (Elt Ideal) S256x4096 .f32)} {G : Fin 256 → Fin 4096 → EReal}
    (hL : Is (View.canon L) G) (b : Fin 8) (off : Fin 2 → Nat) (ho : off = ![0, 512 * b.val])
    (inb : ∀ a : Fin 2, off a + S256x512.size a ≤ S256x4096.size a) :
    Is (v.readCov L (Rect.unit (s := S256x4096) off S256x512.size inb).toLoadRect) fun r j => G r (blk b j) := by
  subst ho
  intro r j
  rw [View.readCov_eq_canon']
  refine (hL.at_idx _).trans (congrArg₂ G (Fin.ext ?_) (Fin.ext ?_))
  · refine (Rect.idx_unit_val (s := S256x4096) _ _ inb _ (0 : Fin 2)).trans ?_
    show 0 + r.val = r.val; omega
  · refine (Rect.idx_unit_val (s := S256x4096) _ _ inb _ (1 : Fin 2)).trans ?_
    rfl

/-- Column `c` lies in the block of 512 columns that starts at `o`. -/
theorem mem_blk (r : Fin 256) (c : Fin 4096) (o : Nat) (h : o ≤ c.val ∧ c.val < o + 512)
    (inb : ∀ a : Fin 2, (![0, o] : Fin 2 → Nat) a + (![256, 512] : Fin 2 → Nat) a ≤ S256x4096.size a) :
    (ValueIdx.ix2 r c : S256x4096.Idx) ∈ (Rect.unit (s := S256x4096) ![0, o] ![256, 512] inb).set := by
  rw [Rect.mem_set_unit]
  intro a
  match a with
  | ⟨0, _⟩ => show 0 ≤ r.val ∧ r.val < 0 + 256; omega
  | ⟨1, _⟩ => exact h

/-- Eight blocks of 512 columns, the last stored first in the list: the buffer they make. -/
theorem canon8 {e : EltTy} {w0 w1 w2 w3 w4 w5 w6 w7 : Vec Ideal S256x512 e} (g : Fin 256 → Fin 4096 → Elt Ideal e)
    (h0 : ∀ r j, w0 (ValueIdx.ix2 r j) = g r (blk 0 j)) (h1 : ∀ r j, w1 (ValueIdx.ix2 r j) = g r (blk 1 j))
    (h2 : ∀ r j, w2 (ValueIdx.ix2 r j) = g r (blk 2 j)) (h3 : ∀ r j, w3 (ValueIdx.ix2 r j) = g r (blk 3 j))
    (h4 : ∀ r j, w4 (ValueIdx.ix2 r j) = g r (blk 4 j)) (h5 : ∀ r j, w5 (ValueIdx.ix2 r j) = g r (blk 5 j))
    (h6 : ∀ r j, w6 (ValueIdx.ix2 r j) = g r (blk 6 j)) (h7 : ∀ r j, w7 (ValueIdx.ix2 r j) = g r (blk 7 j)) (r : Fin 256) (c : Fin 4096) :
    View.canon (Val := Elt Ideal) (s := S256x4096) (e := e)
      [⟨Rect.unit ![0, 3584] ![256, 512] inb_S256x4096_S256x512_0_3584, w7⟩, ⟨Rect.unit ![0, 3072] ![256, 512] inb_S256x4096_S256x512_0_3072, w6⟩,
       ⟨Rect.unit ![0, 2560] ![256, 512] inb_S256x4096_S256x512_0_2560, w5⟩, ⟨Rect.unit ![0, 2048] ![256, 512] inb_S256x4096_S256x512_0_2048, w4⟩,
       ⟨Rect.unit ![0, 1536] ![256, 512] inb_S256x4096_S256x512_0_1536, w3⟩, ⟨Rect.unit ![0, 1024] ![256, 512] inb_S256x4096_S256x512_0_1024, w2⟩,
       ⟨Rect.unit ![0, 512] ![256, 512] inb_S256x4096_S256x512_0_512, w1⟩, ⟨Rect.unit ![0, 0] ![256, 512] inb_S256x4096_S256x512_0_0, w0⟩]
      (ValueIdx.ix2 r c) = g r c := by
  have piece : ∀ (b : Fin 8) (o : Nat) (ho : o = 512 * b.val) (inb : ∀ a : Fin 2, (![0, o] : Fin 2 → Nat) a + (![256, 512] : Fin 2 → Nat) a ≤ S256x4096.size a)
      (w : Vec Ideal S256x512 e) (hw : ∀ r j, w (ValueIdx.ix2 r j) = g r (blk b j)) (x : S256x512.Idx),
      w x = ((fun y : S256x4096.Idx => g (y 0) (y 1)) ((Rect.unit (s := S256x4096) ![0, o] ![256, 512] inb).emb x)) := by
    intro b o ho inb w hw x
    subst ho
    refine (congrArg w (ext2 (m := 256) (n := 512) (x := x) (y := ValueIdx.ix2 (x 0) (x 1)) rfl rfl)).trans ((hw (x 0) (x 1)).trans (congrArg₂ g (Fin.ext ?_) (Fin.ext ?_)))
    · refine Eq.trans ?_ (Rect.idx_unit_val (s := S256x4096) _ _ inb x (0 : Fin 2)).symm
      show (x 0).val = 0 + (x 0).val; omega
    · exact (Rect.idx_unit_val (s := S256x4096) _ _ inb x (1 : Fin 2)).symm
  refine View.canon_apply_of_pieces (Val := Elt Ideal) (e := e) (fun y : S256x4096.Idx => g (y 0) (y 1)) _ ?_ (ValueIdx.ix2 r c) ?_
  · intro p hp
    simp only [List.mem_cons, List.not_mem_nil, or_false] at hp
    rcases hp with rfl | rfl | rfl | rfl | rfl | rfl | rfl | rfl
    · exact piece 7 3584 rfl inb_S256x4096_S256x512_0_3584 w7 h7
    · exact piece 6 3072 rfl inb_S256x4096_S256x512_0_3072 w6 h6
    · exact piece 5 2560 rfl inb_S256x4096_S256x512_0_2560 w5 h5
    · exact piece 4 2048 rfl inb_S256x4096_S256x512_0_2048 w4 h4
    · exact piece 3 1536 rfl inb_S256x4096_S256x512_0_1536 w3 h3
    · exact piece 2 1024 rfl inb_S256x4096_S256x512_0_1024 w2 h2
    · exact piece 1 512 rfl inb_S256x4096_S256x512_0_512 w1 h1
    · exact piece 0 0 rfl inb_S256x4096_S256x512_0_0 w0 h0
  · have hc := c.isLt
    by_cases c7 : 3584 ≤ c.val
    · exact ⟨_, .head _, mem_blk r c 3584 (by omega) inb_S256x4096_S256x512_0_3584⟩
    by_cases c6 : 3072 ≤ c.val
    · exact ⟨_, .tail _ (.head _), mem_blk r c 3072 (by omega) inb_S256x4096_S256x512_0_3072⟩
    by_cases c5 : 2560 ≤ c.val
    · exact ⟨_, .tail _ (.tail _ (.head _)), mem_blk r c 2560 (by omega) inb_S256x4096_S256x512_0_2560⟩
    by_cases c4 : 2048 ≤ c.val
    · exact ⟨_, .tail _ (.tail _ (.tail _ (.head _))), mem_blk r c 2048 (by omega) inb_S256x4096_S256x512_0_2048⟩
    by_cases c3 : 1536 ≤ c.val
    · exact ⟨_, .tail _ (.tail _ (.tail _ (.tail _ (.head _)))), mem_blk r c 1536 (by omega) inb_S256x4096_S256x512_0_1536⟩
    by_cases c2 : 1024 ≤ c.val
    · exact ⟨_, .tail _ (.tail _ (.tail _ (.tail _ (.tail _ (.head _))))), mem_blk r c 1024 (by omega) inb_S256x4096_S256x512_0_1024⟩
    by_cases c1 : 512 ≤ c.val
    · exact ⟨_, .tail _ (.tail _ (.tail _ (.tail _ (.tail _ (.tail _ (.head _)))))), mem_blk r c 512 (by omega) inb_S256x4096_S256x512_0_512⟩
    · exact ⟨_, .tail _ (.tail _ (.tail _ (.tail _ (.tail _ (.tail _ (.tail _ (.head _))))))), mem_blk r c 0 (by omega) inb_S256x4096_S256x512_0_0⟩

/-- What the blocks of a grid point hold: the rows of the tile's tokens and their sequence's parameters. -/
structure Blocks (x0 : Vec Ideal S256x1024 .f32) (x1 : Vec Ideal S256x1536 .bf16) (x2 : Vec Ideal S256x1024 .f32)
    (x3 : Vec Ideal S1x8x1024 .f32) (x4 x5 : Vec Ideal S1x1024 .f32) (x6 : Vec Ideal S1536x1024 .bf16)
    (x7 : Vec Ideal S8x1024x512 .bf16) (x8 : Vec Ideal S8x512x1024 .bf16)
    (P : Par) (X : Fin 256 → Fin 1024 → EReal) (Y : Fin 256 → Fin 1536 → EReal) (Z : Fin 256 → Fin 1024 → EReal) : Prop where
  h0 : Is x0 X
  h1 : Is x1 Y
  h2 : Is x2 Z
  gm : ∀ j, x3 (ValueIdx.ix3 0 2 j) = P.gm j
  sh : ∀ j, x3 (ValueIdx.ix3 0 3 j) = P.sh j
  sc : ∀ j, x3 (ValueIdx.ix3 0 4 j) = P.sc j
  gf : ∀ j, x3 (ValueIdx.ix3 0 5 j) = P.gf j
  h4 : Is x4 fun _ => P.g
  h5 : Is x5 fun _ => P.gfin
  h6 : Is x6 P.wo
  h7 : ∀ b i j, x7 (ValueIdx.ix3 b i j) = (P.wu i (blk b j))
  h8 : ∀ b i j, x8 (ValueIdx.ix3 b i j) = (P.wd (blk b i) j)

set_option maxHeartbeats 4000000 in
/-- What a point that starts neither the run nor a sequence leaves: the tile's rows, and the sums with the tile's added. -/
theorem point
  (c : Dev nD) (i : grid0.Coords) (arg1 : Memref sig .tc .vmem S256x1024 .f32) (harg1 : arg1.IsWhole)
  (arg2 : Memref sig .tc .vmem S256x1536 .bf16) (harg2 : arg2.IsWhole) (arg3 : Memref sig .tc .vmem S256x1024 .f32)
  (harg3 : arg3.IsWhole) (arg4 : Memref sig .tc .vmem S1x8x1024 .f32) (harg4 : arg4.IsWhole)
  (arg5 : Memref sig .tc .vmem S1x1024 .f32) (harg5 : arg5.IsWhole) (arg6 : Memref sig .tc .vmem S1x1024 .f32)
  (harg6 : arg6.IsWhole) (arg7 : Memref sig .tc .vmem S1536x1024 .bf16) (harg7 : arg7.IsWhole)
  (arg8 : Memref sig .tc .vmem S8x1024x512 .bf16) (harg8 : arg8.IsWhole)
  (arg9 : Memref sig .tc .vmem S8x512x1024 .bf16) (harg9 : arg9.IsWhole)
  (arg10 : Memref sig .tc .vmem S256x1024 .bf16) (harg10 : arg10.IsWhole)
  (arg11 : Memref sig .tc .vmem S256x1536 .bf16) (harg11 : arg11.IsWhole)
  (arg12 : Memref sig .tc .vmem S256x1024 .f32) (harg12 : arg12.IsWhole)
  (arg13 : Memref sig .tc .vmem S256x1024 .bf16) (harg13 : arg13.IsWhole)
  (arg14 : Memref sig .tc .vmem S256x4096 .bf16) (harg14 : arg14.IsWhole)
  (arg15 : Memref sig .tc .vmem S256x4096 .bf16) (harg15 : arg15.IsWhole)
  (arg16 : Memref sig .tc .vmem S256x1024 .bf16) (harg16 : arg16.IsWhole)
  (arg17 : Memref sig .tc .vmem S1x8x1024 .f32) (harg17 : arg17.IsWhole) (arg18 : Memref sig .tc .vmem S8x1024 .f32)
  (harg18 : arg18.IsWhole) (arg19 : Memref sig .tc .vmem S256x4096 .f32) (harg19 : arg19.IsWhole) (hc0 : ¬cond0_0 i)
  (hc1 : ¬cond0_1 i) (x0 : Vec Ideal S256x1024 .f32) (x1 : Vec Ideal S256x1536 .bf16) (x2 : Vec Ideal S256x1024 .f32)
  (x3 : Vec Ideal S1x8x1024 .f32) (x4 : Vec Ideal S1x1024 .f32) (x5 : Vec Ideal S1x1024 .f32)
  (x6 : Vec Ideal S1536x1024 .bf16) (x7 : Vec Ideal S8x1024x512 .bf16) (x8 : Vec Ideal S8x512x1024 .bf16)
  (xo16 : Vec Ideal S1x8x1024 .f32) (xo17 : Vec Ideal S8x1024 .f32)
  {P : Par} {X : Fin 256 → Fin 1024 → EReal} {Y : Fin 256 → Fin 1536 → EReal} {Z : Fin 256 → Fin 1024 → EReal}
  (hb : Blocks x0 x1 x2 x3 x4 x5 x6 x7 x8 P X Y Z) :
    Is (out0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 xo16 xo17) (fun r => (tk P X Y Z r).da)
      ∧ Is (out0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 xo16 xo17) (fun r => (tk P X Y Z r).dy)
      ∧ Is (out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 xo16 xo17) (fun r => (tk P X Y Z r).dh1)
      ∧ Is (out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 xo16 xo17) (fun r => (tk P X Y Z r).u)
      ∧ Is (out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 xo16 xo17) (fun r => (tk P X Y Z r).f)
      ∧ Is (out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 xo16 xo17) (fun r => (tk P X Y Z r).dup)
      ∧ Is (out0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 xo16 xo17) (fun r => (tk P X Y Z r).ddn)
      ∧ Is (kernelRun0_B.sl.r_28 c arg1 harg1 arg2 harg2 arg3 harg3 arg4 harg4 arg5 harg5 arg6 harg6 arg7 harg7 arg8 harg8 arg9 harg9 x0 x1 x2 x3 x4 x5 x6 x7 x8) (fun _ j => ∑ r, (tk P X Y Z r).dgf j)
      ∧ Is (kernelRun0_B.sl.r_38 c arg1 harg1 arg2 harg2 arg3 harg3 arg4 harg4 arg5 harg5 arg6 harg6 arg7 harg7 arg8 harg8 arg9 harg9 arg19 x0 x1 x2 x3 x4 x5 x6 x7 x8) (fun _ j => ∑ r, (tk P X Y Z r).dsc j)
      ∧ Is (kernelRun0_B.sl.r_39 c arg1 harg1 arg2 harg2 arg3 harg3 arg4 harg4 arg5 harg5 arg6 harg6 arg7 harg7 arg8 harg8 arg9 harg9 arg19 x0 x1 x2 x3 x4 x5 x6 x7 x8) (fun _ j => ∑ r, (tk P X Y Z r).du j)
      ∧ Is (kernelRun0_B.sl.r_42 c arg1 harg1 arg2 harg2 arg3 harg3 arg4 harg4 arg5 harg5 arg6 harg6 arg7 harg7 arg8 harg8 arg9 harg9 arg19 x0 x1 x2 x3 x4 x5 x6 x7 x8) (fun r => (tk P X Y Z r).dgm)
      ∧ Is (kernelRun0_B.sl.r_44 c arg1 harg1 arg2 harg2 arg3 harg3 arg4 harg4 arg5 harg5 arg6 harg6 arg7 harg7 arg8 harg8 arg9 harg9 arg19 x0 x1 x2 x3 x4 x5 x6 x7 x8) (fun k j => ∑ r, (tk P X Y Z r).arow k j) := by
  have e0 : Is (View.readAt (Elt Ideal) arg1.view (Rect.unit ![0, 0] S256x1024.size inb_S256x1024_S256x1024_0_0).toLoadRect (harg1.unread x0)) (X) := by
    rw [rd_whole harg1 x0 z2]; exact hb.h0
  have e1 : Is (View.readAt (Elt Ideal) arg2.view (Rect.unit ![0, 0] S256x1536.size inb_S256x1536_S256x1536_0_0).toLoadRect (harg2.unread x1)) (Y) := by
    rw [rd_whole harg2 x1 z2]; exact hb.h1
  have e2 : Is (View.readAt (Elt Ideal) arg3.view (Rect.unit ![0, 0] S256x1024.size inb_S256x1024_S256x1024_0_0).toLoadRect (harg3.unread x2)) (Z) := by
    rw [rd_whole harg3 x2 z2]; exact hb.h2
  have e4 : Is (View.readAt (Elt Ideal) arg5.view (Rect.unit ![0, 0] S1x1024.size inb_S1x1024_S1x1024_0_0).toLoadRect (harg5.unread x4)) (fun _ => P.g) := by
    rw [rd_whole harg5 x4 z2]; exact hb.h4
  have e5 : Is (View.readAt (Elt Ideal) arg6.view (Rect.unit ![0, 0] S1x1024.size inb_S1x1024_S1x1024_0_0).toLoadRect (harg6.unread x5)) (fun _ => P.gfin) := by
    rw [rd_whole harg6 x5 z2]; exact hb.h5
  have e6 : Is (View.readAt (Elt Ideal) arg7.view (Rect.unit ![0, 0] S1536x1024.size inb_S1536x1024_S1536x1024_0_0).toLoadRect (harg7.unread x6)) (P.wo) := by
    rw [rd_whole harg7 x6 z2]; exact hb.h6
  have w3 := rd_whole harg4 x3 z3 inb_S1x8x1024_S1x8x1024_0_0_0
  have gm : ∀ j, View.readAt (Elt Ideal) arg4.view (Rect.unit ![0, 0, 0] S1x8x1024.size inb_S1x8x1024_S1x8x1024_0_0_0).toLoadRect
      (harg4.unread x3) (ValueIdx.ix3 0 2 j) = P.gm j := by rw [w3]; exact hb.gm
  have sh : ∀ j, View.readAt (Elt Ideal) arg4.view (Rect.unit ![0, 0, 0] S1x8x1024.size inb_S1x8x1024_S1x8x1024_0_0_0).toLoadRect
      (harg4.unread x3) (ValueIdx.ix3 0 3 j) = P.sh j := by rw [w3]; exact hb.sh
  have sc : ∀ j, View.readAt (Elt Ideal) arg4.view (Rect.unit ![0, 0, 0] S1x8x1024.size inb_S1x8x1024_S1x8x1024_0_0_0).toLoadRect
      (harg4.unread x3) (ValueIdx.ix3 0 4 j) = P.sc j := by rw [w3]; exact hb.sc
  have gf : ∀ j, View.readAt (Elt Ideal) arg4.view (Rect.unit ![0, 0, 0] S1x8x1024.size inb_S1x8x1024_S1x8x1024_0_0_0).toLoadRect
      (harg4.unread x3) (ValueIdx.ix3 0 5 j) = P.gf j := by rw [w3]; exact hb.gf
  have u0 := rd3 harg8 x7 0 _ rfl inb_S8x1024x512_S1x1024x512_0_0_0 fun i j => hb.h7 0 i j
  have d0 := rd3 harg9 x8 0 _ rfl inb_S8x512x1024_S1x512x1024_0_0_0 fun i j => hb.h8 0 i j
  have u1 := rd3 harg8 x7 1 _ rfl inb_S8x1024x512_S1x1024x512_1_0_0 fun i j => hb.h7 1 i j
  have d1 := rd3 harg9 x8 1 _ rfl inb_S8x512x1024_S1x512x1024_1_0_0 fun i j => hb.h8 1 i j
  have u2 := rd3 harg8 x7 2 _ rfl inb_S8x1024x512_S1x1024x512_2_0_0 fun i j => hb.h7 2 i j
  have d2 := rd3 harg9 x8 2 _ rfl inb_S8x512x1024_S1x512x1024_2_0_0 fun i j => hb.h8 2 i j
  have u3 := rd3 harg8 x7 3 _ rfl inb_S8x1024x512_S1x1024x512_3_0_0 fun i j => hb.h7 3 i j
  have d3 := rd3 harg9 x8 3 _ rfl inb_S8x512x1024_S1x512x1024_3_0_0 fun i j => hb.h8 3 i j
  have u4 := rd3 harg8 x7 4 _ rfl inb_S8x1024x512_S1x1024x512_4_0_0 fun i j => hb.h7 4 i j
  have d4 := rd3 harg9 x8 4 _ rfl inb_S8x512x1024_S1x512x1024_4_0_0 fun i j => hb.h8 4 i j
  have u5 := rd3 harg8 x7 5 _ rfl inb_S8x1024x512_S1x1024x512_5_0_0 fun i j => hb.h7 5 i j
  have d5 := rd3 harg9 x8 5 _ rfl inb_S8x512x1024_S1x512x1024_5_0_0 fun i j => hb.h8 5 i j
  have u6 := rd3 harg8 x7 6 _ rfl inb_S8x1024x512_S1x1024x512_6_0_0 fun i j => hb.h7 6 i j
  have d6 := rd3 harg9 x8 6 _ rfl inb_S8x512x1024_S1x512x1024_6_0_0 fun i j => hb.h8 6 i j
  have u7 := rd3 harg8 x7 7 _ rfl inb_S8x1024x512_S1x1024x512_7_0_0 fun i j => hb.h7 7 i j
  have d7 := rd3 harg9 x8 7 _ rfl inb_S8x512x1024_S1x512x1024_7_0_0 fun i j => hb.h8 7 i j
  have a := pay10 (X := X) (Z := Z) e1 e6
  have x := e0.self shapeCasts_S256x1024_S256x1024
  have h1 := pay13 a x (pay12 gm)
  have r2 := pay14 a x (pay12 gm)
  have n2 := pay15 a x (pay12 gm)
  have u := pay16 a x (pay12 gm) (pay6 sh) (pay7 sc) e4
  have dn01 : Is _ fun r => (tk P X Y Z r).dn01 := pay25 u u1 d1 (Is.const (m := 256) (n := 1024) czero) (dnB u u0 d0) |>.congr fun r i => by
    show 0 + _ + _ = _; rw [zero_add]; rfl
  have dn03 : Is _ fun r => (tk P X Y Z r).dn03 := pay25 u u3 d3 dn01 (dnB u u2 d2)
  have dn05 : Is _ fun r => (tk P X Y Z r).dn05 := pay25 u u5 d5 dn03 (dnB u u4 d4)
  have dn6 := dnB u u6 d6
  have dn := pay49 u dn05 dn6 u7 d7
  have r3 := pay51 (pay8 gf) h1 u dn05 dn6 u7 d7
  have n3 := pay52 (pay8 gf) h1 u dn05 dn6 u7 d7
  have gfin := e5.self shapeCasts_S1x1024_S1x1024
  have er := pay53 (pay8 gf) h1 u dn05 dn6 u7 d7 gfin e2
  have los := pay56 (pay54 (pay8 gf) h1 u dn05 dn6 u7 d7 gfin e2)
  have dh2 := pay59 er n3 gfin r3
  have ddn := pay61 er n3 gfin r3 (pay8 gf)
  have hs : Is (View.canon (kernelRun0_B.sl.HS0_8 c arg1 harg1 arg2 harg2 arg4 harg4 arg5 harg5 arg7 harg7 arg8 harg8 x0 x1 x3 x4 x6 x7))
      fun r => (tk P X Y Z r).relu :=
    canon8 (e := .f32) (fun r j => ((tk P X Y Z r).relu j)) (reluS u u0) (reluS u u1) (reluS u u2) (reluS u u3) (reluS u u4) (reluS u u5) (reluS u u6) (reluS u u7)
  have p0 := dupB ddn d0 (rd_scr (v := arg19.view) hs 0 _ rfl inb_S256x4096_S256x512_0_0)
  have p1 := dupB ddn d1 (rd_scr (v := arg19.view) hs 1 _ rfl inb_S256x4096_S256x512_0_512)
  have p2 := dupB ddn d2 (rd_scr (v := arg19.view) hs 2 _ rfl inb_S256x4096_S256x512_0_1024)
  have p3 := dupB ddn d3 (rd_scr (v := arg19.view) hs 3 _ rfl inb_S256x4096_S256x512_0_1536)
  have p4 := dupB ddn d4 (rd_scr (v := arg19.view) hs 4 _ rfl inb_S256x4096_S256x512_0_2048)
  have p5 := dupB ddn d5 (rd_scr (v := arg19.view) hs 5 _ rfl inb_S256x4096_S256x512_0_2560)
  have p6 := dupB ddn d6 (rd_scr (v := arg19.view) hs 6 _ rfl inb_S256x4096_S256x512_0_3072)
  have p7 := dupB ddn d7 (rd_scr (v := arg19.view) hs 7 _ rfl inb_S256x4096_S256x512_0_3584)
  have du01 := ((Is.const (m := 256) (n := 1024) czero).add (duB p0 u0)).add (duB p1 u1) |>.congr (g := fun r => (tk P X Y Z r).du01) fun r i => by
    show 0 + _ + _ = _; rw [zero_add]; rfl
  have du04 : Is _ fun r => (tk P X Y Z r).du04 := ((du01.add (duB p2 u2)).add (duB p3 u3)).add (duB p4 u4)
  have du06 : Is _ fun r => (tk P X Y Z r).du06 := (du04.add (duB p5 u5)).add (duB p6 u6)
  have dh1 := pay80 du06 p7 u7 n2 e4 (pay7 sc) r2 dh2
  refine ⟨?_, ?_, ?_, ?_, ?_, ?_, ?_, pay60 er n3 gfin r3 dn, pay77 du06 p7 u7 n2 e4, pay78 du06 p7 u7,
    pay81 du06 p7 u7 n2 e4 (pay7 sc) r2 dh2 a, pay86 los (pay58 er n3) (pay79 du06 p7 u7 n2 (pay7 sc))⟩
  · unfold out0_B_9
    rw [View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 xo16 xo17)]
    unfold kernelRun0_B
    dsimp only
    rw [View.canon_unit_zero z2]
    exact pay82 (pay5 gm) dh1
  · unfold out0_B_10
    rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 xo16 xo17)]
    unfold kernelRun0_B
    dsimp only
    rw [View.canon_unit_zero z2]
    exact pay83 (pay5 gm) dh1 e6
  · unfold out0_B_11
    rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 xo16 xo17)]
    unfold kernelRun0_B
    dsimp only
    rw [View.canon_unit_zero z2]
    exact dh1
  · unfold out0_B_12
    rw [View.read_writes_eq_canon _ _ _ (cover0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 xo16 xo17)]
    unfold kernelRun0_B
    dsimp only
    rw [View.canon_unit_zero z2]
    exact u
  · unfold out0_B_13
    rw [View.read_writes_eq_canon _ _ _ (cover0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 xo16 xo17)]
    unfold kernelRun0_B
    dsimp only
    exact canon8 (e := .bf16) (fun r j => ((tk P X Y Z r).f j)) (fB u u0) (fB u u1) (fB u u2) (fB u u3) (fB u u4) (fB u u5) (fB u u6) (fB u u7)
  · unfold out0_B_14
    rw [View.read_writes_eq_canon _ _ _ (cover0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 xo16 xo17)]
    unfold kernelRun0_B
    dsimp only
    exact canon8 (e := .bf16) (fun r j => ((tk P X Y Z r).dup j)) p0 p1 p2 p3 p4 p5 p6 p7
  · unfold out0_B_15
    rw [View.read_writes_eq_canon _ _ _ (cover0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 xo16 xo17)]
    unfold kernelRun0_B
    dsimp only
    rw [View.canon_unit_zero z2]
    exact ddn

end Cert.MlpIdeal.Val

end
-- ==== Proof.MlpLeft.lean ====
/-
  What each of the three kinds of grid point of `mlp_fused` leaves in its nine result blocks: the rows of its tile, and
  the two blocks of running sums.
-/
module

public import proofs.«01_k».proof.Proof.MlpRun

@[expose] public section

set_option maxRecDepth 16384

noncomputable section

namespace Cert.MlpIdeal.Val

open Cert.MlpIdeal Cert.MlpIdeal.Gen Cert.MlpIdeal.Value Cert.Arr
open Idealize.ShloMosaic Idealize.ShloMosaic.TcCoe Idealize.SL.Sem

/-- The nine blocks a point leaves, its running sums being `Dm` and `Da` before it. -/
structure Left (o9 : Vec Ideal S256x1024 .bf16) (o10 : Vec Ideal S256x1536 .bf16) (o11 : Vec Ideal S256x1024 .f32) (o12 : Vec Ideal S256x1024 .bf16)
    (o13 o14 : Vec Ideal S256x4096 .bf16) (o15 : Vec Ideal S256x1024 .bf16) (o16 : Vec Ideal S1x8x1024 .f32) (o17 : Vec Ideal S8x1024 .f32)
    (P : Par) (X : Fin 256 → Fin 1024 → EReal) (Y : Fin 256 → Fin 1536 → EReal) (Z : Fin 256 → Fin 1024 → EReal)
    (Dm Da : Fin 8 → Fin 1024 → EReal) : Prop where
  da : Is o9 fun r => (tk P X Y Z r).da
  dy : Is o10 fun r => (tk P X Y Z r).dy
  dh1 : Is o11 fun r => (tk P X Y Z r).dh1
  u : Is o12 fun r => (tk P X Y Z r).u
  f : Is o13 fun r => (tk P X Y Z r).f
  dup : Is o14 fun r => (tk P X Y Z r).dup
  ddn : Is o15 fun r => (tk P X Y Z r).ddn
  mrow : ∀ k j, o16 (ValueIdx.ix3 0 k j) = (Dm k j + ∑ r, (tk P X Y Z r).mrow k j)
  arow : Is o17 fun k j => Da k j + ∑ r, (tk P X Y Z r).arow k j

set_option maxHeartbeats 1000000 in
/-- A point that starts neither the run nor a sequence. -/
theorem leftB
  (c : Dev nD) (i : grid0.Coords) (arg1 : Memref sig .tc .vmem S256x1024 .f32) (harg1 : arg1.IsWhole) (arg2 : Memref sig
    .tc .vmem S256x1536 .bf16) (harg2 : arg2.IsWhole) (arg3 : Memref sig .tc .vmem S256x1024 .f32) (harg3 : arg3.IsWhole)
    (arg4 : Memref sig .tc .vmem S1x8x1024 .f32) (harg4 : arg4.IsWhole) (arg5 : Memref sig .tc .vmem S1x1024 .f32) (harg5 :
    arg5.IsWhole) (arg6 : Memref sig .tc .vmem S1x1024 .f32) (harg6 : arg6.IsWhole) (arg7 : Memref sig .tc .vmem S1536x1024
    .bf16) (harg7 : arg7.IsWhole) (arg8 : Memref sig .tc .vmem S8x1024x512 .bf16) (harg8 : arg8.IsWhole) (arg9 : Memref sig
    .tc .vmem S8x512x1024 .bf16) (harg9 : arg9.IsWhole) (arg10 : Memref sig .tc .vmem S256x1024 .bf16) (harg10 :
    arg10.IsWhole) (arg11 : Memref sig .tc .vmem S256x1536 .bf16) (harg11 : arg11.IsWhole) (arg12 : Memref sig .tc .vmem
    S256x1024 .f32) (harg12 : arg12.IsWhole) (arg13 : Memref sig .tc .vmem S256x1024 .bf16) (harg13 : arg13.IsWhole) (arg14 :
    Memref sig .tc .vmem S256x4096 .bf16) (harg14 : arg14.IsWhole) (arg15 : Memref sig .tc .vmem S256x4096 .bf16) (harg15 :
    arg15.IsWhole) (arg16 : Memref sig .tc .vmem S256x1024 .bf16) (harg16 : arg16.IsWhole) (arg17 : Memref sig .tc .vmem
    S1x8x1024 .f32) (harg17 : arg17.IsWhole) (arg18 : Memref sig .tc .vmem S8x1024 .f32) (harg18 : arg18.IsWhole) (arg19 :
    Memref sig .tc .vmem S256x4096 .f32) (harg19 : arg19.IsWhole) (hc0 : ¬cond0_0 i) (hc1 : ¬cond0_1 i)     (x0 : Vec Ideal
    S256x1024 .f32) (x1 : Vec Ideal S256x1536 .bf16) (x2 : Vec Ideal S256x1024 .f32) (x3 : Vec Ideal S1x8x1024 .f32) (x4 :
    Vec Ideal S1x1024 .f32) (x5 : Vec Ideal S1x1024 .f32) (x6 : Vec Ideal S1536x1024 .bf16) (x7 : Vec Ideal S8x1024x512
    .bf16) (x8 : Vec Ideal S8x512x1024 .bf16) (xo16 : Vec Ideal S1x8x1024 .f32) (xo17 : Vec Ideal S8x1024 .f32)
    {P : Par} {X : Fin 256 → Fin 1024 → EReal} {Y : Fin 256 → Fin 1536 → EReal} {Z : Fin 256 → Fin 1024 → EReal} {Dm : Fin 8 → Fin 1024 →
    EReal} {Da : Fin 8 → Fin 1024 → EReal}
    (hb : Blocks x0 x1 x2 x3 x4 x5 x6 x7 x8 P X Y Z)
    (hm : ∀ k j, xo16 (ValueIdx.ix3 0 k j) = Dm k j)
    (ha : Is xo17 Da) :
    Left (out0_B_9 c i arg1 harg1 arg2 harg2 arg3 harg3 arg4 harg4 arg5 harg5 arg6 harg6 arg7 harg7 arg8 harg8 arg9 harg9 arg10
      harg10 arg11 harg11 arg12 harg12 arg13 harg13 arg14 harg14 arg15 harg15 arg16 harg16 arg17 harg17 arg18 harg18 arg19
      harg19 hc0 hc1 x0 x1 x2 x3 x4 x5 x6 x7 x8 xo16 xo17) (out0_B_10 c i arg1 harg1 arg2 harg2 arg3 harg3 arg4 harg4 arg5
      harg5 arg6 harg6 arg7 harg7 arg8 harg8 arg9 harg9 arg10 harg10 arg11 harg11 arg12 harg12 arg13 harg13 arg14 harg14
      arg15 harg15 arg16 harg16 arg17 harg17 arg18 harg18 arg19 harg19 hc0 hc1 x0 x1 x2 x3 x4 x5 x6 x7 x8 xo16 xo17)
      (out0_B_11 c i arg1 harg1 arg2 harg2 arg3 harg3 arg4 harg4 arg5 harg5 arg6 harg6 arg7 harg7 arg8 harg8 arg9 harg9 arg10
      harg10 arg11 harg11 arg12 harg12 arg13 harg13 arg14 harg14 arg15 harg15 arg16 harg16 arg17 harg17 arg18 harg18 arg19
      harg19 hc0 hc1 x0 x1 x2 x3 x4 x5 x6 x7 x8 xo16 xo17) (out0_B_12 c i arg1 harg1 arg2 harg2 arg3 harg3 arg4 harg4 arg5
      harg5 arg6 harg6 arg7 harg7 arg8 harg8 arg9 harg9 arg10 harg10 arg11 harg11 arg12 harg12 arg13 harg13 arg14 harg14
      arg15 harg15 arg16 harg16 arg17 harg17 arg18 harg18 arg19 harg19 hc0 hc1 x0 x1 x2 x3 x4 x5 x6 x7 x8 xo16 xo17)
      (out0_B_13 c i arg1 harg1 arg2 harg2 arg3 harg3 arg4 harg4 arg5 harg5 arg6 harg6 arg7 harg7 arg8 harg8 arg9 harg9 arg10
      harg10 arg11 harg11 arg12 harg12 arg13 harg13 arg14 harg14 arg15 harg15 arg16 harg16 arg17 harg17 arg18 harg18 arg19
      harg19 hc0 hc1 x0 x1 x2 x3 x4 x5 x6 x7 x8 xo16 xo17) (out0_B_14 c i arg1 harg1 arg2 harg2 arg3 harg3 arg4 harg4 arg5
      harg5 arg6 harg6 arg7 harg7 arg8 harg8 arg9 harg9 arg10 harg10 arg11 harg11 arg12 harg12 arg13 harg13 arg14 harg14
      arg15 harg15 arg16 harg16 arg17 harg17 arg18 harg18 arg19 harg19 hc0 hc1 x0 x1 x2 x3 x4 x5 x6 x7 x8 xo16 xo17)
      (out0_B_15 c i arg1 harg1 arg2 harg2 arg3 harg3 arg4 harg4 arg5 harg5 arg6 harg6 arg7 harg7 arg8 harg8 arg9 harg9 arg10
      harg10 arg11 harg11 arg12 harg12 arg13 harg13 arg14 harg14 arg15 harg15 arg16 harg16 arg17 harg17 arg18 harg18 arg19
      harg19 hc0 hc1 x0 x1 x2 x3 x4 x5 x6 x7 x8 xo16 xo17) (out0_B_16 c i arg1 harg1 arg2 harg2 arg3 harg3 arg4 harg4 arg5
      harg5 arg6 harg6 arg7 harg7 arg8 harg8 arg9 harg9 arg10 harg10 arg11 harg11 arg12 harg12 arg13 harg13 arg14 harg14
      arg15 harg15 arg16 harg16 arg17 harg17 arg18 harg18 arg19 harg19 hc0 hc1 x0 x1 x2 x3 x4 x5 x6 x7 x8 xo16 xo17)
      (out0_B_17 c i arg1 harg1 arg2 harg2 arg3 harg3 arg4 harg4 arg5 harg5 arg6 harg6 arg7 harg7 arg8 harg8 arg9 harg9 arg10
      harg10 arg11 harg11 arg12 harg12 arg13 harg13 arg14 harg14 arg15 harg15 arg16 harg16 arg17 harg17 arg18 harg18 arg19
      harg19 hc0 hc1 x0 x1 x2 x3 x4 x5 x6 x7 x8 xo16 xo17) P X Y Z Dm Da := by
  obtain ⟨p9, p10, p11, p12, p13, p14, p15, s1, s2, s3, s4, s5⟩ :=
    point c i arg1 harg1 arg2 harg2 arg3 harg3 arg4 harg4 arg5 harg5 arg6 harg6 arg7 harg7 arg8 harg8 arg9 harg9 arg10
      harg10 arg11 harg11 arg12 harg12 arg13 harg13 arg14 harg14 arg15 harg15 arg16 harg16 arg17 harg17 arg18 harg18 arg19
      harg19 hc0 hc1 x0 x1 x2 x3 x4 x5 x6 x7 x8 xo16 xo17 hb
  refine ⟨p9, p10, p11, p12, p13, p14, p15, fun k j => ?_, fun k j => ?_⟩
  · unfold out0_B_16
    rw [View.read_writes_eq_canon _ _ _ (cover0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 xo16 xo17)]
    unfold kernelRun0_B
    dsimp only
    rw [View.canon_unit_zero z3]
    exact pay84 s1 s2 s3 s4 (fun k j => by rw [rd_whole harg17 xo16 z3]; exact hm k j) k j
  · unfold out0_B_17
    rw [View.read_writes_eq_canon _ _ _ (cover0_B_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 xo16 xo17)]
    unfold kernelRun0_B
    dsimp only
    rw [View.canon_unit_zero z2]
    exact pay1 (by rw [rd_whole harg18 xo17 z2]; exact ha) s5 k j

set_option maxHeartbeats 1000000 in
/-- The first point of the second sequence: its own sums start from zero. -/
theorem leftC
  (c : Dev nD) (i : grid0.Coords) (arg1 : Memref sig .tc .vmem S256x1024 .f32) (harg1 : arg1.IsWhole) (arg2 : Memref sig
    .tc .vmem S256x1536 .bf16) (harg2 : arg2.IsWhole) (arg3 : Memref sig .tc .vmem S256x1024 .f32) (harg3 : arg3.IsWhole)
    (arg4 : Memref sig .tc .vmem S1x8x1024 .f32) (harg4 : arg4.IsWhole) (arg5 : Memref sig .tc .vmem S1x1024 .f32) (harg5 :
    arg5.IsWhole) (arg6 : Memref sig .tc .vmem S1x1024 .f32) (harg6 : arg6.IsWhole) (arg7 : Memref sig .tc .vmem S1536x1024
    .bf16) (harg7 : arg7.IsWhole) (arg8 : Memref sig .tc .vmem S8x1024x512 .bf16) (harg8 : arg8.IsWhole) (arg9 : Memref sig
    .tc .vmem S8x512x1024 .bf16) (harg9 : arg9.IsWhole) (arg10 : Memref sig .tc .vmem S256x1024 .bf16) (harg10 :
    arg10.IsWhole) (arg11 : Memref sig .tc .vmem S256x1536 .bf16) (harg11 : arg11.IsWhole) (arg12 : Memref sig .tc .vmem
    S256x1024 .f32) (harg12 : arg12.IsWhole) (arg13 : Memref sig .tc .vmem S256x1024 .bf16) (harg13 : arg13.IsWhole) (arg14 :
    Memref sig .tc .vmem S256x4096 .bf16) (harg14 : arg14.IsWhole) (arg15 : Memref sig .tc .vmem S256x4096 .bf16) (harg15 :
    arg15.IsWhole) (arg16 : Memref sig .tc .vmem S256x1024 .bf16) (harg16 : arg16.IsWhole) (arg17 : Memref sig .tc .vmem
    S1x8x1024 .f32) (harg17 : arg17.IsWhole) (arg18 : Memref sig .tc .vmem S8x1024 .f32) (harg18 : arg18.IsWhole) (arg19 :
    Memref sig .tc .vmem S256x4096 .f32) (harg19 : arg19.IsWhole) (hc0 : ¬cond0_0 i) (hc1 : cond0_1 i)     (x0 : Vec Ideal
    S256x1024 .f32) (x1 : Vec Ideal S256x1536 .bf16) (x2 : Vec Ideal S256x1024 .f32) (x3 : Vec Ideal S1x8x1024 .f32) (x4 :
    Vec Ideal S1x1024 .f32) (x5 : Vec Ideal S1x1024 .f32) (x6 : Vec Ideal S1536x1024 .bf16) (x7 : Vec Ideal S8x1024x512
    .bf16) (x8 : Vec Ideal S8x512x1024 .bf16) (xo17 : Vec Ideal S8x1024 .f32)
    {P : Par} {X : Fin 256 → Fin 1024 → EReal} {Y : Fin 256 → Fin 1536 → EReal} {Z : Fin 256 → Fin 1024 → EReal} {Da : Fin 8 → Fin 1024 →
    EReal}
    (hb : Blocks x0 x1 x2 x3 x4 x5 x6 x7 x8 P X Y Z)
    (ha : Is xo17 Da) :
    Left (out0_C_9 c i arg1 harg1 arg2 harg2 arg3 harg3 arg4 harg4 arg5 harg5 arg6 harg6 arg7 harg7 arg8 harg8 arg9 harg9 arg10
      harg10 arg11 harg11 arg12 harg12 arg13 harg13 arg14 harg14 arg15 harg15 arg16 harg16 arg17 harg17 arg18 harg18 arg19
      harg19 hc0 hc1 x0 x1 x2 x3 x4 x5 x6 x7 x8 xo17) (out0_C_10 c i arg1 harg1 arg2 harg2 arg3 harg3 arg4 harg4 arg5 harg5
      arg6 harg6 arg7 harg7 arg8 harg8 arg9 harg9 arg10 harg10 arg11 harg11 arg12 harg12 arg13 harg13 arg14 harg14 arg15
      harg15 arg16 harg16 arg17 harg17 arg18 harg18 arg19 harg19 hc0 hc1 x0 x1 x2 x3 x4 x5 x6 x7 x8 xo17) (out0_C_11 c i arg1
      harg1 arg2 harg2 arg3 harg3 arg4 harg4 arg5 harg5 arg6 harg6 arg7 harg7 arg8 harg8 arg9 harg9 arg10 harg10 arg11 harg11
      arg12 harg12 arg13 harg13 arg14 harg14 arg15 harg15 arg16 harg16 arg17 harg17 arg18 harg18 arg19 harg19 hc0 hc1 x0 x1
      x2 x3 x4 x5 x6 x7 x8 xo17) (out0_C_12 c i arg1 harg1 arg2 harg2 arg3 harg3 arg4 harg4 arg5 harg5 arg6 harg6 arg7 harg7
      arg8 harg8 arg9 harg9 arg10 harg10 arg11 harg11 arg12 harg12 arg13 harg13 arg14 harg14 arg15 harg15 arg16 harg16 arg17
      harg17 arg18 harg18 arg19 harg19 hc0 hc1 x0 x1 x2 x3 x4 x5 x6 x7 x8 xo17) (out0_C_13 c i arg1 harg1 arg2 harg2 arg3
      harg3 arg4 harg4 arg5 harg5 arg6 harg6 arg7 harg7 arg8 harg8 arg9 harg9 arg10 harg10 arg11 harg11 arg12 harg12 arg13
      harg13 arg14 harg14 arg15 harg15 arg16 harg16 arg17 harg17 arg18 harg18 arg19 harg19 hc0 hc1 x0 x1 x2 x3 x4 x5 x6 x7 x8
      xo17) (out0_C_14 c i arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 arg18 harg18
      arg19 harg19 hc0 hc1 x0 x1 x2 x3 x4 x5 x6 x7 x8 xo17) (out0_C_15 c i arg1 harg1 arg2 harg2 arg3 harg3 arg4 harg4 arg5
      harg5 arg6 harg6 arg7 harg7 arg8 harg8 arg9 harg9 arg10 harg10 arg11 harg11 arg12 harg12 arg13 harg13 arg14 harg14
      arg15 harg15 arg16 harg16 arg17 harg17 arg18 harg18 arg19 harg19 hc0 hc1 x0 x1 x2 x3 x4 x5 x6 x7 x8 xo17) (out0_C_16 c
      i arg1 harg1 arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19 hc0 hc1
      x0 x1 x2 x3 x4 x5 x6 x7 x8 xo17) (out0_C_17 c i arg1 harg1 arg2 harg2 arg3 harg3 arg4 harg4 arg5 harg5 arg6 harg6 arg7
      harg7 arg8 harg8 arg9 harg9 arg10 harg10 arg11 harg11 arg12 harg12 arg13 harg13 arg14 harg14 arg15 harg15 arg16 harg16
      arg17 harg17 arg18 harg18 arg19 harg19 hc0 hc1 x0 x1 x2 x3 x4 x5 x6 x7 x8 xo17) P X Y Z (fun _ _ => 0) Da := by
  have n0 : ¬cond0_0 (grid0.coords ⟨1, by decide⟩) := by decide
  have n1 : ¬cond0_1 (grid0.coords ⟨1, by decide⟩) := by decide
  have zero17 : ∀ k j, kernelRun0_C.sl.v375 (F := Ideal) c arg17 (ValueIdx.ix3 0 k j) = 0 := fun k j => by
    unfold kernelRun0_C.sl.v375 kernelRun0_C.sl.H16_1
    rw [readCov_last (S := S1x8x1024) _ z3]
    exact czero
  obtain ⟨p9, p10, p11, p12, p13, p14, p15, s1, s2, s3, s4, s5⟩ :=
    point c _ arg1 harg1 arg2 harg2 arg3 harg3 arg4 harg4 arg5 harg5 arg6 harg6 arg7 harg7 arg8 harg8 arg9 harg9 arg10
      harg10 arg11 harg11 arg12 harg12 arg13 harg13 arg14 harg14 arg15 harg15 arg16 harg16 arg17 harg17 arg18 harg18 arg19
      harg19 n0 n1 x0 x1 x2 x3 x4 x5 x6 x7 x8 (k0_pay3 (F := Ideal)) xo17 hb
  refine ⟨p9, p10, p11, p12, p13, p14, p15, fun k j => ?_, fun k j => ?_⟩
  · unfold out0_C_16
    rw [View.read_writes_eq_canon _ _ _ (cover0_C_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 xo17)]
    unfold kernelRun0_C
    dsimp only
    rw [View.canon_cons_unit_zero z3]
    exact pay84 (old := kernelRun0_C.sl.v375 c arg17) (D := fun _ _ => 0) s1 s2 s3 s4 (fun k j => zero17 k j) k j
  · unfold out0_C_17
    rw [View.read_writes_eq_canon _ _ _ (cover0_C_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 xo17)]
    unfold kernelRun0_C
    dsimp only
    rw [View.canon_unit_zero z2]
    exact pay1 (by rw [rd_whole harg18 xo17 z2]; exact ha) s5 k j

set_option maxHeartbeats 1000000 in
/-- The first point of the run: all sums start from zero. -/
theorem leftA
  (c : Dev nD) (i : grid0.Coords) (arg1 : Memref sig .tc .vmem S256x1024 .f32) (harg1 : arg1.IsWhole) (arg2 : Memref sig
    .tc .vmem S256x1536 .bf16) (harg2 : arg2.IsWhole) (arg3 : Memref sig .tc .vmem S256x1024 .f32) (harg3 : arg3.IsWhole)
    (arg4 : Memref sig .tc .vmem S1x8x1024 .f32) (harg4 : arg4.IsWhole) (arg5 : Memref sig .tc .vmem S1x1024 .f32) (harg5 :
    arg5.IsWhole) (arg6 : Memref sig .tc .vmem S1x1024 .f32) (harg6 : arg6.IsWhole) (arg7 : Memref sig .tc .vmem S1536x1024
    .bf16) (harg7 : arg7.IsWhole) (arg8 : Memref sig .tc .vmem S8x1024x512 .bf16) (harg8 : arg8.IsWhole) (arg9 : Memref sig
    .tc .vmem S8x512x1024 .bf16) (harg9 : arg9.IsWhole) (arg10 : Memref sig .tc .vmem S256x1024 .bf16) (harg10 :
    arg10.IsWhole) (arg11 : Memref sig .tc .vmem S256x1536 .bf16) (harg11 : arg11.IsWhole) (arg12 : Memref sig .tc .vmem
    S256x1024 .f32) (harg12 : arg12.IsWhole) (arg13 : Memref sig .tc .vmem S256x1024 .bf16) (harg13 : arg13.IsWhole) (arg14 :
    Memref sig .tc .vmem S256x4096 .bf16) (harg14 : arg14.IsWhole) (arg15 : Memref sig .tc .vmem S256x4096 .bf16) (harg15 :
    arg15.IsWhole) (arg16 : Memref sig .tc .vmem S256x1024 .bf16) (harg16 : arg16.IsWhole) (arg17 : Memref sig .tc .vmem
    S1x8x1024 .f32) (harg17 : arg17.IsWhole) (arg18 : Memref sig .tc .vmem S8x1024 .f32) (harg18 : arg18.IsWhole) (arg19 :
    Memref sig .tc .vmem S256x4096 .f32) (harg19 : arg19.IsWhole) (hc0 : cond0_0 i) (hc1 : cond0_1 i)     (x0 : Vec Ideal
    S256x1024 .f32) (x1 : Vec Ideal S256x1536 .bf16) (x2 : Vec Ideal S256x1024 .f32) (x3 : Vec Ideal S1x8x1024 .f32) (x4 :
    Vec Ideal S1x1024 .f32) (x5 : Vec Ideal S1x1024 .f32) (x6 : Vec Ideal S1536x1024 .bf16) (x7 : Vec Ideal S8x1024x512
    .bf16) (x8 : Vec Ideal S8x512x1024 .bf16)
    {P : Par} {X : Fin 256 → Fin 1024 → EReal} {Y : Fin 256 → Fin 1536 → EReal} {Z : Fin 256 → Fin 1024 → EReal}
    (hb : Blocks x0 x1 x2 x3 x4 x5 x6 x7 x8 P X Y Z) :
    Left (out0_A_9 c i arg1 harg1 arg2 harg2 arg3 harg3 arg4 harg4 arg5 harg5 arg6 harg6 arg7 harg7 arg8 harg8 arg9 harg9 arg10
      harg10 arg11 harg11 arg12 harg12 arg13 harg13 arg14 harg14 arg15 harg15 arg16 harg16 arg17 harg17 arg18 harg18 arg19
      harg19 hc0 hc1 x0 x1 x2 x3 x4 x5 x6 x7 x8) (out0_A_10 c i arg1 harg1 arg2 harg2 arg3 harg3 arg4 harg4 arg5 harg5 arg6
      harg6 arg7 harg7 arg8 harg8 arg9 harg9 arg10 harg10 arg11 harg11 arg12 harg12 arg13 harg13 arg14 harg14 arg15 harg15
      arg16 harg16 arg17 harg17 arg18 harg18 arg19 harg19 hc0 hc1 x0 x1 x2 x3 x4 x5 x6 x7 x8) (out0_A_11 c i arg1 harg1 arg2
      harg2 arg3 harg3 arg4 harg4 arg5 harg5 arg6 harg6 arg7 harg7 arg8 harg8 arg9 harg9 arg10 harg10 arg11 harg11 arg12
      harg12 arg13 harg13 arg14 harg14 arg15 harg15 arg16 harg16 arg17 harg17 arg18 harg18 arg19 harg19 hc0 hc1 x0 x1 x2 x3
      x4 x5 x6 x7 x8) (out0_A_12 c i arg1 harg1 arg2 harg2 arg3 harg3 arg4 harg4 arg5 harg5 arg6 harg6 arg7 harg7 arg8 harg8
      arg9 harg9 arg10 harg10 arg11 harg11 arg12 harg12 arg13 harg13 arg14 harg14 arg15 harg15 arg16 harg16 arg17 harg17
      arg18 harg18 arg19 harg19 hc0 hc1 x0 x1 x2 x3 x4 x5 x6 x7 x8) (out0_A_13 c i arg1 harg1 arg2 harg2 arg3 harg3 arg4
      harg4 arg5 harg5 arg6 harg6 arg7 harg7 arg8 harg8 arg9 harg9 arg10 harg10 arg11 harg11 arg12 harg12 arg13 harg13 arg14
      harg14 arg15 harg15 arg16 harg16 arg17 harg17 arg18 harg18 arg19 harg19 hc0 hc1 x0 x1 x2 x3 x4 x5 x6 x7 x8) (out0_A_14
      c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19 harg19
      hc0 hc1 x0 x1 x2 x3 x4 x5 x6 x7 x8) (out0_A_15 c i arg1 harg1 arg2 harg2 arg3 harg3 arg4 harg4 arg5 harg5 arg6 harg6
      arg7 harg7 arg8 harg8 arg9 harg9 arg10 harg10 arg11 harg11 arg12 harg12 arg13 harg13 arg14 harg14 arg15 harg15 arg16
      harg16 arg17 harg17 arg18 harg18 arg19 harg19 hc0 hc1 x0 x1 x2 x3 x4 x5 x6 x7 x8) (out0_A_16 c i arg1 harg1 arg2 harg2
      arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 hc0 hc1 x0 x1 x2 x3 x4 x5 x6
      x7 x8) (out0_A_17 c i arg1 harg1 arg2 harg2 arg3 harg3 arg4 harg4 arg5 harg5 arg6 harg6 arg7 harg7 arg8 harg8 arg9
      harg9 arg10 harg10 arg11 harg11 arg12 harg12 arg13 harg13 arg14 harg14 arg15 harg15 arg16 harg16 arg17 harg17 arg18
      harg18 arg19 harg19 hc0 hc1 x0 x1 x2 x3 x4 x5 x6 x7 x8) P X Y Z (fun _ _ => 0) (fun _ _ => 0) := by
  have n0 : ¬cond0_0 (grid0.coords ⟨1, by decide⟩) := by decide
  have n1 : ¬cond0_1 (grid0.coords ⟨1, by decide⟩) := by decide
  have zero17 : ∀ k j, kernelRun0_A.sl.v375 (F := Ideal) c arg17 (ValueIdx.ix3 0 k j) = 0 := fun k j => by
    unfold kernelRun0_A.sl.v375 kernelRun0_A.sl.H16_1
    rw [readCov_last (S := S1x8x1024) _ z3]
    exact czero
  have zero18 : Is (kernelRun0_A.sl.v384 (F := Ideal) c arg18) fun _ _ => 0 := fun k j => by
    unfold kernelRun0_A.sl.v384 kernelRun0_A.sl.H17_1
    rw [readCov_last (S := S8x1024) _ z2]
    exact czero
  obtain ⟨p9, p10, p11, p12, p13, p14, p15, s1, s2, s3, s4, s5⟩ :=
    point c _ arg1 harg1 arg2 harg2 arg3 harg3 arg4 harg4 arg5 harg5 arg6 harg6 arg7 harg7 arg8 harg8 arg9 harg9 arg10
      harg10 arg11 harg11 arg12 harg12 arg13 harg13 arg14 harg14 arg15 harg15 arg16 harg16 arg17 harg17 arg18 harg18 arg19
      harg19 n0 n1 x0 x1 x2 x3 x4 x5 x6 x7 x8 (k0_pay3 (F := Ideal)) (k0_pay2 (F := Ideal)) hb
  refine ⟨p9, p10, p11, p12, p13, p14, p15, fun k j => ?_, fun k j => ?_⟩
  · unfold out0_A_16
    rw [View.read_writes_eq_canon _ _ _ (cover0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8)]
    unfold kernelRun0_A
    dsimp only
    rw [View.canon_cons_unit_zero z3]
    exact pay84 (old := kernelRun0_A.sl.v375 c arg17) (D := fun _ _ => 0) s1 s2 s3 s4 (fun k j => zero17 k j) k j
  · unfold out0_A_17
    rw [View.read_writes_eq_canon _ _ _ (cover0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8)]
    unfold kernelRun0_A
    dsimp only
    rw [View.canon_cons_unit_zero z2]
    have h := pay1 (old := kernelRun0_A.sl.v384 (F := Ideal) c arg18) (D := fun _ _ => 0) zero18 s5
    exact h k j

end Cert.MlpIdeal.Val

end
-- ==== Proof.MlpKernel.lean ====
/-
  What `mlp_fused` leaves in its nine arrays: each token's rows in the row-tiled
  arrays, and the sums over the tokens of each sequence and over all of them in the two others. The blocks of each point
  are tiles of the arguments, the sums are carried from one point to the next, and the blocks written make the arrays.
-/
module

public import proofs.«01_k».proof.Proof.MlpArgs
public import proofs.«01_k».proof.Proof.MlpHost
public import proofs.«01_k».proof.Proof.MlpLeft
public import Idealize.ShloMosaic.Lib.KernelVsHost

@[expose] public section

set_option maxRecDepth 16384

noncomputable section

namespace Cert.MlpIdeal.Val

open Cert.MlpIdeal Cert.MlpIdeal.Gen Cert.MlpIdeal.Value Cert.Arr
open Idealize.ShloMosaic Idealize.ShloMosaic.TcCoe Idealize.SL.Sem
open Idealize.ShloMosaic.Pipeline (Dat)

/-- Where the windows of the arguments stand at point `t`. -/
theorem idx_in : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val / 8 ∧ win0_3.index t 1 = 0 ∧ win0_3.index t 2 = 0)
    ∧ (win0_4.index t 0 = 0 ∧ win0_4.index t 1 = 0) ∧ (win0_5.index t 0 = 0 ∧ win0_5.index t 1 = 0)
    ∧ (win0_6.index t 0 = 0 ∧ win0_6.index t 1 = 0) ∧ (win0_7.index t 0 = 0 ∧ win0_7.index t 1 = 0 ∧ win0_7.index t 2 = 0)
    ∧ (win0_8.index t 0 = 0 ∧ win0_8.index t 1 = 0 ∧ win0_8.index t 2 = 0) :=
  (by decide +kernel : ∀ t : Fin grid0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val / 8 ∧ win0_3.index t 1 = 0 ∧ win0_3.index t 2 = 0)
    ∧ (win0_4.index t 0 = 0 ∧ win0_4.index t 1 = 0) ∧ (win0_5.index t 0 = 0 ∧ win0_5.index t 1 = 0)
    ∧ (win0_6.index t 0 = 0 ∧ win0_6.index t 1 = 0) ∧ (win0_7.index t 0 = 0 ∧ win0_7.index t 1 = 0 ∧ win0_7.index t 2 = 0)
    ∧ (win0_8.index t 0 = 0 ∧ win0_8.index t 1 = 0 ∧ win0_8.index t 2 = 0))

variable (m : (ℓ : Loc nD τ sig) → Buf (Elt Ideal) ℓ) (c : Dev nD) (A : Args)

/-- The arguments of the call hold `A`. -/
abbrev Holds : Prop :=
  Reads A (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- The parameters and the rows of tile `n`. -/
abbrev tP (n : ℕ) : Par := A.par (Args.seq (256 * n))
abbrev tX (n : ℕ) (r : Fin 256) : Fin 1024 → EReal := (A.row (256 * n + r.val)).x
abbrev tY (n : ℕ) (r : Fin 256) : Fin 1536 → EReal := (A.row (256 * n + r.val)).y
abbrev tZ (n : ℕ) (r : Fin 256) : Fin 1024 → EReal := (A.row (256 * n + r.val)).tg

/-- A tile's tokens all belong to the sequence of its first. -/
theorem tk_row (n : ℕ) (r : Fin 256) : tk (tP A n) (tX A n) (tY A n) (tZ A n) r = A.row (256 * n + r.val) := by
  have h : Args.seq (256 * n) = Args.seq (256 * n + r.val) := Fin.ext (by
    show 256 * n / 2048 % 2 = (256 * n + r.val) / 2048 % 2
    omega)
  show Tok.mk (A.par (Args.seq (256 * n))) _ _ _ = _
  rw [h]
  rfl

variable {m c A}

theorem lt16 (t : Fin cfg0.N) : t.val < 16 := t.isLt.trans_eq N_0

/-- The blocks that point `t` reads are the tile's rows and the parameters of its sequence. -/
theorem blocks (h : Holds m c A) (t : Fin cfg0.N) :
    Blocks (iblk m c 0 t) (iblk m c 1 t) (iblk m c 2 t) (iblk m c 3 t) (iblk m c 4 t) (iblk m c 5 t) (iblk m c 6 t) (iblk m c 7 t)
      (iblk m c 8 t) (tP A t.val) (tX A t.val) (tY A t.val) (tZ A t.val) := by
  have hi := idx_in t
  have ht := lt16 t
  obtain ⟨a6, a7, a8, a9, a10, a2, a4, a5⟩ := arrays m c
  obtain ⟨i0, i1, i2, i3, i4, i5, i6, i7, i8⟩ := hi
  have hm : ∀ (k : Fin 6) (k8 : Fin 8) (hk : k8.val = k.val) (j : Fin 1024),
      (iblk m c 3 t : Vec Ideal S1x8x1024 .f32) (ValueIdx.ix3 0 k8 j) = (A.md (Args.seq (256 * t.val)) k j) := by
    intro k k8 hk j
    refine Eq.trans ?_ (h.h2 _ k j)
    unfold iblk
    rw [View.read_apply]
    show V m c main_v5 _ = _
    rw [a5]
    refine pad_apply_of_inside (s := S2x6x1024) (t := S2x8x1024) _ _ _ _ _ _ _ _ (ValueIdx.ix3 (Args.seq (256 * t.val)) k j) fun a => ?_
    match a with
    | ⟨0, _⟩ => show win0_3.index t 0 * 1 + 1 * 0 = 0 + (256 * t.val) / 2048 % 2 * (0 + 1); rw [i3.1]; omega
    | ⟨1, _⟩ => show win0_3.index t 1 * 8 + 1 * k8.val = 0 + k.val * (0 + 1); rw [i3.2.1]; omega
    | ⟨2, _⟩ => show win0_3.index t 2 * 1024 + 1 * j.val = 0 + j.val * (0 + 1); rw [i3.2.2]; omega
  have flat : ∀ (r : Fin 256), 256 * t.val + r.val < 4096 := fun r => by omega
  constructor
  · intro r j
    refine Eq.trans ?_ (h.h0 _ _ j)
    unfold iblk
    rw [View.read_apply]
    show V m c main_v6 _ = _
    rw [a6]
    refine Eq.trans (congrArg _ (ext2 (m := 4096) (n := 1024) (y := ValueIdx.ix2 ⟨256 * t.val + r.val, flat r⟩ j) ?_ ?_)) (cast_flat _ _ _ _)
    · show win0_0.index t 0 * 256 + 1 * r.val = _; rw [i0.1]; show _ = 256 * t.val + r.val; omega
    · show win0_0.index t 1 * 1024 + 1 * j.val = j.val; rw [i0.2]; omega
  · intro r j
    refine Eq.trans ?_ (h.h1 _ _ j)
    unfold iblk
    rw [View.read_apply]
    show V m c main_v7 _ = _
    rw [a7]
    refine Eq.trans (congrArg _ (ext2 (m := 4096) (n := 1536) (y := ValueIdx.ix2 ⟨256 * t.val + r.val, flat r⟩ j) ?_ ?_)) (cast_flat _ _ _ _)
    · show win0_1.index t 0 * 256 + 1 * r.val = _; rw [i1.1]; show _ = 256 * t.val + r.val; omega
    · show win0_1.index t 1 * 1536 + 1 * j.val = j.val; rw [i1.2]; omega
  · intro r j
    refine Eq.trans ?_ (h.h8 _ _ j)
    unfold iblk
    rw [View.read_apply]
    show V m c main_v8 _ = _
    rw [a8]
    refine Eq.trans (congrArg _ (ext2 (m := 4096) (n := 1024) (y := ValueIdx.ix2 ⟨256 * t.val + r.val, flat r⟩ j) ?_ ?_)) (cast_flat _ _ _ _)
    · show win0_2.index t 0 * 256 + 1 * r.val = _; rw [i2.1]; show _ = 256 * t.val + r.val; omega
    · show win0_2.index t 1 * 1024 + 1 * j.val = j.val; rw [i2.2]; omega
  · exact hm 2 2 rfl
  · exact hm 3 3 rfl
  · exact hm 4 4 rfl
  · exact hm 5 5 rfl
  · intro r j
    refine Eq.trans ?_ (h.h3 r j)
    unfold iblk
    rw [View.read_apply]
    show V m c main_arg3 _ = _
    rw [V_main_arg3]
    refine congrArg _ (ext2 (m := 1) (n := 1024) ?_ ?_)
    · show win0_4.index t 0 * 1 + 1 * r.val = r.val; rw [i4.1]; omega
    · show win0_4.index t 1 * 1024 + 1 * j.val = j.val; rw [i4.2]; omega
  · intro r j
    refine Eq.trans ?_ (h.h4 j)
    unfold iblk
    rw [View.read_apply]
    show V m c main_v9 _ = _
    rw [a9]
    refine shapeCast_apply (s := S1024) (t := S1x1024) _ _ _ (ValueIdx.ix1 j) ?_
    refine (Shape.rowMajor_val_one _).trans ?_
    rw [Shape.rowMajor_val_two]
    have hr : r.val = 0 := by omega
    show j.val = (win0_5.index t 0 * 1 + 1 * r.val) * 1024 + (win0_5.index t 1 * 1024 + 1 * j.val)
    rw [i5.1, i5.2]; omega
  · intro i j
    refine Eq.trans ?_ (h.h5 i j)
    unfold iblk
    rw [View.read_apply]
    show V m c main_v10 _ = _
    rw [a10]
    refine congrArg _ (ext2 (m := 1536) (n := 1024) ?_ ?_)
    · show win0_6.index t 0 * 1536 + 1 * i.val = i.val; rw [i6.1]; omega
    · show win0_6.index t 1 * 1024 + 1 * j.val = j.val; rw [i6.2]; omega
  · intro b i j
    refine Eq.trans ?_ (h.h6 i (blk b j))
    unfold iblk
    rw [View.read_apply]
    show V m c main_v2 _ = _
    rw [a2]
    refine (transpose_apply (s := S1024x8x512) (t := S8x1024x512) _ _ _ _ (ValueIdx.ix3 i b j) fun a => ?_).trans ?_
    · match a with
      | ⟨0, _⟩ => show b.val = win0_7.index t 0 * 8 + 1 * b.val; rw [i7.1]; omega
      | ⟨1, _⟩ => show i.val = win0_7.index t 1 * 1024 + 1 * i.val; rw [i7.2.1]; omega
      | ⟨2, _⟩ => show j.val = win0_7.index t 2 * 512 + 1 * j.val; rw [i7.2.2]; omega
    · refine shapeCast_apply (s := S1024x4096) (t := S1024x8x512) _ _ _ (ValueIdx.ix2 i (blk b j)) ?_
      rw [Shape.rowMajor_val_three, Shape.rowMajor_val_two]
      show i.val * 4096 + (512 * b.val + j.val) = (i.val * 8 + b.val) * 512 + j.val
      omega
  · intro b i j
    refine Eq.trans ?_ (h.h7 (blk b i) j)
    unfold iblk
    rw [View.read_apply]
    show V m c main_v4 _ = _
    rw [a4]
    refine shapeCast_apply (s := S4096x1024) (t := S8x512x1024) _ _ _ (ValueIdx.ix2 (blk b i) j) ?_
    rw [Shape.rowMajor_val_three, Shape.rowMajor_val_two]
    show (512 * b.val + i.val) * 1024 + j.val
      = ((win0_8.index t 0 * 8 + 1 * b.val) * 512 + (win0_8.index t 1 * 512 + 1 * i.val)) * 1024 + (win0_8.index t 2 * 1024 + 1 * j.val)
    rw [i8.1, i8.2.1, i8.2.2]; omega

/-- What tile `n` adds to the sums. -/
def tileM (A : Args) (n : ℕ) (k : Fin 8) (j : Fin 1024) : EReal := ∑ r : Fin 256, (A.row (256 * n + r.val)).mrow k j
def tileA (A : Args) (n : ℕ) (k : Fin 8) (j : Fin 1024) : EReal := ∑ r : Fin 256, (A.row (256 * n + r.val)).arow k j

/-- The sums before tile `n`: over the tiles of its sequence, and over all tiles. -/
def beforeM (A : Args) (n : ℕ) (k : Fin 8) (j : Fin 1024) : EReal := ∑ p ∈ Finset.range (n % 8), tileM A (8 * (n / 8) + p) k j
def beforeA (A : Args) (n : ℕ) (k : Fin 8) (j : Fin 1024) : EReal := ∑ p ∈ Finset.range n, tileA A p k j

theorem beforeM_succ {n : ℕ} (h : ¬n % 8 = 0) (k : Fin 8) (j : Fin 1024) :
    beforeM A n k j = beforeM A (n - 1) k j + tileM A (n - 1) k j := by
  unfold beforeM
  rw [show n % 8 = (n - 1) % 8 + 1 by omega, Finset.sum_range_succ, show (n - 1) / 8 = n / 8 by omega,
    show 8 * (n / 8) + (n - 1) % 8 = n - 1 by omega]

theorem beforeA_succ {n : ℕ} (h : 0 < n) (k : Fin 8) (j : Fin 1024) :
    beforeA A n k j = beforeA A (n - 1) k j + tileA A (n - 1) k j := by
  unfold beforeA
  rw [← Finset.sum_range_succ, show n - 1 + 1 = n by omega]

/-- A tile's rows in a row-tiled block, and the sums with the tile's share added. -/
abbrev After (A : Args) (n : ℕ) (o9 : Vec Ideal S256x1024 .bf16) (o10 : Vec Ideal S256x1536 .bf16) (o11 : Vec Ideal S256x1024 .f32)
    (o12 : Vec Ideal S256x1024 .bf16) (o13 o14 : Vec Ideal S256x4096 .bf16) (o15 : Vec Ideal S256x1024 .bf16)
    (o16 : Vec Ideal S1x8x1024 .f32) (o17 : Vec Ideal S8x1024 .f32) : Prop :=
  Left o9 o10 o11 o12 o13 o14 o15 o16 o17 (tP A n) (tX A n) (tY A n) (tZ A n) (beforeM A n) (beforeA A n)

section

variable {n : ℕ} {o9 : Vec Ideal S256x1024 .bf16} {o10 : Vec Ideal S256x1536 .bf16} {o11 : Vec Ideal S256x1024 .f32}
    {o12 : Vec Ideal S256x1024 .bf16} {o13 o14 : Vec Ideal S256x4096 .bf16} {o15 : Vec Ideal S256x1024 .bf16}
    {o16 : Vec Ideal S1x8x1024 .f32} {o17 : Vec Ideal S8x1024 .f32} (h : After A n o9 o10 o11 o12 o13 o14 o15 o16 o17)

include h

theorem After.sumM (k : Fin 8) (j : Fin 1024) :
    o16 (ValueIdx.ix3 0 k j) = (beforeM A n k j + tileM A n k j) := by
  refine (h.mrow k j).trans ?_
  simp only [tk_row]
  rfl

theorem After.sumA (k : Fin 8) (j : Fin 1024) : o17 (ValueIdx.ix2 k j) = (beforeA A n k j + tileA A n k j) := by
  refine (h.arow k j).trans ?_
  simp only [tk_row]
  rfl

end

/-- Every point leaves its tile's rows and the sums so far. -/
theorem after (h : Holds m c A) : ∀ (n : ℕ) (hn : n < cfg0.N),
    After A n (outsAt0 m c n hn).1 (outsAt0 m c n hn).2.1 (outsAt0 m c n hn).2.2.1 (outsAt0 m c n hn).2.2.2.1
      (outsAt0 m c n hn).2.2.2.2.1 (outsAt0 m c n hn).2.2.2.2.2.1 (outsAt0 m c n hn).2.2.2.2.2.2.1
      (outsAt0 m c n hn).2.2.2.2.2.2.2.1 (outsAt0 m c n hn).2.2.2.2.2.2.2.2
  | n, hn => by
    have hb := blocks h ⟨n, hn⟩
    have h16 : n < 16 := lt16 ⟨n, hn⟩
    have zM : n % 8 = 0 → beforeM A n = fun _ _ => 0 := fun h1 => by
      funext k j; unfold beforeM; rw [h1]; rfl
    by_cases h0 : n % 16 = 0
    · have h1 : n % 8 = 0 := by omega
      have zA : beforeA A n = fun _ _ => 0 := by
        have : n = 0 := by omega
        subst this; rfl
      unfold After
      rw [outsAt0_A m c ⟨n, hn⟩ h0 h1, zM h1, zA]
      dsimp only
      exact leftA _ _ _ _ _ _ _ _ _ _ _ _ _ _ _ _ _ _ _ _ _ _ _ _ _ _ _ _ _ _ _ _ _ _ _ _ _ _ _ _ _ _ _ _ _ _ _ _ _ _ _ hb
    · have ih := after h (n - 1) (by omega)
      have hpos : 0 < n := by omega
      have hA : Is (outsAt0 m c (n - 1) (by omega)).2.2.2.2.2.2.2.2 (beforeA A n) := fun k j =>
        (ih.sumA k j).trans (by rw [beforeA_succ hpos])
      unfold After
      by_cases h1 : n % 8 = 0
      · rw [outsAt0_C m c ⟨n, hn⟩ h0 h1, zM h1]
        dsimp only
        exact leftC _ _ _ _ _ _ _ _ _ _ _ _ _ _ _ _ _ _ _ _ _ _ _ _ _ _ _ _ _ _ _ _ _ _ _ _ _ _ _ _ _ _ _ _ _ _ _ _ _ _ _ _ hb hA
      · rw [outsAt0_B m c ⟨n, hn⟩ h0 h1]
        dsimp only
        exact leftB _ _ _ _ _ _ _ _ _ _ _ _ _ _ _ _ _ _ _ _ _ _ _ _ _ _ _ _ _ _ _ _ _ _ _ _ _ _ _ _ _ _ _ _ _ _ _ _ _ _ _ _ _ hb
          (fun k j => (ih.sumM k j).trans (by rw [beforeM_succ h1])) hA
  termination_by n => n
  decreasing_by omega

/-- Where the windows of the results stand at point `t`. -/
theorem idx_out : ∀ t : Fin cfg0.N, (win0_9.index t 0 = t.val ∧ win0_9.index t 1 = 0) ∧ (win0_10.index t 0 = t.val ∧ win0_10.index t 1 = 0)
    ∧ (win0_11.index t 0 = t.val ∧ win0_11.index t 1 = 0) ∧ (win0_12.index t 0 = t.val ∧ win0_12.index t 1 = 0)
    ∧ (win0_13.index t 0 = t.val ∧ win0_13.index t 1 = 0) ∧ (win0_14.index t 0 = t.val ∧ win0_14.index t 1 = 0)
    ∧ (win0_15.index t 0 = t.val ∧ win0_15.index t 1 = 0)
    ∧ (win0_16.index t 0 = t.val / 8 ∧ win0_16.index t 1 = 0 ∧ win0_16.index t 2 = 0) ∧ (win0_17.index t 0 = 0 ∧ win0_17.index t 1 = 0) :=
  (by decide +kernel : ∀ t : Fin grid0.N, (win0_9.index t 0 = t.val ∧ win0_9.index t 1 = 0) ∧ (win0_10.index t 0 = t.val ∧ win0_10.index t 1 = 0)
    ∧ (win0_11.index t 0 = t.val ∧ win0_11.index t 1 = 0) ∧ (win0_12.index t 0 = t.val ∧ win0_12.index t 1 = 0)
    ∧ (win0_13.index t 0 = t.val ∧ win0_13.index t 1 = 0) ∧ (win0_14.index t 0 = t.val ∧ win0_14.index t 1 = 0)
    ∧ (win0_15.index t 0 = t.val ∧ win0_15.index t 1 = 0)
    ∧ (win0_16.index t 0 = t.val / 8 ∧ win0_16.index t 1 = 0 ∧ win0_16.index t 2 = 0) ∧ (win0_17.index t 0 = 0 ∧ win0_17.index t 1 = 0))

/-- A row of a tile is the row at its place in the array. -/
theorem tile_row {n : Nat} (F : Tok → Fin n → EReal) {v : (⟨2, ![256, n]⟩ : Shape).Idx → EReal} {t : ℕ}
    (h : Is v fun r => F (tk (tP A t) (tX A t) (tY A t) (tZ A t) r)) (y : (⟨2, ![256, n]⟩ : Shape).Idx) (z : (⟨2, ![4096, n]⟩ : Shape).Idx)
    {a b : ℕ} (ha : a = t) (hb : b = 0) (h0 : (z 0).val = a * 256 + 1 * (y 0).val) (h1 : (z 1).val = b * n + 1 * (y 1).val) :
    v y = Rows A F z := by
  refine (h.at_idx y).trans ((congrArg (fun T : Tok => (F T (y 1))) (tk_row A t (y 0))).trans ?_)
  subst ha hb
  unfold Rows
  rw [show 256 * a + (y 0).val = (z 0).val by omega, show (y 1 : Fin n) = z 1 from Fin.ext (by omega)]

/-- The tile of row `i`, and the bounds that say so. -/
def tileOf (i : Fin 4096) : Fin cfg0.N := ⟨i.val / 256, (by omega : i.val / 256 < 16).trans_eq N_0.symm⟩
theorem in_tile {i a : ℕ} (h : a = i / 256) : a * 256 ≤ i ∧ i < a * 256 + 256 := by omega
theorem in_row {n i a : ℕ} (h : a = 0) (hi : i < n) : a * n ≤ i ∧ i < a * n + n := by subst h; omega

variable (h : Holds m c A)

include h

theorem final9 : (dats m 0 c).arrAt 9 cfg0.N = Rows A Tok.da := by
  refine (dats m 0 c).arrAt_eq_of_cover 9 (Rows A Tok.da) (fun t hf => ?_) (fun i => ⟨tileOf (i 0), flush0_9 _, ?_⟩)
  · have hi := (idx_out t).1
    rw [flushed9]
    funext y
    rw [View.read_apply]
    exact tile_row Tok.da (after h t.val t.isLt).da y _ hi.1 hi.2 rfl rfl
  · have hi := (idx_out (tileOf (i 0))).1
    show i ∈ ((View.whole main_v11_0).slice (win0_9.rect (tileOf (i 0)))).set
    rw [View.set_slice_whole, Rect.mem_set_unit]
    intro a
    match a with
    | ⟨0, _⟩ => exact in_tile hi.1
    | ⟨1, _⟩ => exact in_row hi.2 (i 1).isLt

theorem final10 : (dats m 0 c).arrAt 10 cfg0.N = Rows A Tok.dy := by
  refine (dats m 0 c).arrAt_eq_of_cover 10 (Rows A Tok.dy) (fun t hf => ?_) (fun i => ⟨tileOf (i 0), flush0_10 _, ?_⟩)
  · have hi := (idx_out t).2.1
    rw [flushed10]
    funext y
    rw [View.read_apply]
    exact tile_row Tok.dy (after h t.val t.isLt).dy y _ hi.1 hi.2 rfl rfl
  · have hi := (idx_out (tileOf (i 0))).2.1
    show i ∈ ((View.whole main_v11_1).slice (win0_10.rect (tileOf (i 0)))).set
    rw [View.set_slice_whole, Rect.mem_set_unit]
    intro a
    match a with
    | ⟨0, _⟩ => exact in_tile hi.1
    | ⟨1, _⟩ => exact in_row hi.2 (i 1).isLt

theorem final11 : (dats m 0 c).arrAt 11 cfg0.N = Rows A Tok.dh1 := by
  refine (dats m 0 c).arrAt_eq_of_cover 11 (Rows A Tok.dh1) (fun t hf => ?_) (fun i => ⟨tileOf (i 0), flush0_11 _, ?_⟩)
  · have hi := (idx_out t).2.2.1
    rw [flushed11]
    funext y
    rw [View.read_apply]
    exact tile_row Tok.dh1 (after h t.val t.isLt).dh1 y _ hi.1 hi.2 rfl rfl
  · have hi := (idx_out (tileOf (i 0))).2.2.1
    show i ∈ ((View.whole main_v11_2).slice (win0_11.rect (tileOf (i 0)))).set
    rw [View.set_slice_whole, Rect.mem_set_unit]
    intro a
    match a with
    | ⟨0, _⟩ => exact in_tile hi.1
    | ⟨1, _⟩ => exact in_row hi.2 (i 1).isLt

theorem final12 : (dats m 0 c).arrAt 12 cfg0.N = Rows A Tok.u := by
  refine (dats m 0 c).arrAt_eq_of_cover 12 (Rows A Tok.u) (fun t hf => ?_) (fun i => ⟨tileOf (i 0), flush0_12 _, ?_⟩)
  · have hi := (idx_out t).2.2.2.1
    rw [flushed12]
    funext y
    rw [View.read_apply]
    exact tile_row Tok.u (after h t.val t.isLt).u y _ hi.1 hi.2 rfl rfl
  · have hi := (idx_out (tileOf (i 0))).2.2.2.1
    show i ∈ ((View.whole main_v11_3).slice (win0_12.rect (tileOf (i 0)))).set
    rw [View.set_slice_whole, Rect.mem_set_unit]
    intro a
    match a with
    | ⟨0, _⟩ => exact in_tile hi.1
    | ⟨1, _⟩ => exact in_row hi.2 (i 1).isLt

theorem final13 : (dats m 0 c).arrAt 13 cfg0.N = Rows A Tok.f := by
  refine (dats m 0 c).arrAt_eq_of_cover 13 (Rows A Tok.f) (fun t hf => ?_) (fun i => ⟨tileOf (i 0), flush0_13 _, ?_⟩)
  · have hi := (idx_out t).2.2.2.2.1
    rw [flushed13]
    funext y
    rw [View.read_apply]
    exact tile_row Tok.f (after h t.val t.isLt).f y _ hi.1 hi.2 rfl rfl
  · have hi := (idx_out (tileOf (i 0))).2.2.2.2.1
    show i ∈ ((View.whole main_v11_4).slice (win0_13.rect (tileOf (i 0)))).set
    rw [View.set_slice_whole, Rect.mem_set_unit]
    intro a
    match a with
    | ⟨0, _⟩ => exact in_tile hi.1
    | ⟨1, _⟩ => exact in_row hi.2 (i 1).isLt

theorem final14 : (dats m 0 c).arrAt 14 cfg0.N = Rows A Tok.dup := by
  refine (dats m 0 c).arrAt_eq_of_cover 14 (Rows A Tok.dup) (fun t hf => ?_) (fun i => ⟨tileOf (i 0), flush0_14 _, ?_⟩)
  · have hi := (idx_out t).2.2.2.2.2.1
    rw [flushed14]
    funext y
    rw [View.read_apply]
    exact tile_row Tok.dup (after h t.val t.isLt).dup y _ hi.1 hi.2 rfl rfl
  · have hi := (idx_out (tileOf (i 0))).2.2.2.2.2.1
    show i ∈ ((View.whole main_v11_5).slice (win0_14.rect (tileOf (i 0)))).set
    rw [View.set_slice_whole, Rect.mem_set_unit]
    intro a
    match a with
    | ⟨0, _⟩ => exact in_tile hi.1
    | ⟨1, _⟩ => exact in_row hi.2 (i 1).isLt

theorem final15 : (dats m 0 c).arrAt 15 cfg0.N = Rows A Tok.ddn := by
  refine (dats m 0 c).arrAt_eq_of_cover 15 (Rows A Tok.ddn) (fun t hf => ?_) (fun i => ⟨tileOf (i 0), flush0_15 _, ?_⟩)
  · have hi := (idx_out t).2.2.2.2.2.2.1
    rw [flushed15]
    funext y
    rw [View.read_apply]
    exact tile_row Tok.ddn (after h t.val t.isLt).ddn y _ hi.1 hi.2 rfl rfl
  · have hi := (idx_out (tileOf (i 0))).2.2.2.2.2.2.1
    show i ∈ ((View.whole main_v11_6).slice (win0_15.rect (tileOf (i 0)))).set
    rw [View.set_slice_whole, Rect.mem_set_unit]
    intro a
    match a with
    | ⟨0, _⟩ => exact in_tile hi.1
    | ⟨1, _⟩ => exact in_row hi.2 (i 1).isLt

/-- The sums over the tokens of each sequence. -/
theorem final16 : (dats m 0 c).arrAt 16 cfg0.N = mods A := by
  refine (dats m 0 c).arrAt_eq_of_cover 16 (mods A) (fun t hf => ?_) (fun i => ?_)
  · have hi := (idx_out t).2.2.2.2.2.2.2.1
    have h7 : t.val % 8 = 7 := (flush0_16 t).mp hf
    have ht := lt16 t
    rw [flushed16]
    funext y
    rw [View.read_apply]
    have hy : y = ValueIdx.ix3 0 (y 1) (y 2) := ext3 (l := 1) (m := 8) (n := 1024) (by have : (y 0).val < 1 := (y 0).isLt; show (y 0).val = 0; omega) rfl rfl
    rw [hy]
    refine ((after h t.val t.isLt).sumM (y 1) (y 2)).trans ?_
    have e : beforeM A t.val (y 1) (y 2) + tileM A t.val (y 1) (y 2)
        = ∑ s, (A.tok ⟨t.val / 8, by omega⟩ s).mrow (y 1) (y 2) := by
      rw [← A.sum_seq (fun T => T.mrow (y 1) (y 2)), Finset.sum_range_succ]
      unfold beforeM tileM
      rw [h7]
      show _ + _ = _ + ∑ r : Fin 256, (A.row (256 * (8 * (t.val / 8) + 7) + r.val)).mrow (y 1) (y 2)
      rw [show 8 * (t.val / 8) + 7 = t.val by omega]
    rw [e]
    have e0 : win0_16.index t 0 * 1 + 1 * 0 = t.val / 8 := by rw [hi.1]; omega
    have e1 : win0_16.index t 1 * 8 + 1 * (y 1).val = (y 1).val := by rw [hi.2.1]; omega
    have e2 : win0_16.index t 2 * 1024 + 1 * (y 2).val = (y 2).val := by rw [hi.2.2]; omega
    exact mods_at A _ e0.symm e1.symm e2.symm
  · have h0 : (i 0 : Nat) < 2 := (i 0).isLt
    have h1 : (i 1 : Nat) < 8 := (i 1).isLt
    have h2 : (i 2 : Nat) < 1024 := (i 2).isLt
    let t : Fin cfg0.N := ⟨8 * (i 0).val + 7, (by omega : 8 * (i 0).val + 7 < 16).trans_eq N_0.symm⟩
    have hi := (idx_out t).2.2.2.2.2.2.2.1
    have htv : t.val / 8 = (i 0).val := by show (8 * (i 0).val + 7) / 8 = _; omega
    refine ⟨t, (flush0_16 t).mpr (by show (8 * (i 0).val + 7) % 8 = 7; omega), ?_⟩
    show i ∈ ((View.whole main_v11_7).slice (win0_16.rect t)).set
    rw [View.set_slice_whole, Rect.mem_set_unit]
    intro a
    match a with
    | ⟨0, _⟩ =>
      show win0_16.index t 0 * 1 ≤ (i 0 : Nat) ∧ (i 0 : Nat) < win0_16.index t 0 * 1 + 1
      rw [hi.1, htv]; omega
    | ⟨1, _⟩ => exact in_row hi.2.1 h1
    | ⟨2, _⟩ => exact in_row hi.2.2 h2

/-- The sums over all tokens. -/
theorem final17 : (dats m 0 c).arrAt 17 cfg0.N = accs A := by
  refine (dats m 0 c).arrAt_eq_of_cover 17 (accs A) (fun t hf => ?_) (fun i => ?_)
  · have hi := (idx_out t).2.2.2.2.2.2.2.2
    have h15 : t.val % 16 = 15 := (flush0_17 t).mp hf
    have ht := lt16 t
    rw [flushed17]
    funext y
    rw [View.read_apply]
    have hy : y = ValueIdx.ix2 (y 0) (y 1) := ext2 (m := 8) (n := 1024) rfl rfl
    rw [hy]
    refine ((after h t.val t.isLt).sumA (y 0) (y 1)).trans ?_
    have e : beforeA A t.val (y 0) (y 1) + tileA A t.val (y 0) (y 1) = ∑ b, ∑ s, (A.tok b s).arow (y 0) (y 1) := by
      rw [← A.sum_all (fun T => T.arow (y 0) (y 1)), Finset.sum_range_succ, show t.val = 15 by omega]
      rfl
    rw [e]
    have e0 : win0_17.index t 0 * 8 + 1 * (y 0).val = (y 0).val := by rw [hi.1]; omega
    have e1 : win0_17.index t 1 * 1024 + 1 * (y 1).val = (y 1).val := by rw [hi.2]; omega
    exact accs_at A _ e0.symm e1.symm
  · let t : Fin cfg0.N := ⟨15, (by omega : 15 < 16).trans_eq N_0.symm⟩
    have hi := (idx_out t).2.2.2.2.2.2.2.2
    refine ⟨t, (flush0_17 t).mpr rfl, ?_⟩
    show i ∈ ((View.whole main_v11_8).slice (win0_17.rect t)).set
    rw [View.set_slice_whole, Rect.mem_set_unit]
    intro a
    match a with
    | ⟨0, _⟩ => exact in_row hi.1 (i 0).isLt
    | ⟨1, _⟩ => exact in_row hi.2 (i 1).isLt

end Cert.MlpIdeal.Val

end
-- ==== Proof.HostLift.lean ====
/-
  Host arrays over three axes by their tables of entries: each operation of the references takes such arrays to such an
  array, the same operation of their entries.
-/
module

public import proofs.«01_k».proof.Proof.Lift

@[expose] public section

noncomputable section

namespace Cert.Arr

open Idealize.ShloMosaic

/-- The array's entries are those of the table `f`. -/
def Is3 {l m n : Nat} (v : (⟨3, ![l, m, n]⟩ : Shape).Idx → EReal) (f : Fin l → Fin m → Fin n → EReal) : Prop :=
  ∀ a b c, v (ValueIdx.ix3 a b c) = f a b c

/-- A two-axis array read at an index with given coordinates. -/
theorem Is.at {m n : Nat} {v : (⟨2, ![m, n]⟩ : Shape).Idx → EReal} {f : Fin m → Fin n → EReal} (h : Is v f)
    (j : (⟨2, ![m, n]⟩ : Shape).Idx) {a : Fin m} {b : Fin n} (h0 : (j 0).val = a.val) (h1 : (j 1).val = b.val) :
    v j = f a b :=
  (congrArg v (ext2 (m := m) (n := n) (x := j) (y := ValueIdx.ix2 a b) h0 h1)).trans (h a b)

/-- A one-axis array read at an index with a given coordinate. -/
theorem at1 {n : Nat} {v : (⟨1, ![n]⟩ : Shape).Idx → EReal} {f : Fin n → EReal} (h : ∀ a, v (ValueIdx.ix1 a) = f a)
    (j : (⟨1, ![n]⟩ : Shape).Idx) {a : Fin n} (h0 : (j 0).val = a.val) : v j = f a :=
  (congrArg v (funext fun q => Fin.ext (by match q with | ⟨0, _⟩ => exact h0))).trans (h a)

theorem Is.div' {m n : Nat} {φ : FTy} {x y : FVec Ideal ⟨2, ![m, n]⟩ φ} {f g : Fin m → Fin n → EReal} (hx : Is x f) (hy : Is y g) :
    Is (Host.divf x y) (fun a b => Ideal.div (f a b) (g a b)) := fun a b => by
  show Ideal.div (x _) (y _) = _; rw [hx, hy]

namespace Is3

variable {l m n : Nat} {φ : FTy}

theorem at' {v : (⟨3, ![l, m, n]⟩ : Shape).Idx → EReal} {f : Fin l → Fin m → Fin n → EReal} (h : Is3 v f)
    (j : (⟨3, ![l, m, n]⟩ : Shape).Idx) {a : Fin l} {b : Fin m} {c : Fin n} (h0 : (j 0).val = a.val) (h1 : (j 1).val = b.val)
    (h2 : (j 2).val = c.val) : v j = f a b c :=
  (congrArg v (ext3 (l := l) (m := m) (n := n) (x := j) (y := ValueIdx.ix3 a b c) h0 h1 h2)).trans (h a b c)

theorem congr {v : (⟨3, ![l, m, n]⟩ : Shape).Idx → EReal} {f g : Fin l → Fin m → Fin n → EReal} (h : Is3 v f)
    (e : ∀ a b c, f a b c = g a b c) : Is3 v g := fun a b c => (h a b c).trans (by rw [e])

variable {x y : FVec Ideal ⟨3, ![l, m, n]⟩ φ} {f g : Fin l → Fin m → Fin n → EReal}

theorem add (hx : Is3 x f) (hy : Is3 y g) : Is3 (addf x y) (fun a b c => f a b c + g a b c) := fun a b c => by
  show x _ + y _ = _; rw [hx, hy]
theorem sub (hx : Is3 x f) (hy : Is3 y g) : Is3 (subf x y) (fun a b c => f a b c - g a b c) := fun a b c => by
  show x _ - y _ = _; rw [hx, hy]
theorem mul (hx : Is3 x f) (hy : Is3 y g) : Is3 (mulf x y) (fun a b c => f a b c * g a b c) := fun a b c => by
  show x _ * y _ = _; rw [hx, hy]
theorem max (hx : Is3 x f) (hy : Is3 y g) : Is3 (maximumf x y) (fun a b c => Max.max (f a b c) (g a b c)) := fun a b c => by
  show Max.max (x _) (y _) = _; rw [hx, hy]
theorem div (hx : Is3 x f) (hy : Is3 y g) : Is3 (Host.divf x y) (fun a b c => Ideal.div (f a b c) (g a b c)) := fun a b c => by
  show Ideal.div (x _) (y _) = _; rw [hx, hy]
theorem rsqrt (hx : Is3 x f) : Is3 (Host.rsqrt x) (fun a b c => Ideal.rsqrt (f a b c)) := fun a b c => by
  show Ideal.rsqrt (x _) = _; rw [hx]

/-- A choice by the sign of a third array. -/
theorem select_pos {s : FVec Ideal ⟨3, ![l, m, n]⟩ φ} {z w : FVec Ideal ⟨3, ![l, m, n]⟩ φ} {p : Fin l → Fin m → Fin n → EReal} (hs : Is3 s p)
    (hz : ∀ i, z i = 0) (hx : Is3 x f) (hw : Is3 w g) :
    Is3 (Idealize.ShloMosaic.select (cmpf .ogt s z) x w) (fun a b c => if 0 < p a b c then f a b c else g a b c) := fun a b c => by
  show Scalar.select (Ideal.cmp .ogt (s _) (z _)) (x _) (w _) = _
  rw [hs, hz, hx, hw]
  unfold Ideal.cmp Scalar.select
  by_cases h : 0 < p a b c
  · simp [h]
  · simp [h]

end Is3

/-- The sum of a row, from an initial zero. -/
theorem sum_from {n : Nat} {z : EReal} {v : Fin n → EReal} {f : Fin n → EReal} (hz : z = 0) (h : ∀ k, v k = f k) :
    z + ∑ k, v k = (∑ k, f k) := by
  rw [hz, zero_add]
  exact Finset.sum_congr rfl fun k _ => h k

/-- The product of two rows, summed. -/
theorem sum_prod {n : Nat} {v w : Fin n → EReal} {f g : Fin n → EReal} (h : ∀ k, v k = f k) (h' : ∀ k, w k = g k) :
    ∑ k, v k * w k = (∑ k, f k * g k) :=
  Finset.sum_congr rfl fun k _ => by rw [h, h']

/-- A sum over the indices of three axes, axis by axis. -/
theorem sum_ix3 {l m n : Nat} (F : (⟨3, ![l, m, n]⟩ : Shape).Idx → EReal) : ∑ i, F i = ∑ a, ∑ b, ∑ c, F (ValueIdx.ix3 a b c) := by
  rw [← Fintype.sum_equiv ⟨fun p : Fin l × Fin m × Fin n => ValueIdx.ix3 p.1 p.2.1 p.2.2, fun i => (i 0, i 1, i 2), fun _ => rfl,
    fun i => ext3 rfl rfl rfl⟩ (fun p => F (ValueIdx.ix3 p.1 p.2.1 p.2.2)) F fun _ => rfl]
  simp only [Fintype.sum_prod_type]

/-- The sum over the first two axes of three. -/
theorem sum_01 {l m n : Nat} (h : (⟨3, ![l, m, n]⟩ : Shape).ReducesTo [0, 1] ⟨1, ![n]⟩) {v : (⟨3, ![l, m, n]⟩ : Shape).Idx → EReal}
    {f : Fin l → Fin m → Fin n → EReal} (hv : Is3 v f) {z : EReal} (hz : z = 0) (j : Fin n) :
    Ideal.hostReduceAdd h v z (ValueIdx.ix1 j) = (∑ a, ∑ b, f a b j) := by
  unfold Ideal.hostReduceAdd
  rw [hz, zero_add, Finset.sum_filter, sum_ix3]
  refine Finset.sum_congr rfl fun a _ => ?_
  refine Finset.sum_congr rfl fun b _ => ?_
  have hd : ∀ c, (h.drop (ValueIdx.ix3 a b c) 0).val = c.val := fun c => rfl
  rw [Finset.sum_eq_single j]
  · rw [if_pos (funext fun q => Fin.ext (by match q with | ⟨0, _⟩ => exact hd j))]
    exact hv a b j
  · intro c _ hc
    exact if_neg fun e => hc (Fin.ext ((hd c).symm.trans (congrArg Fin.val (congrFun e 0))))
  · exact fun hj => absurd (Finset.mem_univ _) hj

/-- A row of the middle axis of a stack joined along it is a row of the piece that holds it: row `i` of piece `p`, the
    pieces before it having `pre` rows. -/
theorem cat_mid {l M n : Nat} (xs : List ((s : Shape) × (s.Idx → EReal)))
    (h : Shape.Concatenates (xs.map (·.1)) ⟨3, ![l, M, n]⟩ 1) (b : Fin l) (k : Fin M) (j : Fin n) (p : Nat) (hp : p < xs.length) {q : Nat}
    (v : (⟨3, ![l, q, n]⟩ : Shape).Idx → EReal) (hv : xs[p] = ⟨⟨3, ![l, q, n]⟩, v⟩) (i : Fin q)
    (hpre : (((xs.take p).map (·.1)).map fun s => if h : s.rank = 3 then s.size ((1 : Fin 3).cast h.symm) else 0).sum + i.val = k.val) :
    concatenate ⟨3, ![l, M, n]⟩ 1 xs h (ValueIdx.ix3 b k j) = v (ValueIdx.ix3 b i j) :=
  concatenate_apply_piece (t := ⟨3, ![l, M, n]⟩) (1 : Fin 3) xs h (ValueIdx.ix3 b k j) p hp _ v hv rfl _ rfl (ValueIdx.ix3 b i j)
    (fun a ha => by match a with | ⟨0, _⟩ => rfl | ⟨1, _⟩ => exact absurd rfl ha | ⟨2, _⟩ => rfl) hpre

end Cert.Arr

end
-- ==== Proof.Calculus.lean ====
/-
  Three identities of derivatives, on all extended reals: a normalisation's cotangent, which one program gathers and the
  other leaves in the terms that differentiation gives; the square of a ReLU; and the scale of a mean of squares.
-/
module

public import proofs.«01_k».proof.Proof.Model

@[expose] public section

noncomputable section

namespace Cert.Arr

open Idealize.ShloMosaic

/-- Twice a real multiple, whatever is multiplied. -/
theorem mul_twice (w : EReal) (c : ℝ) : w * (c : EReal) + w * (c : EReal) = w * ((2 * c : ℝ) : EReal) := by
  induction w with
  | coe w => rw [← EReal.coe_mul, ← EReal.coe_add, ← EReal.coe_mul]; congr 1; ring
  | top =>
    rcases lt_trichotomy c 0 with h | h | h
    · rw [EReal.top_mul_coe_of_neg h, EReal.top_mul_coe_of_neg (by linarith)]; rfl
    · subst h; simp
    · rw [EReal.top_mul_coe_of_pos h, EReal.top_mul_coe_of_pos (by linarith)]; rfl
  | bot =>
    rcases lt_trichotomy c 0 with h | h | h
    · rw [EReal.bot_mul_coe_of_neg h, EReal.bot_mul_coe_of_neg (by linarith)]; rfl
    · subst h; simp
    · rw [EReal.bot_mul_coe_of_pos h, EReal.bot_mul_coe_of_pos (by linarith)]; rfl

/-- The cotangent of a normalised vector, gathered: `h` over its root mean square against the cotangent `e`. -/
theorem norm_back {n : Nat} (h e : Fin n → EReal) {v : EReal} (hv : 0 < v) (i : Fin n) :
    e i * Ideal.rsqrt v + h i * Ideal.div ((∑ k, h k * e k) * (neghalf * Ideal.div (Ideal.rsqrt v) v)) kilo
        + Ideal.div ((∑ k, h k * e k) * (neghalf * Ideal.div (Ideal.rsqrt v) v)) kilo * h i
      = Ideal.rsqrt v * (e i - h i * Ideal.rsqrt v * Ideal.div (∑ k, e k * (h k * Ideal.rsqrt v)) kilo) := by
  unfold kilo neghalf
  simp only [Ideal.div_coe (show (1024 : ℝ) ≠ 0 by norm_num)]
  induction v with
  | bot => exact absurd hv (by simp)
  | top =>
    have hz : Ideal.div 0 ⊤ = 0 := by simp [Ideal.div]
    simp [hz]
  | coe v =>
    have hv' : 0 < v := EReal.coe_pos.1 hv
    rw [Ideal.rsqrt_coe, if_neg (not_lt.2 hv'.le), if_neg hv'.ne', Ideal.div_coe hv'.ne']
    have hr : 0 < (Real.sqrt v)⁻¹ := inv_pos.2 (Real.sqrt_pos.2 hv')
    have hq : 1 / v = (Real.sqrt v)⁻¹ * (Real.sqrt v)⁻¹ := by rw [← mul_inv, Real.mul_self_sqrt hv'.le, one_div]
    rw [hq]
    generalize (Real.sqrt v)⁻¹ = r at hr
    have hs : ∑ k, e k * (h k * (r : EReal)) = (r : EReal) * ∑ k, h k * e k := by
      rw [real_mul_sum _ _ hr.le]
      exact Finset.sum_congr rfl fun k _ => by rw [← mul_assoc, mul_comm, mul_comm (e k)]
    rw [hs, sub_eq_add_neg, EReal.left_distrib_of_nonneg_of_ne_top (EReal.coe_nonneg.2 hr.le) (EReal.coe_ne_top r), add_assoc,
      mul_comm (e i)]
    congr 1
    generalize (∑ k, h k * e k) = S
    have hw : h i * (S * (((-(1 / 2) : ℝ) : EReal) * ((r : EReal) * ((r * r : ℝ) : EReal))) * ((1 / 1024 : ℝ) : EReal))
        = h i * S * ((-(1 / 2) * (r * (r * r)) * (1 / 1024) : ℝ) : EReal) := by
      simp only [EReal.coe_mul, mul_assoc]
    rw [mul_comm _ (h i), hw, mul_twice]
    rw [show (2 * (-(1 / 2) * (r * (r * r)) * (1 / 1024)) : ℝ) = -(r * (r * (r * (1 / 1024)))) by ring, EReal.coe_neg, mul_neg, mul_neg]
    congr 1
    simp only [EReal.coe_mul]
    simp only [mul_assoc, mul_left_comm, mul_comm]

/-- Where the argument is not positive the ReLU is zero. -/
theorem relu_back (x d : EReal) : (if 0 < x then d * (two * Max.max x 0) else 0) = d * (two * Max.max x 0) := by
  split
  · rfl
  · rename_i h
    rw [max_eq_right (not_lt.1 h), mul_zero, mul_zero]

/-- A mean of squares against one half: the factors joined. -/
theorem dout_back (x : EReal) : Ideal.div (half * 1) kilo * (two * x) = x * kiloth := by
  unfold kilo half two kiloth
  rw [Ideal.div_coe (by norm_num), mul_one, ← mul_assoc, ← EReal.coe_mul, ← EReal.coe_mul, mul_comm]
  congr 2
  norm_num

theorem add4 (w x y z : EReal) : w + x + y + z = w + (x + y + z) := by rw [add_assoc, add_assoc, add_assoc]

end Cert.Arr

end
-- ==== Proof.MlpRef.lean ====
/-
  The reference of `mlp_fused`: every array it computes, operation by operation, is
  the token's quantity that the model names. Its derivative of a normalisation is written with the root's derivative and
  two equal terms; `norm_back` gathers them, `relu_back` drops the choice that the square's derivative makes idle,
  and `dout_back` joins the factors of the loss.
-/
module

public import proofs.«01_k».proof.Proof.MlpArgs
public import proofs.«01_k».proof.Proof.HostLift
public import proofs.«01_k».proof.Proof.Calculus
public import proofs.«01_k».proof.Proof.Gen.MlpRefIdeal.Read

@[expose] public section

set_option maxRecDepth 16384

noncomputable section

namespace Cert.MlpRefIdeal.Val

open Cert.MlpRefIdeal Cert.MlpRefIdeal.Gen Cert.MlpRefIdeal.Read Cert.Arr Cert.Arr.Is Idealize.ShloMosaic

variable {A : Args} {x0 : (⟨S2x2048x1024, .f32⟩ : BufTy).Contents (Elt Ideal)} {x1 : (⟨S2x2048x1536, .bf16⟩ : BufTy).Contents (Elt Ideal)}
  {x2 : (⟨S2x6x1024, .f32⟩ : BufTy).Contents (Elt Ideal)} {x3 : (⟨S1x1024, .f32⟩ : BufTy).Contents (Elt Ideal)}
  {x4 : (⟨S1024, .f32⟩ : BufTy).Contents (Elt Ideal)} {x5 : (⟨S1536x1024, .f32⟩ : BufTy).Contents (Elt Ideal)}
  {x6 : (⟨S1024x4096, .f32⟩ : BufTy).Contents (Elt Ideal)} {x7 : (⟨S4096x1024, .f32⟩ : BufTy).Contents (Elt Ideal)}
  {x8 : (⟨S2x2048x1024, .f32⟩ : BufTy).Contents (Elt Ideal)} (h : Reads A x0 x1 x2 x3 x4 x5 x6 x7 x8)

include h

theorem r_v1 : Is3 (val_main_v1 (F := Ideal)) (fun _ _ _ => 0) :=
  fun _ _ _ => (val_main_v1_apply _).trans czero
theorem r_v2 : Is3 (val_main_v2 (F := Ideal)) (fun _ _ _ => 0) :=
  fun _ _ _ => (val_main_v2_apply _).trans czero
theorem r_v0 : Is3 (val_main_v0 (F := Ideal) x1) A.y :=
  h.h1
theorem r_v3 : Is3 (val_main_v3 (F := Ideal) x2) (fun b _ => A.md b 2) :=
  fun b q i => (val_main_v3_apply x2 _).trans (Is3.at' h.h2 _ rfl (by show 2 + q.val = 2; omega) rfl)
theorem r_v4 : Is3 (val_main_v4 (F := Ideal) x2) (fun b _ => A.md b 3) :=
  fun b q i => (val_main_v4_apply x2 _).trans (Is3.at' h.h2 _ rfl (by show 3 + q.val = 3; omega) rfl)
theorem r_v5 : Is3 (val_main_v5 (F := Ideal) x2) (fun b _ => A.md b 4) :=
  fun b q i => (val_main_v5_apply x2 _).trans (Is3.at' h.h2 _ rfl (by show 4 + q.val = 4; omega) rfl)
theorem r_v6 : Is3 (val_main_v6 (F := Ideal) x2) (fun b _ => A.md b 5) :=
  fun b q i => (val_main_v6_apply x2 _).trans (Is3.at' h.h2 _ rfl (by show 5 + q.val = 5; omega) rfl)
theorem r_v7 : Is3 (val_main_v7 (F := Ideal) x1 x5) (fun b s => (A.tok b s).a) :=
  fun b s i => (val_main_v7_apply x1 x5 _).trans (sum_prod (fun k => (r_v0 h).at' _ rfl rfl rfl) (fun k => h.h5.at _ rfl rfl))
theorem r_v8 : Is3 (val_main_v8 (F := Ideal) x1 x5) (fun b s => (A.tok b s).a) :=
  ((r_v7 h).add (r_v1 h)).congr fun b s i => add_zero _
theorem r_v9 : Is3 (val_main_v9 (F := Ideal) x2) (fun b _ => A.md b 2) :=
  fun b s i => (val_main_v9_apply x2 _).trans ((r_v3 h).at' _ (b := 0) rfl rfl rfl)
theorem r_v10 : Is3 (val_main_v10 (F := Ideal) x1 x2 x5) (fun b s i => A.md b 2 i * (A.tok b s).a i) :=
  (r_v9 h).mul (r_v8 h)
theorem r_v11 : Is3 (val_main_v11 (F := Ideal) x0 x1 x2 x5) (fun b s => (A.tok b s).h1) :=
  Is3.add h.h0 (r_v10 h)
theorem r_v12 (i : Fin 1024) : val_main_v12 (F := Ideal) x3 (ValueIdx.ix1 i) = A.g i :=
  (val_main_v12_apply x3 _).trans (h.h3.at _ (a := 0) rfl (Nat.mod_eq_of_lt i.isLt))
theorem r_v26 : Is3 (val_main_v26 (F := Ideal) x3) (fun _ _ => A.g) :=
  fun a b i => (val_main_v26_apply x3 _).trans (at1 (r_v12 h) _ rfl)
theorem r_v27 : Is3 (val_main_v27 (F := Ideal) x3) (fun _ _ => A.g) :=
  fun b s i => (val_main_v27_apply x3 _).trans ((r_v26 h).at' _ (a := 0) (b := 0) rfl rfl rfl)
theorem r_v13 : Is3 (val_main_v13 (F := Ideal) x0 x1 x2 x5) (fun b s i => (A.tok b s).h1 i * (A.tok b s).h1 i) :=
  (r_v11 h).mul (r_v11 h)
theorem r_v14 : Is (val_main_v14 (F := Ideal) x0 x1 x2 x5) (fun b s => ∑ k, (A.tok b s).h1 k * (A.tok b s).h1 k) :=
  fun b s => (val_main_v14_apply x0 x1 x2 x5 _).trans (sum_from Ideal.ofBits_zero_f32 fun k => (r_v13 h).at' _ rfl rfl rfl)
theorem r_v15 : Is3 (val_main_v15 (F := Ideal) x0 x1 x2 x5) (fun b s _ => ∑ k, (A.tok b s).h1 k * (A.tok b s).h1 k) :=
  fun b s i => (val_main_v15_apply x0 x1 x2 x5 _).trans ((r_v14 h).at _ rfl rfl)
theorem r_v16 : Is3 (val_main_v16 (F := Ideal)) (fun _ _ _ => kilo) :=
  fun _ _ _ => (val_main_v16_apply _).trans c1024
theorem r_v17 : Is3 (val_main_v17 (F := Ideal) x0 x1 x2 x5) (fun b s _ => Ideal.div (∑ k, (A.tok b s).h1 k * (A.tok b s).h1 k) kilo) :=
  (r_v15 h).div (r_v16 h)
theorem r_v18 : Is3 (val_main_v18 (F := Ideal)) (fun _ _ _ => eps) :=
  fun _ _ _ => (val_main_v18_apply _).trans ceps
theorem r_v19 : Is3 (val_main_v19 (F := Ideal) x0 x1 x2 x5) (fun b s _ => (A.tok b s).v2) :=
  (r_v17 h).add (r_v18 h)
theorem r_v20 : Is3 (val_main_v20 (F := Ideal) x0 x1 x2 x5) (fun b s _ => (A.tok b s).r2) :=
  (r_v19 h).rsqrt
theorem r_v21 : Is3 (val_main_v21 (F := Ideal) x0 x1 x2 x5) (fun b s _ => Ideal.div (A.tok b s).r2 (A.tok b s).v2) :=
  (r_v20 h).div (r_v19 h)
theorem r_v22 : Is3 (val_main_v22 (F := Ideal)) (fun _ _ _ => neghalf) :=
  fun _ _ _ => (val_main_v22_apply _).trans cneghalf
theorem r_v23 : Is3 (val_main_v23 (F := Ideal) x0 x1 x2 x5) (fun b s _ => neghalf * (Ideal.div (A.tok b s).r2 (A.tok b s).v2)) :=
  (r_v22 h).mul (r_v21 h)
theorem r_v24 : Is3 (val_main_v24 (F := Ideal) x0 x1 x2 x5) (fun b s _ => (A.tok b s).r2) :=
  fun b s i => (val_main_v24_apply x0 x1 x2 x5 _).trans ((r_v20 h).at' _ (c := 0) rfl rfl rfl)
theorem r_v25 : Is3 (val_main_v25 (F := Ideal) x0 x1 x2 x5) (fun b s => (A.tok b s).n2) :=
  (r_v11 h).mul (r_v24 h)
theorem r_v28 : Is3 (val_main_v28 (F := Ideal) x0 x1 x2 x3 x5) (fun b s i => (A.tok b s).n2 i * A.g i) :=
  (r_v25 h).mul (r_v27 h)
theorem r_v29 : Is3 (val_main_v29 (F := Ideal)) (fun _ _ _ => 1) :=
  fun _ _ _ => (val_main_v29_apply _).trans cone
theorem r_v30 : Is3 (val_main_v30 (F := Ideal) x2) (fun b _ i => 1 + A.md b 4 i) :=
  (r_v29 h).add (r_v5 h)
theorem r_v31 : Is3 (val_main_v31 (F := Ideal) x2) (fun b _ i => 1 + A.md b 4 i) :=
  fun b s i => (val_main_v31_apply x2 _).trans ((r_v30 h).at' _ (b := 0) rfl rfl rfl)
theorem r_v32 : Is3 (val_main_v32 (F := Ideal) x0 x1 x2 x3 x5) (fun b s i => (A.tok b s).n2 i * A.g i * (1 + A.md b 4 i)) :=
  (r_v28 h).mul (r_v31 h)
theorem r_v33 : Is3 (val_main_v33 (F := Ideal) x2) (fun b _ => A.md b 3) :=
  fun b s i => (val_main_v33_apply x2 _).trans ((r_v4 h).at' _ (b := 0) rfl rfl rfl)
/-- The MLP's input. -/
theorem r_v34 : Is3 (val_main_v34 (F := Ideal) x0 x1 x2 x3 x5) (fun b s => (A.tok b s).u) :=
  (r_v32 h).add (r_v33 h)
theorem r_v35 : Is3 (val_main_v35 (F := Ideal) x0 x1 x2 x3 x5 x6) (fun b s j => (∑ k, (A.tok b s).u k * A.wu k j)) :=
  fun b s i => (val_main_v35_apply x0 x1 x2 x3 x5 x6 _).trans (sum_prod (fun k => (r_v34 h).at' _ rfl rfl rfl) (fun k => h.h6.at _ rfl rfl))
theorem r_v36 : Is3 (val_main_v36 (F := Ideal) x0 x1 x2 x3 x5 x6) (fun b s j => (∑ k, (A.tok b s).u k * A.wu k j)) :=
  ((r_v35 h).add (r_v2 h)).congr fun b s i => add_zero _
theorem r_call0_v0 : Is3 (val_main_call0_v0 (F := Ideal)) (fun _ _ _ => 0) :=
  fun _ _ _ => (val_main_call0_v0_apply _).trans czero
theorem r_v37 : Is3 (val_main_v37 (F := Ideal) x0 x1 x2 x3 x5 x6) (fun b s => (A.tok b s).relu) :=
  (r_v36 h).max (r_call0_v0 h)
theorem r_v41 : Is3 (val_main_v41 (F := Ideal) x0 x1 x2 x3 x5 x6) (fun b s => (A.tok b s).f) :=
  (r_v37 h).mul (r_v37 h)
theorem r_v42 : Is3 (val_main_v42 (F := Ideal)) (fun _ _ _ => two) :=
  fun _ _ _ => (val_main_v42_apply _).trans ctwo
theorem r_v43 : Is3 (val_main_v43 (F := Ideal) x0 x1 x2 x3 x5 x6) (fun b s j => two * (A.tok b s).relu j) :=
  (r_v42 h).mul (r_v37 h)
theorem r_v44 : Is3 (val_main_v44 (F := Ideal) x0 x1 x2 x3 x5 x6 x7) (fun b s => (A.tok b s).dn) :=
  fun b s i => (val_main_v44_apply x0 x1 x2 x3 x5 x6 x7 _).trans (sum_prod (fun k => (r_v41 h).at' _ rfl rfl rfl) (fun k => h.h7.at _ rfl rfl))
theorem r_v45 : Is3 (val_main_v45 (F := Ideal) x0 x1 x2 x3 x5 x6 x7) (fun b s => (A.tok b s).dn) :=
  ((r_v44 h).add (r_v1 h)).congr fun b s i => add_zero _
theorem r_v46 : Is3 (val_main_v46 (F := Ideal) x2) (fun b _ => A.md b 5) :=
  fun b s i => (val_main_v46_apply x2 _).trans ((r_v6 h).at' _ (b := 0) rfl rfl rfl)
theorem r_v47 : Is3 (val_main_v47 (F := Ideal) x0 x1 x2 x3 x5 x6 x7) (fun b s i => A.md b 5 i * (A.tok b s).dn i) :=
  (r_v46 h).mul (r_v45 h)
theorem r_v48 : Is3 (val_main_v48 (F := Ideal) x0 x1 x2 x3 x5 x6 x7) (fun b s => (A.tok b s).h2) :=
  (r_v11 h).add (r_v47 h)
theorem r_v49 : Is3 (val_main_v49 (F := Ideal) x0 x1 x2 x3 x5 x6 x7) (fun b s i => (A.tok b s).h2 i * (A.tok b s).h2 i) :=
  (r_v48 h).mul (r_v48 h)
theorem r_v50 : Is (val_main_v50 (F := Ideal) x0 x1 x2 x3 x5 x6 x7) (fun b s => ∑ k, (A.tok b s).h2 k * (A.tok b s).h2 k) :=
  fun b s => (val_main_v50_apply x0 x1 x2 x3 x5 x6 x7 _).trans (sum_from Ideal.ofBits_zero_f32 fun k => (r_v49 h).at' _ rfl rfl rfl)
theorem r_v51 : Is3 (val_main_v51 (F := Ideal) x0 x1 x2 x3 x5 x6 x7) (fun b s _ => ∑ k, (A.tok b s).h2 k * (A.tok b s).h2 k) :=
  fun b s i => (val_main_v51_apply x0 x1 x2 x3 x5 x6 x7 _).trans ((r_v50 h).at _ rfl rfl)
theorem r_v52 : Is3 (val_main_v52 (F := Ideal)) (fun _ _ _ => kilo) :=
  fun _ _ _ => (val_main_v52_apply _).trans c1024
theorem r_v53 : Is3 (val_main_v53 (F := Ideal) x0 x1 x2 x3 x5 x6 x7) (fun b s _ => Ideal.div (∑ k, (A.tok b s).h2 k * (A.tok b s).h2 k) kilo) :=
  (r_v51 h).div (r_v52 h)
theorem r_v54 : Is3 (val_main_v54 (F := Ideal)) (fun _ _ _ => eps) :=
  fun _ _ _ => (val_main_v54_apply _).trans ceps
theorem r_v55 : Is3 (val_main_v55 (F := Ideal) x0 x1 x2 x3 x5 x6 x7) (fun b s _ => (A.tok b s).v3) :=
  (r_v53 h).add (r_v54 h)
theorem r_v56 : Is3 (val_main_v56 (F := Ideal) x0 x1 x2 x3 x5 x6 x7) (fun b s _ => (A.tok b s).r3) :=
  (r_v55 h).rsqrt
theorem r_v57 : Is3 (val_main_v57 (F := Ideal) x0 x1 x2 x3 x5 x6 x7) (fun b s _ => Ideal.div (A.tok b s).r3 (A.tok b s).v3) :=
  (r_v56 h).div (r_v55 h)
theorem r_v58 : Is3 (val_main_v58 (F := Ideal)) (fun _ _ _ => neghalf) :=
  fun _ _ _ => (val_main_v58_apply _).trans cneghalf
theorem r_v59 : Is3 (val_main_v59 (F := Ideal) x0 x1 x2 x3 x5 x6 x7) (fun b s _ => neghalf * (Ideal.div (A.tok b s).r3 (A.tok b s).v3)) :=
  (r_v58 h).mul (r_v57 h)
theorem r_v60 : Is3 (val_main_v60 (F := Ideal) x0 x1 x2 x3 x5 x6 x7) (fun b s _ => (A.tok b s).r3) :=
  fun b s i => (val_main_v60_apply x0 x1 x2 x3 x5 x6 x7 _).trans ((r_v56 h).at' _ (c := 0) rfl rfl rfl)
theorem r_v61 : Is3 (val_main_v61 (F := Ideal) x0 x1 x2 x3 x5 x6 x7) (fun b s => (A.tok b s).n3) :=
  (r_v48 h).mul (r_v60 h)
theorem r_v62 : Is3 (val_main_v62 (F := Ideal) x4) (fun _ _ => A.gfin) :=
  fun a b i => (val_main_v62_apply x4 _).trans (at1 h.h4 _ rfl)
theorem r_v63 : Is3 (val_main_v63 (F := Ideal) x4) (fun _ _ => A.gfin) :=
  fun b s i => (val_main_v63_apply x4 _).trans ((r_v62 h).at' _ (a := 0) (b := 0) rfl rfl rfl)
theorem r_v64 : Is3 (val_main_v64 (F := Ideal) x0 x1 x2 x3 x4 x5 x6 x7) (fun b s i => (A.tok b s).n3 i * A.gfin i) :=
  (r_v61 h).mul (r_v63 h)
/-- The error, and the loss. -/
theorem r_v65 : Is3 (val_main_v65 (F := Ideal) x0 x1 x2 x3 x4 x5 x6 x7 x8) (fun b s => (A.tok b s).err) :=
  (r_v64 h).sub h.h8
theorem r_v66 : Is3 (val_main_v66 (F := Ideal) x0 x1 x2 x3 x4 x5 x6 x7 x8) (fun b s i => (A.tok b s).err i * (A.tok b s).err i) :=
  (r_v65 h).mul (r_v65 h)
theorem r_v67 : Is3 (val_main_v67 (F := Ideal)) (fun _ _ _ => two) :=
  fun _ _ _ => (val_main_v67_apply _).trans ctwo
theorem r_v68 : Is3 (val_main_v68 (F := Ideal) x0 x1 x2 x3 x4 x5 x6 x7 x8) (fun b s i => two * (A.tok b s).err i) :=
  (r_v67 h).mul (r_v65 h)
theorem r_v69 : Is (val_main_v69 (F := Ideal) x0 x1 x2 x3 x4 x5 x6 x7 x8) (fun b s => ∑ k, (A.tok b s).err k * (A.tok b s).err k) :=
  fun b s => (val_main_v69_apply x0 x1 x2 x3 x4 x5 x6 x7 x8 _).trans (sum_from Ideal.ofBits_zero_f32 fun k => (r_v66 h).at' _ rfl rfl rfl)
theorem r_v70 : Is (val_main_v70 (F := Ideal)) (fun _ _ => kilo) :=
  fun _ _ => (val_main_v70_apply _).trans c1024
theorem r_v71 : Is (val_main_v71 (F := Ideal) x0 x1 x2 x3 x4 x5 x6 x7 x8) (fun b s => (A.tok b s).loss) :=
  (r_v69 h).div' (r_v70 h)
theorem r_v73 (i : S_.Idx) : val_main_v73 (F := Ideal) x0 x1 x2 x3 x4 x5 x6 x7 x8 i = half * ∑ b, ∑ s, (A.tok b s).loss := by
  have e : val_main_v72 (F := Ideal) x0 x1 x2 x3 x4 x5 x6 x7 x8 i = ∑ b, ∑ s, (A.tok b s).loss := by
    refine (val_main_v72_apply x0 x1 x2 x3 x4 x5 x6 x7 x8 i).trans ?_
    rw [ValueIdx.sum_idx2]
    exact sum_from Ideal.ofBits_zero_f32 fun b => Finset.sum_congr rfl fun s _ => (r_v71 h) b s
  rw [← e, ← chalf]
  rfl
theorem r_v75 : Is (val_main_v75 (F := Ideal)) (fun _ _ => half * 1) :=
  fun _ _ => (val_main_v75_apply _).trans (congrArg₂ (· * ·) chalf cone)
theorem r_v76 : Is (val_main_v76 (F := Ideal)) (fun _ _ => kilo) :=
  fun _ _ => (val_main_v76_apply _).trans c1024
theorem r_v77 : Is (val_main_v77 (F := Ideal)) (fun _ _ => Ideal.div (half * 1) kilo) :=
  (r_v75 h).div' (r_v76 h)
theorem r_v78 : Is3 (val_main_v78 (F := Ideal)) (fun b s _ => Ideal.div (half * 1) kilo) :=
  fun b s i => (val_main_v78_apply _).trans ((r_v77 h).at _ rfl rfl)
/-- The cotangent of the step's output. -/
theorem r_v79 : Is3 (val_main_v79 (F := Ideal) x0 x1 x2 x3 x4 x5 x6 x7 x8) (fun b s => (A.tok b s).dout) :=
  ((r_v78 h).mul (r_v68 h)).congr fun b s i => dout_back _
theorem r_v80 : Is3 (val_main_v80 (F := Ideal) x0 x1 x2 x3 x4 x5 x6 x7 x8) (fun b s i => (A.tok b s).n3 i * (A.tok b s).dout i) :=
  (r_v61 h).mul (r_v79 h)
theorem r_v81 (i : Fin 1024) : val_main_v81 (F := Ideal) x0 x1 x2 x3 x4 x5 x6 x7 x8 (ValueIdx.ix1 i) = ∑ b, ∑ s, (A.tok b s).n3 i * (A.tok b s).dout i :=
  sum_01 reducesTo_S2x2048x1024_S1024_d0_1 (r_v80 h) Ideal.ofBits_zero_f32 i
theorem r_v82 : Is3 (val_main_v82 (F := Ideal) x0 x1 x2 x3 x4 x5 x6 x7 x8) (fun _ _ i => ∑ b, ∑ s, (A.tok b s).n3 i * (A.tok b s).dout i) :=
  fun a b i => (val_main_v82_apply x0 x1 x2 x3 x4 x5 x6 x7 x8 _).trans (at1 (r_v81 h) _ (by show (a.val * 1 + b.val) * 1024 + i.val = i.val; omega))
theorem r_v85 (i : Fin 1024) : val_main_v85 (F := Ideal) x0 x1 x2 x3 x4 x5 x6 x7 x8 (ValueIdx.ix1 i) = ∑ b, ∑ s, (A.tok b s).n3 i * (A.tok b s).dout i :=
  (sum_01 reducesTo_S1x1x1024_S1024_d0_1 (r_v82 h) Ideal.ofBits_zero_f32 i).trans (by simp)
theorem r_v83 : Is3 (val_main_v83 (F := Ideal) x4) (fun _ _ => A.gfin) :=
  fun b s i => (val_main_v83_apply x4 _).trans ((r_v62 h).at' _ (a := 0) (b := 0) rfl rfl rfl)
theorem r_v84 : Is3 (val_main_v84 (F := Ideal) x0 x1 x2 x3 x4 x5 x6 x7 x8) (fun b s => (A.tok b s).e3) :=
  (r_v79 h).mul (r_v83 h)
theorem r_v86 : Is3 (val_main_v86 (F := Ideal) x0 x1 x2 x3 x4 x5 x6 x7 x8) (fun b s i => (A.tok b s).h2 i * (A.tok b s).e3 i) :=
  (r_v48 h).mul (r_v84 h)
theorem r_v87 : Is (val_main_v87 (F := Ideal) x0 x1 x2 x3 x4 x5 x6 x7 x8) (fun b s => ∑ k, (A.tok b s).h2 k * (A.tok b s).e3 k) :=
  fun b s => (val_main_v87_apply x0 x1 x2 x3 x4 x5 x6 x7 x8 _).trans (sum_from Ideal.ofBits_zero_f32 fun k => (r_v86 h).at' _ rfl rfl rfl)
theorem r_v88 : Is3 (val_main_v88 (F := Ideal) x0 x1 x2 x3 x4 x5 x6 x7 x8) (fun b s _ => ∑ k, (A.tok b s).h2 k * (A.tok b s).e3 k) :=
  fun b s q => (val_main_v88_apply x0 x1 x2 x3 x4 x5 x6 x7 x8 _).trans ((r_v87 h).at _ (by show ((b.val * 2048 + s.val) * 1 + q.val) / 2048 = b.val; omega) (by show ((b.val * 2048 + s.val) * 1 + q.val) % 2048 = s.val; omega))
theorem r_v89 : Is3 (val_main_v89 (F := Ideal) x0 x1 x2 x3 x5 x6 x7) (fun b s _ => (A.tok b s).r3) :=
  fun b s i => (val_main_v89_apply x0 x1 x2 x3 x5 x6 x7 _).trans ((r_v56 h).at' _ (c := 0) rfl rfl rfl)
theorem r_v90 : Is3 (val_main_v90 (F := Ideal) x0 x1 x2 x3 x4 x5 x6 x7 x8) (fun b s i => (A.tok b s).e3 i * (A.tok b s).r3) :=
  (r_v84 h).mul (r_v89 h)
theorem r_v91 : Is3 (val_main_v91 (F := Ideal) x0 x1 x2 x3 x4 x5 x6 x7 x8) (fun b s _ => (∑ k, (A.tok b s).h2 k * (A.tok b s).e3 k) * (neghalf * (Ideal.div (A.tok b s).r3 (A.tok b s).v3))) :=
  (r_v88 h).mul (r_v59 h)
theorem r_v92 : Is3 (val_main_v92 (F := Ideal)) (fun _ _ _ => kilo) :=
  fun _ _ _ => (val_main_v92_apply _).trans c1024
theorem r_v93 : Is3 (val_main_v93 (F := Ideal) x0 x1 x2 x3 x4 x5 x6 x7 x8) (fun b s _ => Ideal.div ((∑ k, (A.tok b s).h2 k * (A.tok b s).e3 k) * (neghalf * (Ideal.div (A.tok b s).r3 (A.tok b s).v3))) kilo) :=
  (r_v91 h).div (r_v92 h)
theorem r_v94 : Is (val_main_v94 (F := Ideal) x0 x1 x2 x3 x4 x5 x6 x7 x8) (fun b s => Ideal.div ((∑ k, (A.tok b s).h2 k * (A.tok b s).e3 k) * (neghalf * (Ideal.div (A.tok b s).r3 (A.tok b s).v3))) kilo) :=
  fun b s => (val_main_v94_apply x0 x1 x2 x3 x4 x5 x6 x7 x8 _).trans ((sum_from Ideal.ofBits_zero_f32 fun k => (r_v93 h).at' _ (a := b) (b := s) (c := k) rfl rfl rfl).trans (by simp))
theorem r_v95 : Is3 (val_main_v95 (F := Ideal) x0 x1 x2 x3 x4 x5 x6 x7 x8) (fun b s _ => Ideal.div ((∑ k, (A.tok b s).h2 k * (A.tok b s).e3 k) * (neghalf * (Ideal.div (A.tok b s).r3 (A.tok b s).v3))) kilo) :=
  fun b s i => (val_main_v95_apply x0 x1 x2 x3 x4 x5 x6 x7 x8 _).trans ((r_v94 h).at _ rfl rfl)
theorem r_v96 : Is3 (val_main_v96 (F := Ideal) x0 x1 x2 x3 x4 x5 x6 x7 x8) (fun b s i => (A.tok b s).h2 i * Ideal.div ((∑ k, (A.tok b s).h2 k * (A.tok b s).e3 k) * (neghalf * (Ideal.div (A.tok b s).r3 (A.tok b s).v3))) kilo) :=
  (r_v48 h).mul (r_v95 h)
theorem r_v98 : Is3 (val_main_v98 (F := Ideal) x0 x1 x2 x3 x4 x5 x6 x7 x8) (fun b s i => Ideal.div ((∑ k, (A.tok b s).h2 k * (A.tok b s).e3 k) * (neghalf * (Ideal.div (A.tok b s).r3 (A.tok b s).v3))) kilo * (A.tok b s).h2 i) :=
  (r_v95 h).mul (r_v48 h)
/-- The cotangent of the residual after the MLP. -/
theorem r_v99 : Is3 (val_main_v99 (F := Ideal) x0 x1 x2 x3 x4 x5 x6 x7 x8) (fun b s => (A.tok b s).dh2) :=
  (((r_v90 h).add (r_v96 h)).add (r_v98 h)).congr fun b s i => norm_back (A.tok b s).h2 (A.tok b s).e3 (A.tok b s).v3_pos i
theorem r_v100 : Is3 (val_main_v100 (F := Ideal) x2) (fun b _ => A.md b 5) :=
  fun b s i => (val_main_v100_apply x2 _).trans ((r_v6 h).at' _ (b := 0) rfl rfl rfl)
theorem r_v101 : Is3 (val_main_v101 (F := Ideal) x0 x1 x2 x3 x4 x5 x6 x7 x8) (fun b s => (A.tok b s).ddn) :=
  (r_v100 h).mul (r_v99 h)
theorem r_v102 : Is3 (val_main_v102 (F := Ideal) x0 x1 x2 x3 x4 x5 x6 x7 x8) (fun b s => (A.tok b s).dgf) :=
  (r_v99 h).mul (r_v45 h)
theorem r_v103 : Is (val_main_v103 (F := Ideal) x0 x1 x2 x3 x4 x5 x6 x7 x8) (fun b i => ∑ s, (A.tok b s).dgf i) :=
  fun b i => (val_main_v103_apply x0 x1 x2 x3 x4 x5 x6 x7 x8 _).trans (sum_from Ideal.ofBits_zero_f32 fun k => (r_v102 h).at' _ rfl rfl rfl)
theorem r_v104 : Is3 (val_main_v104 (F := Ideal) x0 x1 x2 x3 x4 x5 x6 x7 x8) (fun b _ i => ∑ s, (A.tok b s).dgf i) :=
  fun b q i => (val_main_v104_apply x0 x1 x2 x3 x4 x5 x6 x7 x8 _).trans ((r_v103 h).at _ (by show ((b.val * 1 + q.val) * 1024 + i.val) / 1024 = b.val; omega) (by show ((b.val * 1 + q.val) * 1024 + i.val) % 1024 = i.val; omega))
theorem r_v105 : Is3 (val_main_v105 (F := Ideal) x0 x1 x2 x3 x4 x5 x6 x7 x8) (fun b s j => ∑ k, (A.tok b s).ddn k * A.wd j k) :=
  fun b s i => (val_main_v105_apply x0 x1 x2 x3 x4 x5 x6 x7 x8 _).trans (sum_prod (fun k => (r_v101 h).at' _ rfl rfl rfl) (fun k => h.h7.at _ rfl rfl))
theorem r_v106 : Is3 (val_main_v106 (F := Ideal) x0 x1 x2 x3 x4 x5 x6 x7 x8) (fun b s j => (∑ k, (A.tok b s).ddn k * A.wd j k) * (two * (A.tok b s).relu j)) :=
  (r_v105 h).mul (r_v43 h)
theorem r_v107 : Is3 (val_main_v107 (F := Ideal)) (fun _ _ _ => 0) :=
  fun _ _ _ => (val_main_v107_apply _).trans czero
/-- The cotangent before the ReLU, and the MLP's input's. -/
theorem r_v108 : Is3 (val_main_v108 (F := Ideal) x0 x1 x2 x3 x4 x5 x6 x7 x8) (fun b s => (A.tok b s).dup) :=
  (Is3.select_pos (r_v36 h) (fun _ => Ideal.ofBits_zero_f32) (r_v106 h) (r_v107 h)).congr fun b s j => relu_back _ _
theorem r_v109 : Is3 (val_main_v109 (F := Ideal) x0 x1 x2 x3 x4 x5 x6 x7 x8) (fun b s => (A.tok b s).du) :=
  fun b s i => (val_main_v109_apply x0 x1 x2 x3 x4 x5 x6 x7 x8 _).trans (sum_prod (fun k => (r_v108 h).at' _ rfl rfl rfl) (fun k => h.h6.at _ rfl rfl))
theorem r_v110 : Is (val_main_v110 (F := Ideal) x0 x1 x2 x3 x4 x5 x6 x7 x8) (fun b i => ∑ s, (A.tok b s).du i) :=
  fun b i => (val_main_v110_apply x0 x1 x2 x3 x4 x5 x6 x7 x8 _).trans (sum_from Ideal.ofBits_zero_f32 fun k => (r_v109 h).at' _ rfl rfl rfl)
theorem r_v111 : Is3 (val_main_v111 (F := Ideal) x0 x1 x2 x3 x4 x5 x6 x7 x8) (fun b _ i => ∑ s, (A.tok b s).du i) :=
  fun b q i => (val_main_v111_apply x0 x1 x2 x3 x4 x5 x6 x7 x8 _).trans ((r_v110 h).at _ (by show ((b.val * 1 + q.val) * 1024 + i.val) / 1024 = b.val; omega) (by show ((b.val * 1 + q.val) * 1024 + i.val) % 1024 = i.val; omega))
theorem r_v112 : Is3 (val_main_v112 (F := Ideal) x0 x1 x2 x3 x4 x5 x6 x7 x8) (fun b s => (A.tok b s).dsc) :=
  ((r_v28 h).mul (r_v109 h)).congr fun b s i => mul_comm _ _
theorem r_v113 : Is (val_main_v113 (F := Ideal) x0 x1 x2 x3 x4 x5 x6 x7 x8) (fun b i => ∑ s, (A.tok b s).dsc i) :=
  fun b i => (val_main_v113_apply x0 x1 x2 x3 x4 x5 x6 x7 x8 _).trans (sum_from Ideal.ofBits_zero_f32 fun k => (r_v112 h).at' _ rfl rfl rfl)
theorem r_v114 : Is3 (val_main_v114 (F := Ideal) x0 x1 x2 x3 x4 x5 x6 x7 x8) (fun b _ i => ∑ s, (A.tok b s).dsc i) :=
  fun b q i => (val_main_v114_apply x0 x1 x2 x3 x4 x5 x6 x7 x8 _).trans ((r_v113 h).at _ (by show ((b.val * 1 + q.val) * 1024 + i.val) / 1024 = b.val; omega) (by show ((b.val * 1 + q.val) * 1024 + i.val) % 1024 = i.val; omega))
theorem r_v115 : Is3 (val_main_v115 (F := Ideal) x2) (fun b _ i => 1 + A.md b 4 i) :=
  fun b s i => (val_main_v115_apply x2 _).trans ((r_v30 h).at' _ (b := 0) rfl rfl rfl)
theorem r_v116 : Is3 (val_main_v116 (F := Ideal) x0 x1 x2 x3 x4 x5 x6 x7 x8) (fun b s i => (A.tok b s).du i * (1 + A.md b 4 i)) :=
  (r_v109 h).mul (r_v115 h)
theorem r_v117 : Is3 (val_main_v117 (F := Ideal) x0 x1 x2 x3 x4 x5 x6 x7 x8) (fun b s => (A.tok b s).dg) :=
  ((r_v25 h).mul (r_v116 h)).congr fun b s i => mul_comm _ _
theorem r_v118 (i : Fin 1024) : val_main_v118 (F := Ideal) x0 x1 x2 x3 x4 x5 x6 x7 x8 (ValueIdx.ix1 i) = ∑ b, ∑ s, (A.tok b s).dg i :=
  sum_01 reducesTo_S2x2048x1024_S1024_d0_1 (r_v117 h) Ideal.ofBits_zero_f32 i
theorem r_v119 : Is3 (val_main_v119 (F := Ideal) x0 x1 x2 x3 x4 x5 x6 x7 x8) (fun _ _ i => ∑ b, ∑ s, (A.tok b s).dg i) :=
  fun a b i => (val_main_v119_apply x0 x1 x2 x3 x4 x5 x6 x7 x8 _).trans (at1 (r_v118 h) _ (by show (a.val * 1 + b.val) * 1024 + i.val = i.val; omega))
theorem r_v122 (i : Fin 1024) : val_main_v122 (F := Ideal) x0 x1 x2 x3 x4 x5 x6 x7 x8 (ValueIdx.ix1 i) = ∑ b, ∑ s, (A.tok b s).dg i :=
  (sum_01 reducesTo_S1x1x1024_S1024_d0_1 (r_v119 h) Ideal.ofBits_zero_f32 i).trans (by simp)
theorem r_v120 : Is3 (val_main_v120 (F := Ideal) x3) (fun _ _ => A.g) :=
  fun b s i => (val_main_v120_apply x3 _).trans ((r_v26 h).at' _ (a := 0) (b := 0) rfl rfl rfl)
theorem r_v121 : Is3 (val_main_v121 (F := Ideal) x0 x1 x2 x3 x4 x5 x6 x7 x8) (fun b s => (A.tok b s).e2) :=
  ((r_v116 h).mul (r_v120 h)).congr fun b s i => (mul_assoc _ _ _).trans (congrArg _ (mul_comm _ _))
theorem r_v123 : Is3 (val_main_v123 (F := Ideal) x0 x1 x2 x3 x4 x5 x6 x7 x8) (fun b s i => (A.tok b s).h1 i * (A.tok b s).e2 i) :=
  (r_v11 h).mul (r_v121 h)
theorem r_v124 : Is (val_main_v124 (F := Ideal) x0 x1 x2 x3 x4 x5 x6 x7 x8) (fun b s => ∑ k, (A.tok b s).h1 k * (A.tok b s).e2 k) :=
  fun b s => (val_main_v124_apply x0 x1 x2 x3 x4 x5 x6 x7 x8 _).trans (sum_from Ideal.ofBits_zero_f32 fun k => (r_v123 h).at' _ rfl rfl rfl)
theorem r_v125 : Is3 (val_main_v125 (F := Ideal) x0 x1 x2 x3 x4 x5 x6 x7 x8) (fun b s _ => ∑ k, (A.tok b s).h1 k * (A.tok b s).e2 k) :=
  fun b s q => (val_main_v125_apply x0 x1 x2 x3 x4 x5 x6 x7 x8 _).trans ((r_v124 h).at _ (by show ((b.val * 2048 + s.val) * 1 + q.val) / 2048 = b.val; omega) (by show ((b.val * 2048 + s.val) * 1 + q.val) % 2048 = s.val; omega))
theorem r_v126 : Is3 (val_main_v126 (F := Ideal) x0 x1 x2 x5) (fun b s _ => (A.tok b s).r2) :=
  fun b s i => (val_main_v126_apply x0 x1 x2 x5 _).trans ((r_v20 h).at' _ (c := 0) rfl rfl rfl)
theorem r_v127 : Is3 (val_main_v127 (F := Ideal) x0 x1 x2 x3 x4 x5 x6 x7 x8) (fun b s i => (A.tok b s).e2 i * (A.tok b s).r2) :=
  (r_v121 h).mul (r_v126 h)
theorem r_v129 : Is3 (val_main_v129 (F := Ideal) x0 x1 x2 x3 x4 x5 x6 x7 x8) (fun b s _ => (∑ k, (A.tok b s).h1 k * (A.tok b s).e2 k) * (neghalf * (Ideal.div (A.tok b s).r2 (A.tok b s).v2))) :=
  (r_v125 h).mul (r_v23 h)
theorem r_v130 : Is3 (val_main_v130 (F := Ideal)) (fun _ _ _ => kilo) :=
  fun _ _ _ => (val_main_v130_apply _).trans c1024
theorem r_v131 : Is3 (val_main_v131 (F := Ideal) x0 x1 x2 x3 x4 x5 x6 x7 x8) (fun b s _ => Ideal.div ((∑ k, (A.tok b s).h1 k * (A.tok b s).e2 k) * (neghalf * (Ideal.div (A.tok b s).r2 (A.tok b s).v2))) kilo) :=
  (r_v129 h).div (r_v130 h)
theorem r_v132 : Is (val_main_v132 (F := Ideal) x0 x1 x2 x3 x4 x5 x6 x7 x8) (fun b s => Ideal.div ((∑ k, (A.tok b s).h1 k * (A.tok b s).e2 k) * (neghalf * (Ideal.div (A.tok b s).r2 (A.tok b s).v2))) kilo) :=
  fun b s => (val_main_v132_apply x0 x1 x2 x3 x4 x5 x6 x7 x8 _).trans ((sum_from Ideal.ofBits_zero_f32 fun k => (r_v131 h).at' _ (a := b) (b := s) (c := k) rfl rfl rfl).trans (by simp))
theorem r_v133 : Is3 (val_main_v133 (F := Ideal) x0 x1 x2 x3 x4 x5 x6 x7 x8) (fun b s _ => Ideal.div ((∑ k, (A.tok b s).h1 k * (A.tok b s).e2 k) * (neghalf * (Ideal.div (A.tok b s).r2 (A.tok b s).v2))) kilo) :=
  fun b s i => (val_main_v133_apply x0 x1 x2 x3 x4 x5 x6 x7 x8 _).trans ((r_v132 h).at _ rfl rfl)
theorem r_v134 : Is3 (val_main_v134 (F := Ideal) x0 x1 x2 x3 x4 x5 x6 x7 x8) (fun b s i => (A.tok b s).h1 i * Ideal.div ((∑ k, (A.tok b s).h1 k * (A.tok b s).e2 k) * (neghalf * (Ideal.div (A.tok b s).r2 (A.tok b s).v2))) kilo) :=
  (r_v11 h).mul (r_v133 h)
theorem r_v128 : Is3 (val_main_v128 (F := Ideal) x0 x1 x2 x3 x4 x5 x6 x7 x8) (fun b s i => (A.tok b s).dh2 i + (A.tok b s).e2 i * (A.tok b s).r2) :=
  (r_v99 h).add (r_v127 h)
theorem r_v136 : Is3 (val_main_v136 (F := Ideal) x0 x1 x2 x3 x4 x5 x6 x7 x8) (fun b s i => Ideal.div ((∑ k, (A.tok b s).h1 k * (A.tok b s).e2 k) * (neghalf * (Ideal.div (A.tok b s).r2 (A.tok b s).v2))) kilo * (A.tok b s).h1 i) :=
  (r_v133 h).mul (r_v11 h)
/-- The cotangent of the residual after the mixer, of the projection and of the mixer's output. -/
theorem r_v137 : Is3 (val_main_v137 (F := Ideal) x0 x1 x2 x3 x4 x5 x6 x7 x8) (fun b s => (A.tok b s).dh1) :=
  (((r_v128 h).add (r_v134 h)).add (r_v136 h)).congr fun b s i =>
    (add4 _ _ _ _).trans (congrArg _ (norm_back (A.tok b s).h1 (A.tok b s).e2 (A.tok b s).v2_pos i))
theorem r_v139 : Is3 (val_main_v139 (F := Ideal) x2) (fun b _ => A.md b 2) :=
  fun b s i => (val_main_v139_apply x2 _).trans ((r_v3 h).at' _ (b := 0) rfl rfl rfl)
theorem r_v140 : Is3 (val_main_v140 (F := Ideal) x0 x1 x2 x3 x4 x5 x6 x7 x8) (fun b s => (A.tok b s).da) :=
  (r_v139 h).mul (r_v137 h)
theorem r_v141 : Is3 (val_main_v141 (F := Ideal) x0 x1 x2 x3 x4 x5 x6 x7 x8) (fun b s => (A.tok b s).dgm) :=
  (r_v137 h).mul (r_v8 h)
theorem r_v142 : Is (val_main_v142 (F := Ideal) x0 x1 x2 x3 x4 x5 x6 x7 x8) (fun b i => ∑ s, (A.tok b s).dgm i) :=
  fun b i => (val_main_v142_apply x0 x1 x2 x3 x4 x5 x6 x7 x8 _).trans (sum_from Ideal.ofBits_zero_f32 fun k => (r_v141 h).at' _ rfl rfl rfl)
theorem r_v143 : Is3 (val_main_v143 (F := Ideal) x0 x1 x2 x3 x4 x5 x6 x7 x8) (fun b _ i => ∑ s, (A.tok b s).dgm i) :=
  fun b q i => (val_main_v143_apply x0 x1 x2 x3 x4 x5 x6 x7 x8 _).trans ((r_v142 h).at _ (by show ((b.val * 1 + q.val) * 1024 + i.val) / 1024 = b.val; omega) (by show ((b.val * 1 + q.val) * 1024 + i.val) % 1024 = i.val; omega))
theorem r_v144 : Is3 (val_main_v144 (F := Ideal) x0 x1 x2 x3 x4 x5 x6 x7 x8) (fun b s => (A.tok b s).dy) :=
  fun b s i => (val_main_v144_apply x0 x1 x2 x3 x4 x5 x6 x7 x8 _).trans (sum_prod (fun k => (r_v140 h).at' _ rfl rfl rfl) (fun k => h.h5.at _ rfl rfl))
theorem r_v145 : Is3 (val_main_v145 (F := Ideal)) (fun _ _ _ => 0) :=
  fun _ _ _ => (val_main_v145_apply _).trans czero
/-- The arrays that `dmod` stacks. -/
abbrev modPieces (x0 : (⟨S2x2048x1024, .f32⟩ : BufTy).Contents (Elt Ideal)) (x1 : (⟨S2x2048x1536, .bf16⟩ : BufTy).Contents (Elt Ideal))
    (x2 : (⟨S2x6x1024, .f32⟩ : BufTy).Contents (Elt Ideal)) (x3 : (⟨S1x1024, .f32⟩ : BufTy).Contents (Elt Ideal))
    (x4 : (⟨S1024, .f32⟩ : BufTy).Contents (Elt Ideal)) (x5 : (⟨S1536x1024, .f32⟩ : BufTy).Contents (Elt Ideal))
    (x6 : (⟨S1024x4096, .f32⟩ : BufTy).Contents (Elt Ideal)) (x7 : (⟨S4096x1024, .f32⟩ : BufTy).Contents (Elt Ideal))
    (x8 : (⟨S2x2048x1024, .f32⟩ : BufTy).Contents (Elt Ideal)) : List ((s : Shape) × (s.Idx → EReal)) :=
  [⟨S2x2x1024, val_main_v145 (F := Ideal)⟩,
    ⟨S2x1x1024, val_main_v143 (F := Ideal) x0 x1 x2 x3 x4 x5 x6 x7 x8⟩,
    ⟨S2x1x1024, val_main_v111 (F := Ideal) x0 x1 x2 x3 x4 x5 x6 x7 x8⟩,
    ⟨S2x1x1024, val_main_v114 (F := Ideal) x0 x1 x2 x3 x4 x5 x6 x7 x8⟩,
    ⟨S2x1x1024, val_main_v104 (F := Ideal) x0 x1 x2 x3 x4 x5 x6 x7 x8⟩,
    ⟨S2x2x1024, val_main_v145 (F := Ideal)⟩]
/-- The arrays that `acc` stacks. -/
abbrev accPieces (x0 : (⟨S2x2048x1024, .f32⟩ : BufTy).Contents (Elt Ideal)) (x1 : (⟨S2x2048x1536, .bf16⟩ : BufTy).Contents (Elt Ideal))
    (x2 : (⟨S2x6x1024, .f32⟩ : BufTy).Contents (Elt Ideal)) (x3 : (⟨S1x1024, .f32⟩ : BufTy).Contents (Elt Ideal))
    (x4 : (⟨S1024, .f32⟩ : BufTy).Contents (Elt Ideal)) (x5 : (⟨S1536x1024, .f32⟩ : BufTy).Contents (Elt Ideal))
    (x6 : (⟨S1024x4096, .f32⟩ : BufTy).Contents (Elt Ideal)) (x7 : (⟨S4096x1024, .f32⟩ : BufTy).Contents (Elt Ideal))
    (x8 : (⟨S2x2048x1024, .f32⟩ : BufTy).Contents (Elt Ideal)) : List ((s : Shape) × (s.Idx → EReal)) :=
  [⟨S1x1024, val_main_v138 (F := Ideal) x0 x1 x2 x3 x4 x5 x6 x7 x8⟩,
    ⟨S1x1024, val_main_v147 (F := Ideal) x0 x1 x2 x3 x4 x5 x6 x7 x8⟩,
    ⟨S1x1024, val_main_v148 (F := Ideal) x0 x1 x2 x3 x4 x5 x6 x7 x8⟩,
    ⟨S5x1024, val_main_v149 (F := Ideal)⟩]
/-- The sums over the tokens of a sequence. -/
theorem r_v146 : Is3 (val_main_v146 (F := Ideal) x0 x1 x2 x3 x4 x5 x6 x7 x8) (fun b k i => ∑ s, (A.tok b s).mrow k i) :=
  fun b k j => match k with
    | ⟨0, _⟩ => (cat_mid (modPieces x0 x1 x2 x3 x4 x5 x6 x7 x8) concatenates_S2x2x1024_S2x1x1024_S2x1x1024_S2x1x1024_S2x1x1024_S2x2x1024_S2x8x1024_d1 b 0 j 0 (by show 0 < 6; omega) (val_main_v145 (F := Ideal)) rfl 0 rfl).trans (((r_v145 h) b 0 j).trans (by simp [Tok.mrow]))
    | ⟨1, _⟩ => (cat_mid (modPieces x0 x1 x2 x3 x4 x5 x6 x7 x8) concatenates_S2x2x1024_S2x1x1024_S2x1x1024_S2x1x1024_S2x1x1024_S2x2x1024_S2x8x1024_d1 b 1 j 0 (by show 0 < 6; omega) (val_main_v145 (F := Ideal)) rfl 1 rfl).trans (((r_v145 h) b 1 j).trans (by simp [Tok.mrow]))
    | ⟨2, _⟩ => (cat_mid (modPieces x0 x1 x2 x3 x4 x5 x6 x7 x8) concatenates_S2x2x1024_S2x1x1024_S2x1x1024_S2x1x1024_S2x1x1024_S2x2x1024_S2x8x1024_d1 b 2 j 1 (by show 1 < 6; omega) (val_main_v143 (F := Ideal) x0 x1 x2 x3 x4 x5 x6 x7 x8) rfl 0 rfl).trans ((r_v143 h) b 0 j)
    | ⟨3, _⟩ => (cat_mid (modPieces x0 x1 x2 x3 x4 x5 x6 x7 x8) concatenates_S2x2x1024_S2x1x1024_S2x1x1024_S2x1x1024_S2x1x1024_S2x2x1024_S2x8x1024_d1 b 3 j 2 (by show 2 < 6; omega) (val_main_v111 (F := Ideal) x0 x1 x2 x3 x4 x5 x6 x7 x8) rfl 0 rfl).trans ((r_v111 h) b 0 j)
    | ⟨4, _⟩ => (cat_mid (modPieces x0 x1 x2 x3 x4 x5 x6 x7 x8) concatenates_S2x2x1024_S2x1x1024_S2x1x1024_S2x1x1024_S2x1x1024_S2x2x1024_S2x8x1024_d1 b 4 j 3 (by show 3 < 6; omega) (val_main_v114 (F := Ideal) x0 x1 x2 x3 x4 x5 x6 x7 x8) rfl 0 rfl).trans ((r_v114 h) b 0 j)
    | ⟨5, _⟩ => (cat_mid (modPieces x0 x1 x2 x3 x4 x5 x6 x7 x8) concatenates_S2x2x1024_S2x1x1024_S2x1x1024_S2x1x1024_S2x1x1024_S2x2x1024_S2x8x1024_d1 b 5 j 4 (by show 4 < 6; omega) (val_main_v104 (F := Ideal) x0 x1 x2 x3 x4 x5 x6 x7 x8) rfl 0 rfl).trans ((r_v104 h) b 0 j)
    | ⟨6, _⟩ => (cat_mid (modPieces x0 x1 x2 x3 x4 x5 x6 x7 x8) concatenates_S2x2x1024_S2x1x1024_S2x1x1024_S2x1x1024_S2x1x1024_S2x2x1024_S2x8x1024_d1 b 6 j 5 (by show 5 < 6; omega) (val_main_v145 (F := Ideal)) rfl 0 rfl).trans (((r_v145 h) b 0 j).trans (by simp [Tok.mrow]))
    | ⟨7, _⟩ => (cat_mid (modPieces x0 x1 x2 x3 x4 x5 x6 x7 x8) concatenates_S2x2x1024_S2x1x1024_S2x1x1024_S2x1x1024_S2x1x1024_S2x2x1024_S2x8x1024_d1 b 7 j 5 (by show 5 < 6; omega) (val_main_v145 (F := Ideal)) rfl 1 rfl).trans (((r_v145 h) b 1 j).trans (by simp [Tok.mrow]))
theorem r_v138 : Is (val_main_v138 (F := Ideal) x0 x1 x2 x3 x4 x5 x6 x7 x8) (fun _ i => ∑ b, ∑ s, (A.tok b s).dg i) :=
  fun a i => (val_main_v138_apply x0 x1 x2 x3 x4 x5 x6 x7 x8 _).trans (at1 (r_v122 h) _ rfl)
theorem r_v147 : Is (val_main_v147 (F := Ideal) x0 x1 x2 x3 x4 x5 x6 x7 x8) (fun _ i => ∑ b, ∑ s, (A.tok b s).n3 i * (A.tok b s).dout i) :=
  fun a i => (val_main_v147_apply x0 x1 x2 x3 x4 x5 x6 x7 x8 _).trans (at1 (r_v85 h) _ (by show a.val * 1024 + i.val = i.val; omega))
theorem r_v148 : Is (val_main_v148 (F := Ideal) x0 x1 x2 x3 x4 x5 x6 x7 x8) (fun _ _ => half * ∑ b, ∑ s, (A.tok b s).loss) :=
  fun a i => (val_main_v148_apply x0 x1 x2 x3 x4 x5 x6 x7 x8 _).trans (r_v73 h _)
theorem r_v149 : Is (val_main_v149 (F := Ideal)) (fun _ _ => 0) :=
  fun _ _ => (val_main_v149_apply _).trans czero
/-- The sums over all tokens. -/
theorem r_v150 : Is (val_main_v150 (F := Ideal) x0 x1 x2 x3 x4 x5 x6 x7 x8) (fun k i => ∑ b, ∑ s, (A.tok b s).arow k i) :=
  fun k j => match k with
    | ⟨0, _⟩ => (cat_row (accPieces x0 x1 x2 x3 x4 x5 x6 x7 x8) concatenates_S1x1024_S1x1024_S1x1024_S5x1024_S8x1024_d0 0 j 0 (by show 0 < 4; omega) (val_main_v138 (F := Ideal) x0 x1 x2 x3 x4 x5 x6 x7 x8) rfl 0 rfl).trans ((r_v138 h) 0 j)
    | ⟨1, _⟩ => (cat_row (accPieces x0 x1 x2 x3 x4 x5 x6 x7 x8) concatenates_S1x1024_S1x1024_S1x1024_S5x1024_S8x1024_d0 1 j 1 (by show 1 < 4; omega) (val_main_v147 (F := Ideal) x0 x1 x2 x3 x4 x5 x6 x7 x8) rfl 0 rfl).trans (((r_v147 h) 0 j).trans (by simp [Tok.arow, Tok.dgfin, mul_comm]))
    | ⟨2, _⟩ => (cat_row (accPieces x0 x1 x2 x3 x4 x5 x6 x7 x8) concatenates_S1x1024_S1x1024_S1x1024_S5x1024_S8x1024_d0 2 j 2 (by show 2 < 4; omega) (val_main_v148 (F := Ideal) x0 x1 x2 x3 x4 x5 x6 x7 x8) rfl 0 rfl).trans (((r_v148 h) 0 j).trans ((half_sum _ _).trans (Finset.sum_congr rfl fun b _ => half_sum _ _)))
    | ⟨3, _⟩ => (cat_row (accPieces x0 x1 x2 x3 x4 x5 x6 x7 x8) concatenates_S1x1024_S1x1024_S1x1024_S5x1024_S8x1024_d0 3 j 3 (by show 3 < 4; omega) (val_main_v149 (F := Ideal)) rfl 0 rfl).trans (((r_v149 h) 0 j).trans (by simp [Tok.arow]))
    | ⟨4, _⟩ => (cat_row (accPieces x0 x1 x2 x3 x4 x5 x6 x7 x8) concatenates_S1x1024_S1x1024_S1x1024_S5x1024_S8x1024_d0 4 j 3 (by show 3 < 4; omega) (val_main_v149 (F := Ideal)) rfl 1 rfl).trans (((r_v149 h) 1 j).trans (by simp [Tok.arow]))
    | ⟨5, _⟩ => (cat_row (accPieces x0 x1 x2 x3 x4 x5 x6 x7 x8) concatenates_S1x1024_S1x1024_S1x1024_S5x1024_S8x1024_d0 5 j 3 (by show 3 < 4; omega) (val_main_v149 (F := Ideal)) rfl 2 rfl).trans (((r_v149 h) 2 j).trans (by simp [Tok.arow]))
    | ⟨6, _⟩ => (cat_row (accPieces x0 x1 x2 x3 x4 x5 x6 x7 x8) concatenates_S1x1024_S1x1024_S1x1024_S5x1024_S8x1024_d0 6 j 3 (by show 3 < 4; omega) (val_main_v149 (F := Ideal)) rfl 3 rfl).trans (((r_v149 h) 3 j).trans (by simp [Tok.arow]))
    | ⟨7, _⟩ => (cat_row (accPieces x0 x1 x2 x3 x4 x5 x6 x7 x8) concatenates_S1x1024_S1x1024_S1x1024_S5x1024_S8x1024_d0 7 j 3 (by show 3 < 4; omega) (val_main_v149 (F := Ideal)) rfl 4 rfl).trans (((r_v149 h) 4 j).trans (by simp [Tok.arow]))
theorem r_v152 : val_main_v152 (F := Ideal) x0 x1 x2 x3 x4 x5 x6 x7 x8 = Rows A Tok.da := funext fun i =>
  (congrArg (val_main_v152 (F := Ideal) x0 x1 x2 x3 x4 x5 x6 x7 x8) (ext2 rfl rfl : i = ValueIdx.ix2 (i 0) (i 1))).trans ((cast_flat _ _ (i 0) (i 1)).trans ((r_v140 h) _ _ _))
theorem r_v154 : val_main_v154 (F := Ideal) x0 x1 x2 x3 x4 x5 x6 x7 x8 = Rows A Tok.dy := funext fun i =>
  (congrArg (val_main_v154 (F := Ideal) x0 x1 x2 x3 x4 x5 x6 x7 x8) (ext2 rfl rfl : i = ValueIdx.ix2 (i 0) (i 1))).trans ((cast_flat _ _ (i 0) (i 1)).trans ((r_v144 h) _ _ _))
theorem r_v155 : val_main_v155 (F := Ideal) x0 x1 x2 x3 x4 x5 x6 x7 x8 = Rows A Tok.dh1 := funext fun i =>
  (congrArg (val_main_v155 (F := Ideal) x0 x1 x2 x3 x4 x5 x6 x7 x8) (ext2 rfl rfl : i = ValueIdx.ix2 (i 0) (i 1))).trans ((cast_flat _ _ (i 0) (i 1)).trans ((r_v137 h) _ _ _))
theorem r_v157 : val_main_v157 (F := Ideal) x0 x1 x2 x3 x5 = Rows A Tok.u := funext fun i =>
  (congrArg (val_main_v157 (F := Ideal) x0 x1 x2 x3 x5) (ext2 rfl rfl : i = ValueIdx.ix2 (i 0) (i 1))).trans ((cast_flat _ _ (i 0) (i 1)).trans ((r_v34 h) _ _ _))
theorem r_v159 : val_main_v159 (F := Ideal) x0 x1 x2 x3 x5 x6 = Rows A Tok.f := funext fun i =>
  (congrArg (val_main_v159 (F := Ideal) x0 x1 x2 x3 x5 x6) (ext2 rfl rfl : i = ValueIdx.ix2 (i 0) (i 1))).trans ((cast_flat _ _ (i 0) (i 1)).trans ((r_v41 h) _ _ _))
theorem r_v161 : val_main_v161 (F := Ideal) x0 x1 x2 x3 x4 x5 x6 x7 x8 = Rows A Tok.dup := funext fun i =>
  (congrArg (val_main_v161 (F := Ideal) x0 x1 x2 x3 x4 x5 x6 x7 x8) (ext2 rfl rfl : i = ValueIdx.ix2 (i 0) (i 1))).trans ((cast_flat _ _ (i 0) (i 1)).trans ((r_v108 h) _ _ _))
theorem r_v163 : val_main_v163 (F := Ideal) x0 x1 x2 x3 x4 x5 x6 x7 x8 = Rows A Tok.ddn := funext fun i =>
  (congrArg (val_main_v163 (F := Ideal) x0 x1 x2 x3 x4 x5 x6 x7 x8) (ext2 rfl rfl : i = ValueIdx.ix2 (i 0) (i 1))).trans ((cast_flat _ _ (i 0) (i 1)).trans ((r_v101 h) _ _ _))

end Cert.MlpRefIdeal.Val

end
-- ==== Proof.MlpValue.lean ====
/-
  The whole backward step of the MLP, the output layer and the loss (call `mlp_fused`): the kernel's
  nine arrays and the reference's are the same arrays of the model's quantities.
-/
module

public import proofs.«01_k».proof.Proof.MlpKernel
public import proofs.«01_k».proof.Proof.MlpRef
public import proofs.«01_k».proof.Proof.Gen.MlpRefIdeal.Run
public import proofs.«01_k».proof.Defs

@[expose] public section

set_option maxRecDepth 16384

noncomputable section

namespace Cert.MlpIdeal.Val

open Cert.MlpIdeal Cert.Arr Idealize.ShloMosaic Idealize.ShloMosaic.TcCoe Idealize.SL.Sem

variable (m : (ℓ : Loc nD τ sig) → Buf (Elt Ideal) ℓ) (c : Dev nD)

/-- The entries of the arguments. -/
def args : Args where
  x := fun b s i => (m ((c.tc : Thread nD τ).loc main_arg0) : (⟨3, ![2, 2048, 1024]⟩ : Shape).Idx → EReal) (ValueIdx.ix3 b s i)
  y := fun b s i => (m ((c.tc : Thread nD τ).loc main_arg1) : (⟨3, ![2, 2048, 1536]⟩ : Shape).Idx → EReal) (ValueIdx.ix3 b s i)
  md := fun b k i => (m ((c.tc : Thread nD τ).loc main_arg2) : (⟨3, ![2, 6, 1024]⟩ : Shape).Idx → EReal) (ValueIdx.ix3 b k i)
  g := fun i => (m ((c.tc : Thread nD τ).loc main_arg3) : (⟨2, ![1, 1024]⟩ : Shape).Idx → EReal) (ValueIdx.ix2 0 i)
  gfin := fun i => (m ((c.tc : Thread nD τ).loc main_arg4) : (⟨1, ![1024]⟩ : Shape).Idx → EReal) (ValueIdx.ix1 i)
  wo := fun i j => (m ((c.tc : Thread nD τ).loc main_arg5) : (⟨2, ![1536, 1024]⟩ : Shape).Idx → EReal) (ValueIdx.ix2 i j)
  wu := fun i j => (m ((c.tc : Thread nD τ).loc main_arg6) : (⟨2, ![1024, 4096]⟩ : Shape).Idx → EReal) (ValueIdx.ix2 i j)
  wd := fun i j => (m ((c.tc : Thread nD τ).loc main_arg7) : (⟨2, ![4096, 1024]⟩ : Shape).Idx → EReal) (ValueIdx.ix2 i j)
  tg := fun b s i => (m ((c.tc : Thread nD τ).loc main_arg8) : (⟨3, ![2, 2048, 1024]⟩ : Shape).Idx → EReal) (ValueIdx.ix3 b s i)

/-- The arguments hold them. -/
theorem holds : Holds m c (args m c) where
  h0 := fun _ _ _ => rfl
  h1 := fun _ _ _ => rfl
  h2 := fun _ _ _ => rfl
  h3 := fun a i => by
    obtain rfl : a = 0 := Subsingleton.elim _ _
    rfl
  h4 := fun _ => rfl
  h5 := fun _ _ => rfl
  h6 := fun _ _ => rfl
  h7 := fun _ _ => rfl
  h8 := fun _ _ _ => rfl

end Cert.MlpIdeal.Val

open Idealize.ShloMosaic Idealize.ShloMosaic.TcCoe Idealize.SL.Sem Cert.Arr Cert.MlpIdeal.Val Cert.MlpRefIdeal.Val Cert.MlpRefIdeal.Read in
/-- The kernel and the reference compute the same nine arrays. -/
theorem Cert.MlpIdeal.Val.algebraic : Cert.algebraic_MlpIdeal_MlpRefIdeal := by
  intro m g m' g' _ hagree
  have H := fun c => holds m c
  have H' : ∀ c : Dev Cert.MlpIdeal.nD, Reads (args m c) (m' ((c.tc : Thread Cert.MlpRefIdeal.nD Cert.MlpRefIdeal.τ).loc Cert.MlpRefIdeal.main_arg0))
      (m' ((c.tc : Thread Cert.MlpRefIdeal.nD Cert.MlpRefIdeal.τ).loc Cert.MlpRefIdeal.main_arg1))
      (m' ((c.tc : Thread Cert.MlpRefIdeal.nD Cert.MlpRefIdeal.τ).loc Cert.MlpRefIdeal.main_arg2))
      (m' ((c.tc : Thread Cert.MlpRefIdeal.nD Cert.MlpRefIdeal.τ).loc Cert.MlpRefIdeal.main_arg3))
      (m' ((c.tc : Thread Cert.MlpRefIdeal.nD Cert.MlpRefIdeal.τ).loc Cert.MlpRefIdeal.main_arg4))
      (m' ((c.tc : Thread Cert.MlpRefIdeal.nD Cert.MlpRefIdeal.τ).loc Cert.MlpRefIdeal.main_arg5))
      (m' ((c.tc : Thread Cert.MlpRefIdeal.nD Cert.MlpRefIdeal.τ).loc Cert.MlpRefIdeal.main_arg6))
      (m' ((c.tc : Thread Cert.MlpRefIdeal.nD Cert.MlpRefIdeal.τ).loc Cert.MlpRefIdeal.main_arg7))
      (m' ((c.tc : Thread Cert.MlpRefIdeal.nD Cert.MlpRefIdeal.τ).loc Cert.MlpRefIdeal.main_arg8)) := fun c => by
    obtain ⟨e0, e1, e2, e3, e4, e5, e6, e7, e8⟩ := hagree c
    rw [e0, e1, e2, e3, e4, e5, e6, e7, e8]
    exact H c
  refine ⟨fun c => Rows (args m c) Tok.da,
    fun c => Rows (args m c) Tok.dy,
    fun c => Rows (args m c) Tok.dh1,
    fun c => Rows (args m c) Tok.u,
    fun c => Rows (args m c) Tok.f,
    fun c => Rows (args m c) Tok.dup,
    fun c => Rows (args m c) Tok.ddn,
    fun c => mods (args m c), fun c => accs (args m c),
    (θ_run Cert.MlpIdeal.defs _ _).mono (fun r h c => ?_) (Cert.MlpIdeal.Value.run_blocks (F := Ideal) m g),
    (θ_run Cert.MlpRefIdeal.defs _ _).mono (fun r h c => ?_) (Cert.MlpRefIdeal.Value.run (F := Ideal) m' g')⟩
  · obtain ⟨h0, h1, h2, h3, h4, h5, h6, h7, h8, hk⟩ := h c
    exact ⟨h0.trans (final9 (H c)), h1.trans (final10 (H c)), h2.trans (final11 (H c)), h3.trans (final12 (H c)), h4.trans (final13 (H c)), h5.trans (final14 (H c)), h6.trans (final15 (H c)), h7.trans (final16 (H c)), h8.trans (final17 (H c)), hk⟩
  · obtain ⟨h0, h1, h2, h3, h4, h5, h6, h7, h8, hk⟩ := h c
    exact ⟨h0.trans ((val_main_v152_eq _).trans (r_v152 (H' c))),
      h1.trans ((val_main_v154_eq _).trans (r_v154 (H' c))),
      h2.trans ((val_main_v155_eq _).trans (r_v155 (H' c))),
      h3.trans ((val_main_v157_eq _).trans (r_v157 (H' c))),
      h4.trans ((val_main_v159_eq _).trans (r_v159 (H' c))),
      h5.trans ((val_main_v161_eq _).trans (r_v161 (H' c))),
      h6.trans ((val_main_v163_eq _).trans (r_v163 (H' c))),
      h7.trans ((val_main_v146_eq _).trans (funext fun i => (r_v146 (H' c)).at' i rfl rfl rfl)),
      h8.trans ((val_main_v150_eq _).trans (funext fun i => (r_v150 (H' c)).at i rfl rfl)), hk⟩

end
-- ==== Proof.InHost.lean ====
/-
  What the arrays given to `in_bwd` hold when its region is entered, element by element, in terms of the arguments.
-/
module

public import proofs.«01_k».proof.Proof.Dots
public import proofs.«01_k».proof.Proof.Gen.InBwdIdeal.Value
public import Idealize.ShloMosaic.Lib.Tactic

@[expose] public section

set_option maxRecDepth 16384

noncomputable section

namespace Cert.InBwdIdeal.Val

open Cert.InBwdIdeal Cert.InBwdIdeal.Gen Cert.InBwdIdeal.Value Cert.Arr
open Idealize.ShloMosaic Idealize.ShloMosaic.TcCoe Idealize.SL.Sem Idealize.ShloMosaic.StableHlo

variable (m : (ℓ : Loc nD τ sig) → Buf (Elt Ideal) ℓ) (c : Dev nD)

/-- The arrays of the windows, as the host lines leave them. -/
theorem arrays :
    V m c main_v3 = shapeCast S4096x1024 (m ((c : Thread nD τ).loc main_arg0)) shapeCasts_S2x2048x1024_S4096x1024
    ∧ V m c main_v4 = shapeCast S4096x1024 (m ((c : Thread nD τ).loc main_arg1)) shapeCasts_S2x2048x1024_S4096x1024
    ∧ V m c main_v0 = pad S2x8x1024 ![0, 0, 0] ![0, 2, 0] ![0, 0, 0] (m ((c : Thread nD τ).loc main_arg3) : S2x6x1024.Idx → EReal) (sitofp (F := Ideal) .f32 (constantI S_ 32 0#32)) pads_S2x6x1024_S2x8x1024_000_020_000 h_S_
    ∧ V m c main_v2 = pad S1024x3200 ![0, 0] ![0, 112] ![0, 0] (m ((c : Thread nD τ).loc main_arg5) : S1024x3088.Idx → EReal) (sitofp (F := Ideal) .bf16 (constantI S_ 32 0#32)) pads_S1024x3088_S1024x3200_000_01120 h_S_ := by
  refine ⟨?_, ?_, ?_, ?_⟩ <;>
  · show StableHlo.after (hostOps0 ++ (hostOps0_1 ++ (hostOps0_2 ++ (hostOps0_3 ++ (hostOps0_4 ++ []))))) (fun b => m (c, b)) _ = _
    simp only [hostOps0, hostOps0_1, hostOps0_2, hostOps0_3, hostOps0_4, List.cons_append, List.nil_append]
    after_results <;> rfl

end Cert.InBwdIdeal.Val

end
-- ==== Proof.InModel.lean ====
/-
  The gradient of the layer's first normalisation, modulation and input projection at one token, in extended reals, and
  the arguments of `in_bwd`: two sequences of 2048 tokens over the parameters they share. The cotangent of the projection
  has 3200 columns, of which the 3088 of the projection are read.
-/
module

public import proofs.«01_k».proof.Proof.MlpArgs
public import proofs.«01_k».proof.Proof.HostLift

@[expose] public section

noncomputable section

namespace Cert.Arr

open Idealize.ShloMosaic

/-- The scale of a sequence, the norm's weight and the projection. -/
structure InPar where
  (sc g : Fin 1024 → EReal)
  w : Fin 1024 → Fin 3088 → EReal

/-- Column `e` of the projection, among the cotangent's. -/
def wide (e : Fin 3088) : Fin 3200 := ⟨e.val, by omega⟩

/-- A token: its sequence's parameters, its residual, the cotangents of the residual and of the projection. -/
structure InTok where
  P : InPar
  (x dh : Fin 1024 → EReal)
  dp : Fin 3200 → EReal

namespace InTok

variable (T : InTok)

/-- The cotangent of the projection's input. -/
def du (i : Fin 1024) : EReal := ∑ e, T.dp (wide e) * T.P.w i e
/-- The token's mean square, moved off zero. -/
def v : EReal := Ideal.div (∑ k, T.x k * T.x k) kilo + eps
def r : EReal := Ideal.rsqrt T.v
def n (i : Fin 1024) : EReal := T.x i * T.r
def e (i : Fin 1024) : EReal := T.du i * (T.P.g i * (1 + T.P.sc i))
/-- The cotangent of the layer's input. -/
def dx (i : Fin 1024) : EReal := T.dh i + T.r * (T.e i - T.n i * Ideal.div (∑ k, T.e k * T.n k) kilo)
/-- The token's shares of the gradients of the scale and of the norm's weight (the shift's is `du`). -/
def dsc (i : Fin 1024) : EReal := T.du i * (T.n i * T.P.g i)
def dg (i : Fin 1024) : EReal := T.du i * (1 + T.P.sc i) * T.n i

/-- The rows of the token's share of the gates' gradient, and of the gradients that every token adds to. -/
def mrow : Fin 8 → Fin 1024 → EReal := ![T.du, T.dsc, 0, 0, 0, 0, 0, 0]
def arow : Fin 8 → Fin 1024 → EReal := ![0, 0, 0, T.dg, 0, 0, 0, 0]

theorem v_pos : 0 < T.v := mean_pos _

end InTok

/-- The projection's row `i`, zero in the columns that only the cotangent has. -/
def padded (w : Fin 1024 → Fin 3088 → EReal) (i : Fin 1024) (k : Fin 3200) : EReal := if h : k.val < 3088 then w i ⟨k.val, h⟩ else 0

/-- Those columns add nothing. -/
theorem sum_padded (f : Fin 3200 → EReal) (w : Fin 1024 → Fin 3088 → EReal) (i : Fin 1024) :
    ∑ k, f k * padded w i k = ∑ e, f (wide e) * w i e := by
  refine (Finset.sum_subset (Finset.subset_univ (Finset.univ.map ⟨wide, fun a b h => Fin.ext (show (wide a).val = (wide b).val from congrArg Fin.val h)⟩)) fun k _ hk => ?_).symm.trans ?_
  · have h : ¬k.val < 3088 := fun h => hk (Finset.mem_map.2 ⟨⟨k.val, h⟩, Finset.mem_univ _, rfl⟩)
    rw [padded, dif_neg h, mul_zero]
  · rw [Finset.sum_map]
    exact Finset.sum_congr rfl fun e _ => congrArg (f (wide e) * ·) (dif_pos e.isLt)

/-- The arguments. -/
structure InArgs where
  (x dh : Fin 2 → Fin 2048 → Fin 1024 → EReal)
  dp : Fin 4096 → Fin 3200 → EReal
  md : Fin 2 → Fin 6 → Fin 1024 → EReal
  g : Fin 1024 → EReal
  w : Fin 1024 → Fin 3088 → EReal
  dm : Fin 2 → Fin 8 → Fin 1024 → EReal
  ac : Fin 8 → Fin 1024 → EReal

namespace InArgs

variable (A : InArgs)

/-- What the tokens of sequence `b` share. -/
def par (b : Fin 2) : InPar := ⟨A.md b 1, A.g, A.w⟩
/-- The token at place `s` of sequence `b`, and the token of row `n`. -/
def tok (b : Fin 2) (s : Fin 2048) : InTok := ⟨A.par b, A.x b s, A.dh b s, A.dp ⟨2048 * b.val + s.val, by omega⟩⟩
def row (n : ℕ) : InTok := A.tok (Args.seq n) (Args.pos n)

theorem row_at (b : Fin 2) (s : Fin 2048) : A.row (2048 * b.val + s.val) = A.tok b s := by
  have hb : Args.seq (2048 * b.val + s.val) = b := Fin.ext (by show (2048 * b.val + s.val) / 2048 % 2 = b.val; omega)
  have hs : Args.pos (2048 * b.val + s.val) = s := Fin.ext (by show (2048 * b.val + s.val) % 2048 = s.val; omega)
  unfold row
  rw [hb, hs]

/-- The two tiles of a sequence. -/
theorem sum_seq (F : InTok → EReal) (b : Fin 2) :
    ∑ p ∈ Finset.range 2, ∑ r : Fin 1024, F (A.row (1024 * (2 * b.val + p) + r.val)) = ∑ s, F (A.tok b s) := by
  have h := Args.sum_tiles 1024 (fun n => F (A.row (2048 * b.val + n))) 2
  refine (Finset.sum_congr rfl fun p _ => Finset.sum_congr rfl fun r _ => ?_).trans (h.trans ?_)
  · show F _ = F _
    congr 2; ring
  · rw [show 1024 * 2 = 2048 from rfl, Finset.sum_range]
    exact Finset.sum_congr rfl fun s _ => by rw [row_at]

/-- All four tiles. -/
theorem sum_all (F : InTok → EReal) :
    ∑ p ∈ Finset.range 4, ∑ r : Fin 1024, F (A.row (1024 * p + r.val)) = ∑ b, ∑ s, F (A.tok b s) := by
  rw [Fin.sum_univ_two, ← A.sum_seq F 0, ← A.sum_seq F 1, show (4 : ℕ) = 2 + 2 from rfl, Finset.sum_range_add]
  simp

end InArgs

/-- The argument arrays hold the arguments. -/
structure InReads (A : InArgs) (x0 x1 : (⟨3, ![2, 2048, 1024]⟩ : Shape).Idx → EReal) (x2 : (⟨2, ![4096, 3200]⟩ : Shape).Idx → EReal)
    (x3 : (⟨3, ![2, 6, 1024]⟩ : Shape).Idx → EReal) (x4 : (⟨2, ![1, 1024]⟩ : Shape).Idx → EReal)
    (x5 : (⟨2, ![1024, 3088]⟩ : Shape).Idx → EReal) (x6 : (⟨3, ![2, 8, 1024]⟩ : Shape).Idx → EReal)
    (x7 : (⟨2, ![8, 1024]⟩ : Shape).Idx → EReal) : Prop where
  h0 : Is3 x0 A.x
  h1 : Is3 x1 A.dh
  h2 : Is x2 A.dp
  h3 : Is3 x3 A.md
  h4 : Is x4 fun _ => A.g
  h5 : Is x5 A.w
  h6 : Is3 x6 A.dm
  h7 : Is x7 A.ac

/-- The array of the layer's input's cotangents, a row for each token. -/
def inRows (A : InArgs) : (⟨2, ![4096, 1024]⟩ : Shape).Idx → EReal := fun i => (A.row (i 0).val).dx (i 1)

/-- The two arrays of sums, each on top of what it was given. -/
def inMods (A : InArgs) : (⟨3, ![2, 8, 1024]⟩ : Shape).Idx → EReal := fun i => A.dm (i 0) (i 1) (i 2) + ∑ s, (A.tok (i 0) s).mrow (i 1) (i 2)
def inAccs (A : InArgs) : (⟨2, ![8, 1024]⟩ : Shape).Idx → EReal := fun i => A.ac (i 0) (i 1) + ∑ b, ∑ s, (A.tok b s).arow (i 0) (i 1)

/-- Their entries at an index with given coordinates. -/
theorem inMods_at (A : InArgs) (i : (⟨3, ![2, 8, 1024]⟩ : Shape).Idx) {b : Fin 2} {k : Fin 8} {j : Fin 1024} (h0 : b.val = (i 0).val)
    (h1 : k.val = (i 1).val) (h2 : j.val = (i 2).val) : A.dm b k j + ∑ s, (A.tok b s).mrow k j = inMods A i := by
  rw [show b = i 0 from Fin.ext h0, show k = i 1 from Fin.ext h1, show j = i 2 from Fin.ext h2]; rfl
theorem inAccs_at (A : InArgs) (i : (⟨2, ![8, 1024]⟩ : Shape).Idx) {k : Fin 8} {j : Fin 1024} (h0 : k.val = (i 0).val)
    (h1 : j.val = (i 1).val) : A.ac k j + ∑ b, ∑ s, (A.tok b s).arow k j = inAccs A i := by
  rw [show k = i 0 from Fin.ext h0, show j = i 1 from Fin.ext h1]; rfl

end Cert.Arr

end
-- ==== Proof.InPay.lean ====
/-
  What the body of `in_bwd` computes, step by step, on a tile of 1024 tokens of one sequence: every vector it names holds
  the number the model of one token (`InTok`) gives it.
-/
module

public import proofs.«01_k».proof.Proof.InModel
public import proofs.«01_k».proof.Proof.Gen.InBwdIdeal.Skeleton

@[expose] public section

set_option maxRecDepth 16384

noncomputable section

namespace Cert.InBwdIdeal.Val

open Cert.InBwdIdeal Cert.InBwdIdeal.Gen Cert.Arr
open Idealize.ShloMosaic

/-- The tokens of a tile: their sequence's parameters and their own rows. -/
abbrev tk (P : InPar) (X H : Fin 1024 → Fin 1024 → EReal) (D : Fin 1024 → Fin 3200 → EReal) (r : Fin 1024) : InTok := ⟨P, X r, H r, D r⟩

variable {P : InPar} {X H : Fin 1024 → Fin 1024 → EReal} {D : Fin 1024 → Fin 3200 → EReal}

theorem pay3 {d w : Vec Ideal S1024x3200 .bf16} (hd : Is d D) (hw : Is w (padded P.w)) : Is (k0_pay3 d w) fun r => (tk P X H D r).du :=
  (hd.dot11 (hw.self _) _).congr fun r i => sum_padded (D r) P.w i

section Norm
variable {x : Vec Ideal S1024x1024 .f32} (hx : Is x X)
include hx
theorem pay4 : Is (k0_pay4 x) X := hx.self _
theorem pay6 : Is (k0_pay6 x) fun r _ => (tk P X H D r).v :=
  ((((pay4 hx).mul (pay4 hx)).rowSum _ _ _ _).div (Is.const c1024)).add (Is.const ceps)
end Norm

/-- The scale, read from the block of gates, shifts and scales. -/
theorem scale {b : FVec Ideal S8x1024 .f32} (hb : ∀ j, b (ValueIdx.ix2 1 j) = P.sc j) :
    Is (extractStridedSlice S1x1024 ![1, 0] b slices_S8x1024_o1_0_S1x1024) fun _ => P.sc := fun i j => by
  refine (extractStridedSlice_apply _ _ slices_S8x1024_o1_0_S1x1024 _ (ValueIdx.ix2 1 j) fun a => ?_).trans (hb j)
  match a with
  | ⟨0, _⟩ => show 1 = 1 + i.val; omega
  | ⟨1, _⟩ => show j.val = 0 + j.val; omega

section Back
variable {du x h : FVec Ideal S1024x1024 .f32} {v : FVec Ideal S1024x1 .f32} {b : FVec Ideal S8x1024 .f32} {g : Vec Ideal S1x1024 .f32}
  (hdu : Is du fun r => (tk P X H D r).du) (hx : Is x X) (hv : Is v fun r _ => (tk P X H D r).v)
include hv
theorem pay7 : Is (k0_pay7 v) fun r _ => (tk P X H D r).r := hv.rsqrt
include hx
theorem pay8 : Is (k0_pay8 x v) fun r => (tk P X H D r).n := hx.mul ((pay7 hv).col _)
include hdu
theorem pay9 (hb : ∀ j, b (ValueIdx.ix2 1 j) = P.sc j) : Is (k0_pay9 du x b v) fun _ j => ∑ r, (tk P X H D r).dg j :=
  ((hdu.mul (((Is.const cone).add (scale hb)).row _)).mul (pay8 hx hv)).colSum _ _ _ _
theorem pay10 (hb : ∀ j, b (ValueIdx.ix2 1 j) = P.sc j) (hg : Is g fun _ => P.g) (hh : Is h H) :
    Is (k0_pay10 du x b g v h) fun r => (tk P X H D r).dx :=
  have e := hdu.mul ((hg.mul ((Is.const cone).add (scale hb))).row broadcasts_S1x1024_S1024x1024)
  (hh.self _).add (((pay7 hv).col _).mul (e.sub ((pay8 hx hv).mul ((((e.mul (pay8 hx hv)).rowSum _ _ _ _).div (Is.const c1024)).col _))))

/-- The gates' gradient after the tile: what was there, and the tile's sums in rows 0 and 1. -/
theorem pay11 {old : Vec Ideal S1x8x1024 .f32} {M : Fin 8 → Fin 1024 → EReal} (hg : Is g fun _ => P.g)
    (ho : ∀ k j, old (ValueIdx.ix3 0 k j) = M k j) :
    Is (k0_pay11 du x g v old) fun k j => M k j + ∑ r, (tk P X H D r).mrow k j := by
  have hz : Is (broadcast (α := Ideal .f32) S6x1024 (Scalar.ofBits .f32 0x00000000#32)) fun _ _ => 0 := Is.const czero
  have h0 : ∑ r : Fin 1024, (0 : EReal) = 0 := Finset.sum_const_zero
  have hs := hdu.mul ((pay8 hx hv).mul (hg.row broadcasts_S1x1024_S1024x1024))
  unfold k0_pay11
  dsimp only
  refine Is.add (Is.drop ho _) (g := fun k j => ∑ r, (tk P X H D r).mrow k j) ?_
  intro k j
  match k with
  | 0 => exact (cat_row _ _ 0 j 0 (by simp) _ rfl 0 rfl).trans ((hdu.colSum _ _ _ _) 0 j)
  | 1 => exact (cat_row _ _ 1 j 1 (by simp) _ rfl 0 rfl).trans ((hs.colSum _ _ _ _) 0 j)
  | 2 => exact (cat_row _ _ 2 j 2 (by simp) _ rfl 0 rfl).trans ((hz 0 j).trans h0.symm)
  | 3 => exact (cat_row _ _ 3 j 2 (by simp) _ rfl 1 rfl).trans ((hz 1 j).trans h0.symm)
  | 4 => exact (cat_row _ _ 4 j 2 (by simp) _ rfl 2 rfl).trans ((hz 2 j).trans h0.symm)
  | 5 => exact (cat_row _ _ 5 j 2 (by simp) _ rfl 3 rfl).trans ((hz 3 j).trans h0.symm)
  | 6 => exact (cat_row _ _ 6 j 2 (by simp) _ rfl 4 rfl).trans ((hz 4 j).trans h0.symm)
  | 7 => exact (cat_row _ _ 7 j 2 (by simp) _ rfl 5 rfl).trans ((hz 5 j).trans h0.symm)
end Back

/-- The same with a leading axis. -/
theorem pay1 {a : FVec Ideal S8x1024 .f32} {M : Fin 8 → Fin 1024 → EReal} (ha : Is a M) (k : Fin 8) (j : Fin 1024) :
    k0_pay1 a (ValueIdx.ix3 0 k j) = M k j := (cast_add1 (m := 8) (n := 1024) _ _ _).trans (ha k j)

/-- The sums over all tokens after the tile: the norm's weight's in row 3. -/
theorem pay2 {s : FVec Ideal S1x1024 .f32} {old : Vec Ideal S8x1024 .f32} {M : Fin 8 → Fin 1024 → EReal}
    (hs : Is s fun _ j => ∑ r, (tk P X H D r).dg j) (ho : Is old M) :
    Is (k0_pay2 s old) fun k j => M k j + ∑ r, (tk P X H D r).arow k j := by
  have hz : ∀ n, Is (broadcast (α := Ideal .f32) ⟨2, ![n, 1024]⟩ (Scalar.ofBits .f32 0x00000000#32)) fun _ _ => 0 := fun n => Is.const czero
  have h0 : ∑ r : Fin 1024, (0 : EReal) = 0 := Finset.sum_const_zero
  unfold k0_pay2
  dsimp only
  refine Is.add (ho.self _) (g := fun k j => ∑ r, (tk P X H D r).arow k j) ?_
  intro k j
  match k with
  | 0 => exact (cat_row _ _ 0 j 0 (by simp) _ rfl 0 rfl).trans ((hz 3 0 j).trans h0.symm)
  | 1 => exact (cat_row _ _ 1 j 0 (by simp) _ rfl 1 rfl).trans ((hz 3 1 j).trans h0.symm)
  | 2 => exact (cat_row _ _ 2 j 0 (by simp) _ rfl 2 rfl).trans ((hz 3 2 j).trans h0.symm)
  | 3 => exact (cat_row _ _ 3 j 1 (by simp) _ rfl 0 rfl).trans (hs 0 j)
  | 4 => exact (cat_row _ _ 4 j 2 (by simp) _ rfl 0 rfl).trans ((hz 4 0 j).trans h0.symm)
  | 5 => exact (cat_row _ _ 5 j 2 (by simp) _ rfl 1 rfl).trans ((hz 4 1 j).trans h0.symm)
  | 6 => exact (cat_row _ _ 6 j 2 (by simp) _ rfl 2 rfl).trans ((hz 4 2 j).trans h0.symm)
  | 7 => exact (cat_row _ _ 7 j 2 (by simp) _ rfl 3 rfl).trans ((hz 4 3 j).trans h0.symm)

end Cert.InBwdIdeal.Val

end
-- ==== Proof.InLeft.lean ====
/-
  What each of the three kinds of grid point of `in_bwd` leaves in its three result blocks: the rows of its tile, and the
  two blocks of running sums, each started from the block the call was given.
-/
module

public import proofs.«01_k».proof.Proof.InPay
public import proofs.«01_k».proof.Proof.Gen.InBwdIdeal.Value

@[expose] public section

set_option maxRecDepth 16384

noncomputable section

namespace Cert.InBwdIdeal.Val

open Cert.InBwdIdeal Cert.InBwdIdeal.Gen Cert.InBwdIdeal.Value Cert.Arr
open Idealize.ShloMosaic Idealize.ShloMosaic.TcCoe Idealize.SL.Sem

/-- What the blocks of a grid point hold: the tokens' rows, their sequence's parameters, and the sums to start from. -/
structure Blocks (x0 x1 : Vec Ideal S1024x1024 .f32) (x2 : Vec Ideal S1024x3200 .bf16) (x3 : Vec Ideal S1x8x1024 .f32)
    (x4 : Vec Ideal S1x1024 .f32) (x5 : Vec Ideal S1024x3200 .bf16) (x6 : Vec Ideal S1x8x1024 .f32) (x7 : Vec Ideal S8x1024 .f32)
    (P : InPar) (X H : Fin 1024 → Fin 1024 → EReal) (D : Fin 1024 → Fin 3200 → EReal) (Sm Sa : Fin 8 → Fin 1024 → EReal) : Prop where
  h0 : Is x0 X
  h1 : Is x1 H
  h2 : Is x2 D
  sc : ∀ j, x3 (ValueIdx.ix3 0 1 j) = P.sc j
  h4 : Is x4 fun _ => P.g
  h5 : Is x5 (padded P.w)
  h6 : ∀ k j, x6 (ValueIdx.ix3 0 k j) = Sm k j
  h7 : Is x7 Sa

/-- The three blocks a point leaves, its running sums being `Dm` and `Da` before it. -/
structure Left (o8 : Vec Ideal S1024x1024 .f32) (o9 : Vec Ideal S1x8x1024 .f32) (o10 : Vec Ideal S8x1024 .f32)
    (P : InPar) (X H : Fin 1024 → Fin 1024 → EReal) (D : Fin 1024 → Fin 3200 → EReal) (Dm Da : Fin 8 → Fin 1024 → EReal) : Prop where
  dx : Is o8 fun r => (tk P X H D r).dx
  mrow : ∀ k j, o9 (ValueIdx.ix3 0 k j) = Dm k j + ∑ r, (tk P X H D r).mrow k j
  arow : Is o10 fun k j => Da k j + ∑ r, (tk P X H D r).arow k j

/-- What the body computes from the blocks, over whatever running sums. -/
theorem step {x0 x1 : Vec Ideal S1024x1024 .f32} {x2 : Vec Ideal S1024x3200 .bf16} {x3 : Vec Ideal S1x8x1024 .f32}
    {x4 : Vec Ideal S1x1024 .f32} {x5 : Vec Ideal S1024x3200 .bf16} {x6 : Vec Ideal S1x8x1024 .f32} {x7 : Vec Ideal S8x1024 .f32}
    {P : InPar} {X H : Fin 1024 → Fin 1024 → EReal} {D : Fin 1024 → Fin 3200 → EReal} {Sm Sa Dm Da : Fin 8 → Fin 1024 → EReal}
    (hb : Blocks x0 x1 x2 x3 x4 x5 x6 x7 P X H D Sm Sa) {m : Vec Ideal S1x8x1024 .f32} {a : Vec Ideal S8x1024 .f32}
    (hm : ∀ k j, m (ValueIdx.ix3 0 k j) = Dm k j) (ha : Is a Da) :
    Left (k0_pay10 (k0_pay3 x2 x5) (k0_pay4 x0) (k0_pay5 x3) x4 (k0_pay6 x0) x1)
      (k0_pay1 (k0_pay11 (k0_pay3 x2 x5) (k0_pay4 x0) x4 (k0_pay6 x0) m))
      (k0_pay2 (k0_pay9 (k0_pay3 x2 x5) (k0_pay4 x0) (k0_pay5 x3) (k0_pay6 x0)) a) P X H D Dm Da :=
  have hdu : Is (k0_pay3 x2 x5) fun r => (tk P X H D r).du := pay3 hb.h2 hb.h5
  have hx := pay4 hb.h0
  have hv : Is (k0_pay6 x0) fun r _ => (tk P X H D r).v := pay6 hb.h0
  have hs : ∀ j, k0_pay5 x3 (ValueIdx.ix2 1 j) = P.sc j := fun j => (cast_drop1 (m := 8) (n := 1024) x3 _ _).trans (hb.sc j)
  ⟨pay10 hdu hx hv hs hb.h4 hb.h1, pay1 (pay11 hdu hx hv hb.h4 hm), pay2 (pay9 hdu hx hv hs) ha⟩

variable (c : Dev nD) (i : grid0.Coords) (arg1 : Memref sig .tc .vmem S1024x1024 .f32) (harg1 : arg1.IsWhole) (arg2 :
  Memref sig .tc .vmem S1024x1024 .f32) (harg2 : arg2.IsWhole) (arg3 : Memref sig .tc .vmem S1024x3200 .bf16) (harg3 :
  arg3.IsWhole) (arg4 : Memref sig .tc .vmem S1x8x1024 .f32) (harg4 : arg4.IsWhole) (arg5 : Memref sig .tc .vmem
  S1x1024 .f32) (harg5 : arg5.IsWhole) (arg6 : Memref sig .tc .vmem S1024x3200 .bf16) (harg6 : arg6.IsWhole) (arg7 :
  Memref sig .tc .vmem S1x8x1024 .f32) (harg7 : arg7.IsWhole) (arg8 : Memref sig .tc .vmem S8x1024 .f32) (harg8 :
  arg8.IsWhole) (arg9 : Memref sig .tc .vmem S1024x1024 .f32) (harg9 : arg9.IsWhole) (arg10 : Memref sig .tc .vmem
  S1x8x1024 .f32) (harg10 : arg10.IsWhole) (arg11 : Memref sig .tc .vmem S8x1024 .f32) (harg11 : arg11.IsWhole)

/-- A point that starts neither the run nor a sequence. -/
theorem leftB
  (hc0 : ¬cond0_0 i) (hc1 : ¬cond0_1 i) (x0 : Vec Ideal S1024x1024 .f32) (x1 : Vec Ideal S1024x1024 .f32) (x2 : Vec
    Ideal S1024x3200 .bf16) (x3 : Vec Ideal S1x8x1024 .f32) (x4 : Vec Ideal S1x1024 .f32) (x5 : Vec Ideal S1024x3200
    .bf16) (x6 : Vec Ideal S1x8x1024 .f32) (x7 : Vec Ideal S8x1024 .f32) (xo9 : Vec Ideal S1x8x1024 .f32) (xo10 : Vec
    Ideal S8x1024 .f32) {P : InPar} {X H : Fin 1024 → Fin 1024 → EReal} {D : Fin 1024 → Fin 3200 → EReal} {Sm Sa Dm Da
    : Fin 8 → Fin 1024 → EReal} (hb : Blocks x0 x1 x2 x3 x4 x5 x6 x7 P X H D Sm Sa) (hm : ∀ k j, xo9 (ValueIdx.ix3 0 k
    j) = Dm k j) (ha : Is xo10 Da) :
  Left (out0_B_8 c i arg1 harg1 arg2 harg2 arg3 harg3 arg4 harg4 arg5 harg5 arg6 harg6 arg7 harg7 arg8 harg8 arg9
    harg9 arg10 harg10 arg11 harg11 hc0 hc1 x0 x1 x2 x3 x4 x5 x6 x7 xo9 xo10) (out0_B_9 c i arg1 harg1 arg2 harg2 arg3
    harg3 arg4 harg4 arg5 harg5 arg6 harg6 arg7 harg7 arg8 harg8 arg9 harg9 arg10 harg10 arg11 harg11 hc0 hc1 x0 x1 x2
    x3 x4 x5 x6 x7 xo9 xo10) (out0_B_10 c i arg1 harg1 arg2 harg2 arg3 harg3 arg4 harg4 arg5 harg5 arg6 harg6 arg7
    harg7 arg8 harg8 arg9 harg9 arg10 harg10 arg11 harg11 hc0 hc1 x0 x1 x2 x3 x4 x5 x6 x7 xo9 xo10) P X H D Dm Da :=
    by
  have s := step hb hm ha
  refine ⟨fun r j => Eq.trans (congrFun ?_ _) (s.dx r j), fun k j => Eq.trans (congrFun ?_ _) (s.mrow k j), fun k j => Eq.trans (congrFun ?_ _) (s.arow k j)⟩
  · unfold out0_B_8
    rw [View.read_writes_eq_canon _ _ _ (cover0_B_8 c i arg1 harg1 arg2 harg2 arg3 harg3 arg4 harg4 arg5 harg5 arg6 harg6 arg7 harg7 arg8 harg8 arg9 harg9 arg10 harg10 arg11 harg11 hc0 hc1 x0 x1 x2 x3 x4 x5 x6 x7 xo9 xo10)]
    unfold kernelRun0_B
    dsimp only
    rw [View.canon_unit_zero z2]
    unfold kernelRun0_B.sl.r kernelRun0_B.sl.r_1 kernelRun0_B.sl.r_2 kernelRun0_B.sl.r_3 kernelRun0_B.sl.r_4
    rw [rd_whole harg1 x0 z2, rd_whole harg2 x1 z2, rd_whole harg3 x2 z2, rd_whole harg4 x3 z3, rd_whole harg5 x4 z2, rd_whole harg6 x5 z2]
  · unfold out0_B_9
    rw [View.read_writes_eq_canon _ _ _ (cover0_B_9 c i arg1 harg1 arg2 harg2 arg3 harg3 arg4 harg4 arg5 harg5 arg6 harg6 arg7 harg7 arg8 harg8 arg9 harg9 arg10 harg10 arg11 harg11 hc0 hc1 x0 x1 x2 x3 x4 x5 x6 x7 xo9 xo10)]
    unfold kernelRun0_B
    dsimp only
    rw [View.canon_unit_zero z3]
    unfold kernelRun0_B.sl.r_6 kernelRun0_B.sl.r kernelRun0_B.sl.r_1 kernelRun0_B.sl.r_3 kernelRun0_B.sl.r_4
    rw [rd_whole harg1 x0 z2, rd_whole harg3 x2 z2, rd_whole harg5 x4 z2, rd_whole harg6 x5 z2, rd_whole harg10 xo9 z3]
  · unfold out0_B_10
    rw [View.read_writes_eq_canon _ _ _ (cover0_B_10 c i arg1 harg1 arg2 harg2 arg3 harg3 arg4 harg4 arg5 harg5 arg6 harg6 arg7 harg7 arg8 harg8 arg9 harg9 arg10 harg10 arg11 harg11 hc0 hc1 x0 x1 x2 x3 x4 x5 x6 x7 xo9 xo10)]
    unfold kernelRun0_B
    dsimp only
    rw [View.canon_unit_zero z2]
    unfold kernelRun0_B.sl.r_5 kernelRun0_B.sl.r kernelRun0_B.sl.r_1 kernelRun0_B.sl.r_2 kernelRun0_B.sl.r_4
    rw [rd_whole harg1 x0 z2, rd_whole harg3 x2 z2, rd_whole harg4 x3 z3, rd_whole harg6 x5 z2, rd_whole harg11 xo10 z2]

/-- The first point of the second sequence: its own sums start from the block given. -/
theorem leftC
  (hc0 : ¬cond0_0 i) (hc1 : cond0_1 i) (x0 : Vec Ideal S1024x1024 .f32) (x1 : Vec Ideal S1024x1024 .f32) (x2 : Vec
    Ideal S1024x3200 .bf16) (x3 : Vec Ideal S1x8x1024 .f32) (x4 : Vec Ideal S1x1024 .f32) (x5 : Vec Ideal S1024x3200
    .bf16) (x6 : Vec Ideal S1x8x1024 .f32) (x7 : Vec Ideal S8x1024 .f32) (xo10 : Vec Ideal S8x1024 .f32) {P : InPar}
    {X H : Fin 1024 → Fin 1024 → EReal} {D : Fin 1024 → Fin 3200 → EReal} {Sm Sa Da : Fin 8 → Fin 1024 → EReal} (hb :
    Blocks x0 x1 x2 x3 x4 x5 x6 x7 P X H D Sm Sa) (ha : Is xo10 Da) :
  Left (out0_C_8 c i arg1 harg1 arg2 harg2 arg3 harg3 arg4 harg4 arg5 harg5 arg6 harg6 arg7 harg7 arg8 harg8 arg9
    harg9 arg10 harg10 arg11 harg11 hc0 hc1 x0 x1 x2 x3 x4 x5 x6 x7 xo10) (out0_C_9 c i arg1 harg1 arg2 harg2 arg3
    harg3 arg4 harg4 arg5 harg5 arg6 harg6 arg7 harg7 arg8 harg8 arg9 harg9 arg10 harg10 arg11 harg11 hc0 hc1 x0 x1 x2
    x3 x4 x5 x6 x7 xo10) (out0_C_10 c i arg1 harg1 arg2 harg2 arg3 harg3 arg4 harg4 arg5 harg5 arg6 harg6 arg7 harg7
    arg8 harg8 arg9 harg9 arg10 harg10 arg11 harg11 hc0 hc1 x0 x1 x2 x3 x4 x5 x6 x7 xo10) P X H D Sm Da := by
  have s := step hb hb.h6 ha
  refine ⟨fun r j => Eq.trans (congrFun ?_ _) (s.dx r j), fun k j => Eq.trans (congrFun ?_ _) (s.mrow k j), fun k j => Eq.trans (congrFun ?_ _) (s.arow k j)⟩
  · unfold out0_C_8
    rw [View.read_writes_eq_canon _ _ _ (cover0_C_8 c i arg1 harg1 arg2 harg2 arg3 harg3 arg4 harg4 arg5 harg5 arg6 harg6 arg7 harg7 arg8 harg8 arg9 harg9 arg10 harg10 arg11 harg11 hc0 hc1 x0 x1 x2 x3 x4 x5 x6 x7 xo10)]
    unfold kernelRun0_C
    dsimp only
    rw [View.canon_unit_zero z2]
    unfold kernelRun0_C.sl.r kernelRun0_C.sl.r_1 kernelRun0_C.sl.r_2 kernelRun0_C.sl.r_3 kernelRun0_C.sl.r_4
    rw [rd_whole harg1 x0 z2, rd_whole harg2 x1 z2, rd_whole harg3 x2 z2, rd_whole harg4 x3 z3, rd_whole harg5 x4 z2, rd_whole harg6 x5 z2]
  · unfold out0_C_9
    rw [View.read_writes_eq_canon _ _ _ (cover0_C_9 c i arg1 harg1 arg2 harg2 arg3 harg3 arg4 harg4 arg5 harg5 arg6 harg6 arg7 harg7 arg8 harg8 arg9 harg9 arg10 harg10 arg11 harg11 hc0 hc1 x0 x1 x2 x3 x4 x5 x6 x7 xo10)]
    unfold kernelRun0_C
    dsimp only
    rw [View.canon_cons_unit_zero z3]
    unfold kernelRun0_C.sl.r_6 kernelRun0_C.sl.r kernelRun0_C.sl.r_1 kernelRun0_C.sl.r_3 kernelRun0_C.sl.r_4
    unfold kernelRun0_C.sl.v70 kernelRun0_C.sl.H9_1
    rw [readCov_last (S := S1x8x1024) _ z3, rd_whole harg7 x6 z3]
    rw [rd_whole harg1 x0 z2, rd_whole harg3 x2 z2, rd_whole harg5 x4 z2, rd_whole harg6 x5 z2]
  · unfold out0_C_10
    rw [View.read_writes_eq_canon _ _ _ (cover0_C_10 c i arg1 harg1 arg2 harg2 arg3 harg3 arg4 harg4 arg5 harg5 arg6 harg6 arg7 harg7 arg8 harg8 arg9 harg9 arg10 harg10 arg11 harg11 hc0 hc1 x0 x1 x2 x3 x4 x5 x6 x7 xo10)]
    unfold kernelRun0_C
    dsimp only
    rw [View.canon_unit_zero z2]
    unfold kernelRun0_C.sl.r_5 kernelRun0_C.sl.r kernelRun0_C.sl.r_1 kernelRun0_C.sl.r_2 kernelRun0_C.sl.r_4
    rw [rd_whole harg1 x0 z2, rd_whole harg3 x2 z2, rd_whole harg4 x3 z3, rd_whole harg6 x5 z2, rd_whole harg11 xo10 z2]

/-- The first point of the run: all sums start from the blocks given. -/
theorem leftA
  (hc0 : cond0_0 i) (hc1 : cond0_1 i) (x0 : Vec Ideal S1024x1024 .f32) (x1 : Vec Ideal S1024x1024 .f32) (x2 : Vec
    Ideal S1024x3200 .bf16) (x3 : Vec Ideal S1x8x1024 .f32) (x4 : Vec Ideal S1x1024 .f32) (x5 : Vec Ideal S1024x3200
    .bf16) (x6 : Vec Ideal S1x8x1024 .f32) (x7 : Vec Ideal S8x1024 .f32)  {P : InPar} {X H : Fin 1024 → Fin 1024 →
    EReal} {D : Fin 1024 → Fin 3200 → EReal} {Sm Sa : Fin 8 → Fin 1024 → EReal} (hb : Blocks x0 x1 x2 x3 x4 x5 x6 x7 P
    X H D Sm Sa)  :
  Left (out0_A_8 c i arg1 harg1 arg2 harg2 arg3 harg3 arg4 harg4 arg5 harg5 arg6 harg6 arg7 harg7 arg8 harg8 arg9
    harg9 arg10 harg10 arg11 harg11 hc0 hc1 x0 x1 x2 x3 x4 x5 x6 x7) (out0_A_9 c i arg1 harg1 arg2 harg2 arg3 harg3
    arg4 harg4 arg5 harg5 arg6 harg6 arg7 harg7 arg8 harg8 arg9 harg9 arg10 harg10 arg11 harg11 hc0 hc1 x0 x1 x2 x3 x4
    x5 x6 x7) (out0_A_10 c i arg1 harg1 arg2 harg2 arg3 harg3 arg4 harg4 arg5 harg5 arg6 harg6 arg7 harg7 arg8 harg8
    arg9 harg9 arg10 harg10 arg11 harg11 hc0 hc1 x0 x1 x2 x3 x4 x5 x6 x7) P X H D Sm Sa := by
  have s := step hb hb.h6 hb.h7
  refine ⟨fun r j => Eq.trans (congrFun ?_ _) (s.dx r j), fun k j => Eq.trans (congrFun ?_ _) (s.mrow k j), fun k j => Eq.trans (congrFun ?_ _) (s.arow k j)⟩
  · unfold out0_A_8
    rw [View.read_writes_eq_canon _ _ _ (cover0_A_8 c i arg1 harg1 arg2 harg2 arg3 harg3 arg4 harg4 arg5 harg5 arg6 harg6 arg7 harg7 arg8 harg8 arg9 harg9 arg10 harg10 arg11 harg11 hc0 hc1 x0 x1 x2 x3 x4 x5 x6 x7)]
    unfold kernelRun0_A
    dsimp only
    rw [View.canon_unit_zero z2]
    unfold kernelRun0_A.sl.r kernelRun0_A.sl.r_1 kernelRun0_A.sl.r_2 kernelRun0_A.sl.r_3 kernelRun0_A.sl.r_4
    rw [rd_whole harg1 x0 z2, rd_whole harg2 x1 z2, rd_whole harg3 x2 z2, rd_whole harg4 x3 z3, rd_whole harg5 x4 z2, rd_whole harg6 x5 z2]
  · unfold out0_A_9
    rw [View.read_writes_eq_canon _ _ _ (cover0_A_9 c i arg1 harg1 arg2 harg2 arg3 harg3 arg4 harg4 arg5 harg5 arg6 harg6 arg7 harg7 arg8 harg8 arg9 harg9 arg10 harg10 arg11 harg11 hc0 hc1 x0 x1 x2 x3 x4 x5 x6 x7)]
    unfold kernelRun0_A
    dsimp only
    rw [View.canon_cons_unit_zero z3]
    unfold kernelRun0_A.sl.r_6 kernelRun0_A.sl.r kernelRun0_A.sl.r_1 kernelRun0_A.sl.r_3 kernelRun0_A.sl.r_4
    unfold kernelRun0_A.sl.v70 kernelRun0_A.sl.H9_1
    rw [readCov_last (S := S1x8x1024) _ z3, rd_whole harg7 x6 z3]
    rw [rd_whole harg1 x0 z2, rd_whole harg3 x2 z2, rd_whole harg5 x4 z2, rd_whole harg6 x5 z2]
  · unfold out0_A_10
    rw [View.read_writes_eq_canon _ _ _ (cover0_A_10 c i arg1 harg1 arg2 harg2 arg3 harg3 arg4 harg4 arg5 harg5 arg6 harg6 arg7 harg7 arg8 harg8 arg9 harg9 arg10 harg10 arg11 harg11 hc0 hc1 x0 x1 x2 x3 x4 x5 x6 x7)]
    unfold kernelRun0_A
    dsimp only
    rw [View.canon_cons_unit_zero z2]
    unfold kernelRun0_A.sl.v78 kernelRun0_A.sl.H10_1
    rw [readCov_last (S := S8x1024) _ z2, rd_whole harg8 x7 z2]
    unfold kernelRun0_A.sl.r_5 kernelRun0_A.sl.r kernelRun0_A.sl.r_1 kernelRun0_A.sl.r_2 kernelRun0_A.sl.r_4
    rw [rd_whole harg1 x0 z2, rd_whole harg3 x2 z2, rd_whole harg4 x3 z3, rd_whole harg6 x5 z2]

end Cert.InBwdIdeal.Val

end
-- ==== Proof.InKernel.lean ====
/-
  What `in_bwd` leaves in its three arrays: each token's row of the layer's input's cotangent, and the sums over the tokens
  of each sequence and over all of them on top of the arrays given. The blocks of each point are tiles of the arguments,
  the sums are carried from one point to the next, and the blocks written make the arrays.
-/
module

public import proofs.«01_k».proof.Proof.InHost
public import proofs.«01_k».proof.Proof.InLeft
public import Idealize.ShloMosaic.Lib.KernelVsHost

@[expose] public section

set_option maxRecDepth 16384

noncomputable section

namespace Cert.InBwdIdeal.Val

open Cert.InBwdIdeal Cert.InBwdIdeal.Gen Cert.InBwdIdeal.Value Cert.Arr
open Idealize.ShloMosaic Idealize.ShloMosaic.TcCoe Idealize.SL.Sem
open Idealize.ShloMosaic.Pipeline (Dat)

/-- Where the windows of the arguments stand at point `t`. -/
theorem idx_in : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val / 2 ∧ win0_3.index t 1 = 0 ∧ win0_3.index t 2 = 0)
    ∧ (win0_4.index t 0 = 0 ∧ win0_4.index t 1 = 0) ∧ (win0_5.index t 0 = 0 ∧ win0_5.index t 1 = 0)
    ∧ (win0_6.index t 0 = t.val / 2 ∧ win0_6.index t 1 = 0 ∧ win0_6.index t 2 = 0) ∧ (win0_7.index t 0 = 0 ∧ win0_7.index t 1 = 0) :=
  (by decide +kernel : ∀ t : Fin grid0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val / 2 ∧ win0_3.index t 1 = 0 ∧ win0_3.index t 2 = 0)
    ∧ (win0_4.index t 0 = 0 ∧ win0_4.index t 1 = 0) ∧ (win0_5.index t 0 = 0 ∧ win0_5.index t 1 = 0)
    ∧ (win0_6.index t 0 = t.val / 2 ∧ win0_6.index t 1 = 0 ∧ win0_6.index t 2 = 0) ∧ (win0_7.index t 0 = 0 ∧ win0_7.index t 1 = 0))

/-- Where the windows of the results stand at point `t`. -/
theorem idx_out : ∀ t : Fin cfg0.N, (win0_8.index t 0 = t.val ∧ win0_8.index t 1 = 0)
    ∧ (win0_9.index t 0 = t.val / 2 ∧ win0_9.index t 1 = 0 ∧ win0_9.index t 2 = 0) ∧ (win0_10.index t 0 = 0 ∧ win0_10.index t 1 = 0) :=
  (by decide +kernel : ∀ t : Fin grid0.N, (win0_8.index t 0 = t.val ∧ win0_8.index t 1 = 0)
    ∧ (win0_9.index t 0 = t.val / 2 ∧ win0_9.index t 1 = 0 ∧ win0_9.index t 2 = 0) ∧ (win0_10.index t 0 = 0 ∧ win0_10.index t 1 = 0))

variable (m : (ℓ : Loc nD τ sig) → Buf (Elt Ideal) ℓ) (c : Dev nD) (A : InArgs)

/-- The arguments of the call hold `A`. -/
abbrev Holds : Prop :=
  InReads A (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- The parameters and the rows of tile `n`. -/
abbrev tP (n : ℕ) : InPar := A.par (Args.seq (1024 * n))
abbrev tX (n : ℕ) (r : Fin 1024) : Fin 1024 → EReal := (A.row (1024 * n + r.val)).x
abbrev tH (n : ℕ) (r : Fin 1024) : Fin 1024 → EReal := (A.row (1024 * n + r.val)).dh
abbrev tD (n : ℕ) (r : Fin 1024) : Fin 3200 → EReal := (A.row (1024 * n + r.val)).dp

/-- A tile's tokens all belong to the sequence of its first. -/
theorem tk_row (n : ℕ) (r : Fin 1024) : tk (tP A n) (tX A n) (tH A n) (tD A n) r = A.row (1024 * n + r.val) := by
  have h : Args.seq (1024 * n) = Args.seq (1024 * n + r.val) := Fin.ext (by
    show 1024 * n / 2048 % 2 = (1024 * n + r.val) / 2048 % 2
    omega)
  show InTok.mk (A.par (Args.seq (1024 * n))) _ _ _ = _
  rw [h]
  rfl

variable {m c A}

theorem lt4 (t : Fin cfg0.N) : t.val < 4 := t.isLt.trans_eq N_0

/-- A row of the flat array of the cotangents is that token's. -/
theorem dp_row (n : ℕ) (hn : n < 4096) : (A.row n).dp = A.dp ⟨n, hn⟩ :=
  congrArg A.dp (Fin.ext (by show 2048 * (n / 2048 % 2) + n % 2048 = n; omega))

/-- The blocks that point `t` reads. -/
theorem blocks (h : Holds m c A) (t : Fin cfg0.N) :
    Blocks (iblk m c 0 t) (iblk m c 1 t) (iblk m c 2 t) (iblk m c 3 t) (iblk m c 4 t) (iblk m c 5 t) (iblk m c 6 t) (iblk m c 7 t)
      (tP A t.val) (tX A t.val) (tH A t.val) (tD A t.val) (A.dm (Args.seq (1024 * t.val))) A.ac := by
  have ht := lt4 t
  obtain ⟨a3, a4, a0, a2⟩ := arrays m c
  obtain ⟨i0, i1, i2, i3, i4, i5, i6, i7⟩ := idx_in t
  have flat : ∀ (r : Fin 1024), 1024 * t.val + r.val < 4096 := fun r => by omega
  constructor
  · intro r j
    refine Eq.trans ?_ (h.h0 _ _ j)
    unfold iblk
    rw [View.read_apply]
    show V m c main_v3 _ = _
    rw [a3]
    refine Eq.trans (congrArg _ (ext2 (m := 4096) (n := 1024) (y := ValueIdx.ix2 ⟨1024 * t.val + r.val, flat r⟩ j) ?_ ?_)) (cast_flat _ _ _ _)
    · show win0_0.index t 0 * 1024 + 1 * r.val = _; rw [i0.1]; show _ = 1024 * t.val + r.val; omega
    · show win0_0.index t 1 * 1024 + 1 * j.val = j.val; rw [i0.2]; omega
  · intro r j
    refine Eq.trans ?_ (h.h1 _ _ j)
    unfold iblk
    rw [View.read_apply]
    show V m c main_v4 _ = _
    rw [a4]
    refine Eq.trans (congrArg _ (ext2 (m := 4096) (n := 1024) (y := ValueIdx.ix2 ⟨1024 * t.val + r.val, flat r⟩ j) ?_ ?_)) (cast_flat _ _ _ _)
    · show win0_1.index t 0 * 1024 + 1 * r.val = _; rw [i1.1]; show _ = 1024 * t.val + r.val; omega
    · show win0_1.index t 1 * 1024 + 1 * j.val = j.val; rw [i1.2]; omega
  · intro r j
    refine Eq.trans ?_ ((h.h2 ⟨1024 * t.val + r.val, flat r⟩ j).trans (congrFun (dp_row _ (flat r)).symm j))
    unfold iblk
    rw [View.read_apply]
    show V m c main_arg2 _ = _
    rw [V_main_arg2]
    refine congrArg _ (ext2 (m := 4096) (n := 3200) ?_ ?_)
    · show win0_2.index t 0 * 1024 + 1 * r.val = 1024 * t.val + r.val; rw [i2.1]; omega
    · show win0_2.index t 1 * 3200 + 1 * j.val = j.val; rw [i2.2]; omega
  · intro j
    refine Eq.trans ?_ (h.h3 (Args.seq (1024 * t.val)) 1 j)
    unfold iblk
    rw [View.read_apply]
    show V m c main_v0 _ = _
    rw [a0]
    refine pad_apply_of_inside (s := S2x6x1024) (t := S2x8x1024) _ _ _ _ _ _ _ _ (ValueIdx.ix3 (Args.seq (1024 * t.val)) 1 j) fun a => ?_
    match a with
    | ⟨0, _⟩ => show win0_3.index t 0 * 1 + 1 * 0 = 0 + (1024 * t.val) / 2048 % 2 * (0 + 1); rw [i3.1]; omega
    | ⟨1, _⟩ => show win0_3.index t 1 * 8 + 1 * 1 = 0 + 1 * (0 + 1); rw [i3.2.1]
    | ⟨2, _⟩ => show win0_3.index t 2 * 1024 + 1 * j.val = 0 + j.val * (0 + 1); rw [i3.2.2]; omega
  · intro r j
    refine Eq.trans ?_ (h.h4 r j)
    unfold iblk
    rw [View.read_apply]
    show V m c main_arg4 _ = _
    rw [V_main_arg4]
    refine congrArg _ (ext2 (m := 1) (n := 1024) ?_ ?_)
    · show win0_4.index t 0 * 1 + 1 * r.val = r.val; rw [i4.1]; omega
    · show win0_4.index t 1 * 1024 + 1 * j.val = j.val; rw [i4.2]; omega
  · intro i k
    unfold iblk
    rw [View.read_apply]
    show V m c main_v2 _ = _
    rw [a2]
    refine Eq.trans (congrArg _ (ext2 (m := 1024) (n := 3200) (y := ValueIdx.ix2 i k) ?_ ?_)) ?_
    · show win0_5.index t 0 * 1024 + 1 * i.val = i.val; rw [i5.1]; omega
    · show win0_5.index t 1 * 3200 + 1 * k.val = k.val; rw [i5.2]; omega
    · unfold padded
      by_cases hk : k.val < 3088
      · rw [dif_pos hk]
        refine (pad_apply_of_inside (s := S1024x3088) (t := S1024x3200) _ _ _ _ _ _ _ _ (ValueIdx.ix2 i ⟨k.val, hk⟩) fun a => ?_).trans (h.h5 i ⟨k.val, hk⟩)
        match a with
        | ⟨0, _⟩ => show i.val = 0 + i.val * (0 + 1); omega
        | ⟨1, _⟩ => show k.val = 0 + k.val * (0 + 1); omega
      · rw [dif_neg hk]
        refine (pad_apply_of_not_inside (s := S1024x3088) (t := S1024x3200) _ _ _ _ _ _ _ _ (1 : Fin 2) ?_).trans (sitofp_zero (φ := .bf16))
        rintro ⟨-, h2, h3⟩
        have : k.val < 3088 := by
          have e : (k.val - 0) / (0 + 1) < 3088 := h3
          omega
        exact hk this
  · intro k j
    refine Eq.trans ?_ (h.h6 (Args.seq (1024 * t.val)) k j)
    unfold iblk
    rw [View.read_apply]
    show V m c main_arg6 _ = _
    rw [V_main_arg6]
    refine congrArg _ (ext3 (l := 2) (m := 8) (n := 1024) ?_ ?_ ?_)
    · show win0_6.index t 0 * 1 + 1 * 0 = (1024 * t.val) / 2048 % 2; rw [i6.1]; omega
    · show win0_6.index t 1 * 8 + 1 * k.val = k.val; rw [i6.2.1]; omega
    · show win0_6.index t 2 * 1024 + 1 * j.val = j.val; rw [i6.2.2]; omega
  · intro k j
    refine Eq.trans ?_ (h.h7 k j)
    unfold iblk
    rw [View.read_apply]
    show V m c main_arg7 _ = _
    rw [V_main_arg7]
    refine congrArg _ (ext2 (m := 8) (n := 1024) ?_ ?_)
    · show win0_7.index t 0 * 8 + 1 * k.val = k.val; rw [i7.1]; omega
    · show win0_7.index t 1 * 1024 + 1 * j.val = j.val; rw [i7.2]; omega

/-- What tile `n` adds to the sums. -/
def tileM (A : InArgs) (n : ℕ) (k : Fin 8) (j : Fin 1024) : EReal := ∑ r : Fin 1024, (A.row (1024 * n + r.val)).mrow k j
def tileA (A : InArgs) (n : ℕ) (k : Fin 8) (j : Fin 1024) : EReal := ∑ r : Fin 1024, (A.row (1024 * n + r.val)).arow k j

/-- The sums before tile `n`: over the tiles of its sequence, and over all tiles, on top of what was given. -/
def beforeM (A : InArgs) (n : ℕ) (k : Fin 8) (j : Fin 1024) : EReal :=
  A.dm (Args.seq (1024 * n)) k j + ∑ p ∈ Finset.range (n % 2), tileM A (2 * (n / 2) + p) k j
def beforeA (A : InArgs) (n : ℕ) (k : Fin 8) (j : Fin 1024) : EReal := A.ac k j + ∑ p ∈ Finset.range n, tileA A p k j

theorem beforeM_zero {n : ℕ} (h : n % 2 = 0) : beforeM A n = A.dm (Args.seq (1024 * n)) := by
  funext k j
  unfold beforeM
  rw [h, Finset.sum_range_zero, add_zero]

theorem beforeM_succ {n : ℕ} (h : ¬n % 2 = 0) (k : Fin 8) (j : Fin 1024) :
    beforeM A n k j = beforeM A (n - 1) k j + tileM A (n - 1) k j := by
  have e : Args.seq (1024 * (n - 1)) = Args.seq (1024 * n) := Fin.ext (by
    show 1024 * (n - 1) / 2048 % 2 = 1024 * n / 2048 % 2
    omega)
  unfold beforeM
  rw [e, show n % 2 = (n - 1) % 2 + 1 by omega, Finset.sum_range_succ, show (n - 1) / 2 = n / 2 by omega,
    show 2 * (n / 2) + (n - 1) % 2 = n - 1 by omega, add_assoc]

theorem beforeA_zero : beforeA A 0 = A.ac := by
  funext k j
  unfold beforeA
  rw [Finset.sum_range_zero, add_zero]

theorem beforeA_succ {n : ℕ} (h : 0 < n) (k : Fin 8) (j : Fin 1024) :
    beforeA A n k j = beforeA A (n - 1) k j + tileA A (n - 1) k j := by
  unfold beforeA
  rw [add_assoc, ← Finset.sum_range_succ, show n - 1 + 1 = n by omega]

/-- A tile's rows in a row-tiled block, and the sums with the tile's share added. -/
abbrev After (A : InArgs) (n : ℕ) (o8 : Vec Ideal S1024x1024 .f32) (o9 : Vec Ideal S1x8x1024 .f32) (o10 : Vec Ideal S8x1024 .f32) : Prop :=
  Left o8 o9 o10 (tP A n) (tX A n) (tH A n) (tD A n) (beforeM A n) (beforeA A n)

section

variable {n : ℕ} {o8 : Vec Ideal S1024x1024 .f32} {o9 : Vec Ideal S1x8x1024 .f32} {o10 : Vec Ideal S8x1024 .f32} (h : After A n o8 o9 o10)

include h

theorem After.sumM (k : Fin 8) (j : Fin 1024) : o9 (ValueIdx.ix3 0 k j) = beforeM A n k j + tileM A n k j := by
  refine (h.mrow k j).trans ?_
  simp only [tk_row]
  rfl

theorem After.sumA (k : Fin 8) (j : Fin 1024) : o10 (ValueIdx.ix2 k j) = beforeA A n k j + tileA A n k j := by
  refine (h.arow k j).trans ?_
  simp only [tk_row]
  rfl

end

/-- Every point leaves its tile's rows and the sums so far. -/
theorem after (h : Holds m c A) : ∀ (n : ℕ) (hn : n < cfg0.N),
    After A n (outsAt0 m c n hn).1 (outsAt0 m c n hn).2.1 (outsAt0 m c n hn).2.2
  | n, hn => by
    have hb := blocks h ⟨n, hn⟩
    have h4 : n < 4 := lt4 ⟨n, hn⟩
    by_cases h0 : n % 4 = 0
    · have h1 : n % 2 = 0 := by omega
      have zA : beforeA A n = A.ac := by
        have : n = 0 := by omega
        subst this; exact beforeA_zero
      unfold After
      rw [outsAt0_A m c ⟨n, hn⟩ h0 h1, beforeM_zero h1, zA]
      dsimp only
      exact leftA _ _ _ _ _ _ _ _ _ _ _ _ _ _ _ _ _ _ _ _ _ _ _ _ _ _ _ _ _ _ _ _ _ _ hb
    · have ih := after h (n - 1) (by omega)
      have hpos : 0 < n := by omega
      have hA : Is (outsAt0 m c (n - 1) (by omega)).2.2 (beforeA A n) := fun k j =>
        (ih.sumA k j).trans (by rw [beforeA_succ hpos])
      unfold After
      by_cases h1 : n % 2 = 0
      · rw [outsAt0_C m c ⟨n, hn⟩ h0 h1, beforeM_zero h1]
        dsimp only
        exact leftC _ _ _ _ _ _ _ _ _ _ _ _ _ _ _ _ _ _ _ _ _ _ _ _ _ _ _ _ _ _ _ _ _ _ _ hb hA
      · rw [outsAt0_B m c ⟨n, hn⟩ h0 h1]
        dsimp only
        exact leftB _ _ _ _ _ _ _ _ _ _ _ _ _ _ _ _ _ _ _ _ _ _ _ _ _ _ _ _ _ _ _ _ _ _ _ _ hb
          (fun k j => (ih.sumM k j).trans (by rw [beforeM_succ h1])) hA
  termination_by n => n
  decreasing_by omega

/-- A row of a tile is the row at its place in the array. -/
theorem tile_row {v : (⟨2, ![1024, 1024]⟩ : Shape).Idx → EReal} {t : ℕ} (h : Is v fun r => (tk (tP A t) (tX A t) (tH A t) (tD A t) r).dx)
    (y : (⟨2, ![1024, 1024]⟩ : Shape).Idx) (z : (⟨2, ![4096, 1024]⟩ : Shape).Idx) {a b : ℕ} (ha : a = t) (hb : b = 0)
    (h0 : (z 0).val = a * 1024 + 1 * (y 0).val) (h1 : (z 1).val = b * 1024 + 1 * (y 1).val) : v y = inRows A z := by
  refine (h.at_idx y).trans ((congrArg (fun T : InTok => T.dx (y 1)) (tk_row A t (y 0))).trans ?_)
  subst ha hb
  unfold inRows
  rw [show 1024 * a + (y 0).val = (z 0).val by omega, show (y 1 : Fin 1024) = z 1 from Fin.ext (by omega)]

/-- The tile of row `i`, and the bounds that say so. -/
def tileOf (i : Fin 4096) : Fin cfg0.N := ⟨i.val / 1024, (by omega : i.val / 1024 < 4).trans_eq N_0.symm⟩
theorem in_tile {i a : ℕ} (h : a = i / 1024) : a * 1024 ≤ i ∧ i < a * 1024 + 1024 := by omega
theorem in_row {n i a : ℕ} (h : a = 0) (hi : i < n) : a * n ≤ i ∧ i < a * n + n := by subst h; omega

variable (h : Holds m c A)

include h

/-- Each token's row. -/
theorem final8 : (dats m 0 c).arrAt 8 cfg0.N = inRows A := by
  refine (dats m 0 c).arrAt_eq_of_cover 8 (inRows A) (fun t hf => ?_) (fun i => ⟨tileOf (i 0), flush0_8 _, ?_⟩)
  · have hi := (idx_out t).1
    rw [flushed8]
    funext y
    rw [View.read_apply]
    exact tile_row (after h t.val t.isLt).dx y _ hi.1 hi.2 rfl rfl
  · have hi := (idx_out (tileOf (i 0))).1
    show i ∈ ((View.whole main_v5_0).slice (win0_8.rect (tileOf (i 0)))).set
    rw [View.set_slice_whole, Rect.mem_set_unit]
    intro a
    match a with
    | ⟨0, _⟩ => exact in_tile hi.1
    | ⟨1, _⟩ => exact in_row hi.2 (i 1).isLt

/-- The sums over the tokens of each sequence. -/
theorem final9 : (dats m 0 c).arrAt 9 cfg0.N = inMods A := by
  refine (dats m 0 c).arrAt_eq_of_cover 9 (inMods A) (fun t hf => ?_) (fun i => ?_)
  · have hi := (idx_out t).2.1
    have h1 : t.val % 2 = 1 := (flush0_9 t).mp hf
    have ht := lt4 t
    rw [flushed9]
    funext y
    rw [View.read_apply]
    have hy : y = ValueIdx.ix3 0 (y 1) (y 2) := ext3 (l := 1) (m := 8) (n := 1024) (by have : (y 0).val < 1 := (y 0).isLt; show (y 0).val = 0; omega) rfl rfl
    rw [hy]
    refine ((after h t.val t.isLt).sumM (y 1) (y 2)).trans ?_
    have e : beforeM A t.val (y 1) (y 2) + tileM A t.val (y 1) (y 2)
        = A.dm ⟨t.val / 2, by omega⟩ (y 1) (y 2) + ∑ s, (A.tok ⟨t.val / 2, by omega⟩ s).mrow (y 1) (y 2) := by
      rw [← A.sum_seq (fun T => T.mrow (y 1) (y 2)), Finset.sum_range_succ]
      have es : Args.seq (1024 * t.val) = ⟨t.val / 2, by omega⟩ := Fin.ext (by
        show 1024 * t.val / 2048 % 2 = t.val / 2
        omega)
      unfold beforeM tileM
      rw [h1, es, add_assoc]
      show _ + (_ + _) = _ + (_ + ∑ r : Fin 1024, (A.row (1024 * (2 * (t.val / 2) + 1) + r.val)).mrow (y 1) (y 2))
      rw [show 2 * (t.val / 2) + 1 = t.val by omega]
    rw [e]
    have e0 : win0_9.index t 0 * 1 + 1 * 0 = t.val / 2 := by rw [hi.1]; omega
    have e1 : win0_9.index t 1 * 8 + 1 * (y 1).val = (y 1).val := by rw [hi.2.1]; omega
    have e2 : win0_9.index t 2 * 1024 + 1 * (y 2).val = (y 2).val := by rw [hi.2.2]; omega
    exact inMods_at A _ e0.symm e1.symm e2.symm
  · have h0 : (i 0 : Nat) < 2 := (i 0).isLt
    have h1 : (i 1 : Nat) < 8 := (i 1).isLt
    have h2 : (i 2 : Nat) < 1024 := (i 2).isLt
    let t : Fin cfg0.N := ⟨2 * (i 0).val + 1, (by omega : 2 * (i 0).val + 1 < 4).trans_eq N_0.symm⟩
    have hi := (idx_out t).2.1
    have htv : t.val / 2 = (i 0).val := by show (2 * (i 0).val + 1) / 2 = _; omega
    refine ⟨t, (flush0_9 t).mpr (by show (2 * (i 0).val + 1) % 2 = 1; omega), ?_⟩
    show i ∈ ((View.whole main_v5_1).slice (win0_9.rect t)).set
    rw [View.set_slice_whole, Rect.mem_set_unit]
    intro a
    match a with
    | ⟨0, _⟩ =>
      show win0_9.index t 0 * 1 ≤ (i 0 : Nat) ∧ (i 0 : Nat) < win0_9.index t 0 * 1 + 1
      rw [hi.1, htv]; omega
    | ⟨1, _⟩ => exact in_row hi.2.1 h1
    | ⟨2, _⟩ => exact in_row hi.2.2 h2

/-- The sums over all tokens. -/
theorem final10 : (dats m 0 c).arrAt 10 cfg0.N = inAccs A := by
  refine (dats m 0 c).arrAt_eq_of_cover 10 (inAccs A) (fun t hf => ?_) (fun i => ?_)
  · have hi := (idx_out t).2.2
    have h3 : t.val % 4 = 3 := (flush0_10 t).mp hf
    have ht := lt4 t
    rw [flushed10]
    funext y
    rw [View.read_apply]
    have hy : y = ValueIdx.ix2 (y 0) (y 1) := ext2 (m := 8) (n := 1024) rfl rfl
    rw [hy]
    refine ((after h t.val t.isLt).sumA (y 0) (y 1)).trans ?_
    have e : beforeA A t.val (y 0) (y 1) + tileA A t.val (y 0) (y 1) = A.ac (y 0) (y 1) + ∑ b, ∑ s, (A.tok b s).arow (y 0) (y 1) := by
      rw [← A.sum_all (fun T => T.arow (y 0) (y 1)), Finset.sum_range_succ, show t.val = 3 by omega, ← add_assoc]
      rfl
    rw [e]
    have e0 : win0_10.index t 0 * 8 + 1 * (y 0).val = (y 0).val := by rw [hi.1]; omega
    have e1 : win0_10.index t 1 * 1024 + 1 * (y 1).val = (y 1).val := by rw [hi.2]; omega
    exact inAccs_at A _ e0.symm e1.symm
  · let t : Fin cfg0.N := ⟨3, (by omega : 3 < 4).trans_eq N_0.symm⟩
    have hi := (idx_out t).2.2
    refine ⟨t, (flush0_10 t).mpr rfl, ?_⟩
    show i ∈ ((View.whole main_v5_2).slice (win0_10.rect t)).set
    rw [View.set_slice_whole, Rect.mem_set_unit]
    intro a
    match a with
    | ⟨0, _⟩ => exact in_row hi.1 (i 0).isLt
    | ⟨1, _⟩ => exact in_row hi.2 (i 1).isLt

end Cert.InBwdIdeal.Val

end
-- ==== Proof.InRef.lean ====
/-
  The reference of `in_bwd`: every array it computes, operation by operation, is the token's quantity that the model
  names. Its derivative of the normalisation is written with the root's derivative and two equal terms, which
  `norm_back` gathers.
-/
module

public import proofs.«01_k».proof.Proof.InModel
public import proofs.«01_k».proof.Proof.Calculus
public import proofs.«01_k».proof.Proof.Gen.InRefIdeal.Read

@[expose] public section

set_option maxRecDepth 16384

noncomputable section

namespace Cert.InRefIdeal.Val

open Cert.InRefIdeal Cert.InRefIdeal.Gen Cert.InRefIdeal.Read Cert.Arr Cert.Arr.Is Idealize.ShloMosaic

variable {A : InArgs} {x0 x1 : (⟨S2x2048x1024, .f32⟩ : BufTy).Contents (Elt Ideal)} {x2 : (⟨S4096x3200, .bf16⟩ : BufTy).Contents (Elt Ideal)}
  {x3 : (⟨S2x6x1024, .f32⟩ : BufTy).Contents (Elt Ideal)} {x4 : (⟨S1x1024, .f32⟩ : BufTy).Contents (Elt Ideal)}
  {x5 : (⟨S1024x3088, .f32⟩ : BufTy).Contents (Elt Ideal)} {x6 : (⟨S2x8x1024, .f32⟩ : BufTy).Contents (Elt Ideal)}
  {x7 : (⟨S8x1024, .f32⟩ : BufTy).Contents (Elt Ideal)} (h : InReads A x0 x1 x2 x3 x4 x5 x6 x7)

include h

theorem r_v0 : Is (val_main_v0 (F := Ideal) x2) A.dp :=
  h.h2
theorem r_v1 : Is3 (val_main_v1 (F := Ideal) x2) (fun b s => A.dp ⟨2048 * b.val + s.val, by omega⟩) :=
  fun b s k => (val_main_v1_apply x2 _).trans ((r_v0 h).at _ (by show ((b.val * 2048 + s.val) * 3200 + k.val) / 3200 = 2048 * b.val + s.val; omega)
    (by show ((b.val * 2048 + s.val) * 3200 + k.val) % 3200 = k.val; omega))
theorem r_v2 : Is3 (val_main_v2 (F := Ideal) x2) (fun b s e => (A.tok b s).dp (wide e)) :=
  fun b s e => (val_main_v2_apply x2 _).trans ((r_v1 h).at' _ rfl rfl rfl)
theorem r_v4 : Is3 (val_main_v4 (F := Ideal) x3) (fun b _ => A.md b 1) :=
  fun b q i => (val_main_v4_apply x3 _).trans (Is3.at' h.h3 _ rfl (by show 1 + q.val = 1; omega) rfl)
theorem r_v5 (i : Fin 1024) : val_main_v5 (F := Ideal) x4 (ValueIdx.ix1 i) = A.g i :=
  (val_main_v5_apply x4 _).trans (h.h4.at _ (a := 0) rfl (Nat.mod_eq_of_lt i.isLt))
theorem r_v6 : Is3 (val_main_v6 (F := Ideal) x0) (fun b s i => (A.tok b s).x i * (A.tok b s).x i) :=
  h.h0.mul h.h0
theorem r_v7 : Is (val_main_v7 (F := Ideal) x0) (fun b s => ∑ k, (A.tok b s).x k * (A.tok b s).x k) :=
  fun b s => (val_main_v7_apply x0 _).trans (sum_from Ideal.ofBits_zero_f32 fun k => (r_v6 h).at' _ rfl rfl rfl)
theorem r_v8 : Is3 (val_main_v8 (F := Ideal) x0) (fun b s _ => ∑ k, (A.tok b s).x k * (A.tok b s).x k) :=
  fun b s i => (val_main_v8_apply x0 _).trans ((r_v7 h).at _ rfl rfl)
theorem r_v9 : Is3 (val_main_v9 (F := Ideal)) (fun _ _ _ => kilo) :=
  fun _ _ _ => (val_main_v9_apply _).trans c1024
theorem r_v10 : Is3 (val_main_v10 (F := Ideal) x0) (fun b s _ => Ideal.div (∑ k, (A.tok b s).x k * (A.tok b s).x k) kilo) :=
  (r_v8 h).div (r_v9 h)
theorem r_v11 : Is3 (val_main_v11 (F := Ideal)) (fun _ _ _ => eps) :=
  fun _ _ _ => (val_main_v11_apply _).trans ceps
theorem r_v12 : Is3 (val_main_v12 (F := Ideal) x0) (fun b s _ => (A.tok b s).v) :=
  (r_v10 h).add (r_v11 h)
theorem r_v13 : Is3 (val_main_v13 (F := Ideal) x0) (fun b s _ => (A.tok b s).r) :=
  (r_v12 h).rsqrt
theorem r_v14 : Is3 (val_main_v14 (F := Ideal) x0) (fun b s _ => Ideal.div (A.tok b s).r (A.tok b s).v) :=
  (r_v13 h).div (r_v12 h)
theorem r_v15 : Is3 (val_main_v15 (F := Ideal)) (fun _ _ _ => neghalf) :=
  fun _ _ _ => (val_main_v15_apply _).trans cneghalf
theorem r_v16 : Is3 (val_main_v16 (F := Ideal) x0) (fun b s _ => neghalf * (Ideal.div (A.tok b s).r (A.tok b s).v)) :=
  (r_v15 h).mul (r_v14 h)
theorem r_v17 : Is3 (val_main_v17 (F := Ideal) x0) (fun b s _ => (A.tok b s).r) :=
  fun b s i => (val_main_v17_apply x0 _).trans ((r_v13 h).at' _ (c := 0) rfl rfl rfl)
theorem r_v18 : Is3 (val_main_v18 (F := Ideal) x0) (fun b s => (A.tok b s).n) :=
  h.h0.mul (r_v17 h)
theorem r_v19 : Is3 (val_main_v19 (F := Ideal) x4) (fun _ _ => A.g) :=
  fun a b i => (val_main_v19_apply x4 _).trans (at1 (r_v5 h) _ rfl)
theorem r_v20 : Is3 (val_main_v20 (F := Ideal) x4) (fun _ _ => A.g) :=
  fun b s i => (val_main_v20_apply x4 _).trans ((r_v19 h).at' _ (a := 0) (b := 0) rfl rfl rfl)
theorem r_v21 : Is3 (val_main_v21 (F := Ideal) x0 x4) (fun b s i => (A.tok b s).n i * A.g i) :=
  (r_v18 h).mul (r_v20 h)
theorem r_v22 : Is3 (val_main_v22 (F := Ideal)) (fun _ _ _ => 1) :=
  fun _ _ _ => (val_main_v22_apply _).trans cone
theorem r_v23 : Is3 (val_main_v23 (F := Ideal) x3) (fun b _ i => 1 + A.md b 1 i) :=
  (r_v22 h).add (r_v4 h)
theorem r_v29 : Is3 (val_main_v29 (F := Ideal) x2 x5) (fun b s => (A.tok b s).du) :=
  fun b s i => (val_main_v29_apply x2 x5 _).trans (sum_prod (fun k => (r_v2 h).at' _ rfl rfl rfl) (fun k => h.h5.at _ rfl rfl))
theorem r_v30 : Is (val_main_v30 (F := Ideal) x2 x5) (fun b i => ∑ s, (A.tok b s).du i) :=
  fun b i => (val_main_v30_apply x2 x5 _).trans (sum_from Ideal.ofBits_zero_f32 fun k => (r_v29 h).at' _ rfl rfl rfl)
theorem r_v31 : Is3 (val_main_v31 (F := Ideal) x2 x5) (fun b _ i => ∑ s, (A.tok b s).du i) :=
  fun b q i => (val_main_v31_apply x2 x5 _).trans ((r_v30 h).at _ (by show ((b.val * 1 + q.val) * 1024 + i.val) / 1024 = b.val; omega) (by show ((b.val * 1 + q.val) * 1024 + i.val) % 1024 = i.val; omega))
theorem r_v32 : Is3 (val_main_v32 (F := Ideal) x0 x2 x4 x5) (fun b s => (A.tok b s).dsc) :=
  ((r_v21 h).mul (r_v29 h)).congr fun b s i => mul_comm _ _
theorem r_v33 : Is (val_main_v33 (F := Ideal) x0 x2 x4 x5) (fun b i => ∑ s, (A.tok b s).dsc i) :=
  fun b i => (val_main_v33_apply x0 x2 x4 x5 _).trans (sum_from Ideal.ofBits_zero_f32 fun k => (r_v32 h).at' _ rfl rfl rfl)
theorem r_v34 : Is3 (val_main_v34 (F := Ideal) x0 x2 x4 x5) (fun b _ i => ∑ s, (A.tok b s).dsc i) :=
  fun b q i => (val_main_v34_apply x0 x2 x4 x5 _).trans ((r_v33 h).at _ (by show ((b.val * 1 + q.val) * 1024 + i.val) / 1024 = b.val; omega) (by show ((b.val * 1 + q.val) * 1024 + i.val) % 1024 = i.val; omega))
theorem r_v35 : Is3 (val_main_v35 (F := Ideal) x3) (fun b _ i => 1 + A.md b 1 i) :=
  fun b s i => (val_main_v35_apply x3 _).trans ((r_v23 h).at' _ (b := 0) rfl rfl rfl)
theorem r_v36 : Is3 (val_main_v36 (F := Ideal) x2 x3 x5) (fun b s i => (A.tok b s).du i * (1 + A.md b 1 i)) :=
  (r_v29 h).mul (r_v35 h)
theorem r_v37 : Is3 (val_main_v37 (F := Ideal) x0 x2 x3 x5) (fun b s => (A.tok b s).dg) :=
  ((r_v18 h).mul (r_v36 h)).congr fun b s i => mul_comm _ _
theorem r_v38 (i : Fin 1024) : val_main_v38 (F := Ideal) x0 x2 x3 x5 (ValueIdx.ix1 i) = ∑ b, ∑ s, (A.tok b s).dg i :=
  sum_01 reducesTo_S2x2048x1024_S1024_d0_1 (r_v37 h) Ideal.ofBits_zero_f32 i
theorem r_v39 : Is3 (val_main_v39 (F := Ideal) x0 x2 x3 x5) (fun _ _ i => ∑ b, ∑ s, (A.tok b s).dg i) :=
  fun a b i => (val_main_v39_apply x0 x2 x3 x5 _).trans (at1 (r_v38 h) _ (by show (a.val * 1 + b.val) * 1024 + i.val = i.val; omega))
theorem r_v42 (i : Fin 1024) : val_main_v42 (F := Ideal) x0 x2 x3 x5 (ValueIdx.ix1 i) = ∑ b, ∑ s, (A.tok b s).dg i :=
  (sum_01 reducesTo_S1x1x1024_S1024_d0_1 (r_v39 h) Ideal.ofBits_zero_f32 i).trans (by simp)
theorem r_v40 : Is3 (val_main_v40 (F := Ideal) x4) (fun _ _ => A.g) :=
  fun b s i => (val_main_v40_apply x4 _).trans ((r_v19 h).at' _ (a := 0) (b := 0) rfl rfl rfl)
theorem r_v41 : Is3 (val_main_v41 (F := Ideal) x2 x3 x4 x5) (fun b s => (A.tok b s).e) :=
  ((r_v36 h).mul (r_v40 h)).congr fun b s i => (mul_assoc _ _ _).trans (congrArg _ (mul_comm _ _))
theorem r_v43 : Is3 (val_main_v43 (F := Ideal) x0 x2 x3 x4 x5) (fun b s i => (A.tok b s).x i * (A.tok b s).e i) :=
  h.h0.mul (r_v41 h)
theorem r_v44 : Is (val_main_v44 (F := Ideal) x0 x2 x3 x4 x5) (fun b s => ∑ k, (A.tok b s).x k * (A.tok b s).e k) :=
  fun b s => (val_main_v44_apply x0 x2 x3 x4 x5 _).trans (sum_from Ideal.ofBits_zero_f32 fun k => (r_v43 h).at' _ rfl rfl rfl)
theorem r_v45 : Is3 (val_main_v45 (F := Ideal) x0 x2 x3 x4 x5) (fun b s _ => ∑ k, (A.tok b s).x k * (A.tok b s).e k) :=
  fun b s q => (val_main_v45_apply x0 x2 x3 x4 x5 _).trans ((r_v44 h).at _ (by show ((b.val * 2048 + s.val) * 1 + q.val) / 2048 = b.val; omega) (by show ((b.val * 2048 + s.val) * 1 + q.val) % 2048 = s.val; omega))
theorem r_v46 : Is3 (val_main_v46 (F := Ideal) x0) (fun b s _ => (A.tok b s).r) :=
  fun b s i => (val_main_v46_apply x0 _).trans ((r_v13 h).at' _ (c := 0) rfl rfl rfl)
theorem r_v47 : Is3 (val_main_v47 (F := Ideal) x0 x2 x3 x4 x5) (fun b s i => (A.tok b s).e i * (A.tok b s).r) :=
  (r_v41 h).mul (r_v46 h)
theorem r_v49 : Is3 (val_main_v49 (F := Ideal) x0 x2 x3 x4 x5) (fun b s _ => (∑ k, (A.tok b s).x k * (A.tok b s).e k) * (neghalf * (Ideal.div (A.tok b s).r (A.tok b s).v))) :=
  (r_v45 h).mul (r_v16 h)
theorem r_v50 : Is3 (val_main_v50 (F := Ideal)) (fun _ _ _ => kilo) :=
  fun _ _ _ => (val_main_v50_apply _).trans c1024
theorem r_v51 : Is3 (val_main_v51 (F := Ideal) x0 x2 x3 x4 x5) (fun b s _ => Ideal.div ((∑ k, (A.tok b s).x k * (A.tok b s).e k) * (neghalf * (Ideal.div (A.tok b s).r (A.tok b s).v))) kilo) :=
  (r_v49 h).div (r_v50 h)
theorem r_v52 : Is (val_main_v52 (F := Ideal) x0 x2 x3 x4 x5) (fun b s => Ideal.div ((∑ k, (A.tok b s).x k * (A.tok b s).e k) * (neghalf * (Ideal.div (A.tok b s).r (A.tok b s).v))) kilo) :=
  fun b s => (val_main_v52_apply x0 x2 x3 x4 x5 _).trans ((sum_from Ideal.ofBits_zero_f32 fun k => (r_v51 h).at' _ (a := b) (b := s) (c := k) rfl rfl rfl).trans (by simp))
theorem r_v53 : Is3 (val_main_v53 (F := Ideal) x0 x2 x3 x4 x5) (fun b s _ => Ideal.div ((∑ k, (A.tok b s).x k * (A.tok b s).e k) * (neghalf * (Ideal.div (A.tok b s).r (A.tok b s).v))) kilo) :=
  fun b s i => (val_main_v53_apply x0 x2 x3 x4 x5 _).trans ((r_v52 h).at _ rfl rfl)
theorem r_v54 : Is3 (val_main_v54 (F := Ideal) x0 x2 x3 x4 x5) (fun b s i => (A.tok b s).x i * Ideal.div ((∑ k, (A.tok b s).x k * (A.tok b s).e k) * (neghalf * (Ideal.div (A.tok b s).r (A.tok b s).v))) kilo) :=
  h.h0.mul (r_v53 h)
theorem r_v48 : Is3 (val_main_v48 (F := Ideal) x0 x1 x2 x3 x4 x5) (fun b s i => (A.tok b s).dh i + (A.tok b s).e i * (A.tok b s).r) :=
  h.h1.add (r_v47 h)
theorem r_v55 : Is3 (val_main_v55 (F := Ideal) x0 x1 x2 x3 x4 x5) (fun b s i => (A.tok b s).dh i + (A.tok b s).e i * (A.tok b s).r + (A.tok b s).x i * Ideal.div ((∑ k, (A.tok b s).x k * (A.tok b s).e k) * (neghalf * (Ideal.div (A.tok b s).r (A.tok b s).v))) kilo) :=
  (r_v48 h).add (r_v54 h)
theorem r_v56 : Is3 (val_main_v56 (F := Ideal) x0 x2 x3 x4 x5) (fun b s i => Ideal.div ((∑ k, (A.tok b s).x k * (A.tok b s).e k) * (neghalf * (Ideal.div (A.tok b s).r (A.tok b s).v))) kilo * (A.tok b s).x i) :=
  (r_v53 h).mul h.h0
/-- The cotangent of the layer's input. -/
theorem r_v57 : Is3 (val_main_v57 (F := Ideal) x0 x1 x2 x3 x4 x5) (fun b s => (A.tok b s).dx) :=
  ((r_v55 h).add (r_v56 h)).congr fun b s i =>
    (add4 _ _ _ _).trans (congrArg _ (norm_back (A.tok b s).x (A.tok b s).e (A.tok b s).v_pos i))
/-- The arrays that `dmod` stacks. -/
abbrev modPieces (x0 : (⟨S2x2048x1024, .f32⟩ : BufTy).Contents (Elt Ideal)) (x2 : (⟨S4096x3200, .bf16⟩ : BufTy).Contents (Elt Ideal))
    (x4 : (⟨S1x1024, .f32⟩ : BufTy).Contents (Elt Ideal))
    (x5 : (⟨S1024x3088, .f32⟩ : BufTy).Contents (Elt Ideal)) : List ((s : Shape) × (s.Idx → EReal)) :=
  [⟨S2x1x1024, val_main_v31 (F := Ideal) x2 x5⟩, ⟨S2x1x1024, val_main_v34 (F := Ideal) x0 x2 x4 x5⟩, ⟨S2x6x1024, val_main_v59 (F := Ideal)⟩]
/-- The arrays that `acc` stacks. -/
abbrev accPieces (x0 : (⟨S2x2048x1024, .f32⟩ : BufTy).Contents (Elt Ideal)) (x2 : (⟨S4096x3200, .bf16⟩ : BufTy).Contents (Elt Ideal))
    (x3 : (⟨S2x6x1024, .f32⟩ : BufTy).Contents (Elt Ideal))
    (x5 : (⟨S1024x3088, .f32⟩ : BufTy).Contents (Elt Ideal)) : List ((s : Shape) × (s.Idx → EReal)) :=
  [⟨S3x1024, val_main_v62 (F := Ideal)⟩, ⟨S1x1024, val_main_v58 (F := Ideal) x0 x2 x3 x5⟩, ⟨S4x1024, val_main_v63 (F := Ideal)⟩]
theorem r_v59 : Is3 (val_main_v59 (F := Ideal)) (fun _ _ _ => 0) :=
  fun _ _ _ => (val_main_v59_apply _).trans czero
theorem r_v62 : Is (val_main_v62 (F := Ideal)) (fun _ _ => 0) :=
  fun _ _ => (val_main_v62_apply _).trans czero
theorem r_v63 : Is (val_main_v63 (F := Ideal)) (fun _ _ => 0) :=
  fun _ _ => (val_main_v63_apply _).trans czero
theorem r_v58 : Is (val_main_v58 (F := Ideal) x0 x2 x3 x5) (fun _ i => ∑ b, ∑ s, (A.tok b s).dg i) :=
  fun a i => (val_main_v58_apply x0 x2 x3 x5 _).trans (at1 (r_v42 h) _ rfl)
/-- The sums over the tokens of a sequence. -/
theorem r_v60 : Is3 (val_main_v60 (F := Ideal) x0 x2 x4 x5) (fun b k i => ∑ s, (A.tok b s).mrow k i) :=
  fun b k j => match k with
    | ⟨0, _⟩ => (cat_mid (modPieces x0 x2 x4 x5) concatenates_S2x1x1024_S2x1x1024_S2x6x1024_S2x8x1024_d1 b 0 j 0 (by show 0 < 3; omega) (val_main_v31 (F := Ideal) x2 x5) rfl 0 rfl).trans ((r_v31 h) b 0 j)
    | ⟨1, _⟩ => (cat_mid (modPieces x0 x2 x4 x5) concatenates_S2x1x1024_S2x1x1024_S2x6x1024_S2x8x1024_d1 b 1 j 1 (by show 1 < 3; omega) (val_main_v34 (F := Ideal) x0 x2 x4 x5) rfl 0 rfl).trans ((r_v34 h) b 0 j)
    | ⟨2, _⟩ => (cat_mid (modPieces x0 x2 x4 x5) concatenates_S2x1x1024_S2x1x1024_S2x6x1024_S2x8x1024_d1 b 2 j 2 (by show 2 < 3; omega) (val_main_v59 (F := Ideal)) rfl 0 rfl).trans (((r_v59 h) b 0 j).trans (by simp [InTok.mrow]))
    | ⟨3, _⟩ => (cat_mid (modPieces x0 x2 x4 x5) concatenates_S2x1x1024_S2x1x1024_S2x6x1024_S2x8x1024_d1 b 3 j 2 (by show 2 < 3; omega) (val_main_v59 (F := Ideal)) rfl 1 rfl).trans (((r_v59 h) b 1 j).trans (by simp [InTok.mrow]))
    | ⟨4, _⟩ => (cat_mid (modPieces x0 x2 x4 x5) concatenates_S2x1x1024_S2x1x1024_S2x6x1024_S2x8x1024_d1 b 4 j 2 (by show 2 < 3; omega) (val_main_v59 (F := Ideal)) rfl 2 rfl).trans (((r_v59 h) b 2 j).trans (by simp [InTok.mrow]))
    | ⟨5, _⟩ => (cat_mid (modPieces x0 x2 x4 x5) concatenates_S2x1x1024_S2x1x1024_S2x6x1024_S2x8x1024_d1 b 5 j 2 (by show 2 < 3; omega) (val_main_v59 (F := Ideal)) rfl 3 rfl).trans (((r_v59 h) b 3 j).trans (by simp [InTok.mrow]))
    | ⟨6, _⟩ => (cat_mid (modPieces x0 x2 x4 x5) concatenates_S2x1x1024_S2x1x1024_S2x6x1024_S2x8x1024_d1 b 6 j 2 (by show 2 < 3; omega) (val_main_v59 (F := Ideal)) rfl 4 rfl).trans (((r_v59 h) b 4 j).trans (by simp [InTok.mrow]))
    | ⟨7, _⟩ => (cat_mid (modPieces x0 x2 x4 x5) concatenates_S2x1x1024_S2x1x1024_S2x6x1024_S2x8x1024_d1 b 7 j 2 (by show 2 < 3; omega) (val_main_v59 (F := Ideal)) rfl 5 rfl).trans (((r_v59 h) b 5 j).trans (by simp [InTok.mrow]))
/-- The sums over all tokens. -/
theorem r_v64 : Is (val_main_v64 (F := Ideal) x0 x2 x3 x5) (fun k i => ∑ b, ∑ s, (A.tok b s).arow k i) :=
  fun k j => match k with
    | ⟨0, _⟩ => (cat_row (accPieces x0 x2 x3 x5) concatenates_S3x1024_S1x1024_S4x1024_S8x1024_d0 0 j 0 (by show 0 < 3; omega) (val_main_v62 (F := Ideal)) rfl 0 rfl).trans (((r_v62 h) 0 j).trans (by simp [InTok.arow]))
    | ⟨1, _⟩ => (cat_row (accPieces x0 x2 x3 x5) concatenates_S3x1024_S1x1024_S4x1024_S8x1024_d0 1 j 0 (by show 0 < 3; omega) (val_main_v62 (F := Ideal)) rfl 1 rfl).trans (((r_v62 h) 1 j).trans (by simp [InTok.arow]))
    | ⟨2, _⟩ => (cat_row (accPieces x0 x2 x3 x5) concatenates_S3x1024_S1x1024_S4x1024_S8x1024_d0 2 j 0 (by show 0 < 3; omega) (val_main_v62 (F := Ideal)) rfl 2 rfl).trans (((r_v62 h) 2 j).trans (by simp [InTok.arow]))
    | ⟨3, _⟩ => (cat_row (accPieces x0 x2 x3 x5) concatenates_S3x1024_S1x1024_S4x1024_S8x1024_d0 3 j 1 (by show 1 < 3; omega) (val_main_v58 (F := Ideal) x0 x2 x3 x5) rfl 0 rfl).trans ((r_v58 h) 0 j)
    | ⟨4, _⟩ => (cat_row (accPieces x0 x2 x3 x5) concatenates_S3x1024_S1x1024_S4x1024_S8x1024_d0 4 j 2 (by show 2 < 3; omega) (val_main_v63 (F := Ideal)) rfl 0 rfl).trans (((r_v63 h) 0 j).trans (by simp [InTok.arow]))
    | ⟨5, _⟩ => (cat_row (accPieces x0 x2 x3 x5) concatenates_S3x1024_S1x1024_S4x1024_S8x1024_d0 5 j 2 (by show 2 < 3; omega) (val_main_v63 (F := Ideal)) rfl 1 rfl).trans (((r_v63 h) 1 j).trans (by simp [InTok.arow]))
    | ⟨6, _⟩ => (cat_row (accPieces x0 x2 x3 x5) concatenates_S3x1024_S1x1024_S4x1024_S8x1024_d0 6 j 2 (by show 2 < 3; omega) (val_main_v63 (F := Ideal)) rfl 2 rfl).trans (((r_v63 h) 2 j).trans (by simp [InTok.arow]))
    | ⟨7, _⟩ => (cat_row (accPieces x0 x2 x3 x5) concatenates_S3x1024_S1x1024_S4x1024_S8x1024_d0 7 j 2 (by show 2 < 3; omega) (val_main_v63 (F := Ideal)) rfl 3 rfl).trans (((r_v63 h) 3 j).trans (by simp [InTok.arow]))
/-- The three results. -/
theorem r_v61 : val_main_v61 (F := Ideal) x0 x2 x4 x5 x6 = inMods A := funext fun i =>
  (congrArg (val_main_v61 (F := Ideal) x0 x2 x4 x5 x6) (ext3 rfl rfl rfl : i = ValueIdx.ix3 (i 0) (i 1) (i 2))).trans ((h.h6.add (r_v60 h)) _ _ _)
theorem r_v65 : val_main_v65 (F := Ideal) x0 x2 x3 x5 x7 = inAccs A := funext fun i =>
  (congrArg (val_main_v65 (F := Ideal) x0 x2 x3 x5 x7) (ext2 rfl rfl : i = ValueIdx.ix2 (i 0) (i 1))).trans ((h.h7.add (r_v64 h)) _ _)
theorem r_v66 : val_main_v66 (F := Ideal) x0 x1 x2 x3 x4 x5 = inRows A := funext fun i =>
  (congrArg (val_main_v66 (F := Ideal) x0 x1 x2 x3 x4 x5) (ext2 rfl rfl : i = ValueIdx.ix2 (i 0) (i 1))).trans ((cast_flat _ _ (i 0) (i 1)).trans ((r_v57 h) _ _ _))

end Cert.InRefIdeal.Val

end
-- ==== Proof.InBwdValue.lean ====
/-
  The gradient of the first normalisation, modulation and input projection (call `in_bwd`): the kernel's three arrays and
  the reference's are the same arrays of the model's quantities.
-/
module

public import proofs.«01_k».proof.Proof.InKernel
public import proofs.«01_k».proof.Proof.InRef
public import proofs.«01_k».proof.Proof.Gen.InRefIdeal.Run
public import proofs.«01_k».proof.Defs

@[expose] public section

set_option maxRecDepth 16384

noncomputable section

namespace Cert.InBwdIdeal.Val

open Cert.InBwdIdeal Cert.Arr Idealize.ShloMosaic Idealize.ShloMosaic.TcCoe Idealize.SL.Sem

variable (m : (ℓ : Loc nD τ sig) → Buf (Elt Ideal) ℓ) (c : Dev nD)

/-- The entries of the arguments. -/
def args : InArgs where
  x := fun b s i => (m ((c.tc : Thread nD τ).loc main_arg0) : (⟨3, ![2, 2048, 1024]⟩ : Shape).Idx → EReal) (ValueIdx.ix3 b s i)
  dh := fun b s i => (m ((c.tc : Thread nD τ).loc main_arg1) : (⟨3, ![2, 2048, 1024]⟩ : Shape).Idx → EReal) (ValueIdx.ix3 b s i)
  dp := fun n k => (m ((c.tc : Thread nD τ).loc main_arg2) : (⟨2, ![4096, 3200]⟩ : Shape).Idx → EReal) (ValueIdx.ix2 n k)
  md := fun b k i => (m ((c.tc : Thread nD τ).loc main_arg3) : (⟨3, ![2, 6, 1024]⟩ : Shape).Idx → EReal) (ValueIdx.ix3 b k i)
  g := fun i => (m ((c.tc : Thread nD τ).loc main_arg4) : (⟨2, ![1, 1024]⟩ : Shape).Idx → EReal) (ValueIdx.ix2 0 i)
  w := fun i e => (m ((c.tc : Thread nD τ).loc main_arg5) : (⟨2, ![1024, 3088]⟩ : Shape).Idx → EReal) (ValueIdx.ix2 i e)
  dm := fun b k i => (m ((c.tc : Thread nD τ).loc main_arg6) : (⟨3, ![2, 8, 1024]⟩ : Shape).Idx → EReal) (ValueIdx.ix3 b k i)
  ac := fun k i => (m ((c.tc : Thread nD τ).loc main_arg7) : (⟨2, ![8, 1024]⟩ : Shape).Idx → EReal) (ValueIdx.ix2 k i)

/-- The arguments hold them. -/
theorem holds : Holds m c (args m c) where
  h0 := fun _ _ _ => rfl
  h1 := fun _ _ _ => rfl
  h2 := fun _ _ => rfl
  h3 := fun _ _ _ => rfl
  h4 := fun a i => by
    obtain rfl : a = 0 := Subsingleton.elim _ _
    rfl
  h5 := fun _ _ => rfl
  h6 := fun _ _ _ => rfl
  h7 := fun _ _ => rfl

end Cert.InBwdIdeal.Val

open Idealize.ShloMosaic Idealize.ShloMosaic.TcCoe Idealize.SL.Sem Cert.Arr Cert.InBwdIdeal.Val Cert.InRefIdeal.Val Cert.InRefIdeal.Read in
/-- The kernel and the reference compute the same three arrays. -/
theorem Cert.InBwdIdeal.Val.algebraic : Cert.algebraic_InBwdIdeal_InRefIdeal := by
  intro m g m' g' _ hagree
  have H := fun c => holds m c
  have H' : ∀ c : Dev Cert.InBwdIdeal.nD, InReads (args m c) (m' ((c.tc : Thread Cert.InRefIdeal.nD Cert.InRefIdeal.τ).loc Cert.InRefIdeal.main_arg0))
      (m' ((c.tc : Thread Cert.InRefIdeal.nD Cert.InRefIdeal.τ).loc Cert.InRefIdeal.main_arg1))
      (m' ((c.tc : Thread Cert.InRefIdeal.nD Cert.InRefIdeal.τ).loc Cert.InRefIdeal.main_arg2))
      (m' ((c.tc : Thread Cert.InRefIdeal.nD Cert.InRefIdeal.τ).loc Cert.InRefIdeal.main_arg3))
      (m' ((c.tc : Thread Cert.InRefIdeal.nD Cert.InRefIdeal.τ).loc Cert.InRefIdeal.main_arg4))
      (m' ((c.tc : Thread Cert.InRefIdeal.nD Cert.InRefIdeal.τ).loc Cert.InRefIdeal.main_arg5))
      (m' ((c.tc : Thread Cert.InRefIdeal.nD Cert.InRefIdeal.τ).loc Cert.InRefIdeal.main_arg6))
      (m' ((c.tc : Thread Cert.InRefIdeal.nD Cert.InRefIdeal.τ).loc Cert.InRefIdeal.main_arg7)) := fun c => by
    obtain ⟨e0, e1, e2, e3, e4, e5, e6, e7⟩ := hagree c
    rw [e0, e1, e2, e3, e4, e5, e6, e7]
    exact H c
  refine ⟨fun c => inRows (args m c), fun c => inMods (args m c), fun c => inAccs (args m c),
    (θ_run Cert.InBwdIdeal.defs _ _).mono (fun r h c => ?_) (Cert.InBwdIdeal.Value.run_blocks (F := Ideal) m g),
    (θ_run Cert.InRefIdeal.defs _ _).mono (fun r h c => ?_) (Cert.InRefIdeal.Value.run (F := Ideal) m' g')⟩
  · obtain ⟨h0, h1, h2, hk⟩ := h c
    exact ⟨h0.trans (final8 (H c)), h1.trans (final9 (H c)), h2.trans (final10 (H c)), hk⟩
  · obtain ⟨h0, h1, h2, hk⟩ := h c
    exact ⟨h0.trans ((val_main_v66_eq _ _).trans (r_v66 (H' c))),
      h1.trans ((val_main_v61_eq _ _ _ _ _).trans (r_v61 (H' c))),
      h2.trans ((val_main_v65_eq _ _ _ _ _).trans (r_v65 (H' c))), hk⟩

end
-- ==== Proof.DwOutValue.lean ====
/-
  The weight gradient of the mixer's output matrix (call `dw_out`): the kernel's one grid point leaves the product of
  the mixer's output, transposed, with the cotangent, its rows in eight groups; so does the reference.
-/
module

public import proofs.«01_k».proof.Proof.Dots
public import proofs.«01_k».proof.Proof.Gen.DwOutIdeal.Value
public import proofs.«01_k».proof.Proof.Gen.DwOutRefIdeal.Run
public import proofs.«01_k».proof.Proof.Gen.DwOutRefIdeal.Read
public import proofs.«01_k».proof.Defs
public import Idealize.ShloMosaic.Lib.Tactic

@[expose] public section

set_option maxRecDepth 16384

noncomputable section

namespace Cert.DwOutIdeal.Val

open Cert.DwOutIdeal Cert.DwOutIdeal.Gen Cert.DwOutIdeal.Value Cert.Arr
open Idealize.ShloMosaic Idealize.ShloMosaic.TcCoe Idealize.SL.Sem
open Idealize.ShloMosaic.Pipeline (Dat)

/-- What the body leaves in the result's block: the product of its two blocks. -/
theorem block (c : Dev nD) (i : grid0.Coords) (a2 : Memref sig .tc .vmem S4096x1536 .bf16) (h2 : a2.IsWhole)
    (a3 : Memref sig .tc .vmem S4096x1024 .bf16) (h3 : a3.IsWhole) (a4 : Memref sig .tc .vmem S8x192x1024 .bf16) (h4 : a4.IsWhole)
    (a5 : Memref sig .tc .vmem S1536x1024 .f32) (h5 : a5.IsWhole) (hc0 : cond0_0 i) (hc1 : cond0_1 i)
    (x : Vec Ideal S4096x1536 .bf16) (y : Vec Ideal S4096x1024 .bf16) (j : S8x192x1024.Idx) :
    out0_A_2 c i a2 h2 a3 h3 a4 h4 a5 h5 hc0 hc1 x y j = prod x y ⟨192 * (j 0).val + (j 1).val, by have h0 : (j 0).val < 8 := (j 0).isLt; have h1 : (j 1).val < 192 := (j 1).isLt; omega⟩ (j 2) := by
  unfold out0_A_2
  rw [View.read_writes_eq_canon _ _ _ (cover0_A_2 c i a2 h2 a3 h3 a4 h4 a5 h5 hc0 hc1 x y)]
  unfold kernelRun0_A
  dsimp only
  sl_unfold_run_names
  have ho : k0_off1 i = (fun _ => 0 : Fin 2 → Nat) := by
    have h : (i 1).val = 0 := by have := (i 1).isLt; change (i 1).val < 1 at this; omega
    refine (k0_off1_eq i).trans ?_
    rw [h]; exact z2
  rw [View.canon_unit_zero z3]
  simp only [View.readAt_eq_ld, h2.read_unread, h3.read_unread, View.ld_unit_zero (S := S4096x1536) z2,
    View.ld_unit_zero (S := S4096x1024) ho, readCov_last (S := S1536x1024) _ z2]
  unfold k0_pay3 k0_pay2 k0_pay1
  dsimp only
  have h0 : (j 0).val < 8 := (j 0).isLt
  have h1 : (j 1).val < 192 := (j 1).isLt
  rw [shapeCast_self, shapeCast_self, ValueIdx.truncf_apply]
  refine (shapeCast_apply (s := S1536x1024) (t := S8x192x1024) _ _ j (ValueIdx.ix2 ⟨192 * (j 0).val + (j 1).val, by omega⟩ (j 2)) (by
    rw [Shape.rowMajor_val_two, Shape.rowMajor_val_three]
    show (192 * (j 0).val + (j 1).val) * 1024 + (j 2).val = ((j 0).val * 192 + (j 1).val) * 1024 + (j 2).val
    omega)).trans ?_
  rw [ValueIdx.addf_apply]
  show Ideal.ofBits .f32 0x00000000#32 + FloatOps.matmul _ _ _ _ _ _ = _
  rw [Ideal.ofBits_zero_f32, zero_add, Ideal.matmul_constant_zero_apply]
  exact sum_00 _ x y _

/-- The result: group `b`, row `i`, column `j` is column `192 b + i` of `a` against column `j` of `b`. -/
def G (a : S4096x1536.Idx → EReal) (b : S4096x1024.Idx → EReal) : S8x192x1024.Idx → EReal := fun i =>
  prod a b ⟨192 * (i 0).val + (i 1).val, by have h0 : (i 0).val < 8 := (i 0).isLt; have h1 : (i 1).val < 192 := (i 1).isLt; omega⟩ (i 2)

variable (m : (ℓ : Loc nD τ sig) → Buf (Elt Ideal) ℓ) (ρ : Dev nD → PrngReg)

/-- The windows' blocks are the whole arrays. -/
theorem idx_facts : ∀ t : Fin cfg0.N, win0_0.index t 0 = 0 ∧ win0_0.index t 1 = 0 ∧ win0_1.index t 0 = 0 ∧ win0_1.index t 1 = 0
    ∧ win0_2.index t 0 = 0 ∧ win0_2.index t 1 = 0 ∧ win0_2.index t 2 = 0 :=
  (by decide +kernel : ∀ t : Fin grid0.N, win0_0.index t 0 = 0 ∧ win0_0.index t 1 = 0 ∧ win0_1.index t 0 = 0 ∧ win0_1.index t 1 = 0
    ∧ win0_2.index t 0 = 0 ∧ win0_2.index t 1 = 0 ∧ win0_2.index t 2 = 0)

/-- The point reads all of `a`. -/
theorem in0 (c : Dev nD) (t : Fin cfg0.N) (k : Fin 4096) (i : Fin 1536) :
    (iblk m c 0 t : Vec Ideal S4096x1536 .bf16) (ValueIdx.ix2 k i)
      = (m ((c : Thread nD τ).loc main_arg0) : S4096x1536.Idx → EReal) (ValueIdx.ix2 k i) := by
  have hi := idx_facts t
  unfold iblk
  rw [View.read_apply]
  show V m c main_arg0 _ = m (c.tc.loc main_arg0) _
  rw [V_main_arg0]
  refine congrArg (m (c.tc.loc main_arg0)) (ext2 (m := 4096) (n := 1536) ?_ ?_)
  · show win0_0.index t 0 * 4096 + 1 * k.val = k.val; rw [hi.1]; omega
  · show win0_0.index t 1 * 1536 + 1 * i.val = i.val; rw [hi.2.1]; omega

/-- The point reads all of `b`. -/
theorem in1 (c : Dev nD) (t : Fin cfg0.N) (k : Fin 4096) (j : Fin 1024) :
    (iblk m c 1 t : Vec Ideal S4096x1024 .bf16) (ValueIdx.ix2 k j)
      = (m ((c : Thread nD τ).loc main_arg1) : S4096x1024.Idx → EReal) (ValueIdx.ix2 k j) := by
  have hi := idx_facts t
  unfold iblk
  rw [View.read_apply]
  show V m c main_arg1 _ = m (c.tc.loc main_arg1) _
  rw [V_main_arg1]
  refine congrArg (m (c.tc.loc main_arg1)) (ext2 (m := 4096) (n := 1024) ?_ ?_)
  · show win0_1.index t 0 * 4096 + 1 * k.val = k.val; rw [hi.2.2.1]; omega
  · show win0_1.index t 1 * 1024 + 1 * j.val = j.val; rw [hi.2.2.2.1]; omega

/-- The result array. -/
abbrev res (c : Dev nD) : Buf (Elt Ideal) ((c : Thread nD τ).loc main_v0) :=
  G (m ((c : Thread nD τ).loc main_arg0)) (m ((c : Thread nD τ).loc main_arg1))

/-- The result array ends as the product. -/
theorem final (c : Dev nD) : (dats m 0 c).arrAt 2 cfg0.N = res m c := by
  refine (dats m 0 c).arrAt_eq_of_cover 2 (res m c) (fun t hf => ?_) (fun i => ?_)
  · rw [flushed2_A]
    have hi := idx_facts t
    funext y
    rw [View.read_apply]
    refine (block c (grid0.coords t) _ _ _ _ _ _ _ _ _ _ _ _ y).trans ?_
    have e0 : 192 * (win0_2.index t 0 * 8 + 1 * (y 0).val) + (win0_2.index t 1 * 192 + 1 * (y 1).val) = 192 * (y 0).val + (y 1).val := by
      rw [hi.2.2.2.2.1, hi.2.2.2.2.2.1]; omega
    have e1 : win0_2.index t 2 * 1024 + 1 * (y 2).val = (y 2).val := by rw [hi.2.2.2.2.2.2]; omega
    exact prod_congr (fun k => (in0 m c t k _).trans (congrArg (m (c.tc.loc main_arg0)) (ext2 (m := 4096) (n := 1536) rfl e0.symm)))
      (fun k => (in1 m c t k (y 2)).trans (congrArg (m (c.tc.loc main_arg1)) (ext2 (m := 4096) (n := 1024) rfl e1.symm)))
  · have h0 : (i 0 : Nat) < 8 := (i 0).isLt
    have h1 : (i 1 : Nat) < 192 := (i 1).isLt
    have h2 : (i 2 : Nat) < 1024 := (i 2).isLt
    let t : Fin cfg0.N := ⟨0, by rw [show cfg0.N = 1 from N_0]; decide⟩
    have hi := idx_facts t
    refine ⟨t, flush0_2 t, ?_⟩
    show i ∈ ((View.whole main_v0).slice (win0_2.rect t)).set
    rw [View.set_slice_whole, Rect.mem_set_unit]
    intro a
    match a with
    | ⟨0, _⟩ =>
      show win0_2.index t 0 * 8 ≤ (i 0 : Nat) ∧ (i 0 : Nat) < win0_2.index t 0 * 8 + 8
      rw [hi.2.2.2.2.1]; omega
    | ⟨1, _⟩ =>
      show win0_2.index t 1 * 192 ≤ (i 1 : Nat) ∧ (i 1 : Nat) < win0_2.index t 1 * 192 + 192
      rw [hi.2.2.2.2.2.1]; omega
    | ⟨2, _⟩ =>
      show win0_2.index t 2 * 1024 ≤ (i 2 : Nat) ∧ (i 2 : Nat) < win0_2.index t 2 * 1024 + 1024
      rw [hi.2.2.2.2.2.2]; omega

end Cert.DwOutIdeal.Val

namespace Cert.DwOutRefIdeal.Val

open Cert.DwOutRefIdeal Cert.DwOutRefIdeal.Read Cert.Arr Idealize.ShloMosaic

/-- The reference's result is that array. -/
theorem ref_eq (x0 : (⟨S4096x1536, .bf16⟩ : BufTy).Contents (Elt Ideal)) (x1 : (⟨S4096x1024, .bf16⟩ : BufTy).Contents (Elt Ideal)) :
    val_main_v7 (F := Ideal) x0 x1 = Cert.DwOutIdeal.Val.G x0 x1 := by
  funext i
  have h0 : (i 0).val < 8 := (i 0).isLt
  have h1 : (i 1).val < 192 := (i 1).isLt
  have h2 : (i 2).val < 1024 := (i 2).isLt
  have er : (((i 0).val * 192 + (i 1).val) * 1024 + (i 2).val) / 1024 = 192 * (i 0).val + (i 1).val := by omega
  have ec : (((i 0).val * 192 + (i 1).val) * 1024 + (i 2).val) % 1024 = (i 2).val := by omega
  rw [val_main_v7_apply, val_main_v6_apply, val_main_v5_apply, val_main_v4_apply]
  refine Eq.trans (b := prod x1 x0 (i 2) ⟨192 * (i 0).val + (i 1).val, by omega⟩) ?_ (prod_comm _ _ _ _)
  exact Finset.sum_congr rfl fun k _ => congrArg₂ (· * ·) (congrArg x1 (ext2 (m := 4096) (n := 1024) rfl ec))
    (congrArg x0 (ext2 (m := 4096) (n := 1536) rfl er))

end Cert.DwOutRefIdeal.Val

open Idealize.ShloMosaic Idealize.SL.Sem in
/-- The kernel and the reference compute the same weight gradient. -/
theorem Cert.DwOutIdeal.Val.algebraic : Cert.algebraic_DwOutIdeal_DwOutRefIdeal := by
  intro m g m' g' _ hagree
  refine ⟨fun c => Cert.DwOutIdeal.Val.res m c,
    (θ_run Cert.DwOutIdeal.defs _ _).mono (fun r h c => ⟨(h c).1.trans (Cert.DwOutIdeal.Val.final m c), (h c).2⟩)
      (Cert.DwOutIdeal.Value.run_blocks (F := Idealize.ShloMosaic.Ideal) m g),
    (θ_run Cert.DwOutRefIdeal.defs _ _).mono (fun r h c => ⟨(h c).1.trans ?_, (h c).2⟩)
      (Cert.DwOutRefIdeal.Value.run (F := Idealize.ShloMosaic.Ideal) m' g')⟩
  refine (Cert.DwOutRefIdeal.Read.val_main_v7_eq ..).trans ((Cert.DwOutRefIdeal.Val.ref_eq _ _).trans ?_)
  rw [(hagree c).1, (hagree c).2]

end
-- ==== Proof.DwUpValue.lean ====
/-
  The weight gradient of the MLP's input matrix (call `dw_up`): at grid point `t` the kernel leaves the product of the
  MLP's input, transposed, with the `t`-th 512 columns of the cotangent; the array of the eight blocks is the
  reference's transposed product, its columns in eight groups brought to the front.
-/
module

public import proofs.«01_k».proof.Proof.Dots
public import proofs.«01_k».proof.Proof.Gen.DwUpIdeal.Value
public import proofs.«01_k».proof.Proof.Gen.DwUpRefIdeal.Run
public import proofs.«01_k».proof.Proof.Gen.DwUpRefIdeal.Read
public import proofs.«01_k».proof.Defs
public import Idealize.ShloMosaic.Lib.Tactic

@[expose] public section

set_option maxRecDepth 16384

noncomputable section

namespace Cert.DwUpIdeal.Val

open Cert.DwUpIdeal Cert.DwUpIdeal.Gen Cert.DwUpIdeal.Value Cert.Arr
open Idealize.ShloMosaic Idealize.ShloMosaic.TcCoe Idealize.SL.Sem
open Idealize.ShloMosaic.Pipeline (Dat)

/-- What the body leaves in the result's block: the product of its two blocks. -/
theorem block (c : Dev nD) (i : grid0.Coords) (a2 : Memref sig .tc .vmem S4096x1024 .bf16) (h2 : a2.IsWhole)
    (a3 : Memref sig .tc .vmem S4096x512 .bf16) (h3 : a3.IsWhole) (a4 : Memref sig .tc .vmem S1x1024x512 .bf16) (h4 : a4.IsWhole)
    (a5 : Memref sig .tc .vmem S1024x512 .f32) (h5 : a5.IsWhole) (hc0 : cond0_0 i) (hc1 : cond0_1 i)
    (x : Vec Ideal S4096x1024 .bf16) (y : Vec Ideal S4096x512 .bf16) (j : S1x1024x512.Idx) :
    out0_A_2 c i a2 h2 a3 h3 a4 h4 a5 h5 hc0 hc1 x y j = prod x y (j 1) (j 2) := by
  unfold out0_A_2
  rw [View.read_writes_eq_canon _ _ _ (cover0_A_2 c i a2 h2 a3 h3 a4 h4 a5 h5 hc0 hc1 x y)]
  unfold kernelRun0_A
  dsimp only
  sl_unfold_run_names
  have ho : k0_off1 i = (fun _ => 0 : Fin 2 → Nat) := by
    have h : (i 1).val = 0 := by have := (i 1).isLt; change (i 1).val < 1 at this; omega
    refine (k0_off1_eq i).trans ?_
    rw [h]; exact z2
  rw [View.canon_unit_zero z3]
  simp only [View.readAt_eq_ld, h2.read_unread, h3.read_unread, View.ld_unit_zero (S := S4096x1024) ho,
    View.ld_unit_zero (S := S4096x512) z2, readCov_last (S := S1024x512) _ z2]
  unfold k0_pay3 k0_pay2 k0_pay1
  dsimp only
  rw [shapeCast_self, shapeCast_self, ValueIdx.truncf_apply, cast_add1, ValueIdx.addf_apply]
  show Ideal.ofBits .f32 0x00000000#32 + FloatOps.matmul _ _ _ _ _ _ = _
  rw [Ideal.ofBits_zero_f32, zero_add, Ideal.matmul_constant_zero_apply]
  exact sum_00 _ x y _

/-- The array the blocks make: block `b`, row `i`, column `j` is column `i` of `a` against column `512 b + j` of `b`. -/
def G (a : S4096x1024.Idx → EReal) (b : S4096x4096.Idx → EReal) : S8x1024x512.Idx → EReal := fun i =>
  prod a b (i 1) ⟨512 * (i 0).val + (i 2).val, by have h0 : (i 0).val < 8 := (i 0).isLt; have h2 : (i 2).val < 512 := (i 2).isLt; omega⟩

variable (m : (ℓ : Loc nD τ sig) → Buf (Elt Ideal) ℓ) (ρ : Dev nD → PrngReg)

/-- Where the windows stand at point `t`. -/
theorem idx_facts : ∀ t : Fin cfg0.N, win0_0.index t 0 = 0 ∧ win0_0.index t 1 = 0 ∧ win0_1.index t 0 = 0 ∧ win0_1.index t 1 = t.val
    ∧ win0_2.index t 0 = t.val ∧ win0_2.index t 1 = 0 ∧ win0_2.index t 2 = 0 :=
  (by decide +kernel : ∀ t : Fin grid0.N, win0_0.index t 0 = 0 ∧ win0_0.index t 1 = 0 ∧ win0_1.index t 0 = 0 ∧ win0_1.index t 1 = t.val
    ∧ win0_2.index t 0 = t.val ∧ win0_2.index t 1 = 0 ∧ win0_2.index t 2 = 0)

/-- Every point reads all of `a`. -/
theorem in0 (c : Dev nD) (t : Fin cfg0.N) (k : Fin 4096) (j : Fin 1024) :
    (iblk m c 0 t : Vec Ideal S4096x1024 .bf16) (ValueIdx.ix2 k j)
      = (m ((c : Thread nD τ).loc main_arg0) : S4096x1024.Idx → EReal) (ValueIdx.ix2 k j) := by
  have hi := idx_facts t
  unfold iblk
  rw [View.read_apply]
  show V m c main_arg0 _ = m (c.tc.loc main_arg0) _
  rw [V_main_arg0]
  refine congrArg (m (c.tc.loc main_arg0)) (ext2 (m := 4096) (n := 1024) ?_ ?_)
  · show win0_0.index t 0 * 4096 + 1 * k.val = k.val; rw [hi.1]; omega
  · show win0_0.index t 1 * 1024 + 1 * j.val = j.val; rw [hi.2.1]; omega

/-- The columns of `b` that point `t` reads. -/
theorem in1 (c : Dev nD) (t : Fin cfg0.N) (k : Fin 4096) (i : Fin 512) (h : 512 * t.val + i.val < 4096) :
    (iblk m c 1 t : Vec Ideal S4096x512 .bf16) (ValueIdx.ix2 k i)
      = (m ((c : Thread nD τ).loc main_arg1) : S4096x4096.Idx → EReal) (ValueIdx.ix2 k ⟨512 * t.val + i.val, h⟩) := by
  have hi := idx_facts t
  unfold iblk
  rw [View.read_apply]
  show V m c main_arg1 _ = m (c.tc.loc main_arg1) _
  rw [V_main_arg1]
  refine congrArg (m (c.tc.loc main_arg1)) (ext2 (m := 4096) (n := 4096) ?_ ?_)
  · show win0_1.index t 0 * 4096 + 1 * k.val = k.val; rw [hi.2.2.1]; omega
  · show win0_1.index t 1 * 512 + 1 * i.val = 512 * t.val + i.val; rw [hi.2.2.2.1]; omega

/-- The result array. -/
abbrev res (c : Dev nD) : Buf (Elt Ideal) ((c : Thread nD τ).loc main_v0) :=
  G (m ((c : Thread nD τ).loc main_arg0)) (m ((c : Thread nD τ).loc main_arg1))

/-- The result array ends as the array of the products. -/
theorem final (c : Dev nD) : (dats m 0 c).arrAt 2 cfg0.N = res m c := by
  refine (dats m 0 c).arrAt_eq_of_cover 2 (res m c) (fun t hf => ?_) (fun i => ?_)
  · rw [flushed2_A]
    have hi := idx_facts t
    have ht : t.val < 8 := t.isLt.trans_eq N_0
    funext y
    rw [View.read_apply]
    refine (block c (grid0.coords t) _ _ _ _ _ _ _ _ _ _ _ _ y).trans ?_
    have hy0 : (y 0).val < 1 := (y 0).isLt
    have hy2 : (y 2).val < 512 := (y 2).isLt
    have h : 512 * t.val + (y 2).val < 4096 := by omega
    have e0 : 512 * (win0_2.index t 0 * 1 + 1 * (y 0).val) + (win0_2.index t 2 * 512 + 1 * (y 2).val) = 512 * t.val + (y 2).val := by
      rw [hi.2.2.2.2.1, hi.2.2.2.2.2.2]; omega
    have e1 : win0_2.index t 1 * 1024 + 1 * (y 1).val = (y 1).val := by rw [hi.2.2.2.2.2.1]; omega
    exact prod_congr (fun k => (in0 m c t k (y 1)).trans (congrArg (m (c.tc.loc main_arg0)) (ext2 (m := 4096) (n := 1024) rfl e1.symm)))
      (fun k => (in1 m c t k (y 2) h).trans (congrArg (m (c.tc.loc main_arg1)) (ext2 (m := 4096) (n := 4096) rfl e0.symm)))
  · have h0 : (i 0 : Nat) < 8 := (i 0).isLt
    have h1 : (i 1 : Nat) < 1024 := (i 1).isLt
    have h2 : (i 2 : Nat) < 512 := (i 2).isLt
    let t : Fin cfg0.N := ⟨(i 0).val, h0.trans_eq N_0.symm⟩
    have hi := idx_facts t
    refine ⟨t, flush0_2 t, ?_⟩
    show i ∈ ((View.whole main_v0).slice (win0_2.rect t)).set
    rw [View.set_slice_whole, Rect.mem_set_unit]
    intro a
    match a with
    | ⟨0, _⟩ =>
      show win0_2.index t 0 * 1 ≤ (i 0 : Nat) ∧ (i 0 : Nat) < win0_2.index t 0 * 1 + 1
      rw [hi.2.2.2.2.1]; show (i 0 : Nat) * 1 ≤ _ ∧ _ < (i 0 : Nat) * 1 + 1; omega
    | ⟨1, _⟩ =>
      show win0_2.index t 1 * 1024 ≤ (i 1 : Nat) ∧ (i 1 : Nat) < win0_2.index t 1 * 1024 + 1024
      rw [hi.2.2.2.2.2.1]; omega
    | ⟨2, _⟩ =>
      show win0_2.index t 2 * 512 ≤ (i 2 : Nat) ∧ (i 2 : Nat) < win0_2.index t 2 * 512 + 512
      rw [hi.2.2.2.2.2.2]; omega

end Cert.DwUpIdeal.Val

namespace Cert.DwUpRefIdeal.Val

open Cert.DwUpRefIdeal Cert.DwUpRefIdeal.Read Cert.Arr Idealize.ShloMosaic

/-- The reference's result is that array. -/
theorem ref_eq (x0 : (⟨S4096x1024, .bf16⟩ : BufTy).Contents (Elt Ideal)) (x1 : (⟨S4096x4096, .bf16⟩ : BufTy).Contents (Elt Ideal)) :
    val_main_v8 (F := Ideal) x0 x1 = Cert.DwUpIdeal.Val.G x0 x1 := by
  funext i
  have h0 : (i 0).val < 8 := (i 0).isLt
  have h1 : (i 1).val < 1024 := (i 1).isLt
  have h2 : (i 2).val < 512 := (i 2).isLt
  have er : (((i 1).val * 8 + (i 0).val) * 512 + (i 2).val) / 4096 = (i 1).val := by omega
  have ec : (((i 1).val * 8 + (i 0).val) * 512 + (i 2).val) % 4096 = 512 * (i 0).val + (i 2).val := by omega
  rw [val_main_v8_apply, val_main_v7_apply, val_main_v6_apply, val_main_v5_apply, val_main_v4_apply]
  refine Eq.trans (b := prod x1 x0 ⟨512 * (i 0).val + (i 2).val, by omega⟩ (i 1)) ?_ (prod_comm _ _ _ _)
  exact Finset.sum_congr rfl fun k _ => congrArg₂ (· * ·) (congrArg x1 (ext2 (m := 4096) (n := 4096) rfl ec))
    (congrArg x0 (ext2 (m := 4096) (n := 1024) rfl er))

end Cert.DwUpRefIdeal.Val

open Idealize.ShloMosaic Idealize.SL.Sem in
/-- The kernel and the reference compute the same weight gradient. -/
theorem Cert.DwUpIdeal.Val.algebraic : Cert.algebraic_DwUpIdeal_DwUpRefIdeal := by
  intro m g m' g' _ hagree
  refine ⟨fun c => Cert.DwUpIdeal.Val.res m c,
    (θ_run Cert.DwUpIdeal.defs _ _).mono (fun r h c => ⟨(h c).1.trans (Cert.DwUpIdeal.Val.final m c), (h c).2⟩)
      (Cert.DwUpIdeal.Value.run_blocks (F := Idealize.ShloMosaic.Ideal) m g),
    (θ_run Cert.DwUpRefIdeal.defs _ _).mono (fun r h c => ⟨(h c).1.trans ?_, (h c).2⟩)
      (Cert.DwUpRefIdeal.Value.run (F := Idealize.ShloMosaic.Ideal) m' g')⟩
  refine (Cert.DwUpRefIdeal.Read.val_main_v8_eq ..).trans ((Cert.DwUpRefIdeal.Val.ref_eq _ _).trans ?_)
  rw [(hagree c).1, (hagree c).2]

end
-- ==== Proof.DwDownValue.lean ====
/-
  The weight gradient of the MLP's output matrix (call `dw_down`): at grid point `t` the kernel leaves the product of
  the `t`-th 512 columns of the activations, transposed, with the whole cotangent; the array of the eight blocks is the
  reference's transposed product, reshaped.
-/
module

public import proofs.«01_k».proof.Proof.Dots
public import proofs.«01_k».proof.Proof.Gen.DwDownIdeal.Value
public import proofs.«01_k».proof.Proof.Gen.DwDownRefIdeal.Run
public import proofs.«01_k».proof.Proof.Gen.DwDownRefIdeal.Read
public import proofs.«01_k».proof.Defs
public import Idealize.ShloMosaic.Lib.Tactic

@[expose] public section

set_option maxRecDepth 16384

noncomputable section

namespace Cert.DwDownIdeal.Val

open Cert.DwDownIdeal Cert.DwDownIdeal.Gen Cert.DwDownIdeal.Value Cert.Arr
open Idealize.ShloMosaic Idealize.ShloMosaic.TcCoe Idealize.SL.Sem
open Idealize.ShloMosaic.Pipeline (Dat)

/-- What the body leaves in the result's block: the product of its two blocks. -/
theorem block (c : Dev nD) (i : grid0.Coords) (a2 : Memref sig .tc .vmem S4096x512 .bf16) (h2 : a2.IsWhole)
    (a3 : Memref sig .tc .vmem S4096x1024 .bf16) (h3 : a3.IsWhole) (a4 : Memref sig .tc .vmem S1x512x1024 .bf16) (h4 : a4.IsWhole)
    (a5 : Memref sig .tc .vmem S512x1024 .f32) (h5 : a5.IsWhole) (hc0 : cond0_0 i) (hc1 : cond0_1 i)
    (x : Vec Ideal S4096x512 .bf16) (y : Vec Ideal S4096x1024 .bf16) (j : S1x512x1024.Idx) :
    out0_A_2 c i a2 h2 a3 h3 a4 h4 a5 h5 hc0 hc1 x y j = prod x y (j 1) (j 2) := by
  unfold out0_A_2
  rw [View.read_writes_eq_canon _ _ _ (cover0_A_2 c i a2 h2 a3 h3 a4 h4 a5 h5 hc0 hc1 x y)]
  unfold kernelRun0_A
  dsimp only
  sl_unfold_run_names
  have ho : k0_off1 i = (fun _ => 0 : Fin 2 → Nat) := by
    have h : (i 1).val = 0 := by have := (i 1).isLt; change (i 1).val < 1 at this; omega
    refine (k0_off1_eq i).trans ?_
    rw [h]; exact z2
  rw [View.canon_unit_zero z3]
  simp only [View.readAt_eq_ld, h2.read_unread, h3.read_unread, View.ld_unit_zero (S := S4096x512) z2,
    View.ld_unit_zero (S := S4096x1024) ho, readCov_last (S := S512x1024) _ z2]
  unfold k0_pay3 k0_pay2 k0_pay1
  dsimp only
  rw [shapeCast_self, shapeCast_self, ValueIdx.truncf_apply, cast_add1, ValueIdx.addf_apply]
  show Ideal.ofBits .f32 0x00000000#32 + FloatOps.matmul _ _ _ _ _ _ = _
  rw [Ideal.ofBits_zero_f32, zero_add, Ideal.matmul_constant_zero_apply]
  exact sum_00 _ x y _

/-- The array the blocks make: block `b`, row `i`, column `j` is column `512 b + i` of `a` against column `j` of `b`. -/
def G (a : S4096x4096.Idx → EReal) (b : S4096x1024.Idx → EReal) : S8x512x1024.Idx → EReal := fun i =>
  prod a b ⟨512 * (i 0).val + (i 1).val, by have := (i 0).isLt; have := (i 1).isLt; simp at *; omega⟩ (i 2)

variable (m : (ℓ : Loc nD τ sig) → Buf (Elt Ideal) ℓ) (ρ : Dev nD → PrngReg)

/-- Where the windows stand at point `t`. -/
theorem idx_facts : ∀ t : Fin cfg0.N, win0_0.index t 0 = 0 ∧ win0_0.index t 1 = t.val ∧ win0_1.index t 0 = 0 ∧ win0_1.index t 1 = 0
    ∧ win0_2.index t 0 = t.val ∧ win0_2.index t 1 = 0 ∧ win0_2.index t 2 = 0 :=
  (by decide +kernel : ∀ t : Fin grid0.N, win0_0.index t 0 = 0 ∧ win0_0.index t 1 = t.val ∧ win0_1.index t 0 = 0 ∧ win0_1.index t 1 = 0
    ∧ win0_2.index t 0 = t.val ∧ win0_2.index t 1 = 0 ∧ win0_2.index t 2 = 0)

/-- The columns of `a` that point `t` reads. -/
theorem in0 (c : Dev nD) (t : Fin cfg0.N) (k : Fin 4096) (i : Fin 512) (h : 512 * t.val + i.val < 4096) :
    (iblk m c 0 t : Vec Ideal S4096x512 .bf16) (ValueIdx.ix2 k i)
      = (m ((c : Thread nD τ).loc main_arg0) : S4096x4096.Idx → EReal) (ValueIdx.ix2 k ⟨512 * t.val + i.val, h⟩) := by
  have hi := idx_facts t
  unfold iblk
  rw [View.read_apply]
  show V m c main_arg0 _ = m (c.tc.loc main_arg0) _
  rw [V_main_arg0]
  refine congrArg (m (c.tc.loc main_arg0)) (ext2 (m := 4096) (n := 4096) ?_ ?_)
  · show win0_0.index t 0 * 4096 + 1 * k.val = k.val; rw [hi.1]; omega
  · show win0_0.index t 1 * 512 + 1 * i.val = 512 * t.val + i.val; rw [hi.2.1]; omega

/-- Every point reads all of `b`. -/
theorem in1 (c : Dev nD) (t : Fin cfg0.N) (k : Fin 4096) (j : Fin 1024) :
    (iblk m c 1 t : Vec Ideal S4096x1024 .bf16) (ValueIdx.ix2 k j)
      = (m ((c : Thread nD τ).loc main_arg1) : S4096x1024.Idx → EReal) (ValueIdx.ix2 k j) := by
  have hi := idx_facts t
  unfold iblk
  rw [View.read_apply]
  show V m c main_arg1 _ = m (c.tc.loc main_arg1) _
  rw [V_main_arg1]
  refine congrArg (m (c.tc.loc main_arg1)) (ext2 (m := 4096) (n := 1024) ?_ ?_)
  · show win0_1.index t 0 * 4096 + 1 * k.val = k.val; rw [hi.2.2.1]; omega
  · show win0_1.index t 1 * 1024 + 1 * j.val = j.val; rw [hi.2.2.2.1]; omega

/-- The result array. -/
abbrev res (c : Dev nD) : Buf (Elt Ideal) ((c : Thread nD τ).loc main_v0) :=
  G (m ((c : Thread nD τ).loc main_arg0)) (m ((c : Thread nD τ).loc main_arg1))

/-- The result array ends as the array of the products. -/
theorem final (c : Dev nD) : (dats m 0 c).arrAt 2 cfg0.N = res m c := by
  refine (dats m 0 c).arrAt_eq_of_cover 2 (res m c) (fun t hf => ?_) (fun i => ?_)
  · rw [flushed2_A]
    have hi := idx_facts t
    have ht : t.val < 8 := t.isLt.trans_eq N_0
    funext y
    rw [View.read_apply]
    refine (block c (grid0.coords t) _ _ _ _ _ _ _ _ _ _ _ _ y).trans ?_
    have hy0 : (y 0).val < 1 := (y 0).isLt
    have hy1 : (y 1).val < 512 := (y 1).isLt
    have h : 512 * t.val + (y 1).val < 4096 := by omega
    have e0 : 512 * (win0_2.index t 0 * 1 + 1 * (y 0).val) + (win0_2.index t 1 * 512 + 1 * (y 1).val) = 512 * t.val + (y 1).val := by
      rw [hi.2.2.2.2.1, hi.2.2.2.2.2.1]; omega
    have e1 : win0_2.index t 2 * 1024 + 1 * (y 2).val = (y 2).val := by rw [hi.2.2.2.2.2.2]; omega
    exact prod_congr (fun k => (in0 m c t k (y 1) h).trans (congrArg (m (c.tc.loc main_arg0)) (ext2 (m := 4096) (n := 4096) rfl e0.symm)))
      (fun k => (in1 m c t k (y 2)).trans (congrArg (m (c.tc.loc main_arg1)) (ext2 (m := 4096) (n := 1024) rfl e1.symm)))
  · have h0 : (i 0 : Nat) < 8 := (i 0).isLt
    have h1 : (i 1 : Nat) < 512 := (i 1).isLt
    have h2 : (i 2 : Nat) < 1024 := (i 2).isLt
    let t : Fin cfg0.N := ⟨(i 0).val, h0.trans_eq N_0.symm⟩
    have hi := idx_facts t
    refine ⟨t, flush0_2 t, ?_⟩
    show i ∈ ((View.whole main_v0).slice (win0_2.rect t)).set
    rw [View.set_slice_whole, Rect.mem_set_unit]
    intro a
    match a with
    | ⟨0, _⟩ =>
      show win0_2.index t 0 * 1 ≤ (i 0 : Nat) ∧ (i 0 : Nat) < win0_2.index t 0 * 1 + 1
      rw [hi.2.2.2.2.1]; show (i 0 : Nat) * 1 ≤ _ ∧ _ < (i 0 : Nat) * 1 + 1; omega
    | ⟨1, _⟩ =>
      show win0_2.index t 1 * 512 ≤ (i 1 : Nat) ∧ (i 1 : Nat) < win0_2.index t 1 * 512 + 512
      rw [hi.2.2.2.2.2.1]; omega
    | ⟨2, _⟩ =>
      show win0_2.index t 2 * 1024 ≤ (i 2 : Nat) ∧ (i 2 : Nat) < win0_2.index t 2 * 1024 + 1024
      rw [hi.2.2.2.2.2.2]; omega

end Cert.DwDownIdeal.Val

namespace Cert.DwDownRefIdeal.Val

open Cert.DwDownRefIdeal Cert.DwDownRefIdeal.Read Cert.Arr Idealize.ShloMosaic

/-- The reference's result is that array. -/
theorem ref_eq (x0 : (⟨S4096x4096, .bf16⟩ : BufTy).Contents (Elt Ideal)) (x1 : (⟨S4096x1024, .bf16⟩ : BufTy).Contents (Elt Ideal)) :
    val_main_v7 (F := Ideal) x0 x1 = Cert.DwDownIdeal.Val.G x0 x1 := by
  funext i
  have h0 : (i 0).val < 8 := (i 0).isLt
  have h1 : (i 1).val < 512 := (i 1).isLt
  have h2 : (i 2).val < 1024 := (i 2).isLt
  have er : (((i 0).val * 512 + (i 1).val) * 1024 + (i 2).val) / 1024 = 512 * (i 0).val + (i 1).val := by omega
  have ec : (((i 0).val * 512 + (i 1).val) * 1024 + (i 2).val) % 1024 = (i 2).val := by omega
  rw [val_main_v7_apply, val_main_v6_apply, val_main_v5_apply, val_main_v4_apply]
  refine Eq.trans (b := prod x1 x0 (i 2) ⟨512 * (i 0).val + (i 1).val, by omega⟩) ?_ (prod_comm _ _ _ _)
  exact Finset.sum_congr rfl fun k _ => congrArg₂ (· * ·) (congrArg x1 (ext2 (m := 4096) (n := 1024) rfl ec))
    (congrArg x0 (ext2 (m := 4096) (n := 4096) rfl er))

end Cert.DwDownRefIdeal.Val

open Idealize.ShloMosaic Idealize.SL.Sem in
/-- The kernel and the reference compute the same weight gradient. -/
theorem Cert.DwDownIdeal.Val.algebraic : Cert.algebraic_DwDownIdeal_DwDownRefIdeal := by
  intro m g m' g' _ hagree
  refine ⟨fun c => Cert.DwDownIdeal.Val.res m c,
    (θ_run Cert.DwDownIdeal.defs _ _).mono (fun r h c => ⟨(h c).1.trans (Cert.DwDownIdeal.Val.final m c), (h c).2⟩)
      (Cert.DwDownIdeal.Value.run_blocks (F := Idealize.ShloMosaic.Ideal) m g),
    (θ_run Cert.DwDownRefIdeal.defs _ _).mono (fun r h c => ⟨(h c).1.trans ?_, (h c).2⟩)
      (Cert.DwDownRefIdeal.Value.run (F := Idealize.ShloMosaic.Ideal) m' g')⟩
  refine (Cert.DwDownRefIdeal.Read.val_main_v7_eq ..).trans ((Cert.DwDownRefIdeal.Val.ref_eq _ _).trans ?_)
  rw [(hagree c).1, (hagree c).2]

end
-- ==== Proof.AdamModel.lean ====
/-
  One entry of the optimiser's step, and the activation `x · 1 / (1 + e⁻ˣ)` of the conditioning rows, over the extended
  reals. The constants stay as the patterns both programs hold them in.
-/
module

public import proofs.«01_k».proof.Proof.HostLift

@[expose] public section

noncomputable section

namespace Cert.Arr

open Idealize.ShloMosaic

/-- The number of a pattern. -/
abbrev num (b : BitVec 32) : EReal := Ideal.ofBits .f32 b

/-- The new mean of the gradients: nine tenths of the old one and one tenth of the gradient. -/
def newM (g m : EReal) : EReal := num 0x3F666666#32 * m + num 0x3DCCCCCD#32 * g
/-- The new mean of their squares. -/
def newV (g v : EReal) : EReal := num 0x3F7FBE77#32 * v + num 0x3A83126F#32 * (g * g)
/-- The change of a parameter: both means rescaled, their quotient, and the decay of the weight. -/
def delta (g w m v : EReal) : EReal :=
  num 0xBA83126F#32 * (Ideal.div (Ideal.div (newM g m) (num 0x3F26BD02#32))
    (Ideal.sqrt (Ideal.div (newV g v) (num 0x3C231ACC#32)) + num 0x322BCC77#32) + num 0x3C23D70A#32 * w)

/-- The activation. -/
def silu (x : EReal) : EReal := x * Ideal.div (num 0x3F800000#32) (num 0x3F800000#32 + Ideal.exp (-x))

/-- The activation with the sign changed by a subtraction from zero. -/
theorem silu_sub (x : EReal) : x * Ideal.div (num 0x3F800000#32) (num 0x3F800000#32 + Ideal.exp (num 0x00000000#32 - x)) = silu x := by
  unfold silu num
  rw [czero, zero_sub]

/-- Columns by columns, read off from the tables of the two factors. -/
theorem Is.dot00 {m n K : Nat} {φ₁ φ₂ : FTy} {x : FVec Ideal ⟨2, ![K, m]⟩ φ₁} {y : FVec Ideal ⟨2, ![K, n]⟩ φ₂} {f : Fin K → Fin m → EReal}
    {g : Fin K → Fin n → EReal} (hx : Is x f) (hy : Is y g) (w) :
    Is (FloatOps.matmul (F := Ideal) (⟨[0], [0], [1], [1], [], [], w⟩ : DotDims ⟨2, ![K, m]⟩ ⟨2, ![K, n]⟩ ⟨2, ![m, n]⟩) none x y
      (constant ⟨2, ![m, n]⟩ .f32 0x00000000#32)) (fun i j => ∑ k, f k i * g k j) := fun i j => by
  rw [Ideal.matmul_constant_zero_apply, sum_00 w x y]
  exact Finset.sum_congr rfl fun k _ => congrArg₂ (· * ·) (hx k i) (hy k j)

end Cert.Arr

end
-- ==== Proof.AdaFwdValue.lean ====
/-
  `ada_fwd` computes what its reference computes: the modulation of the conditioning rows, the activation times the weight
  with the bias added.
-/
module

public import proofs.«01_k».proof.Proof.AdamModel
public import proofs.«01_k».proof.Proof.Gen.AdaFwdIdeal.Value
public import proofs.«01_k».proof.Proof.Gen.AdaFwdRefIdeal.Read
public import proofs.«01_k».proof.Proof.Gen.AdaFwdRefIdeal.Run
public import proofs.«01_k».proof.Defs

@[expose] public section

set_option maxRecDepth 16384

noncomputable section

namespace Cert.AdaFwdIdeal.Val

open Cert.AdaFwdIdeal Cert.AdaFwdIdeal.Gen Cert.Arr Idealize.ShloMosaic Idealize.ShloMosaic.TcCoe Idealize.SL.Sem

/-- The modulation, from the conditioning rows, the weight and the bias. -/
def modul (c : S16x1024.Idx → EReal) (w : S1024x768.Idx → EReal) (b : S1x768.Idx → EReal) : S16x768.Idx → EReal :=
  fun i => (∑ k : Fin 1024, silu (c (ValueIdx.ix2 (i 0) k)) * w (ValueIdx.ix2 k (i 1))) + b (ValueIdx.ix2 0 (i 1))

theorem pay1 (c : Vec Ideal S16x1024 .f32) (w : Vec Ideal S1024x768 .f32) (b : Vec Ideal S1x768 .f32) : k0_pay1 c w b = modul c w b := by
  have hb : Is (m := 1) (n := 768) b fun _ j => b (ValueIdx.ix2 0 j) := fun i j => by
    obtain rfl : i = 0 := Subsingleton.elim _ _
    rfl
  exact funext fun i => (Is.add (φ := .f32) (Is.dot10 (φ₁ := .bf16) (φ₂ := .bf16) (m := 16) (n := 768) (K := 1024)
    (f := fun i k => silu (c (ValueIdx.ix2 i k))) (g := fun k j => w (ValueIdx.ix2 k j)) (by exact fun i k => silu_sub (c (ValueIdx.ix2 i k)))
    (by exact fun k j => rfl) dot_S16x1024_S1024x768_S16x768_1_0_0_1_n_n.wf) (hb.row broadcasts_S1x768_S16x768)).at_idx i

section Ref
open Cert.AdaFwdRefIdeal.Read

/-- The activation, as the reference writes it. -/
theorem r_silu (x : S16x1024.Idx → EReal) (i : S16x1024.Idx) : val_main_v0 (F := Ideal) x i = silu (x i) := rfl

theorem r_modul (c : S16x1024.Idx → EReal) (w : S1024x768.Idx → EReal) (b : S1x768.Idx → EReal) :
    val_main_v5 (F := Ideal) c w b = modul c w b := by
  funext i
  rw [val_main_v5_apply, val_main_v1_apply, val_main_v4_apply, val_main_v3_apply, val_main_v2_apply]
  refine congrArg₂ (· + ·) (Finset.sum_congr rfl fun k _ => ?_) (congrArg b (ext2 (m := 1) (n := 768) ?_ ?_))
  · rw [r_silu]
    exact congrArg₂ (· * ·) (congrArg (fun j => silu (c j)) (ext2 (m := 16) (n := 1024) rfl rfl)) (congrArg w (ext2 (m := 1024) (n := 768) rfl rfl))
  · rfl
  · exact Nat.mod_eq_of_lt (i 1).isLt

end Ref

end Cert.AdaFwdIdeal.Val

open Idealize.ShloMosaic Idealize.ShloMosaic.TcCoe Idealize.SL.Sem Cert.Arr Cert.AdaFwdIdeal.Val Cert.AdaFwdRefIdeal.Read in
/-- The kernel and the reference compute the same array. -/
theorem Cert.AdaFwdIdeal.Val.algebraic : Cert.algebraic_AdaFwdIdeal_AdaFwdRefIdeal := by
  intro m g m' g' _ hagree
  refine ⟨fun c => modul (m ((c.tc : Thread Cert.AdaFwdIdeal.nD Cert.AdaFwdIdeal.τ).loc Cert.AdaFwdIdeal.main_arg0))
      (m ((c.tc : Thread Cert.AdaFwdIdeal.nD Cert.AdaFwdIdeal.τ).loc Cert.AdaFwdIdeal.main_arg1))
      (m ((c.tc : Thread Cert.AdaFwdIdeal.nD Cert.AdaFwdIdeal.τ).loc Cert.AdaFwdIdeal.main_arg2)),
    (θ_run Cert.AdaFwdIdeal.defs _ _).mono (fun r h c => ?_) (Cert.AdaFwdIdeal.Value.run (F := Ideal) m g),
    (θ_run Cert.AdaFwdRefIdeal.defs _ _).mono (fun r h c => ?_) (Cert.AdaFwdRefIdeal.Value.run (F := Ideal) m' g')⟩
  · obtain ⟨h0, hk⟩ := h c
    exact ⟨h0.trans (pay1 _ _ _), hk⟩
  · obtain ⟨h0, hk⟩ := h c
    obtain ⟨e0, e1, e2⟩ := hagree c
    refine ⟨h0.trans ((val_main_v5_eq _ _ _).trans ((r_modul _ _ _).trans ?_)), hk⟩
    show modul _ _ _ = modul _ _ _
    rw [e0, e1, e2]

end
-- ==== Proof.AdaBwdKernel.lean ====
/-
  What `ada_bwd_adam` leaves in its four results: for each block of 256 rows of the weight, the block of the gradient and
  of the optimiser's step on it; the blocks cover the weight.
-/
module

public import proofs.«01_k».proof.Proof.AdamModel
public import proofs.«01_k».proof.Proof.Gen.AdaBwdIdeal.Value

@[expose] public section

set_option maxRecDepth 16384

noncomputable section

namespace Cert.AdaBwdIdeal.Val

open Cert.AdaBwdIdeal Cert.AdaBwdIdeal.Gen Cert.AdaBwdIdeal.Value Cert.Arr
open Idealize.ShloMosaic Idealize.ShloMosaic.TcCoe Idealize.SL.Sem

/-- The gradient, from the conditioning rows and the cotangent of the modulation. -/
def grad (c : S16x1024.Idx → EReal) (d : S16x768.Idx → EReal) : S1024x768.Idx → EReal :=
  fun i => ∑ k : Fin 16, silu (c (ValueIdx.ix2 k (i 0))) * d (ValueIdx.ix2 k (i 1))
/-- The optimiser's step, from the gradient, the weight and the two means. -/
def deltas (g w m v : S1024x768.Idx → EReal) : S1024x768.Idx → EReal := fun i => delta (g i) (w i) (m i) (v i)
def means (g m : S1024x768.Idx → EReal) : S1024x768.Idx → EReal := fun i => newM (g i) (m i)
def squares (g v : S1024x768.Idx → EReal) : S1024x768.Idx → EReal := fun i => newV (g i) (v i)

/-- A block of the gradient. -/
theorem pay2 (x : Vec Ideal S16x256 .f32) (d : Vec Ideal S16x768 .f32) (i : S256x768.Idx) :
    k0_pay2 x d i = ∑ k : Fin 16, silu (x (ValueIdx.ix2 k (i 0))) * d (ValueIdx.ix2 k (i 1)) :=
  (Is.dot00 (φ₁ := .bf16) (φ₂ := .bf16) (m := 256) (n := 768) (K := 16) (f := fun k i => silu (x (ValueIdx.ix2 k i))) (g := fun k j => d (ValueIdx.ix2 k j))
    (fun k i => silu_sub (x (ValueIdx.ix2 k i))) (fun k j => rfl) dot_S16x256_S16x768_S256x768_0_0_1_1_n_n.wf).at_idx i
/-- A block of the step, entry by entry. -/
theorem pay3 (x : Vec Ideal S16x256 .f32) (d : Vec Ideal S16x768 .f32) (m : Vec Ideal S256x768 .f32) (i : S256x768.Idx) :
    k0_pay3 x d m i = newM (k0_pay2 x d i) (m i) := rfl
theorem pay4 (x : Vec Ideal S16x256 .f32) (d : Vec Ideal S16x768 .f32) (v : Vec Ideal S256x768 .f32) (i : S256x768.Idx) :
    k0_pay4 x d v i = newV (k0_pay2 x d i) (v i) := rfl
theorem pay1 (x : Vec Ideal S16x256 .f32) (d : Vec Ideal S16x768 .f32) (w m v : Vec Ideal S256x768 .f32) (i : S256x768.Idx) :
    k0_pay1 w (k0_pay5 x d m) (k0_pay6 x d v) i = delta (k0_pay2 x d i) (w i) (m i) (v i) := rfl

/-- Where the windows stand at point `t`. -/
theorem idx_in : ∀ t : Fin cfg0.N, (win0_0.index t 0 = 0 ∧ win0_0.index t 1 = t.val) ∧ (win0_1.index t 0 = 0 ∧ win0_1.index t 1 = 0)
    ∧ (win0_2.index t 0 = t.val ∧ win0_2.index t 1 = 0) ∧ (win0_3.index t 0 = t.val ∧ win0_3.index t 1 = 0)
    ∧ (win0_4.index t 0 = t.val ∧ win0_4.index t 1 = 0) :=
  (by decide +kernel : ∀ t : Fin grid0.N, (win0_0.index t 0 = 0 ∧ win0_0.index t 1 = t.val) ∧ (win0_1.index t 0 = 0 ∧ win0_1.index t 1 = 0)
    ∧ (win0_2.index t 0 = t.val ∧ win0_2.index t 1 = 0) ∧ (win0_3.index t 0 = t.val ∧ win0_3.index t 1 = 0)
    ∧ (win0_4.index t 0 = t.val ∧ win0_4.index t 1 = 0))
theorem idx_out : ∀ t : Fin cfg0.N, (win0_5.index t 0 = t.val ∧ win0_5.index t 1 = 0) ∧ (win0_6.index t 0 = t.val ∧ win0_6.index t 1 = 0)
    ∧ (win0_7.index t 0 = t.val ∧ win0_7.index t 1 = 0) ∧ (win0_8.index t 0 = t.val ∧ win0_8.index t 1 = 0) :=
  (by decide +kernel : ∀ t : Fin grid0.N, (win0_5.index t 0 = t.val ∧ win0_5.index t 1 = 0) ∧ (win0_6.index t 0 = t.val ∧ win0_6.index t 1 = 0)
    ∧ (win0_7.index t 0 = t.val ∧ win0_7.index t 1 = 0) ∧ (win0_8.index t 0 = t.val ∧ win0_8.index t 1 = 0))

/-- The block of row `i`, and the bounds that say so. -/
def tileOf (i : Fin 1024) : Fin cfg0.N := ⟨i.val / 256, (by omega : i.val / 256 < 4).trans_eq N_0.symm⟩
theorem in_tile {i a : ℕ} (h : a = i / 256) : a * 256 ≤ i ∧ i < a * 256 + 256 := by omega
theorem in_row {n i a : ℕ} (h : a = 0) (hi : i < n) : a * n ≤ i ∧ i < a * n + n := by subst h; omega

/-- A load of a whole block reads it. -/
theorem ld0 (x : Vec Ideal S16x256 .f32) : View.ld x r0_0 = x := View.ld_unit_zero z2 _ _
theorem ld1 (x : Vec Ideal S16x768 .f32) : View.ld x r0_1 = x := View.ld_unit_zero z2 _ _
theorem ld2 (x : Vec Ideal S256x768 .f32) : View.ld x r0_2 = x := View.ld_unit_zero z2 _ _

variable (m : (ℓ : Loc nD τ sig) → Buf (Elt Ideal) ℓ) (c : Dev nD)

/-- The arguments. -/
abbrev cond : S16x1024.Idx → EReal := m ((c : Thread nD τ).loc main_arg0)
abbrev dmod : S16x768.Idx → EReal := m ((c : Thread nD τ).loc main_arg1)
abbrev wgt : S1024x768.Idx → EReal := m ((c : Thread nD τ).loc main_arg2)
abbrev mean : S1024x768.Idx → EReal := m ((c : Thread nD τ).loc main_arg3)
abbrev sqr : S1024x768.Idx → EReal := m ((c : Thread nD τ).loc main_arg4)
abbrev gr : S1024x768.Idx → EReal := grad (cond m c) (dmod m c)

variable (t : Fin cfg0.N) (y : S256x768.Idx) (z : S1024x768.Idx) (h0 : (z 0).val = t.val * 256 + 1 * (y 0).val) (h1 : (z 1).val = 0 * 768 + 1 * (y 1).val)

/-- The blocks of the rows and of the cotangent. -/
theorem blk0 (k : Fin 16) (j : Fin 256) (e : Fin 1024) (he : e.val = t.val * 256 + 1 * j.val) :
    (iblk m c 0 t : S16x256.Idx → EReal) (ValueIdx.ix2 k j) = cond m c (ValueIdx.ix2 k e) := by
  have hi := (idx_in t).1
  unfold iblk
  rw [View.read_apply]
  show V m c main_arg0 _ = _
  rw [V_main_arg0]
  refine congrArg _ (ext2 (m := 16) (n := 1024) ?_ ?_)
  · show win0_0.index t 0 * 16 + 1 * k.val = k.val; rw [hi.1]; omega
  · show win0_0.index t 1 * 256 + 1 * j.val = e.val; rw [hi.2, he]
theorem blk1 (k : Fin 16) (j : Fin 768) : (iblk m c 1 t : S16x768.Idx → EReal) (ValueIdx.ix2 k j) = dmod m c (ValueIdx.ix2 k j) := by
  have hi := (idx_in t).2.1
  unfold iblk
  rw [View.read_apply]
  show V m c main_arg1 _ = _
  rw [V_main_arg1]
  refine congrArg _ (ext2 (m := 16) (n := 768) ?_ ?_)
  · show win0_1.index t 0 * 16 + 1 * k.val = k.val; rw [hi.1]; omega
  · show win0_1.index t 1 * 768 + 1 * j.val = j.val; rw [hi.2]; omega

include h0 h1

/-- The blocks of the weight and the means. -/
theorem blk2 : (iblk m c 2 t : S256x768.Idx → EReal) y = wgt m c z := by
  have hi := (idx_in t).2.2.1
  unfold iblk
  rw [View.read_apply]
  show V m c main_arg2 _ = _
  rw [V_main_arg2]
  refine congrArg _ (ext2 (m := 1024) (n := 768) ?_ ?_)
  · show win0_2.index t 0 * 256 + 1 * (y 0).val = (z 0).val; rw [hi.1, h0]
  · show win0_2.index t 1 * 768 + 1 * (y 1).val = (z 1).val; rw [hi.2, h1]
theorem blk3 : (iblk m c 3 t : S256x768.Idx → EReal) y = mean m c z := by
  have hi := (idx_in t).2.2.2.1
  unfold iblk
  rw [View.read_apply]
  show V m c main_arg3 _ = _
  rw [V_main_arg3]
  refine congrArg _ (ext2 (m := 1024) (n := 768) ?_ ?_)
  · show win0_3.index t 0 * 256 + 1 * (y 0).val = (z 0).val; rw [hi.1, h0]
  · show win0_3.index t 1 * 768 + 1 * (y 1).val = (z 1).val; rw [hi.2, h1]
theorem blk4 : (iblk m c 4 t : S256x768.Idx → EReal) y = sqr m c z := by
  have hi := (idx_in t).2.2.2.2
  unfold iblk
  rw [View.read_apply]
  show V m c main_arg4 _ = _
  rw [V_main_arg4]
  refine congrArg _ (ext2 (m := 1024) (n := 768) ?_ ?_)
  · show win0_4.index t 0 * 256 + 1 * (y 0).val = (z 0).val; rw [hi.1, h0]
  · show win0_4.index t 1 * 768 + 1 * (y 1).val = (z 1).val; rw [hi.2, h1]

/-- The blocks of the results. -/
theorem g_blk : k0_pay2 (iblk m c 0 t) (iblk m c 1 t) y = gr m c z := by
  rw [pay2]
  refine Finset.sum_congr rfl fun k _ => ?_
  rw [blk0 m c t k (y 0) (z 0) h0, blk1 m c t k (y 1)]
  rw [show (y 1 : Fin 768) = z 1 from Fin.ext (by omega)]
theorem out5 : out0_5 (iblk m c 0 t) (iblk m c 1 t) (iblk m c 2 t) (iblk m c 3 t) (iblk m c 4 t) y = gr m c z := by
  unfold out0_5
  rw [View.canon_unit_zero z2]
  simp only [ld0, ld1]
  exact g_blk m c t y z h0 h1
theorem out6 : out0_6 (iblk m c 0 t) (iblk m c 1 t) (iblk m c 2 t) (iblk m c 3 t) (iblk m c 4 t) y
    = deltas (gr m c) (wgt m c) (mean m c) (sqr m c) z := by
  unfold out0_6
  rw [View.canon_unit_zero z2]
  simp only [ld0, ld1, ld2]
  rw [pay1, g_blk m c t y z h0 h1, blk2 m c t y z h0 h1, blk3 m c t y z h0 h1, blk4 m c t y z h0 h1]
  rfl
theorem out7 : out0_7 (iblk m c 0 t) (iblk m c 1 t) (iblk m c 2 t) (iblk m c 3 t) (iblk m c 4 t) y = means (gr m c) (mean m c) z := by
  unfold out0_7
  rw [View.canon_unit_zero z2]
  simp only [ld0, ld1, ld2]
  rw [pay3, g_blk m c t y z h0 h1, blk3 m c t y z h0 h1]
  rfl
theorem out8 : out0_8 (iblk m c 0 t) (iblk m c 1 t) (iblk m c 2 t) (iblk m c 3 t) (iblk m c 4 t) y = squares (gr m c) (sqr m c) z := by
  unfold out0_8
  rw [View.canon_unit_zero z2]
  simp only [ld0, ld1, ld2]
  rw [pay4, g_blk m c t y z h0 h1, blk4 m c t y z h0 h1]
  rfl

omit h0 h1

/-- The four results. -/
theorem final5 : (dats m 0 c).arrAt 5 cfg0.N = gr m c := by
  refine (dats m 0 c).arrAt_eq_of_cover 5 (gr m c) (fun t hf => ?_) (fun i => ⟨tileOf (i 0), flush0_5 _, ?_⟩)
  · have hi := (idx_out t).1
    rw [flushed5]
    funext y
    rw [View.read_apply]
    refine out5 m c t y _ ?_ ?_
    · show win0_5.index t 0 * 256 + 1 * (y 0).val = _; rw [hi.1]
    · show win0_5.index t 1 * 768 + 1 * (y 1).val = _; rw [hi.2]
  · have hi := (idx_out (tileOf (i 0))).1
    show i ∈ ((View.whole main_v0_0).slice (win0_5.rect (tileOf (i 0)))).set
    rw [View.set_slice_whole, Rect.mem_set_unit]
    intro a
    match a with
    | ⟨0, _⟩ => exact in_tile hi.1
    | ⟨1, _⟩ => exact in_row hi.2 (i 1).isLt
theorem final6 : (dats m 0 c).arrAt 6 cfg0.N = deltas (gr m c) (wgt m c) (mean m c) (sqr m c) := by
  refine (dats m 0 c).arrAt_eq_of_cover 6 (deltas (gr m c) (wgt m c) (mean m c) (sqr m c)) (fun t hf => ?_) (fun i => ⟨tileOf (i 0), flush0_6 _, ?_⟩)
  · have hi := (idx_out t).2.1
    rw [flushed6]
    funext y
    rw [View.read_apply]
    refine out6 m c t y _ ?_ ?_
    · show win0_6.index t 0 * 256 + 1 * (y 0).val = _; rw [hi.1]
    · show win0_6.index t 1 * 768 + 1 * (y 1).val = _; rw [hi.2]
  · have hi := (idx_out (tileOf (i 0))).2.1
    show i ∈ ((View.whole main_v0_1).slice (win0_6.rect (tileOf (i 0)))).set
    rw [View.set_slice_whole, Rect.mem_set_unit]
    intro a
    match a with
    | ⟨0, _⟩ => exact in_tile hi.1
    | ⟨1, _⟩ => exact in_row hi.2 (i 1).isLt
theorem final7 : (dats m 0 c).arrAt 7 cfg0.N = means (gr m c) (mean m c) := by
  refine (dats m 0 c).arrAt_eq_of_cover 7 (means (gr m c) (mean m c)) (fun t hf => ?_) (fun i => ⟨tileOf (i 0), flush0_7 _, ?_⟩)
  · have hi := (idx_out t).2.2.1
    rw [flushed7]
    funext y
    rw [View.read_apply]
    refine out7 m c t y _ ?_ ?_
    · show win0_7.index t 0 * 256 + 1 * (y 0).val = _; rw [hi.1]
    · show win0_7.index t 1 * 768 + 1 * (y 1).val = _; rw [hi.2]
  · have hi := (idx_out (tileOf (i 0))).2.2.1
    show i ∈ ((View.whole main_v0_2).slice (win0_7.rect (tileOf (i 0)))).set
    rw [View.set_slice_whole, Rect.mem_set_unit]
    intro a
    match a with
    | ⟨0, _⟩ => exact in_tile hi.1
    | ⟨1, _⟩ => exact in_row hi.2 (i 1).isLt
theorem final8 : (dats m 0 c).arrAt 8 cfg0.N = squares (gr m c) (sqr m c) := by
  refine (dats m 0 c).arrAt_eq_of_cover 8 (squares (gr m c) (sqr m c)) (fun t hf => ?_) (fun i => ⟨tileOf (i 0), flush0_8 _, ?_⟩)
  · have hi := (idx_out t).2.2.2
    rw [flushed8]
    funext y
    rw [View.read_apply]
    refine out8 m c t y _ ?_ ?_
    · show win0_8.index t 0 * 256 + 1 * (y 0).val = _; rw [hi.1]
    · show win0_8.index t 1 * 768 + 1 * (y 1).val = _; rw [hi.2]
  · have hi := (idx_out (tileOf (i 0))).2.2.2
    show i ∈ ((View.whole main_v0_3).slice (win0_8.rect (tileOf (i 0)))).set
    rw [View.set_slice_whole, Rect.mem_set_unit]
    intro a
    match a with
    | ⟨0, _⟩ => exact in_tile hi.1
    | ⟨1, _⟩ => exact in_row hi.2 (i 1).isLt

end Cert.AdaBwdIdeal.Val

end
-- ==== Proof.AdaBwdValue.lean ====
/-
  `ada_bwd_adam` computes what its reference computes: the gradient of the modulation's weight and the optimiser's step
  on it.
-/
module

public import proofs.«01_k».proof.Proof.AdaBwdKernel
public import proofs.«01_k».proof.Proof.Gen.AdaBwdRefIdeal.Read
public import proofs.«01_k».proof.Proof.Gen.AdaBwdRefIdeal.Run
public import proofs.«01_k».proof.Defs

@[expose] public section

set_option maxRecDepth 16384

noncomputable section

namespace Cert.AdaBwdIdeal.Val

open Cert.AdaBwdIdeal Cert.Arr Idealize.ShloMosaic Idealize.ShloMosaic.TcCoe Idealize.SL.Sem
open Cert.AdaBwdRefIdeal.Read

/-- The activation, as the reference writes it. -/
theorem r_silu (x : S16x1024.Idx → EReal) (i : S16x1024.Idx) : val_main_v0 (F := Ideal) x i = silu (x i) := rfl

/-- The reference's gradient: the same sum with its factors in the other order, transposed. -/
theorem r_grad (x : S16x1024.Idx → EReal) (d : S16x768.Idx → EReal) : val_main_v3 (F := Ideal) x d = grad x d := by
  funext i
  rw [val_main_v3_apply, val_main_v2_apply]
  refine Finset.sum_congr rfl fun k _ => ?_
  rw [r_silu, mul_comm]
  refine congrArg₂ (· * ·) (congrArg (fun j => silu (x j)) (ext2 (m := 16) (n := 1024) rfl rfl)) (congrArg d (ext2 (m := 16) (n := 768) rfl rfl))

theorem r_means (x : S16x1024.Idx → EReal) (d : S16x768.Idx → EReal) (m : S1024x768.Idx → EReal) :
    val_main_v8 (F := Ideal) x d m = means (grad x d) m := by rw [← r_grad]; rfl
theorem r_squares (x : S16x1024.Idx → EReal) (d : S16x768.Idx → EReal) (v : S1024x768.Idx → EReal) :
    val_main_v14 (F := Ideal) x d v = squares (grad x d) v := by rw [← r_grad]; rfl
theorem r_deltas (x : S16x1024.Idx → EReal) (d : S16x768.Idx → EReal) (w m v : S1024x768.Idx → EReal) :
    val_main_v27 (F := Ideal) x d w m v = deltas (grad x d) w m v := by rw [← r_grad]; rfl

end Cert.AdaBwdIdeal.Val

open Idealize.ShloMosaic Idealize.ShloMosaic.TcCoe Idealize.SL.Sem Cert.Arr Cert.AdaBwdIdeal.Val Cert.AdaBwdRefIdeal.Read in
/-- The kernel and the reference compute the same four arrays. -/
theorem Cert.AdaBwdIdeal.Val.algebraic : Cert.algebraic_AdaBwdIdeal_AdaBwdRefIdeal := by
  intro m g m' g' _ hagree
  refine ⟨fun c => gr m c, fun c => deltas (gr m c) (wgt m c) (mean m c) (sqr m c), fun c => means (gr m c) (mean m c),
    fun c => squares (gr m c) (sqr m c),
    (θ_run Cert.AdaBwdIdeal.defs _ _).mono (fun r h c => ?_) (Cert.AdaBwdIdeal.Value.run_blocks (F := Ideal) m g),
    (θ_run Cert.AdaBwdRefIdeal.defs _ _).mono (fun r h c => ?_) (Cert.AdaBwdRefIdeal.Value.run (F := Ideal) m' g')⟩
  · obtain ⟨h0, h1, h2, h3, hk⟩ := h c
    exact ⟨h0.trans (final5 m c), h1.trans (final6 m c), h2.trans (final7 m c), h3.trans (final8 m c), hk⟩
  · obtain ⟨h0, h1, h2, h3, hk⟩ := h c
    obtain ⟨e0, e1, e2, e3, e4⟩ := hagree c
    refine ⟨h0.trans ((val_main_v3_eq _ _).trans ((r_grad _ _).trans ?_)), h1.trans ((val_main_v27_eq _ _ _ _ _).trans ((r_deltas _ _ _ _ _).trans ?_)),
      h2.trans ((val_main_v8_eq _ _ _).trans ((r_means _ _ _).trans ?_)), h3.trans ((val_main_v14_eq _ _ _).trans ((r_squares _ _ _).trans ?_)), hk⟩
    · show grad _ _ = grad _ _; rw [e0, e1]
    · show deltas (grad _ _) _ _ _ = deltas (grad _ _) _ _ _; rw [e0, e1, e2, e3, e4]
    · show means (grad _ _) _ = means (grad _ _) _; rw [e0, e1, e3]
    · show squares (grad _ _) _ = squares (grad _ _) _; rw [e0, e1, e4]

end
-- ==== Proof.AdamPoolValue.lean ====
/-
  `adam_w_pool` computes what its reference computes: the sum of the eight devices' parts of the gradient of the pooling
  weight and the optimiser's step on it.
-/
module

public import proofs.«01_k».proof.Proof.AdamModel
public import proofs.«01_k».proof.Proof.Gen.AdamPoolIdeal.Value
public import proofs.«01_k».proof.Proof.Gen.AdamPoolRefIdeal.Read
public import proofs.«01_k».proof.Proof.Gen.AdamPoolRefIdeal.Run
public import proofs.«01_k».proof.Defs

@[expose] public section

set_option maxRecDepth 16384

noncomputable section

namespace Cert.AdamPoolIdeal.Val

open Cert.AdamPoolIdeal Cert.AdamPoolIdeal.Gen Cert.AdamPoolIdeal.Value Cert.Arr
open Idealize.ShloMosaic Idealize.ShloMosaic.TcCoe Idealize.SL.Sem

/-- The sum of the parts. -/
def total (p : S8x512x128.Idx → EReal) : S512x128.Idx → EReal := fun i => ∑ k : Fin 8, p (ValueIdx.ix3 k (i 0) (i 1))
/-- The optimiser's step, from the gradient, the weight and the two means. -/
def deltas (g w m v : S512x128.Idx → EReal) : S512x128.Idx → EReal := fun i => delta (g i) (w i) (m i) (v i)
def means (g m : S512x128.Idx → EReal) : S512x128.Idx → EReal := fun i => newM (g i) (m i)
def squares (g v : S512x128.Idx → EReal) : S512x128.Idx → EReal := fun i => newV (g i) (v i)

/-- One part, read from the stack. -/
theorem part (p : Vec Ideal S8x512x128 .f32) (k : Fin 8) {a : ℕ} (ha : a = k.val) (inb) (i : S512x128.Idx) :
    shapeCast S512x128 (View.ld p (Rect.unit (s := S8x512x128) ![a, 0, 0] S1x512x128.size inb) : Vec Ideal S1x512x128 .f32)
      shapeCasts_S1x512x128_S512x128 i = p (ValueIdx.ix3 k (i 0) (i 1)) := by
  refine (cast_drop1 (m := 512) (n := 128) _ _ i).trans (congrArg p (ext3 (l := 8) (m := 512) (n := 128) ?_ ?_ ?_))
  · show a + 1 * 0 = k.val; omega
  · show 0 + 1 * (i 0).val = (i 0).val; omega
  · show 0 + 1 * (i 1).val = (i 1).val; omega

theorem k_total (p : Vec Ideal S8x512x128 .f32) (w m v : Vec Ideal S512x128 .f32) : k0_pay5 p w m v = total p := by
  funext i
  unfold total
  simp only [Fin.sum_univ_eight]
  rw [← part p 0 rfl inb_S8x512x128_S1x512x128_0_0_0 i, ← part p 1 rfl inb_S8x512x128_S1x512x128_1_0_0 i,
    ← part p 2 rfl inb_S8x512x128_S1x512x128_2_0_0 i, ← part p 3 rfl inb_S8x512x128_S1x512x128_3_0_0 i,
    ← part p 4 rfl inb_S8x512x128_S1x512x128_4_0_0 i, ← part p 5 rfl inb_S8x512x128_S1x512x128_5_0_0 i,
    ← part p 6 rfl inb_S8x512x128_S1x512x128_6_0_0 i, ← part p 7 rfl inb_S8x512x128_S1x512x128_7_0_0 i]
  rfl

theorem k_deltas (p : Vec Ideal S8x512x128 .f32) (w m v : Vec Ideal S512x128 .f32) :
    k0_pay3 (k0_pay5 p w m v) w m v = deltas (total p) w m v := by
  rw [k_total]
  rfl
theorem k_means (p : Vec Ideal S8x512x128 .f32) (w m v : Vec Ideal S512x128 .f32) :
    k0_pay1 (k0_pay5 p w m v) m = means (total p) m := by
  rw [k_total]
  rfl
theorem k_squares (p : Vec Ideal S8x512x128 .f32) (w m v : Vec Ideal S512x128 .f32) :
    k0_pay2 (k0_pay5 p w m v) v = squares (total p) v := by
  rw [k_total]
  rfl

section Ref
open Cert.AdamPoolRefIdeal.Read

theorem r_total (p : S8x512x128.Idx → EReal) : val_main_v0 (F := Ideal) p = total p := by
  funext i
  rw [val_main_v0_apply]
  exact sum_from czero fun k => congrArg p (ext3 (l := 8) (m := 512) (n := 128) rfl rfl rfl)
theorem r_means (p : S8x512x128.Idx → EReal) (m : S512x128.Idx → EReal) : val_main_v5 (F := Ideal) p m = means (total p) m := by
  rw [← r_total]; rfl
theorem r_squares (p : S8x512x128.Idx → EReal) (v : S512x128.Idx → EReal) : val_main_v11 (F := Ideal) p v = squares (total p) v := by
  rw [← r_total]; rfl
theorem r_deltas (p : S8x512x128.Idx → EReal) (w m v : S512x128.Idx → EReal) : val_main_v24 (F := Ideal) p w m v = deltas (total p) w m v := by
  rw [← r_total]; rfl

end Ref

end Cert.AdamPoolIdeal.Val

open Idealize.ShloMosaic Idealize.ShloMosaic.TcCoe Idealize.SL.Sem Cert.Arr Cert.AdamPoolIdeal.Val Cert.AdamPoolRefIdeal.Read in
/-- The kernel and the reference compute the same four arrays. -/
theorem Cert.AdamPoolIdeal.Val.algebraic : Cert.algebraic_AdamPoolIdeal_AdamPoolRefIdeal := by
  intro m g m' g' _ hagree
  let a0 := fun c : Dev Cert.AdamPoolIdeal.nD => m ((c.tc : Thread Cert.AdamPoolIdeal.nD Cert.AdamPoolIdeal.τ).loc Cert.AdamPoolIdeal.main_arg0)
  let a1 := fun c : Dev Cert.AdamPoolIdeal.nD => m ((c.tc : Thread Cert.AdamPoolIdeal.nD Cert.AdamPoolIdeal.τ).loc Cert.AdamPoolIdeal.main_arg1)
  let a2 := fun c : Dev Cert.AdamPoolIdeal.nD => m ((c.tc : Thread Cert.AdamPoolIdeal.nD Cert.AdamPoolIdeal.τ).loc Cert.AdamPoolIdeal.main_arg2)
  let a3 := fun c : Dev Cert.AdamPoolIdeal.nD => m ((c.tc : Thread Cert.AdamPoolIdeal.nD Cert.AdamPoolIdeal.τ).loc Cert.AdamPoolIdeal.main_arg3)
  refine ⟨fun c => total (a0 c), fun c => deltas (total (a0 c)) (a1 c) (a2 c) (a3 c), fun c => means (total (a0 c)) (a2 c),
    fun c => squares (total (a0 c)) (a3 c),
    (θ_run Cert.AdamPoolIdeal.defs _ _).mono (fun r h c => ?_) (Cert.AdamPoolIdeal.Value.run (F := Ideal) m g),
    (θ_run Cert.AdamPoolRefIdeal.defs _ _).mono (fun r h c => ?_) (Cert.AdamPoolRefIdeal.Value.run (F := Ideal) m' g')⟩
  · obtain ⟨h0, h1, h2, h3, hk⟩ := h c
    exact ⟨h0.trans (k_total _ (a1 c) (a2 c) (a3 c)), h1.trans (k_deltas _ _ _ _), h2.trans (k_means _ (a1 c) _ (a3 c)),
      h3.trans (k_squares _ (a1 c) (a2 c) _), hk⟩
  · obtain ⟨h0, h1, h2, h3, hk⟩ := h c
    obtain ⟨e0, e1, e2, e3⟩ := hagree c
    refine ⟨h0.trans ((val_main_v0_eq _).trans ((r_total _).trans ?_)), h1.trans ((val_main_v24_eq _ _ _ _).trans ((r_deltas _ _ _ _).trans ?_)),
      h2.trans ((val_main_v5_eq _ _).trans ((r_means _ _).trans ?_)), h3.trans ((val_main_v11_eq _ _).trans ((r_squares _ _).trans ?_)), hk⟩
    · show total _ = total _; rw [e0]
    · show deltas (total _) _ _ _ = deltas (total _) _ _ _; rw [e0, e1, e2, e3]
    · show means (total _) _ = means (total _) _; rw [e0, e2]
    · show squares (total _) _ = squares (total _) _; rw [e0, e3]

end
-- ==== Proof.AdamConvValue.lean ====
/-
  `adam_conv_w` computes what its reference computes: the optimiser's step on the taps of the convolution, entry by entry.
-/
module

public import proofs.«01_k».proof.Proof.AdamModel
public import proofs.«01_k».proof.Proof.Gen.AdamConvIdeal.Value
public import proofs.«01_k».proof.Proof.Gen.AdamConvRefIdeal.Read
public import proofs.«01_k».proof.Proof.Gen.AdamConvRefIdeal.Run
public import proofs.«01_k».proof.Defs

@[expose] public section

set_option maxRecDepth 16384

noncomputable section

namespace Cert.AdamConvIdeal.Val

open Cert.AdamConvIdeal Cert.Arr Idealize.ShloMosaic Idealize.ShloMosaic.TcCoe Idealize.SL.Sem

/-- The three results, from the gradient, the taps and the two means. -/
def deltas (g w m v : S4x192.Idx → EReal) : S4x192.Idx → EReal := fun i => delta (g i) (w i) (m i) (v i)
def means (g m : S4x192.Idx → EReal) : S4x192.Idx → EReal := fun i => newM (g i) (m i)
def squares (g v : S4x192.Idx → EReal) : S4x192.Idx → EReal := fun i => newV (g i) (v i)

section Ref
open Cert.AdamConvRefIdeal.Read

theorem r_means (g m : S4x192.Idx → EReal) : val_main_v4 (F := Ideal) g m = means g m := funext fun i => rfl
theorem r_squares (g v : S4x192.Idx → EReal) : val_main_v10 (F := Ideal) g v = squares g v := funext fun i => rfl
theorem r_deltas (g w m v : S4x192.Idx → EReal) : val_main_v23 (F := Ideal) g w m v = deltas g w m v := funext fun i => rfl

end Ref

end Cert.AdamConvIdeal.Val

open Idealize.ShloMosaic Idealize.ShloMosaic.TcCoe Idealize.SL.Sem Cert.Arr Cert.AdamConvIdeal.Val Cert.AdamConvRefIdeal.Read in
/-- The kernel and the reference compute the same three arrays. -/
theorem Cert.AdamConvIdeal.Val.algebraic : Cert.algebraic_AdamConvIdeal_AdamConvRefIdeal := by
  intro m g m' g' _ hagree
  let a0 := fun c : Dev Cert.AdamConvIdeal.nD => m ((c.tc : Thread Cert.AdamConvIdeal.nD Cert.AdamConvIdeal.τ).loc Cert.AdamConvIdeal.main_arg0)
  let a1 := fun c : Dev Cert.AdamConvIdeal.nD => m ((c.tc : Thread Cert.AdamConvIdeal.nD Cert.AdamConvIdeal.τ).loc Cert.AdamConvIdeal.main_arg1)
  let a2 := fun c : Dev Cert.AdamConvIdeal.nD => m ((c.tc : Thread Cert.AdamConvIdeal.nD Cert.AdamConvIdeal.τ).loc Cert.AdamConvIdeal.main_arg2)
  let a3 := fun c : Dev Cert.AdamConvIdeal.nD => m ((c.tc : Thread Cert.AdamConvIdeal.nD Cert.AdamConvIdeal.τ).loc Cert.AdamConvIdeal.main_arg3)
  refine ⟨fun c => deltas (a0 c) (a1 c) (a2 c) (a3 c), fun c => means (a0 c) (a2 c), fun c => squares (a0 c) (a3 c),
    (θ_run Cert.AdamConvIdeal.defs _ _).mono (fun r h c => ?_) (Cert.AdamConvIdeal.Value.run (F := Ideal) m g),
    (θ_run Cert.AdamConvRefIdeal.defs _ _).mono (fun r h c => ?_) (Cert.AdamConvRefIdeal.Value.run (F := Ideal) m' g')⟩
  · obtain ⟨h0, h1, h2, hk⟩ := h c
    exact ⟨h0.trans rfl, h1.trans rfl, h2.trans rfl, hk⟩
  · obtain ⟨h0, h1, h2, hk⟩ := h c
    obtain ⟨e0, e1, e2, e3⟩ := hagree c
    refine ⟨h0.trans ((val_main_v23_eq _ _ _ _).trans ((r_deltas _ _ _ _).trans ?_)), h1.trans ((val_main_v4_eq _ _).trans ((r_means _ _).trans ?_)),
      h2.trans ((val_main_v10_eq _ _).trans ((r_squares _ _).trans ?_)), hk⟩
    · show deltas _ _ _ _ = deltas _ _ _ _; rw [e0, e1, e2, e3]
    · show means _ _ = means _ _; rw [e0, e2]
    · show squares _ _ = squares _ _; rw [e0, e3]

end
-- ==== Proof.AdamOwn.lean ====
/-
  The sum of the parts of a gradient over the devices, a device's own part taken from its own array, and what the optimiser
  makes of it; for the calls that step the matrices whose gradients are exchanged.
-/
module

public import proofs.«01_k».proof.Proof.AdamModel
public import Idealize.ShloMosaic.Lib.StableHlo.Predicate
public import Idealize.ShloMosaic.Lib.WritesUnit

@[expose] public section

noncomputable section

namespace Cert.Arr

open Idealize.ShloMosaic Idealize.ShloMosaic.TcCoe Idealize.SL.Sem

/-- A stack of parts, one part with its axis, and a matrix. -/
abbrev Stack (l R C : ℕ) : Shape := ⟨3, ![l, R, C]⟩
abbrev Mat (R C : ℕ) : Shape := ⟨2, ![R, C]⟩

/-- One entry of the gradient: the sum over the devices of their parts, device `me`'s from `s`, the others from `l`. -/
def own (me : BitVec 32) (s l : Fin 8 → EReal) : EReal := ∑ k : Fin 8, if me = BitVec.ofNat 32 k.val then s k else l k
/-- The sum depends on the own part at the own device only. -/
theorem own_congr (w : BitVec 32) {s s' l l' : Fin 8 → EReal} (hs : ∀ k : Fin 8, w = BitVec.ofNat 32 k.val → s k = s' k) (hl : ∀ k, l k = l' k) :
    own w s l = own w s' l' := by
  refine Finset.sum_congr rfl fun k _ => ?_
  by_cases h : w = BitVec.ofNat 32 k.val
  · rw [if_pos h, if_pos h, hs k h]
  · rw [if_neg h, if_neg h, hl k]

variable {R C : ℕ}

/-- The gradient. -/
def total (me : BitVec 32) (s l : (Stack 8 R C).Idx → EReal) : (Mat R C).Idx → EReal :=
  fun i => own me (fun k => s (ValueIdx.ix3 k (i 0) (i 1))) (fun k => l (ValueIdx.ix3 k (i 0) (i 1)))
/-- The optimiser's step, from the gradient, the weight and the two means. -/
def deltas (g w m v : (Mat R C).Idx → EReal) : (Mat R C).Idx → EReal := fun i => delta (g i) (w i) (m i) (v i)
def means (g m : (Mat R C).Idx → EReal) : (Mat R C).Idx → EReal := fun i => newM (g i) (m i)
def squares (g v : (Mat R C).Idx → EReal) : (Mat R C).Idx → EReal := fun i => newV (g i) (v i)

/-- One part, taken from the own block or from the stack of landed blocks. -/
theorem part (me : BitVec 32) (x0 : Vec Ideal (Stack 1 R C) .bf16) (x1 : Vec Ideal (Stack 8 R C) .bf16) (hs : (Stack 1 R C).ShapeCasts (Mat R C)) (k : Fin 8) {w : BitVec 32}
    (hw : w = BitVec.ofNat 32 k.val) {a : ℕ} (ha : a = k.val) (inb0 inb) (i : (Mat R C).Idx) :
    Scalar.select (Scalar.cmpi .eq me w)
      (shapeCast (Mat R C) (View.ld x0 (Rect.unit (s := Stack 1 R C) ![0, 0, 0] (Stack 1 R C).size inb0) : Vec Ideal (Stack 1 R C) .bf16) hs)
      (shapeCast (Mat R C) (View.ld x1 (Rect.unit (s := Stack 8 R C) ![a, 0, 0] (Stack 1 R C).size inb) : Vec Ideal (Stack 1 R C) .bf16) hs) i
      = if me = BitVec.ofNat 32 k.val then x0 (ValueIdx.ix3 0 (i 0) (i 1)) else x1 (ValueIdx.ix3 k (i 0) (i 1)) := by
  subst hw
  by_cases h : me = BitVec.ofNat 32 k.val
  · rw [if_pos h]
    refine (congrFun (if_pos (StableHlo.Predicate.cmpi_eq_iff.2 h)) i).trans ((cast_drop1 (m := R) (n := C) _ _ i).trans
      (congrArg x0 (ext3 (l := 1) (m := R) (n := C) ?_ ?_ ?_)))
    · show 0 + 1 * 0 = 0; omega
    · show 0 + 1 * (i 0).val = (i 0).val; omega
    · show 0 + 1 * (i 1).val = (i 1).val; omega
  · rw [if_neg h]
    refine (congrFun (if_neg fun e => h (StableHlo.Predicate.cmpi_eq_iff.1 e)) i).trans ((cast_drop1 (m := R) (n := C) _ _ i).trans
      (congrArg x1 (ext3 (l := 8) (m := R) (n := C) ?_ ?_ ?_)))
    · show a + 1 * 0 = k.val; omega
    · show 0 + 1 * (i 0).val = (i 0).val; omega
    · show 0 + 1 * (i 1).val = (i 1).val; omega

/-- A load of a part of a buffer that holds `x`. -/
theorem rd {sg : RefSig} {S : Shape} {e : EltTy} {a : Memref sg .tc .vmem S e} (h : a.IsWhole) (x : Vec Ideal S e) (r : Rect S) :
    View.readAt (Elt Ideal) a.view r.toLoadRect (h.unread x) = View.ld x r := by
  funext j
  rw [View.readAt_apply, h.read_unread]
/-- One store over the whole block leaves what it stores. -/
theorem st {sg : RefSig} {κ : Kind} {sp : Space} (v : View sg κ sp (Mat R C) .f32) (f) (inb) (w : Vec Ideal (Mat R C) .f32) (y : (Mat R C).Idx) :
    View.read (Elt Ideal) v (v.writes (Elt Ideal) f [⟨Rect.unit (s := Mat R C) ![0, 0] ![R, C] inb, w⟩]) y = w y :=
  View.read_writes_cons_unit_of_mem v f inb w [] y y z2 fun a => (Nat.zero_add _).symm

/-- Row `i` lies in its block, and an entry of a row in the whole row. -/
theorem in_tile {b i a : ℕ} (hb : 0 < b) (h : a = i / b) : a * b ≤ i ∧ i < a * b + b := by
  subst h
  exact ⟨Nat.div_mul_le_self i b, Nat.lt_div_mul_add hb⟩
theorem in_row {n i a : ℕ} (h : a = 0) (hi : i < n) : a * n ≤ i ∧ i < a * n + n := by subst h; omega

/-- Membership in a part of a whole array. -/
theorem mem_of {sg : RefSig} (b : Ref sg .tc) (r : Rect b.ty.shape) (i : b.ty.Idx) (h : i ∈ r.set) : i ∈ ((View.whole b).slice r).set := by
  rw [View.set_slice_whole]
  exact h

end Cert.Arr

end
-- ==== Proof.AdamOutKernel.lean ====
/-
  What `adam_w_out` leaves in its four results. The body reads the device's number, adds the eight parts of the gradient of
  the output projection — the device's own part from its own array, the others as they landed — and takes the optimiser's step.
-/
module

public import proofs.«01_k».proof.Proof.AdamOwn
public import proofs.«01_k».proof.Proof.Gen.AdamOutIdeal.Frame

@[expose] public section

set_option maxRecDepth 16384

noncomputable section

namespace Cert.AdamOutIdeal.Val

open Cert.AdamOutIdeal Cert.AdamOutIdeal.Gen Cert.Arr
open Idealize.ShloMosaic Idealize.ShloMosaic.TcCoe Idealize.SL.Sem

/-- The word read from the table. -/
def word (c : Dev nD) (xt : TbBuf0 (F := Ideal) c tbM0_0) : BitVec 32 := xt (ValueIdx.ix1 0)
theorem rd_word (c : Dev nD) (xt : TbBuf0 (F := Ideal) c tbM0_0) (inb) (j) :
    View.readAt (Elt Ideal) (View.whole main_arg0) (Rect.unit (s := S1) ![0] ![1] inb).toLoadRect xt j = word c xt :=
  congrArg xt (funext fun a => Fin.ext (by match a with | ⟨0, _⟩ => exact Nat.lt_one_iff.1 (Fin.isLt _)))

/-- The sum the body forms, on the blocks. -/
def bsum (me : BitVec 32) (x0 : Vec Ideal S1x192x1024 .bf16) (x1 : Vec Ideal S8x192x1024 .bf16) : Vec Ideal S192x1024 .f32 :=
  fun i => own me (fun _ => x0 (ValueIdx.ix3 0 (i 0) (i 1))) (fun k => x1 (ValueIdx.ix3 k (i 0) (i 1)))

/-- The first seven parts, as the body adds them. -/
def seven (me : BitVec 32) (x0 : Vec Ideal S1x192x1024 .bf16) (x1 : Vec Ideal S8x192x1024 .bf16) : Vec Ideal S192x1024 .f32 :=
  (k0_pay4 (F := Ideal) (k0_pay2 (F := Ideal) me (View.ld x0 (Rect.unit (s := S1x192x1024) ![0, 0, 0] ![1, 192, 1024] inb_S1x192x1024_S1x192x1024_0_0_0)) (View.ld x1 (Rect.unit (s := S8x192x1024) ![0, 0, 0] ![1, 192, 1024] inb_S8x192x1024_S1x192x1024_0_0_0)) me (View.ld x0 (Rect.unit (s := S1x192x1024) ![0, 0, 0] ![1, 192, 1024] inb_S1x192x1024_S1x192x1024_0_0_0)) (View.ld x1 (Rect.unit (s := S8x192x1024) ![1, 0, 0] ![1, 192, 1024] inb_S8x192x1024_S1x192x1024_1_0_0)) me (View.ld x0 (Rect.unit (s := S1x192x1024) ![0, 0, 0] ![1, 192, 1024] inb_S1x192x1024_S1x192x1024_0_0_0)) (View.ld x1 (Rect.unit (s := S8x192x1024) ![2, 0, 0] ![1, 192, 1024] inb_S8x192x1024_S1x192x1024_2_0_0))) (Scalar.cmpi .eq me 3#32) (k0_pay3 (F := Ideal) (View.ld x0 (Rect.unit (s := S1x192x1024) ![0, 0, 0] ![1, 192, 1024] inb_S1x192x1024_S1x192x1024_0_0_0))) (View.ld x1 (Rect.unit (s := S8x192x1024) ![3, 0, 0] ![1, 192, 1024] inb_S8x192x1024_S1x192x1024_3_0_0)) me (View.ld x0 (Rect.unit (s := S1x192x1024) ![0, 0, 0] ![1, 192, 1024] inb_S1x192x1024_S1x192x1024_0_0_0)) (View.ld x1 (Rect.unit (s := S8x192x1024) ![4, 0, 0] ![1, 192, 1024] inb_S8x192x1024_S1x192x1024_4_0_0)) me (View.ld x0 (Rect.unit (s := S1x192x1024) ![0, 0, 0] ![1, 192, 1024] inb_S1x192x1024_S1x192x1024_0_0_0)) (View.ld x1 (Rect.unit (s := S8x192x1024) ![5, 0, 0] ![1, 192, 1024] inb_S8x192x1024_S1x192x1024_5_0_0)) me (View.ld x0 (Rect.unit (s := S1x192x1024) ![0, 0, 0] ![1, 192, 1024] inb_S1x192x1024_S1x192x1024_0_0_0)) (View.ld x1 (Rect.unit (s := S8x192x1024) ![6, 0, 0] ![1, 192, 1024] inb_S8x192x1024_S1x192x1024_6_0_0)))
theorem grad (me : BitVec 32) (x0 : Vec Ideal S1x192x1024 .bf16) (x1 : Vec Ideal S8x192x1024 .bf16) (y : S192x1024.Idx) :
    k0_pay5 (F := Ideal) (seven me x0 x1) me (View.ld x0 (Rect.unit (s := S1x192x1024) ![0, 0, 0] ![1, 192, 1024] inb_S1x192x1024_S1x192x1024_0_0_0)) (View.ld x1 (Rect.unit (s := S8x192x1024) ![7, 0, 0] ![1, 192, 1024] inb_S8x192x1024_S1x192x1024_7_0_0)) y = bsum me x0 x1 y := by
  unfold bsum own seven
  simp only [Fin.sum_univ_eight]
  rw [← part me x0 x1 shapeCasts_S1x192x1024_S192x1024 0 (w := 0#32) rfl (a := 0) rfl inb_S1x192x1024_S1x192x1024_0_0_0 inb_S8x192x1024_S1x192x1024_0_0_0 y, ← part me x0 x1 shapeCasts_S1x192x1024_S192x1024 1 (w := 1#32) rfl (a := 1) rfl inb_S1x192x1024_S1x192x1024_0_0_0 inb_S8x192x1024_S1x192x1024_1_0_0 y, ← part me x0 x1 shapeCasts_S1x192x1024_S192x1024 2 (w := 2#32) rfl (a := 2) rfl inb_S1x192x1024_S1x192x1024_0_0_0 inb_S8x192x1024_S1x192x1024_2_0_0 y, ← part me x0 x1 shapeCasts_S1x192x1024_S192x1024 3 (w := 3#32) rfl (a := 3) rfl inb_S1x192x1024_S1x192x1024_0_0_0 inb_S8x192x1024_S1x192x1024_3_0_0 y, ← part me x0 x1 shapeCasts_S1x192x1024_S192x1024 4 (w := 4#32) rfl (a := 4) rfl inb_S1x192x1024_S1x192x1024_0_0_0 inb_S8x192x1024_S1x192x1024_4_0_0 y, ← part me x0 x1 shapeCasts_S1x192x1024_S192x1024 5 (w := 5#32) rfl (a := 5) rfl inb_S1x192x1024_S1x192x1024_0_0_0 inb_S8x192x1024_S1x192x1024_5_0_0 y, ← part me x0 x1 shapeCasts_S1x192x1024_S192x1024 6 (w := 6#32) rfl (a := 6) rfl inb_S1x192x1024_S1x192x1024_0_0_0 inb_S8x192x1024_S1x192x1024_6_0_0 y, ← part me x0 x1 shapeCasts_S1x192x1024_S192x1024 7 (w := 7#32) rfl (a := 7) rfl inb_S1x192x1024_S1x192x1024_0_0_0 inb_S8x192x1024_S1x192x1024_7_0_0 y]
  rfl

/-- A load of a whole block. -/
theorem ld {e : EltTy} (x : Vec Ideal S192x1024 e) (inb) : View.ld x (Rect.unit (s := S192x1024) ![0, 0] ![192, 1024] inb) = x := View.ld_unit_zero z2 _ _

variable (c : Dev nD) (i : grid0.Coords) (arg2 : Memref sig .tc .vmem S1x192x1024 .bf16) (harg2 : arg2.IsWhole) (arg3 : Memref sig .tc .vmem S8x192x1024 .bf16) (harg3 : arg3.IsWhole) (arg4 : Memref sig .tc .vmem S192x1024 .f32) (harg4 : arg4.IsWhole) (arg5 : Memref sig .tc .vmem S192x1024 .f32) (harg5 : arg5.IsWhole) (arg6 : Memref sig .tc .vmem S192x1024 .f32) (harg6 : arg6.IsWhole) (arg7 : Memref sig .tc .vmem S192x1024 .f32) (harg7 : arg7.IsWhole) (arg8 : Memref sig .tc .vmem S192x1024 .f32) (harg8 : arg8.IsWhole) (arg9 : Memref sig .tc .vmem S192x1024 .f32) (harg9 : arg9.IsWhole) (arg10 : Memref sig .tc .vmem S192x1024 .f32) (harg10 : arg10.IsWhole)
    (x0 : Vec Ideal S1x192x1024 .bf16) (x1 : Vec Ideal S8x192x1024 .bf16) (x2 : Vec Ideal S192x1024 .f32) (x3 : Vec Ideal S192x1024 .f32) (x4 : Vec Ideal S192x1024 .f32) (xt0 : TbBuf0 (F := Ideal) c tbM0_0)
include c i arg2 harg2 arg3 harg3 arg4 harg4 arg5 harg5 arg6 harg6 arg7 harg7 arg8 harg8 arg9 harg9 arg10 harg10 x0 x1 x2 x3 x4 xt0

/-- What the body leaves in result 0. -/
theorem run5 :
    out0_A_5 c i arg2 harg2 arg3 harg3 arg4 harg4 arg5 harg5 arg6 harg6 arg7 harg7 arg8 harg8 arg9 harg9 arg10 harg10 x0 x1 x2 x3 x4 xt0 = k0_pay5 (kernelRun0_A.sl.r_3 c arg2 harg2 arg3 harg3 x0 x1 xt0) (kernelRun0_A.sl.r c xt0) (View.readAt (Elt Ideal) arg2.view (Rect.unit (s := S1x192x1024) ![0, 0, 0] ![1, 192, 1024] inb_S1x192x1024_S1x192x1024_0_0_0).toLoadRect (harg2.unread x0)) (View.readAt (Elt Ideal) arg3.view (Rect.unit (s := S8x192x1024) ![7, 0, 0] ![1, 192, 1024] inb_S8x192x1024_S1x192x1024_7_0_0).toLoadRect (harg3.unread x1)) := by
  funext y
  exact st VO0_5 VO0_5.junk inb_S192x1024_S192x1024_0_0 _ y
theorem pay5 (y : S192x1024.Idx) :
    (k0_pay5 (kernelRun0_A.sl.r_3 c arg2 harg2 arg3 harg3 x0 x1 xt0) (kernelRun0_A.sl.r c xt0) (View.readAt (Elt Ideal) arg2.view (Rect.unit (s := S1x192x1024) ![0, 0, 0] ![1, 192, 1024] inb_S1x192x1024_S1x192x1024_0_0_0).toLoadRect (harg2.unread x0)) (View.readAt (Elt Ideal) arg3.view (Rect.unit (s := S8x192x1024) ![7, 0, 0] ![1, 192, 1024] inb_S8x192x1024_S1x192x1024_7_0_0).toLoadRect (harg3.unread x1)) : Vec Ideal S192x1024 .f32) y = (bsum (word c xt0) x0 x1 : Vec Ideal S192x1024 .f32) y := by
  delta kernelRun0_A.sl.r_3 kernelRun0_A.sl.r kernelRun0_A.sl.r_1 kernelRun0_A.sl.r_2 kernelRun0_A.sl.v27
  simp only [rd, rd_word]
  have e := grad (word c xt0) x0 x1 y
  unfold seven at e
  exact e
theorem left5 (y : S192x1024.Idx) : out0_A_5 c i arg2 harg2 arg3 harg3 arg4 harg4 arg5 harg5 arg6 harg6 arg7 harg7 arg8 harg8 arg9 harg9 arg10 harg10 x0 x1 x2 x3 x4 xt0 y = (bsum (word c xt0) x0 x1 : Vec Ideal S192x1024 .f32) y :=
  (congrFun (run5 c i arg2 harg2 arg3 harg3 arg4 harg4 arg5 harg5 arg6 harg6 arg7 harg7 arg8 harg8 arg9 harg9 arg10 harg10 x0 x1 x2 x3 x4 xt0) y).trans (pay5 c i arg2 harg2 arg3 harg3 arg4 harg4 arg5 harg5 arg6 harg6 arg7 harg7 arg8 harg8 arg9 harg9 arg10 harg10 x0 x1 x2 x3 x4 xt0 y)
/-- What the body leaves in result 1. -/
theorem run6 :
    out0_A_6 c i arg2 harg2 arg3 harg3 arg4 harg4 arg5 harg5 arg6 harg6 arg7 harg7 arg8 harg8 arg9 harg9 arg10 harg10 x0 x1 x2 x3 x4 xt0 = k0_pay1 (kernelRun0_A.sl.r_6 c arg2 harg2 arg3 harg3 arg4 harg4 arg5 harg5 arg6 harg6 x0 x1 x2 x3 x4 xt0) kernelRun0_A.sl.cst_63 := by
  funext y
  exact st VO0_6 VO0_6.junk inb_S192x1024_S192x1024_0_0 _ y
theorem pay6 (y : S192x1024.Idx) :
    (k0_pay1 (kernelRun0_A.sl.r_6 c arg2 harg2 arg3 harg3 arg4 harg4 arg5 harg5 arg6 harg6 x0 x1 x2 x3 x4 xt0) kernelRun0_A.sl.cst_63 : Vec Ideal S192x1024 .f32) y = (fun i => delta (bsum (word c xt0) x0 x1 i) (x2 i) (x3 i) (x4 i) : Vec Ideal S192x1024 .f32) y := by
  delta kernelRun0_A.sl.r_6 kernelRun0_A.sl.r_3 kernelRun0_A.sl.r kernelRun0_A.sl.r_1 kernelRun0_A.sl.r_2 kernelRun0_A.sl.v27
  simp only [rd, rd_word]
  rw [ld, ld, ld, ← grad (word c xt0) x0 x1 y]
  unfold seven
  rfl
theorem left6 (y : S192x1024.Idx) : out0_A_6 c i arg2 harg2 arg3 harg3 arg4 harg4 arg5 harg5 arg6 harg6 arg7 harg7 arg8 harg8 arg9 harg9 arg10 harg10 x0 x1 x2 x3 x4 xt0 y = (fun i => delta (bsum (word c xt0) x0 x1 i) (x2 i) (x3 i) (x4 i) : Vec Ideal S192x1024 .f32) y :=
  (congrFun (run6 c i arg2 harg2 arg3 harg3 arg4 harg4 arg5 harg5 arg6 harg6 arg7 harg7 arg8 harg8 arg9 harg9 arg10 harg10 x0 x1 x2 x3 x4 xt0) y).trans (pay6 c i arg2 harg2 arg3 harg3 arg4 harg4 arg5 harg5 arg6 harg6 arg7 harg7 arg8 harg8 arg9 harg9 arg10 harg10 x0 x1 x2 x3 x4 xt0 y)
/-- What the body leaves in result 2. -/
theorem run7 :
    out0_A_7 c i arg2 harg2 arg3 harg3 arg4 harg4 arg5 harg5 arg6 harg6 arg7 harg7 arg8 harg8 arg9 harg9 arg10 harg10 x0 x1 x2 x3 x4 xt0 = kernelRun0_A.sl.r_4 c arg2 harg2 arg3 harg3 arg5 harg5 x0 x1 x3 xt0 := by
  funext y
  exact st VO0_7 VO0_7.junk inb_S192x1024_S192x1024_0_0 _ y
theorem pay7 (y : S192x1024.Idx) :
    (kernelRun0_A.sl.r_4 c arg2 harg2 arg3 harg3 arg5 harg5 x0 x1 x3 xt0 : Vec Ideal S192x1024 .f32) y = (fun i => newM (bsum (word c xt0) x0 x1 i) (x3 i) : Vec Ideal S192x1024 .f32) y := by
  delta kernelRun0_A.sl.r_4 kernelRun0_A.sl.r_3 kernelRun0_A.sl.r kernelRun0_A.sl.r_1 kernelRun0_A.sl.r_2 kernelRun0_A.sl.v27
  simp only [rd, rd_word]
  rw [ld, ← grad (word c xt0) x0 x1 y]
  unfold seven
  rfl
theorem left7 (y : S192x1024.Idx) : out0_A_7 c i arg2 harg2 arg3 harg3 arg4 harg4 arg5 harg5 arg6 harg6 arg7 harg7 arg8 harg8 arg9 harg9 arg10 harg10 x0 x1 x2 x3 x4 xt0 y = (fun i => newM (bsum (word c xt0) x0 x1 i) (x3 i) : Vec Ideal S192x1024 .f32) y :=
  (congrFun (run7 c i arg2 harg2 arg3 harg3 arg4 harg4 arg5 harg5 arg6 harg6 arg7 harg7 arg8 harg8 arg9 harg9 arg10 harg10 x0 x1 x2 x3 x4 xt0) y).trans (pay7 c i arg2 harg2 arg3 harg3 arg4 harg4 arg5 harg5 arg6 harg6 arg7 harg7 arg8 harg8 arg9 harg9 arg10 harg10 x0 x1 x2 x3 x4 xt0 y)
/-- What the body leaves in result 3. -/
theorem run8 :
    out0_A_8 c i arg2 harg2 arg3 harg3 arg4 harg4 arg5 harg5 arg6 harg6 arg7 harg7 arg8 harg8 arg9 harg9 arg10 harg10 x0 x1 x2 x3 x4 xt0 = kernelRun0_A.sl.r_5 c arg2 harg2 arg3 harg3 arg6 harg6 x0 x1 x4 xt0 := by
  funext y
  exact st VO0_8 VO0_8.junk inb_S192x1024_S192x1024_0_0 _ y
theorem pay8 (y : S192x1024.Idx) :
    (kernelRun0_A.sl.r_5 c arg2 harg2 arg3 harg3 arg6 harg6 x0 x1 x4 xt0 : Vec Ideal S192x1024 .f32) y = (fun i => newV (bsum (word c xt0) x0 x1 i) (x4 i) : Vec Ideal S192x1024 .f32) y := by
  delta kernelRun0_A.sl.r_5 kernelRun0_A.sl.r_3 kernelRun0_A.sl.r kernelRun0_A.sl.r_1 kernelRun0_A.sl.r_2 kernelRun0_A.sl.v27
  simp only [rd, rd_word]
  rw [ld, ← grad (word c xt0) x0 x1 y]
  unfold seven
  rfl
theorem left8 (y : S192x1024.Idx) : out0_A_8 c i arg2 harg2 arg3 harg3 arg4 harg4 arg5 harg5 arg6 harg6 arg7 harg7 arg8 harg8 arg9 harg9 arg10 harg10 x0 x1 x2 x3 x4 xt0 y = (fun i => newV (bsum (word c xt0) x0 x1 i) (x4 i) : Vec Ideal S192x1024 .f32) y :=
  (congrFun (run8 c i arg2 harg2 arg3 harg3 arg4 harg4 arg5 harg5 arg6 harg6 arg7 harg7 arg8 harg8 arg9 harg9 arg10 harg10 x0 x1 x2 x3 x4 xt0) y).trans (pay8 c i arg2 harg2 arg3 harg3 arg4 harg4 arg5 harg5 arg6 harg6 arg7 harg7 arg8 harg8 arg9 harg9 arg10 harg10 x0 x1 x2 x3 x4 xt0 y)
end Cert.AdamOutIdeal.Val

end
-- ==== Proof.AdamOutFinal.lean ====
/-
  The four results of `adam_w_out` as wholes: the blocks it writes cover them, and each holds the sum of the parts and the
  optimiser's step on it, when the device's number is below eight.
-/
module

public import proofs.«01_k».proof.Proof.AdamOutKernel
public import Idealize.ShloMosaic.Lib.Pipeline.Value

@[expose] public section

set_option maxRecDepth 16384

noncomputable section

namespace Cert.AdamOutIdeal.Val

open Cert.AdamOutIdeal Cert.AdamOutIdeal.Gen Cert.Arr
open Idealize.ShloMosaic Idealize.ShloMosaic.TcCoe Idealize.SL.Sem

variable (m : (ℓ : Loc nD τ sig) → Buf (Elt Ideal) ℓ) (hO : Ok m) (c : Dev nD)

/-- The device's number, and the arguments. -/
abbrev me : BitVec 32 := word 0 (tbl m 0)
abbrev sent : S8x192x1024.Idx → EReal := m ((c : Thread nD τ).loc main_arg1)
abbrev landed : S8x192x1024.Idx → EReal := m ((c : Thread nD τ).loc main_arg2)
abbrev wgt : S192x1024.Idx → EReal := m ((c : Thread nD τ).loc main_arg3)
abbrev mean : S192x1024.Idx → EReal := m ((c : Thread nD τ).loc main_arg4)
abbrev sqr : S192x1024.Idx → EReal := m ((c : Thread nD τ).loc main_arg5)
abbrev gr : S192x1024.Idx → EReal := total (me m) (sent m c) (landed m c)

/-- Where the windows stand at point `t`. -/
abbrev ixs0 (t : Fin (cfgM m hO).N) : Fin 3 → ℕ := ((cfgM m hO).win 0).index t
abbrev ixs1 (t : Fin (cfgM m hO).N) : Fin 3 → ℕ := ((cfgM m hO).win 1).index t
abbrev ixs2 (t : Fin (cfgM m hO).N) : Fin 2 → ℕ := ((cfgM m hO).win 2).index t
abbrev ixs3 (t : Fin (cfgM m hO).N) : Fin 2 → ℕ := ((cfgM m hO).win 3).index t
abbrev ixs4 (t : Fin (cfgM m hO).N) : Fin 2 → ℕ := ((cfgM m hO).win 4).index t
abbrev ixs5 (t : Fin (cfgM m hO).N) : Fin 2 → ℕ := ((cfgM m hO).win 5).index t
abbrev ixs6 (t : Fin (cfgM m hO).N) : Fin 2 → ℕ := ((cfgM m hO).win 6).index t
abbrev ixs7 (t : Fin (cfgM m hO).N) : Fin 2 → ℕ := ((cfgM m hO).win 7).index t
abbrev ixs8 (t : Fin (cfgM m hO).N) : Fin 2 → ℕ := ((cfgM m hO).win 8).index t
theorem idx0 (t : Fin (cfgM m hO).N) : ixs0 m hO t 0 = (me m).toNat ∧ ixs0 m hO t 1 = t.val ∧ ixs0 m hO t 2 = 0 := by
  refine ⟨?_, (by decide +kernel : ∀ t : Fin grid0.N, (BitVec.ofNat 32 (grid0.coords t 0).val).toNat = t.val) t, rfl⟩
  show BitVec.toNat (tbl m 0 _) = BitVec.toNat (tbl m 0 _)
  exact congrArg (fun j => BitVec.toNat (tbl m 0 j)) (funext fun a => Fin.ext (by match a with | ⟨0, _⟩ => exact Nat.lt_one_iff.1 (Fin.isLt _)))
theorem idx1 : ∀ t : Fin (cfgM m hO).N, ixs1 m hO t 0 = 0 ∧ ixs1 m hO t 1 = t.val ∧ ixs1 m hO t 2 = 0 :=
  (by decide +kernel : ∀ t : Fin grid0.N, cc0_transform_1 (grid0.coords t) 0 = 0 ∧ cc0_transform_1 (grid0.coords t) 1 = t.val ∧ cc0_transform_1 (grid0.coords t) 2 = 0)
theorem idx2 : ∀ t : Fin (cfgM m hO).N, ixs2 m hO t 0 = t.val ∧ ixs2 m hO t 1 = 0 :=
  (by decide +kernel : ∀ t : Fin grid0.N, cc0_transform_2 (grid0.coords t) 0 = t.val ∧ cc0_transform_2 (grid0.coords t) 1 = 0)
theorem idx3 : ∀ t : Fin (cfgM m hO).N, ixs3 m hO t 0 = t.val ∧ ixs3 m hO t 1 = 0 :=
  (by decide +kernel : ∀ t : Fin grid0.N, cc0_transform_3 (grid0.coords t) 0 = t.val ∧ cc0_transform_3 (grid0.coords t) 1 = 0)
theorem idx4 : ∀ t : Fin (cfgM m hO).N, ixs4 m hO t 0 = t.val ∧ ixs4 m hO t 1 = 0 :=
  (by decide +kernel : ∀ t : Fin grid0.N, cc0_transform_4 (grid0.coords t) 0 = t.val ∧ cc0_transform_4 (grid0.coords t) 1 = 0)
theorem idx5 : ∀ t : Fin (cfgM m hO).N, ixs5 m hO t 0 = t.val ∧ ixs5 m hO t 1 = 0 :=
  (by decide +kernel : ∀ t : Fin grid0.N, cc0_transform_5 (grid0.coords t) 0 = t.val ∧ cc0_transform_5 (grid0.coords t) 1 = 0)
theorem idx6 : ∀ t : Fin (cfgM m hO).N, ixs6 m hO t 0 = t.val ∧ ixs6 m hO t 1 = 0 :=
  (by decide +kernel : ∀ t : Fin grid0.N, cc0_transform_6 (grid0.coords t) 0 = t.val ∧ cc0_transform_6 (grid0.coords t) 1 = 0)
theorem idx7 : ∀ t : Fin (cfgM m hO).N, ixs7 m hO t 0 = t.val ∧ ixs7 m hO t 1 = 0 :=
  (by decide +kernel : ∀ t : Fin grid0.N, cc0_transform_7 (grid0.coords t) 0 = t.val ∧ cc0_transform_7 (grid0.coords t) 1 = 0)
theorem idx8 : ∀ t : Fin (cfgM m hO).N, ixs8 m hO t 0 = t.val ∧ ixs8 m hO t 1 = 0 :=
  (by decide +kernel : ∀ t : Fin grid0.N, cc0_transform_8 (grid0.coords t) 0 = t.val ∧ cc0_transform_8 (grid0.coords t) 1 = 0)

/-- The block of row `i`, and the bounds that say so. -/
def tileOf (i : Fin 192) : Fin (cfgM m hO).N := ⟨i.val / 192, (by omega : i.val / 192 < 1).trans_eq N_0.symm⟩

variable (h8 : (me m).toNat < 8) (t : Fin (cfgM m hO).N) (y : S192x1024.Idx) (z : S192x1024.Idx)
  (h0 : (z 0).val = t.val * 192 + 1 * (y 0).val) (h1 : (z 1).val = 0 * 1024 + 1 * (y 1).val)
include h0 h1

/-- The device's own block, and the landed blocks. -/
theorem blk0 : (iblk m hO c 0 t : S1x192x1024.Idx → EReal) (ValueIdx.ix3 0 (y 0) (y 1)) = sent m c (ValueIdx.ix3 ⟨(me m).toNat, h8⟩ (z 0) (z 1)) := by
  have hi := idx0 m hO t
  show m ((c : Thread nD τ).loc main_arg1) ((((cfgM m hO).win 0).blk t).view.emb (ValueIdx.ix3 0 (y 0) (y 1))) = _
  refine congrArg (m ((c : Thread nD τ).loc main_arg1)) (ext3 (l := 8) (m := 192) (n := 1024) ?_ ?_ ?_)
  · show ixs0 m hO t 0 * 1 + 1 * 0 = (me m).toNat; rw [hi.1]; omega
  · show ixs0 m hO t 1 * 192 + 1 * (y 0).val = (z 0).val; rw [hi.2.1, h0]
  · show ixs0 m hO t 2 * 1024 + 1 * (y 1).val = (z 1).val; rw [hi.2.2, h1]
theorem blk1 (k : Fin 8) : (iblk m hO c 1 t : S8x192x1024.Idx → EReal) (ValueIdx.ix3 k (y 0) (y 1)) = landed m c (ValueIdx.ix3 k (z 0) (z 1)) := by
  have hi := idx1 m hO t
  show m ((c : Thread nD τ).loc main_arg2) ((((cfgM m hO).win 1).blk t).view.emb (ValueIdx.ix3 k (y 0) (y 1))) = _
  refine congrArg (m ((c : Thread nD τ).loc main_arg2)) (ext3 (l := 8) (m := 192) (n := 1024) ?_ ?_ ?_)
  · show ixs1 m hO t 0 * 8 + 1 * k.val = k.val; rw [hi.1]; omega
  · show ixs1 m hO t 1 * 192 + 1 * (y 0).val = (z 0).val; rw [hi.2.1, h0]
  · show ixs1 m hO t 2 * 1024 + 1 * (y 1).val = (z 1).val; rw [hi.2.2, h1]
/-- The blocks of the weight and the means. -/
theorem blk2 : (iblk m hO c 2 t : S192x1024.Idx → EReal) y = wgt m c z := by
  have hi := idx2 m hO t
  show m ((c : Thread nD τ).loc main_arg3) ((((cfgM m hO).win 2).blk t).view.emb y) = _
  refine congrArg (m ((c : Thread nD τ).loc main_arg3)) (ext2 (m := 192) (n := 1024) ?_ ?_)
  · show ixs2 m hO t 0 * 192 + 1 * (y 0).val = (z 0).val; rw [hi.1, h0]
  · show ixs2 m hO t 1 * 1024 + 1 * (y 1).val = (z 1).val; rw [hi.2, h1]
theorem blk3 : (iblk m hO c 3 t : S192x1024.Idx → EReal) y = mean m c z := by
  have hi := idx3 m hO t
  show m ((c : Thread nD τ).loc main_arg4) ((((cfgM m hO).win 3).blk t).view.emb y) = _
  refine congrArg (m ((c : Thread nD τ).loc main_arg4)) (ext2 (m := 192) (n := 1024) ?_ ?_)
  · show ixs3 m hO t 0 * 192 + 1 * (y 0).val = (z 0).val; rw [hi.1, h0]
  · show ixs3 m hO t 1 * 1024 + 1 * (y 1).val = (z 1).val; rw [hi.2, h1]
theorem blk4 : (iblk m hO c 4 t : S192x1024.Idx → EReal) y = sqr m c z := by
  have hi := idx4 m hO t
  show m ((c : Thread nD τ).loc main_arg5) ((((cfgM m hO).win 4).blk t).view.emb y) = _
  refine congrArg (m ((c : Thread nD τ).loc main_arg5)) (ext2 (m := 192) (n := 1024) ?_ ?_)
  · show ixs4 m hO t 0 * 192 + 1 * (y 0).val = (z 0).val; rw [hi.1, h0]
  · show ixs4 m hO t 1 * 1024 + 1 * (y 1).val = (z 1).val; rw [hi.2, h1]

omit h0 h1 in
/-- Every device of the program reads the same number. -/
theorem word_me : word c (tbl m 0) = me m := by
  unfold me
  rfl

include h8 in
/-- A block of the gradient: where the body takes its own block, that is the device's own part. -/
theorem g_blk : bsum (word c (tbl m 0)) (iblk m hO c 0 t) (iblk m hO c 1 t) y = gr m c z := by
  rw [word_me]
  exact own_congr (me m) (fun k h => (blk0 m hO c h8 t y z h0 h1).trans (congrArg (fun j => sent m c (ValueIdx.ix3 j (z 0) (z 1))) (Fin.ext (by
    show (me m).toNat = k.val
    rw [h, BitVec.toNat_ofNat]
    omega)))) fun k => blk1 m hO c t y z h0 h1 k
omit h0 h1 in
/-- What the body leaves in result 0's buffer, at one entry. -/
theorem read5 : ((outsAt0 m hO c t).1 : S192x1024.Idx → EReal) y = bsum (word c (tbl m 0)) (iblk m hO c 0 t) (iblk m hO c 1 t) y := by
  dsimp only [outsAt0]
  exact left5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0) y
include h8 in
theorem res5 : (dats m hO 0 c).after 5 t y = (total (me m) (sent m c) (landed m c)) z := by
  refine (congrFun (after0_5 m hO c t) y).trans ((read5 m hO c t y).trans ?_)
  exact g_blk m hO c h8 t y z h0 h1
omit h0 h1 in
/-- What the body leaves in result 1's buffer, at one entry. -/
theorem read6 : ((outsAt0 m hO c t).2.1 : S192x1024.Idx → EReal) y = delta (bsum (word c (tbl m 0)) (iblk m hO c 0 t) (iblk m hO c 1 t) y) ((iblk m hO c 2 t : S192x1024.Idx → EReal) y) ((iblk m hO c 3 t : S192x1024.Idx → EReal) y) ((iblk m hO c 4 t : S192x1024.Idx → EReal) y) := by
  dsimp only [outsAt0]
  exact left6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0) y
include h8 in
theorem res6 : (dats m hO 0 c).after 6 t y = (deltas (gr m c) (wgt m c) (mean m c) (sqr m c)) z := by
  refine (congrFun (after0_6 m hO c t) y).trans ((read6 m hO c t y).trans ?_)
  exact congr (congr (congr (congrArg delta (g_blk m hO c h8 t y z h0 h1)) (blk2 m hO c t y z h0 h1)) (blk3 m hO c t y z h0 h1)) (blk4 m hO c t y z h0 h1)
omit h0 h1 in
/-- What the body leaves in result 2's buffer, at one entry. -/
theorem read7 : ((outsAt0 m hO c t).2.2.1 : S192x1024.Idx → EReal) y = newM (bsum (word c (tbl m 0)) (iblk m hO c 0 t) (iblk m hO c 1 t) y) ((iblk m hO c 3 t : S192x1024.Idx → EReal) y) := by
  dsimp only [outsAt0]
  exact left7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0) y
include h8 in
theorem res7 : (dats m hO 0 c).after 7 t y = (means (gr m c) (mean m c)) z := by
  refine (congrFun (after0_7 m hO c t) y).trans ((read7 m hO c t y).trans ?_)
  exact congrArg₂ newM (g_blk m hO c h8 t y z h0 h1) (blk3 m hO c t y z h0 h1)
omit h0 h1 in
/-- What the body leaves in result 3's buffer, at one entry. -/
theorem read8 : ((outsAt0 m hO c t).2.2.2 : S192x1024.Idx → EReal) y = newV (bsum (word c (tbl m 0)) (iblk m hO c 0 t) (iblk m hO c 1 t) y) ((iblk m hO c 4 t : S192x1024.Idx → EReal) y) := by
  dsimp only [outsAt0]
  exact left8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0) y
include h8 in
theorem res8 : (dats m hO 0 c).after 8 t y = (squares (gr m c) (sqr m c)) z := by
  refine (congrFun (after0_8 m hO c t) y).trans ((read8 m hO c t y).trans ?_)
  exact congrArg₂ newV (g_blk m hO c h8 t y z h0 h1) (blk4 m hO c t y z h0 h1)

omit h0 h1

include h8

/-- The four results. -/
theorem final5 : (dats m hO 0 c).arrAt 5 (cfgM m hO).N = total (me m) (sent m c) (landed m c) := by
  refine (dats m hO 0 c).arrAt_eq_of_cover 5 (total (me m) (sent m c) (landed m c)) (fun t hf => ?_) (fun (i : S192x1024.Idx) => ⟨tileOf m hO (i 0), flush0_5 _ _, ?_⟩)
  · have hi := idx5 m hO t
    refine funext fun (y : S192x1024.Idx) => ?_
    show (dats m hO 0 c).after 5 t y = (total (me m) (sent m c) (landed m c) : S192x1024.Idx → EReal) ((((cfgM m hO).win 5).blk t).view.emb y)
    refine res5 m hO c h8 t y _ ?_ ?_
    · show ixs5 m hO t 0 * 192 + 1 * (y 0).val = _; rw [hi.1]
    · show ixs5 m hO t 1 * 1024 + 1 * (y 1).val = _; rw [hi.2]
  · have hi := idx5 m hO (tileOf m hO (i 0))
    refine mem_of main_v0_0 (((cfgM m hO).win 5).rect (tileOf m hO (i 0))) i (Rect.mem_set_unit.2 fun a => ?_)
    match a with
    | ⟨0, _⟩ => exact in_tile (b := 192) (by decide) hi.1
    | ⟨1, _⟩ => exact in_row hi.2 (i 1).isLt
theorem final6 : (dats m hO 0 c).arrAt 6 (cfgM m hO).N = deltas (gr m c) (wgt m c) (mean m c) (sqr m c) := by
  refine (dats m hO 0 c).arrAt_eq_of_cover 6 (deltas (gr m c) (wgt m c) (mean m c) (sqr m c)) (fun t hf => ?_) (fun (i : S192x1024.Idx) => ⟨tileOf m hO (i 0), flush0_6 _ _, ?_⟩)
  · have hi := idx6 m hO t
    refine funext fun (y : S192x1024.Idx) => ?_
    show (dats m hO 0 c).after 6 t y = (deltas (gr m c) (wgt m c) (mean m c) (sqr m c) : S192x1024.Idx → EReal) ((((cfgM m hO).win 6).blk t).view.emb y)
    refine res6 m hO c h8 t y _ ?_ ?_
    · show ixs6 m hO t 0 * 192 + 1 * (y 0).val = _; rw [hi.1]
    · show ixs6 m hO t 1 * 1024 + 1 * (y 1).val = _; rw [hi.2]
  · have hi := idx6 m hO (tileOf m hO (i 0))
    refine mem_of main_v0_1 (((cfgM m hO).win 6).rect (tileOf m hO (i 0))) i (Rect.mem_set_unit.2 fun a => ?_)
    match a with
    | ⟨0, _⟩ => exact in_tile (b := 192) (by decide) hi.1
    | ⟨1, _⟩ => exact in_row hi.2 (i 1).isLt
theorem final7 : (dats m hO 0 c).arrAt 7 (cfgM m hO).N = means (gr m c) (mean m c) := by
  refine (dats m hO 0 c).arrAt_eq_of_cover 7 (means (gr m c) (mean m c)) (fun t hf => ?_) (fun (i : S192x1024.Idx) => ⟨tileOf m hO (i 0), flush0_7 _ _, ?_⟩)
  · have hi := idx7 m hO t
    refine funext fun (y : S192x1024.Idx) => ?_
    show (dats m hO 0 c).after 7 t y = (means (gr m c) (mean m c) : S192x1024.Idx → EReal) ((((cfgM m hO).win 7).blk t).view.emb y)
    refine res7 m hO c h8 t y _ ?_ ?_
    · show ixs7 m hO t 0 * 192 + 1 * (y 0).val = _; rw [hi.1]
    · show ixs7 m hO t 1 * 1024 + 1 * (y 1).val = _; rw [hi.2]
  · have hi := idx7 m hO (tileOf m hO (i 0))
    refine mem_of main_v0_2 (((cfgM m hO).win 7).rect (tileOf m hO (i 0))) i (Rect.mem_set_unit.2 fun a => ?_)
    match a with
    | ⟨0, _⟩ => exact in_tile (b := 192) (by decide) hi.1
    | ⟨1, _⟩ => exact in_row hi.2 (i 1).isLt
theorem final8 : (dats m hO 0 c).arrAt 8 (cfgM m hO).N = squares (gr m c) (sqr m c) := by
  refine (dats m hO 0 c).arrAt_eq_of_cover 8 (squares (gr m c) (sqr m c)) (fun t hf => ?_) (fun (i : S192x1024.Idx) => ⟨tileOf m hO (i 0), flush0_8 _ _, ?_⟩)
  · have hi := idx8 m hO t
    refine funext fun (y : S192x1024.Idx) => ?_
    show (dats m hO 0 c).after 8 t y = (squares (gr m c) (sqr m c) : S192x1024.Idx → EReal) ((((cfgM m hO).win 8).blk t).view.emb y)
    refine res8 m hO c h8 t y _ ?_ ?_
    · show ixs8 m hO t 0 * 192 + 1 * (y 0).val = _; rw [hi.1]
    · show ixs8 m hO t 1 * 1024 + 1 * (y 1).val = _; rw [hi.2]
  · have hi := idx8 m hO (tileOf m hO (i 0))
    refine mem_of main_v0_3 (((cfgM m hO).win 8).rect (tileOf m hO (i 0))) i (Rect.mem_set_unit.2 fun a => ?_)
    match a with
    | ⟨0, _⟩ => exact in_tile (b := 192) (by decide) hi.1
    | ⟨1, _⟩ => exact in_row hi.2 (i 1).isLt

end Cert.AdamOutIdeal.Val

end
-- ==== Proof.MeshNumber.lean ====
/-
  A device's number that the precondition admits is below eight.
-/
module

public import Idealize.ShloMosaic.Lib.StableHlo
public import Idealize.ShloMosaic.PureOps

@[expose] public section

namespace Cert.Arr

open Idealize.ShloMosaic

/-- `0 ≤ v` and `v < 8`, compared signed, leave the eight numbers. -/
theorem below_eight {v : BitVec 32} (e : IntOp.andi (IntOp.cmpi .sge v 0#32) (IntOp.cmpi .slt v 8#32) = 1#1) : v.toNat < 8 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

end Cert.Arr
-- ==== Proof.AdamOutValue.lean ====
/-
  `adam_w_out` computes what its reference computes: the sum of the eight devices' parts of the gradient of the output projection's
  weight, the device's own part taken from what it sent, and the optimiser's step on it. The device's number places a window
  on what was sent, so it has to be below eight, which the precondition says.
-/
module

public import proofs.«01_k».proof.Proof.AdamOutFinal
public import proofs.«01_k».proof.Proof.MeshNumber
public import proofs.«01_k».proof.Proof.Gen.AdamOut.Frame
public import proofs.«01_k».proof.Proof.Gen.AdamOutRefIdeal.Read
public import proofs.«01_k».proof.Proof.Gen.AdamOutRefIdeal.Run
public import proofs.«01_k».proof.Proof.Gen.Pre_on_mesh
public import proofs.«01_k».proof.Defs

@[expose] public section

set_option maxRecDepth 16384

noncomputable section

namespace Cert.AdamOut.Mesh

open Cert.AdamOut Cert.AdamOut.Gen Cert.Arr
open Idealize.ShloMosaic Idealize.ShloMosaic.TcCoe Idealize.SL.Sem

/-- The precondition says that the number is below eight. -/
theorem below (m : (ℓ : Loc nD τ sig) → Buf (Elt Bits) ℓ) (h : Cert.Pre_AdamOut m) (x : S1.Idx) : BitVec.toNat (tbl m 0 x) < 8 := by
  have e := congrFun (h 0) x
  simp only [Pre_on_mesh.fn, andi, cmpi, broadcastInDim, constantI] at e
  exact below_eight e

/-- So the window on what was sent stays in it. -/
theorem ok (m : (ℓ : Loc nD τ sig) → Buf (Elt Bits) ℓ) (h : Cert.Pre_AdamOut m) : Ok m := fun i => ⟨fun a => by
    match a with
    | ⟨0, _⟩ =>
      show (BitVec.toNat (tbl m 0 _) + 1) * 1 ≤ 8
      exact (Nat.mul_one _).le.trans (Nat.succ_le_of_lt (below m h _))
    | ⟨1, _⟩ => exact (by decide +kernel : ∀ i : grid0.Coords, ((BitVec.ofNat 32 (i 0).val).toNat + 1) * 192 ≤ 192) i
    | ⟨2, _⟩ => exact (by decide : (0 + 1) * 1024 ≤ 1024),
  .inr (Affine.block_words_dvd (of_decide_eq_true rfl) (by decide))⟩

end Cert.AdamOut.Mesh

namespace Cert.AdamOutIdeal.Mesh

open Cert.AdamOutIdeal Cert.AdamOutIdeal.Gen Cert.Arr
open Idealize.ShloMosaic Idealize.ShloMosaic.TcCoe Idealize.SL.Sem

/-- The precondition says that the number is below eight. -/
theorem below (m : (ℓ : Loc nD τ sig) → Buf (Elt Ideal) ℓ) (h : Cert.Pre_AdamOutIdeal m) (x : S1.Idx) : BitVec.toNat (tbl m 0 x) < 8 := by
  have e := congrFun (h 0) x
  simp only [Pre_on_mesh.fn, andi, cmpi, broadcastInDim, constantI] at e
  exact below_eight e

/-- So the window on what was sent stays in it. -/
theorem ok (m : (ℓ : Loc nD τ sig) → Buf (Elt Ideal) ℓ) (h : Cert.Pre_AdamOutIdeal m) : Ok m := fun i => ⟨fun a => by
    match a with
    | ⟨0, _⟩ =>
      show (BitVec.toNat (tbl m 0 _) + 1) * 1 ≤ 8
      exact (Nat.mul_one _).le.trans (Nat.succ_le_of_lt (below m h _))
    | ⟨1, _⟩ => exact (by decide +kernel : ∀ i : grid0.Coords, ((BitVec.ofNat 32 (i 0).val).toNat + 1) * 192 ≤ 192) i
    | ⟨2, _⟩ => exact (by decide : (0 + 1) * 1024 ≤ 1024),
  .inr (Affine.block_words_dvd (of_decide_eq_true rfl) (by decide))⟩

end Cert.AdamOutIdeal.Mesh

namespace Cert.AdamOutIdeal.Val

open Cert.AdamOutIdeal Cert.AdamOutIdeal.Gen Cert.Arr
open Idealize.ShloMosaic Idealize.ShloMosaic.TcCoe Idealize.SL.Sem

section Ref
open Cert.AdamOutRefIdeal.Read

/-- The part of device `k`, as the reference chooses it. -/
theorem r_part (x : S1.Idx → BitVec 32) (s l : S8x192x1024.Idx → EReal) (j : S8x192x1024.Idx) (k : Fin 8) (h : (j 0).val = k.val) :
    val_main_v6 (F := Ideal) x s l j = if x (ValueIdx.ix1 0) = BitVec.ofNat 32 k.val then s j else l j := by
  rw [val_main_v6_apply, val_main_v3_apply, val_main_v0_apply, val_main_v2_apply, h]
  have e : val_main_v1 (F := Ideal) x (idx_main_v2 j) = x (ValueIdx.ix1 0) :=
    congrArg x (funext fun a => Fin.ext (by match a with | ⟨0, _⟩ => exact Nat.lt_one_iff.1 (Fin.isLt _)))
  rw [e]
  by_cases hk : x (ValueIdx.ix1 0) = BitVec.ofNat 32 k.val
  · rw [if_pos hk]
    exact if_pos (StableHlo.Predicate.cmpi_eq_iff.2 hk.symm)
  · rw [if_neg hk]
    exact if_neg fun e => hk (StableHlo.Predicate.cmpi_eq_iff.1 e).symm

theorem r_total (x : S1.Idx → BitVec 32) (s l : S8x192x1024.Idx → EReal) :
    val_main_v7 (F := Ideal) x s l = total (x (ValueIdx.ix1 0)) s l := by
  funext i
  rw [val_main_v7_apply]
  unfold total own
  refine sum_from czero fun k => (r_part x s l (idx_main_v7 i k) k rfl).trans ?_
  have hj : idx_main_v7 i k = ValueIdx.ix3 k (i 0) (i 1) := ext3 (l := 8) (m := 192) (n := 1024) rfl rfl rfl
  rw [hj]
  rfl
theorem r_means (x : S1.Idx → BitVec 32) (s l : S8x192x1024.Idx → EReal) (m : S192x1024.Idx → EReal) :
    val_main_v12 (F := Ideal) x s l m = means (total (x (ValueIdx.ix1 0)) s l) m := by
  rw [← r_total]; rfl
theorem r_squares (x : S1.Idx → BitVec 32) (s l : S8x192x1024.Idx → EReal) (v : S192x1024.Idx → EReal) :
    val_main_v18 (F := Ideal) x s l v = squares (total (x (ValueIdx.ix1 0)) s l) v := by
  rw [← r_total]; rfl
theorem r_deltas (x : S1.Idx → BitVec 32) (s l : S8x192x1024.Idx → EReal) (w m v : S192x1024.Idx → EReal) :
    val_main_v31 (F := Ideal) x s l w m v = deltas (total (x (ValueIdx.ix1 0)) s l) w m v := by
  rw [← r_total]; rfl

end Ref

end Cert.AdamOutIdeal.Val

open Idealize.ShloMosaic Idealize.ShloMosaic.TcCoe Idealize.SL.Sem Cert.Arr Cert.AdamOutIdeal.Val Cert.AdamOutRefIdeal.Read in
/-- The kernel and the reference compute the same four arrays. -/
theorem Cert.AdamOutIdeal.Val.algebraic : Cert.algebraic_AdamOutIdeal_AdamOutRefIdeal := by
  intro m g m' g' hp hagree
  have hO := Cert.AdamOutIdeal.Mesh.ok m hp
  have h8 : (me m).toNat < 8 := Cert.AdamOutIdeal.Mesh.below m hp _
  refine ⟨fun c => gr m c, fun c => deltas (gr m c) (wgt m c) (mean m c) (sqr m c), fun c => means (gr m c) (mean m c),
    fun c => squares (gr m c) (sqr m c),
    (θ_run Cert.AdamOutIdeal.defs _ _).mono (fun r h c => ?_) (θ_run_and (Cert.AdamOutIdeal.Gen.run_main (F := Ideal) m g hO) (Cert.AdamOutIdeal.Gen.unchanged (F := Ideal) m g hO)),
    (θ_run Cert.AdamOutRefIdeal.defs _ _).mono (fun r h c => ?_) (Cert.AdamOutRefIdeal.Value.run (F := Ideal) m' g')⟩
  · exact ⟨((h.1 c).1 5).trans (final5 m hO c h8), ((h.1 c).1 6).trans (final6 m hO c h8), ((h.1 c).1 7).trans (final7 m hO c h8),
      ((h.1 c).1 8).trans (final8 m hO c h8), h.2 c⟩
  · obtain ⟨h0, h1, h2, h3, hk⟩ := h c
    obtain ⟨e0, e1, e2, e3, e4, e5⟩ := hagree c
    have en : me m = m ((c.tc : Thread Cert.AdamOutIdeal.nD Cert.AdamOutIdeal.τ).loc Cert.AdamOutIdeal.main_arg0) (ValueIdx.ix1 0) := by
      obtain rfl : c = 0 := Subsingleton.elim _ _
      rfl
    refine ⟨h0.trans ((val_main_v7_eq _ _ _).trans ((r_total _ _ _).trans ?_)), h1.trans ((val_main_v31_eq _ _ _ _ _ _).trans ((r_deltas _ _ _ _ _ _).trans ?_)),
      h2.trans ((val_main_v12_eq _ _ _ _).trans ((r_means _ _ _ _).trans ?_)), h3.trans ((val_main_v18_eq _ _ _ _).trans ((r_squares _ _ _ _).trans ?_)), hk⟩
    · show total _ _ _ = total (me m) _ _; rw [e0, e1, e2, en]
    · show deltas (total _ _ _) _ _ _ = deltas (total (me m) _ _) _ _ _; rw [e0, e1, e2, e3, e4, e5, en]
    · show means (total _ _ _) _ = means (total (me m) _ _) _; rw [e0, e1, e2, e4, en]
    · show squares (total _ _ _) _ = squares (total (me m) _ _) _; rw [e0, e1, e2, e5, en]

end
-- ==== Proof.AdamUpKernel.lean ====
/-
  What `adam_w_up` leaves in its four results. The body reads the device's number, adds the eight parts of the gradient of
  the first feed-forward product — the device's own part from its own array, the others as they landed — and takes the optimiser's step.
-/
module

public import proofs.«01_k».proof.Proof.AdamOwn
public import proofs.«01_k».proof.Proof.Gen.AdamUpIdeal.Frame

@[expose] public section

set_option maxRecDepth 16384

noncomputable section

namespace Cert.AdamUpIdeal.Val

open Cert.AdamUpIdeal Cert.AdamUpIdeal.Gen Cert.Arr
open Idealize.ShloMosaic Idealize.ShloMosaic.TcCoe Idealize.SL.Sem

/-- The word read from the table. -/
def word (c : Dev nD) (xt : TbBuf0 (F := Ideal) c tbM0_0) : BitVec 32 := xt (ValueIdx.ix1 0)
theorem rd_word (c : Dev nD) (xt : TbBuf0 (F := Ideal) c tbM0_0) (inb) (j) :
    View.readAt (Elt Ideal) (View.whole main_arg0) (Rect.unit (s := S1) ![0] ![1] inb).toLoadRect xt j = word c xt :=
  congrArg xt (funext fun a => Fin.ext (by match a with | ⟨0, _⟩ => exact Nat.lt_one_iff.1 (Fin.isLt _)))

/-- The sum the body forms, on the blocks. -/
def bsum (me : BitVec 32) (x0 : Vec Ideal S1x512x512 .bf16) (x1 : Vec Ideal S8x512x512 .bf16) : Vec Ideal S512x512 .f32 :=
  fun i => own me (fun _ => x0 (ValueIdx.ix3 0 (i 0) (i 1))) (fun k => x1 (ValueIdx.ix3 k (i 0) (i 1)))

/-- The first seven parts, as the body adds them. -/
def seven (me : BitVec 32) (x0 : Vec Ideal S1x512x512 .bf16) (x1 : Vec Ideal S8x512x512 .bf16) : Vec Ideal S512x512 .f32 :=
  (k0_pay4 (F := Ideal) (k0_pay2 (F := Ideal) me (View.ld x0 (Rect.unit (s := S1x512x512) ![0, 0, 0] ![1, 512, 512] inb_S1x512x512_S1x512x512_0_0_0)) (View.ld x1 (Rect.unit (s := S8x512x512) ![0, 0, 0] ![1, 512, 512] inb_S8x512x512_S1x512x512_0_0_0)) me (View.ld x0 (Rect.unit (s := S1x512x512) ![0, 0, 0] ![1, 512, 512] inb_S1x512x512_S1x512x512_0_0_0)) (View.ld x1 (Rect.unit (s := S8x512x512) ![1, 0, 0] ![1, 512, 512] inb_S8x512x512_S1x512x512_1_0_0)) me (View.ld x0 (Rect.unit (s := S1x512x512) ![0, 0, 0] ![1, 512, 512] inb_S1x512x512_S1x512x512_0_0_0)) (View.ld x1 (Rect.unit (s := S8x512x512) ![2, 0, 0] ![1, 512, 512] inb_S8x512x512_S1x512x512_2_0_0))) (Scalar.cmpi .eq me 3#32) (k0_pay3 (F := Ideal) (View.ld x0 (Rect.unit (s := S1x512x512) ![0, 0, 0] ![1, 512, 512] inb_S1x512x512_S1x512x512_0_0_0))) (View.ld x1 (Rect.unit (s := S8x512x512) ![3, 0, 0] ![1, 512, 512] inb_S8x512x512_S1x512x512_3_0_0)) me (View.ld x0 (Rect.unit (s := S1x512x512) ![0, 0, 0] ![1, 512, 512] inb_S1x512x512_S1x512x512_0_0_0)) (View.ld x1 (Rect.unit (s := S8x512x512) ![4, 0, 0] ![1, 512, 512] inb_S8x512x512_S1x512x512_4_0_0)) me (View.ld x0 (Rect.unit (s := S1x512x512) ![0, 0, 0] ![1, 512, 512] inb_S1x512x512_S1x512x512_0_0_0)) (View.ld x1 (Rect.unit (s := S8x512x512) ![5, 0, 0] ![1, 512, 512] inb_S8x512x512_S1x512x512_5_0_0)) me (View.ld x0 (Rect.unit (s := S1x512x512) ![0, 0, 0] ![1, 512, 512] inb_S1x512x512_S1x512x512_0_0_0)) (View.ld x1 (Rect.unit (s := S8x512x512) ![6, 0, 0] ![1, 512, 512] inb_S8x512x512_S1x512x512_6_0_0)))
theorem grad (me : BitVec 32) (x0 : Vec Ideal S1x512x512 .bf16) (x1 : Vec Ideal S8x512x512 .bf16) (y : S512x512.Idx) :
    k0_pay5 (F := Ideal) (seven me x0 x1) me (View.ld x0 (Rect.unit (s := S1x512x512) ![0, 0, 0] ![1, 512, 512] inb_S1x512x512_S1x512x512_0_0_0)) (View.ld x1 (Rect.unit (s := S8x512x512) ![7, 0, 0] ![1, 512, 512] inb_S8x512x512_S1x512x512_7_0_0)) y = bsum me x0 x1 y := by
  unfold bsum own seven
  simp only [Fin.sum_univ_eight]
  rw [← part me x0 x1 shapeCasts_S1x512x512_S512x512 0 (w := 0#32) rfl (a := 0) rfl inb_S1x512x512_S1x512x512_0_0_0 inb_S8x512x512_S1x512x512_0_0_0 y, ← part me x0 x1 shapeCasts_S1x512x512_S512x512 1 (w := 1#32) rfl (a := 1) rfl inb_S1x512x512_S1x512x512_0_0_0 inb_S8x512x512_S1x512x512_1_0_0 y, ← part me x0 x1 shapeCasts_S1x512x512_S512x512 2 (w := 2#32) rfl (a := 2) rfl inb_S1x512x512_S1x512x512_0_0_0 inb_S8x512x512_S1x512x512_2_0_0 y, ← part me x0 x1 shapeCasts_S1x512x512_S512x512 3 (w := 3#32) rfl (a := 3) rfl inb_S1x512x512_S1x512x512_0_0_0 inb_S8x512x512_S1x512x512_3_0_0 y, ← part me x0 x1 shapeCasts_S1x512x512_S512x512 4 (w := 4#32) rfl (a := 4) rfl inb_S1x512x512_S1x512x512_0_0_0 inb_S8x512x512_S1x512x512_4_0_0 y, ← part me x0 x1 shapeCasts_S1x512x512_S512x512 5 (w := 5#32) rfl (a := 5) rfl inb_S1x512x512_S1x512x512_0_0_0 inb_S8x512x512_S1x512x512_5_0_0 y, ← part me x0 x1 shapeCasts_S1x512x512_S512x512 6 (w := 6#32) rfl (a := 6) rfl inb_S1x512x512_S1x512x512_0_0_0 inb_S8x512x512_S1x512x512_6_0_0 y, ← part me x0 x1 shapeCasts_S1x512x512_S512x512 7 (w := 7#32) rfl (a := 7) rfl inb_S1x512x512_S1x512x512_0_0_0 inb_S8x512x512_S1x512x512_7_0_0 y]
  rfl

/-- A load of a whole block. -/
theorem ld {e : EltTy} (x : Vec Ideal S512x512 e) (inb) : View.ld x (Rect.unit (s := S512x512) ![0, 0] ![512, 512] inb) = x := View.ld_unit_zero z2 _ _

variable (c : Dev nD) (i : grid0.Coords) (arg2 : Memref sig .tc .vmem S1x512x512 .bf16) (harg2 : arg2.IsWhole) (arg3 : Memref sig .tc .vmem S8x512x512 .bf16) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole)
    (x0 : Vec Ideal S1x512x512 .bf16) (x1 : Vec Ideal S8x512x512 .bf16) (x2 : Vec Ideal S512x512 .f32) (x3 : Vec Ideal S512x512 .f32) (x4 : Vec Ideal S512x512 .f32) (xt0 : TbBuf0 (F := Ideal) c tbM0_0)
include c i arg2 harg2 arg3 harg3 arg4 harg4 arg5 harg5 arg6 harg6 arg7 harg7 arg8 harg8 arg9 harg9 arg10 harg10 x0 x1 x2 x3 x4 xt0

/-- What the body leaves in result 0. -/
theorem run5 :
    out0_A_5 c i arg2 harg2 arg3 harg3 arg4 harg4 arg5 harg5 arg6 harg6 arg7 harg7 arg8 harg8 arg9 harg9 arg10 harg10 x0 x1 x2 x3 x4 xt0 = k0_pay5 (kernelRun0_A.sl.r_3 c arg2 harg2 arg3 harg3 x0 x1 xt0) (kernelRun0_A.sl.r c xt0) (View.readAt (Elt Ideal) arg2.view (Rect.unit (s := S1x512x512) ![0, 0, 0] ![1, 512, 512] inb_S1x512x512_S1x512x512_0_0_0).toLoadRect (harg2.unread x0)) (View.readAt (Elt Ideal) arg3.view (Rect.unit (s := S8x512x512) ![7, 0, 0] ![1, 512, 512] inb_S8x512x512_S1x512x512_7_0_0).toLoadRect (harg3.unread x1)) := by
  funext y
  exact st VO0_5 VO0_5.junk inb_S512x512_S512x512_0_0 _ y
theorem pay5 (y : S512x512.Idx) :
    (k0_pay5 (kernelRun0_A.sl.r_3 c arg2 harg2 arg3 harg3 x0 x1 xt0) (kernelRun0_A.sl.r c xt0) (View.readAt (Elt Ideal) arg2.view (Rect.unit (s := S1x512x512) ![0, 0, 0] ![1, 512, 512] inb_S1x512x512_S1x512x512_0_0_0).toLoadRect (harg2.unread x0)) (View.readAt (Elt Ideal) arg3.view (Rect.unit (s := S8x512x512) ![7, 0, 0] ![1, 512, 512] inb_S8x512x512_S1x512x512_7_0_0).toLoadRect (harg3.unread x1)) : Vec Ideal S512x512 .f32) y = (bsum (word c xt0) x0 x1 : Vec Ideal S512x512 .f32) y := by
  delta kernelRun0_A.sl.r_3 kernelRun0_A.sl.r kernelRun0_A.sl.r_1 kernelRun0_A.sl.r_2 kernelRun0_A.sl.v27
  simp only [rd, rd_word]
  have e := grad (word c xt0) x0 x1 y
  unfold seven at e
  exact e
theorem left5 (y : S512x512.Idx) : out0_A_5 c i arg2 harg2 arg3 harg3 arg4 harg4 arg5 harg5 arg6 harg6 arg7 harg7 arg8 harg8 arg9 harg9 arg10 harg10 x0 x1 x2 x3 x4 xt0 y = (bsum (word c xt0) x0 x1 : Vec Ideal S512x512 .f32) y :=
  (congrFun (run5 c i arg2 harg2 arg3 harg3 arg4 harg4 arg5 harg5 arg6 harg6 arg7 harg7 arg8 harg8 arg9 harg9 arg10 harg10 x0 x1 x2 x3 x4 xt0) y).trans (pay5 c i arg2 harg2 arg3 harg3 arg4 harg4 arg5 harg5 arg6 harg6 arg7 harg7 arg8 harg8 arg9 harg9 arg10 harg10 x0 x1 x2 x3 x4 xt0 y)
/-- What the body leaves in result 1. -/
theorem run6 :
    out0_A_6 c i arg2 harg2 arg3 harg3 arg4 harg4 arg5 harg5 arg6 harg6 arg7 harg7 arg8 harg8 arg9 harg9 arg10 harg10 x0 x1 x2 x3 x4 xt0 = k0_pay1 (kernelRun0_A.sl.r_6 c arg2 harg2 arg3 harg3 arg4 harg4 arg5 harg5 arg6 harg6 x0 x1 x2 x3 x4 xt0) kernelRun0_A.sl.cst_63 := by
  funext y
  exact st VO0_6 VO0_6.junk inb_S512x512_S512x512_0_0 _ y
theorem pay6 (y : S512x512.Idx) :
    (k0_pay1 (kernelRun0_A.sl.r_6 c arg2 harg2 arg3 harg3 arg4 harg4 arg5 harg5 arg6 harg6 x0 x1 x2 x3 x4 xt0) kernelRun0_A.sl.cst_63 : Vec Ideal S512x512 .f32) y = (fun i => delta (bsum (word c xt0) x0 x1 i) (x2 i) (x3 i) (x4 i) : Vec Ideal S512x512 .f32) y := by
  delta kernelRun0_A.sl.r_6 kernelRun0_A.sl.r_3 kernelRun0_A.sl.r kernelRun0_A.sl.r_1 kernelRun0_A.sl.r_2 kernelRun0_A.sl.v27
  simp only [rd, rd_word]
  rw [ld, ld, ld, ← grad (word c xt0) x0 x1 y]
  unfold seven
  rfl
theorem left6 (y : S512x512.Idx) : out0_A_6 c i arg2 harg2 arg3 harg3 arg4 harg4 arg5 harg5 arg6 harg6 arg7 harg7 arg8 harg8 arg9 harg9 arg10 harg10 x0 x1 x2 x3 x4 xt0 y = (fun i => delta (bsum (word c xt0) x0 x1 i) (x2 i) (x3 i) (x4 i) : Vec Ideal S512x512 .f32) y :=
  (congrFun (run6 c i arg2 harg2 arg3 harg3 arg4 harg4 arg5 harg5 arg6 harg6 arg7 harg7 arg8 harg8 arg9 harg9 arg10 harg10 x0 x1 x2 x3 x4 xt0) y).trans (pay6 c i arg2 harg2 arg3 harg3 arg4 harg4 arg5 harg5 arg6 harg6 arg7 harg7 arg8 harg8 arg9 harg9 arg10 harg10 x0 x1 x2 x3 x4 xt0 y)
/-- What the body leaves in result 2. -/
theorem run7 :
    out0_A_7 c i arg2 harg2 arg3 harg3 arg4 harg4 arg5 harg5 arg6 harg6 arg7 harg7 arg8 harg8 arg9 harg9 arg10 harg10 x0 x1 x2 x3 x4 xt0 = kernelRun0_A.sl.r_4 c arg2 harg2 arg3 harg3 arg5 harg5 x0 x1 x3 xt0 := by
  funext y
  exact st VO0_7 VO0_7.junk inb_S512x512_S512x512_0_0 _ y
theorem pay7 (y : S512x512.Idx) :
    (kernelRun0_A.sl.r_4 c arg2 harg2 arg3 harg3 arg5 harg5 x0 x1 x3 xt0 : Vec Ideal S512x512 .f32) y = (fun i => newM (bsum (word c xt0) x0 x1 i) (x3 i) : Vec Ideal S512x512 .f32) y := by
  delta kernelRun0_A.sl.r_4 kernelRun0_A.sl.r_3 kernelRun0_A.sl.r kernelRun0_A.sl.r_1 kernelRun0_A.sl.r_2 kernelRun0_A.sl.v27
  simp only [rd, rd_word]
  rw [ld, ← grad (word c xt0) x0 x1 y]
  unfold seven
  rfl
theorem left7 (y : S512x512.Idx) : out0_A_7 c i arg2 harg2 arg3 harg3 arg4 harg4 arg5 harg5 arg6 harg6 arg7 harg7 arg8 harg8 arg9 harg9 arg10 harg10 x0 x1 x2 x3 x4 xt0 y = (fun i => newM (bsum (word c xt0) x0 x1 i) (x3 i) : Vec Ideal S512x512 .f32) y :=
  (congrFun (run7 c i arg2 harg2 arg3 harg3 arg4 harg4 arg5 harg5 arg6 harg6 arg7 harg7 arg8 harg8 arg9 harg9 arg10 harg10 x0 x1 x2 x3 x4 xt0) y).trans (pay7 c i arg2 harg2 arg3 harg3 arg4 harg4 arg5 harg5 arg6 harg6 arg7 harg7 arg8 harg8 arg9 harg9 arg10 harg10 x0 x1 x2 x3 x4 xt0 y)
/-- What the body leaves in result 3. -/
theorem run8 :
    out0_A_8 c i arg2 harg2 arg3 harg3 arg4 harg4 arg5 harg5 arg6 harg6 arg7 harg7 arg8 harg8 arg9 harg9 arg10 harg10 x0 x1 x2 x3 x4 xt0 = kernelRun0_A.sl.r_5 c arg2 harg2 arg3 harg3 arg6 harg6 x0 x1 x4 xt0 := by
  funext y
  exact st VO0_8 VO0_8.junk inb_S512x512_S512x512_0_0 _ y
theorem pay8 (y : S512x512.Idx) :
    (kernelRun0_A.sl.r_5 c arg2 harg2 arg3 harg3 arg6 harg6 x0 x1 x4 xt0 : Vec Ideal S512x512 .f32) y = (fun i => newV (bsum (word c xt0) x0 x1 i) (x4 i) : Vec Ideal S512x512 .f32) y := by
  delta kernelRun0_A.sl.r_5 kernelRun0_A.sl.r_3 kernelRun0_A.sl.r kernelRun0_A.sl.r_1 kernelRun0_A.sl.r_2 kernelRun0_A.sl.v27
  simp only [rd, rd_word]
  rw [ld, ← grad (word c xt0) x0 x1 y]
  unfold seven
  rfl
theorem left8 (y : S512x512.Idx) : out0_A_8 c i arg2 harg2 arg3 harg3 arg4 harg4 arg5 harg5 arg6 harg6 arg7 harg7 arg8 harg8 arg9 harg9 arg10 harg10 x0 x1 x2 x3 x4 xt0 y = (fun i => newV (bsum (word c xt0) x0 x1 i) (x4 i) : Vec Ideal S512x512 .f32) y :=
  (congrFun (run8 c i arg2 harg2 arg3 harg3 arg4 harg4 arg5 harg5 arg6 harg6 arg7 harg7 arg8 harg8 arg9 harg9 arg10 harg10 x0 x1 x2 x3 x4 xt0) y).trans (pay8 c i arg2 harg2 arg3 harg3 arg4 harg4 arg5 harg5 arg6 harg6 arg7 harg7 arg8 harg8 arg9 harg9 arg10 harg10 x0 x1 x2 x3 x4 xt0 y)
end Cert.AdamUpIdeal.Val

end
-- ==== Proof.AdamUpFinal.lean ====
/-
  The four results of `adam_w_up` as wholes: the blocks it writes cover them, and each holds the sum of the parts and the
  optimiser's step on it, when the device's number is below eight.
-/
module

public import proofs.«01_k».proof.Proof.AdamUpKernel
public import Idealize.ShloMosaic.Lib.Pipeline.Value

@[expose] public section

set_option maxRecDepth 16384

noncomputable section

namespace Cert.AdamUpIdeal.Val

open Cert.AdamUpIdeal Cert.AdamUpIdeal.Gen Cert.Arr
open Idealize.ShloMosaic Idealize.ShloMosaic.TcCoe Idealize.SL.Sem

variable (m : (ℓ : Loc nD τ sig) → Buf (Elt Ideal) ℓ) (hO : Ok m) (c : Dev nD)

/-- The device's number, and the arguments. -/
abbrev me : BitVec 32 := word 0 (tbl m 0)
abbrev sent : S8x1024x512.Idx → EReal := m ((c : Thread nD τ).loc main_arg1)
abbrev landed : S8x1024x512.Idx → EReal := m ((c : Thread nD τ).loc main_arg2)
abbrev wgt : S1024x512.Idx → EReal := m ((c : Thread nD τ).loc main_arg3)
abbrev mean : S1024x512.Idx → EReal := m ((c : Thread nD τ).loc main_arg4)
abbrev sqr : S1024x512.Idx → EReal := m ((c : Thread nD τ).loc main_arg5)
abbrev gr : S1024x512.Idx → EReal := total (me m) (sent m c) (landed m c)

/-- Where the windows stand at point `t`. -/
abbrev ixs0 (t : Fin (cfgM m hO).N) : Fin 3 → ℕ := ((cfgM m hO).win 0).index t
abbrev ixs1 (t : Fin (cfgM m hO).N) : Fin 3 → ℕ := ((cfgM m hO).win 1).index t
abbrev ixs2 (t : Fin (cfgM m hO).N) : Fin 2 → ℕ := ((cfgM m hO).win 2).index t
abbrev ixs3 (t : Fin (cfgM m hO).N) : Fin 2 → ℕ := ((cfgM m hO).win 3).index t
abbrev ixs4 (t : Fin (cfgM m hO).N) : Fin 2 → ℕ := ((cfgM m hO).win 4).index t
abbrev ixs5 (t : Fin (cfgM m hO).N) : Fin 2 → ℕ := ((cfgM m hO).win 5).index t
abbrev ixs6 (t : Fin (cfgM m hO).N) : Fin 2 → ℕ := ((cfgM m hO).win 6).index t
abbrev ixs7 (t : Fin (cfgM m hO).N) : Fin 2 → ℕ := ((cfgM m hO).win 7).index t
abbrev ixs8 (t : Fin (cfgM m hO).N) : Fin 2 → ℕ := ((cfgM m hO).win 8).index t
theorem idx0 (t : Fin (cfgM m hO).N) : ixs0 m hO t 0 = (me m).toNat ∧ ixs0 m hO t 1 = t.val ∧ ixs0 m hO t 2 = 0 := by
  refine ⟨?_, (by decide +kernel : ∀ t : Fin grid0.N, (BitVec.ofNat 32 (grid0.coords t 0).val).toNat = t.val) t, rfl⟩
  show BitVec.toNat (tbl m 0 _) = BitVec.toNat (tbl m 0 _)
  exact congrArg (fun j => BitVec.toNat (tbl m 0 j)) (funext fun a => Fin.ext (by match a with | ⟨0, _⟩ => exact Nat.lt_one_iff.1 (Fin.isLt _)))
theorem idx1 : ∀ t : Fin (cfgM m hO).N, ixs1 m hO t 0 = 0 ∧ ixs1 m hO t 1 = t.val ∧ ixs1 m hO t 2 = 0 :=
  (by decide +kernel : ∀ t : Fin grid0.N, cc0_transform_1 (grid0.coords t) 0 = 0 ∧ cc0_transform_1 (grid0.coords t) 1 = t.val ∧ cc0_transform_1 (grid0.coords t) 2 = 0)
theorem idx2 : ∀ t : Fin (cfgM m hO).N, ixs2 m hO t 0 = t.val ∧ ixs2 m hO t 1 = 0 :=
  (by decide +kernel : ∀ t : Fin grid0.N, cc0_transform_2 (grid0.coords t) 0 = t.val ∧ cc0_transform_2 (grid0.coords t) 1 = 0)
theorem idx3 : ∀ t : Fin (cfgM m hO).N, ixs3 m hO t 0 = t.val ∧ ixs3 m hO t 1 = 0 :=
  (by decide +kernel : ∀ t : Fin grid0.N, cc0_transform_3 (grid0.coords t) 0 = t.val ∧ cc0_transform_3 (grid0.coords t) 1 = 0)
theorem idx4 : ∀ t : Fin (cfgM m hO).N, ixs4 m hO t 0 = t.val ∧ ixs4 m hO t 1 = 0 :=
  (by decide +kernel : ∀ t : Fin grid0.N, cc0_transform_4 (grid0.coords t) 0 = t.val ∧ cc0_transform_4 (grid0.coords t) 1 = 0)
theorem idx5 : ∀ t : Fin (cfgM m hO).N, ixs5 m hO t 0 = t.val ∧ ixs5 m hO t 1 = 0 :=
  (by decide +kernel : ∀ t : Fin grid0.N, cc0_transform_5 (grid0.coords t) 0 = t.val ∧ cc0_transform_5 (grid0.coords t) 1 = 0)
theorem idx6 : ∀ t : Fin (cfgM m hO).N, ixs6 m hO t 0 = t.val ∧ ixs6 m hO t 1 = 0 :=
  (by decide +kernel : ∀ t : Fin grid0.N, cc0_transform_6 (grid0.coords t) 0 = t.val ∧ cc0_transform_6 (grid0.coords t) 1 = 0)
theorem idx7 : ∀ t : Fin (cfgM m hO).N, ixs7 m hO t 0 = t.val ∧ ixs7 m hO t 1 = 0 :=
  (by decide +kernel : ∀ t : Fin grid0.N, cc0_transform_7 (grid0.coords t) 0 = t.val ∧ cc0_transform_7 (grid0.coords t) 1 = 0)
theorem idx8 : ∀ t : Fin (cfgM m hO).N, ixs8 m hO t 0 = t.val ∧ ixs8 m hO t 1 = 0 :=
  (by decide +kernel : ∀ t : Fin grid0.N, cc0_transform_8 (grid0.coords t) 0 = t.val ∧ cc0_transform_8 (grid0.coords t) 1 = 0)

/-- The block of row `i`, and the bounds that say so. -/
def tileOf (i : Fin 1024) : Fin (cfgM m hO).N := ⟨i.val / 512, (by omega : i.val / 512 < 2).trans_eq N_0.symm⟩

variable (h8 : (me m).toNat < 8) (t : Fin (cfgM m hO).N) (y : S512x512.Idx) (z : S1024x512.Idx)
  (h0 : (z 0).val = t.val * 512 + 1 * (y 0).val) (h1 : (z 1).val = 0 * 512 + 1 * (y 1).val)
include h0 h1

/-- The device's own block, and the landed blocks. -/
theorem blk0 : (iblk m hO c 0 t : S1x512x512.Idx → EReal) (ValueIdx.ix3 0 (y 0) (y 1)) = sent m c (ValueIdx.ix3 ⟨(me m).toNat, h8⟩ (z 0) (z 1)) := by
  have hi := idx0 m hO t
  show m ((c : Thread nD τ).loc main_arg1) ((((cfgM m hO).win 0).blk t).view.emb (ValueIdx.ix3 0 (y 0) (y 1))) = _
  refine congrArg (m ((c : Thread nD τ).loc main_arg1)) (ext3 (l := 8) (m := 1024) (n := 512) ?_ ?_ ?_)
  · show ixs0 m hO t 0 * 1 + 1 * 0 = (me m).toNat; rw [hi.1]; omega
  · show ixs0 m hO t 1 * 512 + 1 * (y 0).val = (z 0).val; rw [hi.2.1, h0]
  · show ixs0 m hO t 2 * 512 + 1 * (y 1).val = (z 1).val; rw [hi.2.2, h1]
theorem blk1 (k : Fin 8) : (iblk m hO c 1 t : S8x512x512.Idx → EReal) (ValueIdx.ix3 k (y 0) (y 1)) = landed m c (ValueIdx.ix3 k (z 0) (z 1)) := by
  have hi := idx1 m hO t
  show m ((c : Thread nD τ).loc main_arg2) ((((cfgM m hO).win 1).blk t).view.emb (ValueIdx.ix3 k (y 0) (y 1))) = _
  refine congrArg (m ((c : Thread nD τ).loc main_arg2)) (ext3 (l := 8) (m := 1024) (n := 512) ?_ ?_ ?_)
  · show ixs1 m hO t 0 * 8 + 1 * k.val = k.val; rw [hi.1]; omega
  · show ixs1 m hO t 1 * 512 + 1 * (y 0).val = (z 0).val; rw [hi.2.1, h0]
  · show ixs1 m hO t 2 * 512 + 1 * (y 1).val = (z 1).val; rw [hi.2.2, h1]
/-- The blocks of the weight and the means. -/
theorem blk2 : (iblk m hO c 2 t : S512x512.Idx → EReal) y = wgt m c z := by
  have hi := idx2 m hO t
  show m ((c : Thread nD τ).loc main_arg3) ((((cfgM m hO).win 2).blk t).view.emb y) = _
  refine congrArg (m ((c : Thread nD τ).loc main_arg3)) (ext2 (m := 1024) (n := 512) ?_ ?_)
  · show ixs2 m hO t 0 * 512 + 1 * (y 0).val = (z 0).val; rw [hi.1, h0]
  · show ixs2 m hO t 1 * 512 + 1 * (y 1).val = (z 1).val; rw [hi.2, h1]
theorem blk3 : (iblk m hO c 3 t : S512x512.Idx → EReal) y = mean m c z := by
  have hi := idx3 m hO t
  show m ((c : Thread nD τ).loc main_arg4) ((((cfgM m hO).win 3).blk t).view.emb y) = _
  refine congrArg (m ((c : Thread nD τ).loc main_arg4)) (ext2 (m := 1024) (n := 512) ?_ ?_)
  · show ixs3 m hO t 0 * 512 + 1 * (y 0).val = (z 0).val; rw [hi.1, h0]
  · show ixs3 m hO t 1 * 512 + 1 * (y 1).val = (z 1).val; rw [hi.2, h1]
theorem blk4 : (iblk m hO c 4 t : S512x512.Idx → EReal) y = sqr m c z := by
  have hi := idx4 m hO t
  show m ((c : Thread nD τ).loc main_arg5) ((((cfgM m hO).win 4).blk t).view.emb y) = _
  refine congrArg (m ((c : Thread nD τ).loc main_arg5)) (ext2 (m := 1024) (n := 512) ?_ ?_)
  · show ixs4 m hO t 0 * 512 + 1 * (y 0).val = (z 0).val; rw [hi.1, h0]
  · show ixs4 m hO t 1 * 512 + 1 * (y 1).val = (z 1).val; rw [hi.2, h1]

omit h0 h1 in
/-- Every device of the program reads the same number. -/
theorem word_me : word c (tbl m 0) = me m := by
  unfold me
  rfl

include h8 in
/-- A block of the gradient: where the body takes its own block, that is the device's own part. -/
theorem g_blk : bsum (word c (tbl m 0)) (iblk m hO c 0 t) (iblk m hO c 1 t) y = gr m c z := by
  rw [word_me]
  exact own_congr (me m) (fun k h => (blk0 m hO c h8 t y z h0 h1).trans (congrArg (fun j => sent m c (ValueIdx.ix3 j (z 0) (z 1))) (Fin.ext (by
    show (me m).toNat = k.val
    rw [h, BitVec.toNat_ofNat]
    omega)))) fun k => blk1 m hO c t y z h0 h1 k
omit h0 h1 in
/-- What the body leaves in result 0's buffer, at one entry. -/
theorem read5 : ((outsAt0 m hO c t).1 : S512x512.Idx → EReal) y = bsum (word c (tbl m 0)) (iblk m hO c 0 t) (iblk m hO c 1 t) y := by
  dsimp only [outsAt0]
  exact left5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0) y
include h8 in
theorem res5 : (dats m hO 0 c).after 5 t y = (total (me m) (sent m c) (landed m c)) z := by
  refine (congrFun (after0_5 m hO c t) y).trans ((read5 m hO c t y).trans ?_)
  exact g_blk m hO c h8 t y z h0 h1
omit h0 h1 in
/-- What the body leaves in result 1's buffer, at one entry. -/
theorem read6 : ((outsAt0 m hO c t).2.1 : S512x512.Idx → EReal) y = delta (bsum (word c (tbl m 0)) (iblk m hO c 0 t) (iblk m hO c 1 t) y) ((iblk m hO c 2 t : S512x512.Idx → EReal) y) ((iblk m hO c 3 t : S512x512.Idx → EReal) y) ((iblk m hO c 4 t : S512x512.Idx → EReal) y) := by
  dsimp only [outsAt0]
  exact left6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0) y
include h8 in
theorem res6 : (dats m hO 0 c).after 6 t y = (deltas (gr m c) (wgt m c) (mean m c) (sqr m c)) z := by
  refine (congrFun (after0_6 m hO c t) y).trans ((read6 m hO c t y).trans ?_)
  exact congr (congr (congr (congrArg delta (g_blk m hO c h8 t y z h0 h1)) (blk2 m hO c t y z h0 h1)) (blk3 m hO c t y z h0 h1)) (blk4 m hO c t y z h0 h1)
omit h0 h1 in
/-- What the body leaves in result 2's buffer, at one entry. -/
theorem read7 : ((outsAt0 m hO c t).2.2.1 : S512x512.Idx → EReal) y = newM (bsum (word c (tbl m 0)) (iblk m hO c 0 t) (iblk m hO c 1 t) y) ((iblk m hO c 3 t : S512x512.Idx → EReal) y) := by
  dsimp only [outsAt0]
  exact left7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0) y
include h8 in
theorem res7 : (dats m hO 0 c).after 7 t y = (means (gr m c) (mean m c)) z := by
  refine (congrFun (after0_7 m hO c t) y).trans ((read7 m hO c t y).trans ?_)
  exact congrArg₂ newM (g_blk m hO c h8 t y z h0 h1) (blk3 m hO c t y z h0 h1)
omit h0 h1 in
/-- What the body leaves in result 3's buffer, at one entry. -/
theorem read8 : ((outsAt0 m hO c t).2.2.2 : S512x512.Idx → EReal) y = newV (bsum (word c (tbl m 0)) (iblk m hO c 0 t) (iblk m hO c 1 t) y) ((iblk m hO c 4 t : S512x512.Idx → EReal) y) := by
  dsimp only [outsAt0]
  exact left8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0) y
include h8 in
theorem res8 : (dats m hO 0 c).after 8 t y = (squares (gr m c) (sqr m c)) z := by
  refine (congrFun (after0_8 m hO c t) y).trans ((read8 m hO c t y).trans ?_)
  exact congrArg₂ newV (g_blk m hO c h8 t y z h0 h1) (blk4 m hO c t y z h0 h1)

omit h0 h1

include h8

/-- The four results. -/
theorem final5 : (dats m hO 0 c).arrAt 5 (cfgM m hO).N = total (me m) (sent m c) (landed m c) := by
  refine (dats m hO 0 c).arrAt_eq_of_cover 5 (total (me m) (sent m c) (landed m c)) (fun t hf => ?_) (fun (i : S1024x512.Idx) => ⟨tileOf m hO (i 0), flush0_5 _ _, ?_⟩)
  · have hi := idx5 m hO t
    refine funext fun (y : S512x512.Idx) => ?_
    show (dats m hO 0 c).after 5 t y = (total (me m) (sent m c) (landed m c) : S1024x512.Idx → EReal) ((((cfgM m hO).win 5).blk t).view.emb y)
    refine res5 m hO c h8 t y _ ?_ ?_
    · show ixs5 m hO t 0 * 512 + 1 * (y 0).val = _; rw [hi.1]
    · show ixs5 m hO t 1 * 512 + 1 * (y 1).val = _; rw [hi.2]
  · have hi := idx5 m hO (tileOf m hO (i 0))
    refine mem_of main_v0_0 (((cfgM m hO).win 5).rect (tileOf m hO (i 0))) i (Rect.mem_set_unit.2 fun a => ?_)
    match a with
    | ⟨0, _⟩ => exact in_tile (b := 512) (by decide) hi.1
    | ⟨1, _⟩ => exact in_row hi.2 (i 1).isLt
theorem final6 : (dats m hO 0 c).arrAt 6 (cfgM m hO).N = deltas (gr m c) (wgt m c) (mean m c) (sqr m c) := by
  refine (dats m hO 0 c).arrAt_eq_of_cover 6 (deltas (gr m c) (wgt m c) (mean m c) (sqr m c)) (fun t hf => ?_) (fun (i : S1024x512.Idx) => ⟨tileOf m hO (i 0), flush0_6 _ _, ?_⟩)
  · have hi := idx6 m hO t
    refine funext fun (y : S512x512.Idx) => ?_
    show (dats m hO 0 c).after 6 t y = (deltas (gr m c) (wgt m c) (mean m c) (sqr m c) : S1024x512.Idx → EReal) ((((cfgM m hO).win 6).blk t).view.emb y)
    refine res6 m hO c h8 t y _ ?_ ?_
    · show ixs6 m hO t 0 * 512 + 1 * (y 0).val = _; rw [hi.1]
    · show ixs6 m hO t 1 * 512 + 1 * (y 1).val = _; rw [hi.2]
  · have hi := idx6 m hO (tileOf m hO (i 0))
    refine mem_of main_v0_1 (((cfgM m hO).win 6).rect (tileOf m hO (i 0))) i (Rect.mem_set_unit.2 fun a => ?_)
    match a with
    | ⟨0, _⟩ => exact in_tile (b := 512) (by decide) hi.1
    | ⟨1, _⟩ => exact in_row hi.2 (i 1).isLt
theorem final7 : (dats m hO 0 c).arrAt 7 (cfgM m hO).N = means (gr m c) (mean m c) := by
  refine (dats m hO 0 c).arrAt_eq_of_cover 7 (means (gr m c) (mean m c)) (fun t hf => ?_) (fun (i : S1024x512.Idx) => ⟨tileOf m hO (i 0), flush0_7 _ _, ?_⟩)
  · have hi := idx7 m hO t
    refine funext fun (y : S512x512.Idx) => ?_
    show (dats m hO 0 c).after 7 t y = (means (gr m c) (mean m c) : S1024x512.Idx → EReal) ((((cfgM m hO).win 7).blk t).view.emb y)
    refine res7 m hO c h8 t y _ ?_ ?_
    · show ixs7 m hO t 0 * 512 + 1 * (y 0).val = _; rw [hi.1]
    · show ixs7 m hO t 1 * 512 + 1 * (y 1).val = _; rw [hi.2]
  · have hi := idx7 m hO (tileOf m hO (i 0))
    refine mem_of main_v0_2 (((cfgM m hO).win 7).rect (tileOf m hO (i 0))) i (Rect.mem_set_unit.2 fun a => ?_)
    match a with
    | ⟨0, _⟩ => exact in_tile (b := 512) (by decide) hi.1
    | ⟨1, _⟩ => exact in_row hi.2 (i 1).isLt
theorem final8 : (dats m hO 0 c).arrAt 8 (cfgM m hO).N = squares (gr m c) (sqr m c) := by
  refine (dats m hO 0 c).arrAt_eq_of_cover 8 (squares (gr m c) (sqr m c)) (fun t hf => ?_) (fun (i : S1024x512.Idx) => ⟨tileOf m hO (i 0), flush0_8 _ _, ?_⟩)
  · have hi := idx8 m hO t
    refine funext fun (y : S512x512.Idx) => ?_
    show (dats m hO 0 c).after 8 t y = (squares (gr m c) (sqr m c) : S1024x512.Idx → EReal) ((((cfgM m hO).win 8).blk t).view.emb y)
    refine res8 m hO c h8 t y _ ?_ ?_
    · show ixs8 m hO t 0 * 512 + 1 * (y 0).val = _; rw [hi.1]
    · show ixs8 m hO t 1 * 512 + 1 * (y 1).val = _; rw [hi.2]
  · have hi := idx8 m hO (tileOf m hO (i 0))
    refine mem_of main_v0_3 (((cfgM m hO).win 8).rect (tileOf m hO (i 0))) i (Rect.mem_set_unit.2 fun a => ?_)
    match a with
    | ⟨0, _⟩ => exact in_tile (b := 512) (by decide) hi.1
    | ⟨1, _⟩ => exact in_row hi.2 (i 1).isLt

end Cert.AdamUpIdeal.Val

end
-- ==== Proof.AdamUpValue.lean ====
/-
  `adam_w_up` computes what its reference computes: the sum of the eight devices' parts of the gradient of the first feed-forward product's
  weight, the device's own part taken from what it sent, and the optimiser's step on it. The device's number places a window
  on what was sent, so it has to be below eight, which the precondition says.
-/
module

public import proofs.«01_k».proof.Proof.AdamUpFinal
public import proofs.«01_k».proof.Proof.MeshNumber
public import proofs.«01_k».proof.Proof.Gen.AdamUp.Frame
public import proofs.«01_k».proof.Proof.Gen.AdamUpRefIdeal.Read
public import proofs.«01_k».proof.Proof.Gen.AdamUpRefIdeal.Run
public import proofs.«01_k».proof.Proof.Gen.Pre_on_mesh_up
public import proofs.«01_k».proof.Defs

@[expose] public section

set_option maxRecDepth 16384

noncomputable section

namespace Cert.AdamUp.Mesh

open Cert.AdamUp Cert.AdamUp.Gen Cert.Arr
open Idealize.ShloMosaic Idealize.ShloMosaic.TcCoe Idealize.SL.Sem

/-- The precondition says that the number is below eight. -/
theorem below (m : (ℓ : Loc nD τ sig) → Buf (Elt Bits) ℓ) (h : Cert.Pre_AdamUp m) (x : S1.Idx) : BitVec.toNat (tbl m 0 x) < 8 := by
  have e := congrFun (h 0) x
  simp only [Pre_on_mesh_up.fn, andi, cmpi, broadcastInDim, constantI] at e
  exact below_eight e

/-- So the window on what was sent stays in it. -/
theorem ok (m : (ℓ : Loc nD τ sig) → Buf (Elt Bits) ℓ) (h : Cert.Pre_AdamUp m) : Ok m := fun i => ⟨fun a => by
    match a with
    | ⟨0, _⟩ =>
      show (BitVec.toNat (tbl m 0 _) + 1) * 1 ≤ 8
      exact (Nat.mul_one _).le.trans (Nat.succ_le_of_lt (below m h _))
    | ⟨1, _⟩ => exact (by decide +kernel : ∀ i : grid0.Coords, ((BitVec.ofNat 32 (i 0).val).toNat + 1) * 512 ≤ 1024) i
    | ⟨2, _⟩ => exact (by decide : (0 + 1) * 512 ≤ 512),
  .inr (Affine.block_words_dvd (of_decide_eq_true rfl) (by decide))⟩

end Cert.AdamUp.Mesh

namespace Cert.AdamUpIdeal.Mesh

open Cert.AdamUpIdeal Cert.AdamUpIdeal.Gen Cert.Arr
open Idealize.ShloMosaic Idealize.ShloMosaic.TcCoe Idealize.SL.Sem

/-- The precondition says that the number is below eight. -/
theorem below (m : (ℓ : Loc nD τ sig) → Buf (Elt Ideal) ℓ) (h : Cert.Pre_AdamUpIdeal m) (x : S1.Idx) : BitVec.toNat (tbl m 0 x) < 8 := by
  have e := congrFun (h 0) x
  simp only [Pre_on_mesh_up.fn, andi, cmpi, broadcastInDim, constantI] at e
  exact below_eight e

/-- So the window on what was sent stays in it. -/
theorem ok (m : (ℓ : Loc nD τ sig) → Buf (Elt Ideal) ℓ) (h : Cert.Pre_AdamUpIdeal m) : Ok m := fun i => ⟨fun a => by
    match a with
    | ⟨0, _⟩ =>
      show (BitVec.toNat (tbl m 0 _) + 1) * 1 ≤ 8
      exact (Nat.mul_one _).le.trans (Nat.succ_le_of_lt (below m h _))
    | ⟨1, _⟩ => exact (by decide +kernel : ∀ i : grid0.Coords, ((BitVec.ofNat 32 (i 0).val).toNat + 1) * 512 ≤ 1024) i
    | ⟨2, _⟩ => exact (by decide : (0 + 1) * 512 ≤ 512),
  .inr (Affine.block_words_dvd (of_decide_eq_true rfl) (by decide))⟩

end Cert.AdamUpIdeal.Mesh

namespace Cert.AdamUpIdeal.Val

open Cert.AdamUpIdeal Cert.AdamUpIdeal.Gen Cert.Arr
open Idealize.ShloMosaic Idealize.ShloMosaic.TcCoe Idealize.SL.Sem

section Ref
open Cert.AdamUpRefIdeal.Read

/-- The part of device `k`, as the reference chooses it. -/
theorem r_part (x : S1.Idx → BitVec 32) (s l : S8x1024x512.Idx → EReal) (j : S8x1024x512.Idx) (k : Fin 8) (h : (j 0).val = k.val) :
    val_main_v6 (F := Ideal) x s l j = if x (ValueIdx.ix1 0) = BitVec.ofNat 32 k.val then s j else l j := by
  rw [val_main_v6_apply, val_main_v3_apply, val_main_v0_apply, val_main_v2_apply, h]
  have e : val_main_v1 (F := Ideal) x (idx_main_v2 j) = x (ValueIdx.ix1 0) :=
    congrArg x (funext fun a => Fin.ext (by match a with | ⟨0, _⟩ => exact Nat.lt_one_iff.1 (Fin.isLt _)))
  rw [e]
  by_cases hk : x (ValueIdx.ix1 0) = BitVec.ofNat 32 k.val
  · rw [if_pos hk]
    exact if_pos (StableHlo.Predicate.cmpi_eq_iff.2 hk.symm)
  · rw [if_neg hk]
    exact if_neg fun e => hk (StableHlo.Predicate.cmpi_eq_iff.1 e).symm

theorem r_total (x : S1.Idx → BitVec 32) (s l : S8x1024x512.Idx → EReal) :
    val_main_v7 (F := Ideal) x s l = total (x (ValueIdx.ix1 0)) s l := by
  funext i
  rw [val_main_v7_apply]
  unfold total own
  refine sum_from czero fun k => (r_part x s l (idx_main_v7 i k) k rfl).trans ?_
  have hj : idx_main_v7 i k = ValueIdx.ix3 k (i 0) (i 1) := ext3 (l := 8) (m := 1024) (n := 512) rfl rfl rfl
  rw [hj]
  rfl
theorem r_means (x : S1.Idx → BitVec 32) (s l : S8x1024x512.Idx → EReal) (m : S1024x512.Idx → EReal) :
    val_main_v12 (F := Ideal) x s l m = means (total (x (ValueIdx.ix1 0)) s l) m := by
  rw [← r_total]; rfl
theorem r_squares (x : S1.Idx → BitVec 32) (s l : S8x1024x512.Idx → EReal) (v : S1024x512.Idx → EReal) :
    val_main_v18 (F := Ideal) x s l v = squares (total (x (ValueIdx.ix1 0)) s l) v := by
  rw [← r_total]; rfl
theorem r_deltas (x : S1.Idx → BitVec 32) (s l : S8x1024x512.Idx → EReal) (w m v : S1024x512.Idx → EReal) :
    val_main_v31 (F := Ideal) x s l w m v = deltas (total (x (ValueIdx.ix1 0)) s l) w m v := by
  rw [← r_total]; rfl

end Ref

end Cert.AdamUpIdeal.Val

open Idealize.ShloMosaic Idealize.ShloMosaic.TcCoe Idealize.SL.Sem Cert.Arr Cert.AdamUpIdeal.Val Cert.AdamUpRefIdeal.Read in
/-- The kernel and the reference compute the same four arrays. -/
theorem Cert.AdamUpIdeal.Val.algebraic : Cert.algebraic_AdamUpIdeal_AdamUpRefIdeal := by
  intro m g m' g' hp hagree
  have hO := Cert.AdamUpIdeal.Mesh.ok m hp
  have h8 : (me m).toNat < 8 := Cert.AdamUpIdeal.Mesh.below m hp _
  refine ⟨fun c => gr m c, fun c => deltas (gr m c) (wgt m c) (mean m c) (sqr m c), fun c => means (gr m c) (mean m c),
    fun c => squares (gr m c) (sqr m c),
    (θ_run Cert.AdamUpIdeal.defs _ _).mono (fun r h c => ?_) (θ_run_and (Cert.AdamUpIdeal.Gen.run_main (F := Ideal) m g hO) (Cert.AdamUpIdeal.Gen.unchanged (F := Ideal) m g hO)),
    (θ_run Cert.AdamUpRefIdeal.defs _ _).mono (fun r h c => ?_) (Cert.AdamUpRefIdeal.Value.run (F := Ideal) m' g')⟩
  · exact ⟨((h.1 c).1 5).trans (final5 m hO c h8), ((h.1 c).1 6).trans (final6 m hO c h8), ((h.1 c).1 7).trans (final7 m hO c h8),
      ((h.1 c).1 8).trans (final8 m hO c h8), h.2 c⟩
  · obtain ⟨h0, h1, h2, h3, hk⟩ := h c
    obtain ⟨e0, e1, e2, e3, e4, e5⟩ := hagree c
    have en : me m = m ((c.tc : Thread Cert.AdamUpIdeal.nD Cert.AdamUpIdeal.τ).loc Cert.AdamUpIdeal.main_arg0) (ValueIdx.ix1 0) := by
      obtain rfl : c = 0 := Subsingleton.elim _ _
      rfl
    refine ⟨h0.trans ((val_main_v7_eq _ _ _).trans ((r_total _ _ _).trans ?_)), h1.trans ((val_main_v31_eq _ _ _ _ _ _).trans ((r_deltas _ _ _ _ _ _).trans ?_)),
      h2.trans ((val_main_v12_eq _ _ _ _).trans ((r_means _ _ _ _).trans ?_)), h3.trans ((val_main_v18_eq _ _ _ _).trans ((r_squares _ _ _ _).trans ?_)), hk⟩
    · show total _ _ _ = total (me m) _ _; rw [e0, e1, e2, en]
    · show deltas (total _ _ _) _ _ _ = deltas (total (me m) _ _) _ _ _; rw [e0, e1, e2, e3, e4, e5, en]
    · show means (total _ _ _) _ = means (total (me m) _ _) _; rw [e0, e1, e2, e4, en]
    · show squares (total _ _ _) _ = squares (total (me m) _ _) _; rw [e0, e1, e2, e5, en]

end
-- ==== Proof.AdamDownKernel.lean ====
/-
  What `adam_w_down` leaves in its four results. The body reads the device's number, adds the eight parts of the gradient of
  the second feed-forward product — the device's own part from its own array, the others as they landed — and takes the optimiser's step.
-/
module

public import proofs.«01_k».proof.Proof.AdamOwn
public import proofs.«01_k».proof.Proof.Gen.AdamDownIdeal.Frame

@[expose] public section

set_option maxRecDepth 16384

noncomputable section

namespace Cert.AdamDownIdeal.Val

open Cert.AdamDownIdeal Cert.AdamDownIdeal.Gen Cert.Arr
open Idealize.ShloMosaic Idealize.ShloMosaic.TcCoe Idealize.SL.Sem

/-- The word read from the table. -/
def word (c : Dev nD) (xt : TbBuf0 (F := Ideal) c tbM0_0) : BitVec 32 := xt (ValueIdx.ix1 0)
theorem rd_word (c : Dev nD) (xt : TbBuf0 (F := Ideal) c tbM0_0) (inb) (j) :
    View.readAt (Elt Ideal) (View.whole main_arg0) (Rect.unit (s := S1) ![0] ![1] inb).toLoadRect xt j = word c xt :=
  congrArg xt (funext fun a => Fin.ext (by match a with | ⟨0, _⟩ => exact Nat.lt_one_iff.1 (Fin.isLt _)))

/-- The sum the body forms, on the blocks. -/
def bsum (me : BitVec 32) (x0 : Vec Ideal S1x256x1024 .bf16) (x1 : Vec Ideal S8x256x1024 .bf16) : Vec Ideal S256x1024 .f32 :=
  fun i => own me (fun _ => x0 (ValueIdx.ix3 0 (i 0) (i 1))) (fun k => x1 (ValueIdx.ix3 k (i 0) (i 1)))

/-- The first seven parts, as the body adds them. -/
def seven (me : BitVec 32) (x0 : Vec Ideal S1x256x1024 .bf16) (x1 : Vec Ideal S8x256x1024 .bf16) : Vec Ideal S256x1024 .f32 :=
  (k0_pay4 (F := Ideal) (k0_pay2 (F := Ideal) me (View.ld x0 (Rect.unit (s := S1x256x1024) ![0, 0, 0] ![1, 256, 1024] inb_S1x256x1024_S1x256x1024_0_0_0)) (View.ld x1 (Rect.unit (s := S8x256x1024) ![0, 0, 0] ![1, 256, 1024] inb_S8x256x1024_S1x256x1024_0_0_0)) me (View.ld x0 (Rect.unit (s := S1x256x1024) ![0, 0, 0] ![1, 256, 1024] inb_S1x256x1024_S1x256x1024_0_0_0)) (View.ld x1 (Rect.unit (s := S8x256x1024) ![1, 0, 0] ![1, 256, 1024] inb_S8x256x1024_S1x256x1024_1_0_0)) me (View.ld x0 (Rect.unit (s := S1x256x1024) ![0, 0, 0] ![1, 256, 1024] inb_S1x256x1024_S1x256x1024_0_0_0)) (View.ld x1 (Rect.unit (s := S8x256x1024) ![2, 0, 0] ![1, 256, 1024] inb_S8x256x1024_S1x256x1024_2_0_0))) (Scalar.cmpi .eq me 3#32) (k0_pay3 (F := Ideal) (View.ld x0 (Rect.unit (s := S1x256x1024) ![0, 0, 0] ![1, 256, 1024] inb_S1x256x1024_S1x256x1024_0_0_0))) (View.ld x1 (Rect.unit (s := S8x256x1024) ![3, 0, 0] ![1, 256, 1024] inb_S8x256x1024_S1x256x1024_3_0_0)) me (View.ld x0 (Rect.unit (s := S1x256x1024) ![0, 0, 0] ![1, 256, 1024] inb_S1x256x1024_S1x256x1024_0_0_0)) (View.ld x1 (Rect.unit (s := S8x256x1024) ![4, 0, 0] ![1, 256, 1024] inb_S8x256x1024_S1x256x1024_4_0_0)) me (View.ld x0 (Rect.unit (s := S1x256x1024) ![0, 0, 0] ![1, 256, 1024] inb_S1x256x1024_S1x256x1024_0_0_0)) (View.ld x1 (Rect.unit (s := S8x256x1024) ![5, 0, 0] ![1, 256, 1024] inb_S8x256x1024_S1x256x1024_5_0_0)) me (View.ld x0 (Rect.unit (s := S1x256x1024) ![0, 0, 0] ![1, 256, 1024] inb_S1x256x1024_S1x256x1024_0_0_0)) (View.ld x1 (Rect.unit (s := S8x256x1024) ![6, 0, 0] ![1, 256, 1024] inb_S8x256x1024_S1x256x1024_6_0_0)))
theorem grad (me : BitVec 32) (x0 : Vec Ideal S1x256x1024 .bf16) (x1 : Vec Ideal S8x256x1024 .bf16) (y : S256x1024.Idx) :
    k0_pay5 (F := Ideal) (seven me x0 x1) me (View.ld x0 (Rect.unit (s := S1x256x1024) ![0, 0, 0] ![1, 256, 1024] inb_S1x256x1024_S1x256x1024_0_0_0)) (View.ld x1 (Rect.unit (s := S8x256x1024) ![7, 0, 0] ![1, 256, 1024] inb_S8x256x1024_S1x256x1024_7_0_0)) y = bsum me x0 x1 y := by
  unfold bsum own seven
  simp only [Fin.sum_univ_eight]
  rw [← part me x0 x1 shapeCasts_S1x256x1024_S256x1024 0 (w := 0#32) rfl (a := 0) rfl inb_S1x256x1024_S1x256x1024_0_0_0 inb_S8x256x1024_S1x256x1024_0_0_0 y, ← part me x0 x1 shapeCasts_S1x256x1024_S256x1024 1 (w := 1#32) rfl (a := 1) rfl inb_S1x256x1024_S1x256x1024_0_0_0 inb_S8x256x1024_S1x256x1024_1_0_0 y, ← part me x0 x1 shapeCasts_S1x256x1024_S256x1024 2 (w := 2#32) rfl (a := 2) rfl inb_S1x256x1024_S1x256x1024_0_0_0 inb_S8x256x1024_S1x256x1024_2_0_0 y, ← part me x0 x1 shapeCasts_S1x256x1024_S256x1024 3 (w := 3#32) rfl (a := 3) rfl inb_S1x256x1024_S1x256x1024_0_0_0 inb_S8x256x1024_S1x256x1024_3_0_0 y, ← part me x0 x1 shapeCasts_S1x256x1024_S256x1024 4 (w := 4#32) rfl (a := 4) rfl inb_S1x256x1024_S1x256x1024_0_0_0 inb_S8x256x1024_S1x256x1024_4_0_0 y, ← part me x0 x1 shapeCasts_S1x256x1024_S256x1024 5 (w := 5#32) rfl (a := 5) rfl inb_S1x256x1024_S1x256x1024_0_0_0 inb_S8x256x1024_S1x256x1024_5_0_0 y, ← part me x0 x1 shapeCasts_S1x256x1024_S256x1024 6 (w := 6#32) rfl (a := 6) rfl inb_S1x256x1024_S1x256x1024_0_0_0 inb_S8x256x1024_S1x256x1024_6_0_0 y, ← part me x0 x1 shapeCasts_S1x256x1024_S256x1024 7 (w := 7#32) rfl (a := 7) rfl inb_S1x256x1024_S1x256x1024_0_0_0 inb_S8x256x1024_S1x256x1024_7_0_0 y]
  rfl

/-- A load of a whole block. -/
theorem ld {e : EltTy} (x : Vec Ideal S256x1024 e) (inb) : View.ld x (Rect.unit (s := S256x1024) ![0, 0] ![256, 1024] inb) = x := View.ld_unit_zero z2 _ _

variable (c : Dev nD) (i : grid0.Coords) (arg2 : Memref sig .tc .vmem S1x256x1024 .bf16) (harg2 : arg2.IsWhole) (arg3 : Memref sig .tc .vmem S8x256x1024 .bf16) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (arg8 : Memref sig .tc .vmem S256x1024 .f32) (harg8 : arg8.IsWhole) (arg9 : Memref sig .tc .vmem S256x1024 .f32) (harg9 : arg9.IsWhole) (arg10 : Memref sig .tc .vmem S256x1024 .f32) (harg10 : arg10.IsWhole)
    (x0 : Vec Ideal S1x256x1024 .bf16) (x1 : Vec Ideal S8x256x1024 .bf16) (x2 : Vec Ideal S256x1024 .f32) (x3 : Vec Ideal S256x1024 .f32) (x4 : Vec Ideal S256x1024 .f32) (xt0 : TbBuf0 (F := Ideal) c tbM0_0)
include c i arg2 harg2 arg3 harg3 arg4 harg4 arg5 harg5 arg6 harg6 arg7 harg7 arg8 harg8 arg9 harg9 arg10 harg10 x0 x1 x2 x3 x4 xt0

/-- What the body leaves in result 0. -/
theorem run5 :
    out0_A_5 c i arg2 harg2 arg3 harg3 arg4 harg4 arg5 harg5 arg6 harg6 arg7 harg7 arg8 harg8 arg9 harg9 arg10 harg10 x0 x1 x2 x3 x4 xt0 = k0_pay5 (kernelRun0_A.sl.r_3 c arg2 harg2 arg3 harg3 x0 x1 xt0) (kernelRun0_A.sl.r c xt0) (View.readAt (Elt Ideal) arg2.view (Rect.unit (s := S1x256x1024) ![0, 0, 0] ![1, 256, 1024] inb_S1x256x1024_S1x256x1024_0_0_0).toLoadRect (harg2.unread x0)) (View.readAt (Elt Ideal) arg3.view (Rect.unit (s := S8x256x1024) ![7, 0, 0] ![1, 256, 1024] inb_S8x256x1024_S1x256x1024_7_0_0).toLoadRect (harg3.unread x1)) := by
  funext y
  exact st VO0_5 VO0_5.junk inb_S256x1024_S256x1024_0_0 _ y
theorem pay5 (y : S256x1024.Idx) :
    (k0_pay5 (kernelRun0_A.sl.r_3 c arg2 harg2 arg3 harg3 x0 x1 xt0) (kernelRun0_A.sl.r c xt0) (View.readAt (Elt Ideal) arg2.view (Rect.unit (s := S1x256x1024) ![0, 0, 0] ![1, 256, 1024] inb_S1x256x1024_S1x256x1024_0_0_0).toLoadRect (harg2.unread x0)) (View.readAt (Elt Ideal) arg3.view (Rect.unit (s := S8x256x1024) ![7, 0, 0] ![1, 256, 1024] inb_S8x256x1024_S1x256x1024_7_0_0).toLoadRect (harg3.unread x1)) : Vec Ideal S256x1024 .f32) y = (bsum (word c xt0) x0 x1 : Vec Ideal S256x1024 .f32) y := by
  delta kernelRun0_A.sl.r_3 kernelRun0_A.sl.r kernelRun0_A.sl.r_1 kernelRun0_A.sl.r_2 kernelRun0_A.sl.v27
  simp only [rd, rd_word]
  have e := grad (word c xt0) x0 x1 y
  unfold seven at e
  exact e
theorem left5 (y : S256x1024.Idx) : out0_A_5 c i arg2 harg2 arg3 harg3 arg4 harg4 arg5 harg5 arg6 harg6 arg7 harg7 arg8 harg8 arg9 harg9 arg10 harg10 x0 x1 x2 x3 x4 xt0 y = (bsum (word c xt0) x0 x1 : Vec Ideal S256x1024 .f32) y :=
  (congrFun (run5 c i arg2 harg2 arg3 harg3 arg4 harg4 arg5 harg5 arg6 harg6 arg7 harg7 arg8 harg8 arg9 harg9 arg10 harg10 x0 x1 x2 x3 x4 xt0) y).trans (pay5 c i arg2 harg2 arg3 harg3 arg4 harg4 arg5 harg5 arg6 harg6 arg7 harg7 arg8 harg8 arg9 harg9 arg10 harg10 x0 x1 x2 x3 x4 xt0 y)
/-- What the body leaves in result 1. -/
theorem run6 :
    out0_A_6 c i arg2 harg2 arg3 harg3 arg4 harg4 arg5 harg5 arg6 harg6 arg7 harg7 arg8 harg8 arg9 harg9 arg10 harg10 x0 x1 x2 x3 x4 xt0 = k0_pay1 (kernelRun0_A.sl.r_6 c arg2 harg2 arg3 harg3 arg4 harg4 arg5 harg5 arg6 harg6 x0 x1 x2 x3 x4 xt0) kernelRun0_A.sl.cst_63 := by
  funext y
  exact st VO0_6 VO0_6.junk inb_S256x1024_S256x1024_0_0 _ y
theorem pay6 (y : S256x1024.Idx) :
    (k0_pay1 (kernelRun0_A.sl.r_6 c arg2 harg2 arg3 harg3 arg4 harg4 arg5 harg5 arg6 harg6 x0 x1 x2 x3 x4 xt0) kernelRun0_A.sl.cst_63 : Vec Ideal S256x1024 .f32) y = (fun i => delta (bsum (word c xt0) x0 x1 i) (x2 i) (x3 i) (x4 i) : Vec Ideal S256x1024 .f32) y := by
  delta kernelRun0_A.sl.r_6 kernelRun0_A.sl.r_3 kernelRun0_A.sl.r kernelRun0_A.sl.r_1 kernelRun0_A.sl.r_2 kernelRun0_A.sl.v27
  simp only [rd, rd_word]
  rw [ld, ld, ld, ← grad (word c xt0) x0 x1 y]
  unfold seven
  rfl
theorem left6 (y : S256x1024.Idx) : out0_A_6 c i arg2 harg2 arg3 harg3 arg4 harg4 arg5 harg5 arg6 harg6 arg7 harg7 arg8 harg8 arg9 harg9 arg10 harg10 x0 x1 x2 x3 x4 xt0 y = (fun i => delta (bsum (word c xt0) x0 x1 i) (x2 i) (x3 i) (x4 i) : Vec Ideal S256x1024 .f32) y :=
  (congrFun (run6 c i arg2 harg2 arg3 harg3 arg4 harg4 arg5 harg5 arg6 harg6 arg7 harg7 arg8 harg8 arg9 harg9 arg10 harg10 x0 x1 x2 x3 x4 xt0) y).trans (pay6 c i arg2 harg2 arg3 harg3 arg4 harg4 arg5 harg5 arg6 harg6 arg7 harg7 arg8 harg8 arg9 harg9 arg10 harg10 x0 x1 x2 x3 x4 xt0 y)
/-- What the body leaves in result 2. -/
theorem run7 :
    out0_A_7 c i arg2 harg2 arg3 harg3 arg4 harg4 arg5 harg5 arg6 harg6 arg7 harg7 arg8 harg8 arg9 harg9 arg10 harg10 x0 x1 x2 x3 x4 xt0 = kernelRun0_A.sl.r_4 c arg2 harg2 arg3 harg3 arg5 harg5 x0 x1 x3 xt0 := by
  funext y
  exact st VO0_7 VO0_7.junk inb_S256x1024_S256x1024_0_0 _ y
theorem pay7 (y : S256x1024.Idx) :
    (kernelRun0_A.sl.r_4 c arg2 harg2 arg3 harg3 arg5 harg5 x0 x1 x3 xt0 : Vec Ideal S256x1024 .f32) y = (fun i => newM (bsum (word c xt0) x0 x1 i) (x3 i) : Vec Ideal S256x1024 .f32) y := by
  delta kernelRun0_A.sl.r_4 kernelRun0_A.sl.r_3 kernelRun0_A.sl.r kernelRun0_A.sl.r_1 kernelRun0_A.sl.r_2 kernelRun0_A.sl.v27
  simp only [rd, rd_word]
  rw [ld, ← grad (word c xt0) x0 x1 y]
  unfold seven
  rfl
theorem left7 (y : S256x1024.Idx) : out0_A_7 c i arg2 harg2 arg3 harg3 arg4 harg4 arg5 harg5 arg6 harg6 arg7 harg7 arg8 harg8 arg9 harg9 arg10 harg10 x0 x1 x2 x3 x4 xt0 y = (fun i => newM (bsum (word c xt0) x0 x1 i) (x3 i) : Vec Ideal S256x1024 .f32) y :=
  (congrFun (run7 c i arg2 harg2 arg3 harg3 arg4 harg4 arg5 harg5 arg6 harg6 arg7 harg7 arg8 harg8 arg9 harg9 arg10 harg10 x0 x1 x2 x3 x4 xt0) y).trans (pay7 c i arg2 harg2 arg3 harg3 arg4 harg4 arg5 harg5 arg6 harg6 arg7 harg7 arg8 harg8 arg9 harg9 arg10 harg10 x0 x1 x2 x3 x4 xt0 y)
/-- What the body leaves in result 3. -/
theorem run8 :
    out0_A_8 c i arg2 harg2 arg3 harg3 arg4 harg4 arg5 harg5 arg6 harg6 arg7 harg7 arg8 harg8 arg9 harg9 arg10 harg10 x0 x1 x2 x3 x4 xt0 = kernelRun0_A.sl.r_5 c arg2 harg2 arg3 harg3 arg6 harg6 x0 x1 x4 xt0 := by
  funext y
  exact st VO0_8 VO0_8.junk inb_S256x1024_S256x1024_0_0 _ y
theorem pay8 (y : S256x1024.Idx) :
    (kernelRun0_A.sl.r_5 c arg2 harg2 arg3 harg3 arg6 harg6 x0 x1 x4 xt0 : Vec Ideal S256x1024 .f32) y = (fun i => newV (bsum (word c xt0) x0 x1 i) (x4 i) : Vec Ideal S256x1024 .f32) y := by
  delta kernelRun0_A.sl.r_5 kernelRun0_A.sl.r_3 kernelRun0_A.sl.r kernelRun0_A.sl.r_1 kernelRun0_A.sl.r_2 kernelRun0_A.sl.v27
  simp only [rd, rd_word]
  rw [ld, ← grad (word c xt0) x0 x1 y]
  unfold seven
  rfl
theorem left8 (y : S256x1024.Idx) : out0_A_8 c i arg2 harg2 arg3 harg3 arg4 harg4 arg5 harg5 arg6 harg6 arg7 harg7 arg8 harg8 arg9 harg9 arg10 harg10 x0 x1 x2 x3 x4 xt0 y = (fun i => newV (bsum (word c xt0) x0 x1 i) (x4 i) : Vec Ideal S256x1024 .f32) y :=
  (congrFun (run8 c i arg2 harg2 arg3 harg3 arg4 harg4 arg5 harg5 arg6 harg6 arg7 harg7 arg8 harg8 arg9 harg9 arg10 harg10 x0 x1 x2 x3 x4 xt0) y).trans (pay8 c i arg2 harg2 arg3 harg3 arg4 harg4 arg5 harg5 arg6 harg6 arg7 harg7 arg8 harg8 arg9 harg9 arg10 harg10 x0 x1 x2 x3 x4 xt0 y)
end Cert.AdamDownIdeal.Val

end
-- ==== Proof.AdamDownFinal.lean ====
/-
  The four results of `adam_w_down` as wholes: the blocks it writes cover them, and each holds the sum of the parts and the
  optimiser's step on it, when the device's number is below eight.
-/
module

public import proofs.«01_k».proof.Proof.AdamDownKernel
public import Idealize.ShloMosaic.Lib.Pipeline.Value

@[expose] public section

set_option maxRecDepth 16384

noncomputable section

namespace Cert.AdamDownIdeal.Val

open Cert.AdamDownIdeal Cert.AdamDownIdeal.Gen Cert.Arr
open Idealize.ShloMosaic Idealize.ShloMosaic.TcCoe Idealize.SL.Sem

variable (m : (ℓ : Loc nD τ sig) → Buf (Elt Ideal) ℓ) (hO : Ok m) (c : Dev nD)

/-- The device's number, and the arguments. -/
abbrev me : BitVec 32 := word 0 (tbl m 0)
abbrev sent : S8x512x1024.Idx → EReal := m ((c : Thread nD τ).loc main_arg1)
abbrev landed : S8x512x1024.Idx → EReal := m ((c : Thread nD τ).loc main_arg2)
abbrev wgt : S512x1024.Idx → EReal := m ((c : Thread nD τ).loc main_arg3)
abbrev mean : S512x1024.Idx → EReal := m ((c : Thread nD τ).loc main_arg4)
abbrev sqr : S512x1024.Idx → EReal := m ((c : Thread nD τ).loc main_arg5)
abbrev gr : S512x1024.Idx → EReal := total (me m) (sent m c) (landed m c)

/-- Where the windows stand at point `t`. -/
abbrev ixs0 (t : Fin (cfgM m hO).N) : Fin 3 → ℕ := ((cfgM m hO).win 0).index t
abbrev ixs1 (t : Fin (cfgM m hO).N) : Fin 3 → ℕ := ((cfgM m hO).win 1).index t
abbrev ixs2 (t : Fin (cfgM m hO).N) : Fin 2 → ℕ := ((cfgM m hO).win 2).index t
abbrev ixs3 (t : Fin (cfgM m hO).N) : Fin 2 → ℕ := ((cfgM m hO).win 3).index t
abbrev ixs4 (t : Fin (cfgM m hO).N) : Fin 2 → ℕ := ((cfgM m hO).win 4).index t
abbrev ixs5 (t : Fin (cfgM m hO).N) : Fin 2 → ℕ := ((cfgM m hO).win 5).index t
abbrev ixs6 (t : Fin (cfgM m hO).N) : Fin 2 → ℕ := ((cfgM m hO).win 6).index t
abbrev ixs7 (t : Fin (cfgM m hO).N) : Fin 2 → ℕ := ((cfgM m hO).win 7).index t
abbrev ixs8 (t : Fin (cfgM m hO).N) : Fin 2 → ℕ := ((cfgM m hO).win 8).index t
theorem idx0 (t : Fin (cfgM m hO).N) : ixs0 m hO t 0 = (me m).toNat ∧ ixs0 m hO t 1 = t.val ∧ ixs0 m hO t 2 = 0 := by
  refine ⟨?_, (by decide +kernel : ∀ t : Fin grid0.N, (BitVec.ofNat 32 (grid0.coords t 0).val).toNat = t.val) t, rfl⟩
  show BitVec.toNat (tbl m 0 _) = BitVec.toNat (tbl m 0 _)
  exact congrArg (fun j => BitVec.toNat (tbl m 0 j)) (funext fun a => Fin.ext (by match a with | ⟨0, _⟩ => exact Nat.lt_one_iff.1 (Fin.isLt _)))
theorem idx1 : ∀ t : Fin (cfgM m hO).N, ixs1 m hO t 0 = 0 ∧ ixs1 m hO t 1 = t.val ∧ ixs1 m hO t 2 = 0 :=
  (by decide +kernel : ∀ t : Fin grid0.N, cc0_transform_1 (grid0.coords t) 0 = 0 ∧ cc0_transform_1 (grid0.coords t) 1 = t.val ∧ cc0_transform_1 (grid0.coords t) 2 = 0)
theorem idx2 : ∀ t : Fin (cfgM m hO).N, ixs2 m hO t 0 = t.val ∧ ixs2 m hO t 1 = 0 :=
  (by decide +kernel : ∀ t : Fin grid0.N, cc0_transform_2 (grid0.coords t) 0 = t.val ∧ cc0_transform_2 (grid0.coords t) 1 = 0)
theorem idx3 : ∀ t : Fin (cfgM m hO).N, ixs3 m hO t 0 = t.val ∧ ixs3 m hO t 1 = 0 :=
  (by decide +kernel : ∀ t : Fin grid0.N, cc0_transform_3 (grid0.coords t) 0 = t.val ∧ cc0_transform_3 (grid0.coords t) 1 = 0)
theorem idx4 : ∀ t : Fin (cfgM m hO).N, ixs4 m hO t 0 = t.val ∧ ixs4 m hO t 1 = 0 :=
  (by decide +kernel : ∀ t : Fin grid0.N, cc0_transform_4 (grid0.coords t) 0 = t.val ∧ cc0_transform_4 (grid0.coords t) 1 = 0)
theorem idx5 : ∀ t : Fin (cfgM m hO).N, ixs5 m hO t 0 = t.val ∧ ixs5 m hO t 1 = 0 :=
  (by decide +kernel : ∀ t : Fin grid0.N, cc0_transform_5 (grid0.coords t) 0 = t.val ∧ cc0_transform_5 (grid0.coords t) 1 = 0)
theorem idx6 : ∀ t : Fin (cfgM m hO).N, ixs6 m hO t 0 = t.val ∧ ixs6 m hO t 1 = 0 :=
  (by decide +kernel : ∀ t : Fin grid0.N, cc0_transform_6 (grid0.coords t) 0 = t.val ∧ cc0_transform_6 (grid0.coords t) 1 = 0)
theorem idx7 : ∀ t : Fin (cfgM m hO).N, ixs7 m hO t 0 = t.val ∧ ixs7 m hO t 1 = 0 :=
  (by decide +kernel : ∀ t : Fin grid0.N, cc0_transform_7 (grid0.coords t) 0 = t.val ∧ cc0_transform_7 (grid0.coords t) 1 = 0)
theorem idx8 : ∀ t : Fin (cfgM m hO).N, ixs8 m hO t 0 = t.val ∧ ixs8 m hO t 1 = 0 :=
  (by decide +kernel : ∀ t : Fin grid0.N, cc0_transform_8 (grid0.coords t) 0 = t.val ∧ cc0_transform_8 (grid0.coords t) 1 = 0)

/-- The block of row `i`, and the bounds that say so. -/
def tileOf (i : Fin 512) : Fin (cfgM m hO).N := ⟨i.val / 256, (by omega : i.val / 256 < 2).trans_eq N_0.symm⟩

variable (h8 : (me m).toNat < 8) (t : Fin (cfgM m hO).N) (y : S256x1024.Idx) (z : S512x1024.Idx)
  (h0 : (z 0).val = t.val * 256 + 1 * (y 0).val) (h1 : (z 1).val = 0 * 1024 + 1 * (y 1).val)
include h0 h1

/-- The device's own block, and the landed blocks. -/
theorem blk0 : (iblk m hO c 0 t : S1x256x1024.Idx → EReal) (ValueIdx.ix3 0 (y 0) (y 1)) = sent m c (ValueIdx.ix3 ⟨(me m).toNat, h8⟩ (z 0) (z 1)) := by
  have hi := idx0 m hO t
  show m ((c : Thread nD τ).loc main_arg1) ((((cfgM m hO).win 0).blk t).view.emb (ValueIdx.ix3 0 (y 0) (y 1))) = _
  refine congrArg (m ((c : Thread nD τ).loc main_arg1)) (ext3 (l := 8) (m := 512) (n := 1024) ?_ ?_ ?_)
  · show ixs0 m hO t 0 * 1 + 1 * 0 = (me m).toNat; rw [hi.1]; omega
  · show ixs0 m hO t 1 * 256 + 1 * (y 0).val = (z 0).val; rw [hi.2.1, h0]
  · show ixs0 m hO t 2 * 1024 + 1 * (y 1).val = (z 1).val; rw [hi.2.2, h1]
theorem blk1 (k : Fin 8) : (iblk m hO c 1 t : S8x256x1024.Idx → EReal) (ValueIdx.ix3 k (y 0) (y 1)) = landed m c (ValueIdx.ix3 k (z 0) (z 1)) := by
  have hi := idx1 m hO t
  show m ((c : Thread nD τ).loc main_arg2) ((((cfgM m hO).win 1).blk t).view.emb (ValueIdx.ix3 k (y 0) (y 1))) = _
  refine congrArg (m ((c : Thread nD τ).loc main_arg2)) (ext3 (l := 8) (m := 512) (n := 1024) ?_ ?_ ?_)
  · show ixs1 m hO t 0 * 8 + 1 * k.val = k.val; rw [hi.1]; omega
  · show ixs1 m hO t 1 * 256 + 1 * (y 0).val = (z 0).val; rw [hi.2.1, h0]
  · show ixs1 m hO t 2 * 1024 + 1 * (y 1).val = (z 1).val; rw [hi.2.2, h1]
/-- The blocks of the weight and the means. -/
theorem blk2 : (iblk m hO c 2 t : S256x1024.Idx → EReal) y = wgt m c z := by
  have hi := idx2 m hO t
  show m ((c : Thread nD τ).loc main_arg3) ((((cfgM m hO).win 2).blk t).view.emb y) = _
  refine congrArg (m ((c : Thread nD τ).loc main_arg3)) (ext2 (m := 512) (n := 1024) ?_ ?_)
  · show ixs2 m hO t 0 * 256 + 1 * (y 0).val = (z 0).val; rw [hi.1, h0]
  · show ixs2 m hO t 1 * 1024 + 1 * (y 1).val = (z 1).val; rw [hi.2, h1]
theorem blk3 : (iblk m hO c 3 t : S256x1024.Idx → EReal) y = mean m c z := by
  have hi := idx3 m hO t
  show m ((c : Thread nD τ).loc main_arg4) ((((cfgM m hO).win 3).blk t).view.emb y) = _
  refine congrArg (m ((c : Thread nD τ).loc main_arg4)) (ext2 (m := 512) (n := 1024) ?_ ?_)
  · show ixs3 m hO t 0 * 256 + 1 * (y 0).val = (z 0).val; rw [hi.1, h0]
  · show ixs3 m hO t 1 * 1024 + 1 * (y 1).val = (z 1).val; rw [hi.2, h1]
theorem blk4 : (iblk m hO c 4 t : S256x1024.Idx → EReal) y = sqr m c z := by
  have hi := idx4 m hO t
  show m ((c : Thread nD τ).loc main_arg5) ((((cfgM m hO).win 4).blk t).view.emb y) = _
  refine congrArg (m ((c : Thread nD τ).loc main_arg5)) (ext2 (m := 512) (n := 1024) ?_ ?_)
  · show ixs4 m hO t 0 * 256 + 1 * (y 0).val = (z 0).val; rw [hi.1, h0]
  · show ixs4 m hO t 1 * 1024 + 1 * (y 1).val = (z 1).val; rw [hi.2, h1]

omit h0 h1 in
/-- Every device of the program reads the same number. -/
theorem word_me : word c (tbl m 0) = me m := by
  unfold me
  rfl

include h8 in
/-- A block of the gradient: where the body takes its own block, that is the device's own part. -/
theorem g_blk : bsum (word c (tbl m 0)) (iblk m hO c 0 t) (iblk m hO c 1 t) y = gr m c z := by
  rw [word_me]
  exact own_congr (me m) (fun k h => (blk0 m hO c h8 t y z h0 h1).trans (congrArg (fun j => sent m c (ValueIdx.ix3 j (z 0) (z 1))) (Fin.ext (by
    show (me m).toNat = k.val
    rw [h, BitVec.toNat_ofNat]
    omega)))) fun k => blk1 m hO c t y z h0 h1 k
omit h0 h1 in
/-- What the body leaves in result 0's buffer, at one entry. -/
theorem read5 : ((outsAt0 m hO c t).1 : S256x1024.Idx → EReal) y = bsum (word c (tbl m 0)) (iblk m hO c 0 t) (iblk m hO c 1 t) y := by
  dsimp only [outsAt0]
  exact left5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0) y
include h8 in
theorem res5 : (dats m hO 0 c).after 5 t y = (total (me m) (sent m c) (landed m c)) z := by
  refine (congrFun (after0_5 m hO c t) y).trans ((read5 m hO c t y).trans ?_)
  exact g_blk m hO c h8 t y z h0 h1
omit h0 h1 in
/-- What the body leaves in result 1's buffer, at one entry. -/
theorem read6 : ((outsAt0 m hO c t).2.1 : S256x1024.Idx → EReal) y = delta (bsum (word c (tbl m 0)) (iblk m hO c 0 t) (iblk m hO c 1 t) y) ((iblk m hO c 2 t : S256x1024.Idx → EReal) y) ((iblk m hO c 3 t : S256x1024.Idx → EReal) y) ((iblk m hO c 4 t : S256x1024.Idx → EReal) y) := by
  dsimp only [outsAt0]
  exact left6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0) y
include h8 in
theorem res6 : (dats m hO 0 c).after 6 t y = (deltas (gr m c) (wgt m c) (mean m c) (sqr m c)) z := by
  refine (congrFun (after0_6 m hO c t) y).trans ((read6 m hO c t y).trans ?_)
  exact congr (congr (congr (congrArg delta (g_blk m hO c h8 t y z h0 h1)) (blk2 m hO c t y z h0 h1)) (blk3 m hO c t y z h0 h1)) (blk4 m hO c t y z h0 h1)
omit h0 h1 in
/-- What the body leaves in result 2's buffer, at one entry. -/
theorem read7 : ((outsAt0 m hO c t).2.2.1 : S256x1024.Idx → EReal) y = newM (bsum (word c (tbl m 0)) (iblk m hO c 0 t) (iblk m hO c 1 t) y) ((iblk m hO c 3 t : S256x1024.Idx → EReal) y) := by
  dsimp only [outsAt0]
  exact left7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0) y
include h8 in
theorem res7 : (dats m hO 0 c).after 7 t y = (means (gr m c) (mean m c)) z := by
  refine (congrFun (after0_7 m hO c t) y).trans ((read7 m hO c t y).trans ?_)
  exact congrArg₂ newM (g_blk m hO c h8 t y z h0 h1) (blk3 m hO c t y z h0 h1)
omit h0 h1 in
/-- What the body leaves in result 3's buffer, at one entry. -/
theorem read8 : ((outsAt0 m hO c t).2.2.2 : S256x1024.Idx → EReal) y = newV (bsum (word c (tbl m 0)) (iblk m hO c 0 t) (iblk m hO c 1 t) y) ((iblk m hO c 4 t : S256x1024.Idx → EReal) y) := by
  dsimp only [outsAt0]
  exact left8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0) y
include h8 in
theorem res8 : (dats m hO 0 c).after 8 t y = (squares (gr m c) (sqr m c)) z := by
  refine (congrFun (after0_8 m hO c t) y).trans ((read8 m hO c t y).trans ?_)
  exact congrArg₂ newV (g_blk m hO c h8 t y z h0 h1) (blk4 m hO c t y z h0 h1)

omit h0 h1

include h8

/-- The four results. -/
theorem final5 : (dats m hO 0 c).arrAt 5 (cfgM m hO).N = total (me m) (sent m c) (landed m c) := by
  refine (dats m hO 0 c).arrAt_eq_of_cover 5 (total (me m) (sent m c) (landed m c)) (fun t hf => ?_) (fun (i : S512x1024.Idx) => ⟨tileOf m hO (i 0), flush0_5 _ _, ?_⟩)
  · have hi := idx5 m hO t
    refine funext fun (y : S256x1024.Idx) => ?_
    show (dats m hO 0 c).after 5 t y = (total (me m) (sent m c) (landed m c) : S512x1024.Idx → EReal) ((((cfgM m hO).win 5).blk t).view.emb y)
    refine res5 m hO c h8 t y _ ?_ ?_
    · show ixs5 m hO t 0 * 256 + 1 * (y 0).val = _; rw [hi.1]
    · show ixs5 m hO t 1 * 1024 + 1 * (y 1).val = _; rw [hi.2]
  · have hi := idx5 m hO (tileOf m hO (i 0))
    refine mem_of main_v0_0 (((cfgM m hO).win 5).rect (tileOf m hO (i 0))) i (Rect.mem_set_unit.2 fun a => ?_)
    match a with
    | ⟨0, _⟩ => exact in_tile (b := 256) (by decide) hi.1
    | ⟨1, _⟩ => exact in_row hi.2 (i 1).isLt
theorem final6 : (dats m hO 0 c).arrAt 6 (cfgM m hO).N = deltas (gr m c) (wgt m c) (mean m c) (sqr m c) := by
  refine (dats m hO 0 c).arrAt_eq_of_cover 6 (deltas (gr m c) (wgt m c) (mean m c) (sqr m c)) (fun t hf => ?_) (fun (i : S512x1024.Idx) => ⟨tileOf m hO (i 0), flush0_6 _ _, ?_⟩)
  · have hi := idx6 m hO t
    refine funext fun (y : S256x1024.Idx) => ?_
    show (dats m hO 0 c).after 6 t y = (deltas (gr m c) (wgt m c) (mean m c) (sqr m c) : S512x1024.Idx → EReal) ((((cfgM m hO).win 6).blk t).view.emb y)
    refine res6 m hO c h8 t y _ ?_ ?_
    · show ixs6 m hO t 0 * 256 + 1 * (y 0).val = _; rw [hi.1]
    · show ixs6 m hO t 1 * 1024 + 1 * (y 1).val = _; rw [hi.2]
  · have hi := idx6 m hO (tileOf m hO (i 0))
    refine mem_of main_v0_1 (((cfgM m hO).win 6).rect (tileOf m hO (i 0))) i (Rect.mem_set_unit.2 fun a => ?_)
    match a with
    | ⟨0, _⟩ => exact in_tile (b := 256) (by decide) hi.1
    | ⟨1, _⟩ => exact in_row hi.2 (i 1).isLt
theorem final7 : (dats m hO 0 c).arrAt 7 (cfgM m hO).N = means (gr m c) (mean m c) := by
  refine (dats m hO 0 c).arrAt_eq_of_cover 7 (means (gr m c) (mean m c)) (fun t hf => ?_) (fun (i : S512x1024.Idx) => ⟨tileOf m hO (i 0), flush0_7 _ _, ?_⟩)
  · have hi := idx7 m hO t
    refine funext fun (y : S256x1024.Idx) => ?_
    show (dats m hO 0 c).after 7 t y = (means (gr m c) (mean m c) : S512x1024.Idx → EReal) ((((cfgM m hO).win 7).blk t).view.emb y)
    refine res7 m hO c h8 t y _ ?_ ?_
    · show ixs7 m hO t 0 * 256 + 1 * (y 0).val = _; rw [hi.1]
    · show ixs7 m hO t 1 * 1024 + 1 * (y 1).val = _; rw [hi.2]
  · have hi := idx7 m hO (tileOf m hO (i 0))
    refine mem_of main_v0_2 (((cfgM m hO).win 7).rect (tileOf m hO (i 0))) i (Rect.mem_set_unit.2 fun a => ?_)
    match a with
    | ⟨0, _⟩ => exact in_tile (b := 256) (by decide) hi.1
    | ⟨1, _⟩ => exact in_row hi.2 (i 1).isLt
theorem final8 : (dats m hO 0 c).arrAt 8 (cfgM m hO).N = squares (gr m c) (sqr m c) := by
  refine (dats m hO 0 c).arrAt_eq_of_cover 8 (squares (gr m c) (sqr m c)) (fun t hf => ?_) (fun (i : S512x1024.Idx) => ⟨tileOf m hO (i 0), flush0_8 _ _, ?_⟩)
  · have hi := idx8 m hO t
    refine funext fun (y : S256x1024.Idx) => ?_
    show (dats m hO 0 c).after 8 t y = (squares (gr m c) (sqr m c) : S512x1024.Idx → EReal) ((((cfgM m hO).win 8).blk t).view.emb y)
    refine res8 m hO c h8 t y _ ?_ ?_
    · show ixs8 m hO t 0 * 256 + 1 * (y 0).val = _; rw [hi.1]
    · show ixs8 m hO t 1 * 1024 + 1 * (y 1).val = _; rw [hi.2]
  · have hi := idx8 m hO (tileOf m hO (i 0))
    refine mem_of main_v0_3 (((cfgM m hO).win 8).rect (tileOf m hO (i 0))) i (Rect.mem_set_unit.2 fun a => ?_)
    match a with
    | ⟨0, _⟩ => exact in_tile (b := 256) (by decide) hi.1
    | ⟨1, _⟩ => exact in_row hi.2 (i 1).isLt

end Cert.AdamDownIdeal.Val

end
-- ==== Proof.AdamDownValue.lean ====
/-
  `adam_w_down` computes what its reference computes: the sum of the eight devices' parts of the gradient of the second feed-forward product's
  weight, the device's own part taken from what it sent, and the optimiser's step on it. The device's number places a window
  on what was sent, so it has to be below eight, which the precondition says.
-/
module

public import proofs.«01_k».proof.Proof.AdamDownFinal
public import proofs.«01_k».proof.Proof.MeshNumber
public import proofs.«01_k».proof.Proof.Gen.AdamDown.Frame
public import proofs.«01_k».proof.Proof.Gen.AdamDownRefIdeal.Read
public import proofs.«01_k».proof.Proof.Gen.AdamDownRefIdeal.Run
public import proofs.«01_k».proof.Proof.Gen.Pre_on_mesh_down
public import proofs.«01_k».proof.Defs

@[expose] public section

set_option maxRecDepth 16384

noncomputable section

namespace Cert.AdamDown.Mesh

open Cert.AdamDown Cert.AdamDown.Gen Cert.Arr
open Idealize.ShloMosaic Idealize.ShloMosaic.TcCoe Idealize.SL.Sem

/-- The precondition says that the number is below eight. -/
theorem below (m : (ℓ : Loc nD τ sig) → Buf (Elt Bits) ℓ) (h : Cert.Pre_AdamDown m) (x : S1.Idx) : BitVec.toNat (tbl m 0 x) < 8 := by
  have e := congrFun (h 0) x
  simp only [Pre_on_mesh_down.fn, andi, cmpi, broadcastInDim, constantI] at e
  exact below_eight e

/-- So the window on what was sent stays in it. -/
theorem ok (m : (ℓ : Loc nD τ sig) → Buf (Elt Bits) ℓ) (h : Cert.Pre_AdamDown m) : Ok m := fun i => ⟨fun a => by
    match a with
    | ⟨0, _⟩ =>
      show (BitVec.toNat (tbl m 0 _) + 1) * 1 ≤ 8
      exact (Nat.mul_one _).le.trans (Nat.succ_le_of_lt (below m h _))
    | ⟨1, _⟩ => exact (by decide +kernel : ∀ i : grid0.Coords, ((BitVec.ofNat 32 (i 0).val).toNat + 1) * 256 ≤ 512) i
    | ⟨2, _⟩ => exact (by decide : (0 + 1) * 1024 ≤ 1024),
  .inr (Affine.block_words_dvd (of_decide_eq_true rfl) (by decide))⟩

end Cert.AdamDown.Mesh

namespace Cert.AdamDownIdeal.Mesh

open Cert.AdamDownIdeal Cert.AdamDownIdeal.Gen Cert.Arr
open Idealize.ShloMosaic Idealize.ShloMosaic.TcCoe Idealize.SL.Sem

/-- The precondition says that the number is below eight. -/
theorem below (m : (ℓ : Loc nD τ sig) → Buf (Elt Ideal) ℓ) (h : Cert.Pre_AdamDownIdeal m) (x : S1.Idx) : BitVec.toNat (tbl m 0 x) < 8 := by
  have e := congrFun (h 0) x
  simp only [Pre_on_mesh_down.fn, andi, cmpi, broadcastInDim, constantI] at e
  exact below_eight e

/-- So the window on what was sent stays in it. -/
theorem ok (m : (ℓ : Loc nD τ sig) → Buf (Elt Ideal) ℓ) (h : Cert.Pre_AdamDownIdeal m) : Ok m := fun i => ⟨fun a => by
    match a with
    | ⟨0, _⟩ =>
      show (BitVec.toNat (tbl m 0 _) + 1) * 1 ≤ 8
      exact (Nat.mul_one _).le.trans (Nat.succ_le_of_lt (below m h _))
    | ⟨1, _⟩ => exact (by decide +kernel : ∀ i : grid0.Coords, ((BitVec.ofNat 32 (i 0).val).toNat + 1) * 256 ≤ 512) i
    | ⟨2, _⟩ => exact (by decide : (0 + 1) * 1024 ≤ 1024),
  .inr (Affine.block_words_dvd (of_decide_eq_true rfl) (by decide))⟩

end Cert.AdamDownIdeal.Mesh

namespace Cert.AdamDownIdeal.Val

open Cert.AdamDownIdeal Cert.AdamDownIdeal.Gen Cert.Arr
open Idealize.ShloMosaic Idealize.ShloMosaic.TcCoe Idealize.SL.Sem

section Ref
open Cert.AdamDownRefIdeal.Read

/-- The part of device `k`, as the reference chooses it. -/
theorem r_part (x : S1.Idx → BitVec 32) (s l : S8x512x1024.Idx → EReal) (j : S8x512x1024.Idx) (k : Fin 8) (h : (j 0).val = k.val) :
    val_main_v6 (F := Ideal) x s l j = if x (ValueIdx.ix1 0) = BitVec.ofNat 32 k.val then s j else l j := by
  rw [val_main_v6_apply, val_main_v3_apply, val_main_v0_apply, val_main_v2_apply, h]
  have e : val_main_v1 (F := Ideal) x (idx_main_v2 j) = x (ValueIdx.ix1 0) :=
    congrArg x (funext fun a => Fin.ext (by match a with | ⟨0, _⟩ => exact Nat.lt_one_iff.1 (Fin.isLt _)))
  rw [e]
  by_cases hk : x (ValueIdx.ix1 0) = BitVec.ofNat 32 k.val
  · rw [if_pos hk]
    exact if_pos (StableHlo.Predicate.cmpi_eq_iff.2 hk.symm)
  · rw [if_neg hk]
    exact if_neg fun e => hk (StableHlo.Predicate.cmpi_eq_iff.1 e).symm

theorem r_total (x : S1.Idx → BitVec 32) (s l : S8x512x1024.Idx → EReal) :
    val_main_v7 (F := Ideal) x s l = total (x (ValueIdx.ix1 0)) s l := by
  funext i
  rw [val_main_v7_apply]
  unfold total own
  refine sum_from czero fun k => (r_part x s l (idx_main_v7 i k) k rfl).trans ?_
  have hj : idx_main_v7 i k = ValueIdx.ix3 k (i 0) (i 1) := ext3 (l := 8) (m := 512) (n := 1024) rfl rfl rfl
  rw [hj]
  rfl
theorem r_means (x : S1.Idx → BitVec 32) (s l : S8x512x1024.Idx → EReal) (m : S512x1024.Idx → EReal) :
    val_main_v12 (F := Ideal) x s l m = means (total (x (ValueIdx.ix1 0)) s l) m := by
  rw [← r_total]; rfl
theorem r_squares (x : S1.Idx → BitVec 32) (s l : S8x512x1024.Idx → EReal) (v : S512x1024.Idx → EReal) :
    val_main_v18 (F := Ideal) x s l v = squares (total (x (ValueIdx.ix1 0)) s l) v := by
  rw [← r_total]; rfl
theorem r_deltas (x : S1.Idx → BitVec 32) (s l : S8x512x1024.Idx → EReal) (w m v : S512x1024.Idx → EReal) :
    val_main_v31 (F := Ideal) x s l w m v = deltas (total (x (ValueIdx.ix1 0)) s l) w m v := by
  rw [← r_total]; rfl

end Ref

end Cert.AdamDownIdeal.Val

open Idealize.ShloMosaic Idealize.ShloMosaic.TcCoe Idealize.SL.Sem Cert.Arr Cert.AdamDownIdeal.Val Cert.AdamDownRefIdeal.Read in
/-- The kernel and the reference compute the same four arrays. -/
theorem Cert.AdamDownIdeal.Val.algebraic : Cert.algebraic_AdamDownIdeal_AdamDownRefIdeal := by
  intro m g m' g' hp hagree
  have hO := Cert.AdamDownIdeal.Mesh.ok m hp
  have h8 : (me m).toNat < 8 := Cert.AdamDownIdeal.Mesh.below m hp _
  refine ⟨fun c => gr m c, fun c => deltas (gr m c) (wgt m c) (mean m c) (sqr m c), fun c => means (gr m c) (mean m c),
    fun c => squares (gr m c) (sqr m c),
    (θ_run Cert.AdamDownIdeal.defs _ _).mono (fun r h c => ?_) (θ_run_and (Cert.AdamDownIdeal.Gen.run_main (F := Ideal) m g hO) (Cert.AdamDownIdeal.Gen.unchanged (F := Ideal) m g hO)),
    (θ_run Cert.AdamDownRefIdeal.defs _ _).mono (fun r h c => ?_) (Cert.AdamDownRefIdeal.Value.run (F := Ideal) m' g')⟩
  · exact ⟨((h.1 c).1 5).trans (final5 m hO c h8), ((h.1 c).1 6).trans (final6 m hO c h8), ((h.1 c).1 7).trans (final7 m hO c h8),
      ((h.1 c).1 8).trans (final8 m hO c h8), h.2 c⟩
  · obtain ⟨h0, h1, h2, h3, hk⟩ := h c
    obtain ⟨e0, e1, e2, e3, e4, e5⟩ := hagree c
    have en : me m = m ((c.tc : Thread Cert.AdamDownIdeal.nD Cert.AdamDownIdeal.τ).loc Cert.AdamDownIdeal.main_arg0) (ValueIdx.ix1 0) := by
      obtain rfl : c = 0 := Subsingleton.elim _ _
      rfl
    refine ⟨h0.trans ((val_main_v7_eq _ _ _).trans ((r_total _ _ _).trans ?_)), h1.trans ((val_main_v31_eq _ _ _ _ _ _).trans ((r_deltas _ _ _ _ _ _).trans ?_)),
      h2.trans ((val_main_v12_eq _ _ _ _).trans ((r_means _ _ _ _).trans ?_)), h3.trans ((val_main_v18_eq _ _ _ _).trans ((r_squares _ _ _ _).trans ?_)), hk⟩
    · show total _ _ _ = total (me m) _ _; rw [e0, e1, e2, en]
    · show deltas (total _ _ _) _ _ _ = deltas (total (me m) _ _) _ _ _; rw [e0, e1, e2, e3, e4, e5, en]
    · show means (total _ _ _) _ = means (total (me m) _ _) _; rw [e0, e1, e2, e4, en]
    · show squares (total _ _ _) _ = squares (total (me m) _ _) _; rw [e0, e1, e2, e5, en]

end
-- ==== Proof.AdamInKernel.lean ====
/-
  What `adam_w_in` leaves in its four results. The body reads the device's number, adds the eight parts of the gradient of
  the input projection — the device's own part from its own array, the others as they landed — and takes the optimiser's step.
-/
module

public import proofs.«01_k».proof.Proof.AdamOwn
public import proofs.«01_k».proof.Proof.Gen.AdamInIdeal.Frame

@[expose] public section

set_option maxRecDepth 16384

noncomputable section

namespace Cert.AdamInIdeal.Val

open Cert.AdamInIdeal Cert.AdamInIdeal.Gen Cert.Arr
open Idealize.ShloMosaic Idealize.ShloMosaic.TcCoe Idealize.SL.Sem

/-- The word read from the table. -/
def word (c : Dev nD) (xt : TbBuf0 (F := Ideal) c tbM0_0) : BitVec 32 := xt (ValueIdx.ix1 0)
theorem rd_word (c : Dev nD) (xt : TbBuf0 (F := Ideal) c tbM0_0) (inb) (j) :
    View.readAt (Elt Ideal) (View.whole main_arg0) (Rect.unit (s := S1) ![0] ![1] inb).toLoadRect xt j = word c xt :=
  congrArg xt (funext fun a => Fin.ext (by match a with | ⟨0, _⟩ => exact Nat.lt_one_iff.1 (Fin.isLt _)))

/-- The sum the body forms, on the blocks. -/
def bsum (me : BitVec 32) (x0 : Vec Ideal S1x512x386 .bf16) (x1 : Vec Ideal S8x512x386 .bf16) : Vec Ideal S512x386 .f32 :=
  fun i => own me (fun _ => x0 (ValueIdx.ix3 0 (i 0) (i 1))) (fun k => x1 (ValueIdx.ix3 k (i 0) (i 1)))

/-- The first seven parts, as the body adds them. -/
def seven (me : BitVec 32) (x0 : Vec Ideal S1x512x386 .bf16) (x1 : Vec Ideal S8x512x386 .bf16) : Vec Ideal S512x386 .f32 :=
  (k0_pay4 (F := Ideal) (k0_pay2 (F := Ideal) me (View.ld x0 (Rect.unit (s := S1x512x386) ![0, 0, 0] ![1, 512, 386] inb_S1x512x386_S1x512x386_0_0_0)) (View.ld x1 (Rect.unit (s := S8x512x386) ![0, 0, 0] ![1, 512, 386] inb_S8x512x386_S1x512x386_0_0_0)) me (View.ld x0 (Rect.unit (s := S1x512x386) ![0, 0, 0] ![1, 512, 386] inb_S1x512x386_S1x512x386_0_0_0)) (View.ld x1 (Rect.unit (s := S8x512x386) ![1, 0, 0] ![1, 512, 386] inb_S8x512x386_S1x512x386_1_0_0)) me (View.ld x0 (Rect.unit (s := S1x512x386) ![0, 0, 0] ![1, 512, 386] inb_S1x512x386_S1x512x386_0_0_0)) (View.ld x1 (Rect.unit (s := S8x512x386) ![2, 0, 0] ![1, 512, 386] inb_S8x512x386_S1x512x386_2_0_0))) (Scalar.cmpi .eq me 3#32) (k0_pay3 (F := Ideal) (View.ld x0 (Rect.unit (s := S1x512x386) ![0, 0, 0] ![1, 512, 386] inb_S1x512x386_S1x512x386_0_0_0))) (View.ld x1 (Rect.unit (s := S8x512x386) ![3, 0, 0] ![1, 512, 386] inb_S8x512x386_S1x512x386_3_0_0)) me (View.ld x0 (Rect.unit (s := S1x512x386) ![0, 0, 0] ![1, 512, 386] inb_S1x512x386_S1x512x386_0_0_0)) (View.ld x1 (Rect.unit (s := S8x512x386) ![4, 0, 0] ![1, 512, 386] inb_S8x512x386_S1x512x386_4_0_0)) me (View.ld x0 (Rect.unit (s := S1x512x386) ![0, 0, 0] ![1, 512, 386] inb_S1x512x386_S1x512x386_0_0_0)) (View.ld x1 (Rect.unit (s := S8x512x386) ![5, 0, 0] ![1, 512, 386] inb_S8x512x386_S1x512x386_5_0_0)) me (View.ld x0 (Rect.unit (s := S1x512x386) ![0, 0, 0] ![1, 512, 386] inb_S1x512x386_S1x512x386_0_0_0)) (View.ld x1 (Rect.unit (s := S8x512x386) ![6, 0, 0] ![1, 512, 386] inb_S8x512x386_S1x512x386_6_0_0)))
theorem grad (me : BitVec 32) (x0 : Vec Ideal S1x512x386 .bf16) (x1 : Vec Ideal S8x512x386 .bf16) (y : S512x386.Idx) :
    k0_pay5 (F := Ideal) (seven me x0 x1) me (View.ld x0 (Rect.unit (s := S1x512x386) ![0, 0, 0] ![1, 512, 386] inb_S1x512x386_S1x512x386_0_0_0)) (View.ld x1 (Rect.unit (s := S8x512x386) ![7, 0, 0] ![1, 512, 386] inb_S8x512x386_S1x512x386_7_0_0)) y = bsum me x0 x1 y := by
  unfold bsum own seven
  simp only [Fin.sum_univ_eight]
  rw [← part me x0 x1 shapeCasts_S1x512x386_S512x386 0 (w := 0#32) rfl (a := 0) rfl inb_S1x512x386_S1x512x386_0_0_0 inb_S8x512x386_S1x512x386_0_0_0 y, ← part me x0 x1 shapeCasts_S1x512x386_S512x386 1 (w := 1#32) rfl (a := 1) rfl inb_S1x512x386_S1x512x386_0_0_0 inb_S8x512x386_S1x512x386_1_0_0 y, ← part me x0 x1 shapeCasts_S1x512x386_S512x386 2 (w := 2#32) rfl (a := 2) rfl inb_S1x512x386_S1x512x386_0_0_0 inb_S8x512x386_S1x512x386_2_0_0 y, ← part me x0 x1 shapeCasts_S1x512x386_S512x386 3 (w := 3#32) rfl (a := 3) rfl inb_S1x512x386_S1x512x386_0_0_0 inb_S8x512x386_S1x512x386_3_0_0 y, ← part me x0 x1 shapeCasts_S1x512x386_S512x386 4 (w := 4#32) rfl (a := 4) rfl inb_S1x512x386_S1x512x386_0_0_0 inb_S8x512x386_S1x512x386_4_0_0 y, ← part me x0 x1 shapeCasts_S1x512x386_S512x386 5 (w := 5#32) rfl (a := 5) rfl inb_S1x512x386_S1x512x386_0_0_0 inb_S8x512x386_S1x512x386_5_0_0 y, ← part me x0 x1 shapeCasts_S1x512x386_S512x386 6 (w := 6#32) rfl (a := 6) rfl inb_S1x512x386_S1x512x386_0_0_0 inb_S8x512x386_S1x512x386_6_0_0 y, ← part me x0 x1 shapeCasts_S1x512x386_S512x386 7 (w := 7#32) rfl (a := 7) rfl inb_S1x512x386_S1x512x386_0_0_0 inb_S8x512x386_S1x512x386_7_0_0 y]
  rfl

/-- A load of a whole block. -/
theorem ld {e : EltTy} (x : Vec Ideal S512x386 e) (inb) : View.ld x (Rect.unit (s := S512x386) ![0, 0] ![512, 386] inb) = x := View.ld_unit_zero z2 _ _

variable (c : Dev nD) (i : grid0.Coords) (arg2 : Memref sig .tc .vmem S1x512x386 .bf16) (harg2 : arg2.IsWhole) (arg3 : Memref sig .tc .vmem S8x512x386 .bf16) (harg3 : arg3.IsWhole) (arg4 : Memref sig .tc .vmem S512x386 .f32) (harg4 : arg4.IsWhole) (arg5 : Memref sig .tc .vmem S512x386 .f32) (harg5 : arg5.IsWhole) (arg6 : Memref sig .tc .vmem S512x386 .f32) (harg6 : arg6.IsWhole) (arg7 : Memref sig .tc .vmem S512x386 .f32) (harg7 : arg7.IsWhole) (arg8 : Memref sig .tc .vmem S512x386 .f32) (harg8 : arg8.IsWhole) (arg9 : Memref sig .tc .vmem S512x386 .f32) (harg9 : arg9.IsWhole) (arg10 : Memref sig .tc .vmem S512x386 .f32) (harg10 : arg10.IsWhole)
    (x0 : Vec Ideal S1x512x386 .bf16) (x1 : Vec Ideal S8x512x386 .bf16) (x2 : Vec Ideal S512x386 .f32) (x3 : Vec Ideal S512x386 .f32) (x4 : Vec Ideal S512x386 .f32) (xt0 : TbBuf0 (F := Ideal) c tbM0_0)
include c i arg2 harg2 arg3 harg3 arg4 harg4 arg5 harg5 arg6 harg6 arg7 harg7 arg8 harg8 arg9 harg9 arg10 harg10 x0 x1 x2 x3 x4 xt0

/-- What the body leaves in result 0. -/
theorem run5 :
    out0_A_5 c i arg2 harg2 arg3 harg3 arg4 harg4 arg5 harg5 arg6 harg6 arg7 harg7 arg8 harg8 arg9 harg9 arg10 harg10 x0 x1 x2 x3 x4 xt0 = k0_pay5 (kernelRun0_A.sl.r_3 c arg2 harg2 arg3 harg3 x0 x1 xt0) (kernelRun0_A.sl.r c xt0) (View.readAt (Elt Ideal) arg2.view (Rect.unit (s := S1x512x386) ![0, 0, 0] ![1, 512, 386] inb_S1x512x386_S1x512x386_0_0_0).toLoadRect (harg2.unread x0)) (View.readAt (Elt Ideal) arg3.view (Rect.unit (s := S8x512x386) ![7, 0, 0] ![1, 512, 386] inb_S8x512x386_S1x512x386_7_0_0).toLoadRect (harg3.unread x1)) := by
  funext y
  exact st VO0_5 VO0_5.junk inb_S512x386_S512x386_0_0 _ y
theorem pay5 (y : S512x386.Idx) :
    (k0_pay5 (kernelRun0_A.sl.r_3 c arg2 harg2 arg3 harg3 x0 x1 xt0) (kernelRun0_A.sl.r c xt0) (View.readAt (Elt Ideal) arg2.view (Rect.unit (s := S1x512x386) ![0, 0, 0] ![1, 512, 386] inb_S1x512x386_S1x512x386_0_0_0).toLoadRect (harg2.unread x0)) (View.readAt (Elt Ideal) arg3.view (Rect.unit (s := S8x512x386) ![7, 0, 0] ![1, 512, 386] inb_S8x512x386_S1x512x386_7_0_0).toLoadRect (harg3.unread x1)) : Vec Ideal S512x386 .f32) y = (bsum (word c xt0) x0 x1 : Vec Ideal S512x386 .f32) y := by
  delta kernelRun0_A.sl.r_3 kernelRun0_A.sl.r kernelRun0_A.sl.r_1 kernelRun0_A.sl.r_2 kernelRun0_A.sl.v27
  simp only [rd, rd_word]
  have e := grad (word c xt0) x0 x1 y
  unfold seven at e
  exact e
theorem left5 (y : S512x386.Idx) : out0_A_5 c i arg2 harg2 arg3 harg3 arg4 harg4 arg5 harg5 arg6 harg6 arg7 harg7 arg8 harg8 arg9 harg9 arg10 harg10 x0 x1 x2 x3 x4 xt0 y = (bsum (word c xt0) x0 x1 : Vec Ideal S512x386 .f32) y :=
  (congrFun (run5 c i arg2 harg2 arg3 harg3 arg4 harg4 arg5 harg5 arg6 harg6 arg7 harg7 arg8 harg8 arg9 harg9 arg10 harg10 x0 x1 x2 x3 x4 xt0) y).trans (pay5 c i arg2 harg2 arg3 harg3 arg4 harg4 arg5 harg5 arg6 harg6 arg7 harg7 arg8 harg8 arg9 harg9 arg10 harg10 x0 x1 x2 x3 x4 xt0 y)
/-- What the body leaves in result 1. -/
theorem run6 :
    out0_A_6 c i arg2 harg2 arg3 harg3 arg4 harg4 arg5 harg5 arg6 harg6 arg7 harg7 arg8 harg8 arg9 harg9 arg10 harg10 x0 x1 x2 x3 x4 xt0 = k0_pay1 (kernelRun0_A.sl.r_6 c arg2 harg2 arg3 harg3 arg4 harg4 arg5 harg5 arg6 harg6 x0 x1 x2 x3 x4 xt0) kernelRun0_A.sl.cst_63 := by
  funext y
  exact st VO0_6 VO0_6.junk inb_S512x386_S512x386_0_0 _ y
theorem pay6 (y : S512x386.Idx) :
    (k0_pay1 (kernelRun0_A.sl.r_6 c arg2 harg2 arg3 harg3 arg4 harg4 arg5 harg5 arg6 harg6 x0 x1 x2 x3 x4 xt0) kernelRun0_A.sl.cst_63 : Vec Ideal S512x386 .f32) y = (fun i => delta (bsum (word c xt0) x0 x1 i) (x2 i) (x3 i) (x4 i) : Vec Ideal S512x386 .f32) y := by
  delta kernelRun0_A.sl.r_6 kernelRun0_A.sl.r_3 kernelRun0_A.sl.r kernelRun0_A.sl.r_1 kernelRun0_A.sl.r_2 kernelRun0_A.sl.v27
  simp only [rd, rd_word]
  rw [ld, ld, ld, ← grad (word c xt0) x0 x1 y]
  unfold seven
  rfl
theorem left6 (y : S512x386.Idx) : out0_A_6 c i arg2 harg2 arg3 harg3 arg4 harg4 arg5 harg5 arg6 harg6 arg7 harg7 arg8 harg8 arg9 harg9 arg10 harg10 x0 x1 x2 x3 x4 xt0 y = (fun i => delta (bsum (word c xt0) x0 x1 i) (x2 i) (x3 i) (x4 i) : Vec Ideal S512x386 .f32) y :=
  (congrFun (run6 c i arg2 harg2 arg3 harg3 arg4 harg4 arg5 harg5 arg6 harg6 arg7 harg7 arg8 harg8 arg9 harg9 arg10 harg10 x0 x1 x2 x3 x4 xt0) y).trans (pay6 c i arg2 harg2 arg3 harg3 arg4 harg4 arg5 harg5 arg6 harg6 arg7 harg7 arg8 harg8 arg9 harg9 arg10 harg10 x0 x1 x2 x3 x4 xt0 y)
/-- What the body leaves in result 2. -/
theorem run7 :
    out0_A_7 c i arg2 harg2 arg3 harg3 arg4 harg4 arg5 harg5 arg6 harg6 arg7 harg7 arg8 harg8 arg9 harg9 arg10 harg10 x0 x1 x2 x3 x4 xt0 = kernelRun0_A.sl.r_4 c arg2 harg2 arg3 harg3 arg5 harg5 x0 x1 x3 xt0 := by
  funext y
  exact st VO0_7 VO0_7.junk inb_S512x386_S512x386_0_0 _ y
theorem pay7 (y : S512x386.Idx) :
    (kernelRun0_A.sl.r_4 c arg2 harg2 arg3 harg3 arg5 harg5 x0 x1 x3 xt0 : Vec Ideal S512x386 .f32) y = (fun i => newM (bsum (word c xt0) x0 x1 i) (x3 i) : Vec Ideal S512x386 .f32) y := by
  delta kernelRun0_A.sl.r_4 kernelRun0_A.sl.r_3 kernelRun0_A.sl.r kernelRun0_A.sl.r_1 kernelRun0_A.sl.r_2 kernelRun0_A.sl.v27
  simp only [rd, rd_word]
  rw [ld, ← grad (word c xt0) x0 x1 y]
  unfold seven
  rfl
theorem left7 (y : S512x386.Idx) : out0_A_7 c i arg2 harg2 arg3 harg3 arg4 harg4 arg5 harg5 arg6 harg6 arg7 harg7 arg8 harg8 arg9 harg9 arg10 harg10 x0 x1 x2 x3 x4 xt0 y = (fun i => newM (bsum (word c xt0) x0 x1 i) (x3 i) : Vec Ideal S512x386 .f32) y :=
  (congrFun (run7 c i arg2 harg2 arg3 harg3 arg4 harg4 arg5 harg5 arg6 harg6 arg7 harg7 arg8 harg8 arg9 harg9 arg10 harg10 x0 x1 x2 x3 x4 xt0) y).trans (pay7 c i arg2 harg2 arg3 harg3 arg4 harg4 arg5 harg5 arg6 harg6 arg7 harg7 arg8 harg8 arg9 harg9 arg10 harg10 x0 x1 x2 x3 x4 xt0 y)
/-- What the body leaves in result 3. -/
theorem run8 :
    out0_A_8 c i arg2 harg2 arg3 harg3 arg4 harg4 arg5 harg5 arg6 harg6 arg7 harg7 arg8 harg8 arg9 harg9 arg10 harg10 x0 x1 x2 x3 x4 xt0 = kernelRun0_A.sl.r_5 c arg2 harg2 arg3 harg3 arg6 harg6 x0 x1 x4 xt0 := by
  funext y
  exact st VO0_8 VO0_8.junk inb_S512x386_S512x386_0_0 _ y
theorem pay8 (y : S512x386.Idx) :
    (kernelRun0_A.sl.r_5 c arg2 harg2 arg3 harg3 arg6 harg6 x0 x1 x4 xt0 : Vec Ideal S512x386 .f32) y = (fun i => newV (bsum (word c xt0) x0 x1 i) (x4 i) : Vec Ideal S512x386 .f32) y := by
  delta kernelRun0_A.sl.r_5 kernelRun0_A.sl.r_3 kernelRun0_A.sl.r kernelRun0_A.sl.r_1 kernelRun0_A.sl.r_2 kernelRun0_A.sl.v27
  simp only [rd, rd_word]
  rw [ld, ← grad (word c xt0) x0 x1 y]
  unfold seven
  rfl
theorem left8 (y : S512x386.Idx) : out0_A_8 c i arg2 harg2 arg3 harg3 arg4 harg4 arg5 harg5 arg6 harg6 arg7 harg7 arg8 harg8 arg9 harg9 arg10 harg10 x0 x1 x2 x3 x4 xt0 y = (fun i => newV (bsum (word c xt0) x0 x1 i) (x4 i) : Vec Ideal S512x386 .f32) y :=
  (congrFun (run8 c i arg2 harg2 arg3 harg3 arg4 harg4 arg5 harg5 arg6 harg6 arg7 harg7 arg8 harg8 arg9 harg9 arg10 harg10 x0 x1 x2 x3 x4 xt0) y).trans (pay8 c i arg2 harg2 arg3 harg3 arg4 harg4 arg5 harg5 arg6 harg6 arg7 harg7 arg8 harg8 arg9 harg9 arg10 harg10 x0 x1 x2 x3 x4 xt0 y)
end Cert.AdamInIdeal.Val

end
-- ==== Proof.AdamInFinal.lean ====
/-
  The four results of `adam_w_in` as wholes: the blocks it writes cover them, and each holds the sum of the parts and the
  optimiser's step on it, when the device's number is below eight.
-/
module

public import proofs.«01_k».proof.Proof.AdamInKernel
public import Idealize.ShloMosaic.Lib.Pipeline.Value

@[expose] public section

set_option maxRecDepth 16384

noncomputable section

namespace Cert.AdamInIdeal.Val

open Cert.AdamInIdeal Cert.AdamInIdeal.Gen Cert.Arr
open Idealize.ShloMosaic Idealize.ShloMosaic.TcCoe Idealize.SL.Sem

variable (m : (ℓ : Loc nD τ sig) → Buf (Elt Ideal) ℓ) (hO : Ok m) (c : Dev nD)

/-- The device's number, and the arguments. -/
abbrev me : BitVec 32 := word 0 (tbl m 0)
abbrev sent : S8x1024x386.Idx → EReal := m ((c : Thread nD τ).loc main_arg1)
abbrev landed : S8x1024x386.Idx → EReal := m ((c : Thread nD τ).loc main_arg2)
abbrev wgt : S1024x386.Idx → EReal := m ((c : Thread nD τ).loc main_arg3)
abbrev mean : S1024x386.Idx → EReal := m ((c : Thread nD τ).loc main_arg4)
abbrev sqr : S1024x386.Idx → EReal := m ((c : Thread nD τ).loc main_arg5)
abbrev gr : S1024x386.Idx → EReal := total (me m) (sent m c) (landed m c)

/-- Where the windows stand at point `t`. -/
abbrev ixs0 (t : Fin (cfgM m hO).N) : Fin 3 → ℕ := ((cfgM m hO).win 0).index t
abbrev ixs1 (t : Fin (cfgM m hO).N) : Fin 3 → ℕ := ((cfgM m hO).win 1).index t
abbrev ixs2 (t : Fin (cfgM m hO).N) : Fin 2 → ℕ := ((cfgM m hO).win 2).index t
abbrev ixs3 (t : Fin (cfgM m hO).N) : Fin 2 → ℕ := ((cfgM m hO).win 3).index t
abbrev ixs4 (t : Fin (cfgM m hO).N) : Fin 2 → ℕ := ((cfgM m hO).win 4).index t
abbrev ixs5 (t : Fin (cfgM m hO).N) : Fin 2 → ℕ := ((cfgM m hO).win 5).index t
abbrev ixs6 (t : Fin (cfgM m hO).N) : Fin 2 → ℕ := ((cfgM m hO).win 6).index t
abbrev ixs7 (t : Fin (cfgM m hO).N) : Fin 2 → ℕ := ((cfgM m hO).win 7).index t
abbrev ixs8 (t : Fin (cfgM m hO).N) : Fin 2 → ℕ := ((cfgM m hO).win 8).index t
theorem idx0 (t : Fin (cfgM m hO).N) : ixs0 m hO t 0 = (me m).toNat ∧ ixs0 m hO t 1 = t.val ∧ ixs0 m hO t 2 = 0 := by
  refine ⟨?_, (by decide +kernel : ∀ t : Fin grid0.N, (BitVec.ofNat 32 (grid0.coords t 0).val).toNat = t.val) t, rfl⟩
  show BitVec.toNat (tbl m 0 _) = BitVec.toNat (tbl m 0 _)
  exact congrArg (fun j => BitVec.toNat (tbl m 0 j)) (funext fun a => Fin.ext (by match a with | ⟨0, _⟩ => exact Nat.lt_one_iff.1 (Fin.isLt _)))
theorem idx1 : ∀ t : Fin (cfgM m hO).N, ixs1 m hO t 0 = 0 ∧ ixs1 m hO t 1 = t.val ∧ ixs1 m hO t 2 = 0 :=
  (by decide +kernel : ∀ t : Fin grid0.N, cc0_transform_1 (grid0.coords t) 0 = 0 ∧ cc0_transform_1 (grid0.coords t) 1 = t.val ∧ cc0_transform_1 (grid0.coords t) 2 = 0)
theorem idx2 : ∀ t : Fin (cfgM m hO).N, ixs2 m hO t 0 = t.val ∧ ixs2 m hO t 1 = 0 :=
  (by decide +kernel : ∀ t : Fin grid0.N, cc0_transform_2 (grid0.coords t) 0 = t.val ∧ cc0_transform_2 (grid0.coords t) 1 = 0)
theorem idx3 : ∀ t : Fin (cfgM m hO).N, ixs3 m hO t 0 = t.val ∧ ixs3 m hO t 1 = 0 :=
  (by decide +kernel : ∀ t : Fin grid0.N, cc0_transform_3 (grid0.coords t) 0 = t.val ∧ cc0_transform_3 (grid0.coords t) 1 = 0)
theorem idx4 : ∀ t : Fin (cfgM m hO).N, ixs4 m hO t 0 = t.val ∧ ixs4 m hO t 1 = 0 :=
  (by decide +kernel : ∀ t : Fin grid0.N, cc0_transform_4 (grid0.coords t) 0 = t.val ∧ cc0_transform_4 (grid0.coords t) 1 = 0)
theorem idx5 : ∀ t : Fin (cfgM m hO).N, ixs5 m hO t 0 = t.val ∧ ixs5 m hO t 1 = 0 :=
  (by decide +kernel : ∀ t : Fin grid0.N, cc0_transform_5 (grid0.coords t) 0 = t.val ∧ cc0_transform_5 (grid0.coords t) 1 = 0)
theorem idx6 : ∀ t : Fin (cfgM m hO).N, ixs6 m hO t 0 = t.val ∧ ixs6 m hO t 1 = 0 :=
  (by decide +kernel : ∀ t : Fin grid0.N, cc0_transform_6 (grid0.coords t) 0 = t.val ∧ cc0_transform_6 (grid0.coords t) 1 = 0)
theorem idx7 : ∀ t : Fin (cfgM m hO).N, ixs7 m hO t 0 = t.val ∧ ixs7 m hO t 1 = 0 :=
  (by decide +kernel : ∀ t : Fin grid0.N, cc0_transform_7 (grid0.coords t) 0 = t.val ∧ cc0_transform_7 (grid0.coords t) 1 = 0)
theorem idx8 : ∀ t : Fin (cfgM m hO).N, ixs8 m hO t 0 = t.val ∧ ixs8 m hO t 1 = 0 :=
  (by decide +kernel : ∀ t : Fin grid0.N, cc0_transform_8 (grid0.coords t) 0 = t.val ∧ cc0_transform_8 (grid0.coords t) 1 = 0)

/-- The block of row `i`, and the bounds that say so. -/
def tileOf (i : Fin 1024) : Fin (cfgM m hO).N := ⟨i.val / 512, (by omega : i.val / 512 < 2).trans_eq N_0.symm⟩

variable (h8 : (me m).toNat < 8) (t : Fin (cfgM m hO).N) (y : S512x386.Idx) (z : S1024x386.Idx)
  (h0 : (z 0).val = t.val * 512 + 1 * (y 0).val) (h1 : (z 1).val = 0 * 386 + 1 * (y 1).val)
include h0 h1

/-- The device's own block, and the landed blocks. -/
theorem blk0 : (iblk m hO c 0 t : S1x512x386.Idx → EReal) (ValueIdx.ix3 0 (y 0) (y 1)) = sent m c (ValueIdx.ix3 ⟨(me m).toNat, h8⟩ (z 0) (z 1)) := by
  have hi := idx0 m hO t
  show m ((c : Thread nD τ).loc main_arg1) ((((cfgM m hO).win 0).blk t).view.emb (ValueIdx.ix3 0 (y 0) (y 1))) = _
  refine congrArg (m ((c : Thread nD τ).loc main_arg1)) (ext3 (l := 8) (m := 1024) (n := 386) ?_ ?_ ?_)
  · show ixs0 m hO t 0 * 1 + 1 * 0 = (me m).toNat; rw [hi.1]; omega
  · show ixs0 m hO t 1 * 512 + 1 * (y 0).val = (z 0).val; rw [hi.2.1, h0]
  · show ixs0 m hO t 2 * 386 + 1 * (y 1).val = (z 1).val; rw [hi.2.2, h1]
theorem blk1 (k : Fin 8) : (iblk m hO c 1 t : S8x512x386.Idx → EReal) (ValueIdx.ix3 k (y 0) (y 1)) = landed m c (ValueIdx.ix3 k (z 0) (z 1)) := by
  have hi := idx1 m hO t
  show m ((c : Thread nD τ).loc main_arg2) ((((cfgM m hO).win 1).blk t).view.emb (ValueIdx.ix3 k (y 0) (y 1))) = _
  refine congrArg (m ((c : Thread nD τ).loc main_arg2)) (ext3 (l := 8) (m := 1024) (n := 386) ?_ ?_ ?_)
  · show ixs1 m hO t 0 * 8 + 1 * k.val = k.val; rw [hi.1]; omega
  · show ixs1 m hO t 1 * 512 + 1 * (y 0).val = (z 0).val; rw [hi.2.1, h0]
  · show ixs1 m hO t 2 * 386 + 1 * (y 1).val = (z 1).val; rw [hi.2.2, h1]
/-- The blocks of the weight and the means. -/
theorem blk2 : (iblk m hO c 2 t : S512x386.Idx → EReal) y = wgt m c z := by
  have hi := idx2 m hO t
  show m ((c : Thread nD τ).loc main_arg3) ((((cfgM m hO).win 2).blk t).view.emb y) = _
  refine congrArg (m ((c : Thread nD τ).loc main_arg3)) (ext2 (m := 1024) (n := 386) ?_ ?_)
  · show ixs2 m hO t 0 * 512 + 1 * (y 0).val = (z 0).val; rw [hi.1, h0]
  · show ixs2 m hO t 1 * 386 + 1 * (y 1).val = (z 1).val; rw [hi.2, h1]
theorem blk3 : (iblk m hO c 3 t : S512x386.Idx → EReal) y = mean m c z := by
  have hi := idx3 m hO t
  show m ((c : Thread nD τ).loc main_arg4) ((((cfgM m hO).win 3).blk t).view.emb y) = _
  refine congrArg (m ((c : Thread nD τ).loc main_arg4)) (ext2 (m := 1024) (n := 386) ?_ ?_)
  · show ixs3 m hO t 0 * 512 + 1 * (y 0).val = (z 0).val; rw [hi.1, h0]
  · show ixs3 m hO t 1 * 386 + 1 * (y 1).val = (z 1).val; rw [hi.2, h1]
theorem blk4 : (iblk m hO c 4 t : S512x386.Idx → EReal) y = sqr m c z := by
  have hi := idx4 m hO t
  show m ((c : Thread nD τ).loc main_arg5) ((((cfgM m hO).win 4).blk t).view.emb y) = _
  refine congrArg (m ((c : Thread nD τ).loc main_arg5)) (ext2 (m := 1024) (n := 386) ?_ ?_)
  · show ixs4 m hO t 0 * 512 + 1 * (y 0).val = (z 0).val; rw [hi.1, h0]
  · show ixs4 m hO t 1 * 386 + 1 * (y 1).val = (z 1).val; rw [hi.2, h1]

omit h0 h1 in
/-- Every device of the program reads the same number. -/
theorem word_me : word c (tbl m 0) = me m := by
  unfold me
  rfl

include h8 in
/-- A block of the gradient: where the body takes its own block, that is the device's own part. -/
theorem g_blk : bsum (word c (tbl m 0)) (iblk m hO c 0 t) (iblk m hO c 1 t) y = gr m c z := by
  rw [word_me]
  exact own_congr (me m) (fun k h => (blk0 m hO c h8 t y z h0 h1).trans (congrArg (fun j => sent m c (ValueIdx.ix3 j (z 0) (z 1))) (Fin.ext (by
    show (me m).toNat = k.val
    rw [h, BitVec.toNat_ofNat]
    omega)))) fun k => blk1 m hO c t y z h0 h1 k
omit h0 h1 in
/-- What the body leaves in result 0's buffer, at one entry. -/
theorem read5 : ((outsAt0 m hO c t).1 : S512x386.Idx → EReal) y = bsum (word c (tbl m 0)) (iblk m hO c 0 t) (iblk m hO c 1 t) y := by
  dsimp only [outsAt0]
  exact left5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0) y
include h8 in
theorem res5 : (dats m hO 0 c).after 5 t y = (total (me m) (sent m c) (landed m c)) z := by
  refine (congrFun (after0_5 m hO c t) y).trans ((read5 m hO c t y).trans ?_)
  exact g_blk m hO c h8 t y z h0 h1
omit h0 h1 in
/-- What the body leaves in result 1's buffer, at one entry. -/
theorem read6 : ((outsAt0 m hO c t).2.1 : S512x386.Idx → EReal) y = delta (bsum (word c (tbl m 0)) (iblk m hO c 0 t) (iblk m hO c 1 t) y) ((iblk m hO c 2 t : S512x386.Idx → EReal) y) ((iblk m hO c 3 t : S512x386.Idx → EReal) y) ((iblk m hO c 4 t : S512x386.Idx → EReal) y) := by
  dsimp only [outsAt0]
  exact left6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0) y
include h8 in
theorem res6 : (dats m hO 0 c).after 6 t y = (deltas (gr m c) (wgt m c) (mean m c) (sqr m c)) z := by
  refine (congrFun (after0_6 m hO c t) y).trans ((read6 m hO c t y).trans ?_)
  exact congr (congr (congr (congrArg delta (g_blk m hO c h8 t y z h0 h1)) (blk2 m hO c t y z h0 h1)) (blk3 m hO c t y z h0 h1)) (blk4 m hO c t y z h0 h1)
omit h0 h1 in
/-- What the body leaves in result 2's buffer, at one entry. -/
theorem read7 : ((outsAt0 m hO c t).2.2.1 : S512x386.Idx → EReal) y = newM (bsum (word c (tbl m 0)) (iblk m hO c 0 t) (iblk m hO c 1 t) y) ((iblk m hO c 3 t : S512x386.Idx → EReal) y) := by
  dsimp only [outsAt0]
  exact left7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0) y
include h8 in
theorem res7 : (dats m hO 0 c).after 7 t y = (means (gr m c) (mean m c)) z := by
  refine (congrFun (after0_7 m hO c t) y).trans ((read7 m hO c t y).trans ?_)
  exact congrArg₂ newM (g_blk m hO c h8 t y z h0 h1) (blk3 m hO c t y z h0 h1)
omit h0 h1 in
/-- What the body leaves in result 3's buffer, at one entry. -/
theorem read8 : ((outsAt0 m hO c t).2.2.2 : S512x386.Idx → EReal) y = newV (bsum (word c (tbl m 0)) (iblk m hO c 0 t) (iblk m hO c 1 t) y) ((iblk m hO c 4 t : S512x386.Idx → EReal) y) := by
  dsimp only [outsAt0]
  exact left8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0) y
include h8 in
theorem res8 : (dats m hO 0 c).after 8 t y = (squares (gr m c) (sqr m c)) z := by
  refine (congrFun (after0_8 m hO c t) y).trans ((read8 m hO c t y).trans ?_)
  exact congrArg₂ newV (g_blk m hO c h8 t y z h0 h1) (blk4 m hO c t y z h0 h1)

omit h0 h1

include h8

/-- The four results. -/
theorem final5 : (dats m hO 0 c).arrAt 5 (cfgM m hO).N = total (me m) (sent m c) (landed m c) := by
  refine (dats m hO 0 c).arrAt_eq_of_cover 5 (total (me m) (sent m c) (landed m c)) (fun t hf => ?_) (fun (i : S1024x386.Idx) => ⟨tileOf m hO (i 0), flush0_5 _ _, ?_⟩)
  · have hi := idx5 m hO t
    refine funext fun (y : S512x386.Idx) => ?_
    show (dats m hO 0 c).after 5 t y = (total (me m) (sent m c) (landed m c) : S1024x386.Idx → EReal) ((((cfgM m hO).win 5).blk t).view.emb y)
    refine res5 m hO c h8 t y _ ?_ ?_
    · show ixs5 m hO t 0 * 512 + 1 * (y 0).val = _; rw [hi.1]
    · show ixs5 m hO t 1 * 386 + 1 * (y 1).val = _; rw [hi.2]
  · have hi := idx5 m hO (tileOf m hO (i 0))
    refine mem_of main_v0_0 (((cfgM m hO).win 5).rect (tileOf m hO (i 0))) i (Rect.mem_set_unit.2 fun a => ?_)
    match a with
    | ⟨0, _⟩ => exact in_tile (b := 512) (by decide) hi.1
    | ⟨1, _⟩ => exact in_row hi.2 (i 1).isLt
theorem final6 : (dats m hO 0 c).arrAt 6 (cfgM m hO).N = deltas (gr m c) (wgt m c) (mean m c) (sqr m c) := by
  refine (dats m hO 0 c).arrAt_eq_of_cover 6 (deltas (gr m c) (wgt m c) (mean m c) (sqr m c)) (fun t hf => ?_) (fun (i : S1024x386.Idx) => ⟨tileOf m hO (i 0), flush0_6 _ _, ?_⟩)
  · have hi := idx6 m hO t
    refine funext fun (y : S512x386.Idx) => ?_
    show (dats m hO 0 c).after 6 t y = (deltas (gr m c) (wgt m c) (mean m c) (sqr m c) : S1024x386.Idx → EReal) ((((cfgM m hO).win 6).blk t).view.emb y)
    refine res6 m hO c h8 t y _ ?_ ?_
    · show ixs6 m hO t 0 * 512 + 1 * (y 0).val = _; rw [hi.1]
    · show ixs6 m hO t 1 * 386 + 1 * (y 1).val = _; rw [hi.2]
  · have hi := idx6 m hO (tileOf m hO (i 0))
    refine mem_of main_v0_1 (((cfgM m hO).win 6).rect (tileOf m hO (i 0))) i (Rect.mem_set_unit.2 fun a => ?_)
    match a with
    | ⟨0, _⟩ => exact in_tile (b := 512) (by decide) hi.1
    | ⟨1, _⟩ => exact in_row hi.2 (i 1).isLt
theorem final7 : (dats m hO 0 c).arrAt 7 (cfgM m hO).N = means (gr m c) (mean m c) := by
  refine (dats m hO 0 c).arrAt_eq_of_cover 7 (means (gr m c) (mean m c)) (fun t hf => ?_) (fun (i : S1024x386.Idx) => ⟨tileOf m hO (i 0), flush0_7 _ _, ?_⟩)
  · have hi := idx7 m hO t
    refine funext fun (y : S512x386.Idx) => ?_
    show (dats m hO 0 c).after 7 t y = (means (gr m c) (mean m c) : S1024x386.Idx → EReal) ((((cfgM m hO).win 7).blk t).view.emb y)
    refine res7 m hO c h8 t y _ ?_ ?_
    · show ixs7 m hO t 0 * 512 + 1 * (y 0).val = _; rw [hi.1]
    · show ixs7 m hO t 1 * 386 + 1 * (y 1).val = _; rw [hi.2]
  · have hi := idx7 m hO (tileOf m hO (i 0))
    refine mem_of main_v0_2 (((cfgM m hO).win 7).rect (tileOf m hO (i 0))) i (Rect.mem_set_unit.2 fun a => ?_)
    match a with
    | ⟨0, _⟩ => exact in_tile (b := 512) (by decide) hi.1
    | ⟨1, _⟩ => exact in_row hi.2 (i 1).isLt
theorem final8 : (dats m hO 0 c).arrAt 8 (cfgM m hO).N = squares (gr m c) (sqr m c) := by
  refine (dats m hO 0 c).arrAt_eq_of_cover 8 (squares (gr m c) (sqr m c)) (fun t hf => ?_) (fun (i : S1024x386.Idx) => ⟨tileOf m hO (i 0), flush0_8 _ _, ?_⟩)
  · have hi := idx8 m hO t
    refine funext fun (y : S512x386.Idx) => ?_
    show (dats m hO 0 c).after 8 t y = (squares (gr m c) (sqr m c) : S1024x386.Idx → EReal) ((((cfgM m hO).win 8).blk t).view.emb y)
    refine res8 m hO c h8 t y _ ?_ ?_
    · show ixs8 m hO t 0 * 512 + 1 * (y 0).val = _; rw [hi.1]
    · show ixs8 m hO t 1 * 386 + 1 * (y 1).val = _; rw [hi.2]
  · have hi := idx8 m hO (tileOf m hO (i 0))
    refine mem_of main_v0_3 (((cfgM m hO).win 8).rect (tileOf m hO (i 0))) i (Rect.mem_set_unit.2 fun a => ?_)
    match a with
    | ⟨0, _⟩ => exact in_tile (b := 512) (by decide) hi.1
    | ⟨1, _⟩ => exact in_row hi.2 (i 1).isLt

end Cert.AdamInIdeal.Val

end
-- ==== Proof.AdamInValue.lean ====
/-
  `adam_w_in` computes what its reference computes: the sum of the eight devices' parts of the gradient of the input projection's
  weight, the device's own part taken from what it sent, and the optimiser's step on it. The device's number places a window
  on what was sent, so it has to be below eight, which the precondition says.
-/
module

public import proofs.«01_k».proof.Proof.AdamInFinal
public import proofs.«01_k».proof.Proof.MeshNumber
public import proofs.«01_k».proof.Proof.Gen.AdamIn.Frame
public import proofs.«01_k».proof.Proof.Gen.AdamInRefIdeal.Read
public import proofs.«01_k».proof.Proof.Gen.AdamInRefIdeal.Run
public import proofs.«01_k».proof.Proof.Gen.Pre_on_mesh_in
public import proofs.«01_k».proof.Defs

@[expose] public section

set_option maxRecDepth 16384

noncomputable section

namespace Cert.AdamIn.Mesh

open Cert.AdamIn Cert.AdamIn.Gen Cert.Arr
open Idealize.ShloMosaic Idealize.ShloMosaic.TcCoe Idealize.SL.Sem

/-- The precondition says that the number is below eight. -/
theorem below (m : (ℓ : Loc nD τ sig) → Buf (Elt Bits) ℓ) (h : Cert.Pre_AdamIn m) (x : S1.Idx) : BitVec.toNat (tbl m 0 x) < 8 := by
  have e := congrFun (h 0) x
  simp only [Pre_on_mesh_in.fn, andi, cmpi, broadcastInDim, constantI] at e
  exact below_eight e

/-- So the window on what was sent stays in it. -/
theorem ok (m : (ℓ : Loc nD τ sig) → Buf (Elt Bits) ℓ) (h : Cert.Pre_AdamIn m) : Ok m := fun i => ⟨fun a => by
    match a with
    | ⟨0, _⟩ =>
      show (BitVec.toNat (tbl m 0 _) + 1) * 1 ≤ 8
      exact (Nat.mul_one _).le.trans (Nat.succ_le_of_lt (below m h _))
    | ⟨1, _⟩ => exact (by decide +kernel : ∀ i : grid0.Coords, ((BitVec.ofNat 32 (i 0).val).toNat + 1) * 512 ≤ 1024) i
    | ⟨2, _⟩ => exact (by decide : (0 + 1) * 386 ≤ 386),
  .inr (Affine.block_words_dvd (of_decide_eq_true rfl) (by decide))⟩

end Cert.AdamIn.Mesh

namespace Cert.AdamInIdeal.Mesh

open Cert.AdamInIdeal Cert.AdamInIdeal.Gen Cert.Arr
open Idealize.ShloMosaic Idealize.ShloMosaic.TcCoe Idealize.SL.Sem

/-- The precondition says that the number is below eight. -/
theorem below (m : (ℓ : Loc nD τ sig) → Buf (Elt Ideal) ℓ) (h : Cert.Pre_AdamInIdeal m) (x : S1.Idx) : BitVec.toNat (tbl m 0 x) < 8 := by
  have e := congrFun (h 0) x
  simp only [Pre_on_mesh_in.fn, andi, cmpi, broadcastInDim, constantI] at e
  exact below_eight e

/-- So the window on what was sent stays in it. -/
theorem ok (m : (ℓ : Loc nD τ sig) → Buf (Elt Ideal) ℓ) (h : Cert.Pre_AdamInIdeal m) : Ok m := fun i => ⟨fun a => by
    match a with
    | ⟨0, _⟩ =>
      show (BitVec.toNat (tbl m 0 _) + 1) * 1 ≤ 8
      exact (Nat.mul_one _).le.trans (Nat.succ_le_of_lt (below m h _))
    | ⟨1, _⟩ => exact (by decide +kernel : ∀ i : grid0.Coords, ((BitVec.ofNat 32 (i 0).val).toNat + 1) * 512 ≤ 1024) i
    | ⟨2, _⟩ => exact (by decide : (0 + 1) * 386 ≤ 386),
  .inr (Affine.block_words_dvd (of_decide_eq_true rfl) (by decide))⟩

end Cert.AdamInIdeal.Mesh

namespace Cert.AdamInIdeal.Val

open Cert.AdamInIdeal Cert.AdamInIdeal.Gen Cert.Arr
open Idealize.ShloMosaic Idealize.ShloMosaic.TcCoe Idealize.SL.Sem

section Ref
open Cert.AdamInRefIdeal.Read

/-- The part of device `k`, as the reference chooses it. -/
theorem r_part (x : S1.Idx → BitVec 32) (s l : S8x1024x386.Idx → EReal) (j : S8x1024x386.Idx) (k : Fin 8) (h : (j 0).val = k.val) :
    val_main_v6 (F := Ideal) x s l j = if x (ValueIdx.ix1 0) = BitVec.ofNat 32 k.val then s j else l j := by
  rw [val_main_v6_apply, val_main_v3_apply, val_main_v0_apply, val_main_v2_apply, h]
  have e : val_main_v1 (F := Ideal) x (idx_main_v2 j) = x (ValueIdx.ix1 0) :=
    congrArg x (funext fun a => Fin.ext (by match a with | ⟨0, _⟩ => exact Nat.lt_one_iff.1 (Fin.isLt _)))
  rw [e]
  by_cases hk : x (ValueIdx.ix1 0) = BitVec.ofNat 32 k.val
  · rw [if_pos hk]
    exact if_pos (StableHlo.Predicate.cmpi_eq_iff.2 hk.symm)
  · rw [if_neg hk]
    exact if_neg fun e => hk (StableHlo.Predicate.cmpi_eq_iff.1 e).symm

theorem r_total (x : S1.Idx → BitVec 32) (s l : S8x1024x386.Idx → EReal) :
    val_main_v7 (F := Ideal) x s l = total (x (ValueIdx.ix1 0)) s l := by
  funext i
  rw [val_main_v7_apply]
  unfold total own
  refine sum_from czero fun k => (r_part x s l (idx_main_v7 i k) k rfl).trans ?_
  have hj : idx_main_v7 i k = ValueIdx.ix3 k (i 0) (i 1) := ext3 (l := 8) (m := 1024) (n := 386) rfl rfl rfl
  rw [hj]
  rfl
theorem r_means (x : S1.Idx → BitVec 32) (s l : S8x1024x386.Idx → EReal) (m : S1024x386.Idx → EReal) :
    val_main_v12 (F := Ideal) x s l m = means (total (x (ValueIdx.ix1 0)) s l) m := by
  rw [← r_total]; rfl
theorem r_squares (x : S1.Idx → BitVec 32) (s l : S8x1024x386.Idx → EReal) (v : S1024x386.Idx → EReal) :
    val_main_v18 (F := Ideal) x s l v = squares (total (x (ValueIdx.ix1 0)) s l) v := by
  rw [← r_total]; rfl
theorem r_deltas (x : S1.Idx → BitVec 32) (s l : S8x1024x386.Idx → EReal) (w m v : S1024x386.Idx → EReal) :
    val_main_v31 (F := Ideal) x s l w m v = deltas (total (x (ValueIdx.ix1 0)) s l) w m v := by
  rw [← r_total]; rfl

end Ref

end Cert.AdamInIdeal.Val

open Idealize.ShloMosaic Idealize.ShloMosaic.TcCoe Idealize.SL.Sem Cert.Arr Cert.AdamInIdeal.Val Cert.AdamInRefIdeal.Read in
/-- The kernel and the reference compute the same four arrays. -/
theorem Cert.AdamInIdeal.Val.algebraic : Cert.algebraic_AdamInIdeal_AdamInRefIdeal := by
  intro m g m' g' hp hagree
  have hO := Cert.AdamInIdeal.Mesh.ok m hp
  have h8 : (me m).toNat < 8 := Cert.AdamInIdeal.Mesh.below m hp _
  refine ⟨fun c => gr m c, fun c => deltas (gr m c) (wgt m c) (mean m c) (sqr m c), fun c => means (gr m c) (mean m c),
    fun c => squares (gr m c) (sqr m c),
    (θ_run Cert.AdamInIdeal.defs _ _).mono (fun r h c => ?_) (θ_run_and (Cert.AdamInIdeal.Gen.run_main (F := Ideal) m g hO) (Cert.AdamInIdeal.Gen.unchanged (F := Ideal) m g hO)),
    (θ_run Cert.AdamInRefIdeal.defs _ _).mono (fun r h c => ?_) (Cert.AdamInRefIdeal.Value.run (F := Ideal) m' g')⟩
  · exact ⟨((h.1 c).1 5).trans (final5 m hO c h8), ((h.1 c).1 6).trans (final6 m hO c h8), ((h.1 c).1 7).trans (final7 m hO c h8),
      ((h.1 c).1 8).trans (final8 m hO c h8), h.2 c⟩
  · obtain ⟨h0, h1, h2, h3, hk⟩ := h c
    obtain ⟨e0, e1, e2, e3, e4, e5⟩ := hagree c
    have en : me m = m ((c.tc : Thread Cert.AdamInIdeal.nD Cert.AdamInIdeal.τ).loc Cert.AdamInIdeal.main_arg0) (ValueIdx.ix1 0) := by
      obtain rfl : c = 0 := Subsingleton.elim _ _
      rfl
    refine ⟨h0.trans ((val_main_v7_eq _ _ _).trans ((r_total _ _ _).trans ?_)), h1.trans ((val_main_v31_eq _ _ _ _ _ _).trans ((r_deltas _ _ _ _ _ _).trans ?_)),
      h2.trans ((val_main_v12_eq _ _ _ _).trans ((r_means _ _ _ _).trans ?_)), h3.trans ((val_main_v18_eq _ _ _ _).trans ((r_squares _ _ _ _).trans ?_)), hk⟩
    · show total _ _ _ = total (me m) _ _; rw [e0, e1, e2, en]
    · show deltas (total _ _ _) _ _ _ = deltas (total (me m) _ _) _ _ _; rw [e0, e1, e2, e3, e4, e5, en]
    · show means (total _ _ _) _ = means (total (me m) _ _) _; rw [e0, e1, e2, e4, en]
    · show squares (total _ _ _) _ = squares (total (me m) _ _) _; rw [e0, e1, e2, e5, en]

end
-- ==== Proof.lean ====
/-
  The certificate's proof: every program's frame, the kernels against their idealizations, and each call whose value is
  claimed against its reference. The mathematics is in the modules under `Proof/`; this file puts it together.
-/
module

public import proofs.«01_k».proof.Defs
public import proofs.«01_k».proof.Proof.Gen.Mixer
public import proofs.«01_k».proof.Proof.Gen.MixerIdeal
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpIdeal.Value
public import proofs.«01_k».proof.Proof.Gen.MlpRefIdeal
public import proofs.«01_k».proof.Proof.Gen.MlpRefIdeal.Run
public import proofs.«01_k».proof.Proof.Gen.MlpRefIdeal.Read
public import proofs.«01_k».proof.Proof.Gen.InBwd
public import proofs.«01_k».proof.Proof.Gen.InBwd.Skeleton
public import proofs.«01_k».proof.Proof.Gen.InBwd.Launch
public import proofs.«01_k».proof.Proof.Gen.InBwd.Points
public import proofs.«01_k».proof.Proof.Gen.InBwd.Frame
public import proofs.«01_k».proof.Proof.Gen.InBwdIdeal
public import proofs.«01_k».proof.Proof.Gen.InBwdIdeal.Skeleton
public import proofs.«01_k».proof.Proof.Gen.InBwdIdeal.Launch
public import proofs.«01_k».proof.Proof.Gen.InBwdIdeal.Points
public import proofs.«01_k».proof.Proof.Gen.InBwdIdeal.Frame
public import proofs.«01_k».proof.Proof.Gen.InBwdIdeal.Value
public import proofs.«01_k».proof.Proof.Gen.InRefIdeal
public import proofs.«01_k».proof.Proof.Gen.InRefIdeal.Run
public import proofs.«01_k».proof.Proof.Gen.InRefIdeal.Read
public import proofs.«01_k».proof.Proof.Gen.DwOut
public import proofs.«01_k».proof.Proof.Gen.DwOut.Skeleton
public import proofs.«01_k».proof.Proof.Gen.DwOut.Launch
public import proofs.«01_k».proof.Proof.Gen.DwOut.Points
public import proofs.«01_k».proof.Proof.Gen.DwOut.Frame
public import proofs.«01_k».proof.Proof.Gen.DwOutIdeal
public import proofs.«01_k».proof.Proof.Gen.DwOutIdeal.Skeleton
public import proofs.«01_k».proof.Proof.Gen.DwOutIdeal.Launch
public import proofs.«01_k».proof.Proof.Gen.DwOutIdeal.Points
public import proofs.«01_k».proof.Proof.Gen.DwOutIdeal.Frame
public import proofs.«01_k».proof.Proof.Gen.DwOutIdeal.Value
public import proofs.«01_k».proof.Proof.Gen.DwOutRefIdeal
public import proofs.«01_k».proof.Proof.Gen.DwOutRefIdeal.Run
public import proofs.«01_k».proof.Proof.Gen.DwOutRefIdeal.Read
public import proofs.«01_k».proof.Proof.Gen.DwUp
public import proofs.«01_k».proof.Proof.Gen.DwUp.Skeleton
public import proofs.«01_k».proof.Proof.Gen.DwUp.Launch
public import proofs.«01_k».proof.Proof.Gen.DwUp.Points
public import proofs.«01_k».proof.Proof.Gen.DwUp.Frame
public import proofs.«01_k».proof.Proof.Gen.DwUpIdeal
public import proofs.«01_k».proof.Proof.Gen.DwUpIdeal.Skeleton
public import proofs.«01_k».proof.Proof.Gen.DwUpIdeal.Launch
public import proofs.«01_k».proof.Proof.Gen.DwUpIdeal.Points
public import proofs.«01_k».proof.Proof.Gen.DwUpIdeal.Frame
public import proofs.«01_k».proof.Proof.Gen.DwUpIdeal.Value
public import proofs.«01_k».proof.Proof.Gen.DwUpRefIdeal
public import proofs.«01_k».proof.Proof.Gen.DwUpRefIdeal.Run
public import proofs.«01_k».proof.Proof.Gen.DwUpRefIdeal.Read
public import proofs.«01_k».proof.Proof.Gen.DwDown
public import proofs.«01_k».proof.Proof.Gen.DwDown.Skeleton
public import proofs.«01_k».proof.Proof.Gen.DwDown.Launch
public import proofs.«01_k».proof.Proof.Gen.DwDown.Points
public import proofs.«01_k».proof.Proof.Gen.DwDown.Frame
public import proofs.«01_k».proof.Proof.Gen.DwDownIdeal
public import proofs.«01_k».proof.Proof.Gen.DwDownIdeal.Skeleton
public import proofs.«01_k».proof.Proof.Gen.DwDownIdeal.Launch
public import proofs.«01_k».proof.Proof.Gen.DwDownIdeal.Points
public import proofs.«01_k».proof.Proof.Gen.DwDownIdeal.Frame
public import proofs.«01_k».proof.Proof.Gen.DwDownIdeal.Value
public import proofs.«01_k».proof.Proof.Gen.DwDownRefIdeal
public import proofs.«01_k».proof.Proof.Gen.DwDownRefIdeal.Run
public import proofs.«01_k».proof.Proof.Gen.DwDownRefIdeal.Read
public import Idealize.ShloMosaic.Adequacy
public import Idealize.ShloMosaic.Init
public import proofs.«01_k».proof.Proof.MixerFrame
public import proofs.«01_k».proof.Proof.MixerBits
public import proofs.«01_k».proof.Proof.Gen.AdaFwd
public import proofs.«01_k».proof.Proof.Gen.AdaFwd.Skeleton
public import proofs.«01_k».proof.Proof.Gen.AdaFwd.Launch
public import proofs.«01_k».proof.Proof.Gen.AdaFwd.Points
public import proofs.«01_k».proof.Proof.Gen.AdaFwd.Frame
public import proofs.«01_k».proof.Proof.Gen.AdaFwdIdeal
public import proofs.«01_k».proof.Proof.Gen.AdaFwdIdeal.Skeleton
public import proofs.«01_k».proof.Proof.Gen.AdaFwdIdeal.Launch
public import proofs.«01_k».proof.Proof.Gen.AdaFwdIdeal.Points
public import proofs.«01_k».proof.Proof.Gen.AdaFwdIdeal.Frame
public import proofs.«01_k».proof.Proof.Gen.AdaFwdIdeal.Value
public import proofs.«01_k».proof.Proof.Gen.AdaFwdRefIdeal
public import proofs.«01_k».proof.Proof.Gen.AdaFwdRefIdeal.Run
public import proofs.«01_k».proof.Proof.Gen.AdaFwdRefIdeal.Read
public import proofs.«01_k».proof.Proof.Gen.AdaBwd
public import proofs.«01_k».proof.Proof.Gen.AdaBwd.Skeleton
public import proofs.«01_k».proof.Proof.Gen.AdaBwd.Launch
public import proofs.«01_k».proof.Proof.Gen.AdaBwd.Points
public import proofs.«01_k».proof.Proof.Gen.AdaBwd.Frame
public import proofs.«01_k».proof.Proof.Gen.AdaBwdIdeal
public import proofs.«01_k».proof.Proof.Gen.AdaBwdIdeal.Skeleton
public import proofs.«01_k».proof.Proof.Gen.AdaBwdIdeal.Launch
public import proofs.«01_k».proof.Proof.Gen.AdaBwdIdeal.Points
public import proofs.«01_k».proof.Proof.Gen.AdaBwdIdeal.Frame
public import proofs.«01_k».proof.Proof.Gen.AdaBwdIdeal.Value
public import proofs.«01_k».proof.Proof.Gen.AdaBwdRefIdeal
public import proofs.«01_k».proof.Proof.Gen.AdaBwdRefIdeal.Run
public import proofs.«01_k».proof.Proof.Gen.AdaBwdRefIdeal.Read
public import proofs.«01_k».proof.Proof.Gen.AdamPool
public import proofs.«01_k».proof.Proof.Gen.AdamPool.Skeleton
public import proofs.«01_k».proof.Proof.Gen.AdamPool.Launch
public import proofs.«01_k».proof.Proof.Gen.AdamPool.Points
public import proofs.«01_k».proof.Proof.Gen.AdamPool.Frame
public import proofs.«01_k».proof.Proof.Gen.AdamPoolIdeal
public import proofs.«01_k».proof.Proof.Gen.AdamPoolIdeal.Skeleton
public import proofs.«01_k».proof.Proof.Gen.AdamPoolIdeal.Launch
public import proofs.«01_k».proof.Proof.Gen.AdamPoolIdeal.Points
public import proofs.«01_k».proof.Proof.Gen.AdamPoolIdeal.Frame
public import proofs.«01_k».proof.Proof.Gen.AdamPoolIdeal.Value
public import proofs.«01_k».proof.Proof.Gen.AdamPoolRefIdeal
public import proofs.«01_k».proof.Proof.Gen.AdamPoolRefIdeal.Run
public import proofs.«01_k».proof.Proof.Gen.AdamPoolRefIdeal.Read
public import proofs.«01_k».proof.Proof.Gen.AdamConv
public import proofs.«01_k».proof.Proof.Gen.AdamConv.Skeleton
public import proofs.«01_k».proof.Proof.Gen.AdamConv.Launch
public import proofs.«01_k».proof.Proof.Gen.AdamConv.Points
public import proofs.«01_k».proof.Proof.Gen.AdamConv.Frame
public import proofs.«01_k».proof.Proof.Gen.AdamConvIdeal
public import proofs.«01_k».proof.Proof.Gen.AdamConvIdeal.Skeleton
public import proofs.«01_k».proof.Proof.Gen.AdamConvIdeal.Launch
public import proofs.«01_k».proof.Proof.Gen.AdamConvIdeal.Points
public import proofs.«01_k».proof.Proof.Gen.AdamConvIdeal.Frame
public import proofs.«01_k».proof.Proof.Gen.AdamConvIdeal.Value
public import proofs.«01_k».proof.Proof.Gen.AdamConvRefIdeal
public import proofs.«01_k».proof.Proof.Gen.AdamConvRefIdeal.Run
public import proofs.«01_k».proof.Proof.Gen.AdamConvRefIdeal.Read
public import proofs.«01_k».proof.Proof.Gen.AdamOut
public import proofs.«01_k».proof.Proof.Gen.AdamOut.Skeleton
public import proofs.«01_k».proof.Proof.Gen.AdamOut.Launch
public import proofs.«01_k».proof.Proof.Gen.AdamOut.Points
public import proofs.«01_k».proof.Proof.Gen.AdamOut.Frame
public import proofs.«01_k».proof.Proof.Gen.AdamOutIdeal
public import proofs.«01_k».proof.Proof.Gen.AdamOutIdeal.Skeleton
public import proofs.«01_k».proof.Proof.Gen.AdamOutIdeal.Launch
public import proofs.«01_k».proof.Proof.Gen.AdamOutIdeal.Points
public import proofs.«01_k».proof.Proof.Gen.AdamOutIdeal.Frame
public import proofs.«01_k».proof.Proof.Gen.AdamOutRefIdeal
public import proofs.«01_k».proof.Proof.Gen.AdamOutRefIdeal.Run
public import proofs.«01_k».proof.Proof.Gen.AdamOutRefIdeal.Read
public import proofs.«01_k».proof.Proof.Gen.AdamUp
public import proofs.«01_k».proof.Proof.Gen.AdamUp.Skeleton
public import proofs.«01_k».proof.Proof.Gen.AdamUp.Launch
public import proofs.«01_k».proof.Proof.Gen.AdamUp.Points
public import proofs.«01_k».proof.Proof.Gen.AdamUp.Frame
public import proofs.«01_k».proof.Proof.Gen.AdamUpIdeal
public import proofs.«01_k».proof.Proof.Gen.AdamUpIdeal.Skeleton
public import proofs.«01_k».proof.Proof.Gen.AdamUpIdeal.Launch
public import proofs.«01_k».proof.Proof.Gen.AdamUpIdeal.Points
public import proofs.«01_k».proof.Proof.Gen.AdamUpIdeal.Frame
public import proofs.«01_k».proof.Proof.Gen.AdamUpRefIdeal
public import proofs.«01_k».proof.Proof.Gen.AdamUpRefIdeal.Run
public import proofs.«01_k».proof.Proof.Gen.AdamUpRefIdeal.Read
public import proofs.«01_k».proof.Proof.Gen.AdamDown
public import proofs.«01_k».proof.Proof.Gen.AdamDown.Skeleton
public import proofs.«01_k».proof.Proof.Gen.AdamDown.Launch
public import proofs.«01_k».proof.Proof.Gen.AdamDown.Points
public import proofs.«01_k».proof.Proof.Gen.AdamDown.Frame
public import proofs.«01_k».proof.Proof.Gen.AdamDownIdeal
public import proofs.«01_k».proof.Proof.Gen.AdamDownIdeal.Skeleton
public import proofs.«01_k».proof.Proof.Gen.AdamDownIdeal.Launch
public import proofs.«01_k».proof.Proof.Gen.AdamDownIdeal.Points
public import proofs.«01_k».proof.Proof.Gen.AdamDownIdeal.Frame
public import proofs.«01_k».proof.Proof.Gen.AdamDownRefIdeal
public import proofs.«01_k».proof.Proof.Gen.AdamDownRefIdeal.Run
public import proofs.«01_k».proof.Proof.Gen.AdamDownRefIdeal.Read
public import proofs.«01_k».proof.Proof.Gen.AdamIn
public import proofs.«01_k».proof.Proof.Gen.AdamIn.Skeleton
public import proofs.«01_k».proof.Proof.Gen.AdamIn.Launch
public import proofs.«01_k».proof.Proof.Gen.AdamIn.Points
public import proofs.«01_k».proof.Proof.Gen.AdamIn.Frame
public import proofs.«01_k».proof.Proof.Gen.AdamInIdeal
public import proofs.«01_k».proof.Proof.Gen.AdamInIdeal.Skeleton
public import proofs.«01_k».proof.Proof.Gen.AdamInIdeal.Launch
public import proofs.«01_k».proof.Proof.Gen.AdamInIdeal.Points
public import proofs.«01_k».proof.Proof.Gen.AdamInIdeal.Frame
public import proofs.«01_k».proof.Proof.Gen.AdamInRefIdeal
public import proofs.«01_k».proof.Proof.Gen.AdamInRefIdeal.Run
public import proofs.«01_k».proof.Proof.Gen.AdamInRefIdeal.Read
public import proofs.«01_k».proof.Proof.Gen.Pre_on_mesh
public import proofs.«01_k».proof.Proof.Gen.Pre_on_mesh_up
public import proofs.«01_k».proof.Proof.Gen.Pre_on_mesh_down
public import proofs.«01_k».proof.Proof.Gen.Pre_on_mesh_in
public import proofs.«01_k».proof.Proof.MlpValue
public import proofs.«01_k».proof.Proof.InBwdValue
public import proofs.«01_k».proof.Proof.DwOutValue
public import proofs.«01_k».proof.Proof.DwUpValue
public import proofs.«01_k».proof.Proof.DwDownValue
public import proofs.«01_k».proof.Proof.AdaFwdValue
public import proofs.«01_k».proof.Proof.AdaBwdValue
public import proofs.«01_k».proof.Proof.AdamPoolValue
public import proofs.«01_k».proof.Proof.AdamConvValue
public import proofs.«01_k».proof.Proof.AdamOutValue
public import proofs.«01_k».proof.Proof.AdamUpValue
public import proofs.«01_k».proof.Proof.AdamDownValue
public import proofs.«01_k».proof.Proof.AdamInValue

@[expose] public section

noncomputable section

namespace Cert.Proof

open Idealize.ShloMosaic Idealize.SL.Sem

/-- `MlpRefIdeal` runs on every memory, leaves its arguments as they are and every counter at zero. -/
theorem MlpRefIdeal_quiet (m : (ℓ : Loc Cert.MlpRefIdeal.nD Cert.MlpRefIdeal.τ Cert.MlpRefIdeal.sig) → Buf (Elt Ideal) ℓ) (g : Dev Cert.MlpRefIdeal.nD → PrngReg) :
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5)
      ∧ r.2.mem ((c.tc : Thread Cert.MlpRefIdeal.nD Cert.MlpRefIdeal.τ).loc Cert.MlpRefIdeal.main_arg6) = m ((c.tc : Thread Cert.MlpRefIdeal.nD Cert.MlpRefIdeal.τ).loc Cert.MlpRefIdeal.main_arg6)
      ∧ r.2.mem ((c.tc : Thread Cert.MlpRefIdeal.nD Cert.MlpRefIdeal.τ).loc Cert.MlpRefIdeal.main_arg7) = m ((c.tc : Thread Cert.MlpRefIdeal.nD Cert.MlpRefIdeal.τ).loc Cert.MlpRefIdeal.main_arg7)
      ∧ r.2.mem ((c.tc : Thread Cert.MlpRefIdeal.nD Cert.MlpRefIdeal.τ).loc Cert.MlpRefIdeal.main_arg8) = m ((c.tc : Thread Cert.MlpRefIdeal.nD Cert.MlpRefIdeal.τ).loc Cert.MlpRefIdeal.main_arg8))
      ∧ r.2.sem = fun _ => 0) :=
  (θ_run Cert.MlpRefIdeal.defs _ _).mono (fun r h => ⟨fun c => (h c).2.2.2.2.2.2.2.2.2, sem_eq_zero_of_no_sems (by decide) r.2⟩) (Cert.MlpRefIdeal.Value.run m g)

/-- `InRefIdeal` runs on every memory, leaves its arguments as they are and every counter at zero. -/
theorem InRefIdeal_quiet (m : (ℓ : Loc Cert.InRefIdeal.nD Cert.InRefIdeal.τ Cert.InRefIdeal.sig) → Buf (Elt Ideal) ℓ) (g : Dev Cert.InRefIdeal.nD → PrngReg) :
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4)
      ∧ r.2.mem ((c.tc : Thread Cert.InRefIdeal.nD Cert.InRefIdeal.τ).loc Cert.InRefIdeal.main_arg5) = m ((c.tc : Thread Cert.InRefIdeal.nD Cert.InRefIdeal.τ).loc Cert.InRefIdeal.main_arg5)
      ∧ r.2.mem ((c.tc : Thread Cert.InRefIdeal.nD Cert.InRefIdeal.τ).loc Cert.InRefIdeal.main_arg6) = m ((c.tc : Thread Cert.InRefIdeal.nD Cert.InRefIdeal.τ).loc Cert.InRefIdeal.main_arg6)
      ∧ r.2.mem ((c.tc : Thread Cert.InRefIdeal.nD Cert.InRefIdeal.τ).loc Cert.InRefIdeal.main_arg7) = m ((c.tc : Thread Cert.InRefIdeal.nD Cert.InRefIdeal.τ).loc Cert.InRefIdeal.main_arg7))
      ∧ r.2.sem = fun _ => 0) :=
  (θ_run Cert.InRefIdeal.defs _ _).mono (fun r h => ⟨fun c => (h c).2.2.2, sem_eq_zero_of_no_sems (by decide) r.2⟩) (Cert.InRefIdeal.Value.run m g)

/-- `DwOutRefIdeal` runs on every memory, leaves its arguments as they are and every counter at zero. -/
theorem DwOutRefIdeal_quiet (m : (ℓ : Loc Cert.DwOutRefIdeal.nD Cert.DwOutRefIdeal.τ Cert.DwOutRefIdeal.sig) → Buf (Elt Ideal) ℓ) (g : Dev Cert.DwOutRefIdeal.nD → PrngReg) :
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1))
      ∧ r.2.sem = fun _ => 0) :=
  (θ_run Cert.DwOutRefIdeal.defs _ _).mono (fun r h => ⟨fun c => (h c).2, sem_eq_zero_of_no_sems (by decide) r.2⟩) (Cert.DwOutRefIdeal.Value.run m g)

/-- `DwUpRefIdeal` runs on every memory, leaves its arguments as they are and every counter at zero. -/
theorem DwUpRefIdeal_quiet (m : (ℓ : Loc Cert.DwUpRefIdeal.nD Cert.DwUpRefIdeal.τ Cert.DwUpRefIdeal.sig) → Buf (Elt Ideal) ℓ) (g : Dev Cert.DwUpRefIdeal.nD → PrngReg) :
    θ_run (Cert.DwUpRefIdeal.defs (F := Ideal)) (onTc (τ := Cert.DwUpRefIdeal.τ) (Cert.DwUpRefIdeal.main (F := Ideal))) ⟨m, fun _ => 0, g⟩ (fun r => (∀ c : Dev Cert.DwUpRefIdeal.nD,
      r.2.mem ((c.tc : Thread Cert.DwUpRefIdeal.nD Cert.DwUpRefIdeal.τ).loc Cert.DwUpRefIdeal.main_arg0) = m ((c.tc : Thread Cert.DwUpRefIdeal.nD Cert.DwUpRefIdeal.τ).loc Cert.DwUpRefIdeal.main_arg0)
      ∧ r.2.mem ((c.tc : Thread Cert.DwUpRefIdeal.nD Cert.DwUpRefIdeal.τ).loc Cert.DwUpRefIdeal.main_arg1) = m ((c.tc : Thread Cert.DwUpRefIdeal.nD Cert.DwUpRefIdeal.τ).loc Cert.DwUpRefIdeal.main_arg1))
      ∧ r.2.sem = fun _ => 0) :=
  (θ_run Cert.DwUpRefIdeal.defs _ _).mono (fun r h => ⟨fun c => (h c).2, sem_eq_zero_of_no_sems (by decide) r.2⟩) (Cert.DwUpRefIdeal.Value.run m g)

/-- `DwDownRefIdeal` runs on every memory, leaves its arguments as they are and every counter at zero. -/
theorem DwDownRefIdeal_quiet (m : (ℓ : Loc Cert.DwDownRefIdeal.nD Cert.DwDownRefIdeal.τ Cert.DwDownRefIdeal.sig) → Buf (Elt Ideal) ℓ) (g : Dev Cert.DwDownRefIdeal.nD → PrngReg) :
    θ_run (Cert.DwDownRefIdeal.defs (F := Ideal)) (onTc (τ := Cert.DwDownRefIdeal.τ) (Cert.DwDownRefIdeal.main (F := Ideal))) ⟨m, fun _ => 0, g⟩ (fun r => (∀ c : Dev Cert.DwDownRefIdeal.nD,
      r.2.mem ((c.tc : Thread Cert.DwDownRefIdeal.nD Cert.DwDownRefIdeal.τ).loc Cert.DwDownRefIdeal.main_arg0) = m ((c.tc : Thread Cert.DwDownRefIdeal.nD Cert.DwDownRefIdeal.τ).loc Cert.DwDownRefIdeal.main_arg0)
      ∧ r.2.mem ((c.tc : Thread Cert.DwDownRefIdeal.nD Cert.DwDownRefIdeal.τ).loc Cert.DwDownRefIdeal.main_arg1) = m ((c.tc : Thread Cert.DwDownRefIdeal.nD Cert.DwDownRefIdeal.τ).loc Cert.DwDownRefIdeal.main_arg1))
      ∧ r.2.sem = fun _ => 0) :=
  (θ_run Cert.DwDownRefIdeal.defs _ _).mono (fun r h => ⟨fun c => (h c).2, sem_eq_zero_of_no_sems (by decide) r.2⟩) (Cert.DwDownRefIdeal.Value.run m g)

/-- `AdaFwdRefIdeal` runs on every memory, leaves its arguments as they are and every counter at zero. -/
theorem AdaFwdRefIdeal_quiet (m : (ℓ : Loc Cert.AdaFwdRefIdeal.nD Cert.AdaFwdRefIdeal.τ Cert.AdaFwdRefIdeal.sig) → Buf (Elt Ideal) ℓ) (g : Dev Cert.AdaFwdRefIdeal.nD → PrngReg) :
    θ_run (Cert.AdaFwdRefIdeal.defs (F := Ideal)) (onTc (τ := Cert.AdaFwdRefIdeal.τ) (Cert.AdaFwdRefIdeal.main (F := Ideal))) ⟨m, fun _ => 0, g⟩ (fun r => (∀ c : Dev Cert.AdaFwdRefIdeal.nD,
      r.2.mem ((c.tc : Thread Cert.AdaFwdRefIdeal.nD Cert.AdaFwdRefIdeal.τ).loc Cert.AdaFwdRefIdeal.main_arg0) = m ((c.tc : Thread Cert.AdaFwdRefIdeal.nD Cert.AdaFwdRefIdeal.τ).loc Cert.AdaFwdRefIdeal.main_arg0)
      ∧ r.2.mem ((c.tc : Thread Cert.AdaFwdRefIdeal.nD Cert.AdaFwdRefIdeal.τ).loc Cert.AdaFwdRefIdeal.main_arg1) = m ((c.tc : Thread Cert.AdaFwdRefIdeal.nD Cert.AdaFwdRefIdeal.τ).loc Cert.AdaFwdRefIdeal.main_arg1)
      ∧ r.2.mem ((c.tc : Thread Cert.AdaFwdRefIdeal.nD Cert.AdaFwdRefIdeal.τ).loc Cert.AdaFwdRefIdeal.main_arg2) = m ((c.tc : Thread Cert.AdaFwdRefIdeal.nD Cert.AdaFwdRefIdeal.τ).loc Cert.AdaFwdRefIdeal.main_arg2))
      ∧ r.2.sem = fun _ => 0) :=
  (θ_run Cert.AdaFwdRefIdeal.defs _ _).mono (fun r h => ⟨fun c => (h c).2, sem_eq_zero_of_no_sems (by decide) r.2⟩) (Cert.AdaFwdRefIdeal.Value.run m g)

/-- `AdaBwdRefIdeal` runs on every memory, leaves its arguments as they are and every counter at zero. -/
theorem AdaBwdRefIdeal_quiet (m : (ℓ : Loc Cert.AdaBwdRefIdeal.nD Cert.AdaBwdRefIdeal.τ Cert.AdaBwdRefIdeal.sig) → Buf (Elt Ideal) ℓ) (g : Dev Cert.AdaBwdRefIdeal.nD → PrngReg) :
    θ_run (Cert.AdaBwdRefIdeal.defs (F := Ideal)) (onTc (τ := Cert.AdaBwdRefIdeal.τ) (Cert.AdaBwdRefIdeal.main (F := Ideal))) ⟨m, fun _ => 0, g⟩ (fun r => (∀ c : Dev Cert.AdaBwdRefIdeal.nD,
      r.2.mem ((c.tc : Thread Cert.AdaBwdRefIdeal.nD Cert.AdaBwdRefIdeal.τ).loc Cert.AdaBwdRefIdeal.main_arg0) = m ((c.tc : Thread Cert.AdaBwdRefIdeal.nD Cert.AdaBwdRefIdeal.τ).loc Cert.AdaBwdRefIdeal.main_arg0)
      ∧ r.2.mem ((c.tc : Thread Cert.AdaBwdRefIdeal.nD Cert.AdaBwdRefIdeal.τ).loc Cert.AdaBwdRefIdeal.main_arg1) = m ((c.tc : Thread Cert.AdaBwdRefIdeal.nD Cert.AdaBwdRefIdeal.τ).loc Cert.AdaBwdRefIdeal.main_arg1)
      ∧ r.2.mem ((c.tc : Thread Cert.AdaBwdRefIdeal.nD Cert.AdaBwdRefIdeal.τ).loc Cert.AdaBwdRefIdeal.main_arg2) = m ((c.tc : Thread Cert.AdaBwdRefIdeal.nD Cert.AdaBwdRefIdeal.τ).loc Cert.AdaBwdRefIdeal.main_arg2)
      ∧ r.2.mem ((c.tc : Thread Cert.AdaBwdRefIdeal.nD Cert.AdaBwdRefIdeal.τ).loc Cert.AdaBwdRefIdeal.main_arg3) = m ((c.tc : Thread Cert.AdaBwdRefIdeal.nD Cert.AdaBwdRefIdeal.τ).loc Cert.AdaBwdRefIdeal.main_arg3)
      ∧ r.2.mem ((c.tc : Thread Cert.AdaBwdRefIdeal.nD Cert.AdaBwdRefIdeal.τ).loc Cert.AdaBwdRefIdeal.main_arg4) = m ((c.tc : Thread Cert.AdaBwdRefIdeal.nD Cert.AdaBwdRefIdeal.τ).loc Cert.AdaBwdRefIdeal.main_arg4))
      ∧ r.2.sem = fun _ => 0) :=
  (θ_run Cert.AdaBwdRefIdeal.defs _ _).mono (fun r h => ⟨fun c => (h c).2.2.2.2, sem_eq_zero_of_no_sems (by decide) r.2⟩) (Cert.AdaBwdRefIdeal.Value.run m g)

/-- `AdamPoolRefIdeal` runs on every memory, leaves its arguments as they are and every counter at zero. -/
theorem AdamPoolRefIdeal_quiet (m : (ℓ : Loc Cert.AdamPoolRefIdeal.nD Cert.AdamPoolRefIdeal.τ Cert.AdamPoolRefIdeal.sig) → Buf (Elt Ideal) ℓ) (g : Dev Cert.AdamPoolRefIdeal.nD → PrngReg) :
    θ_run (Cert.AdamPoolRefIdeal.defs (F := Ideal)) (onTc (τ := Cert.AdamPoolRefIdeal.τ) (Cert.AdamPoolRefIdeal.main (F := Ideal))) ⟨m, fun _ => 0, g⟩ (fun r => (∀ c : Dev Cert.AdamPoolRefIdeal.nD,
      r.2.mem ((c.tc : Thread Cert.AdamPoolRefIdeal.nD Cert.AdamPoolRefIdeal.τ).loc Cert.AdamPoolRefIdeal.main_arg0) = m ((c.tc : Thread Cert.AdamPoolRefIdeal.nD Cert.AdamPoolRefIdeal.τ).loc Cert.AdamPoolRefIdeal.main_arg0)
      ∧ r.2.mem ((c.tc : Thread Cert.AdamPoolRefIdeal.nD Cert.AdamPoolRefIdeal.τ).loc Cert.AdamPoolRefIdeal.main_arg1) = m ((c.tc : Thread Cert.AdamPoolRefIdeal.nD Cert.AdamPoolRefIdeal.τ).loc Cert.AdamPoolRefIdeal.main_arg1)
      ∧ r.2.mem ((c.tc : Thread Cert.AdamPoolRefIdeal.nD Cert.AdamPoolRefIdeal.τ).loc Cert.AdamPoolRefIdeal.main_arg2) = m ((c.tc : Thread Cert.AdamPoolRefIdeal.nD Cert.AdamPoolRefIdeal.τ).loc Cert.AdamPoolRefIdeal.main_arg2)
      ∧ r.2.mem ((c.tc : Thread Cert.AdamPoolRefIdeal.nD Cert.AdamPoolRefIdeal.τ).loc Cert.AdamPoolRefIdeal.main_arg3) = m ((c.tc : Thread Cert.AdamPoolRefIdeal.nD Cert.AdamPoolRefIdeal.τ).loc Cert.AdamPoolRefIdeal.main_arg3))
      ∧ r.2.sem = fun _ => 0) :=
  (θ_run Cert.AdamPoolRefIdeal.defs _ _).mono (fun r h => ⟨fun c => (h c).2.2.2.2, sem_eq_zero_of_no_sems (by decide) r.2⟩) (Cert.AdamPoolRefIdeal.Value.run m g)

/-- `AdamConvRefIdeal` runs on every memory, leaves its arguments as they are and every counter at zero. -/
theorem AdamConvRefIdeal_quiet (m : (ℓ : Loc Cert.AdamConvRefIdeal.nD Cert.AdamConvRefIdeal.τ Cert.AdamConvRefIdeal.sig) → Buf (Elt Ideal) ℓ) (g : Dev Cert.AdamConvRefIdeal.nD → PrngReg) :
    θ_run (Cert.AdamConvRefIdeal.defs (F := Ideal)) (onTc (τ := Cert.AdamConvRefIdeal.τ) (Cert.AdamConvRefIdeal.main (F := Ideal))) ⟨m, fun _ => 0, g⟩ (fun r => (∀ c : Dev Cert.AdamConvRefIdeal.nD,
      r.2.mem ((c.tc : Thread Cert.AdamConvRefIdeal.nD Cert.AdamConvRefIdeal.τ).loc Cert.AdamConvRefIdeal.main_arg0) = m ((c.tc : Thread Cert.AdamConvRefIdeal.nD Cert.AdamConvRefIdeal.τ).loc Cert.AdamConvRefIdeal.main_arg0)
      ∧ r.2.mem ((c.tc : Thread Cert.AdamConvRefIdeal.nD Cert.AdamConvRefIdeal.τ).loc Cert.AdamConvRefIdeal.main_arg1) = m ((c.tc : Thread Cert.AdamConvRefIdeal.nD Cert.AdamConvRefIdeal.τ).loc Cert.AdamConvRefIdeal.main_arg1)
      ∧ r.2.mem ((c.tc : Thread Cert.AdamConvRefIdeal.nD Cert.AdamConvRefIdeal.τ).loc Cert.AdamConvRefIdeal.main_arg2) = m ((c.tc : Thread Cert.AdamConvRefIdeal.nD Cert.AdamConvRefIdeal.τ).loc Cert.AdamConvRefIdeal.main_arg2)
      ∧ r.2.mem ((c.tc : Thread Cert.AdamConvRefIdeal.nD Cert.AdamConvRefIdeal.τ).loc Cert.AdamConvRefIdeal.main_arg3) = m ((c.tc : Thread Cert.AdamConvRefIdeal.nD Cert.AdamConvRefIdeal.τ).loc Cert.AdamConvRefIdeal.main_arg3))
      ∧ r.2.sem = fun _ => 0) :=
  (θ_run Cert.AdamConvRefIdeal.defs _ _).mono (fun r h => ⟨fun c => (h c).2.2.2, sem_eq_zero_of_no_sems (by decide) r.2⟩) (Cert.AdamConvRefIdeal.Value.run m g)

/-- `AdamOutRefIdeal` runs on every memory, leaves its arguments as they are and every counter at zero. -/
theorem AdamOutRefIdeal_quiet (m : (ℓ : Loc Cert.AdamOutRefIdeal.nD Cert.AdamOutRefIdeal.τ Cert.AdamOutRefIdeal.sig) → Buf (Elt Ideal) ℓ) (g : Dev Cert.AdamOutRefIdeal.nD → PrngReg) :
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3)
      ∧ r.2.mem ((c.tc : Thread Cert.AdamOutRefIdeal.nD Cert.AdamOutRefIdeal.τ).loc Cert.AdamOutRefIdeal.main_arg4) = m ((c.tc : Thread Cert.AdamOutRefIdeal.nD Cert.AdamOutRefIdeal.τ).loc Cert.AdamOutRefIdeal.main_arg4)
      ∧ r.2.mem ((c.tc : Thread Cert.AdamOutRefIdeal.nD Cert.AdamOutRefIdeal.τ).loc Cert.AdamOutRefIdeal.main_arg5) = m ((c.tc : Thread Cert.AdamOutRefIdeal.nD Cert.AdamOutRefIdeal.τ).loc Cert.AdamOutRefIdeal.main_arg5))
      ∧ r.2.sem = fun _ => 0) :=
  (θ_run Cert.AdamOutRefIdeal.defs _ _).mono (fun r h => ⟨fun c => (h c).2.2.2.2, sem_eq_zero_of_no_sems (by decide) r.2⟩) (Cert.AdamOutRefIdeal.Value.run m g)

/-- `AdamUpRefIdeal` runs on every memory, leaves its arguments as they are and every counter at zero. -/
theorem AdamUpRefIdeal_quiet (m : (ℓ : Loc Cert.AdamUpRefIdeal.nD Cert.AdamUpRefIdeal.τ Cert.AdamUpRefIdeal.sig) → Buf (Elt Ideal) ℓ) (g : Dev Cert.AdamUpRefIdeal.nD → PrngReg) :
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3)
      ∧ r.2.mem ((c.tc : Thread Cert.AdamUpRefIdeal.nD Cert.AdamUpRefIdeal.τ).loc Cert.AdamUpRefIdeal.main_arg4) = m ((c.tc : Thread Cert.AdamUpRefIdeal.nD Cert.AdamUpRefIdeal.τ).loc Cert.AdamUpRefIdeal.main_arg4)
      ∧ r.2.mem ((c.tc : Thread Cert.AdamUpRefIdeal.nD Cert.AdamUpRefIdeal.τ).loc Cert.AdamUpRefIdeal.main_arg5) = m ((c.tc : Thread Cert.AdamUpRefIdeal.nD Cert.AdamUpRefIdeal.τ).loc Cert.AdamUpRefIdeal.main_arg5))
      ∧ r.2.sem = fun _ => 0) :=
  (θ_run Cert.AdamUpRefIdeal.defs _ _).mono (fun r h => ⟨fun c => (h c).2.2.2.2, sem_eq_zero_of_no_sems (by decide) r.2⟩) (Cert.AdamUpRefIdeal.Value.run m g)

/-- `AdamDownRefIdeal` runs on every memory, leaves its arguments as they are and every counter at zero. -/
theorem AdamDownRefIdeal_quiet (m : (ℓ : Loc Cert.AdamDownRefIdeal.nD Cert.AdamDownRefIdeal.τ Cert.AdamDownRefIdeal.sig) → Buf (Elt Ideal) ℓ) (g : Dev Cert.AdamDownRefIdeal.nD → PrngReg) :
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3)
      ∧ r.2.mem ((c.tc : Thread Cert.AdamDownRefIdeal.nD Cert.AdamDownRefIdeal.τ).loc Cert.AdamDownRefIdeal.main_arg4) = m ((c.tc : Thread Cert.AdamDownRefIdeal.nD Cert.AdamDownRefIdeal.τ).loc Cert.AdamDownRefIdeal.main_arg4)
      ∧ r.2.mem ((c.tc : Thread Cert.AdamDownRefIdeal.nD Cert.AdamDownRefIdeal.τ).loc Cert.AdamDownRefIdeal.main_arg5) = m ((c.tc : Thread Cert.AdamDownRefIdeal.nD Cert.AdamDownRefIdeal.τ).loc Cert.AdamDownRefIdeal.main_arg5))
      ∧ r.2.sem = fun _ => 0) :=
  (θ_run Cert.AdamDownRefIdeal.defs _ _).mono (fun r h => ⟨fun c => (h c).2.2.2.2, sem_eq_zero_of_no_sems (by decide) r.2⟩) (Cert.AdamDownRefIdeal.Value.run m g)

/-- `AdamInRefIdeal` runs on every memory, leaves its arguments as they are and every counter at zero. -/
theorem AdamInRefIdeal_quiet (m : (ℓ : Loc Cert.AdamInRefIdeal.nD Cert.AdamInRefIdeal.τ Cert.AdamInRefIdeal.sig) → Buf (Elt Ideal) ℓ) (g : Dev Cert.AdamInRefIdeal.nD → PrngReg) :
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3)
      ∧ r.2.mem ((c.tc : Thread Cert.AdamInRefIdeal.nD Cert.AdamInRefIdeal.τ).loc Cert.AdamInRefIdeal.main_arg4) = m ((c.tc : Thread Cert.AdamInRefIdeal.nD Cert.AdamInRefIdeal.τ).loc Cert.AdamInRefIdeal.main_arg4)
      ∧ r.2.mem ((c.tc : Thread Cert.AdamInRefIdeal.nD Cert.AdamInRefIdeal.τ).loc Cert.AdamInRefIdeal.main_arg5) = m ((c.tc : Thread Cert.AdamInRefIdeal.nD Cert.AdamInRefIdeal.τ).loc Cert.AdamInRefIdeal.main_arg5))
      ∧ r.2.sem = fun _ => 0) :=
  (θ_run Cert.AdamInRefIdeal.defs _ _).mono (fun r h => ⟨fun c => (h c).2.2.2.2, sem_eq_zero_of_no_sems (by decide) r.2⟩) (Cert.AdamInRefIdeal.Value.run m g)

/-- The certificate. -/
theorem claim : Cert.Claim :=
  ⟨Cert.Mixer.Gen.facts, Cert.MixerIdeal.Gen.facts, Cert.Mlp.Gen.facts, Cert.MlpIdeal.Gen.facts, Cert.MlpRefIdeal.Gen.facts, Cert.InBwd.Gen.facts, Cert.InBwdIdeal.Gen.facts, Cert.InRefIdeal.Gen.facts, Cert.DwOut.Gen.facts, Cert.DwOutIdeal.Gen.facts, Cert.DwOutRefIdeal.Gen.facts, Cert.DwUp.Gen.facts, Cert.DwUpIdeal.Gen.facts, Cert.DwUpRefIdeal.Gen.facts, Cert.DwDown.Gen.facts, Cert.DwDownIdeal.Gen.facts, Cert.DwDownRefIdeal.Gen.facts, Cert.AdaFwd.Gen.facts, Cert.AdaFwdIdeal.Gen.facts, Cert.AdaFwdRefIdeal.Gen.facts, Cert.AdaBwd.Gen.facts, Cert.AdaBwdIdeal.Gen.facts, Cert.AdaBwdRefIdeal.Gen.facts, Cert.AdamPool.Gen.facts, Cert.AdamPoolIdeal.Gen.facts, Cert.AdamPoolRefIdeal.Gen.facts, Cert.AdamConv.Gen.facts, Cert.AdamConvIdeal.Gen.facts, Cert.AdamConvRefIdeal.Gen.facts, Cert.AdamOut.Gen.facts, Cert.AdamOutIdeal.Gen.facts, Cert.AdamOutRefIdeal.Gen.facts, Cert.AdamUp.Gen.facts, Cert.AdamUpIdeal.Gen.facts, Cert.AdamUpRefIdeal.Gen.facts, Cert.AdamDown.Gen.facts, Cert.AdamDownIdeal.Gen.facts, Cert.AdamDownRefIdeal.Gen.facts, Cert.AdamIn.Gen.facts, Cert.AdamInIdeal.Gen.facts, Cert.AdamInRefIdeal.Gen.facts, Cert.Pre_on_mesh.Gen.facts, Cert.Pre_on_mesh_up.Gen.facts, Cert.Pre_on_mesh_down.Gen.facts, Cert.Pre_on_mesh_in.Gen.facts,
   fun m ρ _ => Cert.Mixer.Same.frame m ρ,
   fun m ρ _ => Cert.MixerIdeal.Gen.frame m ρ,
   fun m ρ _ => Cert.Mlp.Gen.frame m ρ,
   fun m ρ _ => Cert.MlpIdeal.Gen.frame m ρ,
   fun m ρ _ => MlpRefIdeal_quiet m ρ,
   fun m ρ _ => Cert.InBwd.Gen.frame m ρ,
   fun m ρ _ => Cert.InBwdIdeal.Gen.frame m ρ,
   fun m ρ _ => InRefIdeal_quiet m ρ,
   fun m ρ _ => Cert.DwOut.Gen.frame m ρ,
   fun m ρ _ => Cert.DwOutIdeal.Gen.frame m ρ,
   fun m ρ _ => DwOutRefIdeal_quiet m ρ,
   fun m ρ _ => Cert.DwUp.Gen.frame m ρ,
   fun m ρ _ => Cert.DwUpIdeal.Gen.frame m ρ,
   fun m ρ _ => DwUpRefIdeal_quiet m ρ,
   fun m ρ _ => Cert.DwDown.Gen.frame m ρ,
   fun m ρ _ => Cert.DwDownIdeal.Gen.frame m ρ,
   fun m ρ _ => DwDownRefIdeal_quiet m ρ,
   fun m ρ _ => Cert.AdaFwd.Gen.frame m ρ,
   fun m ρ _ => Cert.AdaFwdIdeal.Gen.frame m ρ,
   fun m ρ _ => AdaFwdRefIdeal_quiet m ρ,
   fun m ρ _ => Cert.AdaBwd.Gen.frame m ρ,
   fun m ρ _ => Cert.AdaBwdIdeal.Gen.frame m ρ,
   fun m ρ _ => AdaBwdRefIdeal_quiet m ρ,
   fun m ρ _ => Cert.AdamPool.Gen.frame m ρ,
   fun m ρ _ => Cert.AdamPoolIdeal.Gen.frame m ρ,
   fun m ρ _ => AdamPoolRefIdeal_quiet m ρ,
   fun m ρ _ => Cert.AdamConv.Gen.frame m ρ,
   fun m ρ _ => Cert.AdamConvIdeal.Gen.frame m ρ,
   fun m ρ _ => AdamConvRefIdeal_quiet m ρ,
   fun m ρ h => Cert.AdamOut.Gen.frame m ρ (Cert.AdamOut.Mesh.ok m h),
   fun m ρ h => Cert.AdamOutIdeal.Gen.frame m ρ (Cert.AdamOutIdeal.Mesh.ok m h),
   fun m ρ _ => AdamOutRefIdeal_quiet m ρ,
   fun m ρ _ => AdamOutRefIdeal_quiet m ρ,
   fun m ρ h => Cert.AdamUp.Gen.frame m ρ (Cert.AdamUp.Mesh.ok m h),
   fun m ρ h => Cert.AdamUpIdeal.Gen.frame m ρ (Cert.AdamUpIdeal.Mesh.ok m h),
   fun m ρ _ => AdamUpRefIdeal_quiet m ρ,
   fun m ρ _ => AdamUpRefIdeal_quiet m ρ,
   fun m ρ h => Cert.AdamDown.Gen.frame m ρ (Cert.AdamDown.Mesh.ok m h),
   fun m ρ h => Cert.AdamDownIdeal.Gen.frame m ρ (Cert.AdamDownIdeal.Mesh.ok m h),
   fun m ρ _ => AdamDownRefIdeal_quiet m ρ,
   fun m ρ _ => AdamDownRefIdeal_quiet m ρ,
   fun m ρ h => Cert.AdamIn.Gen.frame m ρ (Cert.AdamIn.Mesh.ok m h),
   fun m ρ h => Cert.AdamInIdeal.Gen.frame m ρ (Cert.AdamInIdeal.Mesh.ok m h),
   fun m ρ _ => AdamInRefIdeal_quiet m ρ,
   fun m ρ _ => AdamInRefIdeal_quiet m ρ,
   trivial,
   trivial,
   Cert.MlpIdeal.Val.algebraic,
   trivial,
   Cert.InBwdIdeal.Val.algebraic,
   trivial,
   Cert.DwOutIdeal.Val.algebraic,
   trivial,
   Cert.DwUpIdeal.Val.algebraic,
   trivial,
   Cert.DwDownIdeal.Val.algebraic,
   trivial,
   Cert.AdaFwdIdeal.Val.algebraic,
   trivial,
   Cert.AdaBwdIdeal.Val.algebraic,
   trivial,
   Cert.AdamPoolIdeal.Val.algebraic,
   trivial,
   Cert.AdamConvIdeal.Val.algebraic,
   trivial,
   Cert.AdamOutIdeal.Val.algebraic,
   trivial,
   Cert.AdamUpIdeal.Val.algebraic,
   trivial,
   Cert.AdamDownIdeal.Val.algebraic,
   trivial,
   Cert.AdamInIdeal.Val.algebraic⟩

end Cert.Proof

end
